-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_AttnS (m : (ℓ : Loc Cert.AttnS.nD Cert.AttnS.τ Cert.AttnS.sig) → Buf (Elt Bits) ℓ) : Prop :=
  True

def Pre_AttnSIdeal (m : (ℓ : Loc Cert.AttnSIdeal.nD Cert.AttnSIdeal.τ Cert.AttnSIdeal.sig) → Buf (Elt Ideal) ℓ) : Prop :=
  True

def Pre_AttnSIdeal_finite_s [hPre_finite_s : Cert.Pre_finite_s.Facts] (m : (ℓ : Loc Cert.AttnSIdeal.nD Cert.AttnSIdeal.τ Cert.AttnSIdeal.sig) → Buf (Elt Ideal) ℓ) : Prop :=
  ∀ c : Dev Cert.AttnSIdeal.nD,
    (Cert.Pre_finite_s.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5)) (m ((c.tc : Thread Cert.AttnSIdeal.nD Cert.AttnSIdeal.τ).loc Cert.AttnSIdeal.main_arg6)) (m ((c.tc : Thread Cert.AttnSIdeal.nD Cert.AttnSIdeal.τ).loc Cert.AttnSIdeal.main_arg7)) (m ((c.tc : Thread Cert.AttnSIdeal.nD Cert.AttnSIdeal.τ).loc Cert.AttnSIdeal.main_arg8)) (m ((c.tc : Thread Cert.AttnSIdeal.nD Cert.AttnSIdeal.τ).loc Cert.AttnSIdeal.main_arg9)) (m ((c.tc : Thread Cert.AttnSIdeal.nD Cert.AttnSIdeal.τ).loc Cert.AttnSIdeal.main_arg10))) = (fun _ => 1#1)

def Pre_AttnSRefIdeal (m : (ℓ : Loc Cert.AttnSRefIdeal.nD Cert.AttnSRefIdeal.τ Cert.AttnSRefIdeal.sig) → Buf (Elt Ideal) ℓ) : Prop :=
  True

def Pre_AttnSRefIdeal_finite_s [hPre_finite_s : Cert.Pre_finite_s.Facts] (m : (ℓ : Loc Cert.AttnSRefIdeal.nD Cert.AttnSRefIdeal.τ Cert.AttnSRefIdeal.sig) → Buf (Elt Ideal) ℓ) : Prop :=
  ∀ c : Dev Cert.AttnSRefIdeal.nD,
    (Cert.Pre_finite_s.fn (F := Ideal) (m ((c.tc : Thread Cert.AttnSRefIdeal.nD Cert.AttnSRefIdeal.τ).loc Cert.AttnSRefIdeal.main_arg0)) (m ((c.tc : Thread Cert.AttnSRefIdeal.nD Cert.AttnSRefIdeal.τ).loc Cert.AttnSRefIdeal.main_arg1)) (m ((c.tc : Thread Cert.AttnSRefIdeal.nD Cert.AttnSRefIdeal.τ).loc Cert.AttnSRefIdeal.main_arg2)) (m ((c.tc : Thread Cert.AttnSRefIdeal.nD Cert.AttnSRefIdeal.τ).loc Cert.AttnSRefIdeal.main_arg3)) (m ((c.tc : Thread Cert.AttnSRefIdeal.nD Cert.AttnSRefIdeal.τ).loc Cert.AttnSRefIdeal.main_arg4)) (m ((c.tc : Thread Cert.AttnSRefIdeal.nD Cert.AttnSRefIdeal.τ).loc Cert.AttnSRefIdeal.main_arg5)) (m ((c.tc : Thread Cert.AttnSRefIdeal.nD Cert.AttnSRefIdeal.τ).loc Cert.AttnSRefIdeal.main_arg6)) (m ((c.tc : Thread Cert.AttnSRefIdeal.nD Cert.AttnSRefIdeal.τ).loc Cert.AttnSRefIdeal.main_arg7)) (m ((c.tc : Thread Cert.AttnSRefIdeal.nD Cert.AttnSRefIdeal.τ).loc Cert.AttnSRefIdeal.main_arg8)) (m ((c.tc : Thread Cert.AttnSRefIdeal.nD Cert.AttnSRefIdeal.τ).loc Cert.AttnSRefIdeal.main_arg9)) (m ((c.tc : Thread Cert.AttnSRefIdeal.nD Cert.AttnSRefIdeal.τ).loc Cert.AttnSRefIdeal.main_arg10))) = (fun _ => 1#1)

def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_RglruRefIdeal (m : (ℓ : Loc Cert.RglruRefIdeal.nD Cert.RglruRefIdeal.τ Cert.RglruRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_AttnS [hAttnS : Cert.AttnS.Facts] : Prop :=
  ∀ (m : (ℓ : Loc Cert.AttnS.nD Cert.AttnS.τ Cert.AttnS.sig) → Buf (Elt Bits) ℓ) (g : Dev Cert.AttnS.nD → PrngReg), Pre_AttnS m →
    θ_run (Cert.AttnS.defs (F := Bits)) (onTc (τ := Cert.AttnS.τ) (Cert.AttnS.main (F := Bits))) ⟨m, fun _ => 0, g⟩ (fun r => (∀ c : Dev Cert.AttnS.nD,
      r.2.mem ((c.tc : Thread Cert.AttnS.nD Cert.AttnS.τ).loc Cert.AttnS.main_arg0) = m ((c.tc : Thread Cert.AttnS.nD Cert.AttnS.τ).loc Cert.AttnS.main_arg0)
      ∧ r.2.mem ((c.tc : Thread Cert.AttnS.nD Cert.AttnS.τ).loc Cert.AttnS.main_arg1) = m ((c.tc : Thread Cert.AttnS.nD Cert.AttnS.τ).loc Cert.AttnS.main_arg1)
      ∧ r.2.mem ((c.tc : Thread Cert.AttnS.nD Cert.AttnS.τ).loc Cert.AttnS.main_arg2) = m ((c.tc : Thread Cert.AttnS.nD Cert.AttnS.τ).loc Cert.AttnS.main_arg2)
      ∧ r.2.mem ((c.tc : Thread Cert.AttnS.nD Cert.AttnS.τ).loc Cert.AttnS.main_arg3) = m ((c.tc : Thread Cert.AttnS.nD Cert.AttnS.τ).loc Cert.AttnS.main_arg3)
      ∧ r.2.mem ((c.tc : Thread Cert.AttnS.nD Cert.AttnS.τ).loc Cert.AttnS.main_arg4) = m ((c.tc : Thread Cert.AttnS.nD Cert.AttnS.τ).loc Cert.AttnS.main_arg4)
      ∧ r.2.mem ((c.tc : Thread Cert.AttnS.nD Cert.AttnS.τ).loc Cert.AttnS.main_arg5) = m ((c.tc : Thread Cert.AttnS.nD Cert.AttnS.τ).loc Cert.AttnS.main_arg5)
      ∧ r.2.mem ((c.tc : Thread Cert.AttnS.nD Cert.AttnS.τ).loc Cert.AttnS.main_arg6) = m ((c.tc : Thread Cert.AttnS.nD Cert.AttnS.τ).loc Cert.AttnS.main_arg6)
      ∧ r.2.mem ((c.tc : Thread Cert.AttnS.nD Cert.AttnS.τ).loc Cert.AttnS.main_arg7) = m ((c.tc : Thread Cert.AttnS.nD Cert.AttnS.τ).loc Cert.AttnS.main_arg7)
      ∧ r.2.mem ((c.tc : Thread Cert.AttnS.nD Cert.AttnS.τ).loc Cert.AttnS.main_arg8) = m ((c.tc : Thread Cert.AttnS.nD Cert.AttnS.τ).loc Cert.AttnS.main_arg8)
      ∧ r.2.mem ((c.tc : Thread Cert.AttnS.nD Cert.AttnS.τ).loc Cert.AttnS.main_arg9) = m ((c.tc : Thread Cert.AttnS.nD Cert.AttnS.τ).loc Cert.AttnS.main_arg9)
      ∧ r.2.mem ((c.tc : Thread Cert.AttnS.nD Cert.AttnS.τ).loc Cert.AttnS.main_arg10) = m ((c.tc : Thread Cert.AttnS.nD Cert.AttnS.τ).loc Cert.AttnS.main_arg10))
      ∧ r.2.sem = fun _ => 0)

def quiescent_AttnSIdeal [hAttnSIdeal : Cert.AttnSIdeal.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
      ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5)
      ∧ r.2.mem ((c.tc : Thread Cert.AttnSIdeal.nD Cert.AttnSIdeal.τ).loc Cert.AttnSIdeal.main_arg6) = m ((c.tc : Thread Cert.AttnSIdeal.nD Cert.AttnSIdeal.τ).loc Cert.AttnSIdeal.main_arg6)
      ∧ r.2.mem ((c.tc : Thread Cert.AttnSIdeal.nD Cert.AttnSIdeal.τ).loc Cert.AttnSIdeal.main_arg7) = m ((c.tc : Thread Cert.AttnSIdeal.nD Cert.AttnSIdeal.τ).loc Cert.AttnSIdeal.main_arg7)
      ∧ r.2.mem ((c.tc : Thread Cert.AttnSIdeal.nD Cert.AttnSIdeal.τ).loc Cert.AttnSIdeal.main_arg8) = m ((c.tc : Thread Cert.AttnSIdeal.nD Cert.AttnSIdeal.τ).loc Cert.AttnSIdeal.main_arg8)
      ∧ r.2.mem ((c.tc : Thread Cert.AttnSIdeal.nD Cert.AttnSIdeal.τ).loc Cert.AttnSIdeal.main_arg9) = m ((c.tc : Thread Cert.AttnSIdeal.nD Cert.AttnSIdeal.τ).loc Cert.AttnSIdeal.main_arg9)
      ∧ r.2.mem ((c.tc : Thread Cert.AttnSIdeal.nD Cert.AttnSIdeal.τ).loc Cert.AttnSIdeal.main_arg10) = m ((c.tc : Thread Cert.AttnSIdeal.nD Cert.AttnSIdeal.τ).loc Cert.AttnSIdeal.main_arg10))
      ∧ r.2.sem = fun _ => 0)

def quiescent_AttnSIdeal_pre_finite_s [hAttnSIdeal : Cert.AttnSIdeal.Facts] [hPre_finite_s : Cert.Pre_finite_s.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal_finite_s m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
      ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5)
      ∧ r.2.mem ((c.tc : Thread Cert.AttnSIdeal.nD Cert.AttnSIdeal.τ).loc Cert.AttnSIdeal.main_arg6) = m ((c.tc : Thread Cert.AttnSIdeal.nD Cert.AttnSIdeal.τ).loc Cert.AttnSIdeal.main_arg6)
      ∧ r.2.mem ((c.tc : Thread Cert.AttnSIdeal.nD Cert.AttnSIdeal.τ).loc Cert.AttnSIdeal.main_arg7) = m ((c.tc : Thread Cert.AttnSIdeal.nD Cert.AttnSIdeal.τ).loc Cert.AttnSIdeal.main_arg7)
      ∧ r.2.mem ((c.tc : Thread Cert.AttnSIdeal.nD Cert.AttnSIdeal.τ).loc Cert.AttnSIdeal.main_arg8) = m ((c.tc : Thread Cert.AttnSIdeal.nD Cert.AttnSIdeal.τ).loc Cert.AttnSIdeal.main_arg8)
      ∧ r.2.mem ((c.tc : Thread Cert.AttnSIdeal.nD Cert.AttnSIdeal.τ).loc Cert.AttnSIdeal.main_arg9) = m ((c.tc : Thread Cert.AttnSIdeal.nD Cert.AttnSIdeal.τ).loc Cert.AttnSIdeal.main_arg9)
      ∧ r.2.mem ((c.tc : Thread Cert.AttnSIdeal.nD Cert.AttnSIdeal.τ).loc Cert.AttnSIdeal.main_arg10) = m ((c.tc : Thread Cert.AttnSIdeal.nD Cert.AttnSIdeal.τ).loc Cert.AttnSIdeal.main_arg10))
      ∧ r.2.sem = fun _ => 0)

def quiescent_AttnSRefIdeal [hAttnSRefIdeal : Cert.AttnSRefIdeal.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)
      ∧ r.2.mem ((c.tc : Thread Cert.AttnSRefIdeal.nD Cert.AttnSRefIdeal.τ).loc Cert.AttnSRefIdeal.main_arg3) = m ((c.tc : Thread Cert.AttnSRefIdeal.nD Cert.AttnSRefIdeal.τ).loc Cert.AttnSRefIdeal.main_arg3)
      ∧ r.2.mem ((c.tc : Thread Cert.AttnSRefIdeal.nD Cert.AttnSRefIdeal.τ).loc Cert.AttnSRefIdeal.main_arg4) = m ((c.tc : Thread Cert.AttnSRefIdeal.nD Cert.AttnSRefIdeal.τ).loc Cert.AttnSRefIdeal.main_arg4)
      ∧ r.2.mem ((c.tc : Thread Cert.AttnSRefIdeal.nD Cert.AttnSRefIdeal.τ).loc Cert.AttnSRefIdeal.main_arg5) = m ((c.tc : Thread Cert.AttnSRefIdeal.nD Cert.AttnSRefIdeal.τ).loc Cert.AttnSRefIdeal.main_arg5)
      ∧ r.2.mem ((c.tc : Thread Cert.AttnSRefIdeal.nD Cert.AttnSRefIdeal.τ).loc Cert.AttnSRefIdeal.main_arg6) = m ((c.tc : Thread Cert.AttnSRefIdeal.nD Cert.AttnSRefIdeal.τ).loc Cert.AttnSRefIdeal.main_arg6)
      ∧ r.2.mem ((c.tc : Thread Cert.AttnSRefIdeal.nD Cert.AttnSRefIdeal.τ).loc Cert.AttnSRefIdeal.main_arg7) = m ((c.tc : Thread Cert.AttnSRefIdeal.nD Cert.AttnSRefIdeal.τ).loc Cert.AttnSRefIdeal.main_arg7)
      ∧ r.2.mem ((c.tc : Thread Cert.AttnSRefIdeal.nD Cert.AttnSRefIdeal.τ).loc Cert.AttnSRefIdeal.main_arg8) = m ((c.tc : Thread Cert.AttnSRefIdeal.nD Cert.AttnSRefIdeal.τ).loc Cert.AttnSRefIdeal.main_arg8)
      ∧ r.2.mem ((c.tc : Thread Cert.AttnSRefIdeal.nD Cert.AttnSRefIdeal.τ).loc Cert.AttnSRefIdeal.main_arg9) = m ((c.tc : Thread Cert.AttnSRefIdeal.nD Cert.AttnSRefIdeal.τ).loc Cert.AttnSRefIdeal.main_arg9)
      ∧ r.2.mem ((c.tc : Thread Cert.AttnSRefIdeal.nD Cert.AttnSRefIdeal.τ).loc Cert.AttnSRefIdeal.main_arg10) = m ((c.tc : Thread Cert.AttnSRefIdeal.nD Cert.AttnSRefIdeal.τ).loc Cert.AttnSRefIdeal.main_arg10))
      ∧ r.2.sem = fun _ => 0)

def quiescent_AttnSRefIdeal_pre_finite_s [hAttnSRefIdeal : Cert.AttnSRefIdeal.Facts] [hPre_finite_s : Cert.Pre_finite_s.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal_finite_s m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)
      ∧ r.2.mem ((c.tc : Thread Cert.AttnSRefIdeal.nD Cert.AttnSRefIdeal.τ).loc Cert.AttnSRefIdeal.main_arg3) = m ((c.tc : Thread Cert.AttnSRefIdeal.nD Cert.AttnSRefIdeal.τ).loc Cert.AttnSRefIdeal.main_arg3)
      ∧ r.2.mem ((c.tc : Thread Cert.AttnSRefIdeal.nD Cert.AttnSRefIdeal.τ).loc Cert.AttnSRefIdeal.main_arg4) = m ((c.tc : Thread Cert.AttnSRefIdeal.nD Cert.AttnSRefIdeal.τ).loc Cert.AttnSRefIdeal.main_arg4)
      ∧ r.2.mem ((c.tc : Thread Cert.AttnSRefIdeal.nD Cert.AttnSRefIdeal.τ).loc Cert.AttnSRefIdeal.main_arg5) = m ((c.tc : Thread Cert.AttnSRefIdeal.nD Cert.AttnSRefIdeal.τ).loc Cert.AttnSRefIdeal.main_arg5)
      ∧ r.2.mem ((c.tc : Thread Cert.AttnSRefIdeal.nD Cert.AttnSRefIdeal.τ).loc Cert.AttnSRefIdeal.main_arg6) = m ((c.tc : Thread Cert.AttnSRefIdeal.nD Cert.AttnSRefIdeal.τ).loc Cert.AttnSRefIdeal.main_arg6)
      ∧ r.2.mem ((c.tc : Thread Cert.AttnSRefIdeal.nD Cert.AttnSRefIdeal.τ).loc Cert.AttnSRefIdeal.main_arg7) = m ((c.tc : Thread Cert.AttnSRefIdeal.nD Cert.AttnSRefIdeal.τ).loc Cert.AttnSRefIdeal.main_arg7)
      ∧ r.2.mem ((c.tc : Thread Cert.AttnSRefIdeal.nD Cert.AttnSRefIdeal.τ).loc Cert.AttnSRefIdeal.main_arg8) = m ((c.tc : Thread Cert.AttnSRefIdeal.nD Cert.AttnSRefIdeal.τ).loc Cert.AttnSRefIdeal.main_arg8)
      ∧ r.2.mem ((c.tc : Thread Cert.AttnSRefIdeal.nD Cert.AttnSRefIdeal.τ).loc Cert.AttnSRefIdeal.main_arg9) = m ((c.tc : Thread Cert.AttnSRefIdeal.nD Cert.AttnSRefIdeal.τ).loc Cert.AttnSRefIdeal.main_arg9)
      ∧ r.2.mem ((c.tc : Thread Cert.AttnSRefIdeal.nD Cert.AttnSRefIdeal.τ).loc Cert.AttnSRefIdeal.main_arg10) = m ((c.tc : Thread Cert.AttnSRefIdeal.nD Cert.AttnSRefIdeal.τ).loc Cert.AttnSRefIdeal.main_arg10))
      ∧ r.2.sem = fun _ => 0)

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7)
      ∧ r.2.mem ((c.tc : Thread Cert.Rglru.nD Cert.Rglru.τ).loc Cert.Rglru.main_arg8) = m ((c.tc : Thread Cert.Rglru.nD Cert.Rglru.τ).loc Cert.Rglru.main_arg8)
      ∧ r.2.mem ((c.tc : Thread Cert.Rglru.nD Cert.Rglru.τ).loc Cert.Rglru.main_arg9) = m ((c.tc : Thread Cert.Rglru.nD Cert.Rglru.τ).loc Cert.Rglru.main_arg9)
      ∧ r.2.mem ((c.tc : Thread Cert.Rglru.nD Cert.Rglru.τ).loc Cert.Rglru.main_arg10) = m ((c.tc : Thread Cert.Rglru.nD Cert.Rglru.τ).loc Cert.Rglru.main_arg10))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7)
      ∧ r.2.mem ((c.tc : Thread Cert.RglruIdeal.nD Cert.RglruIdeal.τ).loc Cert.RglruIdeal.main_arg8) = m ((c.tc : Thread Cert.RglruIdeal.nD Cert.RglruIdeal.τ).loc Cert.RglruIdeal.main_arg8)
      ∧ r.2.mem ((c.tc : Thread Cert.RglruIdeal.nD Cert.RglruIdeal.τ).loc Cert.RglruIdeal.main_arg9) = m ((c.tc : Thread Cert.RglruIdeal.nD Cert.RglruIdeal.τ).loc Cert.RglruIdeal.main_arg9)
      ∧ r.2.mem ((c.tc : Thread Cert.RglruIdeal.nD Cert.RglruIdeal.τ).loc Cert.RglruIdeal.main_arg10) = m ((c.tc : Thread Cert.RglruIdeal.nD Cert.RglruIdeal.τ).loc Cert.RglruIdeal.main_arg10))
      ∧ r.2.sem = fun _ => 0)

def quiescent_RglruRefIdeal [hRglruRefIdeal : Cert.RglruRefIdeal.Facts] : Prop :=
  ∀ (m : (ℓ : Loc Cert.RglruRefIdeal.nD Cert.RglruRefIdeal.τ Cert.RglruRefIdeal.sig) → Buf (Elt Ideal) ℓ) (g : Dev Cert.RglruRefIdeal.nD → PrngReg), Pre_RglruRefIdeal m →
    θ_run (Cert.RglruRefIdeal.defs (F := Ideal)) (onTc (τ := Cert.RglruRefIdeal.τ) (Cert.RglruRefIdeal.main (F := Ideal))) ⟨m, fun _ => 0, g⟩ (fun r => (∀ c : Dev Cert.RglruRefIdeal.nD,
      r.2.mem ((c.tc : Thread Cert.RglruRefIdeal.nD Cert.RglruRefIdeal.τ).loc Cert.RglruRefIdeal.main_arg0) = m ((c.tc : Thread Cert.RglruRefIdeal.nD Cert.RglruRefIdeal.τ).loc Cert.RglruRefIdeal.main_arg0)
      ∧ r.2.mem ((c.tc : Thread Cert.RglruRefIdeal.nD Cert.RglruRefIdeal.τ).loc Cert.RglruRefIdeal.main_arg1) = m ((c.tc : Thread Cert.RglruRefIdeal.nD Cert.RglruRefIdeal.τ).loc Cert.RglruRefIdeal.main_arg1)
      ∧ r.2.mem ((c.tc : Thread Cert.RglruRefIdeal.nD Cert.RglruRefIdeal.τ).loc Cert.RglruRefIdeal.main_arg2) = m ((c.tc : Thread Cert.RglruRefIdeal.nD Cert.RglruRefIdeal.τ).loc Cert.RglruRefIdeal.main_arg2)
      ∧ r.2.mem ((c.tc : Thread Cert.RglruRefIdeal.nD Cert.RglruRefIdeal.τ).loc Cert.RglruRefIdeal.main_arg3) = m ((c.tc : Thread Cert.RglruRefIdeal.nD Cert.RglruRefIdeal.τ).loc Cert.RglruRefIdeal.main_arg3)
      ∧ r.2.mem ((c.tc : Thread Cert.RglruRefIdeal.nD Cert.RglruRefIdeal.τ).loc Cert.RglruRefIdeal.main_arg4) = m ((c.tc : Thread Cert.RglruRefIdeal.nD Cert.RglruRefIdeal.τ).loc Cert.RglruRefIdeal.main_arg4)
      ∧ r.2.mem ((c.tc : Thread Cert.RglruRefIdeal.nD Cert.RglruRefIdeal.τ).loc Cert.RglruRefIdeal.main_arg5) = m ((c.tc : Thread Cert.RglruRefIdeal.nD Cert.RglruRefIdeal.τ).loc Cert.RglruRefIdeal.main_arg5)
      ∧ r.2.mem ((c.tc : Thread Cert.RglruRefIdeal.nD Cert.RglruRefIdeal.τ).loc Cert.RglruRefIdeal.main_arg6) = m ((c.tc : Thread Cert.RglruRefIdeal.nD Cert.RglruRefIdeal.τ).loc Cert.RglruRefIdeal.main_arg6)
      ∧ r.2.mem ((c.tc : Thread Cert.RglruRefIdeal.nD Cert.RglruRefIdeal.τ).loc Cert.RglruRefIdeal.main_arg7) = m ((c.tc : Thread Cert.RglruRefIdeal.nD Cert.RglruRefIdeal.τ).loc Cert.RglruRefIdeal.main_arg7)
      ∧ r.2.mem ((c.tc : Thread Cert.RglruRefIdeal.nD Cert.RglruRefIdeal.τ).loc Cert.RglruRefIdeal.main_arg8) = m ((c.tc : Thread Cert.RglruRefIdeal.nD Cert.RglruRefIdeal.τ).loc Cert.RglruRefIdeal.main_arg8)
      ∧ r.2.mem ((c.tc : Thread Cert.RglruRefIdeal.nD Cert.RglruRefIdeal.τ).loc Cert.RglruRefIdeal.main_arg9) = m ((c.tc : Thread Cert.RglruRefIdeal.nD Cert.RglruRefIdeal.τ).loc Cert.RglruRefIdeal.main_arg9)
      ∧ r.2.mem ((c.tc : Thread Cert.RglruRefIdeal.nD Cert.RglruRefIdeal.τ).loc Cert.RglruRefIdeal.main_arg10) = m ((c.tc : Thread Cert.RglruRefIdeal.nD Cert.RglruRefIdeal.τ).loc Cert.RglruRefIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v29)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v29) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)) →
    ∃ (v0 : (c : Dev Cert.MergeSIdeal.nD) → Buf (Elt Ideal) ((c.tc : Thread Cert.MergeSIdeal.nD Cert.MergeSIdeal.τ).loc Cert.MergeSIdeal.main_v29)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v29) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v32) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8))

def preserves_Inproj_InprojIdeal : Prop :=
  IdealRules.named_const.Statement Cert.InprojIdeal.κ "q_scale" .f32 0x3E38AA3B#32 (((8 * (Real.log 2))⁻¹ : ℝ) : EReal)

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v31_0)) (v1 : (c : Dev Cert.InprojIdeal.nD) → Buf (Elt Ideal) ((c.tc : Thread Cert.InprojIdeal.nD Cert.InprojIdeal.τ).loc Cert.InprojIdeal.main_v31_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v31_0) = v0 c
          ∧ r.2.mem ((c.tc : Thread Cert.InprojIdeal.nD Cert.InprojIdeal.τ).loc Cert.InprojIdeal.main_v31_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v116) = v0 c
          ∧ r.2.mem ((c.tc : Thread Cert.InprojRefIdeal.nD Cert.InprojRefIdeal.τ).loc Cert.InprojRefIdeal.main_v119) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_AttnS_AttnSIdeal : Prop :=
  True

def algebraic_AttnSIdeal_AttnSRefIdeal_pre_finite_s [hAttnSIdeal : Cert.AttnSIdeal.Facts] [hAttnSRefIdeal : Cert.AttnSRefIdeal.Facts] [hPre_finite_s : Cert.Pre_finite_s.Facts] : Prop :=
  ∀ (m : (ℓ : Loc Cert.AttnSIdeal.nD Cert.AttnSIdeal.τ Cert.AttnSIdeal.sig) → Buf (Elt Ideal) ℓ) (g : Dev Cert.AttnSIdeal.nD → PrngReg)
    (m' : (ℓ : Loc Cert.AttnSRefIdeal.nD Cert.AttnSRefIdeal.τ Cert.AttnSRefIdeal.sig) → Buf (Elt Ideal) ℓ) (g' : Dev Cert.AttnSRefIdeal.nD → PrngReg), Pre_AttnSIdeal_finite_s m →
    (∀ c : Dev Cert.AttnSIdeal.nD,
      m' ((c.tc : Thread Cert.AttnSRefIdeal.nD Cert.AttnSRefIdeal.τ).loc Cert.AttnSRefIdeal.main_arg0) = m ((c.tc : Thread Cert.AttnSIdeal.nD Cert.AttnSIdeal.τ).loc Cert.AttnSIdeal.main_arg0)
      ∧ m' ((c.tc : Thread Cert.AttnSRefIdeal.nD Cert.AttnSRefIdeal.τ).loc Cert.AttnSRefIdeal.main_arg1) = m ((c.tc : Thread Cert.AttnSIdeal.nD Cert.AttnSIdeal.τ).loc Cert.AttnSIdeal.main_arg1)
      ∧ m' ((c.tc : Thread Cert.AttnSRefIdeal.nD Cert.AttnSRefIdeal.τ).loc Cert.AttnSRefIdeal.main_arg2) = m ((c.tc : Thread Cert.AttnSIdeal.nD Cert.AttnSIdeal.τ).loc Cert.AttnSIdeal.main_arg2)
      ∧ m' ((c.tc : Thread Cert.AttnSRefIdeal.nD Cert.AttnSRefIdeal.τ).loc Cert.AttnSRefIdeal.main_arg3) = m ((c.tc : Thread Cert.AttnSIdeal.nD Cert.AttnSIdeal.τ).loc Cert.AttnSIdeal.main_arg3)
      ∧ m' ((c.tc : Thread Cert.AttnSRefIdeal.nD Cert.AttnSRefIdeal.τ).loc Cert.AttnSRefIdeal.main_arg4) = m ((c.tc : Thread Cert.AttnSIdeal.nD Cert.AttnSIdeal.τ).loc Cert.AttnSIdeal.main_arg4)
      ∧ m' ((c.tc : Thread Cert.AttnSRefIdeal.nD Cert.AttnSRefIdeal.τ).loc Cert.AttnSRefIdeal.main_arg5) = m ((c.tc : Thread Cert.AttnSIdeal.nD Cert.AttnSIdeal.τ).loc Cert.AttnSIdeal.main_arg5)
      ∧ m' ((c.tc : Thread Cert.AttnSRefIdeal.nD Cert.AttnSRefIdeal.τ).loc Cert.AttnSRefIdeal.main_arg6) = m ((c.tc : Thread Cert.AttnSIdeal.nD Cert.AttnSIdeal.τ).loc Cert.AttnSIdeal.main_arg6)
      ∧ m' ((c.tc : Thread Cert.AttnSRefIdeal.nD Cert.AttnSRefIdeal.τ).loc Cert.AttnSRefIdeal.main_arg7) = m ((c.tc : Thread Cert.AttnSIdeal.nD Cert.AttnSIdeal.τ).loc Cert.AttnSIdeal.main_arg7)
      ∧ m' ((c.tc : Thread Cert.AttnSRefIdeal.nD Cert.AttnSRefIdeal.τ).loc Cert.AttnSRefIdeal.main_arg8) = m ((c.tc : Thread Cert.AttnSIdeal.nD Cert.AttnSIdeal.τ).loc Cert.AttnSIdeal.main_arg8)
      ∧ m' ((c.tc : Thread Cert.AttnSRefIdeal.nD Cert.AttnSRefIdeal.τ).loc Cert.AttnSRefIdeal.main_arg9) = m ((c.tc : Thread Cert.AttnSIdeal.nD Cert.AttnSIdeal.τ).loc Cert.AttnSIdeal.main_arg9)
      ∧ m' ((c.tc : Thread Cert.AttnSRefIdeal.nD Cert.AttnSRefIdeal.τ).loc Cert.AttnSRefIdeal.main_arg10) = m ((c.tc : Thread Cert.AttnSIdeal.nD Cert.AttnSIdeal.τ).loc Cert.AttnSIdeal.main_arg10)) →
    ∃ (v0 : (c : Dev Cert.AttnSIdeal.nD) → Buf (Elt Ideal) ((c.tc : Thread Cert.AttnSIdeal.nD Cert.AttnSIdeal.τ).loc Cert.AttnSIdeal.main_v37)),
      θ_run (Cert.AttnSIdeal.defs (F := Ideal)) (onTc (τ := Cert.AttnSIdeal.τ) (Cert.AttnSIdeal.main (F := Ideal))) ⟨m, fun _ => 0, g⟩ (fun r => ∀ c : Dev Cert.AttnSIdeal.nD,
          r.2.mem ((c.tc : Thread Cert.AttnSIdeal.nD Cert.AttnSIdeal.τ).loc Cert.AttnSIdeal.main_v37) = v0 c
          ∧ r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
          ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
          ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
          ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
          ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
          ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5)
          ∧ r.2.mem ((c.tc : Thread Cert.AttnSIdeal.nD Cert.AttnSIdeal.τ).loc Cert.AttnSIdeal.main_arg6) = m ((c.tc : Thread Cert.AttnSIdeal.nD Cert.AttnSIdeal.τ).loc Cert.AttnSIdeal.main_arg6)
          ∧ r.2.mem ((c.tc : Thread Cert.AttnSIdeal.nD Cert.AttnSIdeal.τ).loc Cert.AttnSIdeal.main_arg7) = m ((c.tc : Thread Cert.AttnSIdeal.nD Cert.AttnSIdeal.τ).loc Cert.AttnSIdeal.main_arg7)
          ∧ r.2.mem ((c.tc : Thread Cert.AttnSIdeal.nD Cert.AttnSIdeal.τ).loc Cert.AttnSIdeal.main_arg8) = m ((c.tc : Thread Cert.AttnSIdeal.nD Cert.AttnSIdeal.τ).loc Cert.AttnSIdeal.main_arg8)
          ∧ r.2.mem ((c.tc : Thread Cert.AttnSIdeal.nD Cert.AttnSIdeal.τ).loc Cert.AttnSIdeal.main_arg9) = m ((c.tc : Thread Cert.AttnSIdeal.nD Cert.AttnSIdeal.τ).loc Cert.AttnSIdeal.main_arg9)
          ∧ r.2.mem ((c.tc : Thread Cert.AttnSIdeal.nD Cert.AttnSIdeal.τ).loc Cert.AttnSIdeal.main_arg10) = m ((c.tc : Thread Cert.AttnSIdeal.nD Cert.AttnSIdeal.τ).loc Cert.AttnSIdeal.main_arg10))
      ∧ θ_run (Cert.AttnSRefIdeal.defs (F := Ideal)) (onTc (τ := Cert.AttnSRefIdeal.τ) (Cert.AttnSRefIdeal.main (F := Ideal))) ⟨m', fun _ => 0, g'⟩ (fun r => ∀ c : Dev Cert.AttnSRefIdeal.nD,
          r.2.mem ((c.tc : Thread Cert.AttnSRefIdeal.nD Cert.AttnSRefIdeal.τ).loc Cert.AttnSRefIdeal.main_v56) = v0 c
          ∧ r.2.mem ((c.tc : Thread Cert.AttnSRefIdeal.nD Cert.AttnSRefIdeal.τ).loc Cert.AttnSRefIdeal.main_arg0) = m' ((c.tc : Thread Cert.AttnSRefIdeal.nD Cert.AttnSRefIdeal.τ).loc Cert.AttnSRefIdeal.main_arg0)
          ∧ r.2.mem ((c.tc : Thread Cert.AttnSRefIdeal.nD Cert.AttnSRefIdeal.τ).loc Cert.AttnSRefIdeal.main_arg1) = m' ((c.tc : Thread Cert.AttnSRefIdeal.nD Cert.AttnSRefIdeal.τ).loc Cert.AttnSRefIdeal.main_arg1)
          ∧ r.2.mem ((c.tc : Thread Cert.AttnSRefIdeal.nD Cert.AttnSRefIdeal.τ).loc Cert.AttnSRefIdeal.main_arg2) = m' ((c.tc : Thread Cert.AttnSRefIdeal.nD Cert.AttnSRefIdeal.τ).loc Cert.AttnSRefIdeal.main_arg2)
          ∧ r.2.mem ((c.tc : Thread Cert.AttnSRefIdeal.nD Cert.AttnSRefIdeal.τ).loc Cert.AttnSRefIdeal.main_arg3) = m' ((c.tc : Thread Cert.AttnSRefIdeal.nD Cert.AttnSRefIdeal.τ).loc Cert.AttnSRefIdeal.main_arg3)
          ∧ r.2.mem ((c.tc : Thread Cert.AttnSRefIdeal.nD Cert.AttnSRefIdeal.τ).loc Cert.AttnSRefIdeal.main_arg4) = m' ((c.tc : Thread Cert.AttnSRefIdeal.nD Cert.AttnSRefIdeal.τ).loc Cert.AttnSRefIdeal.main_arg4)
          ∧ r.2.mem ((c.tc : Thread Cert.AttnSRefIdeal.nD Cert.AttnSRefIdeal.τ).loc Cert.AttnSRefIdeal.main_arg5) = m' ((c.tc : Thread Cert.AttnSRefIdeal.nD Cert.AttnSRefIdeal.τ).loc Cert.AttnSRefIdeal.main_arg5)
          ∧ r.2.mem ((c.tc : Thread Cert.AttnSRefIdeal.nD Cert.AttnSRefIdeal.τ).loc Cert.AttnSRefIdeal.main_arg6) = m' ((c.tc : Thread Cert.AttnSRefIdeal.nD Cert.AttnSRefIdeal.τ).loc Cert.AttnSRefIdeal.main_arg6)
          ∧ r.2.mem ((c.tc : Thread Cert.AttnSRefIdeal.nD Cert.AttnSRefIdeal.τ).loc Cert.AttnSRefIdeal.main_arg7) = m' ((c.tc : Thread Cert.AttnSRefIdeal.nD Cert.AttnSRefIdeal.τ).loc Cert.AttnSRefIdeal.main_arg7)
          ∧ r.2.mem ((c.tc : Thread Cert.AttnSRefIdeal.nD Cert.AttnSRefIdeal.τ).loc Cert.AttnSRefIdeal.main_arg8) = m' ((c.tc : Thread Cert.AttnSRefIdeal.nD Cert.AttnSRefIdeal.τ).loc Cert.AttnSRefIdeal.main_arg8)
          ∧ r.2.mem ((c.tc : Thread Cert.AttnSRefIdeal.nD Cert.AttnSRefIdeal.τ).loc Cert.AttnSRefIdeal.main_arg9) = m' ((c.tc : Thread Cert.AttnSRefIdeal.nD Cert.AttnSRefIdeal.τ).loc Cert.AttnSRefIdeal.main_arg9)
          ∧ r.2.mem ((c.tc : Thread Cert.AttnSRefIdeal.nD Cert.AttnSRefIdeal.τ).loc Cert.AttnSRefIdeal.main_arg10) = m' ((c.tc : Thread Cert.AttnSRefIdeal.nD Cert.AttnSRefIdeal.τ).loc Cert.AttnSRefIdeal.main_arg10))

def preserves_Rglru_RglruIdeal : Prop :=
  True

def algebraic_RglruIdeal_RglruRefIdeal [hRglruIdeal : Cert.RglruIdeal.Facts] [hRglruRefIdeal : Cert.RglruRefIdeal.Facts] : Prop :=
  ∀ (m : (ℓ : Loc Cert.RglruIdeal.nD Cert.RglruIdeal.τ Cert.RglruIdeal.sig) → Buf (Elt Ideal) ℓ) (g : Dev Cert.RglruIdeal.nD → PrngReg)
    (m' : (ℓ : Loc Cert.RglruRefIdeal.nD Cert.RglruRefIdeal.τ Cert.RglruRefIdeal.sig) → Buf (Elt Ideal) ℓ) (g' : Dev Cert.RglruRefIdeal.nD → PrngReg), Pre_RglruIdeal m →
    (∀ c : Dev Cert.RglruIdeal.nD,
      m' ((c.tc : Thread Cert.RglruRefIdeal.nD Cert.RglruRefIdeal.τ).loc Cert.RglruRefIdeal.main_arg0) = m ((c.tc : Thread Cert.RglruIdeal.nD Cert.RglruIdeal.τ).loc Cert.RglruIdeal.main_arg0)
      ∧ m' ((c.tc : Thread Cert.RglruRefIdeal.nD Cert.RglruRefIdeal.τ).loc Cert.RglruRefIdeal.main_arg1) = m ((c.tc : Thread Cert.RglruIdeal.nD Cert.RglruIdeal.τ).loc Cert.RglruIdeal.main_arg1)
      ∧ m' ((c.tc : Thread Cert.RglruRefIdeal.nD Cert.RglruRefIdeal.τ).loc Cert.RglruRefIdeal.main_arg2) = m ((c.tc : Thread Cert.RglruIdeal.nD Cert.RglruIdeal.τ).loc Cert.RglruIdeal.main_arg2)
      ∧ m' ((c.tc : Thread Cert.RglruRefIdeal.nD Cert.RglruRefIdeal.τ).loc Cert.RglruRefIdeal.main_arg3) = m ((c.tc : Thread Cert.RglruIdeal.nD Cert.RglruIdeal.τ).loc Cert.RglruIdeal.main_arg3)
      ∧ m' ((c.tc : Thread Cert.RglruRefIdeal.nD Cert.RglruRefIdeal.τ).loc Cert.RglruRefIdeal.main_arg4) = m ((c.tc : Thread Cert.RglruIdeal.nD Cert.RglruIdeal.τ).loc Cert.RglruIdeal.main_arg4)
      ∧ m' ((c.tc : Thread Cert.RglruRefIdeal.nD Cert.RglruRefIdeal.τ).loc Cert.RglruRefIdeal.main_arg5) = m ((c.tc : Thread Cert.RglruIdeal.nD Cert.RglruIdeal.τ).loc Cert.RglruIdeal.main_arg5)
      ∧ m' ((c.tc : Thread Cert.RglruRefIdeal.nD Cert.RglruRefIdeal.τ).loc Cert.RglruRefIdeal.main_arg6) = m ((c.tc : Thread Cert.RglruIdeal.nD Cert.RglruIdeal.τ).loc Cert.RglruIdeal.main_arg6)
      ∧ m' ((c.tc : Thread Cert.RglruRefIdeal.nD Cert.RglruRefIdeal.τ).loc Cert.RglruRefIdeal.main_arg7) = m ((c.tc : Thread Cert.RglruIdeal.nD Cert.RglruIdeal.τ).loc Cert.RglruIdeal.main_arg7)
      ∧ m' ((c.tc : Thread Cert.RglruRefIdeal.nD Cert.RglruRefIdeal.τ).loc Cert.RglruRefIdeal.main_arg8) = m ((c.tc : Thread Cert.RglruIdeal.nD Cert.RglruIdeal.τ).loc Cert.RglruIdeal.main_arg8)
      ∧ m' ((c.tc : Thread Cert.RglruRefIdeal.nD Cert.RglruRefIdeal.τ).loc Cert.RglruRefIdeal.main_arg9) = m ((c.tc : Thread Cert.RglruIdeal.nD Cert.RglruIdeal.τ).loc Cert.RglruIdeal.main_arg9)
      ∧ m' ((c.tc : Thread Cert.RglruRefIdeal.nD Cert.RglruRefIdeal.τ).loc Cert.RglruRefIdeal.main_arg10) = m ((c.tc : Thread Cert.RglruIdeal.nD Cert.RglruIdeal.τ).loc Cert.RglruIdeal.main_arg10)) →
    ∃ (v0 : (c : Dev Cert.RglruIdeal.nD) → Buf (Elt Ideal) ((c.tc : Thread Cert.RglruIdeal.nD Cert.RglruIdeal.τ).loc Cert.RglruIdeal.main_v23)),
      θ_run (Cert.RglruIdeal.defs (F := Ideal)) (onTc (τ := Cert.RglruIdeal.τ) (Cert.RglruIdeal.main (F := Ideal))) ⟨m, fun _ => 0, g⟩ (fun r => ∀ c : Dev Cert.RglruIdeal.nD,
          r.2.mem ((c.tc : Thread Cert.RglruIdeal.nD Cert.RglruIdeal.τ).loc Cert.RglruIdeal.main_v23) = v0 c
          ∧ r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
          ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
          ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
          ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
          ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
          ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
          ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
          ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7)
          ∧ r.2.mem ((c.tc : Thread Cert.RglruIdeal.nD Cert.RglruIdeal.τ).loc Cert.RglruIdeal.main_arg8) = m ((c.tc : Thread Cert.RglruIdeal.nD Cert.RglruIdeal.τ).loc Cert.RglruIdeal.main_arg8)
          ∧ r.2.mem ((c.tc : Thread Cert.RglruIdeal.nD Cert.RglruIdeal.τ).loc Cert.RglruIdeal.main_arg9) = m ((c.tc : Thread Cert.RglruIdeal.nD Cert.RglruIdeal.τ).loc Cert.RglruIdeal.main_arg9)
          ∧ r.2.mem ((c.tc : Thread Cert.RglruIdeal.nD Cert.RglruIdeal.τ).loc Cert.RglruIdeal.main_arg10) = m ((c.tc : Thread Cert.RglruIdeal.nD Cert.RglruIdeal.τ).loc Cert.RglruIdeal.main_arg10))
      ∧ θ_run (Cert.RglruRefIdeal.defs (F := Ideal)) (onTc (τ := Cert.RglruRefIdeal.τ) (Cert.RglruRefIdeal.main (F := Ideal))) ⟨m', fun _ => 0, g'⟩ (fun r => ∀ c : Dev Cert.RglruRefIdeal.nD,
          r.2.mem ((c.tc : Thread Cert.RglruRefIdeal.nD Cert.RglruRefIdeal.τ).loc Cert.RglruRefIdeal.main_v1) = v0 c
          ∧ r.2.mem ((c.tc : Thread Cert.RglruRefIdeal.nD Cert.RglruRefIdeal.τ).loc Cert.RglruRefIdeal.main_arg0) = m' ((c.tc : Thread Cert.RglruRefIdeal.nD Cert.RglruRefIdeal.τ).loc Cert.RglruRefIdeal.main_arg0)
          ∧ r.2.mem ((c.tc : Thread Cert.RglruRefIdeal.nD Cert.RglruRefIdeal.τ).loc Cert.RglruRefIdeal.main_arg1) = m' ((c.tc : Thread Cert.RglruRefIdeal.nD Cert.RglruRefIdeal.τ).loc Cert.RglruRefIdeal.main_arg1)
          ∧ r.2.mem ((c.tc : Thread Cert.RglruRefIdeal.nD Cert.RglruRefIdeal.τ).loc Cert.RglruRefIdeal.main_arg2) = m' ((c.tc : Thread Cert.RglruRefIdeal.nD Cert.RglruRefIdeal.τ).loc Cert.RglruRefIdeal.main_arg2)
          ∧ r.2.mem ((c.tc : Thread Cert.RglruRefIdeal.nD Cert.RglruRefIdeal.τ).loc Cert.RglruRefIdeal.main_arg3) = m' ((c.tc : Thread Cert.RglruRefIdeal.nD Cert.RglruRefIdeal.τ).loc Cert.RglruRefIdeal.main_arg3)
          ∧ r.2.mem ((c.tc : Thread Cert.RglruRefIdeal.nD Cert.RglruRefIdeal.τ).loc Cert.RglruRefIdeal.main_arg4) = m' ((c.tc : Thread Cert.RglruRefIdeal.nD Cert.RglruRefIdeal.τ).loc Cert.RglruRefIdeal.main_arg4)
          ∧ r.2.mem ((c.tc : Thread Cert.RglruRefIdeal.nD Cert.RglruRefIdeal.τ).loc Cert.RglruRefIdeal.main_arg5) = m' ((c.tc : Thread Cert.RglruRefIdeal.nD Cert.RglruRefIdeal.τ).loc Cert.RglruRefIdeal.main_arg5)
          ∧ r.2.mem ((c.tc : Thread Cert.RglruRefIdeal.nD Cert.RglruRefIdeal.τ).loc Cert.RglruRefIdeal.main_arg6) = m' ((c.tc : Thread Cert.RglruRefIdeal.nD Cert.RglruRefIdeal.τ).loc Cert.RglruRefIdeal.main_arg6)
          ∧ r.2.mem ((c.tc : Thread Cert.RglruRefIdeal.nD Cert.RglruRefIdeal.τ).loc Cert.RglruRefIdeal.main_arg7) = m' ((c.tc : Thread Cert.RglruRefIdeal.nD Cert.RglruRefIdeal.τ).loc Cert.RglruRefIdeal.main_arg7)
          ∧ r.2.mem ((c.tc : Thread Cert.RglruRefIdeal.nD Cert.RglruRefIdeal.τ).loc Cert.RglruRefIdeal.main_arg8) = m' ((c.tc : Thread Cert.RglruRefIdeal.nD Cert.RglruRefIdeal.τ).loc Cert.RglruRefIdeal.main_arg8)
          ∧ r.2.mem ((c.tc : Thread Cert.RglruRefIdeal.nD Cert.RglruRefIdeal.τ).loc Cert.RglruRefIdeal.main_arg9) = m' ((c.tc : Thread Cert.RglruRefIdeal.nD Cert.RglruRefIdeal.τ).loc Cert.RglruRefIdeal.main_arg9)
          ∧ r.2.mem ((c.tc : Thread Cert.RglruRefIdeal.nD Cert.RglruRefIdeal.τ).loc Cert.RglruRefIdeal.main_arg10) = m' ((c.tc : Thread Cert.RglruRefIdeal.nD Cert.RglruRefIdeal.τ).loc Cert.RglruRefIdeal.main_arg10))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hMergeS : Cert.MergeS.Facts) (hMergeSIdeal : Cert.MergeSIdeal.Facts) (hMergeSRefIdeal : Cert.MergeSRefIdeal.Facts) (hInproj : Cert.Inproj.Facts) (hInprojIdeal : Cert.InprojIdeal.Facts) (hInprojRefIdeal : Cert.InprojRefIdeal.Facts) (hAttnS : Cert.AttnS.Facts) (hAttnSIdeal : Cert.AttnSIdeal.Facts) (hAttnSRefIdeal : Cert.AttnSRefIdeal.Facts) (hRglru : Cert.Rglru.Facts) (hRglruIdeal : Cert.RglruIdeal.Facts) (hRglruRefIdeal : Cert.RglruRefIdeal.Facts) (hPre_finite : Cert.Pre_finite.Facts) (hPre_finite_s : Cert.Pre_finite_s.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_Inproj (hInproj := hInproj)
    ∧ quiescent_InprojIdeal (hInprojIdeal := hInprojIdeal)
    ∧ quiescent_InprojRefIdeal (hInprojRefIdeal := hInprojRefIdeal)
    ∧ quiescent_AttnS (hAttnS := hAttnS)
    ∧ quiescent_AttnSIdeal (hAttnSIdeal := hAttnSIdeal)
    ∧ quiescent_AttnSIdeal_pre_finite_s (hAttnSIdeal := hAttnSIdeal) (hPre_finite_s := hPre_finite_s)
    ∧ quiescent_AttnSRefIdeal (hAttnSRefIdeal := hAttnSRefIdeal)
    ∧ quiescent_AttnSRefIdeal_pre_finite_s (hAttnSRefIdeal := hAttnSRefIdeal) (hPre_finite_s := hPre_finite_s)
    ∧ quiescent_Rglru (hRglru := hRglru)
    ∧ quiescent_RglruIdeal (hRglruIdeal := hRglruIdeal)
    ∧ quiescent_RglruRefIdeal (hRglruRefIdeal := hRglruRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeRefIdeal (hMergeIdeal := hMergeIdeal) (hMergeRefIdeal := hMergeRefIdeal)
    ∧ preserves_MergeS_MergeSIdeal
    ∧ algebraic_MergeSIdeal_MergeSRefIdeal (hMergeSIdeal := hMergeSIdeal) (hMergeSRefIdeal := hMergeSRefIdeal)
    ∧ preserves_Inproj_InprojIdeal
    ∧ algebraic_InprojIdeal_InprojRefIdeal (hInprojIdeal := hInprojIdeal) (hInprojRefIdeal := hInprojRefIdeal)
    ∧ preserves_AttnS_AttnSIdeal
    ∧ algebraic_AttnSIdeal_AttnSRefIdeal_pre_finite_s (hAttnSIdeal := hAttnSIdeal) (hAttnSRefIdeal := hAttnSRefIdeal) (hPre_finite_s := hPre_finite_s)
    ∧ preserves_Rglru_RglruIdeal
    ∧ algebraic_RglruIdeal_RglruRefIdeal (hRglruIdeal := hRglruIdeal) (hRglruRefIdeal := hRglruRefIdeal)
-- ==== Pre_finite.lean ====
abbrev S8x4096x8x2x64 : Shape := ⟨5, ![8, 4096, 8, 2, 64]⟩
abbrev S8x4096x8x128 : Shape := ⟨4, ![8, 4096, 8, 128]⟩
abbrev S16x8x2x64 : Shape := ⟨4, ![16, 8, 2, 64]⟩
abbrev S16x8x128 : Shape := ⟨3, ![16, 8, 128]⟩
abbrev S8x4096x1024 : Shape := ⟨3, ![8, 4096, 1024]⟩
abbrev S128 : Shape := ⟨1, ![128]⟩
abbrev S64 : Shape := ⟨1, ![64]⟩
abbrev S_ : Shape := ⟨0, ![]⟩

class Facts : Prop where
  bcast_S_S8x4096x8x2x64 : S_.BroadcastsInDim S8x4096x8x2x64 (![] : Fin 0 → Fin S8x4096x8x2x64.rank)
  reducesTo_S8x4096x8x2x64_S_d0_1_2_3_4 : S8x4096x8x2x64.ReducesTo [0, 1, 2, 3, 4] S_
  h_S_ : 0 < S_.numel
  bcast_S_S8x4096x8x128 : S_.BroadcastsInDim S8x4096x8x128 (![] : Fin 0 → Fin S8x4096x8x128.rank)
  reducesTo_S8x4096x8x128_S_d0_1_2_3 : S8x4096x8x128.ReducesTo [0, 1, 2, 3] S_
  bcast_S_S16x8x2x64 : S_.BroadcastsInDim S16x8x2x64 (![] : Fin 0 → Fin S16x8x2x64.rank)
  reducesTo_S16x8x2x64_S_d0_1_2_3 : S16x8x2x64.ReducesTo [0, 1, 2, 3] S_
  bcast_S_S16x8x128 : S_.BroadcastsInDim S16x8x128 (![] : Fin 0 → Fin S16x8x128.rank)
  reducesTo_S16x8x128_S_d0_1_2 : S16x8x128.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S16x8x128 .f32) (main_arg7 : FVec F S64 .f32) (main_arg8 : FVec F S64 .f32) (main_arg9 : FVec F S64 .f32) (main_arg10 : FVec F S64 .f32) (main_v13 : IVec S_ 1) (main_v16 : IVec S16x8x2x64 1) : IVec S_ 1 :=
  let main_c_5 : IVec S_ 1 := constantI S_ 1 1#1
  let main_v17 : IVec S_ 1 := (fun x v => Host.reduce IntOp.andi x v reducesTo_S16x8x2x64_S_d0_1_2_3 h_S_) main_v16 main_c_5
  let main_v18 : IVec S_ 1 := andi main_v13 main_v17
  let main_v19 : FVec F S16x8x128 .f32 := Host.absf main_arg4
  let main_cst_6 : FVec F S_ .f32 := constant S_ .f32 0x7F800000#32
  let main_v20 : FVec F S16x8x128 .f32 := broadcastInDim S16x8x128 ![] bcast_S_S16x8x128 main_cst_6
  let main_v21 : IVec S16x8x128 1 := cmpf .olt main_v19 main_v20
  let main_c_7 : IVec S_ 1 := constantI S_ 1 1#1
  let main_v22 : IVec S_ 1 := (fun x v => Host.reduce IntOp.andi x v reducesTo_S16x8x128_S_d0_1_2 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S8x4096x8x2x64 .f32) (main_arg1 : FVec F S8x4096x8x2x64 .f32) (main_arg2 : FVec F S8x4096x8x128 .f32) (main_arg3 : FVec F S16x8x2x64 .f32) (main_arg4 : FVec F S16x8x128 .f32) (main_arg5 : FVec F S8x4096x1024 .f32) (main_arg6 : FVec F S128 .f32) (main_arg7 : FVec F S64 .f32) (main_arg8 : FVec F S64 .f32) (main_arg9 : FVec F S64 .f32) (main_arg10 : FVec F S64 .f32) : IVec S_ 1 :=
  let main_v0 : FVec F S8x4096x8x2x64 .f32 := Host.absf main_arg0
  let main_cst : FVec F S_ .f32 := constant S_ .f32 0x7F800000#32
  let main_v1 : FVec F S8x4096x8x2x64 .f32 := broadcastInDim S8x4096x8x2x64 ![] bcast_S_S8x4096x8x2x64 main_cst
  let main_v2 : IVec S8x4096x8x2x64 1 := cmpf .olt main_v0 main_v1
  let main_c : IVec S_ 1 := constantI S_ 1 1#1
  let main_v3 : IVec S_ 1 := (fun x v => Host.reduce IntOp.andi x v reducesTo_S8x4096x8x2x64_S_d0_1_2_3_4 h_S_) main_v2 main_c
  let main_v4 : FVec F S8x4096x8x2x64 .f32 := Host.absf main_arg1
  let main_cst_0 : FVec F S_ .f32 := constant S_ .f32 0x7F800000#32
  let main_v5 : FVec F S8x4096x8x2x64 .f32 := broadcastInDim S8x4096x8x2x64 ![] bcast_S_S8x4096x8x2x64 main_cst_0
  let main_v6 : IVec S8x4096x8x2x64 1 := cmpf .olt main_v4 main_v5
  let main_c_1 : IVec S_ 1 := constantI S_ 1 1#1
  let main_v7 : IVec S_ 1 := (fun x v => Host.reduce IntOp.andi x v reducesTo_S8x4096x8x2x64_S_d0_1_2_3_4 h_S_) main_v6 main_c_1
  let main_v8 : IVec S_ 1 := andi main_v3 main_v7
  let main_v9 : FVec F S8x4096x8x128 .f32 := Host.absf main_arg2
  let main_cst_2 : FVec F S_ .f32 := constant S_ .f32 0x7F800000#32
  let main_v10 : FVec F S8x4096x8x128 .f32 := broadcastInDim S8x4096x8x128 ![] bcast_S_S8x4096x8x128 main_cst_2
  let main_v11 : IVec S8x4096x8x128 1 := cmpf .olt main_v9 main_v10
  let main_c_3 : IVec S_ 1 := constantI S_ 1 1#1
  let main_v12 : IVec S_ 1 := (fun x v => Host.reduce IntOp.andi x v reducesTo_S8x4096x8x128_S_d0_1_2_3 h_S_) main_v11 main_c_3
  let main_v13 : IVec S_ 1 := andi main_v8 main_v12
  let main_v14 : FVec F S16x8x2x64 .f32 := Host.absf main_arg3
  let main_cst_4 : FVec F S_ .f32 := constant S_ .f32 0x7F800000#32
  let main_v15 : FVec F S16x8x2x64 .f32 := broadcastInDim S16x8x2x64 ![] bcast_S_S16x8x2x64 main_cst_4
  let main_v16 : IVec S16x8x2x64 1 := cmpf .olt main_v14 main_v15
  fn_part1 (F := F) main_arg4 main_arg7 main_arg8 main_arg9 main_arg10 main_v13 main_v16
-- ==== Pre_finite_s.lean ====
abbrev S16x64x8x2x64 : Shape := ⟨5, ![16, 64, 8, 2, 64]⟩
abbrev S16x64x8x128 : Shape := ⟨4, ![16, 64, 8, 128]⟩
abbrev S4x16x2048x8x2x64 : Shape := ⟨6, ![4, 16, 2048, 8, 2, 64]⟩
abbrev S4x16x2048x8x128 : Shape := ⟨5, ![4, 16, 2048, 8, 128]⟩
abbrev S16x64x1024 : Shape := ⟨3, ![16, 64, 1024]⟩
abbrev S128 : Shape := ⟨1, ![128]⟩
abbrev S64 : Shape := ⟨1, ![64]⟩
abbrev S_ : Shape := ⟨0, ![]⟩
abbrev S1x16x2048x8x2x64 : Shape := ⟨6, ![1, 16, 2048, 8, 2, 64]⟩
abbrev S16x2048x8x2x64 : Shape := ⟨5, ![16, 2048, 8, 2, 64]⟩
abbrev S1x16x2048x8x128 : Shape := ⟨5, ![1, 16, 2048, 8, 128]⟩
abbrev S16x2048x8x128 : Shape := ⟨4, ![16, 2048, 8, 128]⟩

class Facts : Prop where
  bcast_S_S16x64x8x2x64 : S_.BroadcastsInDim S16x64x8x2x64 (![] : Fin 0 → Fin S16x64x8x2x64.rank)
  reducesTo_S16x64x8x2x64_S_d0_1_2_3_4 : S16x64x8x2x64.ReducesTo [0, 1, 2, 3, 4] S_
  h_S_ : 0 < S_.numel
  slices_S4x16x2048x8x2x64_S1x16x2048x8x2x64_0_0_0_0_0_0 : S4x16x2048x8x2x64.Slices ![0, 0, 0, 0, 0, 0] S1x16x2048x8x2x64
  shapeCasts_S1x16x2048x8x2x64_S16x2048x8x2x64 : S1x16x2048x8x2x64.ShapeCasts S16x2048x8x2x64
  slices_S4x16x2048x8x128_S1x16x2048x8x128_0_0_0_0_0 : S4x16x2048x8x128.Slices ![0, 0, 0, 0, 0] S1x16x2048x8x128
  shapeCasts_S1x16x2048x8x128_S16x2048x8x128 : S1x16x2048x8x128.ShapeCasts S16x2048x8x128
  bcast_S_S16x64x8x128 : S_.BroadcastsInDim S16x64x8x128 (![] : Fin 0 → Fin S16x64x8x128.rank)
  reducesTo_S16x64x8x128_S_d0_1_2_3 : S16x64x8x128.ReducesTo [0, 1, 2, 3] S_
  bcast_S_S16x2048x8x2x64 : S_.BroadcastsInDim S16x2048x8x2x64 (![] : Fin 0 → Fin S16x2048x8x2x64.rank)
  reducesTo_S16x2048x8x2x64_S_d0_1_2_3_4 : S16x2048x8x2x64.ReducesTo [0, 1, 2, 3, 4] S_
  bcast_S_S16x2048x8x128 : S_.BroadcastsInDim S16x2048x8x128 (![] : Fin 0 → Fin S16x2048x8x128.rank)
  reducesTo_S16x2048x8x128_S_d0_1_2_3 : S16x2048x8x128.ReducesTo [0, 1, 2, 3] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64 .f32) (main_v32 : IVec S_ 1) (main_v33 : FVec F S64 .f32) (main_v34 : FVec F S64 .f32) : IVec S_ 1 :=
  let main_v35 : IVec S64 1 := cmpf .olt main_v33 main_v34
  let main_c_11 : IVec S_ 1 := constantI S_ 1 1#1
  let main_v36 : IVec S_ 1 := (fun x v => Host.reduce IntOp.andi x v reducesTo_S64_S_d0 h_S_) main_v35 main_c_11
  let main_v37 : IVec S_ 1 := andi main_v32 main_v36
  let main_v38 : FVec F S64 .f32 := Host.absf main_arg9
  let main_cst_12 : FVec F S_ .f32 := constant S_ .f32 0x7F800000#32
  let main_v39 : FVec F S64 .f32 := broadcastInDim S64 ![] bcast_S_S64 main_cst_12
  let main_v40 : IVec S64 1 := cmpf .olt main_v38 main_v39
  let main_c_13 : IVec S_ 1 := constantI S_ 1 1#1
  let main_v41 : IVec S_ 1 := (fun x v => Host.reduce IntOp.andi x v reducesTo_S64_S_d0 h_S_) main_v40 main_c_13
  let main_v42 : IVec S_ 1 := andi main_v37 main_v41
  let main_v43 : FVec F S64 .f32 := Host.absf main_arg10
  let main_cst_14 : FVec F S_ .f32 := constant S_ .f32 0x7F800000#32
  let main_v44 : FVec F S64 .f32 := broadcastInDim S64 ![] bcast_S_S64 main_cst_14
  let main_v45 : IVec S64 1 := cmpf .olt main_v43 main_v44
  let main_c_15 : IVec S_ 1 := constantI S_ 1 1#1
  let main_v46 : IVec S_ 1 := (fun x v => Host.reduce IntOp.andi x v reducesTo_S64_S_d0 h_S_) main_v45 main_c_15
  let main_v47 : IVec S_ 1 := andi main_v42 main_v46
  main_v47

def fn_part1 {F : FTy → Type} [FloatOps F] (main_arg7 : FVec F S64 .f32) (main_arg8 : FVec F S64 .f32) (main_arg9 : FVec F S64 .f32) (main_arg10 : FVec F S64 .f32) (main_v5 : FVec F S16x2048x8x2x64 .f32) (main_v7 : FVec F S16x2048x8x128 .f32) (main_v17 : IVec S_ 1) : IVec S_ 1 :=
  let main_v18 : FVec F S16x2048x8x2x64 .f32 := Host.absf main_v5
  let main_cst_4 : FVec F S_ .f32 := constant S_ .f32 0x7F800000#32
  let main_v19 : FVec F S16x2048x8x2x64 .f32 := broadcastInDim S16x2048x8x2x64 ![] bcast_S_S16x2048x8x2x64 main_cst_4
  let main_v20 : IVec S16x2048x8x2x64 1 := cmpf .olt main_v18 main_v19
  let main_c_5 : IVec S_ 1 := constantI S_ 1 1#1
  let main_v21 : IVec S_ 1 := (fun x v => Host.reduce IntOp.andi x v reducesTo_S16x2048x8x2x64_S_d0_1_2_3_4 h_S_) main_v20 main_c_5
  let main_v22 : IVec S_ 1 := andi main_v17 main_v21
  let main_v23 : FVec F S16x2048x8x128 .f32 := Host.absf main_v7
  let main_cst_6 : FVec F S_ .f32 := constant S_ .f32 0x7F800000#32
  let main_v24 : FVec F S16x2048x8x128 .f32 := broadcastInDim S16x2048x8x128 ![] bcast_S_S16x2048x8x128 main_cst_6
  let main_v25 : IVec S16x2048x8x128 1 := cmpf .olt main_v23 main_v24
  let main_c_7 : IVec S_ 1 := constantI S_ 1 1#1
  let main_v26 : IVec S_ 1 := (fun x v => Host.reduce IntOp.andi x v reducesTo_S16x2048x8x128_S_d0_1_2_3 h_S_) main_v25 main_c_7
  let main_v27 : IVec S_ 1 := andi main_v22 main_v26
  let main_v28 : FVec F S64 .f32 := Host.absf main_arg7
  let main_cst_8 : FVec F S_ .f32 := constant S_ .f32 0x7F800000#32
  let main_v29 : FVec F S64 .f32 := broadcastInDim S64 ![] bcast_S_S64 main_cst_8
  let main_v30 : IVec S64 1 := cmpf .olt main_v28 main_v29
  let main_c_9 : IVec S_ 1 := constantI S_ 1 1#1
  let main_v31 : IVec S_ 1 := (fun x v => Host.reduce IntOp.andi x v reducesTo_S64_S_d0 h_S_) main_v30 main_c_9
  let main_v32 : IVec S_ 1 := andi main_v27 main_v31
  let main_v33 : FVec F S64 .f32 := Host.absf main_arg8
  let main_cst_10 : FVec F S_ .f32 := constant S_ .f32 0x7F800000#32
  let main_v34 : FVec F S64 .f32 := broadcastInDim S64 ![] bcast_S_S64 main_cst_10
  fn_part2 (F := F) main_arg9 main_arg10 main_v32 main_v33 main_v34

def fn {F : FTy → Type} [FloatOps F] (main_arg0 : FVec F S16x64x8x2x64 .f32) (main_arg1 : FVec F S16x64x8x2x64 .f32) (main_arg2 : FVec F S16x64x8x128 .f32) (main_arg3 : FVec F S4x16x2048x8x2x64 .f32) (main_arg4 : FVec F S4x16x2048x8x128 .f32) (main_arg5 : FVec F S16x64x1024 .f32) (main_arg6 : FVec F S128 .f32) (main_arg7 : FVec F S64 .f32) (main_arg8 : FVec F S64 .f32) (main_arg9 : FVec F S64 .f32) (main_arg10 : FVec F S64 .f32) : IVec S_ 1 :=
  let main_v0 : FVec F S16x64x8x2x64 .f32 := Host.absf main_arg0
  let main_cst : FVec F S_ .f32 := constant S_ .f32 0x7F800000#32
  let main_v1 : FVec F S16x64x8x2x64 .f32 := broadcastInDim S16x64x8x2x64 ![] bcast_S_S16x64x8x2x64 main_cst
  let main_v2 : IVec S16x64x8x2x64 1 := cmpf .olt main_v0 main_v1
  let main_c : IVec S_ 1 := constantI S_ 1 1#1
  let main_v3 : IVec S_ 1 := (fun x v => Host.reduce IntOp.andi x v reducesTo_S16x64x8x2x64_S_d0_1_2_3_4 h_S_) main_v2 main_c
  let main_v4 : FVec F S1x16x2048x8x2x64 .f32 := (extractStridedSlice S1x16x2048x8x2x64 ![0, 0, 0, 0, 0, 0] · slices_S4x16x2048x8x2x64_S1x16x2048x8x2x64_0_0_0_0_0_0) main_arg3
  let main_v5 : FVec F S16x2048x8x2x64 .f32 := shapeCast S16x2048x8x2x64 main_v4 shapeCasts_S1x16x2048x8x2x64_S16x2048x8x2x64
  let main_v6 : FVec F S1x16x2048x8x128 .f32 := (extractStridedSlice S1x16x2048x8x128 ![0, 0, 0, 0, 0] · slices_S4x16x2048x8x128_S1x16x2048x8x128_0_0_0_0_0) main_arg4
  let main_v7 : FVec F S16x2048x8x128 .f32 := shapeCast S16x2048x8x128 main_v6 shapeCasts_S1x16x2048x8x128_S16x2048x8x128
  let main_v8 : FVec F S16x64x8x2x64 .f32 := Host.absf main_arg1
  let main_cst_0 : FVec F S_ .f32 := constant S_ .f32 0x7F800000#32
  let main_v9 : FVec F S16x64x8x2x64 .f32 := broadcastInDim S16x64x8x2x64 ![] bcast_S_S16x64x8x2x64 main_cst_0
  let main_v10 : IVec S16x64x8x2x64 1 := cmpf .olt main_v8 main_v9
  let main_c_1 : IVec S_ 1 := constantI S_ 1 1#1
  let main_v11 : IVec S_ 1 := (fun x v => Host.reduce IntOp.andi x v reducesTo_S16x64x8x2x64_S_d0_1_2_3_4 h_S_) main_v10 main_c_1
  let main_v12 : IVec S_ 1 := andi main_v3 main_v11
  let main_v13 : FVec F S16x64x8x128 .f32 := Host.absf main_arg2
  let main_cst_2 : FVec F S_ .f32 := constant S_ .f32 0x7F800000#32
  let main_v14 : FVec F S16x64x8x128 .f32 := broadcastInDim S16x64x8x128 ![] bcast_S_S16x64x8x128 main_cst_2
  let main_v15 : IVec S16x64x8x128 1 := cmpf .olt main_v13 main_v14
  let main_c_3 : IVec S_ 1 := constantI S_ 1 1#1
  let main_v16 : IVec S_ 1 := (fun x v => Host.reduce IntOp.andi x v reducesTo_S16x64x8x128_S_d0_1_2_3 h_S_) main_v15 main_c_3
  let main_v17 : IVec S_ 1 := andi main_v12 main_v16
  fn_part1 (F := F) main_arg7 main_arg8 main_arg9 main_arg10 main_v5 main_v7 main_v17
-- ==== Kernel.lean ====
abbrev S8x4096x8x2x64 : Shape := ⟨5, ![8, 4096, 8, 2, 64]⟩
abbrev S8x4096x8x128 : Shape := ⟨4, ![8, 4096, 8, 128]⟩
abbrev S16x8x2x64 : Shape := ⟨4, ![16, 8, 2, 64]⟩
abbrev S16x8x128 : Shape := ⟨3, ![16, 8, 128]⟩
abbrev S8x4096x1024 : Shape := ⟨3, ![8, 4096, 1024]⟩
abbrev S128 : Shape := ⟨1, ![128]⟩
abbrev S64 : Shape := ⟨1, ![64]⟩
abbrev S32768x1024 : Shape := ⟨2, ![32768, 1024]⟩
abbrev S_ : Shape := ⟨0, ![]⟩
abbrev S32768x2048 : Shape := ⟨2, ![32768, 2048]⟩
abbrev S32768x8192 : Shape := ⟨2, ![32768, 8192]⟩
abbrev S64x512x1024 : Shape := ⟨3, ![64, 512, 1024]⟩
abbrev S64x1024x512 : Shape := ⟨3, ![64, 1024, 512]⟩
abbrev S16x1024 : Shape := ⟨2, ![16, 1024]⟩
abbrev S128x1024 : Shape := ⟨2, ![128, 1024]⟩
abbrev S1024x128 : Shape := ⟨2, ![1024, 128]⟩
abbrev S128x1 : Shape := ⟨2, ![128, 1]⟩
abbrev S1x64 : Shape := ⟨2, ![1, 64]⟩
abbrev S512x1024 : Shape := ⟨2, ![512, 1024]⟩
abbrev S1 : Shape := ⟨1, ![1]⟩
abbrev S4096x128 : Shape := ⟨2, ![4096, 128]⟩
abbrev S8x128x512 : Shape := ⟨3, ![8, 128, 512]⟩
abbrev S128x128 : Shape := ⟨2, ![128, 128]⟩
abbrev S8x128x1024 : Shape := ⟨3, ![8, 128, 1024]⟩
abbrev S1x1024 : Shape := ⟨2, ![1, 1024]⟩
abbrev S8x1x1024 : Shape := ⟨3, ![8, 1, 1024]⟩
abbrev S8x144x1024 : Shape := ⟨3, ![8, 144, 1024]⟩
abbrev S512x128 : Shape := ⟨2, ![512, 128]⟩
abbrev S128x512 : Shape := ⟨2, ![128, 512]⟩
abbrev S1x128x1024 : Shape := ⟨3, ![1, 128, 1024]⟩
abbrev S1x1 : Shape := ⟨2, ![1, 1]⟩
abbrev S1024 : Shape := ⟨1, ![1024]⟩
abbrev S1x1x1024 : Shape := ⟨3, ![1, 1, 1024]⟩
abbrev S1x128x512 : Shape := ⟨3, ![1, 128, 512]⟩
abbrev S16x512 : Shape := ⟨2, ![16, 512]⟩
abbrev S144x512 : Shape := ⟨2, ![144, 512]⟩
abbrev S144x1024 : Shape := ⟨2, ![144, 1024]⟩
abbrev S16x128 : Shape := ⟨2, ![16, 128]⟩
abbrev S144x128 : Shape := ⟨2, ![144, 128]⟩
abbrev S1x144x1024 : Shape := ⟨3, ![1, 144, 1024]⟩
abbrev S512 : Shape := ⟨1, ![512]⟩
abbrev S1x512 : Shape := ⟨2, ![1, 512]⟩

abbrev nBuf : Space → Nat
  | .hbm => 80
  | .vmem => 32
  | .smem => 1
  | _ => 0

abbrev bufTy : (tb : Table) → Fin (tcTables nBuf tb) → BufTy
  | .hbm, ⟨0, _⟩ => ⟨S8x4096x8x2x64, .f32⟩
  | .hbm, ⟨1, _⟩ => ⟨S8x4096x8x2x64, .f32⟩
  | .hbm, ⟨2, _⟩ => ⟨S8x4096x8x128, .f32⟩
  | .hbm, ⟨3, _⟩ => ⟨S16x8x2x64, .f32⟩
  | .hbm, ⟨4, _⟩ => ⟨S16x8x128, .f32⟩
  | .hbm, ⟨5, _⟩ => ⟨S8x4096x1024, .f32⟩
  | .hbm, ⟨6, _⟩ => ⟨S128, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .bf16⟩
  | .hbm, ⟨20, _⟩ => ⟨S32768x1024, .f32⟩
  | .hbm, ⟨21, _⟩ => ⟨S32768x1024, .bf16⟩
  | .hbm, ⟨22, _⟩ => ⟨S32768x1024, .f32⟩
  | .hbm, ⟨23, _⟩ => ⟨S32768x1024, .bf16⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .bf16⟩
  | .hbm, ⟨38, _⟩ => ⟨S_, .bf16⟩
  | .hbm, ⟨39, _⟩ => ⟨S32768x2048, .bf16⟩
  | .hbm, ⟨40, _⟩ => ⟨S32768x8192, .bf16⟩
  | .hbm, ⟨41, _⟩ => ⟨S64x512x1024, .bf16⟩
  | .hbm, ⟨42, _⟩ => ⟨S64x1024x512, .bf16⟩
  | .hbm, ⟨43, _⟩ => ⟨S16x1024, .f32⟩
  | .hbm, ⟨44, _⟩ => ⟨S16x1024, .bf16⟩
  | .hbm, ⟨45, _⟩ => ⟨S_, .i32⟩
  | .hbm, ⟨46, _⟩ => ⟨S_, .bf16⟩
  | .hbm, ⟨47, _⟩ => ⟨S128x1024, .bf16⟩
  | .hbm, ⟨48, _⟩ => ⟨S16x1024, .f32⟩
  | .hbm, ⟨49, _⟩ => ⟨S16x1024, .bf16⟩
  | .hbm, ⟨50, _⟩ => ⟨S_, .i32⟩
  | .hbm, ⟨51, _⟩ => ⟨S_, .bf16⟩
  | .hbm, ⟨52, _⟩ => ⟨S128x1024, .bf16⟩
  | .hbm, ⟨53, _⟩ => ⟨S1024x128, .bf16⟩
  | .hbm, ⟨54, _⟩ => ⟨S128x1, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S512x1024, .i32⟩
  | .hbm, ⟨60, _⟩ => ⟨S_, .i32⟩
  | .hbm, ⟨61, _⟩ => ⟨S512x1024, .i32⟩
  | .hbm, ⟨62, _⟩ => ⟨S512x1024, .i32⟩
  | .hbm, ⟨63, _⟩ => ⟨S512x1024, .i32⟩
  | .hbm, ⟨64, _⟩ => ⟨S_, .i32⟩
  | .hbm, ⟨65, _⟩ => ⟨S512x1024, .i32⟩
  | .hbm, ⟨66, _⟩ => ⟨S512x1024, .i32⟩
  | .hbm, ⟨67, _⟩ => ⟨S_, .i32⟩
  | .hbm, ⟨68, _⟩ => ⟨S512x1024, .i32⟩
  | .hbm, ⟨69, _⟩ => ⟨S512x1024, .i32⟩
  | .hbm, ⟨70, _⟩ => ⟨S512x1024, .i1⟩
  | .hbm, ⟨71, _⟩ => ⟨S_, .f32⟩
  | .hbm, ⟨72, _⟩ => ⟨S_, .f32⟩
  | .hbm, ⟨73, _⟩ => ⟨S512x1024, .f32⟩
  | .hbm, ⟨74, _⟩ => ⟨S512x1024, .f32⟩
  | .hbm, ⟨75, _⟩ => ⟨S512x1024, .f32⟩
  | .hbm, ⟨76, _⟩ => ⟨S512x1024, .f32⟩
  | .hbm, ⟨77, _⟩ => ⟨S_, .i32⟩
  | .hbm, ⟨78, _⟩ => ⟨S1, .i32⟩
  | .hbm, ⟨79, _⟩ => ⟨S32768x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S8x128x512, .bf16⟩
  | .local _ .vmem, ⟨5, _⟩ => ⟨S8x128x512, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S512x1024, .f32⟩
  | .local _ .vmem, ⟨11, _⟩ => ⟨S4096x128, .bf16⟩
  | .local _ .vmem, ⟨12, _⟩ => ⟨S4096x128, .bf16⟩
  | .local _ .vmem, ⟨13, _⟩ => ⟨S128x1, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S4096x128, .bf16⟩
  | .local _ .vmem, ⟨19, _⟩ => ⟨S4096x128, .bf16⟩
  | .local _ .vmem, ⟨20, _⟩ => ⟨S8x128x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S128x1024, .bf16⟩
  | .local _ .vmem, ⟨30, _⟩ => ⟨S8x1x1024, .f32⟩
  | .local _ .vmem, ⟨31, _⟩ => ⟨S8x144x1024, .f32⟩
  | .local _ .smem, ⟨0, _⟩ => ⟨S1, .i32⟩
  | _, _ => ⟨S8x4096x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_call1_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_cst_10 : Ref sig .tc := ⟨.hbm, 72, rfl⟩
abbrev main_call2_v0 : Ref sig .tc := ⟨.hbm, 73, rfl⟩
abbrev main_call2_v1 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_stg12_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .smem S1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S4096x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x4096x8x2x64 : Shape := ⟨5, ![8, 4096, 8, 2, 64]⟩
abbrev S8x4096x8x128 : Shape := ⟨4, ![8, 4096, 8, 128]⟩
abbrev S16x8x2x64 : Shape := ⟨4, ![16, 8, 2, 64]⟩
abbrev S16x8x128 : Shape := ⟨3, ![16, 8, 128]⟩
abbrev S8x4096x1024 : Shape := ⟨3, ![8, 4096, 1024]⟩
abbrev S128 : Shape := ⟨1, ![128]⟩
abbrev S64 : Shape := ⟨1, ![64]⟩
abbrev S_ : Shape := ⟨0, ![]⟩
abbrev S8x16x8x2x64 : Shape := ⟨5, ![8, 16, 8, 2, 64]⟩
abbrev S8x4112x8x2x64 : Shape := ⟨5, ![8, 4112, 8, 2, 64]⟩
abbrev S8x16x8x128 : Shape := ⟨4, ![8, 16, 8, 128]⟩
abbrev S8x4112x8x128 : Shape := ⟨4, ![8, 4112, 8, 128]⟩
abbrev S4112 : Shape := ⟨1, ![4112]⟩
abbrev S1x4112 : Shape := ⟨2, ![1, 4112]⟩
abbrev S4096 : Shape := ⟨1, ![4096]⟩
abbrev S4096x1 : Shape := ⟨2, ![4096, 1]⟩
abbrev S4096x4112 : Shape := ⟨2, ![4096, 4112]⟩
abbrev S8x8x2x4096x4112 : Shape := ⟨5, ![8, 8, 2, 4096, 4112]⟩
abbrev S8x8x2x4096 : Shape := ⟨4, ![8, 8, 2, 4096]⟩
abbrev S8x8x2x4096x1 : Shape := ⟨5, ![8, 8, 2, 4096, 1]⟩
abbrev S8x8x1x4096x4112 : Shape := ⟨5, ![8, 8, 1, 4096, 4112]⟩
abbrev S8x8x4096x4112 : Shape := ⟨4, ![8, 8, 4096, 4112]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S32768x1024 : Shape := ⟨2, ![32768, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8x4096x8x2x64, .f32⟩
  | .hbm, ⟨1, _⟩ => ⟨S8x4096x8x2x64, .f32⟩
  | .hbm, ⟨2, _⟩ => ⟨S8x4096x8x128, .f32⟩
  | .hbm, ⟨3, _⟩ => ⟨S16x8x2x64, .f32⟩
  | .hbm, ⟨4, _⟩ => ⟨S16x8x128, .f32⟩
  | .hbm, ⟨5, _⟩ => ⟨S8x4096x1024, .f32⟩
  | .hbm, ⟨6, _⟩ => ⟨S128, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x16x8x2x64, .f32⟩
  | .hbm, ⟨23, _⟩ => ⟨S8x4112x8x2x64, .f32⟩
  | .hbm, ⟨24, _⟩ => ⟨S8x16x8x128, .f32⟩
  | .hbm, ⟨25, _⟩ => ⟨S8x4112x8x128, .f32⟩
  | .hbm, ⟨26, _⟩ => ⟨S4112, .i32⟩
  | .hbm, ⟨27, _⟩ => ⟨S_, .i32⟩
  | .hbm, ⟨28, _⟩ => ⟨S4112, .i32⟩
  | .hbm, ⟨29, _⟩ => ⟨S4112, .i1⟩
  | .hbm, ⟨30, _⟩ => ⟨S_, .i32⟩
  | .hbm, ⟨31, _⟩ => ⟨S4112, .i32⟩
  | .hbm, ⟨32, _⟩ => ⟨S4112, .i32⟩
  | .hbm, ⟨33, _⟩ => ⟨S_, .i32⟩
  | .hbm, ⟨34, _⟩ => ⟨S_, .i32⟩
  | .hbm, ⟨35, _⟩ => ⟨S4112, .i32⟩
  | .hbm, ⟨36, _⟩ => ⟨S4112, .i32⟩
  | .hbm, ⟨37, _⟩ => ⟨S4112, .i32⟩
  | .hbm, ⟨38, _⟩ => ⟨S_, .i32⟩
  | .hbm, ⟨39, _⟩ => ⟨S4112, .i32⟩
  | .hbm, ⟨40, _⟩ => ⟨S4112, .i1⟩
  | .hbm, ⟨41, _⟩ => ⟨S4112, .i32⟩
  | .hbm, ⟨42, _⟩ => ⟨S4112, .i32⟩
  | .hbm, ⟨43, _⟩ => ⟨S_, .i32⟩
  | .hbm, ⟨44, _⟩ => ⟨S4112, .i32⟩
  | .hbm, ⟨45, _⟩ => ⟨S4112, .i1⟩
  | .hbm, ⟨46, _⟩ => ⟨S4112, .i1⟩
  | .hbm, ⟨47, _⟩ => ⟨S_, .i32⟩
  | .hbm, ⟨48, _⟩ => ⟨S4112, .i32⟩
  | .hbm, ⟨49, _⟩ => ⟨S4112, .i32⟩
  | .hbm, ⟨50, _⟩ => ⟨S4112, .i32⟩
  | .hbm, ⟨51, _⟩ => ⟨S_, .i32⟩
  | .hbm, ⟨52, _⟩ => ⟨S4112, .i32⟩
  | .hbm, ⟨53, _⟩ => ⟨S4112, .i32⟩
  | .hbm, ⟨54, _⟩ => ⟨S_, .i32⟩
  | .hbm, ⟨55, _⟩ => ⟨S_, .i32⟩
  | .hbm, ⟨56, _⟩ => ⟨S4112, .i32⟩
  | .hbm, ⟨57, _⟩ => ⟨S4112, .i32⟩
  | .hbm, ⟨58, _⟩ => ⟨S1x4112, .i32⟩
  | .hbm, ⟨59, _⟩ => ⟨S4096, .i32⟩
  | .hbm, ⟨60, _⟩ => ⟨S4096x1, .i32⟩
  | .hbm, ⟨61, _⟩ => ⟨S4096x4112, .i32⟩
  | .hbm, ⟨62, _⟩ => ⟨S4096x4112, .i32⟩
  | .hbm, ⟨63, _⟩ => ⟨S4096x4112, .i1⟩
  | .hbm, ⟨64, _⟩ => ⟨S8x8x2x4096x4112, .f32⟩
  | .hbm, ⟨65, _⟩ => ⟨S_, .f32⟩
  | .hbm, ⟨66, _⟩ => ⟨S8x8x2x4096x4112, .f32⟩
  | .hbm, ⟨67, _⟩ => ⟨S8x8x2x4096x4112, .f32⟩
  | .hbm, ⟨68, _⟩ => ⟨S_, .f32⟩
  | .hbm, ⟨69, _⟩ => ⟨S_, .f32⟩
  | .hbm, ⟨70, _⟩ => ⟨S8x8x2x4096x4112, .i1⟩
  | .hbm, ⟨71, _⟩ => ⟨S8x8x2x4096x4112, .f32⟩
  | .hbm, ⟨72, _⟩ => ⟨S8x8x2x4096x4112, .f32⟩
  | .hbm, ⟨73, _⟩ => ⟨S_, .f32⟩
  | .hbm, ⟨74, _⟩ => ⟨S8x8x2x4096, .f32⟩
  | .hbm, ⟨75, _⟩ => ⟨S_, .f32⟩
  | .hbm, ⟨76, _⟩ => ⟨S8x8x2x4096, .f32⟩
  | .hbm, ⟨77, _⟩ => ⟨S8x8x2x4096, .f32⟩
  | .hbm, ⟨78, _⟩ => ⟨S8x8x2x4096x1, .f32⟩
  | .hbm, ⟨79, _⟩ => ⟨S8x8x2x4096x4112, .f32⟩
  | .hbm, ⟨80, _⟩ => ⟨S8x8x2x4096x4112, .f32⟩
  | .hbm, ⟨81, _⟩ => ⟨S8x8x2x4096x4112, .f32⟩
  | .hbm, ⟨82, _⟩ => ⟨S_, .f32⟩
  | .hbm, ⟨83, _⟩ => ⟨S8x8x2x4096, .f32⟩
  | .hbm, ⟨84, _⟩ => ⟨S8x8x2x4096x1, .f32⟩
  | .hbm, ⟨85, _⟩ => ⟨S8x8x2x4096x4112, .f32⟩
  | .hbm, ⟨86, _⟩ => ⟨S8x8x2x4096x4112, .f32⟩
  | .hbm, ⟨87, _⟩ => ⟨S8x8x1x4096x4112, .f32⟩
  | .hbm, ⟨88, _⟩ => ⟨S8x8x4096x4112, .f32⟩
  | .hbm, ⟨89, _⟩ => ⟨S8x8x1x4096x4112, .f32⟩
  | .hbm, ⟨90, _⟩ => ⟨S8x8x4096x4112, .f32⟩
  | .hbm, ⟨91, _⟩ => ⟨S8x8x4096x4112, .f32⟩
  | .hbm, ⟨92, _⟩ => ⟨S8x8x4096x4112, .f32⟩
  | .hbm, ⟨93, _⟩ => ⟨S8x8x4096x4112, .f32⟩
  | .hbm, ⟨94, _⟩ => ⟨S8x8x128x4096, .f32⟩
  | .hbm, ⟨95, _⟩ => ⟨S8x4096x8x128, .f32⟩
  | .hbm, ⟨96, _⟩ => ⟨S8x4096x8x128, .f32⟩
  | .hbm, ⟨97, _⟩ => ⟨S_, .f32⟩
  | .hbm, ⟨98, _⟩ => ⟨S8x4096x8, .f32⟩
  | .hbm, ⟨99, _⟩ => ⟨S8x4096x8x1, .f32⟩
  | .hbm, ⟨100, _⟩ => ⟨S_, .f32⟩
  | .hbm, ⟨101, _⟩ => ⟨S8x4096x8x1, .f32⟩
  | .hbm, ⟨102, _⟩ => ⟨S8x4096x8x1, .f32⟩
  | .hbm, ⟨103, _⟩ => ⟨S_, .f32⟩
  | .hbm, ⟨104, _⟩ => ⟨S8x4096x8x1, .f32⟩
  | .hbm, ⟨105, _⟩ => ⟨S8x4096x8x1, .f32⟩
  | .hbm, ⟨106, _⟩ => ⟨S8x4096x8x1, .f32⟩
  | .hbm, ⟨107, _⟩ => ⟨S8x4096x8x128, .f32⟩
  | .hbm, ⟨108, _⟩ => ⟨S8x4096x8x128, .f32⟩
  | .hbm, ⟨109, _⟩ => ⟨S1x1x1x128, .f32⟩
  | .hbm, ⟨110, _⟩ => ⟨S8x4096x8x128, .f32⟩
  | .hbm, ⟨111, _⟩ => ⟨S8x4096x8x128, .f32⟩
  | .hbm, ⟨112, _⟩ => ⟨S_, .f32⟩
  | .hbm, ⟨113, _⟩ => ⟨S8x4096x8x128, .f32⟩
  | .hbm, ⟨114, _⟩ => ⟨S8x4096x8x128, .f32⟩
  | .hbm, ⟨115, _⟩ => ⟨S8x4096x1024, .f32⟩
  | .hbm, ⟨116, _⟩ => ⟨S8x4096x1024, .f32⟩
  | .hbm, ⟨117, _⟩ => ⟨S8x4096x1024, .f32⟩
  | .hbm, ⟨118, _⟩ => ⟨S_, .f32⟩
  | .hbm, ⟨119, _⟩ => ⟨S8x4096x1024, .f32⟩
  | .hbm, ⟨120, _⟩ => ⟨S8x4096x1024, .f32⟩
  | .hbm, ⟨121, _⟩ => ⟨S_, .f32⟩
  | .hbm, ⟨122, _⟩ => ⟨S8x4096x1024, .f32⟩
  | .hbm, ⟨123, _⟩ => ⟨S8x4096x1024, .f32⟩
  | .hbm, ⟨124, _⟩ => ⟨S8x4096x1024, .f32⟩
  | .hbm, ⟨125, _⟩ => ⟨S8x4096x1024, .f32⟩
  | .hbm, ⟨126, _⟩ => ⟨S32768x1024, .f32⟩
  | .hbm, ⟨127, _⟩ => ⟨S32768x1024, .bf16⟩
  | _, _ => ⟨S8x4096x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v17 : Ref sig .tc := ⟨.hbm, 50, rfl⟩
abbrev main_c_4 : Ref sig .tc := ⟨.hbm, 51, rfl⟩
abbrev main_v18 : Ref sig .tc := ⟨.hbm, 52, rfl⟩
abbrev main_v19 : Ref sig .tc := ⟨.hbm, 53, rfl⟩
abbrev main_c_5 : Ref sig .tc := ⟨.hbm, 54, rfl⟩
abbrev main_call1_v0 : Ref sig .tc := ⟨.hbm, 55, rfl⟩
abbrev main_call1_v1 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_6 : Ref sig .tc := ⟨.hbm, 65, rfl⟩
abbrev main_v28 : Ref sig .tc := ⟨.hbm, 66, rfl⟩
abbrev main_v29 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v30 : Ref sig .tc := ⟨.hbm, 72, rfl⟩
abbrev main_cst_8 : Ref sig .tc := ⟨.hbm, 73, rfl⟩
abbrev main_v31 : Ref sig .tc := ⟨.hbm, 74, rfl⟩
abbrev main_cst_9 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_10 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_11 : Ref sig .tc := ⟨.hbm, 97, rfl⟩
abbrev main_v52 : Ref sig .tc := ⟨.hbm, 98, rfl⟩
abbrev main_v53 : Ref sig .tc := ⟨.hbm, 99, rfl⟩
abbrev main_cst_12 : Ref sig .tc := ⟨.hbm, 100, rfl⟩
abbrev main_v54 : Ref sig .tc := ⟨.hbm, 101, rfl⟩
abbrev main_v55 : Ref sig .tc := ⟨.hbm, 102, rfl⟩
abbrev main_cst_13 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_14 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩

abbrev nD : Nat := 1
abbrev τ : Topo := Topo.v7x

variable {F : FTy → Type} [FloatOps F]
-- ==== Merge.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩
abbrev S32768x6144 : Shape := ⟨2, ![32768, 6144]⟩
abbrev S32768x1024 : Shape := ⟨2, ![32768, 1024]⟩
abbrev S32768x8192 : Shape := ⟨2, ![32768, 8192]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 46
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S_, .bf16⟩
  | .hbm, ⟨10, _⟩ => ⟨S32768x6144, .bf16⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .bf16⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x1024, .bf16⟩
  | .hbm, ⟨35, _⟩ => ⟨S32768x8192, .bf16⟩
  | .hbm, ⟨36, _⟩ => ⟨S32768x1024, .f32⟩
  | .hbm, ⟨37, _⟩ => ⟨S32768x1024, .f32⟩
  | .hbm, ⟨38, _⟩ => ⟨S32768x1024, .bf16⟩
  | .hbm, ⟨39, _⟩ => ⟨S32768x1024, .f32⟩
  | .hbm, ⟨40, _⟩ => ⟨S32768x1024, .bf16⟩
  | .hbm, ⟨41, _⟩ => ⟨S1024x1024, .bf16⟩
  | .hbm, ⟨42, _⟩ => ⟨S1024x1024, .bf16⟩
  | .hbm, ⟨43, _⟩ => ⟨S1024x1024, .bf16⟩
  | .hbm, ⟨44, _⟩ => ⟨S1x1024, .f32⟩
  | .hbm, ⟨45, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== MergeS.lean ====
abbrev S16x64x1024 : Shape := ⟨3, ![16, 64, 1024]⟩
abbrev S1024x1024 : Shape := ⟨2, ![1024, 1024]⟩
abbrev S1024 : Shape := ⟨1, ![1024]⟩
abbrev S_ : Shape := ⟨0, ![]⟩
abbrev S1024x6144 : Shape := ⟨2, ![1024, 6144]⟩
abbrev S1024x8192 : Shape := ⟨2, ![1024, 8192]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 46
  | .vmem => 16
  | .smem => 0
  | _ => 0

abbrev bufTy : (tb : Table) → Fin (tcTables nBuf tb) → BufTy
  | .hbm, ⟨0, _⟩ => ⟨S16x64x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S16x64x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S_, .bf16⟩
  | .hbm, ⟨10, _⟩ => ⟨S1024x6144, .bf16⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .bf16⟩
  | .hbm, ⟨35, _⟩ => ⟨S1024x8192, .bf16⟩
  | .hbm, ⟨36, _⟩ => ⟨S1024x1024, .f32⟩
  | .hbm, ⟨37, _⟩ => ⟨S1024x1024, .f32⟩
  | .hbm, ⟨38, _⟩ => ⟨S1024x1024, .bf16⟩
  | .hbm, ⟨39, _⟩ => ⟨S1024x1024, .f32⟩
  | .hbm, ⟨40, _⟩ => ⟨S1024x1024, .bf16⟩
  | .hbm, ⟨41, _⟩ => ⟨S1024x1024, .bf16⟩
  | .hbm, ⟨42, _⟩ => ⟨S1024x1024, .bf16⟩
  | .hbm, ⟨43, _⟩ => ⟨S1024x1024, .bf16⟩
  | .hbm, ⟨44, _⟩ => ⟨S1x1024, .f32⟩
  | .hbm, ⟨45, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeSRefIdeal.lean ====
abbrev S16x64x1024 : Shape := ⟨3, ![16, 64, 1024]⟩
abbrev S1024x1024 : Shape := ⟨2, ![1024, 1024]⟩
abbrev S1024 : Shape := ⟨1, ![1024]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S16x64x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S16x64x1024, .f32⟩
  | .hbm, ⟨10, _⟩ => ⟨S16x64x1024, .f32⟩
  | .hbm, ⟨11, _⟩ => ⟨S_, .f32⟩
  | .hbm, ⟨12, _⟩ => ⟨S16x64x1024, .f32⟩
  | .hbm, ⟨13, _⟩ => ⟨S16x64x1024, .f32⟩
  | .hbm, ⟨14, _⟩ => ⟨S_, .f32⟩
  | .hbm, ⟨15, _⟩ => ⟨S16x64x1024, .f32⟩
  | .hbm, ⟨16, _⟩ => ⟨S16x64x1024, .f32⟩
  | .hbm, ⟨17, _⟩ => ⟨S16x64x1024, .f32⟩
  | .hbm, ⟨18, _⟩ => ⟨S16x64x1024, .f32⟩
  | .hbm, ⟨19, _⟩ => ⟨S16x64x1024, .f32⟩
  | .hbm, ⟨20, _⟩ => ⟨S16x64x1024, .f32⟩
  | .hbm, ⟨21, _⟩ => ⟨S_, .f32⟩
  | .hbm, ⟨22, _⟩ => ⟨S16x64x1024, .f32⟩
  | .hbm, ⟨23, _⟩ => ⟨S16x64x1024, .f32⟩
  | .hbm, ⟨24, _⟩ => ⟨S_, .f32⟩
  | .hbm, ⟨25, _⟩ => ⟨S16x64x1024, .f32⟩
  | .hbm, ⟨26, _⟩ => ⟨S16x64x1024, .f32⟩
  | .hbm, ⟨27, _⟩ => ⟨S16x64x1024, .f32⟩
  | .hbm, ⟨28, _⟩ => ⟨S16x64x1024, .f32⟩
  | .hbm, ⟨29, _⟩ => ⟨S16x64x1024, .f32⟩
  | .hbm, ⟨30, _⟩ => ⟨S16x64x1024, .f32⟩
  | .hbm, ⟨31, _⟩ => ⟨S16x64x1024, .f32⟩
  | .hbm, ⟨32, _⟩ => ⟨S16x64x1024, .f32⟩
  | .hbm, ⟨33, _⟩ => ⟨S_, .f32⟩
  | .hbm, ⟨34, _⟩ => ⟨S16x64, .f32⟩
  | .hbm, ⟨35, _⟩ => ⟨S16x64x1, .f32⟩
  | .hbm, ⟨36, _⟩ => ⟨S_, .f32⟩
  | .hbm, ⟨37, _⟩ => ⟨S16x64x1, .f32⟩
  | .hbm, ⟨38, _⟩ => ⟨S16x64x1, .f32⟩
  | .hbm, ⟨39, _⟩ => ⟨S_, .f32⟩
  | .hbm, ⟨40, _⟩ => ⟨S16x64x1, .f32⟩
  | .hbm, ⟨41, _⟩ => ⟨S16x64x1, .f32⟩
  | .hbm, ⟨42, _⟩ => ⟨S16x64x1, .f32⟩
  | .hbm, ⟨43, _⟩ => ⟨S16x64x1024, .f32⟩
  | .hbm, ⟨44, _⟩ => ⟨S16x64x1024, .f32⟩
  | .hbm, ⟨45, _⟩ => ⟨S1x1x1024, .f32⟩
  | .hbm, ⟨46, _⟩ => ⟨S16x64x1024, .f32⟩
  | .hbm, ⟨47, _⟩ => ⟨S16x64x1024, .f32⟩
  | .hbm, ⟨48, _⟩ => ⟨S1024x1024, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Inproj.lean ====
abbrev S16x64x1024 : Shape := ⟨3, ![16, 64, 1024]⟩
abbrev S1024 : Shape := ⟨1, ![1024]⟩
abbrev S1024x8192 : Shape := ⟨2, ![1024, 8192]⟩
abbrev S64 : Shape := ⟨1, ![64]⟩
abbrev S_ : Shape := ⟨0, ![]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S64x128 : Shape := ⟨2, ![64, 128]⟩
abbrev S1x64x1x128 : Shape := ⟨4, ![1, 64, 1, 128]⟩
abbrev S16x64x1x128 : Shape := ⟨4, ![16, 64, 1, 128]⟩
abbrev S1024x128 : Shape := ⟨2, ![1024, 128]⟩
abbrev S1024x1024 : Shape := ⟨2, ![1024, 1024]⟩
abbrev S1x1024 : Shape := ⟨2, ![1, 1024]⟩
abbrev S1024x2048 : Shape := ⟨2, ![1024, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 14
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S1024x8192, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S64, .f32⟩
  | .hbm, ⟨18, _⟩ => ⟨S64x1, .f32⟩
  | .hbm, ⟨19, _⟩ => ⟨S1x32, .f32⟩
  | .hbm, ⟨20, _⟩ => ⟨S64x32, .f32⟩
  | .hbm, ⟨21, _⟩ => ⟨S64x32, .f32⟩
  | .hbm, ⟨22, _⟩ => ⟨S64x32, .f32⟩
  | .hbm, ⟨23, _⟩ => ⟨S64x32, .f32⟩
  | .hbm, ⟨24, _⟩ => ⟨S64x32, .f32⟩
  | .hbm, ⟨25, _⟩ => ⟨S64x128, .f32⟩
  | .hbm, ⟨26, _⟩ => ⟨S64x32, .f32⟩
  | .hbm, ⟨27, _⟩ => ⟨S64x32, .f32⟩
  | .hbm, ⟨28, _⟩ => ⟨S64x128, .f32⟩
  | .hbm, ⟨29, _⟩ => ⟨S1x64x1x128, .f32⟩
  | .hbm, ⟨30, _⟩ => ⟨S16x64x1x128, .f32⟩
  | .hbm, ⟨31, _⟩ => ⟨S1024x128, .f32⟩
  | .hbm, ⟨32, _⟩ => ⟨S1x64x1x128, .f32⟩
  | .hbm, ⟨33, _⟩ => ⟨S16x64x1x128, .f32⟩
  | .hbm, ⟨34, _⟩ => ⟨S1024x128, .f32⟩
  | .hbm, ⟨35, _⟩ => ⟨S1024x1024, .f32⟩
  | .hbm, ⟨36, _⟩ => ⟨S1x1024, .f32⟩
  | .hbm, ⟨37, _⟩ => ⟨S1024x8192, .bf16⟩
  | .hbm, ⟨38, _⟩ => ⟨S1024x8192, .bf16⟩
  | .hbm, ⟨39, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let c5_i32 : BitVec 32 := 5#32
  let v11 : BitVec 1 := Scalar.cmpi .eq arg1 c5_i32
  let v12 : BitVec 1 := Scalar.ori v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_7 : BitVec 32 := 0#32
  let v17 : BitVec 1 := Scalar.cmpi .ne v16 c0_i32_7
  v17

def k0_cond5 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_8 : BitVec 32 := 0#32
  let v20 : BitVec 1 := Scalar.cmpi .ne v19 c0_i32_8
  v20

def k0_cond6 (i : grid0.Coords) : BitVec 1 :=
  let arg1 : BitVec 32 := BitVec.ofNat 32 (i 1).val
  let c4_i32 : BitVec 32 := 4#32
  let v21 : BitVec 1 := Scalar.cmpi .eq arg1 c4_i32
  let v22 : BitVec 32 := Scalar.extui v21
  let c0_i32_9 : BitVec 32 := 0#32
  let v23 : BitVec 1 := Scalar.cmpi .ne v22 c0_i32_9
  v23

def k0_cond7 (i : grid0.Coords) : BitVec 1 :=
  let arg1 : BitVec 32 := BitVec.ofNat 32 (i 1).val
  let c6_i32 : BitVec 32 := 6#32
  let v24 : BitVec 1 := Scalar.cmpi .sge arg1 c6_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sgt arg1 c3_i32
  let c1_i32 : BitVec 32 := 1#32
  let c0_i32 : BitVec 32 := 0#32
  let v1 : BitVec 32 := Scalar.select v0 c1_i32 c0_i32
  let c0_i32_0 : BitVec 32 := 0#32
  ![arg0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InprojIdeal.lean ====
variable {F : FTy → Type} [FloatOps F] [Named F]
def κ : String → Option EReal := fun
  | "q_scale" => some (((8 * (Real.log 2))⁻¹ : ℝ) : EReal)
  | _ => none
-- ==== InprojRefIdeal.lean ====
abbrev S16x64x1024 : Shape := ⟨3, ![16, 64, 1024]⟩
abbrev S1024 : Shape := ⟨1, ![1024]⟩
abbrev S1024x8192 : Shape := ⟨2, ![1024, 8192]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S16x64x8192 : Shape := ⟨3, ![16, 64, 8192]⟩
abbrev S64 : Shape := ⟨1, ![64]⟩
abbrev S16x64x8x2x64 : Shape := ⟨5, ![16, 64, 8, 2, 64]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S1x64x1x1x32 : Shape := ⟨5, ![1, 64, 1, 1, 32]⟩
abbrev S16x64x8x2x32 : Shape := ⟨5, ![16, 64, 8, 2, 32]⟩
abbrev S1024x1024 : Shape := ⟨2, ![1024, 1024]⟩
abbrev S1024x2048 : Shape := ⟨2, ![1024, 2048]⟩

abbrev nBuf : Space → Nat
  | .hbm => 155
  | .vmem => 0
  | .smem => 0
  | _ => 0

abbrev hbmTy0_0 (i : Nat) : BufTy := match i % 128 with
  | 0 => ⟨S16x64x1024, .f32⟩
  | 1 => ⟨S1024, .f32⟩
  | 2 => ⟨S1024x8192, .f32⟩
  | 3 => ⟨S16x64x1024, .f32⟩
  | 4 => ⟨S_, .f32⟩
  | 5 => ⟨S16x64, .f32⟩
  | 6 => ⟨S16x64x1, .f32⟩
  | 7 => ⟨S_, .f32⟩
  | 8 => ⟨S16x64x1, .f32⟩
  | 9 => ⟨S16x64x1, .f32⟩
  | 10 => ⟨S_, .f32⟩
  | 11 => ⟨S16x64x1, .f32⟩
  | 12 => ⟨S16x64x1, .f32⟩
  | 13 => ⟨S16x64x1, .f32⟩
  | 14 => ⟨S16x64x1024, .f32⟩
  | 15 => ⟨S16x64x1024, .f32⟩
  | 16 => ⟨S1x1x1024, .f32⟩
  | 17 => ⟨S16x64x1024, .f32⟩
  | 18 => ⟨S16x64x1024, .f32⟩
  | 19 => ⟨S16x64x8192, .f32⟩
  | 20 => ⟨S16x64x1024, .f32⟩
  | 21 => ⟨S16x64x1024, .f32⟩
  | 22 => ⟨S16x64x1024, .f32⟩
  | 23 => ⟨S16x64x1024, .f32⟩
  | 24 => ⟨S16x64x1024, .f32⟩
  | 25 => ⟨S16x64x1024, .f32⟩
  | 26 => ⟨S16x64x1024, .f32⟩
  | 27 => ⟨S16x64x1024, .f32⟩
  | 28 => ⟨S64, .i32⟩
  | 29 => ⟨S_, .i32⟩
  | 30 => ⟨S64, .i32⟩
  | 31 => ⟨S64, .i32⟩
  | 32 => ⟨S16x64x8x2x64, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S64, .f32⟩
  | 44 => ⟨S64x1, .f32⟩
  | 45 => ⟨S1x32, .f32⟩
  | 46 => ⟨S64x32, .f32⟩
  | 47 => ⟨S64x32, .f32⟩
  | 48 => ⟨S64x32, .f32⟩
  | 49 => ⟨S64x32, .f32⟩
  | 50 => ⟨S1x64x1x1x32, .f32⟩
  | 51 => ⟨S64x32, .f32⟩
  | 52 => ⟨S1x64x1x1x32, .f32⟩
  | 53 => ⟨S16x64x8x2x32, .f32⟩
  | 54 => ⟨S16x64x8x2x32, .f32⟩
  | 55 => ⟨S16x64x8x2x32, .f32⟩
  | 56 => ⟨S16x64x8x2x32, .f32⟩
  | 57 => ⟨S16x64x8x2x32, .f32⟩
  | 58 => ⟨S16x64x8x2x32, .f32⟩
  | 59 => ⟨S16x64x8x2x32, .f32⟩
  | 60 => ⟨S16x64x8x2x32, .f32⟩
  | 61 => ⟨S16x64x8x2x32, .f32⟩
  | 62 => ⟨S16x64x8x2x32, .f32⟩
  | 63 => ⟨S16x64x8x2x32, .f32⟩
  | 64 => ⟨S16x64x8x2x32, .f32⟩
  | 65 => ⟨S16x64x8x2x64, .f32⟩
  | 66 => ⟨S_, .f32⟩
  | 67 => ⟨S16x64x8x2x64, .f32⟩
  | 68 => ⟨S16x64x8x2x64, .f32⟩
  | 69 => ⟨S_, .f32⟩
  | 70 => ⟨S_, .f32⟩
  | 71 => ⟨S_, .f32⟩
  | 72 => ⟨S16x64x8x2x64, .f32⟩
  | 73 => ⟨S16x64x8x2x64, .f32⟩
  | 74 => ⟨S16x64x8x2x64, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S64, .f32⟩
  | 86 => ⟨S64x1, .f32⟩
  | 87 => ⟨S1x32, .f32⟩
  | 88 => ⟨S64x32, .f32⟩
  | 89 => ⟨S64x32, .f32⟩
  | 90 => ⟨S64x32, .f32⟩
  | 91 => ⟨S64x32, .f32⟩
  | 92 => ⟨S1x64x1x1x32, .f32⟩
  | 93 => ⟨S64x32, .f32⟩
  | 94 => ⟨S1x64x1x1x32, .f32⟩
  | 95 => ⟨S16x64x8x2x32, .f32⟩
  | 96 => ⟨S16x64x8x2x32, .f32⟩
  | 97 => ⟨S16x64x8x2x32, .f32⟩
  | 98 => ⟨S16x64x8x2x32, .f32⟩
  | 99 => ⟨S16x64x8x2x32, .f32⟩
  | 100 => ⟨S16x64x8x2x32, .f32⟩
  | 101 => ⟨S16x64x8x2x32, .f32⟩
  | 102 => ⟨S16x64x8x2x32, .f32⟩
  | 103 => ⟨S16x64x8x2x32, .f32⟩
  | 104 => ⟨S16x64x8x2x32, .f32⟩
  | 105 => ⟨S16x64x8x2x32, .f32⟩
  | 106 => ⟨S16x64x8x2x32, .f32⟩
  | 107 => ⟨S16x64x8x2x64, .f32⟩
  | 108 => ⟨S16x64x1024, .f32⟩
  | 109 => ⟨S16x64x1024, .f32⟩
  | 110 => ⟨S_, .f32⟩
  | 111 => ⟨S16x64x1024, .f32⟩
  | 112 => ⟨S16x64x1024, .f32⟩
  | 113 => ⟨S_, .f32⟩
  | 114 => ⟨S16x64x1024, .f32⟩
  | 115 => ⟨S16x64x1024, .f32⟩
  | 116 => ⟨S16x64x1024, .f32⟩
  | 117 => ⟨S16x64x1024, .f32⟩
  | 118 => ⟨S16x64x1024, .f32⟩
  | 119 => ⟨S_, .f32⟩
  | 120 => ⟨S16x64x1024, .f32⟩
  | 121 => ⟨S16x64x1024, .f32⟩
  | 122 => ⟨S_, .f32⟩
  | 123 => ⟨S16x64x1024, .f32⟩
  | 124 => ⟨S16x64x1024, .f32⟩
  | 125 => ⟨S16x64x1024, .f32⟩
  | 126 => ⟨S16x64x1024, .f32⟩
  | 127 => ⟨S16x64x1024, .f32⟩
  | _ => ⟨S16x64x1024, .f32⟩

abbrev hbmTy0_1 (i : Nat) : BufTy := match i % 128 with
  | 0 => ⟨S_, .f32⟩
  | 1 => ⟨S16x64x1024, .f32⟩
  | 2 => ⟨S16x64x1024, .f32⟩
  | 3 => ⟨S_, .f32⟩
  | 4 => ⟨S16x64x1024, .f32⟩
  | 5 => ⟨S16x64x1024, .f32⟩
  | 6 => ⟨S16x64x1024, .f32⟩
  | 7 => ⟨S16x64x1024, .f32⟩
  | 8 => ⟨S_, .f32⟩
  | 9 => ⟨S16x64x1024, .f32⟩
  | 10 => ⟨S16x64x1024, .f32⟩
  | 11 => ⟨S_, .f32⟩
  | 12 => ⟨S16x64x1024, .f32⟩
  | 13 => ⟨S16x64x1024, .f32⟩
  | 14 => ⟨S1024x1024, .f32⟩
  | 15 => ⟨S1024x1024, .f32⟩
  | 16 => ⟨S1024x1024, .f32⟩
  | 17 => ⟨S1024x1024, .f32⟩
  | 18 => ⟨S1024x1024, .f32⟩
  | 19 => ⟨S1024x1024, .f32⟩
  | 20 => ⟨S1024x1024, .f32⟩
  | 21 => ⟨S1024x1024, .f32⟩
  | 22 => ⟨S1024x8192, .f32⟩
  | 23 => ⟨S1024x8192, .bf16⟩
  | 24 => ⟨S1024x1024, .f32⟩
  | 25 => ⟨S1024x1024, .f32⟩
  | 26 => ⟨S1024x2048, .f32⟩
  | _ => ⟨S16x64x1024, .f32⟩

abbrev hbmTy (i : Nat) : BufTy := match i / 128 with
  | 0 => hbmTy0_0 i
  | 1 => hbmTy0_1 i
  | _ => ⟨S16x64x1024, .f32⟩

abbrev bufTy : (tb : Table) → Fin (tcTables nBuf tb) → BufTy
  | .hbm, ⟨i, _⟩ => hbmTy i
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_cst_9 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_call0_v0 : Ref sig .tc := ⟨.hbm, 108, rfl⟩
abbrev main_call0_v1 : Ref sig .tc := ⟨.hbm, 109, rfl⟩
abbrev main_call0_cst : Ref sig .tc := ⟨.hbm, 110, rfl⟩
abbrev main_call0_v2 : Ref sig .tc := ⟨.hbm, 111, rfl⟩
abbrev main_call0_v3 : Ref sig .tc := ⟨.hbm, 112, rfl⟩
abbrev main_call0_cst_0 : Ref sig .tc := ⟨.hbm, 113, rfl⟩
abbrev main_call0_v4 : Ref sig .tc := ⟨.hbm, 114, rfl⟩
abbrev main_call0_v5 : Ref sig .tc := ⟨.hbm, 115, rfl⟩
abbrev main_v93 : Ref sig .tc := ⟨.hbm, 116, rfl⟩
abbrev main_call1_v0 : Ref sig .tc := ⟨.hbm, 117, rfl⟩
abbrev main_call1_v1 : Ref sig .tc := ⟨.hbm, 118, rfl⟩
abbrev main_call1_cst : Ref sig .tc := ⟨.hbm, 119, rfl⟩
abbrev main_call1_v2 : Ref sig .tc := ⟨.hbm, 120, rfl⟩
abbrev main_call1_v3 : Ref sig .tc := ⟨.hbm, 121, rfl⟩
abbrev main_call1_cst_0 : Ref sig .tc := ⟨.hbm, 122, rfl⟩
abbrev main_call1_v4 : Ref sig .tc := ⟨.hbm, 123, rfl⟩
abbrev main_call1_v5 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_10 : Ref sig .tc := ⟨.hbm, 128, rfl⟩
abbrev main_v97 : Ref sig .tc := ⟨.hbm, 129, rfl⟩
abbrev main_v98 : Ref sig .tc := ⟨.hbm, 130, rfl⟩
abbrev main_cst_11 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_12 : Ref sig .tc := ⟨.hbm, 136, rfl⟩
abbrev main_v103 : Ref sig .tc := ⟨.hbm, 137, rfl⟩
abbrev main_v104 : Ref sig .tc := ⟨.hbm, 138, rfl⟩
abbrev main_cst_13 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩

abbrev nD : Nat := 1
abbrev τ : Topo := Topo.v7x

variable {F : FTy → Type} [FloatOps F]
-- ==== AttnS.lean ====
abbrev S16x64x8x2x64 : Shape := ⟨5, ![16, 64, 8, 2, 64]⟩
abbrev S16x64x8x128 : Shape := ⟨4, ![16, 64, 8, 128]⟩
abbrev S4x16x2048x8x2x64 : Shape := ⟨6, ![4, 16, 2048, 8, 2, 64]⟩
abbrev S4x16x2048x8x128 : Shape := ⟨5, ![4, 16, 2048, 8, 128]⟩
abbrev S16x64x1024 : Shape := ⟨3, ![16, 64, 1024]⟩
abbrev S128 : Shape := ⟨1, ![128]⟩
abbrev S64 : Shape := ⟨1, ![64]⟩
abbrev S1024x1024 : Shape := ⟨2, ![1024, 1024]⟩
abbrev S_ : Shape := ⟨0, ![]⟩
abbrev S1024x2048 : Shape := ⟨2, ![1024, 2048]⟩
abbrev S1024x8192 : Shape := ⟨2, ![1024, 8192]⟩
abbrev S4x16x2048x1024 : Shape := ⟨4, ![4, 16, 2048, 1024]⟩
abbrev S16x128x1024 : Shape := ⟨3, ![16, 128, 1024]⟩
abbrev S2048x1024 : Shape := ⟨2, ![2048, 1024]⟩
abbrev S1x128 : Shape := ⟨2, ![1, 128]⟩
abbrev S1x64 : Shape := ⟨2, ![1, 64]⟩
abbrev S64x128 : Shape := ⟨2, ![64, 128]⟩
abbrev S1x1x2048x128 : Shape := ⟨4, ![1, 1, 2048, 128]⟩
abbrev S128x128 : Shape := ⟨2, ![128, 128]⟩
abbrev S128x1 : Shape := ⟨2, ![128, 1]⟩
abbrev S2048x128 : Shape := ⟨2, ![2048, 128]⟩
abbrev S128x2048 : Shape := ⟨2, ![128, 2048]⟩
abbrev S1 : Shape := ⟨1, ![1]⟩
abbrev S1x1 : Shape := ⟨2, ![1, 1]⟩
abbrev S64x1 : Shape := ⟨2, ![64, 1]⟩

abbrev nBuf : Space → Nat
  | .hbm => 59
  | .vmem => 22
  | .smem => 0
  | _ => 0

abbrev bufTy : (tb : Table) → Fin (tcTables nBuf tb) → BufTy
  | .hbm, ⟨0, _⟩ => ⟨S16x64x8x2x64, .f32⟩
  | .hbm, ⟨1, _⟩ => ⟨S16x64x8x2x64, .f32⟩
  | .hbm, ⟨2, _⟩ => ⟨S16x64x8x128, .f32⟩
  | .hbm, ⟨3, _⟩ => ⟨S4x16x2048x8x2x64, .f32⟩
  | .hbm, ⟨4, _⟩ => ⟨S4x16x2048x8x128, .f32⟩
  | .hbm, ⟨5, _⟩ => ⟨S16x64x1024, .f32⟩
  | .hbm, ⟨6, _⟩ => ⟨S128, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .bf16⟩
  | .hbm, ⟨38, _⟩ => ⟨S_, .bf16⟩
  | .hbm, ⟨39, _⟩ => ⟨S1024x2048, .bf16⟩
  | .hbm, ⟨40, _⟩ => ⟨S1024x8192, .bf16⟩
  | .hbm, ⟨41, _⟩ => ⟨S4x16x2048x1024, .f32⟩
  | .hbm, ⟨42, _⟩ => ⟨S4x16x2048x1024, .f32⟩
  | .hbm, ⟨43, _⟩ => ⟨S16x64x1024, .bf16⟩
  | .hbm, ⟨44, _⟩ => ⟨S_, .i32⟩
  | .hbm, ⟨45, _⟩ => ⟨S_, .bf16⟩
  | .hbm, ⟨46, _⟩ => ⟨S16x128x1024, .bf16⟩
  | .hbm, ⟨47, _⟩ => ⟨S2048x1024, .bf16⟩
  | .hbm, ⟨48, _⟩ => ⟨S16x64x1024, .bf16⟩
  | .hbm, ⟨49, _⟩ => ⟨S_, .i32⟩
  | .hbm, ⟨50, _⟩ => ⟨S_, .bf16⟩
  | .hbm, ⟨51, _⟩ => ⟨S16x128x1024, .bf16⟩
  | .hbm, ⟨52, _⟩ => ⟨S2048x1024, .bf16⟩
  | .hbm, ⟨53, _⟩ => ⟨S1x128, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1024x1024, .bf16⟩
  | .local _ .vmem, ⟨0, _⟩ => ⟨S64x128, .bf16⟩
  | .local _ .vmem, ⟨1, _⟩ => ⟨S64x128, .bf16⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S64x128, .bf16⟩
  | .local _ .vmem, ⟨11, _⟩ => ⟨S64x128, .bf16⟩
  | .local _ .vmem, ⟨12, _⟩ => ⟨S1x128, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S64x128, .bf16⟩
  | .local _ .vmem, ⟨18, _⟩ => ⟨S64x128, .bf16⟩
  | .local _ .vmem, ⟨19, _⟩ => ⟨S128x1, .f32⟩
  | .local _ .vmem, ⟨20, _⟩ => ⟨S128x1, .f32⟩
  | .local _ .vmem, ⟨21, _⟩ => ⟨S128x128, .f32⟩
  | _, _ => ⟨S16x64x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call0_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S64x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnSRefIdeal.lean ====
abbrev S16x64x8x2x64 : Shape := ⟨5, ![16, 64, 8, 2, 64]⟩
abbrev S16x64x8x128 : Shape := ⟨4, ![16, 64, 8, 128]⟩
abbrev S4x16x2048x8x2x64 : Shape := ⟨6, ![4, 16, 2048, 8, 2, 64]⟩
abbrev S4x16x2048x8x128 : Shape := ⟨5, ![4, 16, 2048, 8, 128]⟩
abbrev S16x64x1024 : Shape := ⟨3, ![16, 64, 1024]⟩
abbrev S128 : Shape := ⟨1, ![128]⟩
abbrev S64 : Shape := ⟨1, ![64]⟩
abbrev S_ : Shape := ⟨0, ![]⟩
abbrev S1x16x2048x8x2x64 : Shape := ⟨6, ![1, 16, 2048, 8, 2, 64]⟩
abbrev S16x2048x8x2x64 : Shape := ⟨5, ![16, 2048, 8, 2, 64]⟩
abbrev S16x2112x8x2x64 : Shape := ⟨5, ![16, 2112, 8, 2, 64]⟩
abbrev S1x16x2048x8x128 : Shape := ⟨5, ![1, 16, 2048, 8, 128]⟩
abbrev S16x2048x8x128 : Shape := ⟨4, ![16, 2048, 8, 128]⟩
abbrev S16x2112x8x128 : Shape := ⟨4, ![16, 2112, 8, 128]⟩
abbrev S16x8x2x64x2112 : Shape := ⟨5, ![16, 8, 2, 64, 2112]⟩
abbrev S16x8x2x64 : Shape := ⟨4, ![16, 8, 2, 64]⟩
abbrev S16x8x2x64x1 : Shape := ⟨5, ![16, 8, 2, 64, 1]⟩
abbrev S16x8x1x64x2112 : Shape := ⟨5, ![16, 8, 1, 64, 2112]⟩
abbrev S16x8x64x2112 : Shape := ⟨4, ![16, 8, 64, 2112]⟩
abbrev S16x8x128x64 : Shape := ⟨4, ![16, 8, 128, 64]⟩
abbrev S16x64x8 : Shape := ⟨3, ![16, 64, 8]⟩
abbrev S16x64x8x1 : Shape := ⟨4, ![16, 64, 8, 1]⟩
abbrev S1x1x1x128 : Shape := ⟨4, ![1, 1, 1, 128]⟩
abbrev S1024x1024 : Shape := ⟨2, ![1024, 1024]⟩

abbrev nBuf : Space → Nat
  | .hbm => 87
  | .vmem => 0
  | .smem => 0
  | _ => 0

abbrev bufTy : (tb : Table) → Fin (tcTables nBuf tb) → BufTy
  | .hbm, ⟨0, _⟩ => ⟨S16x64x8x2x64, .f32⟩
  | .hbm, ⟨1, _⟩ => ⟨S16x64x8x2x64, .f32⟩
  | .hbm, ⟨2, _⟩ => ⟨S16x64x8x128, .f32⟩
  | .hbm, ⟨3, _⟩ => ⟨S4x16x2048x8x2x64, .f32⟩
  | .hbm, ⟨4, _⟩ => ⟨S4x16x2048x8x128, .f32⟩
  | .hbm, ⟨5, _⟩ => ⟨S16x64x1024, .f32⟩
  | .hbm, ⟨6, _⟩ => ⟨S128, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x16x2048x8x2x64, .f32⟩
  | .hbm, ⟨23, _⟩ => ⟨S16x2048x8x2x64, .f32⟩
  | .hbm, ⟨24, _⟩ => ⟨S16x2112x8x2x64, .f32⟩
  | .hbm, ⟨25, _⟩ => ⟨S1x16x2048x8x128, .f32⟩
  | .hbm, ⟨26, _⟩ => ⟨S16x2048x8x128, .f32⟩
  | .hbm, ⟨27, _⟩ => ⟨S16x2112x8x128, .f32⟩
  | .hbm, ⟨28, _⟩ => ⟨S16x8x2x64x2112, .f32⟩
  | .hbm, ⟨29, _⟩ => ⟨S_, .f32⟩
  | .hbm, ⟨30, _⟩ => ⟨S16x8x2x64x2112, .f32⟩
  | .hbm, ⟨31, _⟩ => ⟨S16x8x2x64x2112, .f32⟩
  | .hbm, ⟨32, _⟩ => ⟨S_, .f32⟩
  | .hbm, ⟨33, _⟩ => ⟨S16x8x2x64, .f32⟩
  | .hbm, ⟨34, _⟩ => ⟨S_, .f32⟩
  | .hbm, ⟨35, _⟩ => ⟨S16x8x2x64, .f32⟩
  | .hbm, ⟨36, _⟩ => ⟨S16x8x2x64, .f32⟩
  | .hbm, ⟨37, _⟩ => ⟨S16x8x2x64x1, .f32⟩
  | .hbm, ⟨38, _⟩ => ⟨S16x8x2x64x2112, .f32⟩
  | .hbm, ⟨39, _⟩ => ⟨S16x8x2x64x2112, .f32⟩
  | .hbm, ⟨40, _⟩ => ⟨S16x8x2x64x2112, .f32⟩
  | .hbm, ⟨41, _⟩ => ⟨S_, .f32⟩
  | .hbm, ⟨42, _⟩ => ⟨S16x8x2x64, .f32⟩
  | .hbm, ⟨43, _⟩ => ⟨S16x8x2x64x1, .f32⟩
  | .hbm, ⟨44, _⟩ => ⟨S16x8x2x64x2112, .f32⟩
  | .hbm, ⟨45, _⟩ => ⟨S16x8x2x64x2112, .f32⟩
  | .hbm, ⟨46, _⟩ => ⟨S16x8x1x64x2112, .f32⟩
  | .hbm, ⟨47, _⟩ => ⟨S16x8x64x2112, .f32⟩
  | .hbm, ⟨48, _⟩ => ⟨S16x8x1x64x2112, .f32⟩
  | .hbm, ⟨49, _⟩ => ⟨S16x8x64x2112, .f32⟩
  | .hbm, ⟨50, _⟩ => ⟨S16x8x64x2112, .f32⟩
  | .hbm, ⟨51, _⟩ => ⟨S16x8x64x2112, .f32⟩
  | .hbm, ⟨52, _⟩ => ⟨S16x8x64x2112, .f32⟩
  | .hbm, ⟨53, _⟩ => ⟨S16x8x128x64, .f32⟩
  | .hbm, ⟨54, _⟩ => ⟨S16x64x8x128, .f32⟩
  | .hbm, ⟨55, _⟩ => ⟨S16x64x8x128, .f32⟩
  | .hbm, ⟨56, _⟩ => ⟨S_, .f32⟩
  | .hbm, ⟨57, _⟩ => ⟨S16x64x8, .f32⟩
  | .hbm, ⟨58, _⟩ => ⟨S16x64x8x1, .f32⟩
  | .hbm, ⟨59, _⟩ => ⟨S_, .f32⟩
  | .hbm, ⟨60, _⟩ => ⟨S16x64x8x1, .f32⟩
  | .hbm, ⟨61, _⟩ => ⟨S16x64x8x1, .f32⟩
  | .hbm, ⟨62, _⟩ => ⟨S_, .f32⟩
  | .hbm, ⟨63, _⟩ => ⟨S16x64x8x1, .f32⟩
  | .hbm, ⟨64, _⟩ => ⟨S16x64x8x1, .f32⟩
  | .hbm, ⟨65, _⟩ => ⟨S16x64x8x1, .f32⟩
  | .hbm, ⟨66, _⟩ => ⟨S16x64x8x128, .f32⟩
  | .hbm, ⟨67, _⟩ => ⟨S16x64x8x128, .f32⟩
  | .hbm, ⟨68, _⟩ => ⟨S1x1x1x128, .f32⟩
  | .hbm, ⟨69, _⟩ => ⟨S16x64x8x128, .f32⟩
  | .hbm, ⟨70, _⟩ => ⟨S16x64x8x128, .f32⟩
  | .hbm, ⟨71, _⟩ => ⟨S_, .f32⟩
  | .hbm, ⟨72, _⟩ => ⟨S16x64x8x128, .f32⟩
  | .hbm, ⟨73, _⟩ => ⟨S16x64x8x128, .f32⟩
  | .hbm, ⟨74, _⟩ => ⟨S16x64x1024, .f32⟩
  | .hbm, ⟨75, _⟩ => ⟨S16x64x1024, .f32⟩
  | .hbm, ⟨76, _⟩ => ⟨S16x64x1024, .f32⟩
  | .hbm, ⟨77, _⟩ => ⟨S_, .f32⟩
  | .hbm, ⟨78, _⟩ => ⟨S16x64x1024, .f32⟩
  | .hbm, ⟨79, _⟩ => ⟨S16x64x1024, .f32⟩
  | .hbm, ⟨80, _⟩ => ⟨S_, .f32⟩
  | .hbm, ⟨81, _⟩ => ⟨S16x64x1024, .f32⟩
  | .hbm, ⟨82, _⟩ => ⟨S16x64x1024, .f32⟩
  | .hbm, ⟨83, _⟩ => ⟨S16x64x1024, .f32⟩
  | .hbm, ⟨84, _⟩ => ⟨S16x64x1024, .f32⟩
  | .hbm, ⟨85, _⟩ => ⟨S1024x1024, .f32⟩
  | .hbm, ⟨86, _⟩ => ⟨S1024x1024, .bf16⟩
  | _, _ => ⟨S16x64x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]
-- ==== Rglru.lean ====
abbrev S16x64x1024 : Shape := ⟨3, ![16, 64, 1024]⟩
abbrev S16x3x1024 : Shape := ⟨3, ![16, 3, 1024]⟩
abbrev S16x1024 : Shape := ⟨2, ![16, 1024]⟩
abbrev S4x1024 : Shape := ⟨2, ![4, 1024]⟩
abbrev S1024 : Shape := ⟨1, ![1024]⟩
abbrev S8x128x128 : Shape := ⟨3, ![8, 128, 128]⟩
abbrev S1024x1024 : Shape := ⟨2, ![1024, 1024]⟩
abbrev S_ : Shape := ⟨0, ![]⟩
abbrev S1024x2048 : Shape := ⟨2, ![1024, 2048]⟩
abbrev S16x8x1024 : Shape := ⟨3, ![16, 8, 1024]⟩
abbrev S8x128x256 : Shape := ⟨3, ![8, 128, 256]⟩
abbrev S16x1x1024 : Shape := ⟨3, ![16, 1, 1024]⟩
abbrev S1x1024 : Shape := ⟨2, ![1, 1024]⟩
abbrev S64x1024 : Shape := ⟨2, ![64, 1024]⟩
abbrev S1x8x1024 : Shape := ⟨3, ![1, 8, 1024]⟩
abbrev S1x1x1024 : Shape := ⟨3, ![1, 1, 1024]⟩
abbrev S8x1024 : Shape := ⟨2, ![8, 1024]⟩
abbrev S8x8x128 : Shape := ⟨3, ![8, 8, 128]⟩
abbrev S64x128 : Shape := ⟨2, ![64, 128]⟩
abbrev S8x128 : Shape := ⟨2, ![8, 128]⟩
abbrev S1x128 : Shape := ⟨2, ![1, 128]⟩
abbrev S1x1x128 : Shape := ⟨3, ![1, 1, 128]⟩
abbrev S1x8x128 : Shape := ⟨3, ![1, 8, 128]⟩
abbrev S7x8x128 : Shape := ⟨3, ![7, 8, 128]⟩
abbrev S1x128x256 : Shape := ⟨3, ![1, 128, 256]⟩
abbrev S128x256 : Shape := ⟨2, ![128, 256]⟩
abbrev S64x256 : Shape := ⟨2, ![64, 256]⟩

abbrev nBuf : Space → Nat
  | .hbm => 42
  | .vmem => 25
  | .smem => 0
  | _ => 0

abbrev bufTy : (tb : Table) → Fin (tcTables nBuf tb) → BufTy
  | .hbm, ⟨0, _⟩ => ⟨S16x64x1024, .f32⟩
  | .hbm, ⟨1, _⟩ => ⟨S16x64x1024, .f32⟩
  | .hbm, ⟨2, _⟩ => ⟨S16x3x1024, .f32⟩
  | .hbm, ⟨3, _⟩ => ⟨S16x1024, .f32⟩
  | .hbm, ⟨4, _⟩ => ⟨S4x1024, .f32⟩
  | .hbm, ⟨5, _⟩ => ⟨S1024, .f32⟩
  | .hbm, ⟨6, _⟩ => ⟨S8x128x128, .f32⟩
  | .hbm, ⟨7, _⟩ => ⟨S1024, .f32⟩
  | .hbm, ⟨8, _⟩ => ⟨S8x128x128, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .bf16⟩
  | .hbm, ⟨27, _⟩ => ⟨S1024x2048, .bf16⟩
  | .hbm, ⟨28, _⟩ => ⟨S_, .i32⟩
  | .hbm, ⟨29, _⟩ => ⟨S_, .f32⟩
  | .hbm, ⟨30, _⟩ => ⟨S16x8x1024, .f32⟩
  | .hbm, ⟨31, _⟩ => ⟨S8x128x256, .f32⟩
  | .hbm, ⟨32, _⟩ => ⟨S8x128x256, .bf16⟩
  | .hbm, ⟨33, _⟩ => ⟨S16x1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1024x1024, .bf16⟩
  | .hbm, ⟨39, _⟩ => ⟨S16x8x1024, .f32⟩
  | .hbm, ⟨40, _⟩ => ⟨S16x1x1024, .f32⟩
  | .hbm, ⟨41, _⟩ => ⟨S16x3x1024, .f32⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S4x1024, .f32⟩
  | .local _ .vmem, ⟨9, _⟩ => ⟨S1x1024, .f32⟩
  | .local _ .vmem, ⟨10, _⟩ => ⟨S8x128x256, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S64x1024, .bf16⟩
  | .local _ .vmem, ⟨15, _⟩ => ⟨S64x1024, .bf16⟩
  | .local _ .vmem, ⟨16, _⟩ => ⟨S1x8x1024, .f32⟩
  | .local _ .vmem, ⟨17, _⟩ => ⟨S1x8x1024, .f32⟩
  | .local _ .vmem, ⟨18, _⟩ => ⟨S1x1x1024, .f32⟩
  | .local _ .vmem, ⟨19, _⟩ => ⟨S1x1x1024, .f32⟩
  | .local _ .vmem, ⟨20, _⟩ => ⟨S8x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S8x1024, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c0_i32_424 : BitVec 32 := 0#32
  let c8_i32 : BitVec 32 := 8#32
  let v1214 : BitVec 32 := Scalar.addi c0_i32_424 c8_i32
  let c1_i32_425 : BitVec 32 := 1#32
  ⟨c0_i32_424, v1214, c1_i32_425⟩
def k0_mult1 (k0_t1 : Fin k0_t1_loop.trips) : BitVec 32 :=
  let c0_i32_424 : BitVec 32 := 0#32
  let c1_i32_425 : BitVec 32 := 1#32
  let arg20 : BitVec 32 := Scf.iv c0_i32_424 c1_i32_425 k0_t1
  let c8_i32_443 : BitVec 32 := 8#32
  let v1234 : BitVec 32 := Scalar.muli arg20 c8_i32_443
  v1234
def k0_off1 (k0_t1 : Fin k0_t1_loop.trips) : Fin 2 → Nat :=
  let c0_i32_424 : BitVec 32 := 0#32
  let c1_i32_425 : BitVec 32 := 1#32
  let arg20 : BitVec 32 := Scf.iv c0_i32_424 c1_i32_425 k0_t1
  let c8_i32_443 : BitVec 32 := 8#32
  let v1234 : BitVec 32 := Scalar.muli arg20 c8_i32_443
  let v1235 : BitVec 32 := v1234
  let v1236 : Index := Scalar.indexCast v1235
  let c0_444 : Index := 0#32
  ![v1236.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RglruRefIdeal.lean ====
abbrev S16x64x1024 : Shape := ⟨3, ![16, 64, 1024]⟩
abbrev S16x3x1024 : Shape := ⟨3, ![16, 3, 1024]⟩
abbrev S16x1024 : Shape := ⟨2, ![16, 1024]⟩
abbrev S4x1024 : Shape := ⟨2, ![4, 1024]⟩
abbrev S1024 : Shape := ⟨1, ![1024]⟩
abbrev S8x128x128 : Shape := ⟨3, ![8, 128, 128]⟩
abbrev S16x67x1024 : Shape := ⟨3, ![16, 67, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S16x64x1024, .f32⟩
  | .hbm, ⟨2, _⟩ => ⟨S16x3x1024, .f32⟩
  | .hbm, ⟨3, _⟩ => ⟨S16x1024, .f32⟩
  | .hbm, ⟨4, _⟩ => ⟨S4x1024, .f32⟩
  | .hbm, ⟨5, _⟩ => ⟨S1024, .f32⟩
  | .hbm, ⟨6, _⟩ => ⟨S8x128x128, .f32⟩
  | .hbm, ⟨7, _⟩ => ⟨S1024, .f32⟩
  | .hbm, ⟨8, _⟩ => ⟨S8x128x128, .f32⟩
  | .hbm, ⟨9, _⟩ => ⟨S1024, .f32⟩
  | .hbm, ⟨10, _⟩ => ⟨S1024, .f32⟩
  | .hbm, ⟨11, _⟩ => ⟨S16x67x1024, .f32⟩
  | .hbm, ⟨12, _⟩ => ⟨S16x3x1024, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩

abbrev nD : Nat := 1
abbrev τ : Topo := Topo.v7x

variable {F : FTy → Type} [FloatOps F]
-- ==== Proof.Sigmoid.lean ====
module

public import Idealize.ShloMosaic.Lib.Pipeline.ValueKit
public import Idealize.ShloMosaic.Lib.Pointwise
public import Idealize.ShloMosaic.Lib.Claim

@[expose] public section

noncomputable section

open Idealize.ShloMosaic

namespace Cert.Scalar

/-- The single precision pattern of one half denotes one half. -/
theorem half_f32 : Ideal.ofBits .f32 0x3F000000#32 = (((1 : ℝ) / 2 : ℝ) : EReal) := by
  simp [Ideal.ofBits, Ideal.ieee, -EReal.coe_mul]; norm_num

/-- On the reals, the logistic function is half of the hyperbolic tangent of the half argument, plus a half. -/
theorem real_half_tanh (x : ℝ) : 1 / 2 * Real.tanh (1 / 2 * x) + 1 / 2 = 1 * (1 + Real.exp (-x))⁻¹ := by
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  rw [Real.tanh_eq_sinh_div_cosh, Real.sinh_eq, Real.cosh_eq, h1]
  set a := Real.exp (1 / 2 * x)
  set b := Real.exp (-(1 / 2 * x))
  have ha : 0 < a := Real.exp_pos _
  have hb : 0 < b := Real.exp_pos _
  have hab : a + b ≠ 0 := by positivity
  have hbb : 1 + b * b ≠ 0 := by positivity
  field_simp
  linear_combination (2 * b) * h2

/-- The kernel's form of the logistic function is the reference's, at every extended real. -/
theorem half_tanh (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_f32]
  induction x with
  | bot =>
    rw [EReal.coe_mul_bot_of_pos (by norm_num)]
    show ((1 / 2 : ℝ) : EReal) * (-1 : EReal) + ((1 / 2 : ℝ) : EReal) = Ideal.div 1 (1 + (⊤ : EReal))
    rw [EReal.add_top_of_ne_bot (by exact EReal.coe_ne_bot 1), Ideal.div, if_neg (by simp), EReal.inv_top]
    rw [show (-1 : EReal) = ((-1 : ℝ) : EReal) by simp, ← EReal.coe_mul, ← EReal.coe_add]
    norm_num
  | top =>
    rw [EReal.coe_mul_top_of_pos (by norm_num)]
    show ((1 / 2 : ℝ) : EReal) * (1 : EReal) + ((1 / 2 : ℝ) : EReal) = Ideal.div 1 (1 + (0 : EReal))
    rw [Ideal.div, if_neg (by simp), add_zero, mul_one, ← EReal.coe_add]
    norm_num
  | coe x =>
    rw [← EReal.coe_mul, ← EReal.coe_neg]
    show ((1 / 2 : ℝ) : EReal) * ((Real.tanh (1 / 2 * x) : ℝ) : EReal) + ((1 / 2 : ℝ) : EReal) = Ideal.div ((1 : ℝ) : EReal) (((1 : ℝ) : EReal) + ((Real.exp (-x) : ℝ) : EReal))
    rw [← EReal.coe_mul, ← EReal.coe_add, ← EReal.coe_add, real_half_tanh, Ideal.div, if_neg, ← EReal.coe_inv, ← EReal.coe_mul]
    rw [show (0 : EReal) = ((0 : ℝ) : EReal) by rfl, EReal.coe_eq_coe_iff]
    positivity

end Cert.Scalar
-- ==== Proof.HostRead.lean ====
module

public import Idealize.ShloMosaic.Lib.Pipeline.ValueKit
public import Idealize.ShloMosaic.Lib.Pointwise
public import Idealize.ShloMosaic.Lib.Claim
public import Idealize.ShloMosaic.Lib.StableHlo.Run

@[expose] public section

noncomputable section

open Idealize.ShloMosaic Idealize.ShloMosaic.TcCoe Idealize.SL.Sem Idealize.ShloMosaic.StableHlo

namespace Cert.HostRead

variable {sig : RefSig} {τ : Topo} {Val : EltTy → Type}

/-- A line of operations read at the result of one of them that takes a family of operands: the operation's function of the
    operands' contents before it, when no later operation writes that result. -/
theorem after_family {n : Nat} (ops pre post : List (HloOp τ sig Val)) (W : Valuation τ sig Val) (xs : Fin n → Ref sig .tc) (y : Ref sig .tc)
    (f : ((k : Fin n) → (xs k).ty.Contents Val) → y.ty.Contents Val) (hxs) (hy)
    (hops : ops = pre ++ nary (τ := τ) xs y f hxs hy :: post) (hpost : ∀ op ∈ post, Proc.devRef .tc y ∉ op.writes)
    (u : (k : Fin n) → (xs k).ty.Contents Val) (h : ∀ k, after pre W (Proc.devRef .tc (xs k)) = u k) :
    after ops W (Proc.devRef .tc y) = f u := by
  have happ : ∀ (p q : List (HloOp τ sig Val)) (W : Valuation τ sig Val), after (p ++ q) W = after q (after p W) := by
    intro p
    induction p with
    | nil => intro q W; rfl
    | cons o p ih => intro q W; exact ih q _
  rw [hops, happ, after_cons, after_of_forall_not_mem _ _ hpost, nary_result]
  exact congrArg f (funext h)

end Cert.HostRead
-- ==== Proof.MergeValue.lean ====
module

public import proofs.«01_k».proof.Proof.Gen.MergeIdeal.Value
public import proofs.«01_k».proof.Proof.Gen.MergeRefIdeal.Run
public import proofs.«01_k».proof.Proof.Sigmoid
public import proofs.«01_k».proof.Proof.HostRead

@[expose] public section

set_option maxRecDepth 16384

noncomputable section

open Idealize.ShloMosaic Idealize.ShloMosaic.TcCoe Idealize.SL.Sem
open Idealize.ShloMosaic.Pipeline (Dat)

namespace Cert.MergeRow

/-- One row of the merged stream: the residual row plus the projected sum of the two gated branches. -/
def mix (h o_r o_a g_r g_a : Fin 1024 → EReal) (Wr Wa Wm : Fin 1024 → Fin 1024 → EReal) (l : Fin 1024) : EReal :=
  h l + ∑ x, (g_r x * ∑ k, o_r k * Wr k x + g_a x * ∑ k, o_a k * Wa k x) * Wm x l

/-- The root mean square normalisation of a row, scaled by `w`. -/
def norm (u w : Fin 1024 → EReal) (l : Fin 1024) : EReal :=
  u l * Ideal.rsqrt (Ideal.div (∑ x, u x * u x) (Ideal.ofBits .f32 0x44800000#32) + Ideal.ofBits .f32 0x358637BD#32) * w l

end Cert.MergeRow

namespace Cert.MergeRefIdeal.Value

open Cert.MergeRefIdeal Cert.MergeRefIdeal.Gen

/-- The reference's result as a term of its arguments. -/
def REF (a0 a1 a2 a3 a4 : FVec Ideal S8x4096x1024 .f32) (a5 a6 a7 : FVec Ideal S1024x1024 .f32) (a8 : FVec Ideal S1024 .f32) : FVec Ideal S32768x1024 .f32 :=
  shapeCast _ (mulf (mulf (addf a0 (Host.dotGeneral dot_S8x4096x1024_S1024x1024_S8x4096x1024_2_0_01_1_n_n none (addf (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf a3)))) (Host.dotGeneral dot_S8x4096x1024_S1024x1024_S8x4096x1024_2_0_01_1_n_n none a1 a5)) (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf a4)))) (Host.dotGeneral dot_S8x4096x1024_S1024x1024_S8x4096x1024_2_0_01_1_n_n none a2 a6))) a7)) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (addf a0 (Host.dotGeneral dot_S8x4096x1024_S1024x1024_S8x4096x1024_2_0_01_1_n_n none (addf (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf a3)))) (Host.dotGeneral dot_S8x4096x1024_S1024x1024_S8x4096x1024_2_0_01_1_n_n none a1 a5)) (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf a4)))) (Host.dotGeneral dot_S8x4096x1024_S1024x1024_S8x4096x1024_2_0_01_1_n_n none a2 a6))) a7)) (addf a0 (Host.dotGeneral dot_S8x4096x1024_S1024x1024_S8x4096x1024_2_0_01_1_n_n none (addf (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf a3)))) (Host.dotGeneral dot_S8x4096x1024_S1024x1024_S8x4096x1024_2_0_01_1_n_n none a1 a5)) (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf a4)))) (Host.dotGeneral dot_S8x4096x1024_S1024x1024_S8x4096x1024_2_0_01_1_n_n none a2 a6))) a7))) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a8))) shapeCasts_S8x4096x1024_S32768x1024

/-- The reference's result at row `r`, column `l`. -/
theorem REF_at (a0 a1 a2 a3 a4 : FVec Ideal S8x4096x1024 .f32) (a5 a6 a7 : FVec Ideal S1024x1024 .f32) (a8 : FVec Ideal S1024 .f32) (r : Fin 32768) (l : Fin 1024) :
    REF a0 a1 a2 a3 a4 a5 a6 a7 a8 (ix2 r l) =
      Cert.MergeRow.norm (Cert.MergeRow.mix (fun k => a0 (ix3 ⟨r / 4096, by omega⟩ ⟨r % 4096, by omega⟩ k))
        (fun k => a1 (ix3 ⟨r / 4096, by omega⟩ ⟨r % 4096, by omega⟩ k)) (fun k => a2 (ix3 ⟨r / 4096, by omega⟩ ⟨r % 4096, by omega⟩ k))
        (fun k => Ideal.div 1 (1 + Ideal.exp (-a3 (ix3 ⟨r / 4096, by omega⟩ ⟨r % 4096, by omega⟩ k)))) (fun k => Ideal.div 1 (1 + Ideal.exp (-a4 (ix3 ⟨r / 4096, by omega⟩ ⟨r % 4096, by omega⟩ k))))
        (fun k x => a5 (ix2 k x)) (fun k x => a6 (ix2 k x)) (fun k x => a7 (ix2 k x))) (fun k => a8 (ix1 k)) l := by
  pointwise [REF]
  rfl

end Cert.MergeRefIdeal.Value

namespace Cert.MergeIdeal.Value

open Cert.MergeIdeal Cert.MergeIdeal.Gen

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0] ∧ win0_3.index t = ![t.val, 6]
    ∧ win0_4.index t = ![t.val, 7] ∧ win0_5.index t = ![0, 0] ∧ win0_6.index t = ![0, 0] ∧ win0_7.index t = ![0, 0] ∧ win0_8.index t = ![0, 0] ∧ win0_9.index t = ![t.val, 0] :=
  (by decide +kernel : ∀ t : Fin grid0.N, _)

/-- What the body stores, at row `r` and column `l` of its block. -/
theorem pay (P0 : Vec Ideal S512x1024 .bf16) (P1 : Vec Ideal S1024x1024 .bf16) (P2 : Vec Ideal S512x1024 .bf16) (P3 : Vec Ideal S1024x1024 .bf16) (P4 : Vec Ideal S512x1024 .bf16) (P5 : Vec Ideal S512x1024 .bf16) (P6 : Vec Ideal S512x1024 .f32) (P7 : Vec Ideal S1024x1024 .bf16) (P8 : Vec Ideal S1x1024 .f32)
    (r : Fin 512) (l : Fin 1024) : k0_pay1 (k0_pay2 P0 P1 P2 P3 P4 P5 P6 P7) P8 (ix2 r l) =
      Cert.MergeRow.norm (Cert.MergeRow.mix (fun k => P6 (ix2 r k)) (fun k => P0 (ix2 r k)) (fun k => P2 (ix2 r k)) (fun k => P4 (ix2 r k)) (fun k => P5 (ix2 r k))
        (fun k x => P1 (ix2 k x)) (fun k x => P3 (ix2 k x)) (fun k x => P7 (ix2 k x))) (fun k => P8 (ix2 0 k)) l := by
  pointwise [k0_pay1, k0_pay2]
  rfl

/-- A gate column as the kernel forms it on the host: half the hyperbolic tangent of half the argument, plus a half. -/
def gate (a : FVec Ideal S8x4096x1024 .f32) : FVec Ideal S32768x1024 .bf16 :=
  truncf .bf16 (addf (mulf (broadcastInDim S32768x1024 ![] bcast_S_S32768x1024 (constant S_ .f32 0x3F000000#32)) (Host.tanh (mulf (broadcastInDim S32768x1024 ![] bcast_S_S32768x1024 (constant S_ .f32 0x3F000000#32)) (shapeCast S32768x1024 a shapeCasts_S8x4096x1024_S32768x1024)))) (broadcastInDim S32768x1024 ![] bcast_S_S32768x1024 (constant S_ .f32 0x3F000000#32))) bitsLt_bf16_f32

/-- The columns of the packed array that the merge does not read. -/
def blank : FVec Ideal S32768x6144 .bf16 := broadcastInDim S32768x6144 ![] bcast_S_S32768x6144 (constant S_ .bf16 0x0000#16)

/-- The packed array: unread columns, then the two branches' gates. -/
def zcat (a3 a4 : FVec Ideal S8x4096x1024 .f32) : FVec Ideal S32768x8192 .bf16 :=
  concatenate S32768x8192 1 [⟨S32768x6144, blank⟩, ⟨S32768x1024, gate a3⟩, ⟨S32768x1024, gate a4⟩] concatenates_S32768x6144_S32768x1024_S32768x1024_S32768x8192_d1

set_option maxHeartbeats 1600000 in
/-- The packed array at the region is the concatenation of the host's operations. -/
theorem v19 (c : Dev nD) : V m c main_v19 = zcat (m ((c : Thread nD τ).loc main_arg3)) (m ((c : Thread nD τ).loc main_arg4)) := by
  refine Cert.HostRead.after_family (hostOps0 (F := Ideal)) (hostOps0.take 26) (hostOps0.drop 27) _ ![main_v0, main_v9, main_v18] main_v19 _ _ _ rfl
    (List.forall_iff_forall_mem.mp ?_) (fun k => match k with
      | ⟨0, _⟩ => blank
      | ⟨1, _⟩ => gate (m ((c : Thread nD τ).loc main_arg3))
      | ⟨2, _⟩ => gate (m ((c : Thread nD τ).loc main_arg4))) (fun k => match k with
      | ⟨0, _⟩ => ?_
      | ⟨1, _⟩ => ?_
      | ⟨2, _⟩ => ?_)
  · simp only [hostOps0, List.drop, List.Forall, StableHlo.reshape_writes, StableHlo.unary_writes, Finset.mem_singleton]
    repeat' apply And.intro
    all_goals exact StableHlo.devRef_ne_of_ne (by decide)
  · show StableHlo.after _ _ (Proc.devRef .tc main_v0) = _
    simp only [hostOps0, List.take]
    after_results_simp
    rfl
  · show StableHlo.after _ _ (Proc.devRef .tc main_v9) = _
    simp only [hostOps0, List.take]
    after_results_simp
    rfl
  · show StableHlo.after _ _ (Proc.devRef .tc main_v18) = _
    simp only [hostOps0, List.take]
    after_results_simp
    rfl

/-- The recurrent branch's gate columns of the packed array. -/
theorem zcat_r (a3 a4 : FVec Ideal S8x4096x1024 .f32) (r : Fin 32768) (k : Fin 1024) :
    zcat a3 a4 (ix2 r ⟨6144 + k.val, by omega⟩) = Ideal.div 1 (1 + Ideal.exp (-a3 (ix3 ⟨r / 4096, by omega⟩ ⟨r % 4096, by omega⟩ k))) := by
  pointwise [zcat, gate, blank]
  rw [← Cert.Scalar.half_tanh]

/-- The attention branch's gate columns of the packed array. -/
theorem zcat_a (a3 a4 : FVec Ideal S8x4096x1024 .f32) (r : Fin 32768) (k : Fin 1024) :
    zcat a3 a4 (ix2 r ⟨7168 + k.val, by omega⟩) = Ideal.div 1 (1 + Ideal.exp (-a4 (ix3 ⟨r / 4096, by omega⟩ ⟨r % 4096, by omega⟩ k))) := by
  pointwise [zcat, gate, blank]
  rw [dif_neg (by omega), dif_neg (by omega), ← Cert.Scalar.half_tanh]
  have e : (⟨7168 + k.val - 6144 - 1024, by omega⟩ : Fin 1024) = k := Fin.ext (by show 7168 + k.val - 6144 - 1024 = k.val; omega)
  rw [e]

/-- A flattened row is the row of its block and position. -/
theorem flat_row (X : FVec Ideal S8x4096x1024 .f32) (r : Fin 32768) (k : Fin 1024) :
    shapeCast S32768x1024 X shapeCasts_S8x4096x1024_S32768x1024 (ix2 r k) = X (ix3 ⟨r.val / 4096, by omega⟩ ⟨r.val % 4096, by omega⟩ k) := by
  pointwise

/-- A vector laid out as one row. -/
theorem one_row (X : FVec Ideal S1024 .f32) (k : Fin 1024) :
    shapeCast S1x1024 X shapeCasts_S1024_S1x1024 (ix2 0 k) = X (ix1 k) := by
  pointwise

/-- Argument 0 at the region, by flattened row. -/
theorem v20 (c : Dev nD) (r : Fin 32768) (k : Fin 1024) : V m c main_v20 (ix2 r k) = (m ((c : Thread nD τ).loc main_arg0) : FVec Ideal S8x4096x1024 .f32) (ix3 ⟨r.val / 4096, by omega⟩ ⟨r.val % 4096, by omega⟩ k) := by
  refine Eq.trans (congrFun ?_ _) (flat_row _ r k)
  entry_read; rfl

/-- Argument 1 at the region, by flattened row. -/
theorem v22 (c : Dev nD) (r : Fin 32768) (k : Fin 1024) : V m c main_v22 (ix2 r k) = (m ((c : Thread nD τ).loc main_arg1) : FVec Ideal S8x4096x1024 .f32) (ix3 ⟨r.val / 4096, by omega⟩ ⟨r.val % 4096, by omega⟩ k) := by
  refine Eq.trans (congrFun ?_ _) (flat_row _ r k)
  entry_read; rfl

/-- Argument 2 at the region, by flattened row. -/
theorem v24 (c : Dev nD) (r : Fin 32768) (k : Fin 1024) : V m c main_v24 (ix2 r k) = (m ((c : Thread nD τ).loc main_arg2) : FVec Ideal S8x4096x1024 .f32) (ix3 ⟨r.val / 4096, by omega⟩ ⟨r.val % 4096, by omega⟩ k) := by
  refine Eq.trans (congrFun ?_ _) (flat_row _ r k)
  entry_read; rfl

/-- Argument 5 at the region. -/
theorem v25 (c : Dev nD) : V m c main_v25 = m ((c : Thread nD τ).loc main_arg5) := by
  entry_read; rfl

/-- Argument 6 at the region. -/
theorem v26 (c : Dev nD) : V m c main_v26 = m ((c : Thread nD τ).loc main_arg6) := by
  entry_read; rfl

/-- Argument 7 at the region. -/
theorem v27 (c : Dev nD) : V m c main_v27 = m ((c : Thread nD τ).loc main_arg7) := by
  entry_read; rfl

/-- The normalisation's weights at the region. -/
theorem v28 (c : Dev nD) (k : Fin 1024) : V m c main_v28 (ix2 0 k) = (m ((c : Thread nD τ).loc main_arg8) : FVec Ideal S1024 .f32) (ix1 k) := by
  refine Eq.trans (congrFun ?_ _) (one_row _ k)
  entry_read; rfl

set_option maxHeartbeats 800000 in
/-- Window 0's block is the array's rows at the point. -/
theorem b0 (c : Dev nD) (t : Fin cfg0.N) (y : Fin 512) (k : Fin 1024) : iblk m c 0 t (ix2 y k) = V m c main_v20 (ix2 (⟨t.val * 512 + y.val, by have := t.isLt; have : t.val < 64 := t.isLt; omega⟩ : Fin 32768) k) := by
  blk_ext [iblk, idx t]

set_option maxHeartbeats 800000 in
/-- Window 1's block is the array's rows at the point. -/
theorem b1 (c : Dev nD) (t : Fin cfg0.N) (y : Fin 512) (k : Fin 1024) : iblk m c 1 t (ix2 y k) = V m c main_v22 (ix2 (⟨t.val * 512 + y.val, by have := t.isLt; have : t.val < 64 := t.isLt; omega⟩ : Fin 32768) k) := by
  blk_ext [iblk, idx t]

set_option maxHeartbeats 800000 in
/-- Window 2's block is the array's rows at the point. -/
theorem b2 (c : Dev nD) (t : Fin cfg0.N) (y : Fin 512) (k : Fin 1024) : iblk m c 2 t (ix2 y k) = V m c main_v24 (ix2 (⟨t.val * 512 + y.val, by have := t.isLt; have : t.val < 64 := t.isLt; omega⟩ : Fin 32768) k) := by
  blk_ext [iblk, idx t]

set_option maxHeartbeats 800000 in
/-- Window 3's block is the array's rows at the point. -/
theorem b3 (c : Dev nD) (t : Fin cfg0.N) (y : Fin 512) (k : Fin 1024) : iblk m c 3 t (ix2 y k) = V m c main_v19 (ix2 (⟨t.val * 512 + y.val, by have := t.isLt; have : t.val < 64 := t.isLt; omega⟩ : Fin 32768) (⟨6144 + k.val, by omega⟩ : Fin 8192)) := by
  blk_ext [iblk, idx t]

set_option maxHeartbeats 800000 in
/-- Window 4's block is the array's rows at the point. -/
theorem b4 (c : Dev nD) (t : Fin cfg0.N) (y : Fin 512) (k : Fin 1024) : iblk m c 4 t (ix2 y k) = V m c main_v19 (ix2 (⟨t.val * 512 + y.val, by have := t.isLt; have : t.val < 64 := t.isLt; omega⟩ : Fin 32768) (⟨7168 + k.val, by omega⟩ : Fin 8192)) := by
  blk_ext [iblk, idx t]

set_option maxHeartbeats 800000 in
/-- Window 5's block is its whole array. -/
theorem b5 (c : Dev nD) (t : Fin cfg0.N) (y k : Fin 1024) : iblk m c 5 t (ix2 y k) = V m c main_v25 (ix2 y k) := by
  blk_ext [iblk, idx t]

set_option maxHeartbeats 800000 in
/-- Window 6's block is its whole array. -/
theorem b6 (c : Dev nD) (t : Fin cfg0.N) (y k : Fin 1024) : iblk m c 6 t (ix2 y k) = V m c main_v26 (ix2 y k) := by
  blk_ext [iblk, idx t]

set_option maxHeartbeats 800000 in
/-- Window 7's block is its whole array. -/
theorem b7 (c : Dev nD) (t : Fin cfg0.N) (y k : Fin 1024) : iblk m c 7 t (ix2 y k) = V m c main_v27 (ix2 y k) := by
  blk_ext [iblk, idx t]

set_option maxHeartbeats 800000 in
/-- Window 8's block is its whole array. -/
theorem b8 (c : Dev nD) (t : Fin cfg0.N) (k : Fin 1024) : iblk m c 8 t (ix2 0 k) = V m c main_v28 (ix2 0 k) := by
  blk_ext [iblk, idx t]

set_option maxHeartbeats 800000 in
/-- What the body stores at every point is the reference's block. -/
theorem point (c : Dev nD) (t : Fin cfg0.N) (y : S512x1024.Idx) :
    k0_pay1 (k0_pay2 (iblk m c 1 t) (iblk m c 5 t) (iblk m c 2 t) (iblk m c 6 t) (iblk m c 3 t) (iblk m c 4 t) (iblk m c 0 t) (iblk m c 7 t)) (iblk m c 8 t) y
    = Cert.MergeRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have ht : t.val < 64 := t.isLt
  idx_vars y
  have e : ((cfg0.win 9).blk t).view.emb (ix2 y0 y1) = ix2 (⟨t.val * 512 + y0.val, by omega⟩ : Fin 32768) y1 := by
    blk_ext [idx t]
  rw [e, Cert.MergeRefIdeal.Value.REF_at]
  refine (pay _ _ _ _ _ _ _ _ _ y0 y1).trans ?_
  congr 1
  · congr 1
    · funext k; exact (b0 m c t y0 k).trans (v20 m c _ k)
    · funext k; exact (b1 m c t y0 k).trans (v22 m c _ k)
    · funext k; exact (b2 m c t y0 k).trans (v24 m c _ k)
    · funext k; exact (b3 m c t y0 k).trans ((congrFun (v19 m c) _).trans (zcat_r _ _ _ k))
    · funext k; exact (b4 m c t y0 k).trans ((congrFun (v19 m c) _).trans (zcat_a _ _ _ k))
    · funext k x; exact (b5 m c t k x).trans (congrFun (v25 m c) _)
    · funext k x; exact (b6 m c t k x).trans (congrFun (v26 m c) _)
    · funext k x; exact (b7 m c t k x).trans (congrFun (v27 m c) _)
  · funext k; exact (b8 m c t k).trans (v28 m c k)

/-- The merge kernel's result array is the reference's result. -/
theorem final (c : Dev nD) : (dats m 0 c).arrAt 9 cfg0.N = Cert.MergeRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]; frame_out
  exact point m c t y

end Cert.MergeIdeal.Value
-- ==== Proof.MergeSValue.lean ====
module

public import proofs.«01_k».proof.Proof.Gen.MergeSIdeal.Value
public import proofs.«01_k».proof.Proof.Gen.MergeSRefIdeal.Run
public import proofs.«01_k».proof.Proof.Sigmoid
public import proofs.«01_k».proof.Proof.HostRead
public import proofs.«01_k».proof.Proof.MergeValue

@[expose] public section

set_option maxRecDepth 16384

noncomputable section

open Idealize.ShloMosaic Idealize.ShloMosaic.TcCoe Idealize.SL.Sem
open Idealize.ShloMosaic.Pipeline (Dat)

namespace Cert.MergeSRefIdeal.Value

open Cert.MergeSRefIdeal Cert.MergeSRefIdeal.Gen

/-- The reference's result as a term of its arguments. -/
def REF (a0 a1 a2 a3 a4 : FVec Ideal S16x64x1024 .f32) (a5 a6 a7 : FVec Ideal S1024x1024 .f32) (a8 : FVec Ideal S1024 .f32) : FVec Ideal S1024x1024 .f32 :=
  shapeCast _ (mulf (mulf (addf a0 (Host.dotGeneral dot_S16x64x1024_S1024x1024_S16x64x1024_2_0_01_1_n_n none (addf (mulf (Host.divf (broadcastInDim S16x64x1024 ![] bcast_S_S16x64x1024 (constant S_ .f32 0x3F800000#32)) (addf (broadcastInDim S16x64x1024 ![] bcast_S_S16x64x1024 (constant S_ .f32 0x3F800000#32)) (Host.exp (Host.negf a3)))) (Host.dotGeneral dot_S16x64x1024_S1024x1024_S16x64x1024_2_0_01_1_n_n none a1 a5)) (mulf (Host.divf (broadcastInDim S16x64x1024 ![] bcast_S_S16x64x1024 (constant S_ .f32 0x3F800000#32)) (addf (broadcastInDim S16x64x1024 ![] bcast_S_S16x64x1024 (constant S_ .f32 0x3F800000#32)) (Host.exp (Host.negf a4)))) (Host.dotGeneral dot_S16x64x1024_S1024x1024_S16x64x1024_2_0_01_1_n_n none a2 a6))) a7)) (broadcastInDim S16x64x1024 ![0, 1, 2] bcast_S16x64x1_S16x64x1024_0_1_2 (Host.rsqrt (addf (Host.divf (broadcastInDim S16x64x1 ![0, 1] bcast_S16x64_S16x64x1_0_1 (Host.reduceAdd (mulf (addf a0 (Host.dotGeneral dot_S16x64x1024_S1024x1024_S16x64x1024_2_0_01_1_n_n none (addf (mulf (Host.divf (broadcastInDim S16x64x1024 ![] bcast_S_S16x64x1024 (constant S_ .f32 0x3F800000#32)) (addf (broadcastInDim S16x64x1024 ![] bcast_S_S16x64x1024 (constant S_ .f32 0x3F800000#32)) (Host.exp (Host.negf a3)))) (Host.dotGeneral dot_S16x64x1024_S1024x1024_S16x64x1024_2_0_01_1_n_n none a1 a5)) (mulf (Host.divf (broadcastInDim S16x64x1024 ![] bcast_S_S16x64x1024 (constant S_ .f32 0x3F800000#32)) (addf (broadcastInDim S16x64x1024 ![] bcast_S_S16x64x1024 (constant S_ .f32 0x3F800000#32)) (Host.exp (Host.negf a4)))) (Host.dotGeneral dot_S16x64x1024_S1024x1024_S16x64x1024_2_0_01_1_n_n none a2 a6))) a7)) (addf a0 (Host.dotGeneral dot_S16x64x1024_S1024x1024_S16x64x1024_2_0_01_1_n_n none (addf (mulf (Host.divf (broadcastInDim S16x64x1024 ![] bcast_S_S16x64x1024 (constant S_ .f32 0x3F800000#32)) (addf (broadcastInDim S16x64x1024 ![] bcast_S_S16x64x1024 (constant S_ .f32 0x3F800000#32)) (Host.exp (Host.negf a3)))) (Host.dotGeneral dot_S16x64x1024_S1024x1024_S16x64x1024_2_0_01_1_n_n none a1 a5)) (mulf (Host.divf (broadcastInDim S16x64x1024 ![] bcast_S_S16x64x1024 (constant S_ .f32 0x3F800000#32)) (addf (broadcastInDim S16x64x1024 ![] bcast_S_S16x64x1024 (constant S_ .f32 0x3F800000#32)) (Host.exp (Host.negf a4)))) (Host.dotGeneral dot_S16x64x1024_S1024x1024_S16x64x1024_2_0_01_1_n_n none a2 a6))) a7))) (constant S_ .f32 0x00000000#32) reducesTo_S16x64x1024_S16x64_d2 h_S_)) (broadcastInDim S16x64x1 ![] bcast_S_S16x64x1 (constant S_ .f32 0x44800000#32))) (broadcastInDim S16x64x1 ![] bcast_S_S16x64x1 (constant S_ .f32 0x358637BD#32)))))) (broadcastInDim S16x64x1024 ![0, 1, 2] bcast_S1x1x1024_S16x64x1024_0_1_2 (broadcastInDim S1x1x1024 ![2] bcast_S1024_S1x1x1024_2 a8))) shapeCasts_S16x64x1024_S1024x1024

/-- The reference's result at row `r`, column `l`. -/
theorem REF_at (a0 a1 a2 a3 a4 : FVec Ideal S16x64x1024 .f32) (a5 a6 a7 : FVec Ideal S1024x1024 .f32) (a8 : FVec Ideal S1024 .f32) (r : Fin 1024) (l : Fin 1024) :
    REF a0 a1 a2 a3 a4 a5 a6 a7 a8 (ix2 r l) =
      Cert.MergeRow.norm (Cert.MergeRow.mix (fun k => a0 (ix3 ⟨r / 64, by omega⟩ ⟨r % 64, by omega⟩ k))
        (fun k => a1 (ix3 ⟨r / 64, by omega⟩ ⟨r % 64, by omega⟩ k)) (fun k => a2 (ix3 ⟨r / 64, by omega⟩ ⟨r % 64, by omega⟩ k))
        (fun k => Ideal.div 1 (1 + Ideal.exp (-a3 (ix3 ⟨r / 64, by omega⟩ ⟨r % 64, by omega⟩ k)))) (fun k => Ideal.div 1 (1 + Ideal.exp (-a4 (ix3 ⟨r / 64, by omega⟩ ⟨r % 64, by omega⟩ k))))
        (fun k x => a5 (ix2 k x)) (fun k x => a6 (ix2 k x)) (fun k x => a7 (ix2 k x))) (fun k => a8 (ix1 k)) l := by
  pointwise [REF]
  rfl

end Cert.MergeSRefIdeal.Value

namespace Cert.MergeSIdeal.Value

open Cert.MergeSIdeal Cert.MergeSIdeal.Gen

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0] ∧ win0_3.index t = ![t.val, 6]
    ∧ win0_4.index t = ![t.val, 7] ∧ win0_5.index t = ![0, 0] ∧ win0_6.index t = ![0, 0] ∧ win0_7.index t = ![0, 0] ∧ win0_8.index t = ![0, 0] ∧ win0_9.index t = ![t.val, 0] :=
  (by decide +kernel : ∀ t : Fin grid0.N, _)

/-- What the body stores, at row `r` and column `l` of its block. -/
theorem pay (P0 : Vec Ideal S512x1024 .bf16) (P1 : Vec Ideal S1024x1024 .bf16) (P2 : Vec Ideal S512x1024 .bf16) (P3 : Vec Ideal S1024x1024 .bf16) (P4 : Vec Ideal S512x1024 .bf16) (P5 : Vec Ideal S512x1024 .bf16) (P6 : Vec Ideal S512x1024 .f32) (P7 : Vec Ideal S1024x1024 .bf16) (P8 : Vec Ideal S1x1024 .f32)
    (r : Fin 512) (l : Fin 1024) : k0_pay1 (k0_pay2 P0 P1 P2 P3 P4 P5 P6 P7) P8 (ix2 r l) =
      Cert.MergeRow.norm (Cert.MergeRow.mix (fun k => P6 (ix2 r k)) (fun k => P0 (ix2 r k)) (fun k => P2 (ix2 r k)) (fun k => P4 (ix2 r k)) (fun k => P5 (ix2 r k))
        (fun k x => P1 (ix2 k x)) (fun k x => P3 (ix2 k x)) (fun k x => P7 (ix2 k x))) (fun k => P8 (ix2 0 k)) l := by
  pointwise [k0_pay1, k0_pay2]
  rfl

/-- A gate column as the kernel forms it on the host: half the hyperbolic tangent of half the argument, plus a half. -/
def gate (a : FVec Ideal S16x64x1024 .f32) : FVec Ideal S1024x1024 .bf16 :=
  truncf .bf16 (addf (mulf (broadcastInDim S1024x1024 ![] bcast_S_S1024x1024 (constant S_ .f32 0x3F000000#32)) (Host.tanh (mulf (broadcastInDim S1024x1024 ![] bcast_S_S1024x1024 (constant S_ .f32 0x3F000000#32)) (shapeCast S1024x1024 a shapeCasts_S16x64x1024_S1024x1024)))) (broadcastInDim S1024x1024 ![] bcast_S_S1024x1024 (constant S_ .f32 0x3F000000#32))) bitsLt_bf16_f32

/-- The columns of the packed array that the merge does not read. -/
def blank : FVec Ideal S1024x6144 .bf16 := broadcastInDim S1024x6144 ![] bcast_S_S1024x6144 (constant S_ .bf16 0x0000#16)

/-- The packed array: unread columns, then the two branches' gates. -/
def zcat (a3 a4 : FVec Ideal S16x64x1024 .f32) : FVec Ideal S1024x8192 .bf16 :=
  concatenate S1024x8192 1 [⟨S1024x6144, blank⟩, ⟨S1024x1024, gate a3⟩, ⟨S1024x1024, gate a4⟩] concatenates_S1024x6144_S1024x1024_S1024x1024_S1024x8192_d1

set_option maxHeartbeats 1600000 in
/-- The packed array at the region is the concatenation of the host's operations. -/
theorem v19 (c : Dev nD) : V m c main_v19 = zcat (m ((c : Thread nD τ).loc main_arg3)) (m ((c : Thread nD τ).loc main_arg4)) := by
  refine Cert.HostRead.after_family (hostOps0 (F := Ideal)) (hostOps0.take 26) (hostOps0.drop 27) _ ![main_v0, main_v9, main_v18] main_v19 _ _ _ rfl
    (List.forall_iff_forall_mem.mp ?_) (fun k => match k with
      | ⟨0, _⟩ => blank
      | ⟨1, _⟩ => gate (m ((c : Thread nD τ).loc main_arg3))
      | ⟨2, _⟩ => gate (m ((c : Thread nD τ).loc main_arg4))) (fun k => match k with
      | ⟨0, _⟩ => ?_
      | ⟨1, _⟩ => ?_
      | ⟨2, _⟩ => ?_)
  · simp only [hostOps0, List.drop, List.Forall, StableHlo.reshape_writes, StableHlo.unary_writes, Finset.mem_singleton]
    repeat' apply And.intro
    all_goals exact StableHlo.devRef_ne_of_ne (by decide)
  · show StableHlo.after _ _ (Proc.devRef .tc main_v0) = _
    simp only [hostOps0, List.take]
    after_results_simp
    rfl
  · show StableHlo.after _ _ (Proc.devRef .tc main_v9) = _
    simp only [hostOps0, List.take]
    after_results_simp
    rfl
  · show StableHlo.after _ _ (Proc.devRef .tc main_v18) = _
    simp only [hostOps0, List.take]
    after_results_simp
    rfl

/-- The recurrent branch's gate columns of the packed array. -/
theorem zcat_r (a3 a4 : FVec Ideal S16x64x1024 .f32) (r : Fin 1024) (k : Fin 1024) :
    zcat a3 a4 (ix2 r ⟨6144 + k.val, by omega⟩) = Ideal.div 1 (1 + Ideal.exp (-a3 (ix3 ⟨r / 64, by omega⟩ ⟨r % 64, by omega⟩ k))) := by
  pointwise [zcat, gate, blank]
  rw [← Cert.Scalar.half_tanh]

/-- The attention branch's gate columns of the packed array. -/
theorem zcat_a (a3 a4 : FVec Ideal S16x64x1024 .f32) (r : Fin 1024) (k : Fin 1024) :
    zcat a3 a4 (ix2 r ⟨7168 + k.val, by omega⟩) = Ideal.div 1 (1 + Ideal.exp (-a4 (ix3 ⟨r / 64, by omega⟩ ⟨r % 64, by omega⟩ k))) := by
  pointwise [zcat, gate, blank]
  rw [dif_neg (by omega), dif_neg (by omega), ← Cert.Scalar.half_tanh]
  have e : (⟨7168 + k.val - 6144 - 1024, by omega⟩ : Fin 1024) = k := Fin.ext (by show 7168 + k.val - 6144 - 1024 = k.val; omega)
  rw [e]

/-- A flattened row is the row of its block and position. -/
theorem flat_row (X : FVec Ideal S16x64x1024 .f32) (r : Fin 1024) (k : Fin 1024) :
    shapeCast S1024x1024 X shapeCasts_S16x64x1024_S1024x1024 (ix2 r k) = X (ix3 ⟨r.val / 64, by omega⟩ ⟨r.val % 64, by omega⟩ k) := by
  pointwise

/-- A vector laid out as one row. -/
theorem one_row (X : FVec Ideal S1024 .f32) (k : Fin 1024) :
    shapeCast S1x1024 X shapeCasts_S1024_S1x1024 (ix2 0 k) = X (ix1 k) := by
  pointwise

/-- Argument 0 at the region, by flattened row. -/
theorem v20 (c : Dev nD) (r : Fin 1024) (k : Fin 1024) : V m c main_v20 (ix2 r k) = (m ((c : Thread nD τ).loc main_arg0) : FVec Ideal S16x64x1024 .f32) (ix3 ⟨r.val / 64, by omega⟩ ⟨r.val % 64, by omega⟩ k) := by
  refine Eq.trans (congrFun ?_ _) (flat_row _ r k)
  entry_read; rfl

/-- Argument 1 at the region, by flattened row. -/
theorem v22 (c : Dev nD) (r : Fin 1024) (k : Fin 1024) : V m c main_v22 (ix2 r k) = (m ((c : Thread nD τ).loc main_arg1) : FVec Ideal S16x64x1024 .f32) (ix3 ⟨r.val / 64, by omega⟩ ⟨r.val % 64, by omega⟩ k) := by
  refine Eq.trans (congrFun ?_ _) (flat_row _ r k)
  entry_read; rfl

/-- Argument 2 at the region, by flattened row. -/
theorem v24 (c : Dev nD) (r : Fin 1024) (k : Fin 1024) : V m c main_v24 (ix2 r k) = (m ((c : Thread nD τ).loc main_arg2) : FVec Ideal S16x64x1024 .f32) (ix3 ⟨r.val / 64, by omega⟩ ⟨r.val % 64, by omega⟩ k) := by
  refine Eq.trans (congrFun ?_ _) (flat_row _ r k)
  entry_read; rfl

/-- Argument 5 at the region. -/
theorem v25 (c : Dev nD) : V m c main_v25 = m ((c : Thread nD τ).loc main_arg5) := by
  entry_read; rfl

/-- Argument 6 at the region. -/
theorem v26 (c : Dev nD) : V m c main_v26 = m ((c : Thread nD τ).loc main_arg6) := by
  entry_read; rfl

/-- Argument 7 at the region. -/
theorem v27 (c : Dev nD) : V m c main_v27 = m ((c : Thread nD τ).loc main_arg7) := by
  entry_read; rfl

/-- The normalisation's weights at the region. -/
theorem v28 (c : Dev nD) (k : Fin 1024) : V m c main_v28 (ix2 0 k) = (m ((c : Thread nD τ).loc main_arg8) : FVec Ideal S1024 .f32) (ix1 k) := by
  refine Eq.trans (congrFun ?_ _) (one_row _ k)
  entry_read; rfl

set_option maxHeartbeats 800000 in
/-- Window 0's block is the array's rows at the point. -/
theorem b0 (c : Dev nD) (t : Fin cfg0.N) (y : Fin 512) (k : Fin 1024) : iblk m c 0 t (ix2 y k) = V m c main_v20 (ix2 (⟨t.val * 512 + y.val, by have := t.isLt; have : t.val < 2 := t.isLt; omega⟩ : Fin 1024) k) := by
  blk_ext [iblk, idx t]

set_option maxHeartbeats 800000 in
/-- Window 1's block is the array's rows at the point. -/
theorem b1 (c : Dev nD) (t : Fin cfg0.N) (y : Fin 512) (k : Fin 1024) : iblk m c 1 t (ix2 y k) = V m c main_v22 (ix2 (⟨t.val * 512 + y.val, by have := t.isLt; have : t.val < 2 := t.isLt; omega⟩ : Fin 1024) k) := by
  blk_ext [iblk, idx t]

set_option maxHeartbeats 800000 in
/-- Window 2's block is the array's rows at the point. -/
theorem b2 (c : Dev nD) (t : Fin cfg0.N) (y : Fin 512) (k : Fin 1024) : iblk m c 2 t (ix2 y k) = V m c main_v24 (ix2 (⟨t.val * 512 + y.val, by have := t.isLt; have : t.val < 2 := t.isLt; omega⟩ : Fin 1024) k) := by
  blk_ext [iblk, idx t]

set_option maxHeartbeats 800000 in
/-- Window 3's block is the array's rows at the point. -/
theorem b3 (c : Dev nD) (t : Fin cfg0.N) (y : Fin 512) (k : Fin 1024) : iblk m c 3 t (ix2 y k) = V m c main_v19 (ix2 (⟨t.val * 512 + y.val, by have := t.isLt; have : t.val < 2 := t.isLt; omega⟩ : Fin 1024) (⟨6144 + k.val, by omega⟩ : Fin 8192)) := by
  blk_ext [iblk, idx t]

set_option maxHeartbeats 800000 in
/-- Window 4's block is the array's rows at the point. -/
theorem b4 (c : Dev nD) (t : Fin cfg0.N) (y : Fin 512) (k : Fin 1024) : iblk m c 4 t (ix2 y k) = V m c main_v19 (ix2 (⟨t.val * 512 + y.val, by have := t.isLt; have : t.val < 2 := t.isLt; omega⟩ : Fin 1024) (⟨7168 + k.val, by omega⟩ : Fin 8192)) := by
  blk_ext [iblk, idx t]

set_option maxHeartbeats 800000 in
/-- Window 5's block is its whole array. -/
theorem b5 (c : Dev nD) (t : Fin cfg0.N) (y k : Fin 1024) : iblk m c 5 t (ix2 y k) = V m c main_v25 (ix2 y k) := by
  blk_ext [iblk, idx t]

set_option maxHeartbeats 800000 in
/-- Window 6's block is its whole array. -/
theorem b6 (c : Dev nD) (t : Fin cfg0.N) (y k : Fin 1024) : iblk m c 6 t (ix2 y k) = V m c main_v26 (ix2 y k) := by
  blk_ext [iblk, idx t]

set_option maxHeartbeats 800000 in
/-- Window 7's block is its whole array. -/
theorem b7 (c : Dev nD) (t : Fin cfg0.N) (y k : Fin 1024) : iblk m c 7 t (ix2 y k) = V m c main_v27 (ix2 y k) := by
  blk_ext [iblk, idx t]

set_option maxHeartbeats 800000 in
/-- Window 8's block is its whole array. -/
theorem b8 (c : Dev nD) (t : Fin cfg0.N) (k : Fin 1024) : iblk m c 8 t (ix2 0 k) = V m c main_v28 (ix2 0 k) := by
  blk_ext [iblk, idx t]

set_option maxHeartbeats 800000 in
/-- What the body stores at every point is the reference's block. -/
theorem point (c : Dev nD) (t : Fin cfg0.N) (y : S512x1024.Idx) :
    k0_pay1 (k0_pay2 (iblk m c 1 t) (iblk m c 5 t) (iblk m c 2 t) (iblk m c 6 t) (iblk m c 3 t) (iblk m c 4 t) (iblk m c 0 t) (iblk m c 7 t)) (iblk m c 8 t) y
    = Cert.MergeSRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  have ht : t.val < 2 := t.isLt
  idx_vars y
  have e : ((cfg0.win 9).blk t).view.emb (ix2 y0 y1) = ix2 (⟨t.val * 512 + y0.val, by omega⟩ : Fin 1024) y1 := by
    blk_ext [idx t]
  rw [e, Cert.MergeSRefIdeal.Value.REF_at]
  refine (pay _ _ _ _ _ _ _ _ _ y0 y1).trans ?_
  congr 1
  · congr 1
    · funext k; exact (b0 m c t y0 k).trans (v20 m c _ k)
    · funext k; exact (b1 m c t y0 k).trans (v22 m c _ k)
    · funext k; exact (b2 m c t y0 k).trans (v24 m c _ k)
    · funext k; exact (b3 m c t y0 k).trans ((congrFun (v19 m c) _).trans (zcat_r _ _ _ k))
    · funext k; exact (b4 m c t y0 k).trans ((congrFun (v19 m c) _).trans (zcat_a _ _ _ k))
    · funext k x; exact (b5 m c t k x).trans (congrFun (v25 m c) _)
    · funext k x; exact (b6 m c t k x).trans (congrFun (v26 m c) _)
    · funext k x; exact (b7 m c t k x).trans (congrFun (v27 m c) _)
  · funext k; exact (b8 m c t k).trans (v28 m c k)

/-- The merge kernel's result array is the reference's result. -/
theorem final (c : Dev nD) : (dats m 0 c).arrAt 9 cfg0.N = Cert.MergeSRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]; frame_out
  exact point m c t y

end Cert.MergeSIdeal.Value
-- ==== Proof.InprojRun.lean ====
module

public import proofs.«01_k».proof.Proof.Gen.InprojIdeal.Frame
public import proofs.«01_k».proof.Proof.Gen.InprojIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InprojIdeal.Inp

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word that tells whether a point is the first of its row tile, where the rows are normalised. -/
def firstCond (i : grid0.Coords) : BitVec 1 :=
  Scalar.cmpi .ne (Scalar.extui (Scalar.cmpi .eq (BitVec.ofNat 32 (i 1).val) 0#32)) 0#32

section
variable (c : Dev nD) (i : grid0.Coords)
variable (arg2 : Memref sig .tc .vmem S512x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x1024 .bf16) (harg7 : arg7.IsWhole)
  (arg8 : Memref sig .tc .vmem S512x1024 .f32) (harg8 : arg8.IsWhole)
  (arg9 : Memref sig .tc .vmem S512x1024 .bf16) (harg9 : arg9.IsWhole)
variable (x0 : Vec F S512x1024 .f32) (x1 : Vec F S1x1024 .f32) (x2 : Vec F S1024x1024 .bf16)
  (x3 : Vec F S512x128 .f32) (x4 : Vec F S512x128 .f32)

set_option maxHeartbeats 2000000 in
/-- A row tile's first point: the rows are normalised into the scratch buffer, multiplied by the weights, and the
    product is stored; the pieces written to the output and to the scratch buffer, with the proof that the body runs. -/
noncomputable def runNorm
    (h1 : firstCond i = 1#1) (h2 : k0_cond2 i = 1#1) (h3 : ¬ (k0_cond3 i = 1#1)) (h4 : ¬ (k0_cond4 i = 1#1)) (h5 : ¬ (k0_cond5 i = 1#1)) (h6 : ¬ (k0_cond6 i = 1#1)) (h7 : ¬ (k0_cond7 i = 1#1)) :
    { L : List (View.Piece (Elt F) S512x1024 .bf16) × List (View.Piece (Elt F) S512x1024 .bf16) //
      ∀ (y : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ (∃ d, owns (c : Thread nD τ) arg7 fullShare d) ∗ owns (c : Thread nD τ) arg8 fullShare y ∗ (∃ d, owns (c : Thread nD τ) arg9 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ f, arg7.view.loc (c : Thread nD τ) ↦[arg7.view.set]{fullShare} arg7.view.writes (Elt F) f L.1) ∗ owns (c : Thread nD τ) arg8 fullShare y ∗ (∃ f, arg9.view.loc (c : Thread nD τ) ↦[arg9.view.set]{fullShare} arg9.view.writes (Elt F) f L.2)) -∗ K PUnit.unit))
        ⊢ wp frame (wpE (defs₀ (F := F)) Variants.none c none) E (cc0_inproj i
            arg2 harg2 arg3 harg3 arg4 harg4 arg5 harg5 arg6 harg6 arg7 harg7 arg8 harg8 arg9 harg9) K } := by
  refine ⟨⟨?_, ?_⟩, fun y E K => ?run⟩
  case run =>
    simp only [cc0_inproj_eq_skeleton]; unfold cc0_inproj_skel
    simp only [k0_part1_eq_skeleton, k0_part2_eq_skeleton, k0_part3_eq_skeleton, k0_part4_eq_skeleton,
      k0_part5_eq_skeleton, k0_part6_eq_skeleton]
    unfold k0_part1_skel k0_part2_skel k0_part3_skel k0_part4_skel k0_part5_skel k0_part6_skel
    unfold owns
    iintro ⟨⟨%f0, %hf0, H0⟩, ⟨%f1, %hf1, H1⟩, ⟨%f2, %hf2, H2⟩, ⟨%f3, %hf3, H3⟩, ⟨%f4, %hf4, H4⟩,
      ⟨%d5, %f5, -, H5⟩, ⟨%f6, %hf6, H6⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg8.eq_unread hf6
    sl_exec (disch := first | sl_exact h1 | sl_exact h2 | sl_exact h3 | sl_exact h4 | sl_exact h5 | sl_exact h6 | sl_exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact H7

set_option maxHeartbeats 2000000 in
/-- A point whose column group is gated: the product times its own logistic function is stored. -/
noncomputable def runSilu (xs : Vec F S512x1024 .bf16)
    (h1 : ¬ (firstCond i = 1#1)) (h2 : ¬ (k0_cond2 i = 1#1)) (h3 : k0_cond3 i = 1#1) (h4 : ¬ (k0_cond4 i = 1#1)) (h5 : ¬ (k0_cond5 i = 1#1)) (h6 : ¬ (k0_cond6 i = 1#1)) (h7 : ¬ (k0_cond7 i = 1#1)) :
    { L : List (View.Piece (Elt F) S512x1024 .bf16) //
      ∀ (y : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ (∃ d, owns (c : Thread nD τ) arg7 fullShare d) ∗ owns (c : Thread nD τ) arg8 fullShare y ∗ owns (c : Thread nD τ) arg9 fullShare xs
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ f, arg7.view.loc (c : Thread nD τ) ↦[arg7.view.set]{fullShare} arg7.view.writes (Elt F) f L) ∗ owns (c : Thread nD τ) arg8 fullShare y ∗ owns (c : Thread nD τ) arg9 fullShare xs) -∗ K PUnit.unit))
        ⊢ wp frame (wpE (defs₀ (F := F)) Variants.none c none) E (cc0_inproj i
            arg2 harg2 arg3 harg3 arg4 harg4 arg5 harg5 arg6 harg6 arg7 harg7 arg8 harg8 arg9 harg9) K } := by
  refine ⟨?_, fun y E K => ?run⟩
  case run =>
    simp only [cc0_inproj_eq_skeleton]; unfold cc0_inproj_skel
    simp only [k0_part1_eq_skeleton, k0_part2_eq_skeleton, k0_part3_eq_skeleton, k0_part4_eq_skeleton,
      k0_part5_eq_skeleton, k0_part6_eq_skeleton]
    unfold k0_part1_skel k0_part2_skel k0_part3_skel k0_part4_skel k0_part5_skel k0_part6_skel
    unfold owns
    iintro ⟨⟨%f0, %hf0, H0⟩, ⟨%f1, %hf1, H1⟩, ⟨%f2, %hf2, H2⟩, ⟨%f3, %hf3, H3⟩, ⟨%f4, %hf4, H4⟩,
      ⟨%d5, %f5, -, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg8.eq_unread hf6
    obtain rfl := harg9.eq_unread hf7
    sl_exec (disch := first | sl_exact h1 | sl_exact h2 | sl_exact h3 | sl_exact h4 | sl_exact h5 | sl_exact h6 | sl_exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact H7

set_option maxHeartbeats 2000000 in
/-- The query point: eight slabs are rotated by the position's angle, scaled and stored. -/
noncomputable def runRotQ (xs : Vec F S512x1024 .bf16)
    (h1 : ¬ (firstCond i = 1#1)) (h2 : ¬ (k0_cond2 i = 1#1)) (h3 : ¬ (k0_cond3 i = 1#1)) (h4 : k0_cond4 i = 1#1) (h5 : ¬ (k0_cond5 i = 1#1)) (h6 : ¬ (k0_cond6 i = 1#1)) (h7 : ¬ (k0_cond7 i = 1#1)) :
    { L : List (View.Piece (Elt F) S512x1024 .bf16) //
      ∀ (y : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ (∃ d, owns (c : Thread nD τ) arg7 fullShare d) ∗ owns (c : Thread nD τ) arg8 fullShare y ∗ owns (c : Thread nD τ) arg9 fullShare xs
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ f, arg7.view.loc (c : Thread nD τ) ↦[arg7.view.set]{fullShare} arg7.view.writes (Elt F) f L) ∗ owns (c : Thread nD τ) arg8 fullShare y ∗ owns (c : Thread nD τ) arg9 fullShare xs) -∗ K PUnit.unit))
        ⊢ wp frame (wpE (defs₀ (F := F)) Variants.none c none) E (cc0_inproj i
            arg2 harg2 arg3 harg3 arg4 harg4 arg5 harg5 arg6 harg6 arg7 harg7 arg8 harg8 arg9 harg9) K } := by
  refine ⟨?_, fun y E K => ?run⟩
  case run =>
    simp only [cc0_inproj_eq_skeleton]; unfold cc0_inproj_skel
    simp only [k0_part1_eq_skeleton, k0_part2_eq_skeleton, k0_part3_eq_skeleton, k0_part4_eq_skeleton,
      k0_part5_eq_skeleton, k0_part6_eq_skeleton]
    unfold k0_part1_skel k0_part2_skel k0_part3_skel k0_part4_skel k0_part5_skel k0_part6_skel
    unfold owns
    iintro ⟨⟨%f0, %hf0, H0⟩, ⟨%f1, %hf1, H1⟩, ⟨%f2, %hf2, H2⟩, ⟨%f3, %hf3, H3⟩, ⟨%f4, %hf4, H4⟩,
      ⟨%d5, %f5, -, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg8.eq_unread hf6
    obtain rfl := harg9.eq_unread hf7
    sl_exec (disch := first | sl_exact h1 | sl_exact h2 | sl_exact h3 | sl_exact h4 | sl_exact h5 | sl_exact h6 | sl_exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact H7

set_option maxHeartbeats 2000000 in
/-- The key point: eight slabs are rotated by the position's angle and stored, in both outputs. -/
noncomputable def runRotK (xs : Vec F S512x1024 .bf16)
    (h1 : ¬ (firstCond i = 1#1)) (h2 : ¬ (k0_cond2 i = 1#1)) (h3 : ¬ (k0_cond3 i = 1#1)) (h4 : ¬ (k0_cond4 i = 1#1)) (h5 : k0_cond5 i = 1#1) (h6 : ¬ (k0_cond6 i = 1#1)) (h7 : ¬ (k0_cond7 i = 1#1)) :
    { L : List (View.Piece (Elt F) S512x1024 .bf16) × List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ (∃ d, owns (c : Thread nD τ) arg7 fullShare d) ∗ (∃ d, owns (c : Thread nD τ) arg8 fullShare d) ∗ owns (c : Thread nD τ) arg9 fullShare xs
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2) ∗ owns (c : Thread nD τ) arg9 fullShare xs) -∗ K PUnit.unit))
        ⊢ wp frame (wpE (defs₀ (F := F)) Variants.none c none) E (cc0_inproj i
            arg2 harg2 arg3 harg3 arg4 harg4 arg5 harg5 arg6 harg6 arg7 harg7 arg8 harg8 arg9 harg9) K } := by
  refine ⟨⟨?_, ?_⟩, fun E K => ?run⟩
  case run =>
    simp only [cc0_inproj_eq_skeleton]; unfold cc0_inproj_skel
    simp only [k0_part1_eq_skeleton, k0_part2_eq_skeleton, k0_part3_eq_skeleton, k0_part4_eq_skeleton,
      k0_part5_eq_skeleton, k0_part6_eq_skeleton]
    unfold k0_part1_skel k0_part2_skel k0_part3_skel k0_part4_skel k0_part5_skel k0_part6_skel
    unfold owns
    iintro ⟨⟨%f0, %hf0, H0⟩, ⟨%f1, %hf1, H1⟩, ⟨%f2, %hf2, H2⟩, ⟨%f3, %hf3, H3⟩, ⟨%f4, %hf4, H4⟩,
      ⟨%d5, %f5, -, H5⟩, ⟨%d6, %f6, -, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg9.eq_unread hf7
    sl_exec (disch := first | sl_exact h1 | sl_exact h2 | sl_exact h3 | sl_exact h4 | sl_exact h5 | sl_exact h6 | sl_exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; isplitr; · ipureintro; exact harg9.read_unread _
    iexact H7

set_option maxHeartbeats 2000000 in
/-- The value point: the product is stored in both outputs. -/
noncomputable def runVal (xs : Vec F S512x1024 .bf16)
    (h1 : ¬ (firstCond i = 1#1)) (h2 : ¬ (k0_cond2 i = 1#1)) (h3 : ¬ (k0_cond3 i = 1#1)) (h4 : ¬ (k0_cond4 i = 1#1)) (h5 : ¬ (k0_cond5 i = 1#1)) (h6 : k0_cond6 i = 1#1) (h7 : ¬ (k0_cond7 i = 1#1)) :
    { L : List (View.Piece (Elt F) S512x1024 .bf16) × List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ (∃ d, owns (c : Thread nD τ) arg7 fullShare d) ∗ (∃ d, owns (c : Thread nD τ) arg8 fullShare d) ∗ owns (c : Thread nD τ) arg9 fullShare xs
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2) ∗ owns (c : Thread nD τ) arg9 fullShare xs) -∗ K PUnit.unit))
        ⊢ wp frame (wpE (defs₀ (F := F)) Variants.none c none) E (cc0_inproj i
            arg2 harg2 arg3 harg3 arg4 harg4 arg5 harg5 arg6 harg6 arg7 harg7 arg8 harg8 arg9 harg9) K } := by
  refine ⟨⟨?_, ?_⟩, fun E K => ?run⟩
  case run =>
    simp only [cc0_inproj_eq_skeleton]; unfold cc0_inproj_skel
    simp only [k0_part1_eq_skeleton, k0_part2_eq_skeleton, k0_part3_eq_skeleton, k0_part4_eq_skeleton,
      k0_part5_eq_skeleton, k0_part6_eq_skeleton]
    unfold k0_part1_skel k0_part2_skel k0_part3_skel k0_part4_skel k0_part5_skel k0_part6_skel
    unfold owns
    iintro ⟨⟨%f0, %hf0, H0⟩, ⟨%f1, %hf1, H1⟩, ⟨%f2, %hf2, H2⟩, ⟨%f3, %hf3, H3⟩, ⟨%f4, %hf4, H4⟩,
      ⟨%d5, %f5, -, H5⟩, ⟨%d6, %f6, -, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg9.eq_unread hf7
    sl_exec (disch := first | sl_exact h1 | sl_exact h2 | sl_exact h3 | sl_exact h4 | sl_exact h5 | sl_exact h6 | sl_exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; isplitr; · ipureintro; exact harg9.read_unread _
    iexact H7

set_option maxHeartbeats 2000000 in
/-- A gate point: the product's logistic function is stored. -/
noncomputable def runSig (xs : Vec F S512x1024 .bf16)
    (h1 : ¬ (firstCond i = 1#1)) (h2 : ¬ (k0_cond2 i = 1#1)) (h3 : ¬ (k0_cond3 i = 1#1)) (h4 : ¬ (k0_cond4 i = 1#1)) (h5 : ¬ (k0_cond5 i = 1#1)) (h6 : ¬ (k0_cond6 i = 1#1)) (h7 : k0_cond7 i = 1#1) :
    { L : List (View.Piece (Elt F) S512x1024 .bf16) //
      ∀ (y : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ (∃ d, owns (c : Thread nD τ) arg7 fullShare d) ∗ owns (c : Thread nD τ) arg8 fullShare y ∗ owns (c : Thread nD τ) arg9 fullShare xs
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ f, arg7.view.loc (c : Thread nD τ) ↦[arg7.view.set]{fullShare} arg7.view.writes (Elt F) f L) ∗ owns (c : Thread nD τ) arg8 fullShare y ∗ owns (c : Thread nD τ) arg9 fullShare xs) -∗ K PUnit.unit))
        ⊢ wp frame (wpE (defs₀ (F := F)) Variants.none c none) E (cc0_inproj i
            arg2 harg2 arg3 harg3 arg4 harg4 arg5 harg5 arg6 harg6 arg7 harg7 arg8 harg8 arg9 harg9) K } := by
  refine ⟨?_, fun y E K => ?run⟩
  case run =>
    simp only [cc0_inproj_eq_skeleton]; unfold cc0_inproj_skel
    simp only [k0_part1_eq_skeleton, k0_part2_eq_skeleton, k0_part3_eq_skeleton, k0_part4_eq_skeleton,
      k0_part5_eq_skeleton, k0_part6_eq_skeleton]
    unfold k0_part1_skel k0_part2_skel k0_part3_skel k0_part4_skel k0_part5_skel k0_part6_skel
    unfold owns
    iintro ⟨⟨%f0, %hf0, H0⟩, ⟨%f1, %hf1, H1⟩, ⟨%f2, %hf2, H2⟩, ⟨%f3, %hf3, H3⟩, ⟨%f4, %hf4, H4⟩,
      ⟨%d5, %f5, -, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg8.eq_unread hf6
    obtain rfl := harg9.eq_unread hf7
    sl_exec (disch := first | sl_exact h1 | sl_exact h2 | sl_exact h3 | sl_exact h4 | sl_exact h5 | sl_exact h6 | sl_exact h7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact H7

end

end Cert.InprojIdeal.Inp

end
-- ==== Proof.InprojFrame.lean ====
module

public import proofs.«01_k».proof.Proof.InprojRun
public import proofs.«01_k».proof.Proof.Gen.InprojIdeal.Points
public import Idealize.ShloMosaic.Lib.Pipeline.ValueKit
public import Idealize.ShloMosaic.Lib.Pointwise
public import Idealize.ShloMosaic.Lib.StableHlo.Run

@[expose] public section

set_option maxRecDepth 16384

noncomputable section

namespace Cert.InprojIdeal.Inp

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The column group of a grid point -/

/-- Which of the body's conditions hold at a grid point: they tell the point's column group. -/
theorem conds (t : Fin cfg0.N) : (firstCond (grid0.coords t) = 1#1 ↔ t.val % 8 = 0) ∧ (k0_cond2 (grid0.coords t) = 1#1 ↔ t.val % 8 = 0)
    ∧ (k0_cond3 (grid0.coords t) = 1#1 ↔ t.val % 8 = 1 ∨ t.val % 8 = 5) ∧ (k0_cond4 (grid0.coords t) = 1#1 ↔ t.val % 8 = 2)
    ∧ (k0_cond5 (grid0.coords t) = 1#1 ↔ t.val % 8 = 3) ∧ (k0_cond6 (grid0.coords t) = 1#1 ↔ t.val % 8 = 4)
    ∧ (k0_cond7 (grid0.coords t) = 1#1 ↔ 6 ≤ t.val % 8) :=
  (by decide +kernel : ∀ t : Fin grid0.N, (firstCond (grid0.coords t) = 1#1 ↔ t.val % 8 = 0) ∧ (k0_cond2 (grid0.coords t) = 1#1 ↔ t.val % 8 = 0)
    ∧ (k0_cond3 (grid0.coords t) = 1#1 ↔ t.val % 8 = 1 ∨ t.val % 8 = 5) ∧ (k0_cond4 (grid0.coords t) = 1#1 ↔ t.val % 8 = 2)
    ∧ (k0_cond5 (grid0.coords t) = 1#1 ↔ t.val % 8 = 3) ∧ (k0_cond6 (grid0.coords t) = 1#1 ↔ t.val % 8 = 4)
    ∧ (k0_cond7 (grid0.coords t) = 1#1 ↔ 6 ≤ t.val % 8)) t

/-- The first output is stored at every point. -/
theorem idle5 (t : Fin cfg0.N) : cfg0.idle 5 (cfg0.grid.coords t) = false :=
  (by decide +kernel : ∀ t : Fin grid0.N, idle0 5 (grid0.coords t) = false) t

/-- The second output is stored at the key and the value point of each row tile only. -/
theorem idle6 (t : Fin cfg0.N) : cfg0.idle 6 (cfg0.grid.coords t) = decide (t.val % 8 ≠ 3 ∧ t.val % 8 ≠ 4) :=
  (by decide +kernel : ∀ t : Fin grid0.N, idle0 6 (grid0.coords t) = decide (t.val % 8 ≠ 3 ∧ t.val % 8 ≠ 4)) t

theorem flush6 (t : Fin cfg0.N) : (cfg0.win 6).flush t = decide (t.val % 4 = 3) := by
  have h := flush0_6 t
  cases hf : (cfg0.win 6).flush t
  · rw [hf] at h; exact (decide_eq_false (fun e => absurd (h.mpr e) (by decide))).symm
  · rw [hf] at h; exact (decide_eq_true (h.mp rfl)).symm

/-! ## The buffers at a grid point -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1024 .f32 := win0_6.stage (cfg0.slots t 6)
abbrev hs6 (t : Fin cfg0.N) : (ms6 t).IsWhole := hstage0_6 ((cfg0.slots t 6).cast nbuf0_6)
abbrev sc0 : Memref sig .tc .vmem S512x1024 .bf16 := Memref.whole cc0_scratch0

/-- What a region holds besides its windows: the scratch buffer at some contents and the generator register. -/
theorem PhiA_eq (c : Dev nD) :
    (Pipeline.ΦA spec0 c : sProp 𝕄) = iprop((∃ d, owns (c : Thread nD τ) sc0 fullShare d) ∗ (∃ r, prngReg c r)) := by
  unfold Pipeline.ΦA; rw [scopedRest0_eq]; simp only [sc0, owns_whole]; try rfl

section
variable (c : Dev nD) (t : Fin cfg0.N)

/-- The body's run at the first point of a row tile, on the point's buffers and input blocks. -/
abbrev normAt (h : t.val % 8 = 0) := runNorm (F := F) c (grid0.coords t)
    (ms0 t) (hs0 t) (ms1 t) (hs1 t) (ms2 t) (hs2 t) (ms3 t) (hs3 t) (ms4 t) (hs4 t) (ms5 t) (hs5 t) (ms6 t) (hs6 t) sc0 (Memref.isWhole_whole _)
    (iblk m c 0 t) (iblk m c 1 t) (iblk m c 2 t) (iblk m c 3 t) (iblk m c 4 t)
      ((conds t).1.mpr h)
      ((conds t).2.1.mpr h)
      (fun e => by have := (conds t).2.2.1.mp e; omega)
      (fun e => by have := (conds t).2.2.2.1.mp e; omega)
      (fun e => by have := (conds t).2.2.2.2.1.mp e; omega)
      (fun e => by have := (conds t).2.2.2.2.2.1.mp e; omega)
      (fun e => by have := (conds t).2.2.2.2.2.2.mp e; omega)

/-- The body's run at a gated point, on the point's buffers and input blocks. -/
abbrev siluAt (xs : Vec F S512x1024 .bf16) (h : t.val % 8 = 1 ∨ t.val % 8 = 5) := runSilu (F := F) c (grid0.coords t)
    (ms0 t) (hs0 t) (ms1 t) (hs1 t) (ms2 t) (hs2 t) (ms3 t) (hs3 t) (ms4 t) (hs4 t) (ms5 t) (hs5 t) (ms6 t) (hs6 t) sc0 (Memref.isWhole_whole _)
    (iblk m c 0 t) (iblk m c 1 t) (iblk m c 2 t) (iblk m c 3 t) (iblk m c 4 t) xs
      (fun e => by have := (conds t).1.mp e; omega)
      (fun e => by have := (conds t).2.1.mp e; omega)
      ((conds t).2.2.1.mpr h)
      (fun e => by have := (conds t).2.2.2.1.mp e; omega)
      (fun e => by have := (conds t).2.2.2.2.1.mp e; omega)
      (fun e => by have := (conds t).2.2.2.2.2.1.mp e; omega)
      (fun e => by have := (conds t).2.2.2.2.2.2.mp e; omega)

/-- The body's run at the query point, on the point's buffers and input blocks. -/
abbrev rotQAt (xs : Vec F S512x1024 .bf16) (h : t.val % 8 = 2) := runRotQ (F := F) c (grid0.coords t)
    (ms0 t) (hs0 t) (ms1 t) (hs1 t) (ms2 t) (hs2 t) (ms3 t) (hs3 t) (ms4 t) (hs4 t) (ms5 t) (hs5 t) (ms6 t) (hs6 t) sc0 (Memref.isWhole_whole _)
    (iblk m c 0 t) (iblk m c 1 t) (iblk m c 2 t) (iblk m c 3 t) (iblk m c 4 t) xs
      (fun e => by have := (conds t).1.mp e; omega)
      (fun e => by have := (conds t).2.1.mp e; omega)
      (fun e => by have := (conds t).2.2.1.mp e; omega)
      ((conds t).2.2.2.1.mpr h)
      (fun e => by have := (conds t).2.2.2.2.1.mp e; omega)
      (fun e => by have := (conds t).2.2.2.2.2.1.mp e; omega)
      (fun e => by have := (conds t).2.2.2.2.2.2.mp e; omega)

/-- The body's run at the key point, on the point's buffers and input blocks. -/
abbrev rotKAt (xs : Vec F S512x1024 .bf16) (h : t.val % 8 = 3) := runRotK (F := F) c (grid0.coords t)
    (ms0 t) (hs0 t) (ms1 t) (hs1 t) (ms2 t) (hs2 t) (ms3 t) (hs3 t) (ms4 t) (hs4 t) (ms5 t) (hs5 t) (ms6 t) (hs6 t) sc0 (Memref.isWhole_whole _)
    (iblk m c 0 t) (iblk m c 1 t) (iblk m c 2 t) (iblk m c 3 t) (iblk m c 4 t) xs
      (fun e => by have := (conds t).1.mp e; omega)
      (fun e => by have := (conds t).2.1.mp e; omega)
      (fun e => by have := (conds t).2.2.1.mp e; omega)
      (fun e => by have := (conds t).2.2.2.1.mp e; omega)
      ((conds t).2.2.2.2.1.mpr h)
      (fun e => by have := (conds t).2.2.2.2.2.1.mp e; omega)
      (fun e => by have := (conds t).2.2.2.2.2.2.mp e; omega)

/-- The body's run at the value point, on the point's buffers and input blocks. -/
abbrev valAt (xs : Vec F S512x1024 .bf16) (h : t.val % 8 = 4) := runVal (F := F) c (grid0.coords t)
    (ms0 t) (hs0 t) (ms1 t) (hs1 t) (ms2 t) (hs2 t) (ms3 t) (hs3 t) (ms4 t) (hs4 t) (ms5 t) (hs5 t) (ms6 t) (hs6 t) sc0 (Memref.isWhole_whole _)
    (iblk m c 0 t) (iblk m c 1 t) (iblk m c 2 t) (iblk m c 3 t) (iblk m c 4 t) xs
      (fun e => by have := (conds t).1.mp e; omega)
      (fun e => by have := (conds t).2.1.mp e; omega)
      (fun e => by have := (conds t).2.2.1.mp e; omega)
      (fun e => by have := (conds t).2.2.2.1.mp e; omega)
      (fun e => by have := (conds t).2.2.2.2.1.mp e; omega)
      ((conds t).2.2.2.2.2.1.mpr h)
      (fun e => by have := (conds t).2.2.2.2.2.2.mp e; omega)

/-- The body's run at a gate point, on the point's buffers and input blocks. -/
abbrev sigAt (xs : Vec F S512x1024 .bf16) (h : 6 ≤ t.val % 8) := runSig (F := F) c (grid0.coords t)
    (ms0 t) (hs0 t) (ms1 t) (hs1 t) (ms2 t) (hs2 t) (ms3 t) (hs3 t) (ms4 t) (hs4 t) (ms5 t) (hs5 t) (ms6 t) (hs6 t) sc0 (Memref.isWhole_whole _)
    (iblk m c 0 t) (iblk m c 1 t) (iblk m c 2 t) (iblk m c 3 t) (iblk m c 4 t) xs
      (fun e => by have := (conds t).1.mp e; omega)
      (fun e => by have := (conds t).2.1.mp e; omega)
      (fun e => by have := (conds t).2.2.1.mp e; omega)
      (fun e => by have := (conds t).2.2.2.1.mp e; omega)
      (fun e => by have := (conds t).2.2.2.2.1.mp e; omega)
      (fun e => by have := (conds t).2.2.2.2.2.1.mp e; omega)
      ((conds t).2.2.2.2.2.2.mpr h)

theorem cover_norm (h : t.val % 8 = 0) (y : S512x1024.Idx) : ∃ pc ∈ (normAt m c t h).1.1, y ∈ pc.1.set :=
  View.cover_of_tiledL (normAt m c t h).1.1 S512x1024.size (by sl_kernel_rfl) y

theorem cover_scr (h : t.val % 8 = 0) (y : S512x1024.Idx) : ∃ pc ∈ (normAt m c t h).1.2, y ∈ pc.1.set :=
  View.cover_of_tiledL (normAt m c t h).1.2 S512x1024.size (by sl_kernel_rfl) y

theorem cover_silu (xs : Vec F S512x1024 .bf16) (h : t.val % 8 = 1 ∨ t.val % 8 = 5) (y : S512x1024.Idx) : ∃ pc ∈ (siluAt m c t xs h).1, y ∈ pc.1.set :=
  View.cover_of_tiledL (siluAt m c t xs h).1 S512x1024.size (by sl_kernel_rfl) y

theorem cover_rotQ (xs : Vec F S512x1024 .bf16) (h : t.val % 8 = 2) (y : S512x1024.Idx) : ∃ pc ∈ (rotQAt m c t xs h).1, y ∈ pc.1.set :=
  View.cover_of_tiledL (rotQAt m c t xs h).1 S512x128.size (by sl_kernel_rfl) y

theorem cover_rotK (xs : Vec F S512x1024 .bf16) (h : t.val % 8 = 3) (y : S512x1024.Idx) : ∃ pc ∈ (rotKAt m c t xs h).1.1, y ∈ pc.1.set :=
  View.cover_of_tiledL (rotKAt m c t xs h).1.1 S512x128.size (by sl_kernel_rfl) y

theorem cover_rotK2 (xs : Vec F S512x1024 .bf16) (h : t.val % 8 = 3) (y : S512x1024.Idx) : ∃ pc ∈ (rotKAt m c t xs h).1.2, y ∈ pc.1.set :=
  View.cover_of_tiledL (rotKAt m c t xs h).1.2 S512x128.size (by sl_kernel_rfl) y

theorem cover_val (xs : Vec F S512x1024 .bf16) (h : t.val % 8 = 4) (y : S512x1024.Idx) : ∃ pc ∈ (valAt m c t xs h).1.1, y ∈ pc.1.set :=
  View.cover_of_tiledL (valAt m c t xs h).1.1 S512x1024.size (by sl_kernel_rfl) y

theorem cover_val2 (xs : Vec F S512x1024 .bf16) (h : t.val % 8 = 4) (y : S512x1024.Idx) : ∃ pc ∈ (valAt m c t xs h).1.2, y ∈ pc.1.set :=
  View.cover_of_tiledL (valAt m c t xs h).1.2 S512x1024.size (by sl_kernel_rfl) y

theorem cover_sig (xs : Vec F S512x1024 .bf16) (h : 6 ≤ t.val % 8) (y : S512x1024.Idx) : ∃ pc ∈ (sigAt m c t xs h).1, y ∈ pc.1.set :=
  View.cover_of_tiledL (sigAt m c t xs h).1 S512x1024.size (by sl_kernel_rfl) y

end

/-- The first point of row tile `i`, and its value point. -/
def pt0 (i : ℕ) : Fin cfg0.N := ⟨8 * (i % 2), lt_of_lt_of_eq (by omega : _ < 16) N_0.symm⟩
def pt4 (i : ℕ) : Fin cfg0.N := ⟨8 * (i % 2) + 4, lt_of_lt_of_eq (by omega : _ < 16) N_0.symm⟩
theorem pt0_mod (i : ℕ) : (pt0 i).val % 8 = 0 := by unfold pt0; dsimp only; omega
theorem pt4_mod (i : ℕ) : (pt4 i).val % 8 = 4 := by unfold pt4; dsimp only; omega
theorem pt0_eq (t : Fin cfg0.N) (h : t.val % 8 = 0) : pt0 (t.val / 8) = t := by
  have hN : t.val < 16 := lt_of_lt_of_eq t.isLt N_0
  apply Fin.ext; unfold pt0; dsimp only; omega
theorem pt4_eq (t : Fin cfg0.N) (h : t.val % 8 = 4) : pt4 (t.val / 8) = t := by
  have hN : t.val < 16 := lt_of_lt_of_eq t.isLt N_0
  apply Fin.ext; unfold pt4; dsimp only; omega

/-- The normalised rows of row tile `i`, as the scratch buffer keeps them through the tile's points. -/
def scr (c : Dev nD) (i : ℕ) : Vec F S512x1024 .bf16 := View.canon (normAt m c (pt0 i) (pt0_mod i)).1.2

theorem scr_eq (c : Dev nD) (t : Fin cfg0.N) (h : t.val % 8 = 0) : scr m c (t.val / 8) = View.canon (normAt m c t h).1.2 := by
  unfold scr
  have e := pt0_eq t h
  have key : ∀ (u : Fin cfg0.N) (hu : u.val % 8 = 0), u = t → View.canon (normAt m c u hu).1.2 = View.canon (normAt m c t h).1.2 := by
    intro u hu e; subst e; rfl
  exact key _ _ e

/-- The values of row tile `i`, as the second output's buffer keeps them from the value point on. -/
def vAt (c : Dev nD) (i : ℕ) : Vec F S512x1024 .f32 := View.canon (valAt m c (pt4 i) (scr m c i) (pt4_mod i)).1.2

theorem vAt_eq (c : Dev nD) (t : Fin cfg0.N) (h : t.val % 8 = 4) :
    vAt m c (t.val / 8) = View.canon (valAt m c t (scr m c (t.val / 8)) h).1.2 := by
  unfold vAt
  have e := pt4_eq t h
  have key : ∀ (u : Fin cfg0.N) (hu : u.val % 8 = 4), u = t →
      View.canon (valAt m c u (scr m c (t.val / 8)) hu).1.2 = View.canon (valAt m c t (scr m c (t.val / 8)) h).1.2 := by
    intro u hu e; subst e; rfl
  exact key _ _ e

/-- What the first output's buffer holds after point `t`. -/
def zAt (c : Dev nD) (t : Fin cfg0.N) : Vec F S512x1024 .bf16 :=
  if h : t.val % 8 = 0 then View.canon (normAt m c t h).1.1
  else if h : t.val % 8 = 1 ∨ t.val % 8 = 5 then View.canon (siluAt m c t (scr m c (t.val / 8)) h).1
  else if h : t.val % 8 = 2 then View.canon (rotQAt m c t (scr m c (t.val / 8)) h).1
  else if h : t.val % 8 = 3 then View.canon (rotKAt m c t (scr m c (t.val / 8)) h).1.1
  else if h : t.val % 8 = 4 then View.canon (valAt m c t (scr m c (t.val / 8)) h).1.1
  else View.canon (sigAt m c t (scr m c (t.val / 8)) (by omega)).1

/-- What the second output's buffer holds after the key point and from the value point on. -/
def kvAt (c : Dev nD) (t : Fin cfg0.N) : Vec F S512x1024 .f32 :=
  if h : t.val % 8 = 3 then View.canon (rotKAt m c t (scr m c (t.val / 8)) h).1.2 else vAt m c (t.val / 8)

/-! ## The pipeline's proof data -/

/-- What is known between points besides the windows: within a row tile the scratch buffer holds the tile's normalised
    rows, between tiles anything. -/
def PhiS (c : Dev nD) (n : ℕ) : sProp 𝕄 :=
  if n % 8 = 0 then iprop((∃ d, owns (c : Thread nD τ) sc0 fullShare d) ∗ (∃ r, prngReg c r))
  else iprop(owns (c : Thread nD τ) sc0 fullShare (scr m c (n / 8)) ∗ (∃ r, prngReg c r))

/-- The arrays as the region finds them, and every window's buffer after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => zAt m c t
    | ⟨6, _⟩ => kvAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = zAt m c t := by dsimp only [dats]
theorem after6 (c : Dev nD) (t : Fin cfg0.N) : (dats m 0 c).after 6 t = kvAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- From the value point to the end of its row tile the second output's buffer keeps the values. -/
theorem before6 (c : Dev nD) (t : Fin cfg0.N) (h : 5 ≤ t.val % 8) (d) : (dats m 0 c).before 6 t d = vAt m c (t.val / 8) := by
  have step : ∀ (u : Fin cfg0.N) (hu : u.val ≠ 0), u.val % 4 ≠ 0 → (dats m 0 c).before 6 u d
      = (dats m 0 c).left 6 ⟨u.val - 1, Nat.lt_of_le_of_lt (Nat.sub_le _ _) u.isLt⟩ d := by
    intro u hu hm
    rw [(dats m 0 c).before_of_pos 6 u hu ((cfg0.win 6).fetch_out rfl u), flush6]
    rw [if_neg]
    intro e
    have e' := of_decide_eq_true e
    dsimp only at e'
    omega
  have live : ∀ (u : Fin cfg0.N), u.val % 8 = 4 → (dats m 0 c).left 6 u d = vAt m c (u.val / 8) := by
    intro u hu
    unfold Dat.left; rw [idle6, decide_eq_false (by omega)]
    have : (dats m 0 c).kept 6 u d = (dats m 0 c).after 6 u := rfl
    show (dats m 0 c).kept 6 u d = _
    rw [this, after6]; unfold kvAt; rw [dif_neg (by omega)]
  have idle : ∀ (u : Fin cfg0.N), 5 ≤ u.val % 8 → (dats m 0 c).left 6 u d = (dats m 0 c).before 6 u d := by
    intro u hu
    unfold Dat.left; rw [idle6, decide_eq_true (by omega)]
  have main : ∀ (k : ℕ) (u : Fin cfg0.N), u.val % 8 = 5 + k → (dats m 0 c).before 6 u d = vAt m c (u.val / 8) := by
    intro k
    induction k with
    | zero =>
      intro u hu
      rw [step u (by omega) (by omega), live _ (by dsimp only; omega)]
      congr 1; dsimp only; omega
    | succ k ih =>
      intro u hu
      rw [step u (by omega) (by omega), idle _ (by dsimp only; omega), ih _ (by dsimp only; omega)]
      congr 1; dsimp only; omega
  exact main (t.val % 8 - 5) t (by omega)

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it hands back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t ∗ (dats m 0 c).leavesExact 6 t)

theorem leaves5 (c : Dev nD) (t : Fin cfg0.N) : (dats m 0 c).leavesExact 5 t = owns (c : Thread nD τ) (ms5 t) fullShare (zAt m c t) := by
  unfold Dat.leavesExact; rw [idle5, after5]

theorem leaves6_live (c : Dev nD) (t : Fin cfg0.N) (h : t.val % 8 = 3 ∨ t.val % 8 = 4) :
    (dats m 0 c).leavesExact 6 t = owns (c : Thread nD τ) (ms6 t) fullShare (kvAt m c t) := by
  unfold Dat.leavesExact; rw [idle6, decide_eq_false (by omega), after6]

/-- At the other points the second output's buffer is handed back as it was found. -/
theorem leaves6_idle (c : Dev nD) (t : Fin cfg0.N) (h : t.val % 8 ≠ 3 ∧ t.val % 8 ≠ 4) (d) :
    owns (c : Thread nD τ) (ms6 t) fullShare ((dats m 0 c).before 6 t d) ⊢ (dats m 0 c).leavesExact 6 t := by
  unfold Dat.leavesExact; rw [idle6, decide_eq_true h, flush6]
  by_cases h7 : t.val % 4 = 3
  · rw [decide_eq_true h7, before6 m c t (by omega), after6]
    unfold kvAt; rw [dif_neg h.1]
  · rw [decide_eq_false h7]
    iintro H; iexists d; iexact H

theorem Phi_first (c : Dev nD) (t : Fin cfg0.N) (h : t.val % 8 = 0) :
    (dats m 0 c).Φ t.castSucc = iprop((∃ d, owns (c : Thread nD τ) sc0 fullShare d) ∗ (∃ r, prngReg c r)) := if_pos h
theorem Phi_mid (c : Dev nD) (t : Fin cfg0.N) (h : t.val % 8 ≠ 0) :
    (dats m 0 c).Φ t.castSucc = iprop(owns (c : Thread nD τ) sc0 fullShare (scr m c (t.val / 8)) ∗ (∃ r, prngReg c r)) := if_neg h

/-- The scratch buffer at the tile's normalised rows is enough for the next point. -/
theorem Phi_next (c : Dev nD) (t : Fin cfg0.N) :
    iprop(owns (c : Thread nD τ) sc0 fullShare (scr m c (t.val / 8)) ∗ (∃ r, prngReg c r)) ⊢ (dats m 0 c).Φ t.succ := by
  show _ ⊢ PhiS m c (t.val + 1)
  unfold PhiS
  by_cases h : (t.val + 1) % 8 = 0
  · rw [if_pos h]
    iintro ⟨H, Hg⟩
    isplitl [H]
    · iexists _; iexact H
    · iexact Hg
  · rw [if_neg h, show (t.val + 1) / 8 = t.val / 8 by omega]

theorem zAt_norm (c : Dev nD) (t : Fin cfg0.N) (h : t.val % 8 = 0) : zAt m c t = View.canon (normAt m c t h).1.1 := by
  unfold zAt; rw [dif_pos h]

set_option maxHeartbeats 2000000 in
theorem sound_norm (c : Dev nD) (t : Fin cfg0.N) (h : t.val % 8 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4,
    Phi_first m c t h, leaves5, zAt_norm m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((normAt m c t h).2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, ⟨%e5, H5⟩, H6, ⟨%e7, HS⟩⟩
  isplitl [HS Hg]
  · iapply (Phi_next m c t)
    isplitl [HS]
    · rw [scr_eq m c t h]
      unfold owns; iexists _; isplitr
      swap; · iexact HS
      ipureintro; exact View.read_writes_eq_canon _ _ _ (cover_scr m c t h)
    · iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover_norm m c t h)
  iapply (leaves6_idle m c t (by omega) _)
  iexact H6

theorem zAt_silu (c : Dev nD) (t : Fin cfg0.N) (h : t.val % 8 = 1 ∨ t.val % 8 = 5) : zAt m c t = View.canon (siluAt m c t (scr m c (t.val / 8)) h).1 := by
  unfold zAt; rw [dif_neg (by omega), dif_pos h]

set_option maxHeartbeats 2000000 in
theorem sound_silu (c : Dev nD) (t : Fin cfg0.N) (h : t.val % 8 = 1 ∨ t.val % 8 = 5) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4,
    Phi_mid m c t (by omega), leaves5, zAt_silu m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((siluAt m c t (scr m c (t.val / 8)) h).2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, ⟨%e5, H5⟩, H6, HS⟩
  isplitl [HS Hg]
  · iapply (Phi_next m c t)
    isplitl [HS]
    · iexact HS
    · iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover_silu m c t (scr m c (t.val / 8)) h)
  iapply (leaves6_idle m c t (by omega) _)
  iexact H6

theorem zAt_rotQ (c : Dev nD) (t : Fin cfg0.N) (h : t.val % 8 = 2) : zAt m c t = View.canon (rotQAt m c t (scr m c (t.val / 8)) h).1 := by
  unfold zAt; rw [dif_neg (by omega), dif_neg (by omega), dif_pos h]

set_option maxHeartbeats 2000000 in
theorem sound_rotQ (c : Dev nD) (t : Fin cfg0.N) (h : t.val % 8 = 2) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4,
    Phi_mid m c t (by omega), leaves5, zAt_rotQ m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((rotQAt m c t (scr m c (t.val / 8)) h).2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, ⟨%e5, H5⟩, H6, HS⟩
  isplitl [HS Hg]
  · iapply (Phi_next m c t)
    isplitl [HS]
    · iexact HS
    · iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover_rotQ m c t (scr m c (t.val / 8)) h)
  iapply (leaves6_idle m c t (by omega) _)
  iexact H6

theorem zAt_rotK (c : Dev nD) (t : Fin cfg0.N) (h : t.val % 8 = 3) : zAt m c t = View.canon (rotKAt m c t (scr m c (t.val / 8)) h).1.1 := by
  unfold zAt; rw [dif_neg (by omega), dif_neg (by omega), dif_neg (by omega), dif_pos h]

set_option maxHeartbeats 2000000 in
theorem sound_rotK (c : Dev nD) (t : Fin cfg0.N) (h : t.val % 8 = 3) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4,
    Phi_mid m c t (by omega), leaves5, zAt_rotK m c t h, leaves6_live m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((rotKAt m c t (scr m c (t.val / 8)) h).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, ⟨%e5, H5⟩, ⟨%e6, H6⟩, HS⟩
  isplitl [HS Hg]
  · iapply (Phi_next m c t)
    isplitl [HS]
    · iexact HS
    · iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover_rotK m c t (scr m c (t.val / 8)) h)
  unfold kvAt; rw [dif_pos h]
  unfold owns; iexists _; isplitr
  swap; · iexact H6
  ipureintro; exact View.read_writes_eq_canon _ _ _ (cover_rotK2 m c t (scr m c (t.val / 8)) h)

theorem zAt_val (c : Dev nD) (t : Fin cfg0.N) (h : t.val % 8 = 4) : zAt m c t = View.canon (valAt m c t (scr m c (t.val / 8)) h).1.1 := by
  unfold zAt; rw [dif_neg (by omega), dif_neg (by omega), dif_neg (by omega), dif_neg (by omega), dif_pos h]

set_option maxHeartbeats 2000000 in
theorem sound_val (c : Dev nD) (t : Fin cfg0.N) (h : t.val % 8 = 4) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4,
    Phi_mid m c t (by omega), leaves5, zAt_val m c t h, leaves6_live m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((valAt m c t (scr m c (t.val / 8)) h).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, ⟨%e5, H5⟩, ⟨%e6, H6⟩, HS⟩
  isplitl [HS Hg]
  · iapply (Phi_next m c t)
    isplitl [HS]
    · iexact HS
    · iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover_val m c t (scr m c (t.val / 8)) h)
  unfold kvAt; rw [dif_neg (by omega), vAt_eq m c t h]
  unfold owns; iexists _; isplitr
  swap; · iexact H6
  ipureintro; exact View.read_writes_eq_canon _ _ _ (cover_val2 m c t (scr m c (t.val / 8)) h)

theorem zAt_sig (c : Dev nD) (t : Fin cfg0.N) (h : 6 ≤ t.val % 8) : zAt m c t = View.canon (sigAt m c t (scr m c (t.val / 8)) h).1 := by
  unfold zAt; rw [dif_neg (by omega), dif_neg (by omega), dif_neg (by omega), dif_neg (by omega), dif_neg (by omega)]

set_option maxHeartbeats 2000000 in
theorem sound_sig (c : Dev nD) (t : Fin cfg0.N) (h : 6 ≤ t.val % 8) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4,
    Phi_mid m c t (by omega), leaves5, zAt_sig m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((sigAt m c t (scr m c (t.val / 8)) h).2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, ⟨%e5, H5⟩, H6, HS⟩
  isplitl [HS Hg]
  · iapply (Phi_next m c t)
    isplitl [HS]
    · iexact HS
    · iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover_sig m c t (scr m c (t.val / 8)) h)
  iapply (leaves6_idle m c t (by omega) _)
  iexact H6

/-- The body's obligation at any point, from the runs of the six cases. -/
theorem sound_body (c : Dev nD) (t : Fin cfg0.N) :
    bodyPre m c t ⊢ wp frame (wpE (defs₀ (F := F)) Variants.none c none) Set.univ (bodyAt0 t) (fun _ => bodyPost m c t) := by
  have h8 : t.val % 8 < 8 := Nat.mod_lt _ (by decide)
  by_cases h0 : t.val % 8 = 0; · exact sound_norm m c t h0
  by_cases h1 : t.val % 8 = 1 ∨ t.val % 8 = 5; · exact sound_silu m c t h1
  by_cases h2 : t.val % 8 = 2; · exact sound_rotQ m c t h2
  by_cases h3 : t.val % 8 = 3; · exact sound_rotK m c t h3
  by_cases h4 : t.val % 8 = 4; · exact sound_val m c t h4
  exact sound_sig m c t (by omega)

theorem defs_row (t : Fin cfg0.N) :
    defs₀ (F := F) .tc cfg0.body (cfg0.bodyArgs t (cfg0.slots t)) = bodyAt0 t := by
  unfold defs₀; rw [Defs.onTc_tc]

/-- The pipeline's obligation about the body, at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem Phi_in (c : Dev nD) : Pipeline.ΦA spec0 c ⊢ (dats m 0 c).Φ 0 := by
  rw [PhiA_eq]; show _ ⊢ PhiS m c 0
  unfold PhiS; rw [if_pos (by decide)]

theorem Phi_out (c : Dev nD) : (dats m 0 c).Φ (Fin.last cfg0.N) ⊢ Pipeline.ΦA spec0 c := by
  rw [PhiA_eq]; show PhiS m c cfg0.N ⊢ _
  unfold PhiS; rw [if_pos (by rw [show cfg0.N = 16 from N_0])]

set_option backward.isDefEq.respectTransparency.types false in
/-- Every run ends with the pipeline's arrays as computed from the proof data, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose)
    (hshare := fun c w => by unfold Dat.share; exact ite_self _)
    (howed := fun _ _ => rfl) (V := V m) (hmain := hmain m Variants.none) (hA := A_eq m)
    (hin := Phi_in m) (hout := Phi_out m)

/-- Every run ends with the pipeline's arrays as computed from the proof data. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.InprojIdeal.Inp

end
-- ==== Proof.InprojBlocks.lean ====
module

public import proofs.«01_k».proof.Proof.InprojFrame
public import proofs.«01_k».proof.Proof.HostRead
public import proofs.«01_k».proof.Proof.Sigmoid

@[expose] public section

set_option maxRecDepth 16384

noncomputable section

open Idealize.ShloMosaic Idealize.ShloMosaic.TcCoe Idealize.SL.Sem
open Idealize.ShloMosaic.Pipeline (Dat)

namespace Cert.InprojIdeal.Inp

open Cert.InprojIdeal Cert.InprojIdeal.Gen

variable (m : (ℓ : Loc nD τ sig) → Buf (Elt Ideal) ℓ)

/-- The windows' block indices at every grid point. -/
theorem idx : ∀ t : Fin cfg0.N, win0_0.index t = ![t.val / 8, 0] ∧ win0_1.index t = ![0, 0] ∧ win0_2.index t = ![0, t.val % 8] ∧ win0_3.index t = ![t.val / 8, 0]
    ∧ win0_4.index t = ![t.val / 8, 0] ∧ win0_5.index t = ![t.val / 8, t.val % 8] ∧ win0_6.index t = ![t.val / 8, if 3 < t.val % 8 then 1 else 0] :=
  (by decide +kernel : ∀ t : Fin grid0.N, _)

theorem t_lt (t : Fin cfg0.N) : t.val < 16 := lt_of_lt_of_eq t.isLt N_0

/-- Row `y` of the row tile of point `t`, in the whole array. -/
def row (t : Fin cfg0.N) (y : Fin 512) : Fin 1024 := ⟨t.val / 8 * 512 + y.val, by have := t_lt t; omega⟩

/-- Column `k` of the column group of point `t`, in the whole array. -/
def col (t : Fin cfg0.N) (k : Fin 1024) : Fin 8192 := ⟨t.val % 8 * 1024 + k.val, by omega⟩

set_option maxHeartbeats 800000 in
/-- Window 0's block is the array's rows at the point. -/
theorem b0 (c : Dev nD) (t : Fin cfg0.N) (y : Fin 512) (k : Fin 1024) : iblk m c 0 t (ix2 y k) = V m c main_v28 (ix2 (row t y) k) := by
  blk_ext [iblk, idx t, row]

set_option maxHeartbeats 800000 in
/-- Window 1's block is its whole array. -/
theorem b1 (c : Dev nD) (t : Fin cfg0.N) (k : Fin 1024) : iblk m c 1 t (ix2 0 k) = V m c main_v29 (ix2 0 k) := by
  blk_ext [iblk, idx t]

set_option maxHeartbeats 800000 in
/-- Window 2's block is the array's columns at the point. -/
theorem b2 (c : Dev nD) (t : Fin cfg0.N) (y k : Fin 1024) : iblk m c 2 t (ix2 y k) = V m c main_v30 (ix2 y (col t k)) := by
  blk_ext [iblk, idx t, col]

set_option maxHeartbeats 800000 in
/-- Window 3's block is the array's rows at the point. -/
theorem b3 (c : Dev nD) (t : Fin cfg0.N) (y : Fin 512) (k : Fin 128) : iblk m c 3 t (ix2 y k) = V m c main_v24 (ix2 (row t y) k) := by
  blk_ext [iblk, idx t, row]

set_option maxHeartbeats 800000 in
/-- Window 4's block is the array's rows at the point. -/
theorem b4 (c : Dev nD) (t : Fin cfg0.N) (y : Fin 512) (k : Fin 128) : iblk m c 4 t (ix2 y k) = V m c main_v27 (ix2 (row t y) k) := by
  blk_ext [iblk, idx t, row]

set_option maxHeartbeats 800000 in
/-- The first output's block in its array. -/
theorem e5 (t : Fin cfg0.N) (y : Fin 512) (k : Fin 1024) : ((cfg0.win 5).blk t).view.emb (ix2 y k) = ix2 (row t y) (col t k) := by
  blk_ext [idx t, row, col]

set_option maxHeartbeats 800000 in
/-- The second output's block in its array. -/
theorem e6 (t : Fin cfg0.N) (y : Fin 512) (k : Fin 1024) :
    ((cfg0.win 6).blk t).view.emb (ix2 y k) = ix2 (row t y) (⟨(if 3 < t.val % 8 then 1 else 0) * 1024 + k.val, by split <;> omega⟩ : Fin 2048) := by
  blk_ext [idx t, row]

/-- A flattened row is the row of its sequence and position. -/
theorem flat_row (X : FVec Ideal S16x64x1024 .f32) (r : Fin 1024) (k : Fin 1024) :
    shapeCast S1024x1024 X shapeCasts_S16x64x1024_S1024x1024 (ix2 r k) = X (ix3 ⟨r.val / 64, by omega⟩ ⟨r.val % 64, by omega⟩ k) := by
  pointwise

/-- A vector laid out as one row. -/
theorem one_row (X : FVec Ideal S1024 .f32) (k : Fin 1024) :
    shapeCast S1x1024 X shapeCasts_S1024_S1x1024 (ix2 0 k) = X (ix1 k) := by
  pointwise

/-- The layer's input at the region, by flattened row. -/
theorem v28 (c : Dev nD) (r : Fin 1024) (k : Fin 1024) : V m c main_v28 (ix2 r k) = (m ((c : Thread nD τ).loc main_arg0) : FVec Ideal S16x64x1024 .f32) (ix3 ⟨r.val / 64, by omega⟩ ⟨r.val % 64, by omega⟩ k) := by
  refine Eq.trans (congrFun ?_ _) (flat_row _ r k)
  entry_read; rfl

/-- The normalisation's weights at the region. -/
theorem v29 (c : Dev nD) (k : Fin 1024) : V m c main_v29 (ix2 0 k) = (m ((c : Thread nD τ).loc main_arg1) : FVec Ideal S1024 .f32) (ix1 k) := by
  refine Eq.trans (congrFun ?_ _) (one_row _ k)
  entry_read; rfl

/-- The projection's weights at the region. -/
theorem v30 (c : Dev nD) (x : S1024x8192.Idx) : V m c main_v30 x = (m ((c : Thread nD τ).loc main_arg2) : FVec Ideal S1024x8192 .f32) x := by
  refine congrFun (?_ : V m c main_v30 = m ((c : Thread nD τ).loc main_arg2)) x
  entry_read; rfl

/-! ## The rotation's tables -/

/-- The rotation's angles, as the host forms them. -/
def angs : FVec Ideal S64x32 .f32 :=
  mulf (broadcastInDim S64x32 ![0, 1] bcast_S64x1_S64x32_0_1 (broadcastInDim S64x1 ![0] bcast_S64_S64x1_0 (sitofp .f32 (addi (broadcastInDim S64 ![] bcast_S_S64 (constantI S_ 32 2064#32)) (iotaInDim S64 32 0)))))
    (broadcastInDim S64x32 ![0, 1] bcast_S1x32_S64x32_0_1 (broadcastInDim S1x32 ![1] bcast_S32_S1x32_1
      (Host.divf (broadcastInDim S32 ![] bcast_S_S32 (constant S_ .f32 0x3F800000#32)) (Host.powf (broadcastInDim S32 ![] bcast_S_S32 (constant S_ .f32 0x461C4000#32))
        (Host.divf (sitofp .f32 (iotaInDim S32 32 0)) (broadcastInDim S32 ![] bcast_S_S32 (constant S_ .f32 0x42000000#32)))))))

/-- A table of four copies of 32 columns, as the host repeats it over the sequences. -/
def tab (A B C D : FVec Ideal S64x32 .f32) : FVec Ideal S1024x128 .f32 :=
  shapeCast S1024x128 (broadcastInDim S16x64x1x128 ![0, 1, 2, 3] bcast_S1x64x1x128_S16x64x1x128_0_1_2_3
    (shapeCast S1x64x1x128 (concatenate S64x128 1 [⟨S64x32, A⟩, ⟨S64x32, B⟩, ⟨S64x32, C⟩, ⟨S64x32, D⟩] concatenates_S64x32_S64x32_S64x32_S64x32_S64x128_d1) shapeCasts_S64x128_S1x64x1x128)) shapeCasts_S16x64x1x128_S1024x128

open Idealize.ShloMosaic.StableHlo in
/-- Running two lines of operations in a row. -/
theorem after_append (p q : List (HloOp τ sig (Elt Ideal))) (W : Valuation τ sig (Elt Ideal)) :
    StableHlo.after (p ++ q) W = StableHlo.after q (StableHlo.after p W) := by
  induction p generalizing W with
  | nil => rfl
  | cons o p ih => exact ih _

set_option maxHeartbeats 1600000 in
/-- The cosine table of one sequence, as joined on the host. -/
theorem cat18 (c : Dev nD) : StableHlo.after ((hostOps0 (F := Ideal)).take 26) (fun b => m (c, b)) (Proc.devRef .tc main_v18)
    = concatenate S64x128 1 [⟨S64x32, Host.cos angs⟩, ⟨S64x32, Host.cos angs⟩, ⟨S64x32, Host.cos angs⟩, ⟨S64x32, Host.cos angs⟩] concatenates_S64x32_S64x32_S64x32_S64x32_S64x128_d1 := by
  refine Cert.HostRead.after_family _ ((hostOps0 (F := Ideal)).take 22) (((hostOps0 (F := Ideal)).take 26).drop 23) _ ![main_v16, main_v16, main_v16, main_v16] main_v18 _ _ _ rfl
    (List.forall_iff_forall_mem.mp ?_) (fun k => match k with
      | ⟨0, _⟩ => Host.cos angs
      | ⟨1, _⟩ => Host.cos angs
      | ⟨2, _⟩ => Host.cos angs
      | ⟨3, _⟩ => Host.cos angs) (fun k => match k with
      | ⟨0, _⟩ => ?_
      | ⟨1, _⟩ => ?_
      | ⟨2, _⟩ => ?_
      | ⟨3, _⟩ => ?_)
  · simp only [hostOps0, List.take, List.drop, List.Forall, StableHlo.unary_writes, StableHlo.nary_writes, Finset.mem_singleton]
    repeat' apply And.intro
    all_goals exact StableHlo.devRef_ne_of_ne (by decide)
  all_goals
    show StableHlo.after _ _ (Proc.devRef .tc main_v16) = _
    simp only [hostOps0, List.take]
    after_results_simp
    rfl

set_option maxHeartbeats 1600000 in
/-- The signed sine table of one sequence, as joined on the host. -/
theorem cat21 (c : Dev nD) : StableHlo.after ((hostOps0 (F := Ideal)).take 26) (fun b => m (c, b)) (Proc.devRef .tc main_v21)
    = concatenate S64x128 1 [⟨S64x32, Host.negf (Host.sin angs)⟩, ⟨S64x32, Host.sin angs⟩, ⟨S64x32, Host.negf (Host.sin angs)⟩, ⟨S64x32, Host.sin angs⟩] concatenates_S64x32_S64x32_S64x32_S64x32_S64x128_d1 := by
  refine Cert.HostRead.after_family _ ((hostOps0 (F := Ideal)).take 25) [] _ ![main_v19, main_v17, main_v20, main_v17] main_v21 _ _ _ rfl
    (fun op h => absurd h List.not_mem_nil) (fun k => match k with
      | ⟨0, _⟩ => Host.negf (Host.sin angs)
      | ⟨1, _⟩ => Host.sin angs
      | ⟨2, _⟩ => Host.negf (Host.sin angs)
      | ⟨3, _⟩ => Host.sin angs) (fun k => match k with
      | ⟨0, _⟩ => ?_
      | ⟨1, _⟩ => ?_
      | ⟨2, _⟩ => ?_
      | ⟨3, _⟩ => ?_)
  · show StableHlo.after _ _ (Proc.devRef .tc main_v19) = _
    simp only [hostOps0, List.take]
    after_results_simp
    rfl
  · show StableHlo.after _ _ (Proc.devRef .tc main_v17) = _
    simp only [hostOps0, List.take]
    after_results_simp
    rfl
  · show StableHlo.after _ _ (Proc.devRef .tc main_v20) = _
    simp only [hostOps0, List.take]
    after_results_simp
    rfl
  · show StableHlo.after _ _ (Proc.devRef .tc main_v17) = _
    simp only [hostOps0, List.take]
    after_results_simp
    rfl

/-- The cosine table at the region. -/
theorem v24 (c : Dev nD) : V m c main_v24 = tab (Host.cos angs) (Host.cos angs) (Host.cos angs) (Host.cos angs) := by
  have h : (hostOps0 (F := Ideal)) = (hostOps0 (F := Ideal)).take 26 ++ (hostOps0 (F := Ideal)).drop 26 := rfl
  unfold V
  rw [h, after_append]
  have e := cat18 m c
  generalize StableHlo.after ((hostOps0 (F := Ideal)).take 26) (fun b => m (c, b)) = W at e ⊢
  simp only [hostOps0, List.drop]
  after_results_simp
  rw [tab, ← e]
  rfl

/-- The signed sine table at the region. -/
theorem v27 (c : Dev nD) : V m c main_v27 = tab (Host.negf (Host.sin angs)) (Host.sin angs) (Host.negf (Host.sin angs)) (Host.sin angs) := by
  have h : (hostOps0 (F := Ideal)) = (hostOps0 (F := Ideal)).take 26 ++ (hostOps0 (F := Ideal)).drop 26 := rfl
  unfold V
  rw [h, after_append]
  have e := cat21 m c
  generalize StableHlo.after ((hostOps0 (F := Ideal)).take 26) (fun b => m (c, b)) = W at e ⊢
  simp only [hostOps0, List.drop]
  after_results_simp
  rw [tab, ← e]
  rfl

end Cert.InprojIdeal.Inp
-- ==== Proof.RealKit.lean ====
module

public import Idealize.ShloMosaic.Lib.Pipeline.ValueKit
public import Idealize.ShloMosaic.Lib.Pointwise
public import Idealize.ShloMosaic.Lib.Claim

@[expose] public section

noncomputable section

open Idealize.ShloMosaic

namespace Cert.Real

/-- The single precision pattern of minus infinity. -/
theorem ofBits_neg_inf : Ideal.ofBits .f32 0xFF800000#32 = (⊥ : EReal) := by
  simp [Ideal.ofBits, Ideal.ieee]

/-- The pattern the running maximum starts from denotes a real number. -/
theorem ofBits_start : ∃ r : ℝ, Ideal.ofBits .f32 0xF149F2CA#32 = (r : EReal) := by
  refine ⟨-(13234890 * 2 ^ 76), ?_⟩
  simp [Ideal.ofBits, Ideal.ieee, -EReal.coe_mul, -EReal.coe_neg]

/-- The pattern of the initial λ denotes a real number. -/
theorem ofBits_fifth : ∃ r : ℝ, Ideal.ofBits .f32 0x3E4CCCCD#32 = (r : EReal) := by
  refine ⟨13421773 / 2 ^ 26, ?_⟩
  simp [Ideal.ofBits, Ideal.ieee, -EReal.coe_mul, -EReal.coe_neg]; norm_num

/-- The single precision pattern of one eighth. -/
theorem ofBits_eighth : Ideal.ofBits .f32 0x3E000000#32 = (((1 : ℝ) / 8 : ℝ) : EReal) := by
  simp [Ideal.ofBits, Ideal.ieee, -EReal.coe_mul]; norm_num

/-- The single precision pattern of two. -/
theorem ofBits_two : Ideal.ofBits .f32 0x40000000#32 = (((2 : ℝ) : ℝ) : EReal) := by
  simp [Ideal.ofBits, Ideal.ieee, -EReal.coe_mul]; norm_num

/-- Equal real numbers are equal in the extended reals. -/
theorem coe_congr {a b : ℝ} (h : a = b) : (a : EReal) = (b : EReal) := by rw [h]

/-- Sums of equal terms. -/
theorem add_eq {a b c d : ℝ} (h : a = b) (h' : c = d) : a + c = b + d := by rw [h, h']

/-- A sum of real numbers, read in the extended reals. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The maximum of extended reals below ⊤, one of them above ⊥, is a real number. -/
theorem fold_max_real {ι : Type} [Fintype ι] (f : ι → EReal) (h : ∀ x, f x ≠ ⊤) (x₀ : ι) (h₀ : f x₀ ≠ ⊥) :
    ∃ r : ℝ, Finset.fold max (Ideal.ofBits .f32 0xFF800000#32) f Finset.univ = (r : EReal) := by
  rw [ofBits_neg_inf]
  set M := Finset.fold max (⊥ : EReal) f Finset.univ
  have ht : M < ⊤ := by
    rw [Finset.fold_max_lt]
    exact ⟨bot_lt_top, fun x _ => lt_top_iff_ne_top.mpr (h x)⟩
  have hb : ⊥ < M := lt_of_lt_of_le (bot_lt_iff_ne_bot.mpr h₀) (by
    rw [Finset.le_fold_max]; exact Or.inr ⟨x₀, Finset.mem_univ _, le_rfl⟩)
  exact ⟨M.toReal, (EReal.coe_toReal ht.ne hb.ne').symm⟩

/-- The larger of two real numbers, read in the extended reals. -/
theorem max_real (a b : ℝ) : max (a : EReal) (b : EReal) = ((max a b : ℝ) : EReal) :=
  (EReal.coe_strictMono.monotone.map_max).symm

/-- Two to a difference of real numbers. -/
theorem exp2_sub (a b : ℝ) : Ideal.exp2 ((a : EReal) - (b : EReal)) = ((2 ^ a * 2 ^ (-b) : ℝ) : EReal) := by
  rw [← EReal.coe_sub, Ideal.exp2_coe, ← Real.rpow_add (by norm_num : (0 : ℝ) < 2), ← sub_eq_add_neg]
  rfl

/-- Two to minus infinity, whatever is taken away first. -/
theorem exp2_bot_sub (b : ℝ) : Ideal.exp2 ((⊥ : EReal) - (b : EReal)) = ((0 : ℝ) : EReal) := by
  rw [EReal.bot_sub, Ideal.exp2_bot, EReal.coe_zero]

/-- e to a difference of real numbers. -/
theorem exp_sub (a b : ℝ) : Ideal.exp ((a : EReal) - (b : EReal)) = ((Real.exp a * Real.exp (-b) : ℝ) : EReal) := by
  rw [← EReal.coe_sub, Ideal.exp_coe, ← Real.exp_add, ← sub_eq_add_neg]

/-- e to minus infinity, whatever is taken away first. -/
theorem exp_bot_sub (b : ℝ) : Ideal.exp ((⊥ : EReal) - (b : EReal)) = ((0 : ℝ) : EReal) := by
  rw [EReal.bot_sub, Ideal.exp_bot, EReal.coe_zero]

/-- Division of real numbers, the divisor not zero, read in the extended reals. -/
theorem div_real (a b : ℝ) (hb : b ≠ 0) : Ideal.div (a : EReal) (b : EReal) = ((a / b : ℝ) : EReal) := by
  rw [Ideal.div_coe hb, ← EReal.coe_mul]; congr 1; field_simp

/-- Two to the power x / log 2 is e to the power x. -/
theorem two_rpow (x : ℝ) : (2 : ℝ) ^ (x / Real.log 2) = Real.exp x := by
  rw [Real.rpow_def_of_pos (by norm_num)]
  congr 1
  have : Real.log 2 ≠ 0 := (Real.log_pos (by norm_num)).ne'
  field_simp

end Cert.Real

end
-- ==== Proof.InprojRow.lean ====
module

public import proofs.«01_k».proof.Proof.Sigmoid
public import proofs.«01_k».proof.Proof.RealKit
public import Idealize.ShloMosaic.Lib.Pointwise

@[expose] public section

noncomputable section

open Idealize.ShloMosaic

namespace Cert.InprojRow

/-- A row normalised by its root mean square and scaled by `w`. -/
def norm (u w : Fin 1024 → EReal) (k : Fin 1024) : EReal :=
  u k * Ideal.rsqrt (Ideal.div (∑ x, u x * u x) (Ideal.ofBits .f32 0x44800000#32) + Ideal.ofBits .f32 0x358637BD#32) * w k

/-- The logistic function. -/
def sigm (x : EReal) : EReal := Ideal.div 1 (1 + Ideal.exp (-x))

/-- The rotation of a row whose 1024 columns are sixteen groups of 64: the two halves of each group turned by the angle whose cosine and sine
    are `C` and `S`. -/
def rot (A : Fin 1024 → EReal) (C S : Fin 32 → EReal) (l : Fin 1024) : EReal :=
  if h : l.val % 64 < 32 then A l * C ⟨l.val % 32, by omega⟩ - A ⟨l.val + 32, by omega⟩ * S ⟨l.val % 32, by omega⟩
  else A l * C ⟨l.val % 32, by omega⟩ + A ⟨l.val - 32, by omega⟩ * S ⟨l.val % 32, by omega⟩

/-- The queries' scale. -/
def qs : EReal := (((8 * Real.log 2)⁻¹ : ℝ) : EReal)

/-- An eighth, then a division by the logarithm of two, is one multiplication by the scale, at every extended real. -/
theorem scale_eq (x : EReal) : Ideal.div (x * Ideal.ofBits .f32 0x3E000000#32) (Ideal.log (Ideal.ofBits .f32 0x40000000#32)) = x * qs := by
  have h2 : Real.log 2 ≠ 0 := (Real.log_pos (by norm_num)).ne'
  rw [Cert.Real.ofBits_eighth, Cert.Real.ofBits_two, Ideal.log_coe, if_neg (by norm_num), Ideal.div_coe h2, mul_assoc, ← EReal.coe_mul, qs]
  exact congrArg (x * ·) (Cert.Real.coe_congr (by rw [mul_inv]; ring))

theorem turn_sub {a a' b b' c c' d d' : EReal} (h1 : a = a') (h2 : b = b') (h3 : c = c') (h4 : d = d') : a * b - c * d = a' * b' - c' * d' := by
  rw [h1, h2, h3, h4]

theorem turn_add {a a' b b' c c' d d' : EReal} (h1 : a = a') (h2 : b = b') (h3 : c = c') (h4 : d = d') : a * b + c * d = a' * b' + c' * d' := by
  rw [h1, h2, h3, h4]

/-- The rotation as the kernel forms it: the row times the cosines, plus the row moved by half a group times the signed sines. -/
def krot (A : Fin 1024 → EReal) (C S : Fin 128 → EReal) (l : Fin 1024) : EReal :=
  A l * C ⟨l.val % 128, by omega⟩ + (if h : l.val % 64 < 32 then A ⟨l.val + 32, by omega⟩ else A ⟨l.val - 32, by omega⟩) * S ⟨l.val % 128, by omega⟩

/-- The kernel's form of the rotation is the reference's, for tables of the cosines and of the signed sines. -/
theorem krot_eq (A : Fin 1024 → EReal) (C S : Fin 128 → EReal) (c s : Fin 32 → EReal) (hC : ∀ k : Fin 128, C k = c ⟨k.val % 32, by omega⟩)
    (hS : ∀ k : Fin 128, S k = if k.val % 64 < 32 then -s ⟨k.val % 32, by omega⟩ else s ⟨k.val % 32, by omega⟩) (l : Fin 1024) :
    krot A C S l = rot A c s l := by
  have e : (⟨l.val % 128 % 32, by omega⟩ : Fin 32) = ⟨l.val % 32, by omega⟩ := Fin.ext (by show l.val % 128 % 32 = l.val % 32; omega)
  unfold krot rot
  rw [hC, hS]
  by_cases h : l.val % 64 < 32
  · have h' : l.val % 128 % 64 < 32 := by omega
    rw [dif_pos h, dif_pos h]
    show _ * c ⟨l.val % 128 % 32, _⟩ + _ * (if l.val % 128 % 64 < 32 then -s ⟨l.val % 128 % 32, _⟩ else s ⟨l.val % 128 % 32, _⟩) = _
    rw [if_pos h', e, sub_eq_add_neg, mul_neg]
  · have h' : ¬ l.val % 128 % 64 < 32 := by omega
    rw [dif_neg h, dif_neg h]
    show _ * c ⟨l.val % 128 % 32, _⟩ + _ * (if l.val % 128 % 64 < 32 then -s ⟨l.val % 128 % 32, _⟩ else s ⟨l.val % 128 % 32, _⟩) = _
    rw [if_neg h', e]

/-- The kernel's mask: whether a column lies in the first half of its group. -/
theorem mask_eq : ∀ k : Fin 128, IntOp.cmpi .slt (IntOp.andi (BitVec.ofNat 32 k.val) 63#32) 32#32 = if k.val % 64 < 32 then 1#1 else 0#1 := by
  decide +kernel

/-- One slab of 128 columns of the kernel's rotation. -/
theorem slab (A : Fin 1024 → EReal) (C S : Fin 128 → EReal) (n : ℕ) (hn : n < 8) (k : Fin 128) (i j p : Fin 1024) (hi : i.val = 128 * n + k.val)
    (hj : j.val = 128 * n + (k.val + 128 - 96) % 128) (hp : p.val = 128 * n + (k.val + 128 - 32) % 128) :
    A i * C k + Scalar.select (IntOp.cmpi .slt (IntOp.andi (BitVec.ofNat 32 k.val) 63#32) 32#32) (A j) (A p) * S k = krot A C S i := by
  have hk := k.isLt
  have ek : (⟨i.val % 128, by omega⟩ : Fin 128) = k := Fin.ext (by show i.val % 128 = k.val; omega)
  unfold krot
  rw [ek, mask_eq]
  by_cases h : k.val % 64 < 32
  · have h' : i.val % 64 < 32 := by omega
    have ej : j = ⟨i.val + 32, by omega⟩ := Fin.ext (by show j.val = i.val + 32; omega)
    rw [if_pos h, dif_pos h', ej]
    rfl
  · have h' : ¬ i.val % 64 < 32 := by omega
    have ep : p = ⟨i.val - 32, by omega⟩ := Fin.ext (by show p.val = i.val - 32; omega)
    rw [if_neg h, dif_neg h', ep]
    rfl

end Cert.InprojRow

end
-- ==== Proof.InprojPieces.lean ====
module

public import proofs.«01_k».proof.Proof.InprojFrame
public import proofs.«01_k».proof.Proof.InprojRow
public import Idealize.ShloMosaic.Lib.Pointwise

@[expose] public section

set_option maxRecDepth 16384

noncomputable section

namespace Cert.InprojIdeal.Inp

open Cert.InprojIdeal Cert.InprojIdeal.Gen
open Idealize.ShloMosaic Idealize.ShloMosaic.TcCoe Idealize.ShloMosaic.Tactic
open Idealize.SL.Sem

variable {F : FTy → Type} [FloatOps F] [Named F]

/-- A load of a whole buffer reads its contents. -/
theorem whole_read {s : Shape} {e : EltTy} {arg : Memref sig .tc .vmem s e} (harg : arg.IsWhole) (x : Vec F s e) {off : Fin s.rank → ℕ}
    (inb : ∀ a, off a + s.size a ≤ s.size a) (h : ∀ a, off a = 0) :
    View.readAt (Elt F) arg.view (Rect.unit off (no_index s.size) inb).toLoadRect (harg.unread x) = x := by
  funext y
  rw [View.readAt_apply, harg.read_unread]
  refine congrArg x (funext fun a => Fin.ext ?_)
  show off a + 1 * (y a).val = (y a).val
  rw [h a]; omega

/-- The queries' scale in the kernel. -/
theorem qs_eq : Named.named (F := Ideal) κ "q_scale" (φ := .f32) 0x3E38AA3B#32 = Cert.InprojRow.qs :=
  IdealRules.named_const.ideal_named_scalar _ _ _ _ rfl

/-- A slab of 128 columns, where it holds a column, has there the value of `G`. -/
theorem tile_of {e : EltTy} (w : S512x128.Idx → Elt Ideal e) (G : Fin 512 → Fin 1024 → Elt Ideal e) (n o : ℕ) (ho : o = 128 * n)
    (h : ∀ (y : Fin 512) (k : Fin 128) (i : Fin 1024), i.val = 128 * n + k.val → w (ix2 y k) = G y i) (y : Fin 512) (l : Fin 1024) :
    View.TileAt (Val := Elt Ideal) (S := S512x1024) (e := e) (ix2 y l) ![0, o] S512x128.size w (G y l) := by
  subst ho
  intro x hx
  idx_vars x
  have h0 : y.val = 0 + x0.val := hx 0
  have h1 : l.val = 128 * n + x1.val := hx 1
  have e0 : x0 = y := Fin.ext (by omega)
  subst e0
  exact h x0 x1 l h1

/-- Slab 0 of the queries' rotation. -/
theorem q_slab0 (A : FVec Ideal S512x1024 .f32) (C S : FVec Ideal S512x128 .f32) (y : Fin 512) (k : Fin 128) (i : Fin 1024) (hi : i.val = 128 * 0 + k.val) :
    k0_pay12 A C S (ix2 y k) = Cert.InprojRow.krot (fun l => A (ix2 y l)) (fun k => C (ix2 y k)) (fun k => S (ix2 y k)) i * Cert.InprojRow.qs := by
  pointwise [k0_pay11, k0_pay12]
  obtain rfl : i = ⟨k.val, by clear hi; omega⟩ := Fin.ext (by dsimp only; omega)
  exact congr (congrArg HMul.hMul (Cert.InprojRow.slab (fun l => A (ix2 y l)) (fun k => C (ix2 y k)) (fun k => S (ix2 y k)) 0 (by decide) k _ _ _ (by dsimp only <;> omega) (by dsimp only <;> omega) (by dsimp only <;> omega))) qs_eq

/-- Slab 1 of the queries' rotation. -/
theorem q_slab1 (A : FVec Ideal S512x1024 .f32) (C S : FVec Ideal S512x128 .f32) (y : Fin 512) (k : Fin 128) (i : Fin 1024) (hi : i.val = 128 * 1 + k.val) :
    k0_pay13 A C S (ix2 y k) = Cert.InprojRow.krot (fun l => A (ix2 y l)) (fun k => C (ix2 y k)) (fun k => S (ix2 y k)) i * Cert.InprojRow.qs := by
  pointwise [k0_pay11, k0_pay13]
  obtain rfl : i = ⟨128 + k.val, by clear hi; omega⟩ := Fin.ext (by dsimp only; omega)
  exact congr (congrArg HMul.hMul (Cert.InprojRow.slab (fun l => A (ix2 y l)) (fun k => C (ix2 y k)) (fun k => S (ix2 y k)) 1 (by decide) k _ _ _ (by dsimp only <;> omega) (by dsimp only <;> omega) (by dsimp only <;> omega))) qs_eq

/-- Slab 2 of the queries' rotation. -/
theorem q_slab2 (A : FVec Ideal S512x1024 .f32) (C S : FVec Ideal S512x128 .f32) (y : Fin 512) (k : Fin 128) (i : Fin 1024) (hi : i.val = 128 * 2 + k.val) :
    k0_pay16 k0_pay11 (k0_pay14 A) (k0_pay15 A) C S (ix2 y k) = Cert.InprojRow.krot (fun l => A (ix2 y l)) (fun k => C (ix2 y k)) (fun k => S (ix2 y k)) i * Cert.InprojRow.qs := by
  pointwise [k0_pay11, k0_pay14, k0_pay15, k0_pay16]
  obtain rfl : i = ⟨256 + k.val, by clear hi; omega⟩ := Fin.ext (by dsimp only; omega)
  exact congr (congrArg HMul.hMul (Cert.InprojRow.slab (fun l => A (ix2 y l)) (fun k => C (ix2 y k)) (fun k => S (ix2 y k)) 2 (by decide) k _ _ _ (by dsimp only <;> omega) (by dsimp only <;> omega) (by dsimp only <;> omega))) qs_eq

/-- Slab 3 of the queries' rotation. -/
theorem q_slab3 (A : FVec Ideal S512x1024 .f32) (C S : FVec Ideal S512x128 .f32) (y : Fin 512) (k : Fin 128) (i : Fin 1024) (hi : i.val = 128 * 3 + k.val) :
    k0_pay17 A k0_pay11 C S (ix2 y k) = Cert.InprojRow.krot (fun l => A (ix2 y l)) (fun k => C (ix2 y k)) (fun k => S (ix2 y k)) i * Cert.InprojRow.qs := by
  pointwise [k0_pay11, k0_pay17]
  obtain rfl : i = ⟨384 + k.val, by clear hi; omega⟩ := Fin.ext (by dsimp only; omega)
  exact congr (congrArg HMul.hMul (Cert.InprojRow.slab (fun l => A (ix2 y l)) (fun k => C (ix2 y k)) (fun k => S (ix2 y k)) 3 (by decide) k _ _ _ (by dsimp only <;> omega) (by dsimp only <;> omega) (by dsimp only <;> omega))) qs_eq

/-- Slab 4 of the queries' rotation. -/
theorem q_slab4 (A : FVec Ideal S512x1024 .f32) (C S : FVec Ideal S512x128 .f32) (y : Fin 512) (k : Fin 128) (i : Fin 1024) (hi : i.val = 128 * 4 + k.val) :
    k0_pay21 (k0_pay19 A k0_pay11) (k0_pay20 A C) S (ix2 y k) = Cert.InprojRow.krot (fun l => A (ix2 y l)) (fun k => C (ix2 y k)) (fun k => S (ix2 y k)) i * Cert.InprojRow.qs := by
  pointwise [k0_pay11, k0_pay19, k0_pay20, k0_pay21, k0_pay18]
  obtain rfl : i = ⟨512 + k.val, by clear hi; omega⟩ := Fin.ext (by dsimp only; omega)
  exact congr (congrArg HMul.hMul (Cert.InprojRow.slab (fun l => A (ix2 y l)) (fun k => C (ix2 y k)) (fun k => S (ix2 y k)) 4 (by decide) k _ _ _ (by dsimp only <;> omega) (by dsimp only <;> omega) (by dsimp only <;> omega))) qs_eq

/-- Slab 5 of the queries' rotation. -/
theorem q_slab5 (A : FVec Ideal S512x1024 .f32) (C S : FVec Ideal S512x128 .f32) (y : Fin 512) (k : Fin 128) (i : Fin 1024) (hi : i.val = 128 * 5 + k.val) :
    k0_pay22 A k0_pay11 C S (ix2 y k) = Cert.InprojRow.krot (fun l => A (ix2 y l)) (fun k => C (ix2 y k)) (fun k => S (ix2 y k)) i * Cert.InprojRow.qs := by
  pointwise [k0_pay11, k0_pay22]
  obtain rfl : i = ⟨640 + k.val, by clear hi; omega⟩ := Fin.ext (by dsimp only; omega)
  exact congr (congrArg HMul.hMul (Cert.InprojRow.slab (fun l => A (ix2 y l)) (fun k => C (ix2 y k)) (fun k => S (ix2 y k)) 5 (by decide) k _ _ _ (by dsimp only <;> omega) (by dsimp only <;> omega) (by dsimp only <;> omega))) qs_eq

/-- Slab 6 of the queries' rotation. -/
theorem q_slab6 (A : FVec Ideal S512x1024 .f32) (C S : FVec Ideal S512x128 .f32) (y : Fin 512) (k : Fin 128) (i : Fin 1024) (hi : i.val = 128 * 6 + k.val) :
    k0_pay23 A k0_pay11 C S (ix2 y k) = Cert.InprojRow.krot (fun l => A (ix2 y l)) (fun k => C (ix2 y k)) (fun k => S (ix2 y k)) i * Cert.InprojRow.qs := by
  pointwise [k0_pay11, k0_pay23]
  obtain rfl : i = ⟨768 + k.val, by clear hi; omega⟩ := Fin.ext (by dsimp only; omega)
  exact congr (congrArg HMul.hMul (Cert.InprojRow.slab (fun l => A (ix2 y l)) (fun k => C (ix2 y k)) (fun k => S (ix2 y k)) 6 (by decide) k _ _ _ (by dsimp only <;> omega) (by dsimp only <;> omega) (by dsimp only <;> omega))) qs_eq

/-- Slab 7 of the queries' rotation. -/
theorem q_slab7 (xs : Vec Ideal S512x1024 .bf16) (x2 : Vec Ideal S1024x1024 .bf16) (C S : FVec Ideal S512x128 .f32) (y : Fin 512) (k : Fin 128) (i : Fin 1024) (hi : i.val = 128 * 7 + k.val) :
    k0_pay5 xs x2 k0_pay11 C S (ix2 y k) = Cert.InprojRow.krot (fun l => (k0_pay2 xs x2) (ix2 y l)) (fun k => C (ix2 y k)) (fun k => S (ix2 y k)) i * Cert.InprojRow.qs := by
  unfold k0_pay5
  generalize k0_pay2 xs x2 = A
  pointwise [k0_pay11]
  obtain rfl : i = ⟨896 + k.val, by clear hi; omega⟩ := Fin.ext (by dsimp only; omega)
  exact congr (congrArg HMul.hMul (Cert.InprojRow.slab (fun l => A (ix2 y l)) (fun k => C (ix2 y k)) (fun k => S (ix2 y k)) 7 (by decide) k _ _ _ (by dsimp only <;> omega) (by dsimp only <;> omega) (by dsimp only <;> omega))) qs_eq

/-- Slab 0 of the keys' rotation, rounded. -/
theorem k_slab0 (A : FVec Ideal S512x1024 .f32) (C S : FVec Ideal S512x128 .f32) (y : Fin 512) (k : Fin 128) (i : Fin 1024) (hi : i.val = 128 * 0 + k.val) :
    k0_pay26 A C S (ix2 y k) = Cert.InprojRow.krot (fun l => A (ix2 y l)) (fun k => C (ix2 y k)) (fun k => S (ix2 y k)) i := by
  pointwise [k0_pay24, k0_pay26, k0_pay25]
  obtain rfl : i = ⟨k.val, by clear hi; omega⟩ := Fin.ext (by dsimp only; omega)
  exact Cert.InprojRow.slab (fun l => A (ix2 y l)) (fun k => C (ix2 y k)) (fun k => S (ix2 y k)) 0 (by decide) k _ _ _ (by dsimp only <;> omega) (by dsimp only <;> omega) (by dsimp only <;> omega)

/-- Slab 1 of the keys' rotation, rounded. -/
theorem k_slab1 (A : FVec Ideal S512x1024 .f32) (C S : FVec Ideal S512x128 .f32) (y : Fin 512) (k : Fin 128) (i : Fin 1024) (hi : i.val = 128 * 1 + k.val) :
    k0_pay28 A C S (ix2 y k) = Cert.InprojRow.krot (fun l => A (ix2 y l)) (fun k => C (ix2 y k)) (fun k => S (ix2 y k)) i := by
  pointwise [k0_pay24, k0_pay28, k0_pay27]
  obtain rfl : i = ⟨128 + k.val, by clear hi; omega⟩ := Fin.ext (by dsimp only; omega)
  exact Cert.InprojRow.slab (fun l => A (ix2 y l)) (fun k => C (ix2 y k)) (fun k => S (ix2 y k)) 1 (by decide) k _ _ _ (by dsimp only <;> omega) (by dsimp only <;> omega) (by dsimp only <;> omega)

/-- Slab 2 of the keys' rotation, rounded. -/
theorem k_slab2 (A : FVec Ideal S512x1024 .f32) (C S : FVec Ideal S512x128 .f32) (y : Fin 512) (k : Fin 128) (i : Fin 1024) (hi : i.val = 128 * 2 + k.val) :
    k0_pay31 k0_pay24 (k0_pay29 A) C S (ix2 y k) = Cert.InprojRow.krot (fun l => A (ix2 y l)) (fun k => C (ix2 y k)) (fun k => S (ix2 y k)) i := by
  pointwise [k0_pay24, k0_pay29, k0_pay31, k0_pay30]
  obtain rfl : i = ⟨256 + k.val, by clear hi; omega⟩ := Fin.ext (by dsimp only; omega)
  exact Cert.InprojRow.slab (fun l => A (ix2 y l)) (fun k => C (ix2 y k)) (fun k => S (ix2 y k)) 2 (by decide) k _ _ _ (by dsimp only <;> omega) (by dsimp only <;> omega) (by dsimp only <;> omega)

/-- Slab 3 of the keys' rotation, rounded. -/
theorem k_slab3 (A : FVec Ideal S512x1024 .f32) (C S : FVec Ideal S512x128 .f32) (y : Fin 512) (k : Fin 128) (i : Fin 1024) (hi : i.val = 128 * 3 + k.val) :
    k0_pay33 A k0_pay24 C S (ix2 y k) = Cert.InprojRow.krot (fun l => A (ix2 y l)) (fun k => C (ix2 y k)) (fun k => S (ix2 y k)) i := by
  pointwise [k0_pay24, k0_pay33, k0_pay32]
  obtain rfl : i = ⟨384 + k.val, by clear hi; omega⟩ := Fin.ext (by dsimp only; omega)
  exact Cert.InprojRow.slab (fun l => A (ix2 y l)) (fun k => C (ix2 y k)) (fun k => S (ix2 y k)) 3 (by decide) k _ _ _ (by dsimp only <;> omega) (by dsimp only <;> omega) (by dsimp only <;> omega)

/-- Slab 4 of the keys' rotation, rounded. -/
theorem k_slab4 (A : FVec Ideal S512x1024 .f32) (C S : FVec Ideal S512x128 .f32) (y : Fin 512) (k : Fin 128) (i : Fin 1024) (hi : i.val = 128 * 4 + k.val) :
    k0_pay37 (k0_pay34 A) (k0_pay35 A k0_pay24) C S (ix2 y k) = Cert.InprojRow.krot (fun l => A (ix2 y l)) (fun k => C (ix2 y k)) (fun k => S (ix2 y k)) i := by
  pointwise [k0_pay24, k0_pay34, k0_pay35, k0_pay37, k0_pay36]
  obtain rfl : i = ⟨512 + k.val, by clear hi; omega⟩ := Fin.ext (by dsimp only; omega)
  exact Cert.InprojRow.slab (fun l => A (ix2 y l)) (fun k => C (ix2 y k)) (fun k => S (ix2 y k)) 4 (by decide) k _ _ _ (by dsimp only <;> omega) (by dsimp only <;> omega) (by dsimp only <;> omega)

/-- Slab 5 of the keys' rotation, rounded. -/
theorem k_slab5 (A : FVec Ideal S512x1024 .f32) (C S : FVec Ideal S512x128 .f32) (y : Fin 512) (k : Fin 128) (i : Fin 1024) (hi : i.val = 128 * 5 + k.val) :
    k0_pay39 A k0_pay24 C S (ix2 y k) = Cert.InprojRow.krot (fun l => A (ix2 y l)) (fun k => C (ix2 y k)) (fun k => S (ix2 y k)) i := by
  pointwise [k0_pay24, k0_pay39, k0_pay38]
  obtain rfl : i = ⟨640 + k.val, by clear hi; omega⟩ := Fin.ext (by dsimp only; omega)
  exact Cert.InprojRow.slab (fun l => A (ix2 y l)) (fun k => C (ix2 y k)) (fun k => S (ix2 y k)) 5 (by decide) k _ _ _ (by dsimp only <;> omega) (by dsimp only <;> omega) (by dsimp only <;> omega)

/-- Slab 6 of the keys' rotation, rounded. -/
theorem k_slab6 (A : FVec Ideal S512x1024 .f32) (C S : FVec Ideal S512x128 .f32) (y : Fin 512) (k : Fin 128) (i : Fin 1024) (hi : i.val = 128 * 6 + k.val) :
    k0_pay6 (k0_pay40 A k0_pay24 C S) (ix2 y k) = Cert.InprojRow.krot (fun l => A (ix2 y l)) (fun k => C (ix2 y k)) (fun k => S (ix2 y k)) i := by
  pointwise [k0_pay6, k0_pay24, k0_pay40]
  obtain rfl : i = ⟨768 + k.val, by clear hi; omega⟩ := Fin.ext (by dsimp only; omega)
  exact Cert.InprojRow.slab (fun l => A (ix2 y l)) (fun k => C (ix2 y k)) (fun k => S (ix2 y k)) 6 (by decide) k _ _ _ (by dsimp only <;> omega) (by dsimp only <;> omega) (by dsimp only <;> omega)

/-- Slab 7 of the keys' rotation, rounded. -/
theorem k_slab7 (xs : Vec Ideal S512x1024 .bf16) (x2 : Vec Ideal S1024x1024 .bf16) (C S : FVec Ideal S512x128 .f32) (y : Fin 512) (k : Fin 128) (i : Fin 1024) (hi : i.val = 128 * 7 + k.val) :
    k0_pay8 xs x2 k0_pay24 C S (ix2 y k) = Cert.InprojRow.krot (fun l => (k0_pay2 xs x2) (ix2 y l)) (fun k => C (ix2 y k)) (fun k => S (ix2 y k)) i := by
  unfold k0_pay8 k0_pay7
  generalize k0_pay2 xs x2 = A
  pointwise [k0_pay24]
  obtain rfl : i = ⟨896 + k.val, by clear hi; omega⟩ := Fin.ext (by dsimp only; omega)
  exact Cert.InprojRow.slab (fun l => A (ix2 y l)) (fun k => C (ix2 y k)) (fun k => S (ix2 y k)) 7 (by decide) k _ _ _ (by dsimp only <;> omega) (by dsimp only <;> omega) (by dsimp only <;> omega)

/-- Slab 0 of the keys' rotation. -/
theorem kv_slab0 (A : FVec Ideal S512x1024 .f32) (C S : FVec Ideal S512x128 .f32) (y : Fin 512) (k : Fin 128) (i : Fin 1024) (hi : i.val = 128 * 0 + k.val) :
    k0_pay25 A C S (ix2 y k) = Cert.InprojRow.krot (fun l => A (ix2 y l)) (fun k => C (ix2 y k)) (fun k => S (ix2 y k)) i := by
  pointwise [k0_pay24, k0_pay25]
  obtain rfl : i = ⟨k.val, by clear hi; omega⟩ := Fin.ext (by dsimp only; omega)
  exact Cert.InprojRow.slab (fun l => A (ix2 y l)) (fun k => C (ix2 y k)) (fun k => S (ix2 y k)) 0 (by decide) k _ _ _ (by dsimp only <;> omega) (by dsimp only <;> omega) (by dsimp only <;> omega)

/-- Slab 1 of the keys' rotation. -/
theorem kv_slab1 (A : FVec Ideal S512x1024 .f32) (C S : FVec Ideal S512x128 .f32) (y : Fin 512) (k : Fin 128) (i : Fin 1024) (hi : i.val = 128 * 1 + k.val) :
    k0_pay27 A C S (ix2 y k) = Cert.InprojRow.krot (fun l => A (ix2 y l)) (fun k => C (ix2 y k)) (fun k => S (ix2 y k)) i := by
  pointwise [k0_pay24, k0_pay27]
  obtain rfl : i = ⟨128 + k.val, by clear hi; omega⟩ := Fin.ext (by dsimp only; omega)
  exact Cert.InprojRow.slab (fun l => A (ix2 y l)) (fun k => C (ix2 y k)) (fun k => S (ix2 y k)) 1 (by decide) k _ _ _ (by dsimp only <;> omega) (by dsimp only <;> omega) (by dsimp only <;> omega)

/-- Slab 2 of the keys' rotation. -/
theorem kv_slab2 (A : FVec Ideal S512x1024 .f32) (C S : FVec Ideal S512x128 .f32) (y : Fin 512) (k : Fin 128) (i : Fin 1024) (hi : i.val = 128 * 2 + k.val) :
    k0_pay30 k0_pay24 (k0_pay29 A) C S (ix2 y k) = Cert.InprojRow.krot (fun l => A (ix2 y l)) (fun k => C (ix2 y k)) (fun k => S (ix2 y k)) i := by
  pointwise [k0_pay24, k0_pay29, k0_pay30]
  obtain rfl : i = ⟨256 + k.val, by clear hi; omega⟩ := Fin.ext (by dsimp only; omega)
  exact Cert.InprojRow.slab (fun l => A (ix2 y l)) (fun k => C (ix2 y k)) (fun k => S (ix2 y k)) 2 (by decide) k _ _ _ (by dsimp only <;> omega) (by dsimp only <;> omega) (by dsimp only <;> omega)

/-- Slab 3 of the keys' rotation. -/
theorem kv_slab3 (A : FVec Ideal S512x1024 .f32) (C S : FVec Ideal S512x128 .f32) (y : Fin 512) (k : Fin 128) (i : Fin 1024) (hi : i.val = 128 * 3 + k.val) :
    k0_pay32 A k0_pay24 C S (ix2 y k) = Cert.InprojRow.krot (fun l => A (ix2 y l)) (fun k => C (ix2 y k)) (fun k => S (ix2 y k)) i := by
  pointwise [k0_pay24, k0_pay32]
  obtain rfl : i = ⟨384 + k.val, by clear hi; omega⟩ := Fin.ext (by dsimp only; omega)
  exact Cert.InprojRow.slab (fun l => A (ix2 y l)) (fun k => C (ix2 y k)) (fun k => S (ix2 y k)) 3 (by decide) k _ _ _ (by dsimp only <;> omega) (by dsimp only <;> omega) (by dsimp only <;> omega)

/-- Slab 4 of the keys' rotation. -/
theorem kv_slab4 (A : FVec Ideal S512x1024 .f32) (C S : FVec Ideal S512x128 .f32) (y : Fin 512) (k : Fin 128) (i : Fin 1024) (hi : i.val = 128 * 4 + k.val) :
    k0_pay36 (k0_pay34 A) (k0_pay35 A k0_pay24) C S (ix2 y k) = Cert.InprojRow.krot (fun l => A (ix2 y l)) (fun k => C (ix2 y k)) (fun k => S (ix2 y k)) i := by
  pointwise [k0_pay24, k0_pay34, k0_pay35, k0_pay36]
  obtain rfl : i = ⟨512 + k.val, by clear hi; omega⟩ := Fin.ext (by dsimp only; omega)
  exact Cert.InprojRow.slab (fun l => A (ix2 y l)) (fun k => C (ix2 y k)) (fun k => S (ix2 y k)) 4 (by decide) k _ _ _ (by dsimp only <;> omega) (by dsimp only <;> omega) (by dsimp only <;> omega)

/-- Slab 5 of the keys' rotation. -/
theorem kv_slab5 (A : FVec Ideal S512x1024 .f32) (C S : FVec Ideal S512x128 .f32) (y : Fin 512) (k : Fin 128) (i : Fin 1024) (hi : i.val = 128 * 5 + k.val) :
    k0_pay38 A k0_pay24 C S (ix2 y k) = Cert.InprojRow.krot (fun l => A (ix2 y l)) (fun k => C (ix2 y k)) (fun k => S (ix2 y k)) i := by
  pointwise [k0_pay24, k0_pay38]
  obtain rfl : i = ⟨640 + k.val, by clear hi; omega⟩ := Fin.ext (by dsimp only; omega)
  exact Cert.InprojRow.slab (fun l => A (ix2 y l)) (fun k => C (ix2 y k)) (fun k => S (ix2 y k)) 5 (by decide) k _ _ _ (by dsimp only <;> omega) (by dsimp only <;> omega) (by dsimp only <;> omega)

/-- Slab 6 of the keys' rotation. -/
theorem kv_slab6 (A : FVec Ideal S512x1024 .f32) (C S : FVec Ideal S512x128 .f32) (y : Fin 512) (k : Fin 128) (i : Fin 1024) (hi : i.val = 128 * 6 + k.val) :
    k0_pay40 A k0_pay24 C S (ix2 y k) = Cert.InprojRow.krot (fun l => A (ix2 y l)) (fun k => C (ix2 y k)) (fun k => S (ix2 y k)) i := by
  pointwise [k0_pay24, k0_pay40]
  obtain rfl : i = ⟨768 + k.val, by clear hi; omega⟩ := Fin.ext (by dsimp only; omega)
  exact Cert.InprojRow.slab (fun l => A (ix2 y l)) (fun k => C (ix2 y k)) (fun k => S (ix2 y k)) 6 (by decide) k _ _ _ (by dsimp only <;> omega) (by dsimp only <;> omega) (by dsimp only <;> omega)

/-- Slab 7 of the keys' rotation. -/
theorem kv_slab7 (xs : Vec Ideal S512x1024 .bf16) (x2 : Vec Ideal S1024x1024 .bf16) (C S : FVec Ideal S512x128 .f32) (y : Fin 512) (k : Fin 128) (i : Fin 1024) (hi : i.val = 128 * 7 + k.val) :
    k0_pay7 xs x2 k0_pay24 C S (ix2 y k) = Cert.InprojRow.krot (fun l => (k0_pay2 xs x2) (ix2 y l)) (fun k => C (ix2 y k)) (fun k => S (ix2 y k)) i := by
  unfold k0_pay7
  generalize k0_pay2 xs x2 = A
  pointwise [k0_pay24]
  obtain rfl : i = ⟨896 + k.val, by clear hi; omega⟩ := Fin.ext (by dsimp only; omega)
  exact Cert.InprojRow.slab (fun l => A (ix2 y l)) (fun k => C (ix2 y k)) (fun k => S (ix2 y k)) 7 (by decide) k _ _ _ (by dsimp only <;> omega) (by dsimp only <;> omega) (by dsimp only <;> omega)

section
variable (c : Dev nD) (i : grid0.Coords)
variable (arg2 : Memref sig .tc .vmem S512x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x1024 .bf16) (harg7 : arg7.IsWhole)
  (arg8 : Memref sig .tc .vmem S512x1024 .f32) (harg8 : arg8.IsWhole)
  (arg9 : Memref sig .tc .vmem S512x1024 .bf16) (harg9 : arg9.IsWhole)
variable (x0 : Vec Ideal S512x1024 .f32) (x1 : Vec Ideal S1x1024 .f32) (x2 : Vec Ideal S1024x1024 .bf16)
  (x3 : Vec Ideal S512x128 .f32) (x4 : Vec Ideal S512x128 .f32)

set_option maxHeartbeats 1000000 in
/-- What the first point leaves in the scratch buffer. -/
theorem canon_scr (h1 : firstCond i = 1#1) (h2 : k0_cond2 i = 1#1) (h3 : ¬ (k0_cond3 i = 1#1)) (h4 : ¬ (k0_cond4 i = 1#1)) (h5 : ¬ (k0_cond5 i = 1#1)) (h6 : ¬ (k0_cond6 i = 1#1)) (h7 : ¬ (k0_cond7 i = 1#1)) :
    View.canon (runNorm (F := Ideal) c i arg2 harg2 arg3 harg3 arg4 harg4 arg5 harg5 arg6 harg6 arg7 harg7 arg8 harg8 arg9 harg9 x0 x1 x2 x3 x4 h1 h2 h3 h4 h5 h6 h7).1.2 = k0_pay1 x0 x1 := by
  unfold runNorm runNorm.sl.H7_1
  dsimp only
  simp (disch := decide) only [whole_read]
  exact View.canon_cons_unit_lit' _ _ _ (by decide)

set_option maxHeartbeats 1000000 in
/-- What the first point stores. -/
theorem canon_norm (h1 : firstCond i = 1#1) (h2 : k0_cond2 i = 1#1) (h3 : ¬ (k0_cond3 i = 1#1)) (h4 : ¬ (k0_cond4 i = 1#1)) (h5 : ¬ (k0_cond5 i = 1#1)) (h6 : ¬ (k0_cond6 i = 1#1)) (h7 : ¬ (k0_cond7 i = 1#1)) :
    View.canon (runNorm (F := Ideal) c i arg2 harg2 arg3 harg3 arg4 harg4 arg5 harg5 arg6 harg6 arg7 harg7 arg8 harg8 arg9 harg9 x0 x1 x2 x3 x4 h1 h2 h3 h4 h5 h6 h7).1.1 = k0_pay3 (k0_pay1 x0 x1) x2 := by
  have e : runNorm.sl.v3 (F := Ideal) c arg2 harg2 arg3 harg3 arg9 x0 x1 = k0_pay1 x0 x1 := by
    unfold runNorm.sl.v3 runNorm.sl.H7_1
    simp (disch := decide) only [whole_read]
    exact View.readCov_unit_lit' _ _ _ (by decide)
  unfold runNorm
  dsimp only
  rw [e]
  simp (disch := decide) only [whole_read]
  exact View.canon_cons_unit_lit' _ _ _ (by decide)

set_option maxHeartbeats 1000000 in
/-- What a gated point stores. -/
theorem canon_silu (xs : Vec Ideal S512x1024 .bf16) (h1 : ¬ (firstCond i = 1#1)) (h2 : ¬ (k0_cond2 i = 1#1)) (h3 : k0_cond3 i = 1#1) (h4 : ¬ (k0_cond4 i = 1#1)) (h5 : ¬ (k0_cond5 i = 1#1)) (h6 : ¬ (k0_cond6 i = 1#1)) (h7 : ¬ (k0_cond7 i = 1#1)) :
    View.canon (runSilu (F := Ideal) c i arg2 harg2 arg3 harg3 arg4 harg4 arg5 harg5 arg6 harg6 arg7 harg7 arg8 harg8 arg9 harg9 x0 x1 x2 x3 x4 xs h1 h2 h3 h4 h5 h6 h7).1 = k0_pay4 xs x2 := by
  unfold runSilu
  dsimp only
  simp (disch := decide) only [whole_read]
  exact View.canon_cons_unit_lit' _ _ _ (by decide)

set_option maxHeartbeats 1000000 in
/-- What a gate point stores. -/
theorem canon_sig (xs : Vec Ideal S512x1024 .bf16) (h1 : ¬ (firstCond i = 1#1)) (h2 : ¬ (k0_cond2 i = 1#1)) (h3 : ¬ (k0_cond3 i = 1#1)) (h4 : ¬ (k0_cond4 i = 1#1)) (h5 : ¬ (k0_cond5 i = 1#1)) (h6 : ¬ (k0_cond6 i = 1#1)) (h7 : k0_cond7 i = 1#1) :
    View.canon (runSig (F := Ideal) c i arg2 harg2 arg3 harg3 arg4 harg4 arg5 harg5 arg6 harg6 arg7 harg7 arg8 harg8 arg9 harg9 x0 x1 x2 x3 x4 xs h1 h2 h3 h4 h5 h6 h7).1 = k0_pay10 xs x2 := by
  unfold runSig
  dsimp only
  simp (disch := decide) only [whole_read]
  exact View.canon_cons_unit_lit' _ _ _ (by decide)

set_option maxHeartbeats 1000000 in
/-- What the value point stores into the first output. -/
theorem canon_val (xs : Vec Ideal S512x1024 .bf16) (h1 : ¬ (firstCond i = 1#1)) (h2 : ¬ (k0_cond2 i = 1#1)) (h3 : ¬ (k0_cond3 i = 1#1)) (h4 : ¬ (k0_cond4 i = 1#1)) (h5 : ¬ (k0_cond5 i = 1#1)) (h6 : k0_cond6 i = 1#1) (h7 : ¬ (k0_cond7 i = 1#1)) :
    View.canon (runVal (F := Ideal) c i arg2 harg2 arg3 harg3 arg4 harg4 arg5 harg5 arg6 harg6 arg7 harg7 arg8 harg8 arg9 harg9 x0 x1 x2 x3 x4 xs h1 h2 h3 h4 h5 h6 h7).1.1 = k0_pay9 xs x2 := by
  unfold runVal
  dsimp only
  simp (disch := decide) only [whole_read]
  exact View.canon_cons_unit_lit' _ _ _ (by decide)

set_option maxHeartbeats 1000000 in
/-- What the value point stores into the second output. -/
theorem canon_val2 (xs : Vec Ideal S512x1024 .bf16) (h1 : ¬ (firstCond i = 1#1)) (h2 : ¬ (k0_cond2 i = 1#1)) (h3 : ¬ (k0_cond3 i = 1#1)) (h4 : ¬ (k0_cond4 i = 1#1)) (h5 : ¬ (k0_cond5 i = 1#1)) (h6 : k0_cond6 i = 1#1) (h7 : ¬ (k0_cond7 i = 1#1)) :
    View.canon (runVal (F := Ideal) c i arg2 harg2 arg3 harg3 arg4 harg4 arg5 harg5 arg6 harg6 arg7 harg7 arg8 harg8 arg9 harg9 x0 x1 x2 x3 x4 xs h1 h2 h3 h4 h5 h6 h7).1.2 = k0_pay2 xs x2 := by
  unfold runVal
  dsimp only
  simp (disch := decide) only [whole_read]
  exact View.canon_cons_unit_lit' _ _ _ (by decide)

set_option maxHeartbeats 1000000 in
theorem pc_rotQ (xs : Vec Ideal S512x1024 .bf16) (h1 : ¬ (firstCond i = 1#1)) (h2 : ¬ (k0_cond2 i = 1#1)) (h3 : ¬ (k0_cond3 i = 1#1)) (h4 : k0_cond4 i = 1#1) (h5 : ¬ (k0_cond5 i = 1#1)) (h6 : ¬ (k0_cond6 i = 1#1)) (h7 : ¬ (k0_cond7 i = 1#1)) :
    (runRotQ (F := Ideal) c i arg2 harg2 arg3 harg3 arg4 harg4 arg5 harg5 arg6 harg6 arg7 harg7 arg8 harg8 arg9 harg9 x0 x1 x2 x3 x4 xs h1 h2 h3 h4 h5 h6 h7).1 = ([⟨Rect.unit (s := S512x1024) ![0, 896] S512x128.size inb_S512x1024_S512x128_0_896, k0_pay5 xs x2 k0_pay11 x3 x4⟩,
      ⟨Rect.unit (s := S512x1024) ![0, 768] S512x128.size inb_S512x1024_S512x128_0_768, k0_pay23 (k0_pay2 xs x2) k0_pay11 x3 x4⟩,
      ⟨Rect.unit (s := S512x1024) ![0, 640] S512x128.size inb_S512x1024_S512x128_0_640, k0_pay22 (k0_pay2 xs x2) k0_pay11 x3 x4⟩,
      ⟨Rect.unit (s := S512x1024) ![0, 512] S512x128.size inb_S512x1024_S512x128_0_512, k0_pay21 (k0_pay19 (k0_pay2 xs x2) k0_pay11) (k0_pay20 (k0_pay2 xs x2) x3) x4⟩,
      ⟨Rect.unit (s := S512x1024) ![0, 384] S512x128.size inb_S512x1024_S512x128_0_384, k0_pay17 (k0_pay2 xs x2) k0_pay11 x3 x4⟩,
      ⟨Rect.unit (s := S512x1024) ![0, 256] S512x128.size inb_S512x1024_S512x128_0_256, k0_pay16 k0_pay11 (k0_pay14 (k0_pay2 xs x2)) (k0_pay15 (k0_pay2 xs x2)) x3 x4⟩,
      ⟨Rect.unit (s := S512x1024) ![0, 128] S512x128.size inb_S512x1024_S512x128_0_128, k0_pay13 (k0_pay2 xs x2) x3 x4⟩,
      ⟨Rect.unit (s := S512x1024) ![0, 0] S512x128.size inb_S512x1024_S512x128_0_0, k0_pay12 (k0_pay2 xs x2) x3 x4⟩] : List (View.Piece (Elt Ideal) S512x1024 .bf16)) := by
  unfold runRotQ
  dsimp only
  simp (disch := decide) only [whole_read]

set_option maxHeartbeats 1000000 in
/-- What the query point stores, at a row and a column. -/
theorem canon_rotQ (xs : Vec Ideal S512x1024 .bf16) (h1 : ¬ (firstCond i = 1#1)) (h2 : ¬ (k0_cond2 i = 1#1)) (h3 : ¬ (k0_cond3 i = 1#1)) (h4 : k0_cond4 i = 1#1) (h5 : ¬ (k0_cond5 i = 1#1)) (h6 : ¬ (k0_cond6 i = 1#1)) (h7 : ¬ (k0_cond7 i = 1#1)) (y : Fin 512) (l : Fin 1024) :
    View.canon (runRotQ (F := Ideal) c i arg2 harg2 arg3 harg3 arg4 harg4 arg5 harg5 arg6 harg6 arg7 harg7 arg8 harg8 arg9 harg9 x0 x1 x2 x3 x4 xs h1 h2 h3 h4 h5 h6 h7).1 (ix2 y l) = Cert.InprojRow.krot (fun l => k0_pay2 xs x2 (ix2 y l)) (fun k => x3 (ix2 y k)) (fun k => x4 (ix2 y k)) l * Cert.InprojRow.qs := by
  rw [pc_rotQ]
  refine View.canon_eq_of_allAt _ _ _ (View.cover_of_tiledL ([⟨Rect.unit (s := S512x1024) ![0, 896] S512x128.size inb_S512x1024_S512x128_0_896, k0_pay5 xs x2 k0_pay11 x3 x4⟩,
      ⟨Rect.unit (s := S512x1024) ![0, 768] S512x128.size inb_S512x1024_S512x128_0_768, k0_pay23 (k0_pay2 xs x2) k0_pay11 x3 x4⟩,
      ⟨Rect.unit (s := S512x1024) ![0, 640] S512x128.size inb_S512x1024_S512x128_0_640, k0_pay22 (k0_pay2 xs x2) k0_pay11 x3 x4⟩,
      ⟨Rect.unit (s := S512x1024) ![0, 512] S512x128.size inb_S512x1024_S512x128_0_512, k0_pay21 (k0_pay19 (k0_pay2 xs x2) k0_pay11) (k0_pay20 (k0_pay2 xs x2) x3) x4⟩,
      ⟨Rect.unit (s := S512x1024) ![0, 384] S512x128.size inb_S512x1024_S512x128_0_384, k0_pay17 (k0_pay2 xs x2) k0_pay11 x3 x4⟩,
      ⟨Rect.unit (s := S512x1024) ![0, 256] S512x128.size inb_S512x1024_S512x128_0_256, k0_pay16 k0_pay11 (k0_pay14 (k0_pay2 xs x2)) (k0_pay15 (k0_pay2 xs x2)) x3 x4⟩,
      ⟨Rect.unit (s := S512x1024) ![0, 128] S512x128.size inb_S512x1024_S512x128_0_128, k0_pay13 (k0_pay2 xs x2) x3 x4⟩,
      ⟨Rect.unit (s := S512x1024) ![0, 0] S512x128.size inb_S512x1024_S512x128_0_0, k0_pay12 (k0_pay2 xs x2) x3 x4⟩] : List (View.Piece (Elt Ideal) S512x1024 .bf16)) S512x128.size (by sl_kernel_rfl) _) ?_
  exact View.allAt_cons_unit _ _ _ _ _
    (tile_of (e := .bf16) (k0_pay5 xs x2 k0_pay11 x3 x4) (fun y l => Cert.InprojRow.krot (fun l => k0_pay2 xs x2 (ix2 y l)) (fun k => x3 (ix2 y k)) (fun k => x4 (ix2 y k)) l * Cert.InprojRow.qs) 7 896 rfl (fun y k i hi => q_slab7 xs x2 x3 x4 y k i hi) y l) (View.allAt_cons_unit _ _ _ _ _
    (tile_of (e := .bf16) (k0_pay23 (k0_pay2 xs x2) k0_pay11 x3 x4) (fun y l => Cert.InprojRow.krot (fun l => k0_pay2 xs x2 (ix2 y l)) (fun k => x3 (ix2 y k)) (fun k => x4 (ix2 y k)) l * Cert.InprojRow.qs) 6 768 rfl (fun y k i hi => q_slab6 (k0_pay2 xs x2) x3 x4 y k i hi) y l) (View.allAt_cons_unit _ _ _ _ _
    (tile_of (e := .bf16) (k0_pay22 (k0_pay2 xs x2) k0_pay11 x3 x4) (fun y l => Cert.InprojRow.krot (fun l => k0_pay2 xs x2 (ix2 y l)) (fun k => x3 (ix2 y k)) (fun k => x4 (ix2 y k)) l * Cert.InprojRow.qs) 5 640 rfl (fun y k i hi => q_slab5 (k0_pay2 xs x2) x3 x4 y k i hi) y l) (View.allAt_cons_unit _ _ _ _ _
    (tile_of (e := .bf16) (k0_pay21 (k0_pay19 (k0_pay2 xs x2) k0_pay11) (k0_pay20 (k0_pay2 xs x2) x3) x4) (fun y l => Cert.InprojRow.krot (fun l => k0_pay2 xs x2 (ix2 y l)) (fun k => x3 (ix2 y k)) (fun k => x4 (ix2 y k)) l * Cert.InprojRow.qs) 4 512 rfl (fun y k i hi => q_slab4 (k0_pay2 xs x2) x3 x4 y k i hi) y l) (View.allAt_cons_unit _ _ _ _ _
    (tile_of (e := .bf16) (k0_pay17 (k0_pay2 xs x2) k0_pay11 x3 x4) (fun y l => Cert.InprojRow.krot (fun l => k0_pay2 xs x2 (ix2 y l)) (fun k => x3 (ix2 y k)) (fun k => x4 (ix2 y k)) l * Cert.InprojRow.qs) 3 384 rfl (fun y k i hi => q_slab3 (k0_pay2 xs x2) x3 x4 y k i hi) y l) (View.allAt_cons_unit _ _ _ _ _
    (tile_of (e := .bf16) (k0_pay16 k0_pay11 (k0_pay14 (k0_pay2 xs x2)) (k0_pay15 (k0_pay2 xs x2)) x3 x4) (fun y l => Cert.InprojRow.krot (fun l => k0_pay2 xs x2 (ix2 y l)) (fun k => x3 (ix2 y k)) (fun k => x4 (ix2 y k)) l * Cert.InprojRow.qs) 2 256 rfl (fun y k i hi => q_slab2 (k0_pay2 xs x2) x3 x4 y k i hi) y l) (View.allAt_cons_unit _ _ _ _ _
    (tile_of (e := .bf16) (k0_pay13 (k0_pay2 xs x2) x3 x4) (fun y l => Cert.InprojRow.krot (fun l => k0_pay2 xs x2 (ix2 y l)) (fun k => x3 (ix2 y k)) (fun k => x4 (ix2 y k)) l * Cert.InprojRow.qs) 1 128 rfl (fun y k i hi => q_slab1 (k0_pay2 xs x2) x3 x4 y k i hi) y l) (View.allAt_cons_unit _ _ _ _ _
    (tile_of (e := .bf16) (k0_pay12 (k0_pay2 xs x2) x3 x4) (fun y l => Cert.InprojRow.krot (fun l => k0_pay2 xs x2 (ix2 y l)) (fun k => x3 (ix2 y k)) (fun k => x4 (ix2 y k)) l * Cert.InprojRow.qs) 0 0 rfl (fun y k i hi => q_slab0 (k0_pay2 xs x2) x3 x4 y k i hi) y l) (View.allAt_nil _ _))))))))

set_option maxHeartbeats 1000000 in
theorem pc_rotK (xs : Vec Ideal S512x1024 .bf16) (h1 : ¬ (firstCond i = 1#1)) (h2 : ¬ (k0_cond2 i = 1#1)) (h3 : ¬ (k0_cond3 i = 1#1)) (h4 : ¬ (k0_cond4 i = 1#1)) (h5 : k0_cond5 i = 1#1) (h6 : ¬ (k0_cond6 i = 1#1)) (h7 : ¬ (k0_cond7 i = 1#1)) :
    (runRotK (F := Ideal) c i arg2 harg2 arg3 harg3 arg4 harg4 arg5 harg5 arg6 harg6 arg7 harg7 arg8 harg8 arg9 harg9 x0 x1 x2 x3 x4 xs h1 h2 h3 h4 h5 h6 h7).1.1 = ([⟨Rect.unit (s := S512x1024) ![0, 896] S512x128.size inb_S512x1024_S512x128_0_896, k0_pay8 xs x2 k0_pay24 x3 x4⟩,
      ⟨Rect.unit (s := S512x1024) ![0, 768] S512x128.size inb_S512x1024_S512x128_0_768, k0_pay6 (k0_pay40 (k0_pay2 xs x2) k0_pay24 x3 x4)⟩,
      ⟨Rect.unit (s := S512x1024) ![0, 640] S512x128.size inb_S512x1024_S512x128_0_640, k0_pay39 (k0_pay2 xs x2) k0_pay24 x3 x4⟩,
      ⟨Rect.unit (s := S512x1024) ![0, 512] S512x128.size inb_S512x1024_S512x128_0_512, k0_pay37 (k0_pay34 (k0_pay2 xs x2)) (k0_pay35 (k0_pay2 xs x2) k0_pay24) x3 x4⟩,
      ⟨Rect.unit (s := S512x1024) ![0, 384] S512x128.size inb_S512x1024_S512x128_0_384, k0_pay33 (k0_pay2 xs x2) k0_pay24 x3 x4⟩,
      ⟨Rect.unit (s := S512x1024) ![0, 256] S512x128.size inb_S512x1024_S512x128_0_256, k0_pay31 k0_pay24 (k0_pay29 (k0_pay2 xs x2)) x3 x4⟩,
      ⟨Rect.unit (s := S512x1024) ![0, 128] S512x128.size inb_S512x1024_S512x128_0_128, k0_pay28 (k0_pay2 xs x2) x3 x4⟩,
      ⟨Rect.unit (s := S512x1024) ![0, 0] S512x128.size inb_S512x1024_S512x128_0_0, k0_pay26 (k0_pay2 xs x2) x3 x4⟩] : List (View.Piece (Elt Ideal) S512x1024 .bf16)) := by
  unfold runRotK
  dsimp only
  simp (disch := decide) only [whole_read]

set_option maxHeartbeats 1000000 in
/-- What the key point stores into the first output, at a row and a column. -/
theorem canon_rotK (xs : Vec Ideal S512x1024 .bf16) (h1 : ¬ (firstCond i = 1#1)) (h2 : ¬ (k0_cond2 i = 1#1)) (h3 : ¬ (k0_cond3 i = 1#1)) (h4 : ¬ (k0_cond4 i = 1#1)) (h5 : k0_cond5 i = 1#1) (h6 : ¬ (k0_cond6 i = 1#1)) (h7 : ¬ (k0_cond7 i = 1#1)) (y : Fin 512) (l : Fin 1024) :
    View.canon (runRotK (F := Ideal) c i arg2 harg2 arg3 harg3 arg4 harg4 arg5 harg5 arg6 harg6 arg7 harg7 arg8 harg8 arg9 harg9 x0 x1 x2 x3 x4 xs h1 h2 h3 h4 h5 h6 h7).1.1 (ix2 y l) = Cert.InprojRow.krot (fun l => k0_pay2 xs x2 (ix2 y l)) (fun k => x3 (ix2 y k)) (fun k => x4 (ix2 y k)) l := by
  rw [pc_rotK]
  refine View.canon_eq_of_allAt _ _ _ (View.cover_of_tiledL ([⟨Rect.unit (s := S512x1024) ![0, 896] S512x128.size inb_S512x1024_S512x128_0_896, k0_pay8 xs x2 k0_pay24 x3 x4⟩,
      ⟨Rect.unit (s := S512x1024) ![0, 768] S512x128.size inb_S512x1024_S512x128_0_768, k0_pay6 (k0_pay40 (k0_pay2 xs x2) k0_pay24 x3 x4)⟩,
      ⟨Rect.unit (s := S512x1024) ![0, 640] S512x128.size inb_S512x1024_S512x128_0_640, k0_pay39 (k0_pay2 xs x2) k0_pay24 x3 x4⟩,
      ⟨Rect.unit (s := S512x1024) ![0, 512] S512x128.size inb_S512x1024_S512x128_0_512, k0_pay37 (k0_pay34 (k0_pay2 xs x2)) (k0_pay35 (k0_pay2 xs x2) k0_pay24) x3 x4⟩,
      ⟨Rect.unit (s := S512x1024) ![0, 384] S512x128.size inb_S512x1024_S512x128_0_384, k0_pay33 (k0_pay2 xs x2) k0_pay24 x3 x4⟩,
      ⟨Rect.unit (s := S512x1024) ![0, 256] S512x128.size inb_S512x1024_S512x128_0_256, k0_pay31 k0_pay24 (k0_pay29 (k0_pay2 xs x2)) x3 x4⟩,
      ⟨Rect.unit (s := S512x1024) ![0, 128] S512x128.size inb_S512x1024_S512x128_0_128, k0_pay28 (k0_pay2 xs x2) x3 x4⟩,
      ⟨Rect.unit (s := S512x1024) ![0, 0] S512x128.size inb_S512x1024_S512x128_0_0, k0_pay26 (k0_pay2 xs x2) x3 x4⟩] : List (View.Piece (Elt Ideal) S512x1024 .bf16)) S512x128.size (by sl_kernel_rfl) _) ?_
  exact View.allAt_cons_unit _ _ _ _ _
    (tile_of (e := .bf16) (k0_pay8 xs x2 k0_pay24 x3 x4) (fun y l => Cert.InprojRow.krot (fun l => k0_pay2 xs x2 (ix2 y l)) (fun k => x3 (ix2 y k)) (fun k => x4 (ix2 y k)) l) 7 896 rfl (fun y k i hi => k_slab7 xs x2 x3 x4 y k i hi) y l) (View.allAt_cons_unit _ _ _ _ _
    (tile_of (e := .bf16) (k0_pay6 (k0_pay40 (k0_pay2 xs x2) k0_pay24 x3 x4)) (fun y l => Cert.InprojRow.krot (fun l => k0_pay2 xs x2 (ix2 y l)) (fun k => x3 (ix2 y k)) (fun k => x4 (ix2 y k)) l) 6 768 rfl (fun y k i hi => k_slab6 (k0_pay2 xs x2) x3 x4 y k i hi) y l) (View.allAt_cons_unit _ _ _ _ _
    (tile_of (e := .bf16) (k0_pay39 (k0_pay2 xs x2) k0_pay24 x3 x4) (fun y l => Cert.InprojRow.krot (fun l => k0_pay2 xs x2 (ix2 y l)) (fun k => x3 (ix2 y k)) (fun k => x4 (ix2 y k)) l) 5 640 rfl (fun y k i hi => k_slab5 (k0_pay2 xs x2) x3 x4 y k i hi) y l) (View.allAt_cons_unit _ _ _ _ _
    (tile_of (e := .bf16) (k0_pay37 (k0_pay34 (k0_pay2 xs x2)) (k0_pay35 (k0_pay2 xs x2) k0_pay24) x3 x4) (fun y l => Cert.InprojRow.krot (fun l => k0_pay2 xs x2 (ix2 y l)) (fun k => x3 (ix2 y k)) (fun k => x4 (ix2 y k)) l) 4 512 rfl (fun y k i hi => k_slab4 (k0_pay2 xs x2) x3 x4 y k i hi) y l) (View.allAt_cons_unit _ _ _ _ _
    (tile_of (e := .bf16) (k0_pay33 (k0_pay2 xs x2) k0_pay24 x3 x4) (fun y l => Cert.InprojRow.krot (fun l => k0_pay2 xs x2 (ix2 y l)) (fun k => x3 (ix2 y k)) (fun k => x4 (ix2 y k)) l) 3 384 rfl (fun y k i hi => k_slab3 (k0_pay2 xs x2) x3 x4 y k i hi) y l) (View.allAt_cons_unit _ _ _ _ _
    (tile_of (e := .bf16) (k0_pay31 k0_pay24 (k0_pay29 (k0_pay2 xs x2)) x3 x4) (fun y l => Cert.InprojRow.krot (fun l => k0_pay2 xs x2 (ix2 y l)) (fun k => x3 (ix2 y k)) (fun k => x4 (ix2 y k)) l) 2 256 rfl (fun y k i hi => k_slab2 (k0_pay2 xs x2) x3 x4 y k i hi) y l) (View.allAt_cons_unit _ _ _ _ _
    (tile_of (e := .bf16) (k0_pay28 (k0_pay2 xs x2) x3 x4) (fun y l => Cert.InprojRow.krot (fun l => k0_pay2 xs x2 (ix2 y l)) (fun k => x3 (ix2 y k)) (fun k => x4 (ix2 y k)) l) 1 128 rfl (fun y k i hi => k_slab1 (k0_pay2 xs x2) x3 x4 y k i hi) y l) (View.allAt_cons_unit _ _ _ _ _
    (tile_of (e := .bf16) (k0_pay26 (k0_pay2 xs x2) x3 x4) (fun y l => Cert.InprojRow.krot (fun l => k0_pay2 xs x2 (ix2 y l)) (fun k => x3 (ix2 y k)) (fun k => x4 (ix2 y k)) l) 0 0 rfl (fun y k i hi => k_slab0 (k0_pay2 xs x2) x3 x4 y k i hi) y l) (View.allAt_nil _ _))))))))

set_option maxHeartbeats 1000000 in
theorem pc_rotK2 (xs : Vec Ideal S512x1024 .bf16) (h1 : ¬ (firstCond i = 1#1)) (h2 : ¬ (k0_cond2 i = 1#1)) (h3 : ¬ (k0_cond3 i = 1#1)) (h4 : ¬ (k0_cond4 i = 1#1)) (h5 : k0_cond5 i = 1#1) (h6 : ¬ (k0_cond6 i = 1#1)) (h7 : ¬ (k0_cond7 i = 1#1)) :
    (runRotK (F := Ideal) c i arg2 harg2 arg3 harg3 arg4 harg4 arg5 harg5 arg6 harg6 arg7 harg7 arg8 harg8 arg9 harg9 x0 x1 x2 x3 x4 xs h1 h2 h3 h4 h5 h6 h7).1.2 = ([⟨Rect.unit (s := S512x1024) ![0, 896] S512x128.size inb_S512x1024_S512x128_0_896, k0_pay7 xs x2 k0_pay24 x3 x4⟩,
      ⟨Rect.unit (s := S512x1024) ![0, 768] S512x128.size inb_S512x1024_S512x128_0_768, k0_pay40 (k0_pay2 xs x2) k0_pay24 x3 x4⟩,
      ⟨Rect.unit (s := S512x1024) ![0, 640] S512x128.size inb_S512x1024_S512x128_0_640, k0_pay38 (k0_pay2 xs x2) k0_pay24 x3 x4⟩,
      ⟨Rect.unit (s := S512x1024) ![0, 512] S512x128.size inb_S512x1024_S512x128_0_512, k0_pay36 (k0_pay34 (k0_pay2 xs x2)) (k0_pay35 (k0_pay2 xs x2) k0_pay24) x3 x4⟩,
      ⟨Rect.unit (s := S512x1024) ![0, 384] S512x128.size inb_S512x1024_S512x128_0_384, k0_pay32 (k0_pay2 xs x2) k0_pay24 x3 x4⟩,
      ⟨Rect.unit (s := S512x1024) ![0, 256] S512x128.size inb_S512x1024_S512x128_0_256, k0_pay30 k0_pay24 (k0_pay29 (k0_pay2 xs x2)) x3 x4⟩,
      ⟨Rect.unit (s := S512x1024) ![0, 128] S512x128.size inb_S512x1024_S512x128_0_128, k0_pay27 (k0_pay2 xs x2) x3 x4⟩,
      ⟨Rect.unit (s := S512x1024) ![0, 0] S512x128.size inb_S512x1024_S512x128_0_0, k0_pay25 (k0_pay2 xs x2) x3 x4⟩] : List (View.Piece (Elt Ideal) S512x1024 .f32)) := by
  unfold runRotK
  dsimp only
  simp (disch := decide) only [whole_read]

set_option maxHeartbeats 1000000 in
/-- What the key point stores into the second output, at a row and a column. -/
theorem canon_rotK2 (xs : Vec Ideal S512x1024 .bf16) (h1 : ¬ (firstCond i = 1#1)) (h2 : ¬ (k0_cond2 i = 1#1)) (h3 : ¬ (k0_cond3 i = 1#1)) (h4 : ¬ (k0_cond4 i = 1#1)) (h5 : k0_cond5 i = 1#1) (h6 : ¬ (k0_cond6 i = 1#1)) (h7 : ¬ (k0_cond7 i = 1#1)) (y : Fin 512) (l : Fin 1024) :
    View.canon (runRotK (F := Ideal) c i arg2 harg2 arg3 harg3 arg4 harg4 arg5 harg5 arg6 harg6 arg7 harg7 arg8 harg8 arg9 harg9 x0 x1 x2 x3 x4 xs h1 h2 h3 h4 h5 h6 h7).1.2 (ix2 y l) = Cert.InprojRow.krot (fun l => k0_pay2 xs x2 (ix2 y l)) (fun k => x3 (ix2 y k)) (fun k => x4 (ix2 y k)) l := by
  rw [pc_rotK2]
  refine View.canon_eq_of_allAt _ _ _ (View.cover_of_tiledL ([⟨Rect.unit (s := S512x1024) ![0, 896] S512x128.size inb_S512x1024_S512x128_0_896, k0_pay7 xs x2 k0_pay24 x3 x4⟩,
      ⟨Rect.unit (s := S512x1024) ![0, 768] S512x128.size inb_S512x1024_S512x128_0_768, k0_pay40 (k0_pay2 xs x2) k0_pay24 x3 x4⟩,
      ⟨Rect.unit (s := S512x1024) ![0, 640] S512x128.size inb_S512x1024_S512x128_0_640, k0_pay38 (k0_pay2 xs x2) k0_pay24 x3 x4⟩,
      ⟨Rect.unit (s := S512x1024) ![0, 512] S512x128.size inb_S512x1024_S512x128_0_512, k0_pay36 (k0_pay34 (k0_pay2 xs x2)) (k0_pay35 (k0_pay2 xs x2) k0_pay24) x3 x4⟩,
      ⟨Rect.unit (s := S512x1024) ![0, 384] S512x128.size inb_S512x1024_S512x128_0_384, k0_pay32 (k0_pay2 xs x2) k0_pay24 x3 x4⟩,
      ⟨Rect.unit (s := S512x1024) ![0, 256] S512x128.size inb_S512x1024_S512x128_0_256, k0_pay30 k0_pay24 (k0_pay29 (k0_pay2 xs x2)) x3 x4⟩,
      ⟨Rect.unit (s := S512x1024) ![0, 128] S512x128.size inb_S512x1024_S512x128_0_128, k0_pay27 (k0_pay2 xs x2) x3 x4⟩,
      ⟨Rect.unit (s := S512x1024) ![0, 0] S512x128.size inb_S512x1024_S512x128_0_0, k0_pay25 (k0_pay2 xs x2) x3 x4⟩] : List (View.Piece (Elt Ideal) S512x1024 .f32)) S512x128.size (by sl_kernel_rfl) _) ?_
  exact View.allAt_cons_unit _ _ _ _ _
    (tile_of (e := .f32) (k0_pay7 xs x2 k0_pay24 x3 x4) (fun y l => Cert.InprojRow.krot (fun l => k0_pay2 xs x2 (ix2 y l)) (fun k => x3 (ix2 y k)) (fun k => x4 (ix2 y k)) l) 7 896 rfl (fun y k i hi => kv_slab7 xs x2 x3 x4 y k i hi) y l) (View.allAt_cons_unit _ _ _ _ _
    (tile_of (e := .f32) (k0_pay40 (k0_pay2 xs x2) k0_pay24 x3 x4) (fun y l => Cert.InprojRow.krot (fun l => k0_pay2 xs x2 (ix2 y l)) (fun k => x3 (ix2 y k)) (fun k => x4 (ix2 y k)) l) 6 768 rfl (fun y k i hi => kv_slab6 (k0_pay2 xs x2) x3 x4 y k i hi) y l) (View.allAt_cons_unit _ _ _ _ _
    (tile_of (e := .f32) (k0_pay38 (k0_pay2 xs x2) k0_pay24 x3 x4) (fun y l => Cert.InprojRow.krot (fun l => k0_pay2 xs x2 (ix2 y l)) (fun k => x3 (ix2 y k)) (fun k => x4 (ix2 y k)) l) 5 640 rfl (fun y k i hi => kv_slab5 (k0_pay2 xs x2) x3 x4 y k i hi) y l) (View.allAt_cons_unit _ _ _ _ _
    (tile_of (e := .f32) (k0_pay36 (k0_pay34 (k0_pay2 xs x2)) (k0_pay35 (k0_pay2 xs x2) k0_pay24) x3 x4) (fun y l => Cert.InprojRow.krot (fun l => k0_pay2 xs x2 (ix2 y l)) (fun k => x3 (ix2 y k)) (fun k => x4 (ix2 y k)) l) 4 512 rfl (fun y k i hi => kv_slab4 (k0_pay2 xs x2) x3 x4 y k i hi) y l) (View.allAt_cons_unit _ _ _ _ _
    (tile_of (e := .f32) (k0_pay32 (k0_pay2 xs x2) k0_pay24 x3 x4) (fun y l => Cert.InprojRow.krot (fun l => k0_pay2 xs x2 (ix2 y l)) (fun k => x3 (ix2 y k)) (fun k => x4 (ix2 y k)) l) 3 384 rfl (fun y k i hi => kv_slab3 (k0_pay2 xs x2) x3 x4 y k i hi) y l) (View.allAt_cons_unit _ _ _ _ _
    (tile_of (e := .f32) (k0_pay30 k0_pay24 (k0_pay29 (k0_pay2 xs x2)) x3 x4) (fun y l => Cert.InprojRow.krot (fun l => k0_pay2 xs x2 (ix2 y l)) (fun k => x3 (ix2 y k)) (fun k => x4 (ix2 y k)) l) 2 256 rfl (fun y k i hi => kv_slab2 (k0_pay2 xs x2) x3 x4 y k i hi) y l) (View.allAt_cons_unit _ _ _ _ _
    (tile_of (e := .f32) (k0_pay27 (k0_pay2 xs x2) x3 x4) (fun y l => Cert.InprojRow.krot (fun l => k0_pay2 xs x2 (ix2 y l)) (fun k => x3 (ix2 y k)) (fun k => x4 (ix2 y k)) l) 1 128 rfl (fun y k i hi => kv_slab1 (k0_pay2 xs x2) x3 x4 y k i hi) y l) (View.allAt_cons_unit _ _ _ _ _
    (tile_of (e := .f32) (k0_pay25 (k0_pay2 xs x2) x3 x4) (fun y l => Cert.InprojRow.krot (fun l => k0_pay2 xs x2 (ix2 y l)) (fun k => x3 (ix2 y k)) (fun k => x4 (ix2 y k)) l) 0 0 rfl (fun y k i hi => kv_slab0 (k0_pay2 xs x2) x3 x4 y k i hi) y l) (View.allAt_nil _ _))))))))

end

end Cert.InprojIdeal.Inp
-- ==== Proof.InprojRef.lean ====
module

public import proofs.«01_k».proof.Proof.InprojRow
public import proofs.«01_k».proof.Proof.Gen.InprojRefIdeal.Run

@[expose] public section

set_option maxRecDepth 16384

noncomputable section

open Idealize.ShloMosaic Idealize.ShloMosaic.TcCoe Idealize.SL.Sem

namespace Cert.InprojRefIdeal.Value

open Cert.InprojRefIdeal Cert.InprojRefIdeal.Gen

/-- The projection of the normalised input. -/
def Z (a0 : FVec Ideal S16x64x1024 .f32) (a1 : FVec Ideal S1024 .f32) (a2 : FVec Ideal S1024x8192 .f32) : FVec Ideal S16x64x8192 .f32 :=
  Host.dotGeneral dot_S16x64x1024_S1024x8192_S16x64x8192_2_0_01_1_n_n none (mulf (mulf a0 (broadcastInDim S16x64x1024 ![0, 1, 2] bcast_S16x64x1_S16x64x1024_0_1_2 (Host.rsqrt (addf (Host.divf (broadcastInDim S16x64x1 ![0, 1] bcast_S16x64_S16x64x1_0_1 (Host.reduceAdd (mulf a0 a0) (constant S_ .f32 0x00000000#32) reducesTo_S16x64x1024_S16x64_d2 h_S_)) (broadcastInDim S16x64x1 ![] bcast_S_S16x64x1 (constant S_ .f32 0x44800000#32))) (broadcastInDim S16x64x1 ![] bcast_S_S16x64x1 (constant S_ .f32 0x358637BD#32)))))) (broadcastInDim S16x64x1024 ![0, 1, 2] bcast_S1x1x1024_S16x64x1024_0_1_2 (broadcastInDim S1x1x1024 ![2] bcast_S1024_S1x1x1024_2 a1))) a2

/-- The rotation's angles. -/
def angs : FVec Ideal S64x32 .f32 :=
  mulf (broadcastInDim S64x32 ![0, 1] bcast_S64x1_S64x32_0_1 (broadcastInDim S64x1 ![0] bcast_S64_S64x1_0 (sitofp .f32 (addi (broadcastInDim S64 ![] bcast_S_S64 (constantI S_ 32 2064#32)) (iotaInDim S64 32 0)))))
    (broadcastInDim S64x32 ![0, 1] bcast_S1x32_S64x32_0_1 (broadcastInDim S1x32 ![1] bcast_S32_S1x32_1
      (Host.divf (broadcastInDim S32 ![] bcast_S_S32 (constant S_ .f32 0x3F800000#32)) (Host.powf (broadcastInDim S32 ![] bcast_S_S32 (constant S_ .f32 0x461C4000#32))
        (Host.divf (sitofp .f32 (iotaInDim S32 32 0)) (broadcastInDim S32 ![] bcast_S_S32 (constant S_ .f32 0x42000000#32)))))))

/-- The rotation of one column group. -/
def rope (X : FVec Ideal S16x64x1024 .f32) : FVec Ideal S16x64x8x2x64 .f32 :=
  concatenate S16x64x8x2x64 4 [⟨S16x64x8x2x32,
      subf (mulf (extractStridedSlice S16x64x8x2x32 ![0, 0, 0, 0, 0] (shapeCast S16x64x8x2x64 X shapeCasts_S16x64x1024_S16x64x8x2x64) slices_S16x64x8x2x64_S16x64x8x2x32_0_0_0_0_0) (broadcastInDim S16x64x8x2x32 ![0, 1, 2, 3, 4] bcast_S1x64x1x1x32_S16x64x8x2x32_0_1_2_3_4 (broadcastInDim S1x64x1x1x32 ![1, 4] bcast_S64x32_S1x64x1x1x32_1_4 (Host.cos angs))))
        (mulf (extractStridedSlice S16x64x8x2x32 ![0, 0, 0, 0, 32] (shapeCast S16x64x8x2x64 X shapeCasts_S16x64x1024_S16x64x8x2x64) slices_S16x64x8x2x64_S16x64x8x2x32_0_0_0_0_32) (broadcastInDim S16x64x8x2x32 ![0, 1, 2, 3, 4] bcast_S1x64x1x1x32_S16x64x8x2x32_0_1_2_3_4 (broadcastInDim S1x64x1x1x32 ![1, 4] bcast_S64x32_S1x64x1x1x32_1_4 (Host.sin angs))))⟩,
    ⟨S16x64x8x2x32,
      addf (mulf (extractStridedSlice S16x64x8x2x32 ![0, 0, 0, 0, 32] (shapeCast S16x64x8x2x64 X shapeCasts_S16x64x1024_S16x64x8x2x64) slices_S16x64x8x2x64_S16x64x8x2x32_0_0_0_0_32) (broadcastInDim S16x64x8x2x32 ![0, 1, 2, 3, 4] bcast_S1x64x1x1x32_S16x64x8x2x32_0_1_2_3_4 (broadcastInDim S1x64x1x1x32 ![1, 4] bcast_S64x32_S1x64x1x1x32_1_4 (Host.cos angs))))
        (mulf (extractStridedSlice S16x64x8x2x32 ![0, 0, 0, 0, 0] (shapeCast S16x64x8x2x64 X shapeCasts_S16x64x1024_S16x64x8x2x64) slices_S16x64x8x2x64_S16x64x8x2x32_0_0_0_0_0) (broadcastInDim S16x64x8x2x32 ![0, 1, 2, 3, 4] bcast_S1x64x1x1x32_S16x64x8x2x32_0_1_2_3_4 (broadcastInDim S1x64x1x1x32 ![1, 4] bcast_S64x32_S1x64x1x1x32_1_4 (Host.sin angs))))⟩]
    concatenates_S16x64x8x2x32_S16x64x8x2x32_S16x64x8x2x64_d4

/-- The queries' scale: an eighth, then a division by the logarithm of two. -/
def scaled (X : FVec Ideal S16x64x8x2x64 .f32) : FVec Ideal S16x64x8x2x64 .f32 :=
  Host.divf (mulf X (broadcastInDim S16x64x8x2x64 ![] bcast_S_S16x64x8x2x64 (constant S_ .f32 0x3E000000#32)))
    (broadcastInDim S16x64x8x2x64 ![] bcast_S_S16x64x8x2x64 (id (Host.log (constant S_ .f32 0x40000000#32))))

/-- The logistic function of a column group. -/
def sigm (X : FVec Ideal S16x64x1024 .f32) : FVec Ideal S16x64x1024 .f32 :=
  Host.divf (broadcastInDim S16x64x1024 ![] bcast_S_S16x64x1024 (constant S_ .f32 0x3F800000#32)) (addf (broadcastInDim S16x64x1024 ![] bcast_S_S16x64x1024 (constant S_ .f32 0x3F800000#32)) (Host.exp (Host.negf X)))

def flat (X : FVec Ideal S16x64x1024 .f32) : FVec Ideal S1024x1024 .f32 := shapeCast S1024x1024 X shapeCasts_S16x64x1024_S1024x1024
def flat5 (X : FVec Ideal S16x64x8x2x64 .f32) : FVec Ideal S1024x1024 .f32 := shapeCast S1024x1024 X shapeCasts_S16x64x8x2x64_S1024x1024

def z0 (z : FVec Ideal S16x64x8192 .f32) : FVec Ideal S16x64x1024 .f32 := extractStridedSlice S16x64x1024 ![0, 0, 0] z slices_S16x64x8192_S16x64x1024_0_0_0
def z1 (z : FVec Ideal S16x64x8192 .f32) : FVec Ideal S16x64x1024 .f32 := extractStridedSlice S16x64x1024 ![0, 0, 1024] z slices_S16x64x8192_S16x64x1024_0_0_1024
def z2 (z : FVec Ideal S16x64x8192 .f32) : FVec Ideal S16x64x1024 .f32 := extractStridedSlice S16x64x1024 ![0, 0, 2048] z slices_S16x64x8192_S16x64x1024_0_0_2048
def z3 (z : FVec Ideal S16x64x8192 .f32) : FVec Ideal S16x64x1024 .f32 := extractStridedSlice S16x64x1024 ![0, 0, 3072] z slices_S16x64x8192_S16x64x1024_0_0_3072
def z4 (z : FVec Ideal S16x64x8192 .f32) : FVec Ideal S16x64x1024 .f32 := extractStridedSlice S16x64x1024 ![0, 0, 4096] z slices_S16x64x8192_S16x64x1024_0_0_4096
def z5 (z : FVec Ideal S16x64x8192 .f32) : FVec Ideal S16x64x1024 .f32 := extractStridedSlice S16x64x1024 ![0, 0, 5120] z slices_S16x64x8192_S16x64x1024_0_0_5120
def z6 (z : FVec Ideal S16x64x8192 .f32) : FVec Ideal S16x64x1024 .f32 := extractStridedSlice S16x64x1024 ![0, 0, 6144] z slices_S16x64x8192_S16x64x1024_0_0_6144
def z7 (z : FVec Ideal S16x64x8192 .f32) : FVec Ideal S16x64x1024 .f32 := extractStridedSlice S16x64x1024 ![0, 0, 7168] z slices_S16x64x8192_S16x64x1024_0_0_7168

/-- Eight column groups side by side. -/
def join (A0 A1 A2 A3 A4 A5 A6 A7 : FVec Ideal S1024x1024 .f32) : FVec Ideal S1024x8192 .f32 :=
  concatenate S1024x8192 1 [⟨S1024x1024, A0⟩, ⟨S1024x1024, A1⟩, ⟨S1024x1024, A2⟩, ⟨S1024x1024, A3⟩, ⟨S1024x1024, A4⟩, ⟨S1024x1024, A5⟩, ⟨S1024x1024, A6⟩, ⟨S1024x1024, A7⟩] concatenates_S1024x1024_S1024x1024_S1024x1024_S1024x1024_S1024x1024_S1024x1024_S1024x1024_S1024x1024_S1024x8192_d1

/-- The first result from the projection. -/
def OUT0 (z : FVec Ideal S16x64x8192 .f32) : FVec Ideal S1024x8192 .bf16 :=
  truncf .bf16 (join (flat (z0 z)) (flat (mulf (z1 z) (sigm (z1 z)))) (flat5 (scaled (rope (z2 z)))) (flat5 (rope (z3 z)))
    (flat (z4 z)) (flat (mulf (z5 z) (sigm (z5 z)))) (flat (sigm (z6 z))) (flat (sigm (z7 z)))) bitsLt_bf16_f32

/-- The second result from the projection. -/
def OUT1 (z : FVec Ideal S16x64x8192 .f32) : FVec Ideal S1024x2048 .f32 :=
  concatenate S1024x2048 1 [⟨S1024x1024, flat5 (rope (z3 z))⟩, ⟨S1024x1024, flat (z4 z)⟩] concatenates_S1024x1024_S1024x1024_S1024x2048_d1

theorem res0_eq (m : (ℓ : Loc nD τ sig) → Buf (Elt Ideal) ℓ) (c : Dev nD) : res_main_v116 m c
    = OUT0 (Z (m ((c : Thread nD τ).loc main_arg0)) (m ((c : Thread nD τ).loc main_arg1)) (m ((c : Thread nD τ).loc main_arg2))) := by
  unfold res_main_v116; rfl

theorem res1_eq (m : (ℓ : Loc nD τ sig) → Buf (Elt Ideal) ℓ) (c : Dev nD) : res_main_v119 m c
    = OUT1 (Z (m ((c : Thread nD τ).loc main_arg0)) (m ((c : Thread nD τ).loc main_arg1)) (m ((c : Thread nD τ).loc main_arg2))) := by
  unfold res_main_v119; rfl

/-- The projection at a position and a column. -/
theorem Z_at (a0 : FVec Ideal S16x64x1024 .f32) (a1 : FVec Ideal S1024 .f32) (a2 : FVec Ideal S1024x8192 .f32) (b : Fin 16) (s : Fin 64) (x : Fin 8192) :
    Z a0 a1 a2 (ix3 b s x) = ∑ k, Cert.InprojRow.norm (fun k => a0 (ix3 b s k)) (fun k => a1 (ix1 k)) k * a2 (ix2 k x) := by
  pointwise [Z]
  rfl

theorem flat_at (X : FVec Ideal S16x64x1024 .f32) (r l : Fin 1024) : flat X (ix2 r l) = X (ix3 ⟨r.val / 64, by omega⟩ ⟨r.val % 64, by omega⟩ l) := by
  pointwise [flat]

theorem flat5_at (X : FVec Ideal S16x64x8x2x64 .f32) (r l : Fin 1024) : flat5 X (ix2 r l)
    = X (ix5 ⟨r.val / 64, by omega⟩ ⟨r.val % 64, by omega⟩ ⟨l.val / 128, by omega⟩ ⟨l.val / 64 % 2, by omega⟩ ⟨l.val % 64, by omega⟩) := by
  pointwise [flat5]

theorem sigm_at (X : FVec Ideal S16x64x1024 .f32) (i : S16x64x1024.Idx) : sigm X i = Cert.InprojRow.sigm (X i) := by
  pointwise [sigm]
  rfl

theorem scaled_at (X : FVec Ideal S16x64x8x2x64 .f32) (i : S16x64x8x2x64.Idx) : scaled X i = X i * Cert.InprojRow.qs := by
  pointwise [scaled]
  exact Cert.InprojRow.scale_eq _

/-- The rotation of a column group at a position and a column. -/
theorem rope_at (X : FVec Ideal S16x64x1024 .f32) (b : Fin 16) (s : Fin 64) (l : Fin 1024) : rope X (ix5 b s ⟨l.val / 128, by omega⟩ ⟨l.val / 64 % 2, by omega⟩ ⟨l.val % 64, by omega⟩)
    = Cert.InprojRow.rot (fun l => X (ix3 b s l)) (fun d => Ideal.cos (angs (ix2 s d))) (fun d => Ideal.sin (angs (ix2 s d))) l := by
  pointwise [rope]
  unfold Cert.InprojRow.rot
  by_cases h : l.val % 64 < 32
  · rw [dif_pos h, dif_pos h]
    have e1 : (⟨l.val % 64, by omega⟩ : Fin 32) = ⟨l.val % 32, by omega⟩ := Fin.ext (by show l.val % 64 = l.val % 32; omega)
    have e2 : (⟨l.val / 128 * 128 + l.val / 64 % 2 * 64 + (32 + l.val % 64), by omega⟩ : Fin 1024) = ⟨l.val + 32, by omega⟩ := Fin.ext (by show l.val / 128 * 128 + l.val / 64 % 2 * 64 + (32 + l.val % 64) = l.val + 32; omega)
    exact Cert.InprojRow.turn_sub rfl (congrArg (fun d => Ideal.cos (angs (ix2 s d))) e1) (congrArg (fun k => X (ix3 b s k)) e2) (congrArg (fun d => Ideal.sin (angs (ix2 s d))) e1)
  · rw [dif_neg h, dif_neg h]
    have e1 : (⟨l.val % 64 - 32, by omega⟩ : Fin 32) = ⟨l.val % 32, by omega⟩ := Fin.ext (by show l.val % 64 - 32 = l.val % 32; omega)
    have e2 : (⟨l.val / 128 * 128 + l.val / 64 % 2 * 64 + (l.val % 64 - 32), by omega⟩ : Fin 1024) = ⟨l.val - 32, by omega⟩ := Fin.ext (by show l.val / 128 * 128 + l.val / 64 % 2 * 64 + (l.val % 64 - 32) = l.val - 32; omega)
    have e3 : (⟨l.val / 128 * 128 + l.val / 64 % 2 * 64 + (32 + (l.val % 64 - 32)), by omega⟩ : Fin 1024) = l := Fin.ext (by show l.val / 128 * 128 + l.val / 64 % 2 * 64 + (32 + (l.val % 64 - 32)) = l.val; omega)
    exact Cert.InprojRow.turn_add (congrArg (fun k => X (ix3 b s k)) e3) (congrArg (fun d => Ideal.cos (angs (ix2 s d))) e1) (congrArg (fun k => X (ix3 b s k)) e2) (congrArg (fun d => Ideal.sin (angs (ix2 s d))) e1)

theorem z0_at (z : FVec Ideal S16x64x8192 .f32) (b : Fin 16) (s : Fin 64) (l : Fin 1024) : z0 z (ix3 b s l) = z (ix3 b s ⟨0 * 1024 + l.val, by omega⟩) := by
  pointwise [z0]

theorem join0 (A0 A1 A2 A3 A4 A5 A6 A7 : FVec Ideal S1024x1024 .f32) (r l : Fin 1024) (x : Fin 8192) (hx : x.val = 0 * 1024 + l.val) :
    join A0 A1 A2 A3 A4 A5 A6 A7 (ix2 r x) = A0 (ix2 r l) := by
  have hl := l.isLt
  pointwise [join]
  rw [dif_pos (by omega)]
  exact congrArg (fun k => A0 (ix2 r k)) (Fin.ext (by show _ = l.val; simp only []; omega))

theorem z1_at (z : FVec Ideal S16x64x8192 .f32) (b : Fin 16) (s : Fin 64) (l : Fin 1024) : z1 z (ix3 b s l) = z (ix3 b s ⟨1 * 1024 + l.val, by omega⟩) := by
  pointwise [z1]

theorem join1 (A0 A1 A2 A3 A4 A5 A6 A7 : FVec Ideal S1024x1024 .f32) (r l : Fin 1024) (x : Fin 8192) (hx : x.val = 1 * 1024 + l.val) :
    join A0 A1 A2 A3 A4 A5 A6 A7 (ix2 r x) = A1 (ix2 r l) := by
  have hl := l.isLt
  pointwise [join]
  rw [dif_neg (by omega), dif_pos (by omega)]
  exact congrArg (fun k => A1 (ix2 r k)) (Fin.ext (by show _ = l.val; simp only []; omega))

theorem z2_at (z : FVec Ideal S16x64x8192 .f32) (b : Fin 16) (s : Fin 64) (l : Fin 1024) : z2 z (ix3 b s l) = z (ix3 b s ⟨2 * 1024 + l.val, by omega⟩) := by
  pointwise [z2]

theorem join2 (A0 A1 A2 A3 A4 A5 A6 A7 : FVec Ideal S1024x1024 .f32) (r l : Fin 1024) (x : Fin 8192) (hx : x.val = 2 * 1024 + l.val) :
    join A0 A1 A2 A3 A4 A5 A6 A7 (ix2 r x) = A2 (ix2 r l) := by
  have hl := l.isLt
  pointwise [join]
  rw [dif_neg (by omega), dif_neg (by omega), dif_pos (by omega)]
  exact congrArg (fun k => A2 (ix2 r k)) (Fin.ext (by show _ = l.val; simp only []; omega))

theorem z3_at (z : FVec Ideal S16x64x8192 .f32) (b : Fin 16) (s : Fin 64) (l : Fin 1024) : z3 z (ix3 b s l) = z (ix3 b s ⟨3 * 1024 + l.val, by omega⟩) := by
  pointwise [z3]

theorem join3 (A0 A1 A2 A3 A4 A5 A6 A7 : FVec Ideal S1024x1024 .f32) (r l : Fin 1024) (x : Fin 8192) (hx : x.val = 3 * 1024 + l.val) :
    join A0 A1 A2 A3 A4 A5 A6 A7 (ix2 r x) = A3 (ix2 r l) := by
  have hl := l.isLt
  pointwise [join]
  rw [dif_neg (by omega), dif_neg (by omega), dif_neg (by omega), dif_pos (by omega)]
  exact congrArg (fun k => A3 (ix2 r k)) (Fin.ext (by show _ = l.val; simp only []; omega))

theorem z4_at (z : FVec Ideal S16x64x8192 .f32) (b : Fin 16) (s : Fin 64) (l : Fin 1024) : z4 z (ix3 b s l) = z (ix3 b s ⟨4 * 1024 + l.val, by omega⟩) := by
  pointwise [z4]

theorem join4 (A0 A1 A2 A3 A4 A5 A6 A7 : FVec Ideal S1024x1024 .f32) (r l : Fin 1024) (x : Fin 8192) (hx : x.val = 4 * 1024 + l.val) :
    join A0 A1 A2 A3 A4 A5 A6 A7 (ix2 r x) = A4 (ix2 r l) := by
  have hl := l.isLt
  pointwise [join]
  rw [dif_neg (by omega), dif_neg (by omega), dif_neg (by omega), dif_neg (by omega), dif_pos (by omega)]
  exact congrArg (fun k => A4 (ix2 r k)) (Fin.ext (by show _ = l.val; simp only []; omega))

theorem z5_at (z : FVec Ideal S16x64x8192 .f32) (b : Fin 16) (s : Fin 64) (l : Fin 1024) : z5 z (ix3 b s l) = z (ix3 b s ⟨5 * 1024 + l.val, by omega⟩) := by
  pointwise [z5]

theorem join5 (A0 A1 A2 A3 A4 A5 A6 A7 : FVec Ideal S1024x1024 .f32) (r l : Fin 1024) (x : Fin 8192) (hx : x.val = 5 * 1024 + l.val) :
    join A0 A1 A2 A3 A4 A5 A6 A7 (ix2 r x) = A5 (ix2 r l) := by
  have hl := l.isLt
  pointwise [join]
  rw [dif_neg (by omega), dif_neg (by omega), dif_neg (by omega), dif_neg (by omega), dif_neg (by omega), dif_pos (by omega)]
  exact congrArg (fun k => A5 (ix2 r k)) (Fin.ext (by show _ = l.val; simp only []; omega))

theorem z6_at (z : FVec Ideal S16x64x8192 .f32) (b : Fin 16) (s : Fin 64) (l : Fin 1024) : z6 z (ix3 b s l) = z (ix3 b s ⟨6 * 1024 + l.val, by omega⟩) := by
  pointwise [z6]

theorem join6 (A0 A1 A2 A3 A4 A5 A6 A7 : FVec Ideal S1024x1024 .f32) (r l : Fin 1024) (x : Fin 8192) (hx : x.val = 6 * 1024 + l.val) :
    join A0 A1 A2 A3 A4 A5 A6 A7 (ix2 r x) = A6 (ix2 r l) := by
  have hl := l.isLt
  pointwise [join]
  rw [dif_neg (by omega), dif_neg (by omega), dif_neg (by omega), dif_neg (by omega), dif_neg (by omega), dif_neg (by omega), dif_pos (by omega)]
  exact congrArg (fun k => A6 (ix2 r k)) (Fin.ext (by show _ = l.val; simp only []; omega))

theorem z7_at (z : FVec Ideal S16x64x8192 .f32) (b : Fin 16) (s : Fin 64) (l : Fin 1024) : z7 z (ix3 b s l) = z (ix3 b s ⟨7 * 1024 + l.val, by omega⟩) := by
  pointwise [z7]

theorem join7 (A0 A1 A2 A3 A4 A5 A6 A7 : FVec Ideal S1024x1024 .f32) (r l : Fin 1024) (x : Fin 8192) (hx : x.val = 7 * 1024 + l.val) :
    join A0 A1 A2 A3 A4 A5 A6 A7 (ix2 r x) = A7 (ix2 r l) := by
  have hl := l.isLt
  pointwise [join]
  rw [dif_neg (by omega), dif_neg (by omega), dif_neg (by omega), dif_neg (by omega), dif_neg (by omega), dif_neg (by omega), dif_neg (by omega)]
  exact congrArg (fun k => A7 (ix2 r k)) (Fin.ext (by show _ = l.val; simp only []; omega))

/-- The row of the projection at a flattened row, within column group `g`. -/
def zrow (z : FVec Ideal S16x64x8192 .f32) (r : Fin 1024) (g : Fin 8) (l : Fin 1024) : EReal :=
  z (ix3 ⟨r.val / 64, by omega⟩ ⟨r.val % 64, by omega⟩ ⟨g.val * 1024 + l.val, by omega⟩)

/-- The rotation of a column group at a flattened row. -/
def rrow (z : FVec Ideal S16x64x8192 .f32) (r : Fin 1024) (g : Fin 8) (l : Fin 1024) : EReal :=
  Cert.InprojRow.rot (zrow z r g) (fun d => Ideal.cos (angs (ix2 ⟨r.val % 64, by omega⟩ d))) (fun d => Ideal.sin (angs (ix2 ⟨r.val % 64, by omega⟩ d))) l

theorem out0_0 (z : FVec Ideal S16x64x8192 .f32) (r l : Fin 1024) (x : Fin 8192) (hx : x.val = 0 * 1024 + l.val) :
    OUT0 z (ix2 r x) = zrow z r 0 l := by
  refine (join0 _ _ _ _ _ _ _ _ r l x hx).trans ?_
  exact (flat_at _ r l).trans (z0_at _ _ _ l)

theorem out0_4 (z : FVec Ideal S16x64x8192 .f32) (r l : Fin 1024) (x : Fin 8192) (hx : x.val = 4 * 1024 + l.val) :
    OUT0 z (ix2 r x) = zrow z r 4 l := by
  refine (join4 _ _ _ _ _ _ _ _ r l x hx).trans ?_
  exact (flat_at _ r l).trans (z4_at _ _ _ l)

theorem out0_1 (z : FVec Ideal S16x64x8192 .f32) (r l : Fin 1024) (x : Fin 8192) (hx : x.val = 1 * 1024 + l.val) :
    OUT0 z (ix2 r x) = zrow z r 1 l * Cert.InprojRow.sigm (zrow z r 1 l) := by
  refine (join1 _ _ _ _ _ _ _ _ r l x hx).trans ?_
  refine (flat_at _ r l).trans ?_
  refine congr (congrArg HMul.hMul (z1_at _ _ _ l)) ((sigm_at _ _).trans (congrArg Cert.InprojRow.sigm (z1_at _ _ _ l)))

theorem out0_5 (z : FVec Ideal S16x64x8192 .f32) (r l : Fin 1024) (x : Fin 8192) (hx : x.val = 5 * 1024 + l.val) :
    OUT0 z (ix2 r x) = zrow z r 5 l * Cert.InprojRow.sigm (zrow z r 5 l) := by
  refine (join5 _ _ _ _ _ _ _ _ r l x hx).trans ?_
  refine (flat_at _ r l).trans ?_
  refine congr (congrArg HMul.hMul (z5_at _ _ _ l)) ((sigm_at _ _).trans (congrArg Cert.InprojRow.sigm (z5_at _ _ _ l)))

theorem out0_6 (z : FVec Ideal S16x64x8192 .f32) (r l : Fin 1024) (x : Fin 8192) (hx : x.val = 6 * 1024 + l.val) :
    OUT0 z (ix2 r x) = Cert.InprojRow.sigm (zrow z r 6 l) := by
  refine (join6 _ _ _ _ _ _ _ _ r l x hx).trans ?_
  exact (flat_at _ r l).trans ((sigm_at _ _).trans (congrArg Cert.InprojRow.sigm (z6_at _ _ _ l)))

theorem out0_7 (z : FVec Ideal S16x64x8192 .f32) (r l : Fin 1024) (x : Fin 8192) (hx : x.val = 7 * 1024 + l.val) :
    OUT0 z (ix2 r x) = Cert.InprojRow.sigm (zrow z r 7 l) := by
  refine (join7 _ _ _ _ _ _ _ _ r l x hx).trans ?_
  exact (flat_at _ r l).trans ((sigm_at _ _).trans (congrArg Cert.InprojRow.sigm (z7_at _ _ _ l)))

theorem out0_2 (z : FVec Ideal S16x64x8192 .f32) (r l : Fin 1024) (x : Fin 8192) (hx : x.val = 2 * 1024 + l.val) :
    OUT0 z (ix2 r x) = rrow z r 2 l * Cert.InprojRow.qs := by
  refine (join2 _ _ _ _ _ _ _ _ r l x hx).trans ?_
  refine (flat5_at _ r l).trans ((scaled_at _ _).trans ?_)
  exact congrArg (· * Cert.InprojRow.qs) ((rope_at _ _ _ l).trans (congrArg (fun A => Cert.InprojRow.rot A _ _ l) (funext fun k => z2_at z _ _ k)))

theorem out0_3 (z : FVec Ideal S16x64x8192 .f32) (r l : Fin 1024) (x : Fin 8192) (hx : x.val = 3 * 1024 + l.val) :
    OUT0 z (ix2 r x) = rrow z r 3 l := by
  refine (join3 _ _ _ _ _ _ _ _ r l x hx).trans ?_
  exact (flat5_at _ r l).trans ((rope_at _ _ _ l).trans (congrArg (fun A => Cert.InprojRow.rot A _ _ l) (funext fun k => z3_at z _ _ k)))

theorem out1_k (z : FVec Ideal S16x64x8192 .f32) (r l : Fin 1024) (x : Fin 2048) (hx : x.val = l.val) :
    OUT1 z (ix2 r x) = rrow z r 3 l := by
  have hl := l.isLt
  refine Eq.trans ?_ ((flat5_at _ r l).trans ((rope_at _ _ _ l).trans (congrArg (fun A => Cert.InprojRow.rot A _ _ l) (funext fun k => z3_at z _ _ k))))
  unfold OUT1
  generalize flat5 (rope (z3 z)) = A
  generalize flat (z4 z) = B
  pointwise
  rw [dif_pos (by omega)]
  exact congrArg (fun k => A (ix2 r k)) (Fin.ext hx)

theorem out1_v (z : FVec Ideal S16x64x8192 .f32) (r l : Fin 1024) (x : Fin 2048) (hx : x.val = 1024 + l.val) :
    OUT1 z (ix2 r x) = zrow z r 4 l := by
  have hl := l.isLt
  refine Eq.trans ?_ ((flat_at _ r l).trans (z4_at _ _ _ l))
  unfold OUT1
  generalize flat5 (rope (z3 z)) = A
  generalize flat (z4 z) = B
  pointwise
  rw [dif_neg (by omega)]
  exact congrArg (fun k => B (ix2 r k)) (Fin.ext (by show _ = l.val; simp only []; omega))

end Cert.InprojRefIdeal.Value
-- ==== Proof.InprojValue.lean ====
module

public import proofs.«01_k».proof.Proof.InprojBlocks
public import proofs.«01_k».proof.Proof.InprojPieces
public import proofs.«01_k».proof.Proof.InprojRef

@[expose] public section

set_option maxRecDepth 16384

noncomputable section

namespace Cert.InprojIdeal.Inp

open Cert.InprojIdeal Cert.InprojIdeal.Gen
open Idealize.ShloMosaic Idealize.ShloMosaic.TcCoe Idealize.ShloMosaic.Tactic
open Idealize.ShloMosaic.Pipeline (Dat)
open Idealize.SL.Sem

variable (m : (ℓ : Loc nD τ sig) → Buf (Elt Ideal) ℓ)

/-- The angles of the kernel's host code are the reference's. -/
theorem angs_eq : angs = Cert.InprojRefIdeal.Value.angs := rfl

/-- A table of four copies, at a row and a column. -/
theorem tab_at (A B C D : FVec Ideal S64x32 .f32) (r : Fin 1024) (k : Fin 128) : tab A B C D (ix2 r k)
    = if k.val < 32 then A (ix2 ⟨r.val % 64, by omega⟩ ⟨k.val % 32, by omega⟩) else if k.val < 64 then B (ix2 ⟨r.val % 64, by omega⟩ ⟨k.val % 32, by omega⟩)
      else if k.val < 96 then C (ix2 ⟨r.val % 64, by omega⟩ ⟨k.val % 32, by omega⟩) else D (ix2 ⟨r.val % 64, by omega⟩ ⟨k.val % 32, by omega⟩) := by
  have hk := k.isLt
  pointwise [tab]
  by_cases h1 : k.val < 32
  · rw [dif_pos h1, if_pos h1]
    exact congrArg (fun d => A (ix2 _ d)) (Fin.ext (by show k.val = k.val % 32; omega))
  · rw [dif_neg h1, if_neg h1]
    by_cases h2 : k.val < 64
    · rw [dif_pos (by omega), if_pos h2]
      exact congrArg (fun d => B (ix2 _ d)) (Fin.ext (by show k.val - 32 = k.val % 32; omega))
    · rw [dif_neg (by omega), if_neg h2]
      by_cases h3 : k.val < 96
      · rw [dif_pos (by omega), if_pos h3]
        exact congrArg (fun d => C (ix2 _ d)) (Fin.ext (by show k.val - 32 - 32 = k.val % 32; omega))
      · rw [dif_neg (by omega), if_neg h3]
        exact congrArg (fun d => D (ix2 _ d)) (Fin.ext (by show k.val - 32 - 32 - 32 = k.val % 32; omega))

/-- The cosines' table. -/
theorem cos_at (r : Fin 1024) (k : Fin 128) : tab (Host.cos angs) (Host.cos angs) (Host.cos angs) (Host.cos angs) (ix2 r k)
    = Ideal.cos (Cert.InprojRefIdeal.Value.angs (ix2 ⟨r.val % 64, by omega⟩ ⟨k.val % 32, by omega⟩)) := by
  rw [tab_at, ite_self, ite_self, ite_self]
  rfl

/-- The signed sines' table. -/
theorem sin_at (r : Fin 1024) (k : Fin 128) : tab (Host.negf (Host.sin angs)) (Host.sin angs) (Host.negf (Host.sin angs)) (Host.sin angs) (ix2 r k)
    = if k.val % 64 < 32 then -Ideal.sin (Cert.InprojRefIdeal.Value.angs (ix2 ⟨r.val % 64, by omega⟩ ⟨k.val % 32, by omega⟩))
      else Ideal.sin (Cert.InprojRefIdeal.Value.angs (ix2 ⟨r.val % 64, by omega⟩ ⟨k.val % 32, by omega⟩)) := by
  have hk := k.isLt
  rw [tab_at]
  by_cases h1 : k.val < 32
  · rw [if_pos h1, if_pos (by omega)]; rfl
  · rw [if_neg h1]
    by_cases h2 : k.val < 64
    · rw [if_pos h2, if_neg (by omega)]; rfl
    · rw [if_neg h2]
      by_cases h3 : k.val < 96
      · rw [if_pos h3, if_pos (by omega)]; rfl
      · rw [if_neg h3, if_neg (by omega)]; rfl

/-- The normalised block, at a row and a column. -/
theorem pay1_at (x0 : Vec Ideal S512x1024 .f32) (x1 : Vec Ideal S1x1024 .f32) (y : Fin 512) (k : Fin 1024) :
    k0_pay1 x0 x1 (ix2 y k) = Cert.InprojRow.norm (fun k => x0 (ix2 y k)) (fun k => x1 (ix2 0 k)) k := by
  pointwise [k0_pay1]
  rfl

/-- The product, at a row and a column. -/
theorem pay2_at (xs : Vec Ideal S512x1024 .bf16) (x2 : Vec Ideal S1024x1024 .bf16) (y : Fin 512) (k : Fin 1024) :
    k0_pay2 xs x2 (ix2 y k) = ∑ x, xs (ix2 y x) * x2 (ix2 x k) := by
  pointwise [k0_pay2]

/-- The gated product. -/
theorem pay4_at (xs : Vec Ideal S512x1024 .bf16) (x2 : Vec Ideal S1024x1024 .bf16) (y : Fin 512) (k : Fin 1024) :
    k0_pay4 xs x2 (ix2 y k) = k0_pay2 xs x2 (ix2 y k) * Cert.InprojRow.sigm (k0_pay2 xs x2 (ix2 y k)) := by
  pointwise [k0_pay4]
  exact congrArg (k0_pay2 xs x2 (ix2 y k) * ·) (Cert.Scalar.half_tanh _)

/-- The gate. -/
theorem pay10_at (xs : Vec Ideal S512x1024 .bf16) (x2 : Vec Ideal S1024x1024 .bf16) (y : Fin 512) (k : Fin 1024) :
    k0_pay10 xs x2 (ix2 y k) = Cert.InprojRow.sigm (k0_pay2 xs x2 (ix2 y k)) := by
  pointwise [k0_pay10]
  exact Cert.Scalar.half_tanh _

/-- The projection of the run's arguments. -/
def ZZ (c : Dev nD) : FVec Ideal Cert.InprojRefIdeal.S16x64x8192 .f32 :=
  Cert.InprojRefIdeal.Value.Z (m ((c : Thread nD τ).loc main_arg0)) (m ((c : Thread nD τ).loc main_arg1)) (m ((c : Thread nD τ).loc main_arg2))

/-- The column group of a point. -/
def grp (t : Fin cfg0.N) : Fin 8 := ⟨t.val % 8, by omega⟩

/-- What the scratch buffer holds at a row tile is the normalised block. -/
theorem scr_val (c : Dev nD) (i : ℕ) : scr m c i = k0_pay1 (iblk m c 0 (pt0 i)) (iblk m c 1 (pt0 i)) :=
  canon_scr _ _ _ _ _ _ _ _ _ _ _ _ _ _ _ _ _ _ _ _ _ _ _ _ _ _ _ _ _ _

/-- The product at a point, of a block of the same row tile, is the projection's column group. -/
theorem acc (c : Dev nD) (t s : Fin cfg0.N) (h : s.val / 8 = t.val / 8) (y : Fin 512) (l : Fin 1024) :
    k0_pay2 (k0_pay1 (iblk m c 0 s) (iblk m c 1 s)) (iblk m c 2 t) (ix2 y l) = Cert.InprojRefIdeal.Value.zrow (ZZ m c) (row t y) (grp t) l := by
  have hr : row s y = row t y := Fin.ext (by show s.val / 8 * 512 + y.val = t.val / 8 * 512 + y.val; rw [h])
  rw [pay2_at]
  refine Eq.trans ?_ (Cert.InprojRefIdeal.Value.Z_at _ _ _ _ _ _).symm
  refine Finset.sum_congr rfl fun k _ => ?_
  rw [pay1_at, b2, v30]
  refine congrArg₂ (· * ·) ?_ rfl
  refine congrArg₂ (fun u w => Cert.InprojRow.norm u w k) (funext fun k => ?_) (funext fun k => ?_)
  · rw [b0, hr, v28]
  · rw [b1, v29]

theorem pt0_div (t : Fin cfg0.N) : (pt0 (t.val / 8)).val / 8 = t.val / 8 := by
  have := t_lt t
  unfold pt0
  dsimp only
  omega

theorem acc_scr (c : Dev nD) (t : Fin cfg0.N) (y : Fin 512) (l : Fin 1024) :
    k0_pay2 (scr m c (t.val / 8)) (iblk m c 2 t) (ix2 y l) = Cert.InprojRefIdeal.Value.zrow (ZZ m c) (row t y) (grp t) l := by
  rw [scr_val]
  exact acc m c t _ (pt0_div t) y l

/-- The kernel's rotation at a point is the reference's. -/
theorem rot_scr (c : Dev nD) (t : Fin cfg0.N) (y : Fin 512) (l : Fin 1024) :
    Cert.InprojRow.krot (fun l => k0_pay2 (scr m c (t.val / 8)) (iblk m c 2 t) (ix2 y l)) (fun k => (iblk m c 3 t : Vec Ideal S512x128 .f32) (ix2 y k)) (fun k => (iblk m c 4 t : Vec Ideal S512x128 .f32) (ix2 y k)) l
      = Cert.InprojRefIdeal.Value.rrow (ZZ m c) (row t y) (grp t) l := by
  refine (Cert.InprojRow.krot_eq _ _ _ (fun d => Ideal.cos (Cert.InprojRefIdeal.Value.angs (ix2 ⟨(row t y).val % 64, by omega⟩ d)))
    (fun d => Ideal.sin (Cert.InprojRefIdeal.Value.angs (ix2 ⟨(row t y).val % 64, by omega⟩ d))) (fun k => ?_) (fun k => ?_) l).trans ?_
  · exact (b3 m c t y k).trans ((congrFun (v24 m c) _).trans (cos_at _ k))
  · exact (b4 m c t y k).trans ((congrFun (v27 m c) _).trans (sin_at _ k))
  · exact congrArg (fun A => Cert.InprojRow.rot A _ _ l) (funext fun l => acc_scr m c t y l)

theorem grp_of (t : Fin cfg0.N) (g : Fin 8) (h : t.val % 8 = g.val) : grp t = g := Fin.ext h

theorem hx_of (t : Fin cfg0.N) (g : ℕ) (h : t.val % 8 = g) (l : Fin 1024) : (col t l).val = g * 1024 + l.val := by
  show t.val % 8 * 1024 + l.val = _
  rw [h]

/-- What the body leaves in the first output's block is the reference's, at a row and a column. -/
theorem point5 (c : Dev nD) (t : Fin cfg0.N) (y : Fin 512) (l : Fin 1024) :
    zAt m c t (ix2 y l) = Cert.InprojRefIdeal.Value.OUT0 (ZZ m c) (ix2 (row t y) (col t l)) := by
  have h8 : t.val % 8 < 8 := Nat.mod_lt _ (by decide)
  obtain h | h | h | h | h | h | h | h : t.val % 8 = 0 ∨ t.val % 8 = 1 ∨ t.val % 8 = 2 ∨ t.val % 8 = 3 ∨ t.val % 8 = 4 ∨ t.val % 8 = 5 ∨ t.val % 8 = 6 ∨ t.val % 8 = 7 := by omega
  · rw [zAt_norm m c t h, canon_norm, Cert.InprojRefIdeal.Value.out0_0 _ _ l _ (hx_of t 0 h l), ← grp_of t 0 h]
    exact acc m c t t rfl y l
  · rw [zAt_silu m c t (.inl h), canon_silu, pay4_at, Cert.InprojRefIdeal.Value.out0_1 _ _ l _ (hx_of t 1 h l), ← grp_of t 1 h, acc_scr]
  · rw [zAt_rotQ m c t h, canon_rotQ, Cert.InprojRefIdeal.Value.out0_2 _ _ l _ (hx_of t 2 h l), ← grp_of t 2 h, rot_scr]
  · rw [zAt_rotK m c t h, canon_rotK, Cert.InprojRefIdeal.Value.out0_3 _ _ l _ (hx_of t 3 h l), ← grp_of t 3 h, rot_scr]
  · rw [zAt_val m c t h, canon_val, Cert.InprojRefIdeal.Value.out0_4 _ _ l _ (hx_of t 4 h l), ← grp_of t 4 h]
    exact acc_scr m c t y l
  · rw [zAt_silu m c t (.inr h), canon_silu, pay4_at, Cert.InprojRefIdeal.Value.out0_5 _ _ l _ (hx_of t 5 h l), ← grp_of t 5 h, acc_scr]
  · rw [zAt_sig m c t (by omega), canon_sig, pay10_at, Cert.InprojRefIdeal.Value.out0_6 _ _ l _ (hx_of t 6 h l), ← grp_of t 6 h, acc_scr]
  · rw [zAt_sig m c t (by omega), canon_sig, pay10_at, Cert.InprojRefIdeal.Value.out0_7 _ _ l _ (hx_of t 7 h l), ← grp_of t 7 h, acc_scr]

/-- The value block is the projection's fifth column group. -/
theorem vAt_val (c : Dev nD) (t : Fin cfg0.N) (y : Fin 512) (l : Fin 1024) :
    vAt m c (t.val / 8) (ix2 y l) = Cert.InprojRefIdeal.Value.zrow (ZZ m c) (row t y) 4 l := by
  have hd : (pt4 (t.val / 8)).val / 8 = t.val / 8 := by
    have := t_lt t
    unfold pt4
    dsimp only
    omega
  have hr : row (pt4 (t.val / 8)) y = row t y := Fin.ext (by show (pt4 (t.val / 8)).val / 8 * 512 + y.val = t.val / 8 * 512 + y.val; rw [hd])
  unfold vAt
  rw [canon_val2, ← hr, ← grp_of (pt4 (t.val / 8)) 4 (pt4_mod _)]
  have e := acc_scr m c (pt4 (t.val / 8)) y l
  rw [hd] at e
  exact e

/-- What is stored of the second output's block is the reference's, at a row and a column. -/
theorem point6 (c : Dev nD) (t : Fin cfg0.N) (h : t.val % 4 = 3) (y : Fin 512) (l : Fin 1024) :
    kvAt m c t (ix2 y l) = Cert.InprojRefIdeal.Value.OUT1 (ZZ m c) (ix2 (row t y) ⟨(if 3 < t.val % 8 then 1 else 0) * 1024 + l.val, by split <;> omega⟩) := by
  unfold kvAt
  by_cases h3 : t.val % 8 = 3
  · rw [dif_pos h3, canon_rotK2, Cert.InprojRefIdeal.Value.out1_k _ _ l _ (by dsimp only; split <;> omega), ← grp_of t 3 h3, rot_scr]
  · rw [dif_neg h3, Cert.InprojRefIdeal.Value.out1_v _ _ l _ (by dsimp only; split <;> omega)]
    exact vAt_val m c t y l

/-- The first output array after the launch is the reference's first result. -/
theorem final5 (c : Dev nD) : (dats m 0 c).arrAt 5 (Fin.last cfg0.N) = Cert.InprojRefIdeal.Value.OUT0 (ZZ m c) := by
  refine (dats m 0 c).arrAt_eq_of_covers 5 _ (by decide +kernel) fun t _ y => ?_
  blk_simp
  idx_vars y
  rw [after5]
  refine (point5 m c t y0 y1).trans ?_
  exact congrArg _ (e5 t y0 y1).symm

/-- The second output array after the launch is the reference's second result. -/
theorem final6 (c : Dev nD) : (dats m 0 c).arrAt 6 (Fin.last cfg0.N) = Cert.InprojRefIdeal.Value.OUT1 (ZZ m c) := by
  refine (dats m 0 c).arrAt_eq_of_covers 6 _ (by decide +kernel) fun t ht y => ?_
  have h : t.val % 4 = 3 := of_decide_eq_true ((flush6 t).symm.trans ht)
  blk_simp
  idx_vars y
  rw [after6]
  refine (point6 m c t h y0 y1).trans ?_
  exact congrArg _ (e6 t y0 y1).symm

end Cert.InprojIdeal.Inp
-- ==== Proof.AttnRun.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the body's guard tests: it is positive, as the machine compares it. -/
abbrev guardOn (w : BitVec 32) : Prop :=
  (Scalar.cmpi .ne (Scalar.extui (Scalar.cmpi .sgt w 0#32)) 0#32) = 1#1

section
variable (c : Dev nD) (i : grid0.Coords)
variable (arg2 : Memref sig .tc .vmem S4096x128 .bf16) (harg2 : arg2.IsWhole) (arg3 : Memref sig .tc .vmem
  S4096x128 .bf16) (harg3 : arg3.IsWhole) (arg4 : Memref sig .tc .vmem S8x128x512 .bf16) (harg4 :
  arg4.IsWhole) (arg5 : Memref sig .tc .vmem S128x128 .bf16) (harg5 : arg5.IsWhole) (arg6 : Memref sig .tc
  .vmem S128x128 .bf16) (harg6 : arg6.IsWhole) (arg7 : Memref sig .tc .vmem S512x1024 .f32) (harg7 :
  arg7.IsWhole) (arg8 : Memref sig .tc .vmem S4096x128 .bf16) (harg8 : arg8.IsWhole) (arg9 : Memref sig .tc
  .vmem S128x1 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32)
  (harg12 : arg12.IsWhole) (arg13 : Memref sig .tc .vmem S1x64 .f32) (harg13 : arg13.IsWhole) (arg14 : Memref
  sig .tc .smem S1 .i32) (harg14 : arg14.IsWhole) (arg15 : Memref sig .tc .vmem S4096x128 .bf16) (harg15 :
  arg15.IsWhole) (arg16 : Memref sig .tc .vmem S8x128x1024 .bf16) (harg16 : arg16.IsWhole) (arg17 : Memref sig
  .tc .vmem S512x1024 .f32) (harg17 : arg17.IsWhole) (arg18 : Memref sig .tc .vmem S512x1024 .f32) (harg18 :
  arg18.IsWhole) (arg19 : Memref sig .tc .vmem S512x1024 .bf16) (harg19 : arg19.IsWhole) (arg20 : Memref sig
  .tc .vmem S512x1024 .bf16) (harg20 : arg20.IsWhole) (arg21 : Memref sig .tc .vmem S1x1024 .f32) (harg21 :
  arg21.IsWhole) (arg22 : Memref sig .tc .vmem S1x1024 .f32) (harg22 : arg22.IsWhole) (arg23 : Memref sig .tc
  .vmem S1x1024 .f32) (harg23 : arg23.IsWhole) (arg24 : Memref sig .tc .vmem S1x1024 .f32) (harg24 :
  arg24.IsWhole) (arg25 : Memref sig .tc .vmem S128x1024 .bf16) (harg25 : arg25.IsWhole) (arg26 : Memref sig
  .tc .vmem S8x1x1024 .f32) (harg26 : arg26.IsWhole) (arg27 : Memref sig .tc .vmem S8x144x1024 .f32) (harg27 :
  arg27.IsWhole)
variable (x0 : Vec F S4096x128 .bf16) (x1 : Vec F S4096x128 .bf16) (x2 : Vec F S8x128x512 .bf16) (x3 : Vec F
  S128x128 .bf16) (x4 : Vec F S128x128 .bf16) (x5 : Vec F S512x1024 .f32) (x6 : Vec F S4096x128 .bf16) (x7 :
  Vec F S128x1 .f32) (x8 : Vec F S1x64 .f32) (x9 : Vec F S1x64 .f32) (x10 : Vec F S1x64 .f32) (x11 : Vec F
  S1x64 .f32) (x12 : Vec F S1 .i32)

set_option maxHeartbeats 2000000 in
/-- One grid point of the attention body on any whole staging buffers, its guard word positive: the pieces `L`
    the body stores into the output's buffer, with the proof that the body runs, keeps every input's buffer,
    leaves the output's buffer with those pieces written and the scratch buffers at something. -/
noncomputable def bodyRun
    (hg : guardOn (arg14.view.readAt (Elt F) (Rect.unit (s := S1) ![0] S1.size inb_S1_S1_0).toLoadRect (harg14.unread x12) (Shape.Idx.first (numel1_S1.symm ▸ Nat.one_pos)))) :
    { L : List (View.Piece (Elt F) S4096x128 .bf16) //
      ∀ (E : Set ℕ) (K : PUnit → sProp 𝕄),
        iprop(owns (c : Thread nD τ) arg2 fullShare x0 ∗ owns (c : Thread nD τ) arg3 fullShare x1 ∗ owns (c :
          Thread nD τ) arg4 fullShare x2 ∗ owns (c : Thread nD τ) arg5 fullShare x3 ∗ owns (c : Thread nD τ)
          arg6 fullShare x4 ∗ owns (c : Thread nD τ) arg7 fullShare x5 ∗ owns (c : Thread nD τ) arg8 fullShare
          x6 ∗ owns (c : Thread nD τ) arg9 fullShare x7 ∗ owns (c : Thread nD τ) arg10 fullShare x8 ∗ owns (c
          : Thread nD τ) arg11 fullShare x9 ∗ owns (c : Thread nD τ) arg12 fullShare x10 ∗ owns (c : Thread nD
          τ) arg13 fullShare x11 ∗ owns (c : Thread nD τ) arg14 fullShare x12
          ∗ (∃ d, owns (c : Thread nD τ) arg15 fullShare d) ∗ (∃ d, owns (c : Thread nD τ) arg16 fullShare d) ∗
          (∃ d, owns (c : Thread nD τ) arg17 fullShare d) ∗ (∃ d, owns (c : Thread nD τ) arg18 fullShare d) ∗
          (∃ d, owns (c : Thread nD τ) arg19 fullShare d) ∗ (∃ d, owns (c : Thread nD τ) arg20 fullShare d) ∗
          (∃ d, owns (c : Thread nD τ) arg21 fullShare d) ∗ (∃ d, owns (c : Thread nD τ) arg22 fullShare d) ∗
          (∃ d, owns (c : Thread nD τ) arg23 fullShare d) ∗ (∃ d, owns (c : Thread nD τ) arg24 fullShare d) ∗
          (∃ d, owns (c : Thread nD τ) arg25 fullShare d) ∗ (∃ d, owns (c : Thread nD τ) arg26 fullShare d) ∗
          (∃ d, owns (c : Thread nD τ) arg27 fullShare d)
          ∗ (iprop(owns (c : Thread nD τ) arg2 fullShare x0 ∗ owns (c : Thread nD τ) arg3 fullShare x1 ∗ owns (c :
          Thread nD τ) arg4 fullShare x2 ∗ owns (c : Thread nD τ) arg5 fullShare x3 ∗ owns (c : Thread nD τ)
          arg6 fullShare x4 ∗ owns (c : Thread nD τ) arg7 fullShare x5 ∗ owns (c : Thread nD τ) arg8 fullShare
          x6 ∗ owns (c : Thread nD τ) arg9 fullShare x7 ∗ owns (c : Thread nD τ) arg10 fullShare x8 ∗ owns (c
          : Thread nD τ) arg11 fullShare x9 ∗ owns (c : Thread nD τ) arg12 fullShare x10 ∗ owns (c : Thread nD
          τ) arg13 fullShare x11 ∗ owns (c : Thread nD τ) arg14 fullShare x12
          ∗ (∃ f, arg15.view.loc (c : Thread nD τ) ↦[arg15.view.set]{fullShare} arg15.view.writes (Elt F) f L)
          ∗ (∃ d, owns (c : Thread nD τ) arg16 fullShare d) ∗ (∃ d, owns (c : Thread nD τ) arg17 fullShare d) ∗
          (∃ d, owns (c : Thread nD τ) arg18 fullShare d) ∗ (∃ d, owns (c : Thread nD τ) arg19 fullShare d) ∗
          (∃ d, owns (c : Thread nD τ) arg20 fullShare d) ∗ (∃ d, owns (c : Thread nD τ) arg21 fullShare d) ∗
          (∃ d, owns (c : Thread nD τ) arg22 fullShare d) ∗ (∃ d, owns (c : Thread nD τ) arg23 fullShare d) ∗
          (∃ d, owns (c : Thread nD τ) arg24 fullShare d) ∗ (∃ d, owns (c : Thread nD τ) arg25 fullShare d) ∗
          (∃ d, owns (c : Thread nD τ) arg26 fullShare d) ∗ (∃ d, owns (c : Thread nD τ) arg27 fullShare d)) -∗ K PUnit.unit))
        ⊢ wp frame (wpE (defs₀ (F := F)) Variants.none c none) E (cc0_attn_flat i
            arg2 harg2 arg3 harg3 arg4 harg4 arg5 harg5 arg6 harg6 arg7 harg7 arg8 harg8 arg9 harg9 arg10
            harg10 arg11 harg11 arg12 harg12 arg13 harg13 arg14 harg14 arg15 harg15 arg16 harg16 arg17 harg17
            arg18 harg18 arg19 harg19 arg20 harg20 arg21 harg21 arg22 harg22 arg23 harg23 arg24 harg24 arg25
            harg25 arg26 harg26 arg27 harg27) K } := by
  refine ⟨?_, fun E K => ?run⟩
  case run =>
    simp only [cc0_attn_flat_eq_skeleton]; unfold cc0_attn_flat_skel
    simp only [
      k0_part71_eq_skeleton, k0_part72_eq_skeleton, k0_part73_eq_skeleton, k0_part69_eq_skeleton,
      k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton,
      k0_part37_eq_skeleton, k0_part38_eq_skeleton, k0_part39_eq_skeleton, k0_part40_eq_skeleton,
      k0_part41_eq_skeleton, k0_part42_eq_skeleton, k0_part43_eq_skeleton, k0_part44_eq_skeleton,
      k0_part45_eq_skeleton, k0_part46_eq_skeleton, k0_part47_eq_skeleton, k0_part48_eq_skeleton,
      k0_part49_eq_skeleton, k0_part50_eq_skeleton, k0_part51_eq_skeleton, k0_part52_eq_skeleton,
      k0_part53_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton, k0_part68_eq_skeleton,
      k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11,
      H11⟩, ⟨%f12, %hf12, H12⟩, ⟨%d13, %f13, -, H13⟩, ⟨%ds0, %fs0, -, HS0⟩, ⟨%ds1, %fs1, -, HS1⟩, ⟨%ds2, %fs2,
      -, HS2⟩, ⟨%ds3, %fs3, -, HS3⟩, ⟨%ds4, %fs4, -, HS4⟩, ⟨%ds5, %fs5, -, HS5⟩, ⟨%ds6, %fs6, -, HS6⟩, ⟨%ds7,
      %fs7, -, HS7⟩, ⟨%ds8, %fs8, -, HS8⟩, ⟨%ds9, %fs9, -, HS9⟩, ⟨%ds10, %fs10, -, HS10⟩, ⟨%ds11, %fs11, -,
      HS11⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    sl_exec (disch := first | sl_exact hg)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    iexists _, _; isplitr; swap; · iexact HS11
    ipureintro; rfl

end

end Cert.KernelIdeal.Attn

end
-- ==== Proof.AttnFrame.lean ====
module

public import proofs.«01_k».proof.Proof.AttnRun
public import proofs.«01_k».proof.Proof.Gen.KernelIdeal.Points
public import Idealize.ShloMosaic.Lib.Pipeline.ValueKit
public import Idealize.ShloMosaic.Lib.Pointwise
public import Idealize.ShloMosaic.Lib.StableHlo.Run

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guard word -/

set_option maxHeartbeats 1000000 in
/-- The guard's window reads the host constant one at every grid point. -/
theorem word_one (c : Dev nD) (t : Fin cfg0.N) (y) : iblk m c 12 t y = 1#32 := by
  have h : V m c main_v49 = (broadcastInDim S1 ![] bcast_S_S1 : (⟨S_, .i32⟩ : BufTy).Contents (Elt F) → (⟨S1, .i32⟩ : BufTy).Contents (Elt F)) (constantI S_ 32 1#32) := by
    entry_read; rfl
  show V m c main_v49 _ = 1#32
  rw [h]; rfl

/-! ## The buffers at a grid point -/

abbrev ms0 (t : Fin cfg0.N) : Memref sig .tc .vmem S4096x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4096x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .smem S1 .i32 := win0_12.stage (cfg0.slots t 12)
abbrev hs12 (t : Fin cfg0.N) : (ms12 t).IsWhole := hstage0_12 ((cfg0.slots t 12).cast nbuf0_12)
abbrev ms13 (t : Fin cfg0.N) : Memref sig .tc .vmem S4096x128 .bf16 := win0_13.stage (cfg0.slots t 13)
abbrev hs13 (t : Fin cfg0.N) : (ms13 t).IsWhole := hstage0_13 ((cfg0.slots t 13).cast nbuf0_13)
abbrev sc0 : Memref sig .tc .vmem S8x128x1024 .bf16 := Memref.whole cc0_scratch0
abbrev sc1 : Memref sig .tc .vmem S512x1024 .f32 := Memref.whole cc0_scratch1
abbrev sc2 : Memref sig .tc .vmem S512x1024 .f32 := Memref.whole cc0_scratch2
abbrev sc3 : Memref sig .tc .vmem S512x1024 .bf16 := Memref.whole cc0_scratch3
abbrev sc4 : Memref sig .tc .vmem S512x1024 .bf16 := Memref.whole cc0_scratch4
abbrev sc5 : Memref sig .tc .vmem S1x1024 .f32 := Memref.whole cc0_scratch5
abbrev sc6 : Memref sig .tc .vmem S1x1024 .f32 := Memref.whole cc0_scratch6
abbrev sc7 : Memref sig .tc .vmem S1x1024 .f32 := Memref.whole cc0_scratch7
abbrev sc8 : Memref sig .tc .vmem S1x1024 .f32 := Memref.whole cc0_scratch8
abbrev sc9 : Memref sig .tc .vmem S128x1024 .bf16 := Memref.whole cc0_scratch9
abbrev sc10 : Memref sig .tc .vmem S8x1x1024 .f32 := Memref.whole cc0_scratch10
abbrev sc11 : Memref sig .tc .vmem S8x144x1024 .f32 := Memref.whole cc0_scratch11

/-- The invariant between grid points, with each scratch buffer owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d)) ∗ (∃ r, prngReg c r)) := by
  unfold Pipeline.ΦA; rw [scopedRest0_eq]; simp only [sc0, sc1, sc2, sc3, sc4, sc5, sc6, sc7, sc8, sc9, sc10, sc11, owns_whole]; try rfl

section
variable (c : Dev nD) (t : Fin cfg0.N)

/-- The word the body loads at point `t` is the constant one, so the guard is on. -/
theorem guard : guardOn ((ms12 t).view.readAt (Elt F) (Rect.unit (s := S1) ![0] S1.size inb_S1_S1_0).toLoadRect ((hs12 t).unread (iblk m c 12 t)) (Shape.Idx.first (numel1_S1.symm ▸ Nat.one_pos))) := by
  rw [View.readAt_apply, (hs12 t).read_unread, word_one]
  rfl

/-- The run of the body at point `t`, on the point's buffers and input blocks. -/
abbrev runAt := bodyRun (F := F) c (grid0.coords t)
    (ms0 t) (hs0 t) (ms1 t) (hs1 t) (ms2 t) (hs2 t) (ms3 t) (hs3 t) (ms4 t) (hs4 t) (ms5 t) (hs5 t) (ms6 t)
    (hs6 t) (ms7 t) (hs7 t) (ms8 t) (hs8 t) (ms9 t) (hs9 t) (ms10 t) (hs10 t) (ms11 t) (hs11 t) (ms12 t) (hs12
    t) (ms13 t) (hs13 t) sc0 (Memref.isWhole_whole _) sc1 (Memref.isWhole_whole _) sc2 (Memref.isWhole_whole
    _) sc3 (Memref.isWhole_whole _) sc4 (Memref.isWhole_whole _) sc5 (Memref.isWhole_whole _) sc6
    (Memref.isWhole_whole _) sc7 (Memref.isWhole_whole _) sc8 (Memref.isWhole_whole _) sc9
    (Memref.isWhole_whole _) sc10 (Memref.isWhole_whole _) sc11 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (guard m c t)

/-- The eight row blocks the body stores tile the output's buffer. -/
theorem cover (y : S4096x128.Idx) : ∃ pc ∈ (runAt m c t).1, y ∈ pc.1.set :=
  View.cover_of_tiledL (runAt m c t).1 S512x128.size (by sl_kernel_rfl) y

/-- What the body leaves in the output's buffer at point `t`: its stored pieces put together. -/
def outAt : Vec F S4096x128 .bf16 := View.canon (runAt m c t).1

end

/-! ## The pipeline's proof data -/

/-- The arrays as the region finds them; each input's buffer at its block and the output's at `outAt` after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- What it hands back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 2000000 in
/-- The body's obligation at any point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  rw [show (dats m 0 c).Φ t.castSucc = Pipeline.ΦA spec0 c from rfl, PhiA_eq]
  unfold outAt
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, ⟨%e13, H13⟩, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iexact HS11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  unfold owns; iexists _; isplitr
  swap; · iexact H13
  ipureintro; exact View.read_writes_eq_canon _ _ _ (cover m c t)

theorem defs_row (t : Fin cfg0.N) :
    defs₀ (F := F) .tc cfg0.body (cfg0.bodyArgs t (cfg0.slots t)) = bodyAt0 t := by
  unfold defs₀; rw [Defs.onTc_tc]

/-- The pipeline's obligation about the body, at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- Every run ends with the pipeline's arrays as computed from the proof data, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with the pipeline's arrays as computed from the proof data. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.RglruRun.lean ====
module

public import proofs.«01_k».proof.Proof.Gen.RglruIdeal.Frame
public import proofs.«01_k».proof.Proof.Gen.RglruIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.RglruIdeal.Rec

open Cert.RglruIdeal Cert.RglruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word that tells the first point of a sequence, where the carried state is read from the inputs. -/
def firstCond (i : grid0.Coords) : BitVec 1 :=
  Scalar.cmpi .ne (Scalar.extui (Scalar.cmpi .eq (BitVec.ofNat 32 (i 1).val) 0#32)) 0#32

section
variable (c : Dev nD) (i : grid0.Coords)
variable (arg2 : Memref sig .tc .vmem S64x1024 .bf16) (harg2 : arg2.IsWhole) (arg3 : Memref sig .tc .vmem
  S64x1024 .bf16) (harg3 : arg3.IsWhole) (arg4 : Memref sig .tc .vmem S1x8x1024 .f32) (harg4 : arg4.IsWhole)
  (arg5 : Memref sig .tc .vmem S1x1x1024 .f32) (harg5 : arg5.IsWhole) (arg6 : Memref sig .tc .vmem S4x1024 .f32)
  (harg6 : arg6.IsWhole) (arg7 : Memref sig .tc .vmem S1x1024 .f32) (harg7 : arg7.IsWhole) (arg8 : Memref sig
  .tc .vmem S8x128x256 .bf16) (harg8 : arg8.IsWhole) (arg9 : Memref sig .tc .vmem S1x1024 .f32) (harg9 :
  arg9.IsWhole) (arg10 : Memref sig .tc .vmem S1x1024 .f32) (harg10 : arg10.IsWhole) (arg11 : Memref sig .tc
  .vmem S1x1024 .f32) (harg11 : arg11.IsWhole) (arg12 : Memref sig .tc .vmem S64x1024 .bf16) (harg12 :
  arg12.IsWhole) (arg13 : Memref sig .tc .vmem S1x8x1024 .f32) (harg13 : arg13.IsWhole) (arg14 : Memref sig .tc
  .vmem S1x1x1024 .f32) (harg14 : arg14.IsWhole) (arg15 : Memref sig .tc .vmem S8x1024 .f32) (harg15 :
  arg15.IsWhole) (arg16 : Memref sig .tc .vmem S64x1024 .f32) (harg16 : arg16.IsWhole) (arg17 : Memref sig .tc
  .vmem S64x1024 .f32) (harg17 : arg17.IsWhole) (arg18 : Memref sig .tc .vmem S64x1024 .f32) (harg18 :
  arg18.IsWhole) (arg19 : Memref sig .tc .vmem S8x1024 .f32) (harg19 : arg19.IsWhole)
variable (x0 : Vec F S64x1024 .bf16) (x1 : Vec F S64x1024 .bf16) (x2 : Vec F S1x8x1024 .f32) (x3 : Vec F
  S1x1x1024 .f32) (x4 : Vec F S4x1024 .f32) (x5 : Vec F S1x1024 .f32) (x6 : Vec F S8x128x256 .bf16) (x7 : Vec F
  S1x1024 .f32) (x8 : Vec F S1x1024 .f32) (x9 : Vec F S1x1024 .f32)

set_option maxHeartbeats 8000000 in
set_option sl_exec.unrollTrips 8 in
/-- One grid point of the recurrent mixer's body on any whole staging buffers, the point the first of its sequence:
    the pieces stored into the three outputs' buffers, with the proof that the body runs, keeps every input's buffer,
    leaves the outputs' buffers with those pieces written and the scratch buffers at something. -/
noncomputable def bodyRun (h1 : firstCond i = 1#1) :
    { L : List (View.Piece (Elt F) S64x1024 .bf16) × List (View.Piece (Elt F) S1x8x1024 .f32) × List (View.Piece (Elt F) S1x1x1024 .f32) //
      ∀ (E : Set ℕ) (K : PUnit → sProp 𝕄),
        iprop(owns (c : Thread nD τ) arg2 fullShare x0 ∗ owns (c : Thread nD τ) arg3 fullShare x1 ∗ owns (c : Thread
          nD τ) arg4 fullShare x2 ∗ owns (c : Thread nD τ) arg5 fullShare x3 ∗ owns (c : Thread nD τ) arg6
          fullShare x4 ∗ owns (c : Thread nD τ) arg7 fullShare x5 ∗ owns (c : Thread nD τ) arg8 fullShare x6 ∗
          owns (c : Thread nD τ) arg9 fullShare x7 ∗ owns (c : Thread nD τ) arg10 fullShare x8 ∗ owns (c :
          Thread nD τ) arg11 fullShare x9
          ∗ (∃ d, owns (c : Thread nD τ) arg12 fullShare d) ∗ (∃ d, owns (c : Thread nD τ) arg13 fullShare d) ∗ (∃
          d, owns (c : Thread nD τ) arg14 fullShare d) ∗ (∃ d, owns (c : Thread nD τ) arg15 fullShare d) ∗ (∃ d,
          owns (c : Thread nD τ) arg16 fullShare d) ∗ (∃ d, owns (c : Thread nD τ) arg17 fullShare d) ∗ (∃ d,
          owns (c : Thread nD τ) arg18 fullShare d) ∗ (∃ d, owns (c : Thread nD τ) arg19 fullShare d)
          ∗ (iprop(owns (c : Thread nD τ) arg2 fullShare x0 ∗ owns (c : Thread nD τ) arg3 fullShare x1 ∗ owns (c : Thread
          nD τ) arg4 fullShare x2 ∗ owns (c : Thread nD τ) arg5 fullShare x3 ∗ owns (c : Thread nD τ) arg6
          fullShare x4 ∗ owns (c : Thread nD τ) arg7 fullShare x5 ∗ owns (c : Thread nD τ) arg8 fullShare x6 ∗
          owns (c : Thread nD τ) arg9 fullShare x7 ∗ owns (c : Thread nD τ) arg10 fullShare x8 ∗ owns (c :
          Thread nD τ) arg11 fullShare x9
          ∗ (∃ f, arg12.view.loc (c : Thread nD τ) ↦[arg12.view.set]{fullShare} arg12.view.writes (Elt F) f L.1) ∗
          (∃ f, arg13.view.loc (c : Thread nD τ) ↦[arg13.view.set]{fullShare} arg13.view.writes (Elt F) f L.2.1)
          ∗ (∃ f, arg14.view.loc (c : Thread nD τ) ↦[arg14.view.set]{fullShare} arg14.view.writes (Elt F) f
          L.2.2)
          ∗ (∃ d, owns (c : Thread nD τ) arg15 fullShare d) ∗ (∃ d, owns (c : Thread nD τ) arg16 fullShare d) ∗ (∃
          d, owns (c : Thread nD τ) arg17 fullShare d) ∗ (∃ d, owns (c : Thread nD τ) arg18 fullShare d) ∗ (∃ d,
          owns (c : Thread nD τ) arg19 fullShare d)) -∗ K PUnit.unit))
        ⊢ wp frame (wpE (defs₀ (F := F)) Variants.none c none) E (cc0_rglru i
            arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18
            harg18 arg19 harg19) K } := by
  refine ⟨⟨?_, ?_, ?_⟩, fun E K => ?run⟩
  case run =>
    simp only [cc0_rglru_eq_skeleton]; unfold cc0_rglru_skel
    simp only [k0_part29_eq_skeleton, k0_part1_eq_skeleton, k0_part2_eq_skeleton, k0_part3_eq_skeleton,
      k0_part4_eq_skeleton, k0_part5_eq_skeleton, k0_part6_eq_skeleton, k0_part7_eq_skeleton,
      k0_part8_eq_skeleton, k0_part9_eq_skeleton, k0_part10_eq_skeleton, k0_part11_eq_skeleton,
      k0_part12_eq_skeleton, k0_part13_eq_skeleton, k0_part14_eq_skeleton, k0_part15_eq_skeleton,
      k0_part16_eq_skeleton, k0_part17_eq_skeleton, k0_part18_eq_skeleton, k0_part19_eq_skeleton,
      k0_part20_eq_skeleton, k0_part21_eq_skeleton, k0_part22_eq_skeleton, k0_part23_eq_skeleton,
      k0_part24_eq_skeleton, k0_part25_eq_skeleton, k0_part26_eq_skeleton, k0_part27_eq_skeleton,
      k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%d10, %f10, -, H10⟩, ⟨%d11, %f11, -,
      H11⟩, ⟨%d12, %f12, -, H12⟩, ⟨%ds0, %fs0, -, HS0⟩, ⟨%ds1, %fs1, -, HS1⟩, ⟨%ds2, %fs2, -, HS2⟩, ⟨%ds3, %fs3,
      -, HS3⟩, ⟨%ds4, %fs4, -, HS4⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := first | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end

end Cert.RglruIdeal.Rec

end
-- ==== Proof.RglruFrame.lean ====
module

public import proofs.«01_k».proof.Proof.RglruRun
public import proofs.«01_k».proof.Proof.Gen.RglruIdeal.Points
public import Idealize.ShloMosaic.Lib.Pipeline.ValueKit
public import Idealize.ShloMosaic.Lib.Pointwise
public import Idealize.ShloMosaic.Lib.StableHlo.Run
public import Idealize.ShloMosaic.Lib.Pipeline.FrameSuffix

@[expose] public section

set_option maxRecDepth 16384

noncomputable section

namespace Cert.RglruIdeal.Rec

open Cert.RglruIdeal Cert.RglruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every grid point is the first, and only, point of its sequence. -/
theorem first (t : Fin cfg0.N) : firstCond (grid0.coords t) = 1#1 :=
  (by decide +kernel : ∀ t : Fin grid0.N, firstCond (grid0.coords t) = 1#1) t

/-! ## The buffers at a grid point -/

abbrev ms0 (t : Fin cfg0.N) : Memref sig .tc .vmem S64x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S64x1024 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x8x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1x1024 .f32 := win0_12.stage (cfg0.slots t 12)
abbrev hs12 (t : Fin cfg0.N) : (ms12 t).IsWhole := hstage0_12 ((cfg0.slots t 12).cast nbuf0_12)
abbrev sc0 : Memref sig .tc .vmem S8x1024 .f32 := Memref.whole cc0_scratch0
abbrev sc1 : Memref sig .tc .vmem S64x1024 .f32 := Memref.whole cc0_scratch1
abbrev sc2 : Memref sig .tc .vmem S64x1024 .f32 := Memref.whole cc0_scratch2
abbrev sc3 : Memref sig .tc .vmem S64x1024 .f32 := Memref.whole cc0_scratch3
abbrev sc4 : Memref sig .tc .vmem S8x1024 .f32 := Memref.whole cc0_scratch4

/-- The invariant between grid points, with each scratch buffer owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

section
variable (c : Dev nD) (t : Fin cfg0.N)

/-- The run of the body at point `t`, on the point's buffers and input blocks. -/
abbrev runAt := bodyRun (F := F) c (grid0.coords t)
    (ms0 t) (hs0 t) (ms1 t) (hs1 t) (ms2 t) (hs2 t) (ms3 t) (hs3 t) (ms4 t) (hs4 t) (ms5 t) (hs5 t) (ms6 t) (hs6
    t) (ms7 t) (hs7 t) (ms8 t) (hs8 t) (ms9 t) (hs9 t) (ms10 t) (hs10 t) (ms11 t) (hs11 t) (ms12 t) (hs12 t) sc0
    (Memref.isWhole_whole _) sc1 (Memref.isWhole_whole _) sc2 (Memref.isWhole_whole _) sc3 (Memref.isWhole_whole
    _) sc4 (Memref.isWhole_whole _) (iblk m c 0 t) (iblk m c 1 t) (iblk m c 2 t) (iblk m c 3 t) (iblk m c 4 t)
    (iblk m c 5 t) (iblk m c 6 t) (iblk m c 7 t) (iblk m c 8 t) (iblk m c 9 t) (first t)

/-- The stored pieces cover each output's buffer. -/
theorem cover10 (y : S64x1024.Idx) : ∃ pc ∈ (runAt m c t).1.1, y ∈ pc.1.set :=
  View.cover_of_tiledL (runAt m c t).1.1 S64x1024.size (by sl_kernel_rfl) y
theorem cover11 (y : S1x8x1024.Idx) : ∃ pc ∈ (runAt m c t).1.2.1, y ∈ pc.1.set :=
  View.cover_of_tiledL (runAt m c t).1.2.1 S1x8x1024.size (by sl_kernel_rfl) y
theorem cover12 (y : S1x1x1024.Idx) : ∃ pc ∈ (runAt m c t).1.2.2, y ∈ pc.1.set :=
  View.cover_of_tiledL (runAt m c t).1.2.2 S1x1x1024.size (by sl_kernel_rfl) y

/-- What the body leaves in the outputs' buffers at point `t`: the stored pieces put together. -/
def out10 : Vec F S64x1024 .bf16 := View.canon (runAt m c t).1.1
def out11 : Vec F S1x8x1024 .f32 := View.canon (runAt m c t).1.2.1
def out12 : Vec F S1x1x1024 .f32 := View.canon (runAt m c t).1.2.2

end

/-! ## The pipeline's proof data -/

/-- The arrays as the region finds them; after a point each input's buffer at its block, each output's at what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
    | ⟨12, _⟩ => out12 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 m c t := by dsimp only [dats]
theorem after11 (c : Dev nD) (t : Fin cfg0.N) : (dats m 0 c).after 11 t = out11 m c t := by dsimp only [dats]
theorem after12 (c : Dev nD) (t : Fin cfg0.N) : (dats m 0 c).after 12 t = out12 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- What it hands back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

set_option maxHeartbeats 4000000 in
/-- The body's obligation at any point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12]
  rw [show (dats m 0 c).Φ t.castSucc = Pipeline.ΦA spec0 c from rfl, PhiA_eq]
  unfold out10 out11 out12
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, ⟨%e10, H10⟩, ⟨%e11, H11⟩, ⟨%e12, H12⟩, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_eq_canon _ _ _ (cover10 m c t)
  isplitl [H11]
  · unfold owns; iexists _; isplitr
    swap; · iexact H11
    ipureintro; exact View.read_writes_eq_canon _ _ _ (cover11 m c t)
  unfold owns; iexists _; isplitr
  swap; · iexact H12
  ipureintro; exact View.read_writes_eq_canon _ _ _ (cover12 m c t)

theorem defs_row (t : Fin cfg0.N) :
    defs₀ (F := F) .tc cfg0.body (cfg0.bodyArgs t (cfg0.slots t)) = bodyAt0 t := by
  unfold defs₀; rw [Defs.onTc_tc]

/-- The pipeline's obligation about the body, at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- Every run ends with the arrays as computed from the proof data, the buffers after the later host lines as those lines
    leave them, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- Every run ends with the arrays and the buffers after the later host lines as computed from the proof data. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.RglruIdeal.Rec

end
-- ==== Proof.FrameAgain.lean ====
module

public import proofs.«01_k».proof.Proof.Gen.Kernel
public import proofs.«01_k».proof.Proof.Gen.Rglru
public import proofs.«01_k».proof.Proof.AttnFrame
public import proofs.«01_k».proof.Proof.RglruFrame
public import Idealize.ShloMosaic.Lib.Tactic

@[expose] public section

set_option maxRecDepth 65536

noncomputable section

open Idealize.ShloMosaic Idealize.ShloMosaic.TcCoe Idealize.SL.Sem

variable {F : FTy → Type} [FloatOps F]

/-! The attention's and the recurrence's programs are read twice with the same text: the frame of one reading is the other's. -/

namespace Cert.Kernel

open Cert.Kernel

set_option maxHeartbeats 0 in
/-- Every run ends with the argument arrays unchanged and every semaphore counter at zero. -/
theorem frameAgain (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Eq.mp (by sl_kernel_rfl) (Cert.KernelIdeal.Attn.frame (F := F) m ρ)

end Cert.Kernel

namespace Cert.Rglru

open Cert.Rglru

set_option maxHeartbeats 0 in
/-- Every run ends with the argument arrays unchanged and every semaphore counter at zero. -/
theorem frameAgain (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Eq.mp (by sl_kernel_rfl) (Cert.RglruIdeal.Rec.frame (F := F) m ρ)

end Cert.Rglru

end
-- ==== Proof.AttnStage.lean ====
module

public import proofs.«01_k».proof.Proof.AttnRun
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stages of one grid point, as functions of its input blocks

`i` numbers the block of 512 queries and `j` the block of 512 keys; the block `j = i` is the masked one, which
also takes the meta keys. -/

/-- Rows `512 n … 512 n + 511` of a block of 4096 rows. -/
def rowsAt (x : Vec F S4096x128 .bf16) (n : ℕ) : Vec F S512x128 .bf16 :=
  fun y => x (ix2 ⟨(512 * n + (y 0).val) % 4096, Nat.mod_lt _ (by decide)⟩ (y 1))

/-- The `n`-th slab of the transposed values. -/
def slabAt (x : Vec F S8x128x512 .bf16) (n : ℕ) : Vec F S1x128x512 .bf16 :=
  fun y => x (ix3 ⟨n % 8, Nat.mod_lt _ (by decide)⟩ (y 1) (y 2))

/-- The two half-head queries of block `i`, transposed and laid side by side. -/
def qT (x0 : Vec F S4096x128 .bf16) (i : ℕ) : Vec F S1x128x1024 .bf16 := k0_pay408 (rowsAt x0 i)

/-- The scores of key block `j` against query block `i`. -/
def sO (x0 x1 : Vec F S4096x128 .bf16) (i j : ℕ) : Vec F S512x1024 .f32 := k0_pay17 (rowsAt x1 j) (qT x0 i)

/-- Their maximum over the keys. -/
def mxO (x0 x1 : Vec F S4096x128 .bf16) (i j : ℕ) : Vec F S1x1024 .f32 := k0_pay32 (rowsAt x1 j) (qT x0 i)

/-- The masked scores of the block on the diagonal. -/
def sD (x0 x1 : Vec F S4096x128 .bf16) (x5 : Vec F S512x1024 .f32) (i : ℕ) : Vec F S512x1024 .f32 := k0_pay5 (rowsAt x1 i) (qT x0 i) x5

/-- Their maximum over the keys. -/
def mxD (x0 x1 : Vec F S4096x128 .bf16) (x5 : Vec F S512x1024 .f32) (i : ℕ) : Vec F S1x1024 .f32 := k0_pay6 (rowsAt x1 i) (qT x0 i) x5

/-- What the running maximum starts from. -/
def mInit : Vec F S1x1x1024 .f32 := fun _ => Scalar.ofBits .f32 0xF149F2CA#32

/-- What the weighted sums start from. -/
def aInit : Vec F S1x144x1024 .f32 := fun _ => Scalar.ofBits .f32 0x00000000#32

/-- The running maximum of query block `i` before key block `j`. -/
def mS (x0 x1 : Vec F S4096x128 .bf16) (i : ℕ) : ℕ → Vec F S1x1x1024 .f32
  | 0 => mInit
  | j + 1 => k0_pay23 (mS x0 x1 i j) (mxO x0 x1 i j)

/-- The weights of key block `j`, relative to the running maximum after it. -/
def pO (x0 x1 : Vec F S4096x128 .bf16) (i j : ℕ) : Vec F S512x1024 .bf16 := k0_pay22 (mS x0 x1 i j) (mxO x0 x1 i j) (sO x0 x1 i j)

/-- The factor that takes sums relative to the maximum before key block `j` to sums relative to that after it. -/
def alO (x0 x1 : Vec F S4096x128 .bf16) (i j : ℕ) : Vec F S1x1024 .f32 := k0_pay24 (mS x0 x1 i j) (mxO x0 x1 i j)

/-- The weighted sums of values, and of ones, of query block `i` before key block `j`. -/
def aS (x0 x1 : Vec F S4096x128 .bf16) (x2 : Vec F S8x128x512 .bf16) (i : ℕ) : ℕ → Vec F S1x144x1024 .f32
  | 0 => aInit
  | j + 1 => k0_pay38 (slabAt x2 j) (pO x0 x1 i j) (alO x0 x1 i j) (aS x0 x1 x2 i j)

section
variable (x0 x1 : Vec F S4096x128 .bf16) (x3 : Vec F S128x128 .bf16) (x5 : Vec F S512x1024 .f32) (i : ℕ)

/-- The maximum of the running maximum and the diagonal block's. -/
def m1D : FVec F S1x1024 .f32 := k0_pay8 (mS x0 x1 i i) (mxD x0 x1 x5 i)

/-- The meta keys' scores, −∞ past the sixteenth row. -/
def smD : FVec F S128x1024 .f32 := k0_pay9 x3 (qT x0 i)

/-- Their maximum over the rows. -/
def smxD : FVec F S1024 .f32 := k0_pay10 x3 (qT x0 i)

/-- The final maximum. -/
def mD : Vec F S1x1x1024 .f32 := k0_pay14 (m1D x0 x1 x5 i) (smxD x0 x3 i)

/-- The diagonal block's weights relative to the final maximum. -/
def pD : Vec F S512x1024 .bf16 := k0_pay13 (m1D x0 x1 x5 i) (smxD x0 x3 i) (sD x0 x1 x5 i)

/-- The factor to the final maximum. -/
def alD : Vec F S1x1024 .f32 := k0_pay15 (k0_pay7 (mS x0 x1 i i)) (m1D x0 x1 x5 i) (smxD x0 x3 i)

/-- The meta keys' weights relative to the final maximum. -/
def pmD : Vec F S128x1024 .bf16 := k0_pay12 (m1D x0 x1 x5 i) (smD x0 x3 i) (smxD x0 x3 i)

/-- The rows the body stores for query block `i`. -/
def oS (x2 : Vec F S8x128x512 .bf16) (x4 : Vec F S128x128 .bf16) (x6 : Vec F S4096x128 .bf16) (x7 : Vec F S128x1 .f32) (x8 x9 x10 x11 : Vec F S1x64 .f32) :
    FVec F S512x128 .bf16 :=
  k0_pay3 (k0_pay406 (k0_pay2 x8 x9 x10 x11) (k0_pay404 (slabAt x2 i)) k0_pay405 (pD x0 x1 x3 x5 i) x4 (pmD x0 x1 x3 x5 i) (alD x0 x1 x3 x5 i)
    (aS x0 x1 x2 i i)) (k0_pay407 x7) (rowsAt x6 i)

end

/-! ## Loads of an input block -/

/-- A load of 512 whole rows. -/
theorem rows_read (off n : ℕ) (ho : off = 512 * n) (hn : n < 8) {arg : Memref sig .tc .vmem S4096x128 .bf16} (harg : arg.IsWhole) (x : Vec F S4096x128 .bf16) (inb) :
    View.readAt (Elt F) arg.view (Rect.unit (s := S4096x128) ![off, 0] (no_index S512x128.size) inb).toLoadRect (harg.unread x) = rowsAt x n := by
  funext y
  rw [View.readAt_apply, harg.read_unread]
  subst ho
  have h0 : (y 0).val < 512 := (y 0).isLt
  refine congrArg x (funext fun a => ?_)
  match a with
  | ⟨0, _⟩ => exact Fin.ext (by show 512 * n + 1 * (y 0).val = (512 * n + (y 0).val) % 4096; omega)
  | ⟨1, _⟩ => exact Fin.ext (by show 0 + 1 * (y 1).val = (y 1).val; omega)

/-- A load of one slab. -/
theorem slab_read (n : ℕ) (hn : n < 8) {arg : Memref sig .tc .vmem S8x128x512 .bf16} (harg : arg.IsWhole) (x : Vec F S8x128x512 .bf16) (inb) :
    View.readAt (Elt F) arg.view (Rect.unit (s := S8x128x512) ![n, 0, 0] (no_index S1x128x512.size) inb).toLoadRect (harg.unread x) = slabAt x n := by
  funext y
  rw [View.readAt_apply, harg.read_unread]
  have h0 : (y 0).val < 1 := (y 0).isLt
  refine congrArg x (funext fun a => ?_)
  match a with
  | ⟨0, _⟩ => exact Fin.ext (by show n + 1 * (y 0).val = n % 8; omega)
  | ⟨1, _⟩ => exact Fin.ext (by show 0 + 1 * (y 1).val = (y 1).val; omega)
  | ⟨2, _⟩ => exact Fin.ext (by show 0 + 1 * (y 2).val = (y 2).val; omega)

/-- A load of the whole block. -/
theorem whole_read {s : Shape} {e : EltTy} {arg : Memref sig .tc .vmem s e} (harg : arg.IsWhole) (x : Vec F s e) {off : Fin s.rank → ℕ}
    (inb : ∀ a, off a + s.size a ≤ s.size a) (h : ∀ a, off a = 0) :
    View.readAt (Elt F) arg.view (Rect.unit off (no_index s.size) inb).toLoadRect (harg.unread x) = x := by
  funext y
  rw [View.readAt_apply, harg.read_unread]
  refine congrArg x (funext fun a => Fin.ext ?_)
  show off a + 1 * (y a).val = (y a).val
  rw [h a]; omega

end Cert.KernelIdeal.Attn

end
-- ==== Proof.AttnMath.lean ====
module

public import proofs.«01_k».proof.Proof.AttnStage
public import proofs.«01_k».proof.Proof.RealKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-! ## The stages at an index -/

/-- Row `k` of block `n`. -/
abbrev rowIx (n : ℕ) (k : Fin 512) : Fin 4096 := ⟨(512 * n + k.val) % 4096, Nat.mod_lt _ (by decide)⟩

/-- The query row, in its block, of a column. -/
abbrev colRow (c : Fin 1024) : Fin 512 := ⟨c.val % 512, Nat.mod_lt _ (by decide)⟩

/-- The half-head of a column. -/
abbrev colHalf (c : Fin 1024) : Fin 2 := ⟨c.val / 512, by omega⟩

theorem slt_64 : ∀ d : Fin 128, IntOp.cmpi .slt (BitVec.ofNat 32 d.val) 64#32 = if d.val < 64 then 1#1 else 0#1 := by decide

theorem sge_64 : ∀ d : Fin 128, IntOp.cmpi .sge (BitVec.ofNat 32 d.val) 64#32 = if d.val < 64 then 0#1 else 1#1 := by decide

theorem slt_16 : ∀ d : Fin 128, IntOp.cmpi .slt (BitVec.ofNat 32 d.val) 16#32 = if d.val < 16 then 1#1 else 0#1 := by decide

/-- The queries of block `i` side by side: a column keeps its own half-head and is zero on the other. -/
theorem qT_at (x0 : Vec Ideal S4096x128 .bf16) (i : ℕ) (d : Fin 128) (c : Fin 1024) :
    qT x0 i (ix3 0 d c) = if d.val / 64 = c.val / 512 then x0 (ix2 (rowIx i (colRow c)) d) else 0 := by
  have h : ∀ x : Vec Ideal S512x128 .bf16, k0_pay408 x (ix3 0 d c)
      = if h : c.val < 512 then Scalar.select (IntOp.cmpi .slt (BitVec.ofNat 32 d.val) 64#32) (x (ix2 ⟨c.val, h⟩ d)) 0
        else Scalar.select (IntOp.cmpi .sge (BitVec.ofNat 32 d.val) 64#32) (x (ix2 ⟨c.val - 512, by omega⟩ d)) 0 := by
    intro x; pointwise [k0_pay408]
  unfold qT
  rw [h, slt_64, sge_64]
  by_cases hc : c.val < 512
  · rw [dif_pos hc]
    have e : (⟨c.val, hc⟩ : Fin 512) = colRow c := Fin.ext (by show c.val = c.val % 512; omega)
    by_cases hd : d.val < 64
    · rw [if_pos hd, if_pos (by omega), e]; rfl
    · rw [if_neg hd, if_neg (by omega)]; rfl
  · rw [dif_neg hc]
    have e : (⟨c.val - 512, by omega⟩ : Fin 512) = colRow c := Fin.ext (by show c.val - 512 = c.val % 512; omega)
    by_cases hd : d.val < 64
    · rw [if_pos hd, if_neg (by omega)]; rfl
    · rw [if_neg hd, if_pos (by omega), e]; rfl

theorem sO_at (x0 x1 : Vec Ideal S4096x128 .bf16) (i j : ℕ) (k : Fin 512) (c : Fin 1024) :
    sO x0 x1 i j (ix2 k c) = ∑ x, x1 (ix2 (rowIx j k) x) * qT x0 i (ix3 0 x c) := by
  unfold sO; pointwise [k0_pay17, k0_pay16]; rfl

theorem mxO_at (x0 x1 : Vec Ideal S4096x128 .bf16) (i j : ℕ) (c : Fin 1024) :
    mxO x0 x1 i j (ix2 0 c) = Finset.fold max (Ideal.ofBits .f32 0xFF800000#32) (fun k => sO x0 x1 i j (ix2 k c)) Finset.univ := by
  simp only [sO_at]
  unfold mxO; pointwise [k0_pay32, k0_pay30]; rfl

theorem sD_at (x0 x1 : Vec Ideal S4096x128 .bf16) (x5 : Vec Ideal S512x1024 .f32) (i : ℕ) (k : Fin 512) (c : Fin 1024) :
    sD x0 x1 x5 i (ix2 k c) = sO x0 x1 i i (ix2 k c) + x5 (ix2 k c) := by
  simp only [sO_at]
  unfold sD; pointwise [k0_pay5, k0_pay4]; rfl

theorem mxD_at (x0 x1 : Vec Ideal S4096x128 .bf16) (x5 : Vec Ideal S512x1024 .f32) (i : ℕ) (c : Fin 1024) :
    mxD x0 x1 x5 i (ix2 0 c) = Finset.fold max (Ideal.ofBits .f32 0xFF800000#32) (fun k => sD x0 x1 x5 i (ix2 k c)) Finset.univ := by
  simp only [sD_at, sO_at]
  unfold mxD; pointwise [k0_pay6, k0_pay4]; rfl

theorem mS_succ_at (x0 x1 : Vec Ideal S4096x128 .bf16) (i j : ℕ) (c : Fin 1024) :
    mS x0 x1 i (j + 1) (ix3 0 0 c) = max (mS x0 x1 i j (ix3 0 0 c)) (mxO x0 x1 i j (ix2 0 c)) := by
  rw [mS]; generalize mS x0 x1 i j = m; generalize mxO x0 x1 i j = mx
  pointwise [k0_pay23, k0_pay21, k0_pay20]

theorem pO_at (x0 x1 : Vec Ideal S4096x128 .bf16) (i j : ℕ) (k : Fin 512) (c : Fin 1024) :
    pO x0 x1 i j (ix2 k c) = Ideal.exp2 (sO x0 x1 i j (ix2 k c) - max (mS x0 x1 i j (ix3 0 0 c)) (mxO x0 x1 i j (ix2 0 c))) := by
  unfold pO; generalize mS x0 x1 i j = m; generalize mxO x0 x1 i j = mx; generalize sO x0 x1 i j = s
  pointwise [k0_pay22, k0_pay21, k0_pay20]; rfl

theorem alO_at (x0 x1 : Vec Ideal S4096x128 .bf16) (i j : ℕ) (c : Fin 1024) :
    alO x0 x1 i j (ix2 0 c) = Ideal.exp2 (mS x0 x1 i j (ix3 0 0 c) - max (mS x0 x1 i j (ix3 0 0 c)) (mxO x0 x1 i j (ix2 0 c))) := by
  unfold alO; generalize mS x0 x1 i j = m; generalize mxO x0 x1 i j = mx
  pointwise [k0_pay24, k0_pay21, k0_pay20]; rfl

theorem aS_succ_at (x0 x1 : Vec Ideal S4096x128 .bf16) (x2 : Vec Ideal S8x128x512 .bf16) (i j : ℕ) (r : Fin 144) (c : Fin 1024) :
    aS x0 x1 x2 i (j + 1) (ix3 0 r c) = alO x0 x1 i j (ix2 0 c) * aS x0 x1 x2 i j (ix3 0 r c)
      + ∑ k, (if h : r.val < 128 then slabAt x2 j (ix3 0 ⟨r.val, h⟩ k) else 1) * pO x0 x1 i j (ix2 k c) := by
  rw [aS]; generalize aS x0 x1 x2 i j = a; generalize alO x0 x1 i j = al; generalize pO x0 x1 i j = p; generalize slabAt x2 j = v
  pointwise [k0_pay38]

section
variable (x0 x1 : Vec Ideal S4096x128 .bf16) (x3 : Vec Ideal S128x128 .bf16) (x5 : Vec Ideal S512x1024 .f32) (i : ℕ) (c : Fin 1024)

theorem m1D_at : m1D x0 x1 x5 i (ix2 0 c) = max (mS x0 x1 i i (ix3 0 0 c)) (mxD x0 x1 x5 i (ix2 0 c)) := by
  unfold m1D; generalize mS x0 x1 i i = m; generalize mxD x0 x1 x5 i = mx
  pointwise [k0_pay8, k0_pay7]

theorem smD_at (t : Fin 128) : smD x0 x3 i (ix2 t c)
    = if t.val < 16 then ∑ x, x3 (ix2 t x) * qT x0 i (ix3 0 x c) else ⊥ := by
  have h : ∀ q : Vec Ideal S1x128x1024 .bf16, k0_pay9 x3 q (ix2 t c)
      = Scalar.select (IntOp.cmpi .slt (BitVec.ofNat 32 t.val) 16#32) (∑ x, x3 (ix2 t x) * q (ix3 0 x c)) (Ideal.ofBits .f32 0xFF800000#32) := by
    intro q; pointwise [k0_pay9]
  unfold smD
  rw [h, slt_16, Cert.Real.ofBits_neg_inf]
  by_cases ht : t.val < 16
  · rw [if_pos ht, if_pos ht]; rfl
  · rw [if_neg ht, if_neg ht]; rfl

theorem smxD_at : smxD x0 x3 i (ix1 c) = Finset.fold max (Ideal.ofBits .f32 0xFF800000#32) (fun t => smD x0 x3 i (ix2 t c)) Finset.univ := by
  unfold smxD smD; pointwise [k0_pay10]

theorem pD_at (k : Fin 512) : pD x0 x1 x3 x5 i (ix2 k c)
    = Ideal.exp2 (sD x0 x1 x5 i (ix2 k c) - max (m1D x0 x1 x5 i (ix2 0 c)) (smxD x0 x3 i (ix1 c))) := by
  unfold pD; generalize m1D x0 x1 x5 i = m; generalize smxD x0 x3 i = mx; generalize sD x0 x1 x5 i = s
  pointwise [k0_pay13, k0_pay11]; rfl

theorem alD_at : alD x0 x1 x3 x5 i (ix2 0 c)
    = Ideal.exp2 (mS x0 x1 i i (ix3 0 0 c) - max (m1D x0 x1 x5 i (ix2 0 c)) (smxD x0 x3 i (ix1 c))) := by
  unfold alD; generalize m1D x0 x1 x5 i = m; generalize smxD x0 x3 i = mx; generalize mS x0 x1 i i = s
  pointwise [k0_pay15, k0_pay11, k0_pay7]; rfl

theorem pmD_at (t : Fin 128) : pmD x0 x1 x3 x5 i (ix2 t c)
    = Ideal.exp2 (smD x0 x3 i (ix2 t c) - max (m1D x0 x1 x5 i (ix2 0 c)) (smxD x0 x3 i (ix1 c))) := by
  unfold pmD; generalize m1D x0 x1 x5 i = m; generalize smxD x0 x3 i = mx; generalize smD x0 x3 i = s
  pointwise [k0_pay12, k0_pay11]; rfl

end

end Cert.KernelIdeal.Attn

end
-- ==== Proof.AttnSoft.lean ====
module

public import proofs.«01_k».proof.Proof.AttnMath

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Real

/-! ## The running softmax over real numbers -/

/-- The half-head of a lane. -/
abbrev half (x : Fin 128) : Fin 2 := ⟨x.val / 64, by omega⟩

/-- The place of a lane in its half-head. -/
abbrev lane (x : Fin 128) : Fin 64 := ⟨x.val % 64, Nat.mod_lt _ (by decide)⟩

/-- The scaled score of a query and a key. -/
def sc (q k : Fin 2 → Fin 64 → ℝ) (g : Fin 2) : ℝ := (∑ d, q g d * k g d) * (1 / 8)

/-- A sum over the lanes of one half-head. -/
theorem half_sum (f : Fin 2 → Fin 64 → ℝ) (g : Fin 2) :
    ∑ x : Fin 128, (if x.val / 64 = g.val then f (half x) (lane x) else 0) = ∑ d, f g d := by
  let e : Fin 2 × Fin 64 ≃ Fin 128 := finProdFinEquiv
  have he : ∀ p, (e p).val = p.2.val + 64 * p.1.val := fun p => rfl
  have h1 : ∀ p, half (e p) = p.1 := fun p => Fin.ext (by show (e p).val / 64 = _; rw [he]; omega)
  have h2 : ∀ p, lane (e p) = p.2 := fun p => Fin.ext (by show (e p).val % 64 = _; rw [he]; omega)
  have h3 : ∀ p, (e p).val / 64 = p.1.val := fun p => by rw [he]; omega
  rw [← e.sum_comp, Fintype.sum_prod_type, Finset.sum_eq_single g]
  · refine Finset.sum_congr rfl fun d _ => ?_
    rw [h1, h2, h3, if_pos rfl]
  · intro a _ ha
    refine Finset.sum_eq_zero fun d _ => ?_
    rw [h3, if_neg (fun h => ha (Fin.ext h))]
  · intro h; exact absurd (Finset.mem_univ _) h

/-- A key row against a column of queries is the score over log 2. -/
theorem qk (q k : Fin 2 → Fin 64 → ℝ) (g : Fin 2) :
    (∑ x : Fin 128, ((k (half x) (lane x) : ℝ) : EReal)
      * (if x.val / 64 = g.val then ((q (half x) (lane x) * (1 / 8) / Real.log 2 : ℝ) : EReal) else 0))
      = ((sc q k g / Real.log 2 : ℝ) : EReal) := by
  have h : ∀ x : Fin 128, ((k (half x) (lane x) : ℝ) : EReal)
      * (if x.val / 64 = g.val then ((q (half x) (lane x) * (1 / 8) / Real.log 2 : ℝ) : EReal) else 0)
      = ((if x.val / 64 = g.val then (fun a b => q a b * k a b * (1 / 8) / Real.log 2) (half x) (lane x) else 0 : ℝ) : EReal) := by
    intro x
    by_cases hx : x.val / 64 = g.val
    · rw [if_pos hx, if_pos hx, ← EReal.coe_mul]; refine coe_congr ?_; ring
    · rw [if_neg hx, if_neg hx, mul_zero, EReal.coe_zero]
  rw [Finset.sum_congr rfl fun x _ => h x, ← coe_sum, half_sum (fun a b => q a b * k a b * (1 / 8) / Real.log 2) g]
  unfold sc
  rw [← Finset.sum_div, ← Finset.sum_mul]

/-- The windows' contents at a point, in real numbers. -/
structure Reals (x0 x1 : Vec Ideal S4096x128 .bf16) (x2 : Vec Ideal S8x128x512 .bf16) (x3 x4 : Vec Ideal S128x128 .bf16) (x5 : Vec Ideal S512x1024 .f32)
    (Q K : Fin 4096 → Fin 2 → Fin 64 → ℝ) (V : Fin 4096 → Fin 128 → ℝ) (KM : Fin 16 → Fin 2 → Fin 64 → ℝ) (VM : Fin 16 → Fin 128 → ℝ) : Prop where
  q : ∀ t x, x0 (ix2 t x) = ((Q t (half x) (lane x) * (1 / 8) / Real.log 2 : ℝ) : EReal)
  k : ∀ t x, x1 (ix2 t x) = ((K t (half x) (lane x) : ℝ) : EReal)
  v : ∀ (j : Fin 8) e k, x2 (ix3 j e k) = ((V (rowIx j.val k) e : ℝ) : EReal)
  km : ∀ (t : Fin 128) x, x3 (ix2 t x) = ((if h : t.val < 16 then KM ⟨t.val, h⟩ (half x) (lane x) else 0 : ℝ) : EReal)
  vm : ∀ e (t : Fin 128), x4 (ix2 e t) = ((if h : t.val < 16 then VM ⟨t.val, h⟩ e else 0 : ℝ) : EReal)
  b : ∀ (k : Fin 512) (c : Fin 1024), x5 (ix2 k c) = if k.val / 64 ≤ c.val % 512 / 64 then (0 : EReal) else ⊥

section
variable {x0 x1 : Vec Ideal S4096x128 .bf16} {x2 : Vec Ideal S8x128x512 .bf16} {x3 x4 : Vec Ideal S128x128 .bf16} {x5 : Vec Ideal S512x1024 .f32}
  {Q K : Fin 4096 → Fin 2 → Fin 64 → ℝ} {V : Fin 4096 → Fin 128 → ℝ} {KM : Fin 16 → Fin 2 → Fin 64 → ℝ} {VM : Fin 16 → Fin 128 → ℝ}
  (R : Reals x0 x1 x2 x3 x4 x5 Q K V KM VM) (i : ℕ) (c : Fin 1024)

/-- The weight of key `t` for column `c` of query block `i`. -/
def wt (Q K : Fin 4096 → Fin 2 → Fin 64 → ℝ) (i : ℕ) (c : Fin 1024) (t : Fin 4096) : ℝ :=
  Real.exp (sc (Q (rowIx i (colRow c))) (K t) (colHalf c))

/-- The weight of meta key `t`. -/
def wtM (Q : Fin 4096 → Fin 2 → Fin 64 → ℝ) (KM : Fin 16 → Fin 2 → Fin 64 → ℝ) (i : ℕ) (c : Fin 1024) (t : Fin 16) : ℝ :=
  Real.exp (sc (Q (rowIx i (colRow c))) (KM t) (colHalf c))

include R

theorem sO_real (j : ℕ) (k : Fin 512) :
    sO x0 x1 i j (ix2 k c) = ((sc (Q (rowIx i (colRow c))) (K (rowIx j k)) (colHalf c) / Real.log 2 : ℝ) : EReal) := by
  rw [sO_at, ← qk]
  refine Finset.sum_congr rfl fun x _ => ?_
  rw [qT_at, R.k, R.q]

theorem smD_real (t : Fin 128) :
    smD x0 x3 i (ix2 t c) = if h : t.val < 16 then ((sc (Q (rowIx i (colRow c))) (KM ⟨t.val, h⟩) (colHalf c) / Real.log 2 : ℝ) : EReal) else ⊥ := by
  rw [smD_at]
  by_cases h : t.val < 16
  · rw [if_pos h, dif_pos h, ← qk]
    refine Finset.sum_congr rfl fun x _ => ?_
    rw [qT_at, R.km, R.q, dif_pos h]
  · rw [if_neg h, dif_neg h]

theorem sD_real (k : Fin 512) :
    sD x0 x1 x5 i (ix2 k c) = if k.val / 64 ≤ c.val % 512 / 64
      then ((sc (Q (rowIx i (colRow c))) (K (rowIx i k)) (colHalf c) / Real.log 2 : ℝ) : EReal) else ⊥ := by
  rw [sD_at, sO_real R, R.b]
  split
  · rw [add_zero]
  · rw [EReal.add_bot]

theorem mxO_real (j : ℕ) : ∃ r : ℝ, mxO x0 x1 i j (ix2 0 c) = (r : EReal) := by
  rw [mxO_at]
  refine fold_max_real _ (fun k => ?_) 0 ?_
  · rw [sO_real R]; exact EReal.coe_ne_top _
  · rw [sO_real R]; exact EReal.coe_ne_bot _

theorem mxD_real : ∃ r : ℝ, mxD x0 x1 x5 i (ix2 0 c) = (r : EReal) := by
  rw [mxD_at]
  refine fold_max_real _ (fun k => ?_) 0 ?_
  · rw [sD_real R]; split
    · exact EReal.coe_ne_top _
    · exact bot_ne_top
  · rw [sD_real R, if_pos (by show 0 / 64 ≤ _; omega)]; exact EReal.coe_ne_bot _

theorem smxD_real : ∃ r : ℝ, smxD x0 x3 i (ix1 c) = (r : EReal) := by
  rw [smxD_at]
  refine fold_max_real _ (fun k => ?_) 0 ?_
  · rw [smD_real R]; split
    · exact EReal.coe_ne_top _
    · exact bot_ne_top
  · rw [smD_real R, dif_pos (by show 0 < 16; omega)]; exact EReal.coe_ne_bot _

theorem slab_real (j : ℕ) (e : Fin 128) (k : Fin 512) (hj : j < 8) : slabAt x2 j (ix3 0 e k) = ((V (rowIx j k) e : ℝ) : EReal) := by
  have h : slabAt x2 j (ix3 0 e k) = x2 (ix3 ⟨j % 8, Nat.mod_lt _ (by decide)⟩ e k) := rfl
  rw [h, R.v]
  have : j % 8 = j := Nat.mod_eq_of_lt hj
  simp only [this]

/-- The row of a value slab that multiplies a weight: a value lane, or ones below. -/
def vRow (V : Fin 4096 → Fin 128 → ℝ) (r : Fin 144) (t : Fin 4096) : ℝ := if h : r.val < 128 then V t ⟨r.val, h⟩ else 1

theorem acc_real (n : ℕ) (hn : n ≤ 8) : ∃ m : ℝ, mS x0 x1 i n (ix3 0 0 c) = (m : EReal)
    ∧ ∀ r, aS x0 x1 x2 i n (ix3 0 r c)
      = ((2 ^ (-m) * ∑ j ∈ Finset.range n, ∑ k, vRow V r (rowIx j k) * wt Q K i c (rowIx j k) : ℝ) : EReal) := by
  induction n with
  | zero =>
    obtain ⟨m, hm⟩ := ofBits_start
    refine ⟨m, ?_, fun r => ?_⟩
    · rw [← hm]; rfl
    · rw [Finset.range_zero, Finset.sum_empty, mul_zero, EReal.coe_zero]
      show Ideal.ofBits .f32 0x00000000#32 = 0
      simp [Ideal.ofBits, Ideal.ieee]
  | succ n ih =>
    obtain ⟨m, hm, ha⟩ := ih (by omega)
    obtain ⟨x, hx⟩ := mxO_real R i c n
    refine ⟨max m x, ?_, fun r => ?_⟩
    · rw [mS_succ_at, hm, hx, max_real]
    · have hp : ∀ k, (if h : r.val < 128 then slabAt x2 n (ix3 0 ⟨r.val, h⟩ k) else 1) * pO x0 x1 i n (ix2 k c)
          = ((2 ^ (-(max m x)) * (vRow V r (rowIx n k) * wt Q K i c (rowIx n k)) : ℝ) : EReal) := by
        intro k
        have hv : (if h : r.val < 128 then slabAt x2 n (ix3 0 ⟨r.val, h⟩ k) else 1) = ((vRow V r (rowIx n k) : ℝ) : EReal) := by
          unfold vRow
          by_cases h : r.val < 128
          · rw [dif_pos h, dif_pos h, slab_real R _ _ _ (by omega)]
          · rw [dif_neg h, dif_neg h, EReal.coe_one]
        rw [hv, pO_at, hm, hx, max_real, sO_real R, exp2_sub, two_rpow, ← EReal.coe_mul]
        refine coe_congr ?_; unfold wt; ring
      rw [aS_succ_at, alO_at, hm, hx, max_real, exp2_sub, ha, Finset.sum_congr rfl fun k _ => hp k, ← coe_sum, ← EReal.coe_mul, ← EReal.coe_add]
      refine coe_congr ?_
      rw [Finset.sum_range_succ, ← Finset.mul_sum, mul_add]
      refine add_eq ?_ rfl
      have h2 : (2 : ℝ) ^ m * 2 ^ (-m) = 1 := by rw [← Real.rpow_add (by norm_num)]; simp
      calc _ = ((2 : ℝ) ^ m * 2 ^ (-m)) * (2 ^ (-(max m x)) * ∑ j ∈ Finset.range n, ∑ k, vRow V r (rowIx j k) * wt Q K i c (rowIx j k)) := by ring
        _ = _ := by rw [h2, one_mul]

/-- The weights of the diagonal block, of its factor and of the meta keys, against the final maximum. -/
theorem diag_real (hi : i ≤ 8) : ∃ m : ℝ,
    (∀ r, alD x0 x1 x3 x5 i (ix2 0 c) * aS x0 x1 x2 i i (ix3 0 r c)
      = ((2 ^ (-m) * ∑ j ∈ Finset.range i, ∑ k, vRow V r (rowIx j k) * wt Q K i c (rowIx j k) : ℝ) : EReal))
    ∧ (∀ k, pD x0 x1 x3 x5 i (ix2 k c) = ((2 ^ (-m) * (if k.val / 64 ≤ c.val % 512 / 64 then wt Q K i c (rowIx i k) else 0) : ℝ) : EReal))
    ∧ (∀ t : Fin 128, pmD x0 x1 x3 x5 i (ix2 t c) = ((2 ^ (-m) * (if h : t.val < 16 then wtM Q KM i c ⟨t.val, h⟩ else 0) : ℝ) : EReal)) := by
  obtain ⟨m, hm, ha⟩ := acc_real R i c i hi
  obtain ⟨x, hx⟩ := mxD_real R i c
  obtain ⟨y, hy⟩ := smxD_real R i c
  refine ⟨max (max m x) y, fun r => ?_, fun k => ?_, fun t => ?_⟩
  · rw [alD_at, m1D_at, hm, hx, hy, max_real, max_real, exp2_sub, ha, ← EReal.coe_mul]
    refine coe_congr ?_
    have h2 : (2 : ℝ) ^ m * 2 ^ (-m) = 1 := by rw [← Real.rpow_add (by norm_num)]; simp
    calc _ = ((2 : ℝ) ^ m * 2 ^ (-m)) * (2 ^ (-(max (max m x) y)) * ∑ j ∈ Finset.range i, ∑ k, vRow V r (rowIx j k) * wt Q K i c (rowIx j k)) := by ring
      _ = _ := by rw [h2, one_mul]
  · rw [pD_at, m1D_at, hm, hx, hy, max_real, max_real, sD_real R]
    split
    · rw [exp2_sub, two_rpow]; refine coe_congr ?_; unfold wt; ring
    · rw [exp2_bot_sub, mul_zero]
  · rw [pmD_at, m1D_at, hm, hx, hy, max_real, max_real, smD_real R]
    split
    · rw [exp2_sub, two_rpow]; refine coe_congr ?_; unfold wtM; ring
    · rw [exp2_bot_sub, mul_zero]

omit R

/-- The weighted sum over the whole context: the allowed keys and the meta keys. -/
def ctx (i : ℕ) (c : Fin 1024) (w : Fin 4096 → ℝ) (wm : Fin 16 → ℝ) (f : Fin 4096 → ℝ) (fm : Fin 16 → ℝ) : ℝ :=
  (∑ t, fm t * wm t) + ∑ t : Fin 4096, f t * (if t.val / 64 ≤ (rowIx i (colRow c)).val / 64 then w t else 0)

/-- The sum over the positions, block by block. -/
theorem block_sum (f : Fin 4096 → ℝ) : ∑ t, f t = ∑ j ∈ Finset.range 8, ∑ k, f (rowIx j k) := by
  let e : Fin 8 × Fin 512 ≃ Fin 4096 := finProdFinEquiv
  have he : ∀ p, e p = rowIx p.1.val p.2 := fun p => Fin.ext (by
    show p.2.val + 512 * p.1.val = (512 * p.1.val + p.2.val) % 4096; omega)
  rw [Finset.sum_range (fun j => ∑ k, f (rowIx j k)), ← e.sum_comp, Fintype.sum_prod_type]
  refine Finset.sum_congr rfl fun j _ => Finset.sum_congr rfl fun k _ => ?_
  rw [he]

/-- The blocks before the query's own, its own under the mask, and the padded meta keys make the whole context. -/
theorem ctx_eq (hi : i < 8) (w : Fin 4096 → ℝ) (wm : Fin 16 → ℝ) (f : Fin 4096 → ℝ) (fm : Fin 16 → ℝ) :
    (∑ j ∈ Finset.range i, ∑ k, f (rowIx j k) * w (rowIx j k))
      + ((∑ k : Fin 512, f (rowIx i k) * (if k.val / 64 ≤ c.val % 512 / 64 then w (rowIx i k) else 0))
        + ∑ t : Fin 128, (if h : t.val < 16 then fm ⟨t.val, h⟩ * wm ⟨t.val, h⟩ else 0))
      = ctx i c w wm f fm := by
  have hr : (rowIx i (colRow c)).val = 512 * i + c.val % 512 := by
    show (512 * i + c.val % 512) % 4096 = _; omega
  have h1 : ∑ t : Fin 128, (if h : t.val < 16 then fm ⟨t.val, h⟩ * wm ⟨t.val, h⟩ else 0) = ∑ t, fm t * wm t := by
    have := Fin.sum_univ_add (a := 16) (b := 112) (fun t : Fin 128 => if h : t.val < 16 then fm ⟨t.val, h⟩ * wm ⟨t.val, h⟩ else 0)
    refine Eq.trans this ?_
    have hz : ∑ t : Fin 112, (fun t : Fin 128 => if h : t.val < 16 then fm ⟨t.val, h⟩ * wm ⟨t.val, h⟩ else 0) (Fin.natAdd 16 t) = 0 :=
      Finset.sum_eq_zero fun t _ => dif_neg (by show ¬ 16 + t.val < 16; omega)
    rw [hz, add_zero]
    exact Finset.sum_congr rfl fun t _ => dif_pos t.2
  unfold ctx
  rw [h1, block_sum, ← Finset.sum_subset (Finset.range_subset_range.mpr (show i + 1 ≤ 8 by omega)), Finset.sum_range_succ]
  · rw [← add_assoc, add_comm]
    refine add_eq rfl (add_eq ?_ ?_)
    · refine Finset.sum_congr rfl fun j hj => Finset.sum_congr rfl fun k _ => ?_
      rw [Finset.mem_range] at hj
      rw [if_pos]
      rw [hr]; show (512 * j + k.val) % 4096 / 64 ≤ _; omega
    · refine Finset.sum_congr rfl fun k _ => ?_
      rw [hr]
      have : ((rowIx i k).val / 64 ≤ (512 * i + c.val % 512) / 64) ↔ k.val / 64 ≤ c.val % 512 / 64 := by
        show ((512 * i + k.val) % 4096 / 64 ≤ _) ↔ _; omega
      simp only [this]
  · intro j hj hj'
    rw [Finset.mem_range] at hj hj'
    refine Finset.sum_eq_zero fun k _ => ?_
    rw [if_neg, mul_zero]
    rw [hr]; show ¬ ((512 * j + k.val) % 4096 / 64 ≤ _); omega

include R

/-- A value lane's accumulated sum and the weights' accumulated sum after the diagonal block, up to one common factor. -/
theorem col_real (hi : i < 8) : ∃ m : ℝ,
    (∀ e : Fin 128, alD x0 x1 x3 x5 i (ix2 0 c) * aS x0 x1 x2 i i (ix3 0 ⟨e.val, by omega⟩ c)
        + (∑ k, slabAt x2 i (ix3 0 e k) * pD x0 x1 x3 x5 i (ix2 k c) + ∑ t, x4 (ix2 e t) * pmD x0 x1 x3 x5 i (ix2 t c))
      = ((2 ^ (-m) * ctx i c (wt Q K i c) (wtM Q KM i c) (fun t => V t e) (fun t => VM t e) : ℝ) : EReal))
    ∧ alD x0 x1 x3 x5 i (ix2 0 c) * aS x0 x1 x2 i i (ix3 0 128 c)
        + (∑ k, pD x0 x1 x3 x5 i (ix2 k c) + ∑ t, pmD x0 x1 x3 x5 i (ix2 t c))
      = ((2 ^ (-m) * ctx i c (wt Q K i c) (wtM Q KM i c) (fun _ => 1) (fun _ => 1) : ℝ) : EReal) := by
  obtain ⟨m, ha, hp, hq⟩ := diag_real R i c (by omega)
  refine ⟨m, fun e => ?_, ?_⟩
  · have h1 : ∀ k, slabAt x2 i (ix3 0 e k) * pD x0 x1 x3 x5 i (ix2 k c)
        = ((2 ^ (-m) * (V (rowIx i k) e * (if k.val / 64 ≤ c.val % 512 / 64 then wt Q K i c (rowIx i k) else 0)) : ℝ) : EReal) := by
      intro k; rw [slab_real R _ _ _ hi, hp, ← EReal.coe_mul]; refine coe_congr ?_; ring
    have h2 : ∀ t : Fin 128, x4 (ix2 e t) * pmD x0 x1 x3 x5 i (ix2 t c)
        = ((2 ^ (-m) * (if h : t.val < 16 then (fun t => VM t e) ⟨t.val, h⟩ * wtM Q KM i c ⟨t.val, h⟩ else 0) : ℝ) : EReal) := by
      intro t; rw [R.vm, hq, ← EReal.coe_mul]; refine coe_congr ?_
      split
      · ring
      · ring
    rw [ha, Finset.sum_congr rfl fun k _ => h1 k, Finset.sum_congr rfl fun t _ => h2 t, ← coe_sum, ← coe_sum, ← EReal.coe_add, ← EReal.coe_add,
      ← ctx_eq i c hi]
    refine coe_congr ?_
    rw [← Finset.mul_sum, ← Finset.mul_sum, mul_add, mul_add]
    refine add_eq (congrArg _ ?_) rfl
    refine Finset.sum_congr rfl fun j _ => Finset.sum_congr rfl fun k _ => ?_
    unfold vRow; rw [dif_pos e.2]
  · have h2 : ∀ t : Fin 128, pmD x0 x1 x3 x5 i (ix2 t c)
        = ((2 ^ (-m) * (if h : t.val < 16 then (fun _ => (1 : ℝ)) (⟨t.val, h⟩ : Fin 16) * wtM Q KM i c ⟨t.val, h⟩ else 0) : ℝ) : EReal) := by
      intro t; rw [hq]; refine coe_congr ?_
      split
      · ring
      · ring
    rw [ha, Finset.sum_congr rfl fun k _ => hp k, Finset.sum_congr rfl fun t _ => h2 t, ← coe_sum, ← coe_sum, ← EReal.coe_add, ← EReal.coe_add,
      ← ctx_eq i c hi]
    refine coe_congr ?_
    rw [← Finset.mul_sum, ← Finset.mul_sum, mul_add, mul_add]
    refine add_eq (congrArg _ ?_) (add_eq (congrArg _ ?_) rfl)
    · refine Finset.sum_congr rfl fun j _ => Finset.sum_congr rfl fun k _ => ?_
      unfold vRow; rw [dif_neg (by decide)]
    · exact Finset.sum_congr rfl fun k _ => (one_mul _).symm

omit R

/-- The total weight is positive. -/
theorem ctx_pos : 0 < ctx i c (wt Q K i c) (wtM Q KM i c) (fun _ => 1) (fun _ => 1) := by
  unfold ctx
  refine add_pos_of_pos_of_nonneg (Finset.sum_pos (fun t _ => ?_) ⟨0, Finset.mem_univ _⟩) (Finset.sum_nonneg fun t _ => ?_)
  · rw [one_mul]; exact Real.exp_pos _
  · rw [one_mul]; split
    · exact (Real.exp_pos _).le
    · exact le_rfl

include R

/-- One component's attention output: the weighted mean of the values. -/
theorem mean_real (hi : i < 8) (e : Fin 128) :
    (alD x0 x1 x3 x5 i (ix2 0 c) * aS x0 x1 x2 i i (ix3 0 ⟨e.val, by omega⟩ c)
        + (∑ k, slabAt x2 i (ix3 0 e k) * pD x0 x1 x3 x5 i (ix2 k c) + ∑ t, x4 (ix2 e t) * pmD x0 x1 x3 x5 i (ix2 t c)))
      * Ideal.div 1 (alD x0 x1 x3 x5 i (ix2 0 c) * aS x0 x1 x2 i i (ix3 0 128 c)
        + (∑ k, pD x0 x1 x3 x5 i (ix2 k c) + ∑ t, pmD x0 x1 x3 x5 i (ix2 t c)))
      = ((ctx i c (wt Q K i c) (wtM Q KM i c) (fun t => V t e) (fun t => VM t e)
          / ctx i c (wt Q K i c) (wtM Q KM i c) (fun _ => 1) (fun _ => 1) : ℝ) : EReal) := by
  obtain ⟨m, h1, h2⟩ := col_real R i c hi
  have h2m : (0 : ℝ) < 2 ^ (-m) := Real.rpow_pos_of_pos (by norm_num) _
  have hp := ctx_pos (Q := Q) (K := K) (KM := KM) i c
  rw [h1, h2, ← EReal.coe_one, div_real _ _ (mul_pos h2m hp).ne', ← EReal.coe_mul]
  refine coe_congr ?_
  field_simp

end

end Cert.KernelIdeal.Attn

end
-- ==== Proof.AttnTail.lean ====
module

public import proofs.«01_k».proof.Proof.AttnSoft

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Real

/-! ## What is stored of a query block -/

/-- The mixing weight. -/
theorem lamK_at (x8 x9 x10 x11 : Vec Ideal S1x64 .f32) : k0_pay2 x8 x9 x10 x11 (ix2 0 0) =
    Ideal.exp (∑ x, x8 (ix2 0 x) * x9 (ix2 0 x)) - Ideal.exp (∑ x, x10 (ix2 0 x) * x11 (ix2 0 x)) + Ideal.ofBits FTy.f32 1045220557#32 := by
  pointwise [k0_pay2]

/-- One component's mean, at a feature and a column. -/
def meanK (vt : Vec Ideal S1x128x512 .bf16) (p : Vec Ideal S512x1024 .bf16) (vm : Vec Ideal S128x128 .bf16) (pm : Vec Ideal S128x1024 .bf16)
    (al : Vec Ideal S1x1024 .f32) (acc : Vec Ideal S1x144x1024 .f32) (e : Fin 128) (c : Fin 1024) : EReal :=
  (al (ix2 0 c) * acc (ix3 0 ⟨e.val, by omega⟩ c) + (∑ k, vt (ix3 0 e k) * p (ix2 k c) + ∑ t, vm (ix2 e t) * pm (ix2 t c)))
    * Ideal.div 1 (al (ix2 0 c) * acc (ix3 0 128 c) + (∑ k, p (ix2 k c) + ∑ t, pm (ix2 t c)))

/-- The difference of the two components' means. -/
def odK (lam : FVec Ideal S1x1 .f32) (vt : Vec Ideal S1x128x512 .bf16) (p : Vec Ideal S512x1024 .bf16) (vm : Vec Ideal S128x128 .bf16) (pm : Vec Ideal S128x1024 .bf16)
    (al : Vec Ideal S1x1024 .f32) (acc : Vec Ideal S1x144x1024 .f32) (e : Fin 128) (r : Fin 512) : EReal :=
  meanK vt p vm pm al acc e ⟨r.val, by omega⟩ - lam (ix2 0 0) * meanK vt p vm pm al acc e ⟨512 + r.val, by omega⟩

/-- The normalised difference. -/
theorem normed_at (lam : FVec Ideal S1x1 .f32) (vt : Vec Ideal S1x128x512 .bf16) (p : Vec Ideal S512x1024 .bf16) (vm : Vec Ideal S128x128 .bf16) (pm : Vec Ideal S128x1024 .bf16)
    (al : Vec Ideal S1x1024 .f32) (acc : Vec Ideal S1x144x1024 .f32) (e : Fin 128) (r : Fin 512) :
    k0_pay406 lam (k0_pay404 vt) k0_pay405 p vm pm al acc (ix2 e r) =
      odK lam vt p vm pm al acc e r * Ideal.rsqrt (Ideal.div (∑ x, odK lam vt p vm pm al acc x r * odK lam vt p vm pm al acc x r) (Ideal.ofBits FTy.f32 1124073472#32)
        + Ideal.ofBits FTy.f32 897988541#32) := by
  pointwise [k0_pay406, k0_pay405, k0_pay404]
  rfl

/-- The stored block at a row and a feature. -/
theorem stored_at (a : FVec Ideal S128x512 .f32) (w : Vec Ideal S128x1 .f32) (z : Vec Ideal S512x128 .bf16) (r : Fin 512) (e : Fin 128) :
    k0_pay3 a (k0_pay407 w) z (ix2 r e) = a (ix2 e r) * w (ix2 e 0) * Ideal.ofBits FTy.f32 1061997773#32 * z (ix2 r e) := by
  pointwise [k0_pay3, k0_pay407]

end Cert.KernelIdeal.Attn

end
-- ==== Proof.AttnHost.lean ====
module

public import proofs.«01_k».proof.Proof.AttnFrame
public import proofs.«01_k».proof.Proof.AttnSoft
public import proofs.«01_k».proof.Proof.HostRead
public import proofs.«01_k».proof.Proof.Sigmoid

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Cert.Real

/-! ## The arrays the host prepares -/

/-- The queries' columns: scaled by one eighth over log 2. -/
def qcol (a0 : FVec Ideal S8x4096x8x2x64 .f32) : FVec Ideal S32768x1024 .bf16 :=
  truncf .bf16 (Host.divf (mulf (shapeCast S32768x1024 a0 shapeCasts_S8x4096x8x2x64_S32768x1024) (broadcastInDim S32768x1024 ![] bcast_S_S32768x1024 (constant S_ .f32 0x3E000000#32)))
    (broadcastInDim S32768x1024 ![] bcast_S_S32768x1024 (Host.log (constant S_ .f32 0x40000000#32)))) bitsLt_bf16_f32

/-- The keys' columns. -/
def kcol (a1 : FVec Ideal S8x4096x8x2x64 .f32) : FVec Ideal S32768x1024 .bf16 :=
  truncf .bf16 (shapeCast S32768x1024 a1 shapeCasts_S8x4096x8x2x64_S32768x1024) bitsLt_bf16_f32

/-- The values' columns. -/
def vcol (a2 : FVec Ideal S8x4096x8x128 .f32) : FVec Ideal S32768x1024 .bf16 :=
  truncf .bf16 (shapeCast S32768x1024 a2 shapeCasts_S8x4096x8x128_S32768x1024) bitsLt_bf16_f32

/-- The output gate's columns. -/
def gcol (a5 : FVec Ideal S8x4096x1024 .f32) : FVec Ideal S32768x1024 .bf16 :=
  truncf .bf16 (mulf (shapeCast S32768x1024 a5 shapeCasts_S8x4096x1024_S32768x1024)
    (addf (mulf (broadcastInDim S32768x1024 ![] bcast_S_S32768x1024 (constant S_ .f32 0x3F000000#32)) (Host.tanh (mulf (broadcastInDim S32768x1024 ![] bcast_S_S32768x1024 (constant S_ .f32 0x3F000000#32)) (shapeCast S32768x1024 a5 shapeCasts_S8x4096x1024_S32768x1024)))) (broadcastInDim S32768x1024 ![] bcast_S_S32768x1024 (constant S_ .f32 0x3F000000#32)))) bitsLt_bf16_f32

/-- The columns the attention does not read. -/
def blank : FVec Ideal S32768x2048 .bf16 := broadcastInDim S32768x2048 ![] bcast_S_S32768x2048 (constant S_ .bf16 0x0000#16)

/-- The packed array. -/
def zcat (a0 a1 : FVec Ideal S8x4096x8x2x64 .f32) (a2 : FVec Ideal S8x4096x8x128 .f32) (a5 : FVec Ideal S8x4096x1024 .f32) : FVec Ideal S32768x8192 .bf16 :=
  concatenate S32768x8192 1 [⟨S32768x2048, blank⟩, ⟨S32768x1024, qcol a0⟩, ⟨S32768x1024, kcol a1⟩, ⟨S32768x1024, vcol a2⟩, ⟨S32768x1024, gcol a5⟩, ⟨S32768x2048, blank⟩] concatenates_S32768x2048_S32768x1024_S32768x1024_S32768x1024_S32768x1024_S32768x2048_S32768x8192_d1

/-- A query's place in the packed array. -/
theorem zcat_q (a0 a1 : FVec Ideal S8x4096x8x2x64 .f32) (a2 : FVec Ideal S8x4096x8x128 .f32) (a5 : FVec Ideal S8x4096x1024 .f32) (b h : Fin 8) (t : Fin 4096) (x : Fin 128) :
    zcat a0 a1 a2 a5 (ix2 ⟨4096 * b.val + t.val, by omega⟩ ⟨2048 + (128 * h.val + x.val), by omega⟩)
      = Ideal.div (a0 (ix5 b t h (half x) (lane x)) * Ideal.ofBits .f32 0x3E000000#32) (Ideal.log (Ideal.ofBits .f32 0x40000000#32)) := by
  pointwise [zcat, blank, qcol]
  rw [dif_pos (by omega)]
  have e : (⟨(128 * h.val + x.val) / 64 % 2, by omega⟩ : Fin 2) = half x := Fin.ext (by show (128 * h.val + x.val) / 64 % 2 = x.val / 64; omega)
  have e' : (⟨(128 * h.val + x.val) % 64, by omega⟩ : Fin 64) = lane x := Fin.ext (by show (128 * h.val + x.val) % 64 = x.val % 64; omega)
  rw [e, e']

/-- A key's place in the packed array. -/
theorem zcat_k (a0 a1 : FVec Ideal S8x4096x8x2x64 .f32) (a2 : FVec Ideal S8x4096x8x128 .f32) (a5 : FVec Ideal S8x4096x1024 .f32) (b h : Fin 8) (t : Fin 4096) (x : Fin 128) :
    zcat a0 a1 a2 a5 (ix2 ⟨4096 * b.val + t.val, by omega⟩ ⟨3072 + (128 * h.val + x.val), by omega⟩) = a1 (ix5 b t h (half x) (lane x)) := by
  pointwise [zcat, blank, kcol]
  rw [dif_neg (by omega), dif_neg (by omega), dif_pos (by omega)]
  have e : (⟨(3072 + (128 * h.val + x.val) - 2048 - 1024) / 128, by omega⟩ : Fin 8) = h := Fin.ext (by show (3072 + (128 * h.val + x.val) - 2048 - 1024) / 128 = h.val; omega)
  have e1 : (⟨(3072 + (128 * h.val + x.val) - 2048 - 1024) / 64 % 2, by omega⟩ : Fin 2) = half x := Fin.ext (by show (3072 + (128 * h.val + x.val) - 2048 - 1024) / 64 % 2 = x.val / 64; omega)
  have e' : (⟨(3072 + (128 * h.val + x.val) - 2048 - 1024) % 64, by omega⟩ : Fin 64) = lane x := Fin.ext (by show (3072 + (128 * h.val + x.val) - 2048 - 1024) % 64 = x.val % 64; omega)
  rw [e, e1, e']

/-- The output gate's place in the packed array. -/
theorem zcat_g (a0 a1 : FVec Ideal S8x4096x8x2x64 .f32) (a2 : FVec Ideal S8x4096x8x128 .f32) (a5 : FVec Ideal S8x4096x1024 .f32) (b h : Fin 8) (t : Fin 4096) (x : Fin 128) :
    zcat a0 a1 a2 a5 (ix2 ⟨4096 * b.val + t.val, by omega⟩ ⟨5120 + (128 * h.val + x.val), by omega⟩)
      = a5 (ix3 b t ⟨128 * h.val + x.val, by omega⟩) * Ideal.div 1 (1 + Ideal.exp (-a5 (ix3 b t ⟨128 * h.val + x.val, by omega⟩))) := by
  pointwise [zcat, blank, gcol]
  rw [dif_neg (by omega), dif_neg (by omega), dif_neg (by omega), dif_neg (by omega), dif_pos (by omega)]
  have e : (⟨5120 + (128 * h.val + x.val) - 2048 - 1024 - 1024 - 1024, by omega⟩ : Fin 1024) = ⟨128 * h.val + x.val, by omega⟩ := Fin.ext (by show 5120 + (128 * h.val + x.val) - 2048 - 1024 - 1024 - 1024 = 128 * h.val + x.val; omega)
  rw [e, ← Cert.Scalar.half_tanh]

/-- The values, in slabs of 512 positions, features by positions. -/
def vslab (a2 : FVec Ideal S8x4096x8x128 .f32) : FVec Ideal S64x1024x512 .bf16 :=
  transpose S64x1024x512 [0, 2, 1] (shapeCast S64x512x1024 (vcol a2) shapeCasts_S32768x1024_S64x512x1024) transposes_S64x512x1024_S64x1024x512_0_2_1

/-- A value's place in its slab. -/
theorem vslab_at (a2 : FVec Ideal S8x4096x8x128 .f32) (b h j : Fin 8) (k : Fin 512) (x : Fin 128) :
    vslab a2 (ix3 ⟨8 * b.val + j.val, by omega⟩ ⟨128 * h.val + x.val, by omega⟩ k) = a2 (ix4 b (rowIx j.val k) h x) := by
  pointwise [vslab, vcol]
  have e : (⟨((8 * b.val + j.val) * 512 + k.val) % 4096, by omega⟩ : Fin 4096) = rowIx j.val k := Fin.ext (by show ((8 * b.val + j.val) * 512 + k.val) % 4096 = (512 * j.val + k.val) % 4096; omega)
  rw [e]

/-- The zero that pads the meta tokens. -/
theorem zero_pad : (FloatOps.sitofp .bf16 (0#32) : Ideal .bf16) = 0 := by
  show (((0#32 : BitVec 32).toInt : ℝ) : EReal) = 0
  simp

/-- The meta keys, padded with zero rows. -/
def kpad (a3 : FVec Ideal S16x8x2x64 .f32) : FVec Ideal S128x1024 .bf16 :=
  pad S128x1024 ![0, 0] ![112, 0] ![0, 0] (truncf .bf16 (shapeCast S16x1024 a3 shapeCasts_S16x8x2x64_S16x1024) bitsLt_bf16_f32) (sitofp .bf16 (constantI S_ 32 0#32)) pads_S16x1024_S128x1024_01120_000 h_S_

/-- A meta key's place. -/
theorem kpad_at (a3 : FVec Ideal S16x8x2x64 .f32) (h : Fin 8) (t x : Fin 128) :
    kpad a3 (ix2 t ⟨128 * h.val + x.val, by omega⟩) = if ht : t.val < 16 then a3 (ix4 ⟨t.val, ht⟩ h (half x) (lane x)) else 0 := by
  pointwise [kpad]
  have e : (⟨(128 * h.val + x.val) / 64 % 2, by omega⟩ : Fin 2) = half x := Fin.ext (by show (128 * h.val + x.val) / 64 % 2 = x.val / 64; omega)
  have e' : (⟨(128 * h.val + x.val) % 64, by omega⟩ : Fin 64) = lane x := Fin.ext (by show (128 * h.val + x.val) % 64 = x.val % 64; omega)
  by_cases ht : t.val < 16
  · rw [dif_pos ⟨ht, by omega⟩, dif_pos ht, e, e']
  · rw [dif_neg (fun hh => ht hh.1), dif_neg ht, zero_pad]

/-- The meta values, padded, features by tokens. -/
def vpad (a4 : FVec Ideal S16x8x128 .f32) : FVec Ideal S1024x128 .bf16 :=
  transpose S1024x128 [1, 0] (pad S128x1024 ![0, 0] ![112, 0] ![0, 0] (truncf .bf16 (shapeCast S16x1024 a4 shapeCasts_S16x8x128_S16x1024) bitsLt_bf16_f32) (sitofp .bf16 (constantI S_ 32 0#32)) pads_S16x1024_S128x1024_01120_000 h_S_) transposes_S128x1024_S1024x128_1_0

/-- A meta value's place. -/
theorem vpad_at (a4 : FVec Ideal S16x8x128 .f32) (h : Fin 8) (t x : Fin 128) :
    vpad a4 (ix2 ⟨128 * h.val + x.val, by omega⟩ t) = if ht : t.val < 16 then a4 (ix3 ⟨t.val, ht⟩ h x) else 0 := by
  pointwise [vpad]
  by_cases ht : t.val < 16
  · rw [dif_pos ⟨ht, by omega⟩, dif_pos ht]
  · rw [dif_neg (fun hh => ht hh.1), dif_neg ht, zero_pad]

/-- The mask of the diagonal block, added to its scores. -/
def bias : FVec Ideal S512x1024 .f32 :=
  select (cmpi .sle (Host.shrsi (iotaInDim S512x1024 32 0) (broadcastInDim S512x1024 ![] bcast_S_S512x1024 (constantI S_ 32 6#32)))
      (Host.shrsi (andi (iotaInDim S512x1024 32 1) (broadcastInDim S512x1024 ![] bcast_S_S512x1024 (constantI S_ 32 511#32))) (broadcastInDim S512x1024 ![] bcast_S_S512x1024 (constantI S_ 32 6#32))))
    (broadcastInDim S512x1024 ![] bcast_S_S512x1024 (constant S_ .f32 0x00000000#32)) (broadcastInDim S512x1024 ![] bcast_S_S512x1024 (constant S_ .f32 0xFF800000#32))

/-- A key's chunk as the mask computes it. -/
theorem word_k : ∀ k : Fin 512, IntOp.shrsi ArithUnit.host (BitVec.ofNat 32 k.val) 6#32 = BitVec.ofNat 32 (k.val / 64) := by
  decide +kernel

/-- A query's chunk as the mask computes it. -/
theorem word_c : ∀ c : Fin 1024, IntOp.shrsi ArithUnit.host (IntOp.andi (BitVec.ofNat 32 c.val) 511#32) 6#32 = BitVec.ofNat 32 (c.val % 512 / 64) := by
  decide +kernel

/-- The comparison of two chunks. -/
theorem word_le : ∀ a b : Fin 8, (IntOp.cmpi CmpIPredicate.sle (BitVec.ofNat 32 a.val) (BitVec.ofNat 32 b.val) = 1#1) ↔ a.val ≤ b.val := by
  decide +kernel

/-- The mask at a key and a column. -/
theorem bias_at (k : Fin 512) (c : Fin 1024) : bias (ix2 k c) = if k.val / 64 ≤ c.val % 512 / 64 then 0 else ⊥ := by
  pointwise [bias]
  rw [word_k, word_c, ofBits_neg_inf]
  have h := word_le ⟨k.val / 64, by omega⟩ ⟨c.val % 512 / 64, by omega⟩
  by_cases hc : k.val / 64 ≤ c.val % 512 / 64
  · rw [if_pos hc]
    exact if_pos (h.mpr hc)
  · rw [if_neg hc]
    exact if_neg (fun hh => hc (h.mp hh))

/-- A vector laid out as a column. -/
theorem col_at (a : FVec Ideal S128 .f32) (e : Fin 128) : shapeCast S128x1 a shapeCasts_S128_S128x1 (ix2 e 0) = a (ix1 e) := by
  pointwise

/-- A vector laid out as one row. -/
theorem row_at (a : FVec Ideal S64 .f32) (e : Fin 64) : shapeCast S1x64 a shapeCasts_S64_S1x64 (ix2 0 e) = a (ix1 e) := by
  pointwise

/-! ## The arrays at the region -/

variable (m : (ℓ : Loc nD τ sig) → Buf (Elt Ideal) ℓ)

set_option maxHeartbeats 3200000 in
/-- The packed array at the region is the concatenation of the host's operations. -/
theorem v23 (c : Dev nD) : V m c main_v23 = zcat (m ((c : Thread nD τ).loc main_arg0)) (m ((c : Thread nD τ).loc main_arg1)) (m ((c : Thread nD τ).loc main_arg2)) (m ((c : Thread nD τ).loc main_arg5)) := by
  refine Cert.HostRead.after_family (List.flatten [hostOps0 (F := Ideal), hostOps0_1, hostOps0_2, hostOps0_3, hostOps0_4, hostOps0_5, hostOps0_6]) (hostOps0.take 29)
    (hostOps0.drop 30 ++ List.flatten [hostOps0_1, hostOps0_2, hostOps0_3, hostOps0_4, hostOps0_5, hostOps0_6]) _ ![main_v22, main_v6, main_v8, main_v10, main_v21, main_v22] main_v23 _ _ _ rfl
    (List.forall_iff_forall_mem.mp ?_) (fun k => match k with
      | ⟨0, _⟩ => blank
      | ⟨1, _⟩ => qcol (m ((c : Thread nD τ).loc main_arg0))
      | ⟨2, _⟩ => kcol (m ((c : Thread nD τ).loc main_arg1))
      | ⟨3, _⟩ => vcol (m ((c : Thread nD τ).loc main_arg2))
      | ⟨4, _⟩ => gcol (m ((c : Thread nD τ).loc main_arg5))
      | ⟨5, _⟩ => blank) (fun k => match k with
      | ⟨0, _⟩ => ?_
      | ⟨1, _⟩ => ?_
      | ⟨2, _⟩ => ?_
      | ⟨3, _⟩ => ?_
      | ⟨4, _⟩ => ?_
      | ⟨5, _⟩ => ?_)
  · simp only [hostOps0, hostOps0_1, hostOps0_2, hostOps0_3, hostOps0_4, hostOps0_5, hostOps0_6, List.flatten, List.append, List.cons_append, List.nil_append, List.drop, List.Forall, StableHlo.reshape_writes, StableHlo.unary_writes, StableHlo.binary_writes, StableHlo.nullary_writes, StableHlo.ternary_writes, StableHlo.TRef.unary, StableHlo.TRef.binary, StableHlo.TRef.ternary, Finset.mem_singleton]
    repeat' apply And.intro
    all_goals exact StableHlo.devRef_ne_of_ne (by decide)
  · show StableHlo.after _ _ (Proc.devRef .tc main_v22) = _
    simp only [hostOps0, List.take]
    after_results_simp
    rfl
  · show StableHlo.after _ _ (Proc.devRef .tc main_v6) = _
    simp only [hostOps0, List.take]
    after_results_simp
    rfl
  · show StableHlo.after _ _ (Proc.devRef .tc main_v8) = _
    simp only [hostOps0, List.take]
    after_results_simp
    rfl
  · show StableHlo.after _ _ (Proc.devRef .tc main_v10) = _
    simp only [hostOps0, List.take]
    after_results_simp
    rfl
  · show StableHlo.after _ _ (Proc.devRef .tc main_v21) = _
    simp only [hostOps0, List.take]
    after_results_simp
    rfl
  · show StableHlo.after _ _ (Proc.devRef .tc main_v22) = _
    simp only [hostOps0, List.take]
    after_results_simp
    rfl

set_option maxHeartbeats 1600000 in
/-- The value slabs at the region. -/
theorem v25 (c : Dev nD) : V m c main_v25 = vslab (m ((c : Thread nD τ).loc main_arg2)) := by
  entry_read; rfl

set_option maxHeartbeats 1600000 in
/-- The meta keys at the region. -/
theorem v28 (c : Dev nD) : V m c main_v28 = kpad (m ((c : Thread nD τ).loc main_arg3)) := by
  entry_read; rfl

set_option maxHeartbeats 1600000 in
/-- The meta values at the region. -/
theorem v32 (c : Dev nD) : V m c main_v32 = vpad (m ((c : Thread nD τ).loc main_arg4)) := by
  entry_read; rfl

set_option maxHeartbeats 1600000 in
/-- The mask at the region. -/
theorem v48 (c : Dev nD) : V m c main_v48 = bias := by
  entry_read; rfl

set_option maxHeartbeats 1600000 in
/-- The output weights at the region. -/
theorem v33 (c : Dev nD) : V m c main_v33 = shapeCast S128x1 (m ((c : Thread nD τ).loc main_arg6)) shapeCasts_S128_S128x1 := by
  entry_read; rfl

set_option maxHeartbeats 1600000 in
/-- One vector of the mixing weight at the region. -/
theorem v34 (c : Dev nD) : V m c main_v34 = shapeCast S1x64 (m ((c : Thread nD τ).loc main_arg7)) shapeCasts_S64_S1x64 := by
  entry_read; rfl

set_option maxHeartbeats 1600000 in
/-- One vector of the mixing weight at the region. -/
theorem v35 (c : Dev nD) : V m c main_v35 = shapeCast S1x64 (m ((c : Thread nD τ).loc main_arg8)) shapeCasts_S64_S1x64 := by
  entry_read; rfl

set_option maxHeartbeats 1600000 in
/-- One vector of the mixing weight at the region. -/
theorem v36 (c : Dev nD) : V m c main_v36 = shapeCast S1x64 (m ((c : Thread nD τ).loc main_arg9)) shapeCasts_S64_S1x64 := by
  entry_read; rfl

set_option maxHeartbeats 1600000 in
/-- One vector of the mixing weight at the region. -/
theorem v37 (c : Dev nD) : V m c main_v37 = shapeCast S1x64 (m ((c : Thread nD τ).loc main_arg10)) shapeCasts_S64_S1x64 := by
  entry_read; rfl

/-! ## The windows' blocks -/

/-- The windows' block indices at every grid point. -/
theorem idx : ∀ t : Fin cfg0.N, win0_0.index t = ![t.val / 8, 16 + t.val % 8] ∧ win0_1.index t = ![t.val / 8, 24 + t.val % 8] ∧ win0_2.index t = ![t.val / 8, t.val % 8, 0] ∧ win0_3.index t = ![0, t.val % 8]
    ∧ win0_4.index t = ![t.val % 8, 0] ∧ win0_5.index t = ![0, 0] ∧ win0_6.index t = ![t.val / 8, 40 + t.val % 8] ∧ win0_7.index t = ![0, 0] ∧ win0_8.index t = ![0, 0] ∧ win0_9.index t = ![0, 0]
    ∧ win0_10.index t = ![0, 0] ∧ win0_11.index t = ![0, 0] ∧ win0_13.index t = ![t.val / 8, t.val % 8] :=
  (by decide +kernel : ∀ t : Fin grid0.N, _)

/-- The batch of a grid point. -/
abbrev bat (t : Fin cfg0.N) : Fin 8 := ⟨t.val / 8, by have : t.val < 64 := t.isLt; omega⟩

/-- The head of a grid point. -/
abbrev hd (t : Fin cfg0.N) : Fin 8 := ⟨t.val % 8, by omega⟩

set_option maxHeartbeats 1600000 in
/-- Window 0's block is the head's columns at the batch's rows. -/
theorem b0 (c : Dev nD) (t : Fin cfg0.N) (y : Fin 4096) (x : Fin 128) : iblk m c 0 t (ix2 y x) = V m c main_v23 (ix2 (⟨4096 * (bat t).val + y.val, by omega⟩ : Fin 32768) (⟨2048 + (128 * (hd t).val + x.val), by omega⟩ : Fin 8192)) := by
  blk_ext [iblk, idx t]

set_option maxHeartbeats 1600000 in
/-- Window 1's block is the head's columns at the batch's rows. -/
theorem b1 (c : Dev nD) (t : Fin cfg0.N) (y : Fin 4096) (x : Fin 128) : iblk m c 1 t (ix2 y x) = V m c main_v23 (ix2 (⟨4096 * (bat t).val + y.val, by omega⟩ : Fin 32768) (⟨3072 + (128 * (hd t).val + x.val), by omega⟩ : Fin 8192)) := by
  blk_ext [iblk, idx t]

set_option maxHeartbeats 1600000 in
/-- Window 6's block is the head's columns at the batch's rows. -/
theorem b6 (c : Dev nD) (t : Fin cfg0.N) (y : Fin 4096) (x : Fin 128) : iblk m c 6 t (ix2 y x) = V m c main_v23 (ix2 (⟨4096 * (bat t).val + y.val, by omega⟩ : Fin 32768) (⟨5120 + (128 * (hd t).val + x.val), by omega⟩ : Fin 8192)) := by
  blk_ext [iblk, idx t]

set_option maxHeartbeats 1600000 in
/-- Window 2's block is the head's features in the batch's slabs. -/
theorem b2 (c : Dev nD) (t : Fin cfg0.N) (j : Fin 8) (x : Fin 128) (k : Fin 512) : iblk m c 2 t (ix3 j x k) = V m c main_v25 (ix3 (⟨8 * (bat t).val + j.val, by omega⟩ : Fin 64) (⟨128 * (hd t).val + x.val, by omega⟩ : Fin 1024) k) := by
  blk_ext [iblk, idx t]

set_option maxHeartbeats 1600000 in
/-- Window 3's block is the head's meta keys. -/
theorem b3 (c : Dev nD) (t : Fin cfg0.N) (y x : Fin 128) : iblk m c 3 t (ix2 y x) = V m c main_v28 (ix2 y (⟨128 * (hd t).val + x.val, by omega⟩ : Fin 1024)) := by
  blk_ext [iblk, idx t]

set_option maxHeartbeats 1600000 in
/-- Window 4's block is the head's meta values. -/
theorem b4 (c : Dev nD) (t : Fin cfg0.N) (x y : Fin 128) : iblk m c 4 t (ix2 x y) = V m c main_v32 (ix2 (⟨128 * (hd t).val + x.val, by omega⟩ : Fin 1024) y) := by
  blk_ext [iblk, idx t]

set_option maxHeartbeats 1600000 in
/-- Window 5's block is the whole mask. -/
theorem b5 (c : Dev nD) (t : Fin cfg0.N) (k : Fin 512) (q : Fin 1024) : iblk m c 5 t (ix2 k q) = V m c main_v48 (ix2 k q) := by
  blk_ext [iblk, idx t]

set_option maxHeartbeats 1600000 in
/-- Window 7's block is the whole column of weights. -/
theorem b7 (c : Dev nD) (t : Fin cfg0.N) (x : Fin 128) : iblk m c 7 t (ix2 x 0) = V m c main_v33 (ix2 x 0) := by
  blk_ext [iblk, idx t]

set_option maxHeartbeats 1600000 in
/-- Window 8's block is its whole row. -/
theorem b8 (c : Dev nD) (t : Fin cfg0.N) (x : Fin 64) : iblk m c 8 t (ix2 0 x) = V m c main_v34 (ix2 0 x) := by
  blk_ext [iblk, idx t]

set_option maxHeartbeats 1600000 in
/-- Window 9's block is its whole row. -/
theorem b9 (c : Dev nD) (t : Fin cfg0.N) (x : Fin 64) : iblk m c 9 t (ix2 0 x) = V m c main_v35 (ix2 0 x) := by
  blk_ext [iblk, idx t]

set_option maxHeartbeats 1600000 in
/-- Window 10's block is its whole row. -/
theorem b10 (c : Dev nD) (t : Fin cfg0.N) (x : Fin 64) : iblk m c 10 t (ix2 0 x) = V m c main_v36 (ix2 0 x) := by
  blk_ext [iblk, idx t]

set_option maxHeartbeats 1600000 in
/-- Window 11's block is its whole row. -/
theorem b11 (c : Dev nD) (t : Fin cfg0.N) (x : Fin 64) : iblk m c 11 t (ix2 0 x) = V m c main_v37 (ix2 0 x) := by
  blk_ext [iblk, idx t]

end Cert.KernelIdeal.Attn

end
-- ==== Proof.AttnLoads1.lean ====
module

public import proofs.«01_k».proof.Proof.AttnStage
public import Idealize.ShloMosaic.Lib.Pipeline.ReadBack
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD)
variable (arg2 : Memref sig .tc .vmem S4096x128 .bf16) (harg2 : arg2.IsWhole) (arg3 : Memref sig .tc .vmem
  S4096x128 .bf16) (harg3 : arg3.IsWhole) (arg4 : Memref sig .tc .vmem S8x128x512 .bf16) (harg4 :
  arg4.IsWhole) (arg5 : Memref sig .tc .vmem S128x128 .bf16) (harg5 : arg5.IsWhole) (arg6 : Memref sig .tc
  .vmem S128x128 .bf16) (harg6 : arg6.IsWhole) (arg7 : Memref sig .tc .vmem S512x1024 .f32) (harg7 :
  arg7.IsWhole) (arg8 : Memref sig .tc .vmem S4096x128 .bf16) (harg8 : arg8.IsWhole) (arg9 : Memref sig .tc
  .vmem S128x1 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32)
  (harg12 : arg12.IsWhole) (arg13 : Memref sig .tc .vmem S1x64 .f32) (harg13 : arg13.IsWhole) (arg14 : Memref
  sig .tc .smem S1 .i32) (harg14 : arg14.IsWhole) (arg15 : Memref sig .tc .vmem S4096x128 .bf16) (harg15 :
  arg15.IsWhole) (arg16 : Memref sig .tc .vmem S8x128x1024 .bf16) (harg16 : arg16.IsWhole) (arg17 : Memref sig
  .tc .vmem S512x1024 .f32) (harg17 : arg17.IsWhole) (arg18 : Memref sig .tc .vmem S512x1024 .f32) (harg18 :
  arg18.IsWhole) (arg19 : Memref sig .tc .vmem S512x1024 .bf16) (harg19 : arg19.IsWhole) (arg20 : Memref sig
  .tc .vmem S512x1024 .bf16) (harg20 : arg20.IsWhole) (arg21 : Memref sig .tc .vmem S1x1024 .f32) (harg21 :
  arg21.IsWhole) (arg22 : Memref sig .tc .vmem S1x1024 .f32) (harg22 : arg22.IsWhole) (arg23 : Memref sig .tc
  .vmem S1x1024 .f32) (harg23 : arg23.IsWhole) (arg24 : Memref sig .tc .vmem S1x1024 .f32) (harg24 :
  arg24.IsWhole) (arg25 : Memref sig .tc .vmem S128x1024 .bf16) (harg25 : arg25.IsWhole) (arg26 : Memref sig
  .tc .vmem S8x1x1024 .f32) (harg26 : arg26.IsWhole) (arg27 : Memref sig .tc .vmem S8x144x1024 .f32) (harg27 :
  arg27.IsWhole)
variable (x0 : Vec F S4096x128 .bf16) (x1 : Vec F S4096x128 .bf16) (x2 : Vec F S8x128x512 .bf16) (x3 : Vec F
  S128x128 .bf16) (x4 : Vec F S128x128 .bf16) (x5 : Vec F S512x1024 .f32) (x6 : Vec F S4096x128 .bf16) (x7 :
  Vec F S128x1 .f32) (x8 : Vec F S1x64 .f32) (x9 : Vec F S1x64 .f32) (x10 : Vec F S1x64 .f32) (x11 : Vec F
  S1x64 .f32) (x12 : Vec F S1 .i32)

/-! Each load of a scratch buffer, in the order of the body, as the stage whose result it reads. -/

set_option maxHeartbeats 1000000

theorem load_v177 : bodyRun.sl.v177 (F := F) c arg2 harg2 arg16 x0 = qT x0 0 := by
  simp (disch := decide) only [bodyRun.sl.v177, bodyRun.sl.HS0_8, ↓ View.readCov_skip, ↓ View.readCov_cons_toLoadRect, ↓ View.readCov_fill]
  simp (disch := decide) only [rows_read 0 0 rfl (by decide)]
  rfl

theorem load_v191 : bodyRun.sl.v191 (F := F) c arg26 = (mInit : Vec F S1x1x1024 .f32) := by
  simp (disch := decide) only [bodyRun.sl.v191, bodyRun.sl.HS10_1, ↓ View.readCov_skip, ↓ View.readCov_cons_toLoadRect, ↓ View.readCov_fill]
  rfl

theorem load_v193 : bodyRun.sl.v193 (F := F) c arg2 harg2 arg3 harg3 arg7 harg7 arg16 arg21 x0 x1 x5 = mxD x0 x1 x5 0 := by
  simp (disch := decide) only [bodyRun.sl.v193, bodyRun.sl.HS5_1, ↓ View.readCov_skip, ↓ View.readCov_cons_toLoadRect, ↓ View.readCov_fill]
  simp (disch := decide) only [load_v177, rows_read 0 0 rfl (by decide), whole_read]
  rfl

theorem load_v215 : bodyRun.sl.v215 (F := F) c arg2 harg2 arg3 harg3 arg7 harg7 arg16 arg17 x0 x1 x5 = sD x0 x1 x5 0 := by
  simp (disch := decide) only [bodyRun.sl.v215, bodyRun.sl.HS1_1, ↓ View.readCov_skip, ↓ View.readCov_cons_toLoadRect, ↓ View.readCov_fill]
  simp (disch := decide) only [load_v177, rows_read 0 0 rfl (by decide), whole_read]
  rfl

theorem load_v233 : bodyRun.sl.v233 (F := F) c arg2 harg2 arg16 x0 = qT x0 1 := by
  simp (disch := decide) only [bodyRun.sl.v233, bodyRun.sl.HS0_8, ↓ View.readCov_skip, ↓ View.readCov_cons_toLoadRect, ↓ View.readCov_fill]
  simp (disch := decide) only [rows_read 512 1 rfl (by decide)]
  rfl

theorem load_v244 : bodyRun.sl.v244 (F := F) c arg2 harg2 arg3 harg3 arg5 harg5 arg7 harg7 arg16 arg21 arg26 x0 x1 x3 x5 = (mInit : Vec F S1x1x1024 .f32) := by
  simp (disch := decide) only [bodyRun.sl.v244, bodyRun.sl.HS10_2, bodyRun.sl.HS10_1, ↓ View.readCov_skip, ↓ View.readCov_cons_toLoadRect, ↓ View.readCov_fill]
  rfl

theorem load_v246 : bodyRun.sl.v246 (F := F) c arg2 harg2 arg3 harg3 arg16 arg22 x0 x1 = mxO x0 x1 1 0 := by
  simp (disch := decide) only [bodyRun.sl.v246, bodyRun.sl.HS6_1, ↓ View.readCov_skip, ↓ View.readCov_cons_toLoadRect, ↓ View.readCov_fill]
  simp (disch := decide) only [bodyRun.sl.r_7, load_v233, rows_read 0 0 rfl (by decide)]
  rfl

theorem load_v248 : bodyRun.sl.v248 (F := F) c arg2 harg2 arg3 harg3 arg16 arg18 x0 x1 = sO x0 x1 1 0 := by
  simp (disch := decide) only [bodyRun.sl.v248, bodyRun.sl.HS2_1, ↓ View.readCov_skip, ↓ View.readCov_cons_toLoadRect, ↓ View.readCov_fill]
  simp (disch := decide) only [load_v233, rows_read 0 0 rfl (by decide)]
  rfl

theorem load_v268 : bodyRun.sl.v268 (F := F) c arg2 harg2 arg3 harg3 arg5 harg5 arg7 harg7 arg16 arg17 arg19 arg21 arg26 x0 x1 x3 x5 = pD x0 x1 x3 x5 0 := by
  simp (disch := decide) only [bodyRun.sl.v268, bodyRun.sl.HS3_1, ↓ View.readCov_skip, ↓ View.readCov_cons_toLoadRect, ↓ View.readCov_fill]
  simp (disch := decide) only [bodyRun.sl.r_4, load_v191, load_v193, bodyRun.sl.r_6, load_v177, load_v215, whole_read]
  rfl

theorem load_v274 : bodyRun.sl.v274 (F := F) c arg2 harg2 arg3 harg3 arg5 harg5 arg7 harg7 arg16 arg21 arg25 arg26 x0 x1 x3 x5 = pmD x0 x1 x3 x5 0 := by
  simp (disch := decide) only [bodyRun.sl.v274, bodyRun.sl.HS9_1, ↓ View.readCov_skip, ↓ View.readCov_cons_toLoadRect, ↓ View.readCov_fill]
  simp (disch := decide) only [bodyRun.sl.r_4, load_v191, load_v193, bodyRun.sl.r_5, load_v177, bodyRun.sl.r_6, whole_read]
  rfl

theorem load_v277 : bodyRun.sl.v277 (F := F) c arg2 harg2 arg3 harg3 arg5 harg5 arg7 harg7 arg16 arg21 arg23 arg26 x0 x1 x3 x5 = alD x0 x1 x3 x5 0 := by
  simp (disch := decide) only [bodyRun.sl.v277, bodyRun.sl.HS7_1, ↓ View.readCov_skip, ↓ View.readCov_cons_toLoadRect, ↓ View.readCov_fill]
  simp (disch := decide) only [bodyRun.sl.r_3, load_v191, bodyRun.sl.r_4, load_v193, bodyRun.sl.r_6, load_v177, whole_read]
  rfl

theorem load_v278 : bodyRun.sl.v278 (F := F) c arg27 = (aInit : Vec F S1x144x1024 .f32) := by
  simp (disch := decide) only [bodyRun.sl.v278, bodyRun.sl.HS11_1, ↓ View.readCov_skip, ↓ View.readCov_cons_toLoadRect, ↓ View.readCov_fill]
  rfl

theorem load_v319 : bodyRun.sl.v319 (F := F) c arg2 harg2 arg16 x0 = qT x0 2 := by
  simp (disch := decide) only [bodyRun.sl.v319, bodyRun.sl.HS0_8, ↓ View.readCov_skip, ↓ View.readCov_cons_toLoadRect, ↓ View.readCov_fill]
  simp (disch := decide) only [rows_read 1024 2 rfl (by decide)]
  rfl

theorem load_v330 : bodyRun.sl.v330 (F := F) c arg2 harg2 arg3 harg3 arg5 harg5 arg7 harg7 arg16 arg21 arg22 arg26 x0 x1 x3 x5 = (mInit : Vec F S1x1x1024 .f32) := by
  simp (disch := decide) only [bodyRun.sl.v330, bodyRun.sl.HS10_3, bodyRun.sl.HS10_2, bodyRun.sl.HS10_1, ↓ View.readCov_skip, ↓ View.readCov_cons_toLoadRect, ↓ View.readCov_fill]
  rfl

theorem load_v332 : bodyRun.sl.v332 (F := F) c arg2 harg2 arg3 harg3 arg7 harg7 arg16 arg21 x0 x1 x5 = mxO x0 x1 2 0 := by
  simp (disch := decide) only [bodyRun.sl.v332, bodyRun.sl.HS5_2, ↓ View.readCov_skip, ↓ View.readCov_cons_toLoadRect, ↓ View.readCov_fill]
  simp (disch := decide) only [load_v319, rows_read 0 0 rfl (by decide)]
  rfl

theorem load_v334 : bodyRun.sl.v334 (F := F) c arg2 harg2 arg3 harg3 arg7 harg7 arg16 arg17 x0 x1 x5 = sO x0 x1 2 0 := by
  simp (disch := decide) only [bodyRun.sl.v334, bodyRun.sl.HS1_2, ↓ View.readCov_skip, ↓ View.readCov_cons_toLoadRect, ↓ View.readCov_fill]
  simp (disch := decide) only [load_v319, rows_read 0 0 rfl (by decide)]
  rfl

theorem load_v354 : bodyRun.sl.v354 (F := F) c arg2 harg2 arg3 harg3 arg5 harg5 arg7 harg7 arg16 arg18 arg20 arg21 arg22 arg26 x0 x1 x3 x5 = pO x0 x1 1 0 := by
  simp (disch := decide) only [bodyRun.sl.v354, bodyRun.sl.HS4_1, ↓ View.readCov_skip, ↓ View.readCov_cons_toLoadRect, ↓ View.readCov_fill]
  simp (disch := decide) only [load_v244, load_v246, load_v248]
  rfl

theorem load_v356 : bodyRun.sl.v356 (F := F) c arg2 harg2 arg3 harg3 arg5 harg5 arg7 harg7 arg16 arg21 arg22 arg24 arg26 x0 x1 x3 x5 = alO x0 x1 1 0 := by
  simp (disch := decide) only [bodyRun.sl.v356, bodyRun.sl.HS8_1, ↓ View.readCov_skip, ↓ View.readCov_cons_toLoadRect, ↓ View.readCov_fill]
  simp (disch := decide) only [load_v244, load_v246]
  rfl

theorem load_v357 : bodyRun.sl.v357 (F := F) c arg27 = (aInit : Vec F S1x144x1024 .f32) := by
  simp (disch := decide) only [bodyRun.sl.v357, bodyRun.sl.HS11_1, ↓ View.readCov_skip, ↓ View.readCov_cons_toLoadRect, ↓ View.readCov_fill]
  rfl

theorem load_v367 : bodyRun.sl.v367 (F := F) c arg2 harg2 arg16 x0 = qT x0 3 := by
  simp (disch := decide) only [bodyRun.sl.v367, bodyRun.sl.HS0_8, ↓ View.readCov_skip, ↓ View.readCov_cons_toLoadRect, ↓ View.readCov_fill]
  simp (disch := decide) only [rows_read 1536 3 rfl (by decide)]
  rfl

theorem load_v378 : bodyRun.sl.v378 (F := F) c arg2 harg2 arg3 harg3 arg5 harg5 arg7 harg7 arg16 arg21 arg22 arg26 x0 x1 x3 x5 = (mInit : Vec F S1x1x1024 .f32) := by
  simp (disch := decide) only [bodyRun.sl.v378, bodyRun.sl.HS10_4, bodyRun.sl.HS10_3, bodyRun.sl.HS10_2, bodyRun.sl.HS10_1, ↓ View.readCov_skip, ↓ View.readCov_cons_toLoadRect, ↓ View.readCov_fill]
  rfl

theorem load_v380 : bodyRun.sl.v380 (F := F) c arg2 harg2 arg3 harg3 arg16 arg22 x0 x1 = mxO x0 x1 3 0 := by
  simp (disch := decide) only [bodyRun.sl.v380, bodyRun.sl.HS6_2, ↓ View.readCov_skip, ↓ View.readCov_cons_toLoadRect, ↓ View.readCov_fill]
  simp (disch := decide) only [bodyRun.sl.r_15, load_v367, rows_read 0 0 rfl (by decide)]
  rfl

theorem load_v382 : bodyRun.sl.v382 (F := F) c arg2 harg2 arg3 harg3 arg16 arg18 x0 x1 = sO x0 x1 3 0 := by
  simp (disch := decide) only [bodyRun.sl.v382, bodyRun.sl.HS2_2, ↓ View.readCov_skip, ↓ View.readCov_cons_toLoadRect, ↓ View.readCov_fill]
  simp (disch := decide) only [load_v367, rows_read 0 0 rfl (by decide)]
  rfl

theorem load_v402 : bodyRun.sl.v402 (F := F) c arg2 harg2 arg3 harg3 arg5 harg5 arg7 harg7 arg16 arg17 arg19 arg21 arg22 arg26 x0 x1 x3 x5 = pO x0 x1 2 0 := by
  simp (disch := decide) only [bodyRun.sl.v402, bodyRun.sl.HS3_2, ↓ View.readCov_skip, ↓ View.readCov_cons_toLoadRect, ↓ View.readCov_fill]
  simp (disch := decide) only [load_v330, load_v332, load_v334]
  rfl

theorem load_v404 : bodyRun.sl.v404 (F := F) c arg2 harg2 arg3 harg3 arg5 harg5 arg7 harg7 arg16 arg21 arg22 arg23 arg26 x0 x1 x3 x5 = alO x0 x1 2 0 := by
  simp (disch := decide) only [bodyRun.sl.v404, bodyRun.sl.HS7_2, ↓ View.readCov_skip, ↓ View.readCov_cons_toLoadRect, ↓ View.readCov_fill]
  simp (disch := decide) only [bodyRun.sl.r_12, load_v330, bodyRun.sl.r_13, load_v332]
  rfl

theorem load_v405 : bodyRun.sl.v405 (F := F) c arg2 harg2 arg3 harg3 arg4 harg4 arg5 harg5 arg7 harg7 arg16 arg18 arg20 arg21 arg22 arg24 arg26 arg27 x0 x1 x2 x3 x5 = (aInit : Vec F S1x144x1024 .f32) := by
  simp (disch := decide) only [bodyRun.sl.v405, bodyRun.sl.HS11_2, bodyRun.sl.HS11_1, ↓ View.readCov_skip, ↓ View.readCov_cons_toLoadRect, ↓ View.readCov_fill]
  rfl

theorem load_v415 : bodyRun.sl.v415 (F := F) c arg2 harg2 arg16 x0 = qT x0 4 := by
  simp (disch := decide) only [bodyRun.sl.v415, bodyRun.sl.HS0_8, ↓ View.readCov_skip, ↓ View.readCov_cons_toLoadRect, ↓ View.readCov_fill]
  simp (disch := decide) only [bodyRun.sl.r, rows_read 2048 4 rfl (by decide)]
  rfl

theorem load_v426 : bodyRun.sl.v426 (F := F) c arg2 harg2 arg3 harg3 arg5 harg5 arg7 harg7 arg16 arg21 arg22 arg26 x0 x1 x3 x5 = (mInit : Vec F S1x1x1024 .f32) := by
  simp (disch := decide) only [bodyRun.sl.v426, bodyRun.sl.HS10_5, bodyRun.sl.HS10_4, bodyRun.sl.HS10_3, bodyRun.sl.HS10_2, bodyRun.sl.HS10_1, ↓ View.readCov_skip, ↓ View.readCov_cons_toLoadRect, ↓ View.readCov_fill]
  rfl

theorem load_v428 : bodyRun.sl.v428 (F := F) c arg2 harg2 arg3 harg3 arg7 harg7 arg16 arg21 x0 x1 x5 = mxO x0 x1 4 0 := by
  simp (disch := decide) only [bodyRun.sl.v428, bodyRun.sl.HS5_3, ↓ View.readCov_skip, ↓ View.readCov_cons_toLoadRect, ↓ View.readCov_fill]
  simp (disch := decide) only [load_v415, rows_read 0 0 rfl (by decide)]
  rfl

theorem load_v430 : bodyRun.sl.v430 (F := F) c arg2 harg2 arg3 harg3 arg7 harg7 arg16 arg17 x0 x1 x5 = sO x0 x1 4 0 := by
  simp (disch := decide) only [bodyRun.sl.v430, bodyRun.sl.HS1_3, ↓ View.readCov_skip, ↓ View.readCov_cons_toLoadRect, ↓ View.readCov_fill]
  simp (disch := decide) only [load_v415, rows_read 0 0 rfl (by decide)]
  rfl

theorem load_v450 : bodyRun.sl.v450 (F := F) c arg2 harg2 arg3 harg3 arg5 harg5 arg7 harg7 arg16 arg18 arg20 arg21 arg22 arg26 x0 x1 x3 x5 = pO x0 x1 3 0 := by
  simp (disch := decide) only [bodyRun.sl.v450, bodyRun.sl.HS4_2, ↓ View.readCov_skip, ↓ View.readCov_cons_toLoadRect, ↓ View.readCov_fill]
  simp (disch := decide) only [load_v378, load_v380, load_v382]
  rfl

theorem load_v452 : bodyRun.sl.v452 (F := F) c arg2 harg2 arg3 harg3 arg5 harg5 arg7 harg7 arg16 arg21 arg22 arg24 arg26 x0 x1 x3 x5 = alO x0 x1 3 0 := by
  simp (disch := decide) only [bodyRun.sl.v452, bodyRun.sl.HS8_2, ↓ View.readCov_skip, ↓ View.readCov_cons_toLoadRect, ↓ View.readCov_fill]
  simp (disch := decide) only [load_v378, load_v380]
  rfl

theorem load_v453 : bodyRun.sl.v453 (F := F) c arg2 harg2 arg3 harg3 arg4 harg4 arg5 harg5 arg7 harg7 arg16 arg17 arg18 arg19 arg20 arg21 arg22 arg23 arg24 arg26 arg27 x0 x1 x2 x3 x5 = (aInit : Vec F S1x144x1024 .f32) := by
  simp (disch := decide) only [bodyRun.sl.v453, bodyRun.sl.HS11_3, bodyRun.sl.HS11_2, bodyRun.sl.HS11_1, ↓ View.readCov_skip, ↓ View.readCov_cons_toLoadRect, ↓ View.readCov_fill]
  rfl

theorem load_v463 : bodyRun.sl.v463 (F := F) c arg2 harg2 arg16 x0 = qT x0 5 := by
  simp (disch := decide) only [bodyRun.sl.v463, bodyRun.sl.HS0_8, ↓ View.readCov_skip, ↓ View.readCov_cons_toLoadRect, ↓ View.readCov_fill]
  simp (disch := decide) only [rows_read 2560 5 rfl (by decide)]
  rfl

theorem load_v474 : bodyRun.sl.v474 (F := F) c arg2 harg2 arg3 harg3 arg5 harg5 arg7 harg7 arg16 arg21 arg22 arg26 x0 x1 x3 x5 = (mInit : Vec F S1x1x1024 .f32) := by
  simp (disch := decide) only [bodyRun.sl.v474, bodyRun.sl.HS10_6, bodyRun.sl.HS10_5, bodyRun.sl.HS10_4, bodyRun.sl.HS10_3, bodyRun.sl.HS10_2, bodyRun.sl.HS10_1, ↓ View.readCov_skip, ↓ View.readCov_cons_toLoadRect, ↓ View.readCov_fill]
  rfl

theorem load_v476 : bodyRun.sl.v476 (F := F) c arg2 harg2 arg3 harg3 arg16 arg22 x0 x1 = mxO x0 x1 5 0 := by
  simp (disch := decide) only [bodyRun.sl.v476, bodyRun.sl.HS6_3, ↓ View.readCov_skip, ↓ View.readCov_cons_toLoadRect, ↓ View.readCov_fill]
  simp (disch := decide) only [bodyRun.sl.r_20, load_v463, rows_read 0 0 rfl (by decide)]
  rfl

theorem load_v478 : bodyRun.sl.v478 (F := F) c arg2 harg2 arg3 harg3 arg16 arg18 x0 x1 = sO x0 x1 5 0 := by
  simp (disch := decide) only [bodyRun.sl.v478, bodyRun.sl.HS2_3, ↓ View.readCov_skip, ↓ View.readCov_cons_toLoadRect, ↓ View.readCov_fill]
  simp (disch := decide) only [bodyRun.sl.r_20, load_v463, rows_read 0 0 rfl (by decide)]
  rfl

theorem load_v498 : bodyRun.sl.v498 (F := F) c arg2 harg2 arg3 harg3 arg5 harg5 arg7 harg7 arg16 arg17 arg19 arg21 arg22 arg26 x0 x1 x3 x5 = pO x0 x1 4 0 := by
  simp (disch := decide) only [bodyRun.sl.v498, bodyRun.sl.HS3_3, ↓ View.readCov_skip, ↓ View.readCov_cons_toLoadRect, ↓ View.readCov_fill]
  simp (disch := decide) only [bodyRun.sl.r_19, load_v426, load_v428, load_v430]
  rfl

theorem load_v500 : bodyRun.sl.v500 (F := F) c arg2 harg2 arg3 harg3 arg5 harg5 arg7 harg7 arg16 arg21 arg22 arg23 arg26 x0 x1 x3 x5 = alO x0 x1 4 0 := by
  simp (disch := decide) only [bodyRun.sl.v500, bodyRun.sl.HS7_3, ↓ View.readCov_skip, ↓ View.readCov_cons_toLoadRect, ↓ View.readCov_fill]
  simp (disch := decide) only [bodyRun.sl.r_17, load_v426, bodyRun.sl.r_18, load_v428]
  rfl

theorem load_v501 : bodyRun.sl.v501 (F := F) c arg2 harg2 arg3 harg3 arg4 harg4 arg5 harg5 arg7 harg7 arg16 arg17 arg18 arg19 arg20 arg21 arg22 arg23 arg24 arg26 arg27 x0 x1 x2 x3 x5 = (aInit : Vec F S1x144x1024 .f32) := by
  simp (disch := decide) only [bodyRun.sl.v501, bodyRun.sl.HS11_4, bodyRun.sl.HS11_3, bodyRun.sl.HS11_2, bodyRun.sl.HS11_1, ↓ View.readCov_skip, ↓ View.readCov_cons_toLoadRect, ↓ View.readCov_fill]
  rfl

theorem load_v511 : bodyRun.sl.v511 (F := F) c arg2 harg2 arg16 x0 = qT x0 6 := by
  simp (disch := decide) only [bodyRun.sl.v511, bodyRun.sl.HS0_8, ↓ View.readCov_skip, ↓ View.readCov_cons_toLoadRect, ↓ View.readCov_fill]
  simp (disch := decide) only [bodyRun.sl.r_1, bodyRun.sl.v112, rows_read 3072 6 rfl (by decide)]
  rfl

theorem load_v522 : bodyRun.sl.v522 (F := F) c arg2 harg2 arg3 harg3 arg5 harg5 arg7 harg7 arg16 arg21 arg22 arg26 x0 x1 x3 x5 = (mInit : Vec F S1x1x1024 .f32) := by
  simp (disch := decide) only [bodyRun.sl.v522, bodyRun.sl.HS10_7, bodyRun.sl.HS10_6, bodyRun.sl.HS10_5, bodyRun.sl.HS10_4, bodyRun.sl.HS10_3, bodyRun.sl.HS10_2, bodyRun.sl.HS10_1, ↓ View.readCov_skip, ↓ View.readCov_cons_toLoadRect, ↓ View.readCov_fill]
  rfl

theorem load_v524 : bodyRun.sl.v524 (F := F) c arg2 harg2 arg3 harg3 arg7 harg7 arg16 arg21 x0 x1 x5 = mxO x0 x1 6 0 := by
  simp (disch := decide) only [bodyRun.sl.v524, bodyRun.sl.HS5_4, ↓ View.readCov_skip, ↓ View.readCov_cons_toLoadRect, ↓ View.readCov_fill]
  simp (disch := decide) only [load_v511, rows_read 0 0 rfl (by decide)]
  rfl

theorem load_v526 : bodyRun.sl.v526 (F := F) c arg2 harg2 arg3 harg3 arg7 harg7 arg16 arg17 x0 x1 x5 = sO x0 x1 6 0 := by
  simp (disch := decide) only [bodyRun.sl.v526, bodyRun.sl.HS1_4, ↓ View.readCov_skip, ↓ View.readCov_cons_toLoadRect, ↓ View.readCov_fill]
  simp (disch := decide) only [load_v511, rows_read 0 0 rfl (by decide)]
  rfl

theorem load_v546 : bodyRun.sl.v546 (F := F) c arg2 harg2 arg3 harg3 arg5 harg5 arg7 harg7 arg16 arg18 arg20 arg21 arg22 arg26 x0 x1 x3 x5 = pO x0 x1 5 0 := by
  simp (disch := decide) only [bodyRun.sl.v546, bodyRun.sl.HS4_3, ↓ View.readCov_skip, ↓ View.readCov_cons_toLoadRect, ↓ View.readCov_fill]
  simp (disch := decide) only [load_v474, load_v476, load_v478]
  rfl

theorem load_v548 : bodyRun.sl.v548 (F := F) c arg2 harg2 arg3 harg3 arg5 harg5 arg7 harg7 arg16 arg21 arg22 arg24 arg26 x0 x1 x3 x5 = alO x0 x1 5 0 := by
  simp (disch := decide) only [bodyRun.sl.v548, bodyRun.sl.HS8_3, ↓ View.readCov_skip, ↓ View.readCov_cons_toLoadRect, ↓ View.readCov_fill]
  simp (disch := decide) only [load_v474, load_v476]
  rfl

theorem load_v549 : bodyRun.sl.v549 (F := F) c arg2 harg2 arg3 harg3 arg4 harg4 arg5 harg5 arg7 harg7 arg16 arg17 arg18 arg19 arg20 arg21 arg22 arg23 arg24 arg26 arg27 x0 x1 x2 x3 x5 = (aInit : Vec F S1x144x1024 .f32) := by
  simp (disch := decide) only [bodyRun.sl.v549, bodyRun.sl.HS11_5, bodyRun.sl.HS11_4, bodyRun.sl.HS11_3, bodyRun.sl.HS11_2, bodyRun.sl.HS11_1, ↓ View.readCov_skip, ↓ View.readCov_cons_toLoadRect, ↓ View.readCov_fill]
  rfl

theorem load_v559 : bodyRun.sl.v559 (F := F) c arg2 harg2 arg16 x0 = qT x0 7 := by
  simp (disch := decide) only [bodyRun.sl.v559, bodyRun.sl.HS0_8, ↓ View.readCov_skip, ↓ View.readCov_cons_toLoadRect, ↓ View.readCov_fill]
  simp (disch := decide) only [rows_read 3584 7 rfl (by decide)]
  rfl

theorem load_v570 : bodyRun.sl.v570 (F := F) c arg2 harg2 arg3 harg3 arg5 harg5 arg7 harg7 arg16 arg21 arg22 arg26 x0 x1 x3 x5 = (mInit : Vec F S1x1x1024 .f32) := by
  simp (disch := decide) only [bodyRun.sl.v570, bodyRun.sl.HS10_8, bodyRun.sl.HS10_7, bodyRun.sl.HS10_6, bodyRun.sl.HS10_5, bodyRun.sl.HS10_4, bodyRun.sl.HS10_3, bodyRun.sl.HS10_2, bodyRun.sl.HS10_1, ↓ View.readCov_skip, ↓ View.readCov_cons_toLoadRect, ↓ View.readCov_fill]
  rfl

theorem load_v572 : bodyRun.sl.v572 (F := F) c arg2 harg2 arg3 harg3 arg16 arg22 x0 x1 = mxO x0 x1 7 0 := by
  simp (disch := decide) only [bodyRun.sl.v572, bodyRun.sl.HS6_4, ↓ View.readCov_skip, ↓ View.readCov_cons_toLoadRect, ↓ View.readCov_fill]
  simp (disch := decide) only [bodyRun.sl.r_24, load_v559, rows_read 0 0 rfl (by decide)]
  rfl

theorem load_v574 : bodyRun.sl.v574 (F := F) c arg2 harg2 arg3 harg3 arg16 arg18 x0 x1 = sO x0 x1 7 0 := by
  simp (disch := decide) only [bodyRun.sl.v574, bodyRun.sl.HS2_4, ↓ View.readCov_skip, ↓ View.readCov_cons_toLoadRect, ↓ View.readCov_fill]
  simp (disch := decide) only [bodyRun.sl.r_24, load_v559, rows_read 0 0 rfl (by decide)]
  rfl

theorem load_v594 : bodyRun.sl.v594 (F := F) c arg2 harg2 arg3 harg3 arg5 harg5 arg7 harg7 arg16 arg17 arg19 arg21 arg22 arg26 x0 x1 x3 x5 = pO x0 x1 6 0 := by
  simp (disch := decide) only [bodyRun.sl.v594, bodyRun.sl.HS3_4, ↓ View.readCov_skip, ↓ View.readCov_cons_toLoadRect, ↓ View.readCov_fill]
  simp (disch := decide) only [bodyRun.sl.r_23, load_v522, load_v524, load_v526]
  rfl

theorem load_v596 : bodyRun.sl.v596 (F := F) c arg2 harg2 arg3 harg3 arg5 harg5 arg7 harg7 arg16 arg21 arg22 arg23 arg26 x0 x1 x3 x5 = alO x0 x1 6 0 := by
  simp (disch := decide) only [bodyRun.sl.v596, bodyRun.sl.HS7_4, ↓ View.readCov_skip, ↓ View.readCov_cons_toLoadRect, ↓ View.readCov_fill]
  simp (disch := decide) only [bodyRun.sl.r_22, load_v522, bodyRun.sl.r_23, load_v524]
  rfl

theorem load_v597 : bodyRun.sl.v597 (F := F) c arg2 harg2 arg3 harg3 arg4 harg4 arg5 harg5 arg7 harg7 arg16 arg17 arg18 arg19 arg20 arg21 arg22 arg23 arg24 arg26 arg27 x0 x1 x2 x3 x5 = (aInit : Vec F S1x144x1024 .f32) := by
  simp (disch := decide) only [bodyRun.sl.v597, bodyRun.sl.HS11_6, bodyRun.sl.HS11_5, bodyRun.sl.HS11_4, bodyRun.sl.HS11_3, bodyRun.sl.HS11_2, bodyRun.sl.HS11_1, ↓ View.readCov_skip, ↓ View.readCov_cons_toLoadRect, ↓ View.readCov_fill]
  rfl

theorem load_v621 : bodyRun.sl.v621 (F := F) c arg2 harg2 arg3 harg3 arg5 harg5 arg7 harg7 arg16 arg21 arg22 arg26 x0 x1 x3 x5 = mS x0 x1 1 1 := by
  simp (disch := decide) only [bodyRun.sl.v621, bodyRun.sl.HS10_9, bodyRun.sl.HS10_8, bodyRun.sl.HS10_7, bodyRun.sl.HS10_6, bodyRun.sl.HS10_5, bodyRun.sl.HS10_4, bodyRun.sl.HS10_3, ↓ View.readCov_skip, ↓ View.readCov_cons_toLoadRect, ↓ View.readCov_fill]
  simp (disch := decide) only [load_v244, load_v246]
  rfl

theorem load_v623 : bodyRun.sl.v623 (F := F) c arg2 harg2 arg3 harg3 arg7 harg7 arg16 arg21 x0 x1 x5 = mxD x0 x1 x5 1 := by
  simp (disch := decide) only [bodyRun.sl.v623, bodyRun.sl.HS5_5, ↓ View.readCov_skip, ↓ View.readCov_cons_toLoadRect, ↓ View.readCov_fill]
  simp (disch := decide) only [bodyRun.sl.r_25, load_v233, rows_read 512 1 rfl (by decide), whole_read]
  rfl

theorem load_v645 : bodyRun.sl.v645 (F := F) c arg2 harg2 arg3 harg3 arg7 harg7 arg16 arg17 x0 x1 x5 = sD x0 x1 x5 1 := by
  simp (disch := decide) only [bodyRun.sl.v645, bodyRun.sl.HS1_5, ↓ View.readCov_skip, ↓ View.readCov_cons_toLoadRect, ↓ View.readCov_fill]
  simp (disch := decide) only [load_v233, rows_read 512 1 rfl (by decide), whole_read]
  rfl

theorem load_v665 : bodyRun.sl.v665 (F := F) c arg2 harg2 arg3 harg3 arg5 harg5 arg7 harg7 arg16 arg18 arg20 arg21 arg22 arg26 x0 x1 x3 x5 = pO x0 x1 7 0 := by
  simp (disch := decide) only [bodyRun.sl.v665, bodyRun.sl.HS4_4, ↓ View.readCov_skip, ↓ View.readCov_cons_toLoadRect, ↓ View.readCov_fill]
  simp (disch := decide) only [load_v570, load_v572, load_v574]
  rfl

theorem load_v667 : bodyRun.sl.v667 (F := F) c arg2 harg2 arg3 harg3 arg5 harg5 arg7 harg7 arg16 arg21 arg22 arg24 arg26 x0 x1 x3 x5 = alO x0 x1 7 0 := by
  simp (disch := decide) only [bodyRun.sl.v667, bodyRun.sl.HS8_4, ↓ View.readCov_skip, ↓ View.readCov_cons_toLoadRect, ↓ View.readCov_fill]
  simp (disch := decide) only [load_v570, load_v572]
  rfl

theorem load_v668 : bodyRun.sl.v668 (F := F) c arg2 harg2 arg3 harg3 arg4 harg4 arg5 harg5 arg7 harg7 arg16 arg17 arg18 arg19 arg20 arg21 arg22 arg23 arg24 arg26 arg27 x0 x1 x2 x3 x5 = (aInit : Vec F S1x144x1024 .f32) := by
  simp (disch := decide) only [bodyRun.sl.v668, bodyRun.sl.HS11_7, bodyRun.sl.HS11_6, bodyRun.sl.HS11_5, bodyRun.sl.HS11_4, bodyRun.sl.HS11_3, bodyRun.sl.HS11_2, bodyRun.sl.HS11_1, ↓ View.readCov_skip, ↓ View.readCov_cons_toLoadRect, ↓ View.readCov_fill]
  rfl

theorem load_v689 : bodyRun.sl.v689 (F := F) c arg2 harg2 arg3 harg3 arg5 harg5 arg7 harg7 arg16 arg21 arg22 arg26 x0 x1 x3 x5 = mS x0 x1 2 1 := by
  simp (disch := decide) only [bodyRun.sl.v689, bodyRun.sl.HS10_10, bodyRun.sl.HS10_9, bodyRun.sl.HS10_8, bodyRun.sl.HS10_7, bodyRun.sl.HS10_6, bodyRun.sl.HS10_5, bodyRun.sl.HS10_4, ↓ View.readCov_skip, ↓ View.readCov_cons_toLoadRect, ↓ View.readCov_fill]
  simp (disch := decide) only [bodyRun.sl.r_14, load_v330, load_v332]
  rfl

theorem load_v691 : bodyRun.sl.v691 (F := F) c arg2 harg2 arg3 harg3 arg16 arg22 x0 x1 = mxO x0 x1 2 1 := by
  simp (disch := decide) only [bodyRun.sl.v691, bodyRun.sl.HS6_5, ↓ View.readCov_skip, ↓ View.readCov_cons_toLoadRect, ↓ View.readCov_fill]
  simp (disch := decide) only [bodyRun.sl.r_28, load_v319, rows_read 512 1 rfl (by decide)]
  rfl

theorem load_v693 : bodyRun.sl.v693 (F := F) c arg2 harg2 arg3 harg3 arg16 arg18 x0 x1 = sO x0 x1 2 1 := by
  simp (disch := decide) only [bodyRun.sl.v693, bodyRun.sl.HS2_5, ↓ View.readCov_skip, ↓ View.readCov_cons_toLoadRect, ↓ View.readCov_fill]
  simp (disch := decide) only [load_v319, rows_read 512 1 rfl (by decide)]
  rfl

theorem load_v713 : bodyRun.sl.v713 (F := F) c arg2 harg2 arg3 harg3 arg5 harg5 arg7 harg7 arg16 arg17 arg19 arg21 arg22 arg26 x0 x1 x3 x5 = pD x0 x1 x3 x5 1 := by
  simp (disch := decide) only [bodyRun.sl.v713, bodyRun.sl.HS3_5, ↓ View.readCov_skip, ↓ View.readCov_cons_toLoadRect, ↓ View.readCov_fill]
  simp (disch := decide) only [load_v621, load_v623, load_v233, load_v645, whole_read]
  rfl

theorem load_v719 : bodyRun.sl.v719 (F := F) c arg2 harg2 arg3 harg3 arg5 harg5 arg7 harg7 arg16 arg21 arg22 arg25 arg26 x0 x1 x3 x5 = pmD x0 x1 x3 x5 1 := by
  simp (disch := decide) only [bodyRun.sl.v719, bodyRun.sl.HS9_2, ↓ View.readCov_skip, ↓ View.readCov_cons_toLoadRect, ↓ View.readCov_fill]
  simp (disch := decide) only [load_v621, load_v623, load_v233, whole_read]
  rfl

theorem load_v722 : bodyRun.sl.v722 (F := F) c arg2 harg2 arg3 harg3 arg5 harg5 arg7 harg7 arg16 arg21 arg22 arg23 arg26 x0 x1 x3 x5 = alD x0 x1 x3 x5 1 := by
  simp (disch := decide) only [bodyRun.sl.v722, bodyRun.sl.HS7_5, ↓ View.readCov_skip, ↓ View.readCov_cons_toLoadRect, ↓ View.readCov_fill]
  simp (disch := decide) only [bodyRun.sl.r_26, load_v621, bodyRun.sl.r_27, load_v623, load_v233, whole_read]
  rfl

theorem load_v723 : bodyRun.sl.v723 (F := F) c arg2 harg2 arg3 harg3 arg4 harg4 arg5 harg5 arg7 harg7 arg16 arg17 arg18 arg19 arg20 arg21 arg22 arg23 arg24 arg26 arg27 x0 x1 x2 x3 x5 = aS x0 x1 x2 1 1 := by
  simp (disch := decide) only [bodyRun.sl.v723, bodyRun.sl.HS11_8, bodyRun.sl.HS11_7, bodyRun.sl.HS11_6, bodyRun.sl.HS11_5, bodyRun.sl.HS11_4, bodyRun.sl.HS11_3, bodyRun.sl.HS11_2, ↓ View.readCov_skip, ↓ View.readCov_cons_toLoadRect, ↓ View.readCov_fill]
  simp (disch := decide) only [load_v354, load_v356, load_v357, slab_read 0 (by decide)]
  rfl

theorem load_v775 : bodyRun.sl.v775 (F := F) c arg2 harg2 arg3 harg3 arg5 harg5 arg7 harg7 arg16 arg21 arg22 arg26 x0 x1 x3 x5 = mS x0 x1 3 1 := by
  simp (disch := decide) only [bodyRun.sl.v775, bodyRun.sl.HS10_11, bodyRun.sl.HS10_10, bodyRun.sl.HS10_9, bodyRun.sl.HS10_8, bodyRun.sl.HS10_7, bodyRun.sl.HS10_6, bodyRun.sl.HS10_5, ↓ View.readCov_skip, ↓ View.readCov_cons_toLoadRect, ↓ View.readCov_fill]
  simp (disch := decide) only [load_v378, load_v380]
  rfl

theorem load_v777 : bodyRun.sl.v777 (F := F) c arg2 harg2 arg3 harg3 arg7 harg7 arg16 arg21 x0 x1 x5 = mxO x0 x1 3 1 := by
  simp (disch := decide) only [bodyRun.sl.v777, bodyRun.sl.HS5_6, ↓ View.readCov_skip, ↓ View.readCov_cons_toLoadRect, ↓ View.readCov_fill]
  simp (disch := decide) only [load_v367, rows_read 512 1 rfl (by decide)]
  rfl

theorem load_v779 : bodyRun.sl.v779 (F := F) c arg2 harg2 arg3 harg3 arg7 harg7 arg16 arg17 x0 x1 x5 = sO x0 x1 3 1 := by
  simp (disch := decide) only [bodyRun.sl.v779, bodyRun.sl.HS1_6, ↓ View.readCov_skip, ↓ View.readCov_cons_toLoadRect, ↓ View.readCov_fill]
  simp (disch := decide) only [load_v367, rows_read 512 1 rfl (by decide)]
  rfl

theorem load_v799 : bodyRun.sl.v799 (F := F) c arg2 harg2 arg3 harg3 arg5 harg5 arg7 harg7 arg16 arg18 arg20 arg21 arg22 arg26 x0 x1 x3 x5 = pO x0 x1 2 1 := by
  simp (disch := decide) only [bodyRun.sl.v799, bodyRun.sl.HS4_5, ↓ View.readCov_skip, ↓ View.readCov_cons_toLoadRect, ↓ View.readCov_fill]
  simp (disch := decide) only [load_v689, load_v691, load_v693]
  rfl

theorem load_v801 : bodyRun.sl.v801 (F := F) c arg2 harg2 arg3 harg3 arg5 harg5 arg7 harg7 arg16 arg21 arg22 arg24 arg26 x0 x1 x3 x5 = alO x0 x1 2 1 := by
  simp (disch := decide) only [bodyRun.sl.v801, bodyRun.sl.HS8_5, ↓ View.readCov_skip, ↓ View.readCov_cons_toLoadRect, ↓ View.readCov_fill]
  simp (disch := decide) only [load_v689, load_v691]
  rfl

theorem load_v802 : bodyRun.sl.v802 (F := F) c arg2 harg2 arg3 harg3 arg4 harg4 arg5 harg5 arg7 harg7 arg16 arg17 arg18 arg19 arg20 arg21 arg22 arg23 arg24 arg26 arg27 x0 x1 x2 x3 x5 = aS x0 x1 x2 2 1 := by
  simp (disch := decide) only [bodyRun.sl.v802, bodyRun.sl.HS11_8, bodyRun.sl.HS11_7, bodyRun.sl.HS11_6, bodyRun.sl.HS11_5, bodyRun.sl.HS11_4, bodyRun.sl.HS11_3, ↓ View.readCov_skip, ↓ View.readCov_cons_toLoadRect, ↓ View.readCov_fill]
  simp (disch := decide) only [bodyRun.sl.r_16, load_v402, load_v404, load_v405, slab_read 0 (by decide)]
  rfl

theorem load_v823 : bodyRun.sl.v823 (F := F) c arg2 harg2 arg3 harg3 arg5 harg5 arg7 harg7 arg16 arg21 arg22 arg26 x0 x1 x3 x5 = mS x0 x1 4 1 := by
  simp (disch := decide) only [bodyRun.sl.v823, bodyRun.sl.HS10_12, bodyRun.sl.HS10_11, bodyRun.sl.HS10_10, bodyRun.sl.HS10_9, bodyRun.sl.HS10_8, bodyRun.sl.HS10_7, bodyRun.sl.HS10_6, ↓ View.readCov_skip, ↓ View.readCov_cons_toLoadRect, ↓ View.readCov_fill]
  simp (disch := decide) only [bodyRun.sl.r_18, load_v426, load_v428]
  rfl

theorem load_v825 : bodyRun.sl.v825 (F := F) c arg2 harg2 arg3 harg3 arg16 arg22 x0 x1 = mxO x0 x1 4 1 := by
  simp (disch := decide) only [bodyRun.sl.v825, bodyRun.sl.HS6_6, ↓ View.readCov_skip, ↓ View.readCov_cons_toLoadRect, ↓ View.readCov_fill]
  simp (disch := decide) only [bodyRun.sl.r_35, load_v415, rows_read 512 1 rfl (by decide)]
  rfl

theorem load_v827 : bodyRun.sl.v827 (F := F) c arg2 harg2 arg3 harg3 arg16 arg18 x0 x1 = sO x0 x1 4 1 := by
  simp (disch := decide) only [bodyRun.sl.v827, bodyRun.sl.HS2_6, ↓ View.readCov_skip, ↓ View.readCov_cons_toLoadRect, ↓ View.readCov_fill]
  simp (disch := decide) only [load_v415, rows_read 512 1 rfl (by decide)]
  rfl

theorem load_v847 : bodyRun.sl.v847 (F := F) c arg2 harg2 arg3 harg3 arg5 harg5 arg7 harg7 arg16 arg17 arg19 arg21 arg22 arg26 x0 x1 x3 x5 = pO x0 x1 3 1 := by
  simp (disch := decide) only [bodyRun.sl.v847, bodyRun.sl.HS3_6, ↓ View.readCov_skip, ↓ View.readCov_cons_toLoadRect, ↓ View.readCov_fill]
  simp (disch := decide) only [load_v775, load_v777, load_v779]
  rfl

theorem load_v849 : bodyRun.sl.v849 (F := F) c arg2 harg2 arg3 harg3 arg5 harg5 arg7 harg7 arg16 arg21 arg22 arg23 arg26 x0 x1 x3 x5 = alO x0 x1 3 1 := by
  simp (disch := decide) only [bodyRun.sl.v849, bodyRun.sl.HS7_6, ↓ View.readCov_skip, ↓ View.readCov_cons_toLoadRect, ↓ View.readCov_fill]
  simp (disch := decide) only [bodyRun.sl.r_33, load_v775, bodyRun.sl.r_34, load_v777]
  rfl

theorem load_v850 : bodyRun.sl.v850 (F := F) c arg2 harg2 arg3 harg3 arg4 harg4 arg5 harg5 arg7 harg7 arg16 arg17 arg18 arg19 arg20 arg21 arg22 arg23 arg24 arg26 arg27 x0 x1 x2 x3 x5 = aS x0 x1 x2 3 1 := by
  simp (disch := decide) only [bodyRun.sl.v850, bodyRun.sl.HS11_9, bodyRun.sl.HS11_8, bodyRun.sl.HS11_7, bodyRun.sl.HS11_6, bodyRun.sl.HS11_5, bodyRun.sl.HS11_4, ↓ View.readCov_skip, ↓ View.readCov_cons_toLoadRect, ↓ View.readCov_fill]
  simp (disch := decide) only [load_v450, load_v452, load_v453, slab_read 0 (by decide)]
  rfl

theorem load_v871 : bodyRun.sl.v871 (F := F) c arg2 harg2 arg3 harg3 arg5 harg5 arg7 harg7 arg16 arg21 arg22 arg26 x0 x1 x3 x5 = mS x0 x1 5 1 := by
  simp (disch := decide) only [bodyRun.sl.v871, bodyRun.sl.HS10_13, bodyRun.sl.HS10_12, bodyRun.sl.HS10_11, bodyRun.sl.HS10_10, bodyRun.sl.HS10_9, bodyRun.sl.HS10_8, bodyRun.sl.HS10_7, ↓ View.readCov_skip, ↓ View.readCov_cons_toLoadRect, ↓ View.readCov_fill]
  simp (disch := decide) only [load_v474, load_v476]
  rfl

theorem load_v873 : bodyRun.sl.v873 (F := F) c arg2 harg2 arg3 harg3 arg7 harg7 arg16 arg21 x0 x1 x5 = mxO x0 x1 5 1 := by
  simp (disch := decide) only [bodyRun.sl.v873, bodyRun.sl.HS5_7, ↓ View.readCov_skip, ↓ View.readCov_cons_toLoadRect, ↓ View.readCov_fill]
  simp (disch := decide) only [load_v463, rows_read 512 1 rfl (by decide)]
  rfl

theorem load_v875 : bodyRun.sl.v875 (F := F) c arg2 harg2 arg3 harg3 arg7 harg7 arg16 arg17 x0 x1 x5 = sO x0 x1 5 1 := by
  simp (disch := decide) only [bodyRun.sl.v875, bodyRun.sl.HS1_7, ↓ View.readCov_skip, ↓ View.readCov_cons_toLoadRect, ↓ View.readCov_fill]
  simp (disch := decide) only [load_v463, rows_read 512 1 rfl (by decide)]
  rfl

theorem load_v895 : bodyRun.sl.v895 (F := F) c arg2 harg2 arg3 harg3 arg5 harg5 arg7 harg7 arg16 arg18 arg20 arg21 arg22 arg26 x0 x1 x3 x5 = pO x0 x1 4 1 := by
  simp (disch := decide) only [bodyRun.sl.v895, bodyRun.sl.HS4_6, ↓ View.readCov_skip, ↓ View.readCov_cons_toLoadRect, ↓ View.readCov_fill]
  simp (disch := decide) only [load_v823, load_v825, load_v827]
  rfl

theorem load_v897 : bodyRun.sl.v897 (F := F) c arg2 harg2 arg3 harg3 arg5 harg5 arg7 harg7 arg16 arg21 arg22 arg24 arg26 x0 x1 x3 x5 = alO x0 x1 4 1 := by
  simp (disch := decide) only [bodyRun.sl.v897, bodyRun.sl.HS8_6, ↓ View.readCov_skip, ↓ View.readCov_cons_toLoadRect, ↓ View.readCov_fill]
  simp (disch := decide) only [load_v823, load_v825]
  rfl

theorem load_v898 : bodyRun.sl.v898 (F := F) c arg2 harg2 arg3 harg3 arg4 harg4 arg5 harg5 arg7 harg7 arg16 arg17 arg18 arg19 arg20 arg21 arg22 arg23 arg24 arg26 arg27 x0 x1 x2 x3 x5 = aS x0 x1 x2 4 1 := by
  simp (disch := decide) only [bodyRun.sl.v898, bodyRun.sl.HS11_10, bodyRun.sl.HS11_9, bodyRun.sl.HS11_8, bodyRun.sl.HS11_7, bodyRun.sl.HS11_6, bodyRun.sl.HS11_5, ↓ View.readCov_skip, ↓ View.readCov_cons_toLoadRect, ↓ View.readCov_fill]
  simp (disch := decide) only [bodyRun.sl.r_21, load_v498, load_v500, load_v501, slab_read 0 (by decide)]
  rfl

theorem load_v919 : bodyRun.sl.v919 (F := F) c arg2 harg2 arg3 harg3 arg5 harg5 arg7 harg7 arg16 arg21 arg22 arg26 x0 x1 x3 x5 = mS x0 x1 6 1 := by
  simp (disch := decide) only [bodyRun.sl.v919, bodyRun.sl.HS10_14, bodyRun.sl.HS10_13, bodyRun.sl.HS10_12, bodyRun.sl.HS10_11, bodyRun.sl.HS10_10, bodyRun.sl.HS10_9, bodyRun.sl.HS10_8, ↓ View.readCov_skip, ↓ View.readCov_cons_toLoadRect, ↓ View.readCov_fill]
  simp (disch := decide) only [bodyRun.sl.r_23, load_v522, load_v524]
  rfl

theorem load_v921 : bodyRun.sl.v921 (F := F) c arg2 harg2 arg3 harg3 arg16 arg22 x0 x1 = mxO x0 x1 6 1 := by
  simp (disch := decide) only [bodyRun.sl.v921, bodyRun.sl.HS6_7, ↓ View.readCov_skip, ↓ View.readCov_cons_toLoadRect, ↓ View.readCov_fill]
  simp (disch := decide) only [bodyRun.sl.r_40, load_v511, rows_read 512 1 rfl (by decide)]
  rfl

theorem load_v923 : bodyRun.sl.v923 (F := F) c arg2 harg2 arg3 harg3 arg16 arg18 x0 x1 = sO x0 x1 6 1 := by
  simp (disch := decide) only [bodyRun.sl.v923, bodyRun.sl.HS2_7, ↓ View.readCov_skip, ↓ View.readCov_cons_toLoadRect, ↓ View.readCov_fill]
  simp (disch := decide) only [bodyRun.sl.r_40, load_v511, rows_read 512 1 rfl (by decide)]
  rfl

theorem load_v943 : bodyRun.sl.v943 (F := F) c arg2 harg2 arg3 harg3 arg5 harg5 arg7 harg7 arg16 arg17 arg19 arg21 arg22 arg26 x0 x1 x3 x5 = pO x0 x1 5 1 := by
  simp (disch := decide) only [bodyRun.sl.v943, bodyRun.sl.HS3_7, ↓ View.readCov_skip, ↓ View.readCov_cons_toLoadRect, ↓ View.readCov_fill]
  simp (disch := decide) only [bodyRun.sl.r_39, load_v871, load_v873, load_v875]
  rfl

theorem load_v945 : bodyRun.sl.v945 (F := F) c arg2 harg2 arg3 harg3 arg5 harg5 arg7 harg7 arg16 arg21 arg22 arg23 arg26 x0 x1 x3 x5 = alO x0 x1 5 1 := by
  simp (disch := decide) only [bodyRun.sl.v945, bodyRun.sl.HS7_7, ↓ View.readCov_skip, ↓ View.readCov_cons_toLoadRect, ↓ View.readCov_fill]
  simp (disch := decide) only [bodyRun.sl.r_37, load_v871, bodyRun.sl.r_38, load_v873]
  rfl

theorem load_v946 : bodyRun.sl.v946 (F := F) c arg2 harg2 arg3 harg3 arg4 harg4 arg5 harg5 arg7 harg7 arg16 arg17 arg18 arg19 arg20 arg21 arg22 arg23 arg24 arg26 arg27 x0 x1 x2 x3 x5 = aS x0 x1 x2 5 1 := by
  simp (disch := decide) only [bodyRun.sl.v946, bodyRun.sl.HS11_11, bodyRun.sl.HS11_10, bodyRun.sl.HS11_9, bodyRun.sl.HS11_8, bodyRun.sl.HS11_7, bodyRun.sl.HS11_6, ↓ View.readCov_skip, ↓ View.readCov_cons_toLoadRect, ↓ View.readCov_fill]
  simp (disch := decide) only [load_v546, load_v548, load_v549, slab_read 0 (by decide)]
  rfl

theorem load_v967 : bodyRun.sl.v967 (F := F) c arg2 harg2 arg3 harg3 arg5 harg5 arg7 harg7 arg16 arg21 arg22 arg26 x0 x1 x3 x5 = mS x0 x1 7 1 := by
  simp (disch := decide) only [bodyRun.sl.v967, bodyRun.sl.HS10_15, bodyRun.sl.HS10_14, bodyRun.sl.HS10_13, bodyRun.sl.HS10_12, bodyRun.sl.HS10_11, bodyRun.sl.HS10_10, bodyRun.sl.HS10_9, ↓ View.readCov_skip, ↓ View.readCov_cons_toLoadRect, ↓ View.readCov_fill]
  simp (disch := decide) only [load_v570, load_v572]
  rfl

theorem load_v969 : bodyRun.sl.v969 (F := F) c arg2 harg2 arg3 harg3 arg7 harg7 arg16 arg21 x0 x1 x5 = mxO x0 x1 7 1 := by
  simp (disch := decide) only [bodyRun.sl.v969, bodyRun.sl.HS5_8, ↓ View.readCov_skip, ↓ View.readCov_cons_toLoadRect, ↓ View.readCov_fill]
  simp (disch := decide) only [load_v559, rows_read 512 1 rfl (by decide)]
  rfl

theorem load_v971 : bodyRun.sl.v971 (F := F) c arg2 harg2 arg3 harg3 arg7 harg7 arg16 arg17 x0 x1 x5 = sO x0 x1 7 1 := by
  simp (disch := decide) only [bodyRun.sl.v971, bodyRun.sl.HS1_8, ↓ View.readCov_skip, ↓ View.readCov_cons_toLoadRect, ↓ View.readCov_fill]
  simp (disch := decide) only [load_v559, rows_read 512 1 rfl (by decide)]
  rfl

theorem load_v991 : bodyRun.sl.v991 (F := F) c arg2 harg2 arg3 harg3 arg5 harg5 arg7 harg7 arg16 arg18 arg20 arg21 arg22 arg26 x0 x1 x3 x5 = pO x0 x1 6 1 := by
  simp (disch := decide) only [bodyRun.sl.v991, bodyRun.sl.HS4_7, ↓ View.readCov_skip, ↓ View.readCov_cons_toLoadRect, ↓ View.readCov_fill]
  simp (disch := decide) only [load_v919, load_v921, load_v923]
  rfl

theorem load_v993 : bodyRun.sl.v993 (F := F) c arg2 harg2 arg3 harg3 arg5 harg5 arg7 harg7 arg16 arg21 arg22 arg24 arg26 x0 x1 x3 x5 = alO x0 x1 6 1 := by
  simp (disch := decide) only [bodyRun.sl.v993, bodyRun.sl.HS8_7, ↓ View.readCov_skip, ↓ View.readCov_cons_toLoadRect, ↓ View.readCov_fill]
  simp (disch := decide) only [load_v919, load_v921]
  rfl

theorem load_v994 : bodyRun.sl.v994 (F := F) c arg2 harg2 arg3 harg3 arg4 harg4 arg5 harg5 arg7 harg7 arg16 arg17 arg18 arg19 arg20 arg21 arg22 arg23 arg24 arg26 arg27 x0 x1 x2 x3 x5 = aS x0 x1 x2 6 1 := by
  simp (disch := decide) only [bodyRun.sl.v994, bodyRun.sl.HS11_12, bodyRun.sl.HS11_11, bodyRun.sl.HS11_10, bodyRun.sl.HS11_9, bodyRun.sl.HS11_8, bodyRun.sl.HS11_7, ↓ View.readCov_skip, ↓ View.readCov_cons_toLoadRect, ↓ View.readCov_fill]
  simp (disch := decide) only [load_v594, load_v596, load_v597, slab_read 0 (by decide)]
  rfl

theorem load_v1018 : bodyRun.sl.v1018 (F := F) c arg2 harg2 arg3 harg3 arg5 harg5 arg7 harg7 arg16 arg21 arg22 arg26 x0 x1 x3 x5 = mS x0 x1 2 2 := by
  simp (disch := decide) only [bodyRun.sl.v1018, bodyRun.sl.HS10_16, bodyRun.sl.HS10_15, bodyRun.sl.HS10_14, bodyRun.sl.HS10_13, bodyRun.sl.HS10_12, bodyRun.sl.HS10_11, ↓ View.readCov_skip, ↓ View.readCov_cons_toLoadRect, ↓ View.readCov_fill]
  simp (disch := decide) only [load_v689, load_v691]
  rfl

theorem load_v1020 : bodyRun.sl.v1020 (F := F) c arg2 harg2 arg3 harg3 arg7 harg7 arg16 arg22 x0 x1 x5 = mxD x0 x1 x5 2 := by
  simp (disch := decide) only [bodyRun.sl.v1020, bodyRun.sl.HS6_8, ↓ View.readCov_skip, ↓ View.readCov_cons_toLoadRect, ↓ View.readCov_fill]
  simp (disch := decide) only [bodyRun.sl.r_44, load_v319, whole_read, rows_read 1024 2 rfl (by decide)]
  rfl

theorem load_v1042 : bodyRun.sl.v1042 (F := F) c arg2 harg2 arg3 harg3 arg7 harg7 arg16 arg18 x0 x1 x5 = sD x0 x1 x5 2 := by
  simp (disch := decide) only [bodyRun.sl.v1042, bodyRun.sl.HS2_8, ↓ View.readCov_skip, ↓ View.readCov_cons_toLoadRect, ↓ View.readCov_fill]
  simp (disch := decide) only [bodyRun.sl.r_44, load_v319, whole_read, rows_read 1024 2 rfl (by decide)]
  rfl

theorem load_v1062 : bodyRun.sl.v1062 (F := F) c arg2 harg2 arg3 harg3 arg5 harg5 arg7 harg7 arg16 arg17 arg19 arg21 arg22 arg26 x0 x1 x3 x5 = pO x0 x1 7 1 := by
  simp (disch := decide) only [bodyRun.sl.v1062, bodyRun.sl.HS3_8, ↓ View.readCov_skip, ↓ View.readCov_cons_toLoadRect, ↓ View.readCov_fill]
  simp (disch := decide) only [bodyRun.sl.r_43, load_v967, load_v969, load_v971]
  rfl

theorem load_v1064 : bodyRun.sl.v1064 (F := F) c arg2 harg2 arg3 harg3 arg5 harg5 arg7 harg7 arg16 arg21 arg22 arg23 arg26 x0 x1 x3 x5 = alO x0 x1 7 1 := by
  simp (disch := decide) only [bodyRun.sl.v1064, bodyRun.sl.HS7_8, ↓ View.readCov_skip, ↓ View.readCov_cons_toLoadRect, ↓ View.readCov_fill]
  simp (disch := decide) only [bodyRun.sl.r_42, load_v967, bodyRun.sl.r_43, load_v969]
  rfl

theorem load_v1065 : bodyRun.sl.v1065 (F := F) c arg2 harg2 arg3 harg3 arg4 harg4 arg5 harg5 arg7 harg7 arg16 arg17 arg18 arg19 arg20 arg21 arg22 arg23 arg24 arg26 arg27 x0 x1 x2 x3 x5 = aS x0 x1 x2 7 1 := by
  simp (disch := decide) only [bodyRun.sl.v1065, bodyRun.sl.HS11_13, bodyRun.sl.HS11_12, bodyRun.sl.HS11_11, bodyRun.sl.HS11_10, bodyRun.sl.HS11_9, bodyRun.sl.HS11_8, ↓ View.readCov_skip, ↓ View.readCov_cons_toLoadRect, ↓ View.readCov_fill]
  simp (disch := decide) only [load_v665, load_v667, load_v668, slab_read 0 (by decide)]
  rfl

theorem load_v1086 : bodyRun.sl.v1086 (F := F) c arg2 harg2 arg3 harg3 arg5 harg5 arg7 harg7 arg16 arg21 arg22 arg26 x0 x1 x3 x5 = mS x0 x1 3 2 := by
  simp (disch := decide) only [bodyRun.sl.v1086, bodyRun.sl.HS10_17, bodyRun.sl.HS10_16, bodyRun.sl.HS10_15, bodyRun.sl.HS10_14, bodyRun.sl.HS10_13, bodyRun.sl.HS10_12, ↓ View.readCov_skip, ↓ View.readCov_cons_toLoadRect, ↓ View.readCov_fill]
  simp (disch := decide) only [bodyRun.sl.r_34, load_v775, load_v777]
  rfl

theorem load_v1088 : bodyRun.sl.v1088 (F := F) c arg2 harg2 arg3 harg3 arg7 harg7 arg16 arg21 x0 x1 x5 = mxO x0 x1 3 2 := by
  simp (disch := decide) only [bodyRun.sl.v1088, bodyRun.sl.HS5_9, ↓ View.readCov_skip, ↓ View.readCov_cons_toLoadRect, ↓ View.readCov_fill]
  simp (disch := decide) only [load_v367, rows_read 1024 2 rfl (by decide)]
  rfl

theorem load_v1090 : bodyRun.sl.v1090 (F := F) c arg2 harg2 arg3 harg3 arg7 harg7 arg16 arg17 x0 x1 x5 = sO x0 x1 3 2 := by
  simp (disch := decide) only [bodyRun.sl.v1090, bodyRun.sl.HS1_9, ↓ View.readCov_skip, ↓ View.readCov_cons_toLoadRect, ↓ View.readCov_fill]
  simp (disch := decide) only [load_v367, rows_read 1024 2 rfl (by decide)]
  rfl

theorem load_v1110 : bodyRun.sl.v1110 (F := F) c arg2 harg2 arg3 harg3 arg5 harg5 arg7 harg7 arg16 arg18 arg20 arg21 arg22 arg26 x0 x1 x3 x5 = pD x0 x1 x3 x5 2 := by
  simp (disch := decide) only [bodyRun.sl.v1110, bodyRun.sl.HS4_8, ↓ View.readCov_skip, ↓ View.readCov_cons_toLoadRect, ↓ View.readCov_fill]
  simp (disch := decide) only [bodyRun.sl.r_47, load_v1018, load_v1020, load_v319, load_v1042, whole_read]
  rfl

theorem load_v1116 : bodyRun.sl.v1116 (F := F) c arg2 harg2 arg3 harg3 arg5 harg5 arg7 harg7 arg16 arg21 arg22 arg25 arg26 x0 x1 x3 x5 = pmD x0 x1 x3 x5 2 := by
  simp (disch := decide) only [bodyRun.sl.v1116, bodyRun.sl.HS9_3, ↓ View.readCov_skip, ↓ View.readCov_cons_toLoadRect, ↓ View.readCov_fill]
  simp (disch := decide) only [bodyRun.sl.r_46, load_v319, bodyRun.sl.r_48, load_v1018, load_v1020, whole_read]
  rfl

theorem load_v1119 : bodyRun.sl.v1119 (F := F) c arg2 harg2 arg3 harg3 arg5 harg5 arg7 harg7 arg16 arg21 arg22 arg24 arg26 x0 x1 x3 x5 = alD x0 x1 x3 x5 2 := by
  simp (disch := decide) only [bodyRun.sl.v1119, bodyRun.sl.HS8_8, ↓ View.readCov_skip, ↓ View.readCov_cons_toLoadRect, ↓ View.readCov_fill]
  simp (disch := decide) only [bodyRun.sl.r_45, load_v1018, bodyRun.sl.r_47, load_v1020, load_v319, whole_read]
  rfl

theorem load_v1120 : bodyRun.sl.v1120 (F := F) c arg2 harg2 arg3 harg3 arg4 harg4 arg5 harg5 arg7 harg7 arg16 arg17 arg18 arg19 arg20 arg21 arg22 arg23 arg24 arg26 arg27 x0 x1 x2 x3 x5 = aS x0 x1 x2 2 2 := by
  simp (disch := decide) only [bodyRun.sl.v1120, bodyRun.sl.HS11_14, bodyRun.sl.HS11_13, bodyRun.sl.HS11_12, bodyRun.sl.HS11_11, bodyRun.sl.HS11_10, bodyRun.sl.HS11_9, ↓ View.readCov_skip, ↓ View.readCov_cons_toLoadRect, ↓ View.readCov_fill]
  simp (disch := decide) only [load_v799, load_v801, load_v802, slab_read 1 (by decide)]
  rfl

theorem load_v1172 : bodyRun.sl.v1172 (F := F) c arg2 harg2 arg3 harg3 arg5 harg5 arg7 harg7 arg16 arg21 arg22 arg26 x0 x1 x3 x5 = mS x0 x1 4 2 := by
  simp (disch := decide) only [bodyRun.sl.v1172, bodyRun.sl.HS10_18, bodyRun.sl.HS10_17, bodyRun.sl.HS10_16, bodyRun.sl.HS10_15, bodyRun.sl.HS10_14, bodyRun.sl.HS10_13, ↓ View.readCov_skip, ↓ View.readCov_cons_toLoadRect, ↓ View.readCov_fill]
  simp (disch := decide) only [load_v823, load_v825]
  rfl

theorem load_v1174 : bodyRun.sl.v1174 (F := F) c arg2 harg2 arg3 harg3 arg7 harg7 arg16 arg22 x0 x1 x5 = mxO x0 x1 4 2 := by
  simp (disch := decide) only [bodyRun.sl.v1174, bodyRun.sl.HS6_9, ↓ View.readCov_skip, ↓ View.readCov_cons_toLoadRect, ↓ View.readCov_fill]
  simp (disch := decide) only [load_v415, rows_read 1024 2 rfl (by decide)]
  rfl

theorem load_v1176 : bodyRun.sl.v1176 (F := F) c arg2 harg2 arg3 harg3 arg7 harg7 arg16 arg18 x0 x1 x5 = sO x0 x1 4 2 := by
  simp (disch := decide) only [bodyRun.sl.v1176, bodyRun.sl.HS2_9, ↓ View.readCov_skip, ↓ View.readCov_cons_toLoadRect, ↓ View.readCov_fill]
  simp (disch := decide) only [load_v415, rows_read 1024 2 rfl (by decide)]
  rfl

theorem load_v1196 : bodyRun.sl.v1196 (F := F) c arg2 harg2 arg3 harg3 arg5 harg5 arg7 harg7 arg16 arg17 arg19 arg21 arg22 arg26 x0 x1 x3 x5 = pO x0 x1 3 2 := by
  simp (disch := decide) only [bodyRun.sl.v1196, bodyRun.sl.HS3_9, ↓ View.readCov_skip, ↓ View.readCov_cons_toLoadRect, ↓ View.readCov_fill]
  simp (disch := decide) only [load_v1086, load_v1088, load_v1090]
  rfl

theorem load_v1198 : bodyRun.sl.v1198 (F := F) c arg2 harg2 arg3 harg3 arg5 harg5 arg7 harg7 arg16 arg21 arg22 arg23 arg26 x0 x1 x3 x5 = alO x0 x1 3 2 := by
  simp (disch := decide) only [bodyRun.sl.v1198, bodyRun.sl.HS7_9, ↓ View.readCov_skip, ↓ View.readCov_cons_toLoadRect, ↓ View.readCov_fill]
  simp (disch := decide) only [bodyRun.sl.r_51, load_v1086, bodyRun.sl.r_52, load_v1088]
  rfl

theorem load_v1199 : bodyRun.sl.v1199 (F := F) c arg2 harg2 arg3 harg3 arg4 harg4 arg5 harg5 arg7 harg7 arg16 arg17 arg18 arg19 arg20 arg21 arg22 arg23 arg24 arg26 arg27 x0 x1 x2 x3 x5 = aS x0 x1 x2 3 2 := by
  simp (disch := decide) only [bodyRun.sl.v1199, bodyRun.sl.HS11_14, bodyRun.sl.HS11_13, bodyRun.sl.HS11_12, bodyRun.sl.HS11_11, bodyRun.sl.HS11_10, ↓ View.readCov_skip, ↓ View.readCov_cons_toLoadRect, ↓ View.readCov_fill]
  simp (disch := decide) only [bodyRun.sl.r_36, load_v847, load_v849, load_v850, slab_read 1 (by decide)]
  rfl

theorem load_v1220 : bodyRun.sl.v1220 (F := F) c arg2 harg2 arg3 harg3 arg5 harg5 arg7 harg7 arg16 arg21 arg22 arg26 x0 x1 x3 x5 = mS x0 x1 5 2 := by
  simp (disch := decide) only [bodyRun.sl.v1220, bodyRun.sl.HS10_19, bodyRun.sl.HS10_18, bodyRun.sl.HS10_17, bodyRun.sl.HS10_16, bodyRun.sl.HS10_15, bodyRun.sl.HS10_14, ↓ View.readCov_skip, ↓ View.readCov_cons_toLoadRect, ↓ View.readCov_fill]
  simp (disch := decide) only [bodyRun.sl.r_38, load_v871, load_v873]
  rfl

theorem load_v1222 : bodyRun.sl.v1222 (F := F) c arg2 harg2 arg3 harg3 arg7 harg7 arg16 arg21 x0 x1 x5 = mxO x0 x1 5 2 := by
  simp (disch := decide) only [bodyRun.sl.v1222, bodyRun.sl.HS5_10, ↓ View.readCov_skip, ↓ View.readCov_cons_toLoadRect, ↓ View.readCov_fill]
  simp (disch := decide) only [load_v463, rows_read 1024 2 rfl (by decide)]
  rfl

theorem load_v1224 : bodyRun.sl.v1224 (F := F) c arg2 harg2 arg3 harg3 arg7 harg7 arg16 arg17 x0 x1 x5 = sO x0 x1 5 2 := by
  simp (disch := decide) only [bodyRun.sl.v1224, bodyRun.sl.HS1_10, ↓ View.readCov_skip, ↓ View.readCov_cons_toLoadRect, ↓ View.readCov_fill]
  simp (disch := decide) only [load_v463, rows_read 1024 2 rfl (by decide)]
  rfl

theorem load_v1244 : bodyRun.sl.v1244 (F := F) c arg2 harg2 arg3 harg3 arg5 harg5 arg7 harg7 arg16 arg18 arg20 arg21 arg22 arg26 x0 x1 x3 x5 = pO x0 x1 4 2 := by
  simp (disch := decide) only [bodyRun.sl.v1244, bodyRun.sl.HS4_9, ↓ View.readCov_skip, ↓ View.readCov_cons_toLoadRect, ↓ View.readCov_fill]
  simp (disch := decide) only [load_v1172, load_v1174, load_v1176]
  rfl

end

end Cert.KernelIdeal.Attn

end
-- ==== Proof.AttnLoads2.lean ====
module

public import proofs.«01_k».proof.Proof.AttnLoads1
public import Idealize.ShloMosaic.Lib.Pipeline.ReadBack
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD)
variable (arg2 : Memref sig .tc .vmem S4096x128 .bf16) (harg2 : arg2.IsWhole) (arg3 : Memref sig .tc .vmem
  S4096x128 .bf16) (harg3 : arg3.IsWhole) (arg4 : Memref sig .tc .vmem S8x128x512 .bf16) (harg4 :
  arg4.IsWhole) (arg5 : Memref sig .tc .vmem S128x128 .bf16) (harg5 : arg5.IsWhole) (arg6 : Memref sig .tc
  .vmem S128x128 .bf16) (harg6 : arg6.IsWhole) (arg7 : Memref sig .tc .vmem S512x1024 .f32) (harg7 :
  arg7.IsWhole) (arg8 : Memref sig .tc .vmem S4096x128 .bf16) (harg8 : arg8.IsWhole) (arg9 : Memref sig .tc
  .vmem S128x1 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32)
  (harg12 : arg12.IsWhole) (arg13 : Memref sig .tc .vmem S1x64 .f32) (harg13 : arg13.IsWhole) (arg14 : Memref
  sig .tc .smem S1 .i32) (harg14 : arg14.IsWhole) (arg15 : Memref sig .tc .vmem S4096x128 .bf16) (harg15 :
  arg15.IsWhole) (arg16 : Memref sig .tc .vmem S8x128x1024 .bf16) (harg16 : arg16.IsWhole) (arg17 : Memref sig
  .tc .vmem S512x1024 .f32) (harg17 : arg17.IsWhole) (arg18 : Memref sig .tc .vmem S512x1024 .f32) (harg18 :
  arg18.IsWhole) (arg19 : Memref sig .tc .vmem S512x1024 .bf16) (harg19 : arg19.IsWhole) (arg20 : Memref sig
  .tc .vmem S512x1024 .bf16) (harg20 : arg20.IsWhole) (arg21 : Memref sig .tc .vmem S1x1024 .f32) (harg21 :
  arg21.IsWhole) (arg22 : Memref sig .tc .vmem S1x1024 .f32) (harg22 : arg22.IsWhole) (arg23 : Memref sig .tc
  .vmem S1x1024 .f32) (harg23 : arg23.IsWhole) (arg24 : Memref sig .tc .vmem S1x1024 .f32) (harg24 :
  arg24.IsWhole) (arg25 : Memref sig .tc .vmem S128x1024 .bf16) (harg25 : arg25.IsWhole) (arg26 : Memref sig
  .tc .vmem S8x1x1024 .f32) (harg26 : arg26.IsWhole) (arg27 : Memref sig .tc .vmem S8x144x1024 .f32) (harg27 :
  arg27.IsWhole)
variable (x0 : Vec F S4096x128 .bf16) (x1 : Vec F S4096x128 .bf16) (x2 : Vec F S8x128x512 .bf16) (x3 : Vec F
  S128x128 .bf16) (x4 : Vec F S128x128 .bf16) (x5 : Vec F S512x1024 .f32) (x6 : Vec F S4096x128 .bf16) (x7 :
  Vec F S128x1 .f32) (x8 : Vec F S1x64 .f32) (x9 : Vec F S1x64 .f32) (x10 : Vec F S1x64 .f32) (x11 : Vec F
  S1x64 .f32) (x12 : Vec F S1 .i32)

/-! Each load of a scratch buffer, in the order of the body, as the stage whose result it reads. -/

set_option maxHeartbeats 1000000

theorem load_v1246 : bodyRun.sl.v1246 (F := F) c arg2 harg2 arg3 harg3 arg5 harg5 arg7 harg7 arg16 arg21 arg22 arg24 arg26 x0 x1 x3 x5 = alO x0 x1 4 2 := by
  simp (disch := decide) only [bodyRun.sl.v1246, bodyRun.sl.HS8_9, ↓ View.readCov_skip, ↓ View.readCov_cons_toLoadRect, ↓ View.readCov_fill]
  simp (disch := decide) only [load_v1172, load_v1174]
  rfl

theorem load_v1247 : bodyRun.sl.v1247 (F := F) c arg2 harg2 arg3 harg3 arg4 harg4 arg5 harg5 arg7 harg7 arg16 arg17 arg18 arg19 arg20 arg21 arg22 arg23 arg24 arg26 arg27 x0 x1 x2 x3 x5 = aS x0 x1 x2 4 2 := by
  simp (disch := decide) only [bodyRun.sl.v1247, bodyRun.sl.HS11_15, bodyRun.sl.HS11_14, bodyRun.sl.HS11_13, bodyRun.sl.HS11_12, bodyRun.sl.HS11_11, ↓ View.readCov_skip, ↓ View.readCov_cons_toLoadRect, ↓ View.readCov_fill]
  simp (disch := decide) only [load_v895, load_v897, load_v898, slab_read 1 (by decide)]
  rfl

theorem load_v1268 : bodyRun.sl.v1268 (F := F) c arg2 harg2 arg3 harg3 arg5 harg5 arg7 harg7 arg16 arg21 arg22 arg26 x0 x1 x3 x5 = mS x0 x1 6 2 := by
  simp (disch := decide) only [bodyRun.sl.v1268, bodyRun.sl.HS10_20, bodyRun.sl.HS10_19, bodyRun.sl.HS10_18, bodyRun.sl.HS10_17, bodyRun.sl.HS10_16, bodyRun.sl.HS10_15, ↓ View.readCov_skip, ↓ View.readCov_cons_toLoadRect, ↓ View.readCov_fill]
  simp (disch := decide) only [load_v919, load_v921]
  rfl

theorem load_v1270 : bodyRun.sl.v1270 (F := F) c arg2 harg2 arg3 harg3 arg7 harg7 arg16 arg22 x0 x1 x5 = mxO x0 x1 6 2 := by
  simp (disch := decide) only [bodyRun.sl.v1270, bodyRun.sl.HS6_10, ↓ View.readCov_skip, ↓ View.readCov_cons_toLoadRect, ↓ View.readCov_fill]
  simp (disch := decide) only [bodyRun.sl.r_58, load_v511, rows_read 1024 2 rfl (by decide)]
  rfl

theorem load_v1272 : bodyRun.sl.v1272 (F := F) c arg2 harg2 arg3 harg3 arg7 harg7 arg16 arg18 x0 x1 x5 = sO x0 x1 6 2 := by
  simp (disch := decide) only [bodyRun.sl.v1272, bodyRun.sl.HS2_10, ↓ View.readCov_skip, ↓ View.readCov_cons_toLoadRect, ↓ View.readCov_fill]
  simp (disch := decide) only [load_v511, rows_read 1024 2 rfl (by decide)]
  rfl

theorem load_v1292 : bodyRun.sl.v1292 (F := F) c arg2 harg2 arg3 harg3 arg5 harg5 arg7 harg7 arg16 arg17 arg19 arg21 arg22 arg26 x0 x1 x3 x5 = pO x0 x1 5 2 := by
  simp (disch := decide) only [bodyRun.sl.v1292, bodyRun.sl.HS3_10, ↓ View.readCov_skip, ↓ View.readCov_cons_toLoadRect, ↓ View.readCov_fill]
  simp (disch := decide) only [load_v1220, load_v1222, load_v1224]
  rfl

theorem load_v1294 : bodyRun.sl.v1294 (F := F) c arg2 harg2 arg3 harg3 arg5 harg5 arg7 harg7 arg16 arg21 arg22 arg23 arg26 x0 x1 x3 x5 = alO x0 x1 5 2 := by
  simp (disch := decide) only [bodyRun.sl.v1294, bodyRun.sl.HS7_10, ↓ View.readCov_skip, ↓ View.readCov_cons_toLoadRect, ↓ View.readCov_fill]
  simp (disch := decide) only [bodyRun.sl.r_56, load_v1220, bodyRun.sl.r_57, load_v1222]
  rfl

theorem load_v1295 : bodyRun.sl.v1295 (F := F) c arg2 harg2 arg3 harg3 arg4 harg4 arg5 harg5 arg7 harg7 arg16 arg17 arg18 arg19 arg20 arg21 arg22 arg23 arg24 arg26 arg27 x0 x1 x2 x3 x5 = aS x0 x1 x2 5 2 := by
  simp (disch := decide) only [bodyRun.sl.v1295, bodyRun.sl.HS11_16, bodyRun.sl.HS11_15, bodyRun.sl.HS11_14, bodyRun.sl.HS11_13, bodyRun.sl.HS11_12, ↓ View.readCov_skip, ↓ View.readCov_cons_toLoadRect, ↓ View.readCov_fill]
  simp (disch := decide) only [bodyRun.sl.r_41, load_v943, load_v945, load_v946, slab_read 1 (by decide)]
  rfl

theorem load_v1316 : bodyRun.sl.v1316 (F := F) c arg2 harg2 arg3 harg3 arg5 harg5 arg7 harg7 arg16 arg21 arg22 arg26 x0 x1 x3 x5 = mS x0 x1 7 2 := by
  simp (disch := decide) only [bodyRun.sl.v1316, bodyRun.sl.HS10_21, bodyRun.sl.HS10_20, bodyRun.sl.HS10_19, bodyRun.sl.HS10_18, bodyRun.sl.HS10_17, bodyRun.sl.HS10_16, ↓ View.readCov_skip, ↓ View.readCov_cons_toLoadRect, ↓ View.readCov_fill]
  simp (disch := decide) only [bodyRun.sl.r_43, load_v967, load_v969]
  rfl

theorem load_v1318 : bodyRun.sl.v1318 (F := F) c arg2 harg2 arg3 harg3 arg7 harg7 arg16 arg21 x0 x1 x5 = mxO x0 x1 7 2 := by
  simp (disch := decide) only [bodyRun.sl.v1318, bodyRun.sl.HS5_11, ↓ View.readCov_skip, ↓ View.readCov_cons_toLoadRect, ↓ View.readCov_fill]
  simp (disch := decide) only [load_v559, rows_read 1024 2 rfl (by decide)]
  rfl

theorem load_v1320 : bodyRun.sl.v1320 (F := F) c arg2 harg2 arg3 harg3 arg7 harg7 arg16 arg17 x0 x1 x5 = sO x0 x1 7 2 := by
  simp (disch := decide) only [bodyRun.sl.v1320, bodyRun.sl.HS1_11, ↓ View.readCov_skip, ↓ View.readCov_cons_toLoadRect, ↓ View.readCov_fill]
  simp (disch := decide) only [load_v559, rows_read 1024 2 rfl (by decide)]
  rfl

theorem load_v1340 : bodyRun.sl.v1340 (F := F) c arg2 harg2 arg3 harg3 arg5 harg5 arg7 harg7 arg16 arg18 arg20 arg21 arg22 arg26 x0 x1 x3 x5 = pO x0 x1 6 2 := by
  simp (disch := decide) only [bodyRun.sl.v1340, bodyRun.sl.HS4_10, ↓ View.readCov_skip, ↓ View.readCov_cons_toLoadRect, ↓ View.readCov_fill]
  simp (disch := decide) only [load_v1268, load_v1270, load_v1272]
  rfl

theorem load_v1342 : bodyRun.sl.v1342 (F := F) c arg2 harg2 arg3 harg3 arg5 harg5 arg7 harg7 arg16 arg21 arg22 arg24 arg26 x0 x1 x3 x5 = alO x0 x1 6 2 := by
  simp (disch := decide) only [bodyRun.sl.v1342, bodyRun.sl.HS8_10, ↓ View.readCov_skip, ↓ View.readCov_cons_toLoadRect, ↓ View.readCov_fill]
  simp (disch := decide) only [load_v1268, load_v1270]
  rfl

theorem load_v1343 : bodyRun.sl.v1343 (F := F) c arg2 harg2 arg3 harg3 arg4 harg4 arg5 harg5 arg7 harg7 arg16 arg17 arg18 arg19 arg20 arg21 arg22 arg23 arg24 arg26 arg27 x0 x1 x2 x3 x5 = aS x0 x1 x2 6 2 := by
  simp (disch := decide) only [bodyRun.sl.v1343, bodyRun.sl.HS11_17, bodyRun.sl.HS11_16, bodyRun.sl.HS11_15, bodyRun.sl.HS11_14, bodyRun.sl.HS11_13, ↓ View.readCov_skip, ↓ View.readCov_cons_toLoadRect, ↓ View.readCov_fill]
  simp (disch := decide) only [load_v991, load_v993, load_v994, slab_read 1 (by decide)]
  rfl

theorem load_v1367 : bodyRun.sl.v1367 (F := F) c arg2 harg2 arg3 harg3 arg5 harg5 arg7 harg7 arg16 arg21 arg22 arg26 x0 x1 x3 x5 = mS x0 x1 3 3 := by
  simp (disch := decide) only [bodyRun.sl.v1367, bodyRun.sl.HS10_22, bodyRun.sl.HS10_21, bodyRun.sl.HS10_20, bodyRun.sl.HS10_19, bodyRun.sl.HS10_18, ↓ View.readCov_skip, ↓ View.readCov_cons_toLoadRect, ↓ View.readCov_fill]
  simp (disch := decide) only [bodyRun.sl.r_52, load_v1086, load_v1088]
  rfl

theorem load_v1369 : bodyRun.sl.v1369 (F := F) c arg2 harg2 arg3 harg3 arg7 harg7 arg16 arg22 x0 x1 x5 = mxD x0 x1 x5 3 := by
  simp (disch := decide) only [bodyRun.sl.v1369, bodyRun.sl.HS6_11, ↓ View.readCov_skip, ↓ View.readCov_cons_toLoadRect, ↓ View.readCov_fill]
  simp (disch := decide) only [bodyRun.sl.r_63, bodyRun.sl.r_64, load_v367, bodyRun.sl.cst_986, whole_read, rows_read 1536 3 rfl (by decide)]
  rfl

theorem load_v1391 : bodyRun.sl.v1391 (F := F) c arg2 harg2 arg3 harg3 arg7 harg7 arg16 arg18 x0 x1 x5 = sD x0 x1 x5 3 := by
  simp (disch := decide) only [bodyRun.sl.v1391, bodyRun.sl.HS2_11, ↓ View.readCov_skip, ↓ View.readCov_cons_toLoadRect, ↓ View.readCov_fill]
  simp (disch := decide) only [bodyRun.sl.r_63, bodyRun.sl.r_64, load_v367, bodyRun.sl.cst_986, whole_read, rows_read 1536 3 rfl (by decide)]
  rfl

theorem load_v1411 : bodyRun.sl.v1411 (F := F) c arg2 harg2 arg3 harg3 arg5 harg5 arg7 harg7 arg16 arg17 arg19 arg21 arg22 arg26 x0 x1 x3 x5 = pO x0 x1 7 2 := by
  simp (disch := decide) only [bodyRun.sl.v1411, bodyRun.sl.HS3_11, ↓ View.readCov_skip, ↓ View.readCov_cons_toLoadRect, ↓ View.readCov_fill]
  simp (disch := decide) only [bodyRun.sl.r_62, load_v1316, load_v1318, load_v1320]
  rfl

theorem load_v1413 : bodyRun.sl.v1413 (F := F) c arg2 harg2 arg3 harg3 arg5 harg5 arg7 harg7 arg16 arg21 arg22 arg23 arg26 x0 x1 x3 x5 = alO x0 x1 7 2 := by
  simp (disch := decide) only [bodyRun.sl.v1413, bodyRun.sl.HS7_11, ↓ View.readCov_skip, ↓ View.readCov_cons_toLoadRect, ↓ View.readCov_fill]
  simp (disch := decide) only [bodyRun.sl.r_60, load_v1316, bodyRun.sl.r_61, load_v1318]
  rfl

theorem load_v1414 : bodyRun.sl.v1414 (F := F) c arg2 harg2 arg3 harg3 arg4 harg4 arg5 harg5 arg7 harg7 arg16 arg17 arg18 arg19 arg20 arg21 arg22 arg23 arg24 arg26 arg27 x0 x1 x2 x3 x5 = aS x0 x1 x2 7 2 := by
  simp (disch := decide) only [bodyRun.sl.v1414, bodyRun.sl.HS11_18, bodyRun.sl.HS11_17, bodyRun.sl.HS11_16, bodyRun.sl.HS11_15, bodyRun.sl.HS11_14, ↓ View.readCov_skip, ↓ View.readCov_cons_toLoadRect, ↓ View.readCov_fill]
  simp (disch := decide) only [bodyRun.sl.r_49, load_v1062, bodyRun.sl.r_50, load_v1064, load_v1065, slab_read 1 (by decide)]
  rfl

theorem load_v1435 : bodyRun.sl.v1435 (F := F) c arg2 harg2 arg3 harg3 arg5 harg5 arg7 harg7 arg16 arg21 arg22 arg26 x0 x1 x3 x5 = mS x0 x1 4 3 := by
  simp (disch := decide) only [bodyRun.sl.v1435, bodyRun.sl.HS10_23, bodyRun.sl.HS10_22, bodyRun.sl.HS10_21, bodyRun.sl.HS10_20, bodyRun.sl.HS10_19, ↓ View.readCov_skip, ↓ View.readCov_cons_toLoadRect, ↓ View.readCov_fill]
  simp (disch := decide) only [load_v1172, load_v1174]
  rfl

theorem load_v1437 : bodyRun.sl.v1437 (F := F) c arg2 harg2 arg3 harg3 arg7 harg7 arg16 arg21 x0 x1 x5 = mxO x0 x1 4 3 := by
  simp (disch := decide) only [bodyRun.sl.v1437, bodyRun.sl.HS5_12, ↓ View.readCov_skip, ↓ View.readCov_cons_toLoadRect, ↓ View.readCov_fill]
  simp (disch := decide) only [load_v415, rows_read 1536 3 rfl (by decide)]
  rfl

theorem load_v1439 : bodyRun.sl.v1439 (F := F) c arg2 harg2 arg3 harg3 arg7 harg7 arg16 arg17 x0 x1 x5 = sO x0 x1 4 3 := by
  simp (disch := decide) only [bodyRun.sl.v1439, bodyRun.sl.HS1_12, ↓ View.readCov_skip, ↓ View.readCov_cons_toLoadRect, ↓ View.readCov_fill]
  simp (disch := decide) only [load_v415, rows_read 1536 3 rfl (by decide)]
  rfl

theorem load_v1459 : bodyRun.sl.v1459 (F := F) c arg2 harg2 arg3 harg3 arg5 harg5 arg7 harg7 arg16 arg18 arg20 arg21 arg22 arg26 x0 x1 x3 x5 = pD x0 x1 x3 x5 3 := by
  simp (disch := decide) only [bodyRun.sl.v1459, bodyRun.sl.HS4_11, ↓ View.readCov_skip, ↓ View.readCov_cons_toLoadRect, ↓ View.readCov_fill]
  simp (disch := decide) only [bodyRun.sl.r_66, load_v1367, load_v1369, load_v367, load_v1391, whole_read]
  rfl

theorem load_v1465 : bodyRun.sl.v1465 (F := F) c arg2 harg2 arg3 harg3 arg5 harg5 arg7 harg7 arg16 arg21 arg22 arg25 arg26 x0 x1 x3 x5 = pmD x0 x1 x3 x5 3 := by
  simp (disch := decide) only [bodyRun.sl.v1465, bodyRun.sl.HS9_4, ↓ View.readCov_skip, ↓ View.readCov_cons_toLoadRect, ↓ View.readCov_fill]
  simp (disch := decide) only [bodyRun.sl.r_67, load_v1367, load_v1369, load_v367, whole_read]
  rfl

theorem load_v1468 : bodyRun.sl.v1468 (F := F) c arg2 harg2 arg3 harg3 arg5 harg5 arg7 harg7 arg16 arg21 arg22 arg24 arg26 x0 x1 x3 x5 = alD x0 x1 x3 x5 3 := by
  simp (disch := decide) only [bodyRun.sl.v1468, bodyRun.sl.HS8_11, ↓ View.readCov_skip, ↓ View.readCov_cons_toLoadRect, ↓ View.readCov_fill]
  simp (disch := decide) only [bodyRun.sl.r_65, load_v1367, bodyRun.sl.r_66, load_v1369, load_v367, whole_read]
  rfl

theorem load_v1469 : bodyRun.sl.v1469 (F := F) c arg2 harg2 arg3 harg3 arg4 harg4 arg5 harg5 arg7 harg7 arg16 arg17 arg18 arg19 arg20 arg21 arg22 arg23 arg24 arg26 arg27 x0 x1 x2 x3 x5 = aS x0 x1 x2 3 3 := by
  simp (disch := decide) only [bodyRun.sl.v1469, bodyRun.sl.HS11_19, bodyRun.sl.HS11_18, bodyRun.sl.HS11_17, bodyRun.sl.HS11_16, bodyRun.sl.HS11_15, ↓ View.readCov_skip, ↓ View.readCov_cons_toLoadRect, ↓ View.readCov_fill]
  simp (disch := decide) only [bodyRun.sl.r_54, load_v1196, bodyRun.sl.r_55, load_v1198, load_v1199, slab_read 2 (by decide)]
  rfl

theorem load_v1521 : bodyRun.sl.v1521 (F := F) c arg2 harg2 arg3 harg3 arg5 harg5 arg7 harg7 arg16 arg21 arg22 arg26 x0 x1 x3 x5 = mS x0 x1 5 3 := by
  simp (disch := decide) only [bodyRun.sl.v1521, bodyRun.sl.HS10_24, bodyRun.sl.HS10_23, bodyRun.sl.HS10_22, bodyRun.sl.HS10_21, bodyRun.sl.HS10_20, ↓ View.readCov_skip, ↓ View.readCov_cons_toLoadRect, ↓ View.readCov_fill]
  simp (disch := decide) only [bodyRun.sl.r_57, load_v1220, load_v1222]
  rfl

theorem load_v1523 : bodyRun.sl.v1523 (F := F) c arg2 harg2 arg3 harg3 arg7 harg7 arg16 arg22 x0 x1 x5 = mxO x0 x1 5 3 := by
  simp (disch := decide) only [bodyRun.sl.v1523, bodyRun.sl.HS6_12, ↓ View.readCov_skip, ↓ View.readCov_cons_toLoadRect, ↓ View.readCov_fill]
  simp (disch := decide) only [load_v463, rows_read 1536 3 rfl (by decide)]
  rfl

theorem load_v1525 : bodyRun.sl.v1525 (F := F) c arg2 harg2 arg3 harg3 arg7 harg7 arg16 arg18 x0 x1 x5 = sO x0 x1 5 3 := by
  simp (disch := decide) only [bodyRun.sl.v1525, bodyRun.sl.HS2_12, ↓ View.readCov_skip, ↓ View.readCov_cons_toLoadRect, ↓ View.readCov_fill]
  simp (disch := decide) only [load_v463, rows_read 1536 3 rfl (by decide)]
  rfl

theorem load_v1545 : bodyRun.sl.v1545 (F := F) c arg2 harg2 arg3 harg3 arg5 harg5 arg7 harg7 arg16 arg17 arg19 arg21 arg22 arg26 x0 x1 x3 x5 = pO x0 x1 4 3 := by
  simp (disch := decide) only [bodyRun.sl.v1545, bodyRun.sl.HS3_12, ↓ View.readCov_skip, ↓ View.readCov_cons_toLoadRect, ↓ View.readCov_fill]
  simp (disch := decide) only [load_v1435, load_v1437, load_v1439]
  rfl

theorem load_v1547 : bodyRun.sl.v1547 (F := F) c arg2 harg2 arg3 harg3 arg5 harg5 arg7 harg7 arg16 arg21 arg22 arg23 arg26 x0 x1 x3 x5 = alO x0 x1 4 3 := by
  simp (disch := decide) only [bodyRun.sl.v1547, bodyRun.sl.HS7_12, ↓ View.readCov_skip, ↓ View.readCov_cons_toLoadRect, ↓ View.readCov_fill]
  simp (disch := decide) only [bodyRun.sl.r_69, load_v1435, load_v1437]
  rfl

theorem load_v1548 : bodyRun.sl.v1548 (F := F) c arg2 harg2 arg3 harg3 arg4 harg4 arg5 harg5 arg7 harg7 arg16 arg17 arg18 arg19 arg20 arg21 arg22 arg23 arg24 arg26 arg27 x0 x1 x2 x3 x5 = aS x0 x1 x2 4 3 := by
  simp (disch := decide) only [bodyRun.sl.v1548, bodyRun.sl.HS11_19, bodyRun.sl.HS11_18, bodyRun.sl.HS11_17, bodyRun.sl.HS11_16, ↓ View.readCov_skip, ↓ View.readCov_cons_toLoadRect, ↓ View.readCov_fill]
  simp (disch := decide) only [load_v1244, load_v1246, load_v1247, slab_read 2 (by decide)]
  rfl

theorem load_v1569 : bodyRun.sl.v1569 (F := F) c arg2 harg2 arg3 harg3 arg5 harg5 arg7 harg7 arg16 arg21 arg22 arg26 x0 x1 x3 x5 = mS x0 x1 6 3 := by
  simp (disch := decide) only [bodyRun.sl.v1569, bodyRun.sl.HS10_25, bodyRun.sl.HS10_24, bodyRun.sl.HS10_23, bodyRun.sl.HS10_22, bodyRun.sl.HS10_21, ↓ View.readCov_skip, ↓ View.readCov_cons_toLoadRect, ↓ View.readCov_fill]
  simp (disch := decide) only [load_v1268, load_v1270]
  rfl

theorem load_v1571 : bodyRun.sl.v1571 (F := F) c arg2 harg2 arg3 harg3 arg7 harg7 arg16 arg21 x0 x1 x5 = mxO x0 x1 6 3 := by
  simp (disch := decide) only [bodyRun.sl.v1571, bodyRun.sl.HS5_13, ↓ View.readCov_skip, ↓ View.readCov_cons_toLoadRect, ↓ View.readCov_fill]
  simp (disch := decide) only [load_v511, rows_read 1536 3 rfl (by decide)]
  rfl

theorem load_v1573 : bodyRun.sl.v1573 (F := F) c arg2 harg2 arg3 harg3 arg7 harg7 arg16 arg17 x0 x1 x5 = sO x0 x1 6 3 := by
  simp (disch := decide) only [bodyRun.sl.v1573, bodyRun.sl.HS1_13, ↓ View.readCov_skip, ↓ View.readCov_cons_toLoadRect, ↓ View.readCov_fill]
  simp (disch := decide) only [load_v511, rows_read 1536 3 rfl (by decide)]
  rfl

theorem load_v1593 : bodyRun.sl.v1593 (F := F) c arg2 harg2 arg3 harg3 arg5 harg5 arg7 harg7 arg16 arg18 arg20 arg21 arg22 arg26 x0 x1 x3 x5 = pO x0 x1 5 3 := by
  simp (disch := decide) only [bodyRun.sl.v1593, bodyRun.sl.HS4_12, ↓ View.readCov_skip, ↓ View.readCov_cons_toLoadRect, ↓ View.readCov_fill]
  simp (disch := decide) only [bodyRun.sl.r_72, load_v1521, load_v1523, load_v1525]
  rfl

theorem load_v1595 : bodyRun.sl.v1595 (F := F) c arg2 harg2 arg3 harg3 arg5 harg5 arg7 harg7 arg16 arg21 arg22 arg24 arg26 x0 x1 x3 x5 = alO x0 x1 5 3 := by
  simp (disch := decide) only [bodyRun.sl.v1595, bodyRun.sl.HS8_12, ↓ View.readCov_skip, ↓ View.readCov_cons_toLoadRect, ↓ View.readCov_fill]
  simp (disch := decide) only [bodyRun.sl.r_72, load_v1521, load_v1523]
  rfl

theorem load_v1596 : bodyRun.sl.v1596 (F := F) c arg2 harg2 arg3 harg3 arg4 harg4 arg5 harg5 arg7 harg7 arg16 arg17 arg18 arg19 arg20 arg21 arg22 arg23 arg24 arg26 arg27 x0 x1 x2 x3 x5 = aS x0 x1 x2 5 3 := by
  simp (disch := decide) only [bodyRun.sl.v1596, bodyRun.sl.HS11_20, bodyRun.sl.HS11_19, bodyRun.sl.HS11_18, bodyRun.sl.HS11_17, ↓ View.readCov_skip, ↓ View.readCov_cons_toLoadRect, ↓ View.readCov_fill]
  simp (disch := decide) only [bodyRun.sl.r_59, load_v1292, load_v1294, load_v1295, slab_read 2 (by decide)]
  rfl

theorem load_v1617 : bodyRun.sl.v1617 (F := F) c arg2 harg2 arg3 harg3 arg5 harg5 arg7 harg7 arg16 arg21 arg22 arg26 x0 x1 x3 x5 = mS x0 x1 7 3 := by
  simp (disch := decide) only [bodyRun.sl.v1617, bodyRun.sl.HS10_26, bodyRun.sl.HS10_25, bodyRun.sl.HS10_24, bodyRun.sl.HS10_23, bodyRun.sl.HS10_22, ↓ View.readCov_skip, ↓ View.readCov_cons_toLoadRect, ↓ View.readCov_fill]
  simp (disch := decide) only [bodyRun.sl.r_61, load_v1316, load_v1318]
  rfl

theorem load_v1619 : bodyRun.sl.v1619 (F := F) c arg2 harg2 arg3 harg3 arg7 harg7 arg16 arg22 x0 x1 x5 = mxO x0 x1 7 3 := by
  simp (disch := decide) only [bodyRun.sl.v1619, bodyRun.sl.HS6_13, ↓ View.readCov_skip, ↓ View.readCov_cons_toLoadRect, ↓ View.readCov_fill]
  simp (disch := decide) only [bodyRun.sl.r_75, load_v559, rows_read 1536 3 rfl (by decide)]
  rfl

theorem load_v1621 : bodyRun.sl.v1621 (F := F) c arg2 harg2 arg3 harg3 arg7 harg7 arg16 arg18 x0 x1 x5 = sO x0 x1 7 3 := by
  simp (disch := decide) only [bodyRun.sl.v1621, bodyRun.sl.HS2_13, ↓ View.readCov_skip, ↓ View.readCov_cons_toLoadRect, ↓ View.readCov_fill]
  simp (disch := decide) only [load_v559, rows_read 1536 3 rfl (by decide)]
  rfl

theorem load_v1641 : bodyRun.sl.v1641 (F := F) c arg2 harg2 arg3 harg3 arg5 harg5 arg7 harg7 arg16 arg17 arg19 arg21 arg22 arg26 x0 x1 x3 x5 = pO x0 x1 6 3 := by
  simp (disch := decide) only [bodyRun.sl.v1641, bodyRun.sl.HS3_13, ↓ View.readCov_skip, ↓ View.readCov_cons_toLoadRect, ↓ View.readCov_fill]
  simp (disch := decide) only [load_v1569, load_v1571, load_v1573]
  rfl

theorem load_v1643 : bodyRun.sl.v1643 (F := F) c arg2 harg2 arg3 harg3 arg5 harg5 arg7 harg7 arg16 arg21 arg22 arg23 arg26 x0 x1 x3 x5 = alO x0 x1 6 3 := by
  simp (disch := decide) only [bodyRun.sl.v1643, bodyRun.sl.HS7_13, ↓ View.readCov_skip, ↓ View.readCov_cons_toLoadRect, ↓ View.readCov_fill]
  simp (disch := decide) only [bodyRun.sl.r_74, load_v1569, load_v1571]
  rfl

theorem load_v1644 : bodyRun.sl.v1644 (F := F) c arg2 harg2 arg3 harg3 arg4 harg4 arg5 harg5 arg7 harg7 arg16 arg17 arg18 arg19 arg20 arg21 arg22 arg23 arg24 arg26 arg27 x0 x1 x2 x3 x5 = aS x0 x1 x2 6 3 := by
  simp (disch := decide) only [bodyRun.sl.v1644, bodyRun.sl.HS11_21, bodyRun.sl.HS11_20, bodyRun.sl.HS11_19, bodyRun.sl.HS11_18, ↓ View.readCov_skip, ↓ View.readCov_cons_toLoadRect, ↓ View.readCov_fill]
  simp (disch := decide) only [load_v1340, load_v1342, load_v1343, slab_read 2 (by decide)]
  rfl

theorem load_v1668 : bodyRun.sl.v1668 (F := F) c arg2 harg2 arg3 harg3 arg5 harg5 arg7 harg7 arg16 arg21 arg22 arg26 x0 x1 x3 x5 = mS x0 x1 4 4 := by
  simp (disch := decide) only [bodyRun.sl.v1668, bodyRun.sl.HS10_27, bodyRun.sl.HS10_26, bodyRun.sl.HS10_25, bodyRun.sl.HS10_24, ↓ View.readCov_skip, ↓ View.readCov_cons_toLoadRect, ↓ View.readCov_fill]
  simp (disch := decide) only [load_v1435, load_v1437]
  rfl

theorem load_v1670 : bodyRun.sl.v1670 (F := F) c arg2 harg2 arg3 harg3 arg7 harg7 arg16 arg21 x0 x1 x5 = mxD x0 x1 x5 4 := by
  simp (disch := decide) only [bodyRun.sl.v1670, bodyRun.sl.HS5_14, ↓ View.readCov_skip, ↓ View.readCov_cons_toLoadRect, ↓ View.readCov_fill]
  simp (disch := decide) only [load_v415, rows_read 2048 4 rfl (by decide), whole_read]
  rfl

theorem load_v1692 : bodyRun.sl.v1692 (F := F) c arg2 harg2 arg3 harg3 arg7 harg7 arg16 arg17 x0 x1 x5 = sD x0 x1 x5 4 := by
  simp (disch := decide) only [bodyRun.sl.v1692, bodyRun.sl.HS1_14, ↓ View.readCov_skip, ↓ View.readCov_cons_toLoadRect, ↓ View.readCov_fill]
  simp (disch := decide) only [load_v415, rows_read 2048 4 rfl (by decide), whole_read]
  rfl

theorem load_v1712 : bodyRun.sl.v1712 (F := F) c arg2 harg2 arg3 harg3 arg5 harg5 arg7 harg7 arg16 arg18 arg20 arg21 arg22 arg26 x0 x1 x3 x5 = pO x0 x1 7 3 := by
  simp (disch := decide) only [bodyRun.sl.v1712, bodyRun.sl.HS4_13, ↓ View.readCov_skip, ↓ View.readCov_cons_toLoadRect, ↓ View.readCov_fill]
  simp (disch := decide) only [load_v1617, load_v1619, load_v1621]
  rfl

theorem load_v1714 : bodyRun.sl.v1714 (F := F) c arg2 harg2 arg3 harg3 arg5 harg5 arg7 harg7 arg16 arg21 arg22 arg24 arg26 x0 x1 x3 x5 = alO x0 x1 7 3 := by
  simp (disch := decide) only [bodyRun.sl.v1714, bodyRun.sl.HS8_13, ↓ View.readCov_skip, ↓ View.readCov_cons_toLoadRect, ↓ View.readCov_fill]
  simp (disch := decide) only [load_v1617, load_v1619]
  rfl

theorem load_v1715 : bodyRun.sl.v1715 (F := F) c arg2 harg2 arg3 harg3 arg4 harg4 arg5 harg5 arg7 harg7 arg16 arg17 arg18 arg19 arg20 arg21 arg22 arg23 arg24 arg26 arg27 x0 x1 x2 x3 x5 = aS x0 x1 x2 7 3 := by
  simp (disch := decide) only [bodyRun.sl.v1715, bodyRun.sl.HS11_22, bodyRun.sl.HS11_21, bodyRun.sl.HS11_20, bodyRun.sl.HS11_19, ↓ View.readCov_skip, ↓ View.readCov_cons_toLoadRect, ↓ View.readCov_fill]
  simp (disch := decide) only [bodyRun.sl.r_68, load_v1411, load_v1413, load_v1414, slab_read 2 (by decide)]
  rfl

theorem load_v1736 : bodyRun.sl.v1736 (F := F) c arg2 harg2 arg3 harg3 arg5 harg5 arg7 harg7 arg16 arg21 arg22 arg26 x0 x1 x3 x5 = mS x0 x1 5 4 := by
  simp (disch := decide) only [bodyRun.sl.v1736, bodyRun.sl.HS10_28, bodyRun.sl.HS10_27, bodyRun.sl.HS10_26, bodyRun.sl.HS10_25, ↓ View.readCov_skip, ↓ View.readCov_cons_toLoadRect, ↓ View.readCov_fill]
  simp (disch := decide) only [bodyRun.sl.r_72, load_v1521, load_v1523]
  rfl

theorem load_v1738 : bodyRun.sl.v1738 (F := F) c arg2 harg2 arg3 harg3 arg7 harg7 arg16 arg22 x0 x1 x5 = mxO x0 x1 5 4 := by
  simp (disch := decide) only [bodyRun.sl.v1738, bodyRun.sl.HS6_14, ↓ View.readCov_skip, ↓ View.readCov_cons_toLoadRect, ↓ View.readCov_fill]
  simp (disch := decide) only [load_v463, rows_read 2048 4 rfl (by decide)]
  rfl

theorem load_v1740 : bodyRun.sl.v1740 (F := F) c arg2 harg2 arg3 harg3 arg7 harg7 arg16 arg18 x0 x1 x5 = sO x0 x1 5 4 := by
  simp (disch := decide) only [bodyRun.sl.v1740, bodyRun.sl.HS2_14, ↓ View.readCov_skip, ↓ View.readCov_cons_toLoadRect, ↓ View.readCov_fill]
  simp (disch := decide) only [load_v463, rows_read 2048 4 rfl (by decide)]
  rfl

theorem load_v1760 : bodyRun.sl.v1760 (F := F) c arg2 harg2 arg3 harg3 arg5 harg5 arg7 harg7 arg16 arg17 arg19 arg21 arg22 arg26 x0 x1 x3 x5 = pD x0 x1 x3 x5 4 := by
  simp (disch := decide) only [bodyRun.sl.v1760, bodyRun.sl.HS3_14, ↓ View.readCov_skip, ↓ View.readCov_cons_toLoadRect, ↓ View.readCov_fill]
  simp (disch := decide) only [bodyRun.sl.r_80, load_v1668, load_v1670, bodyRun.sl.r_81, load_v415, load_v1692, whole_read]
  rfl

theorem load_v1766 : bodyRun.sl.v1766 (F := F) c arg2 harg2 arg3 harg3 arg5 harg5 arg7 harg7 arg16 arg21 arg22 arg25 arg26 x0 x1 x3 x5 = pmD x0 x1 x3 x5 4 := by
  simp (disch := decide) only [bodyRun.sl.v1766, bodyRun.sl.HS9_5, ↓ View.readCov_skip, ↓ View.readCov_cons_toLoadRect, ↓ View.readCov_fill]
  simp (disch := decide) only [bodyRun.sl.r_80, load_v1668, load_v1670, bodyRun.sl.r_81, load_v415, whole_read]
  rfl

theorem load_v1769 : bodyRun.sl.v1769 (F := F) c arg2 harg2 arg3 harg3 arg5 harg5 arg7 harg7 arg16 arg21 arg22 arg23 arg26 x0 x1 x3 x5 = alD x0 x1 x3 x5 4 := by
  simp (disch := decide) only [bodyRun.sl.v1769, bodyRun.sl.HS7_14, ↓ View.readCov_skip, ↓ View.readCov_cons_toLoadRect, ↓ View.readCov_fill]
  simp (disch := decide) only [bodyRun.sl.r_79, load_v1668, bodyRun.sl.r_80, load_v1670, bodyRun.sl.r_81, load_v415, whole_read]
  rfl

theorem load_v1770 : bodyRun.sl.v1770 (F := F) c arg2 harg2 arg3 harg3 arg4 harg4 arg5 harg5 arg7 harg7 arg16 arg17 arg18 arg19 arg20 arg21 arg22 arg23 arg24 arg26 arg27 x0 x1 x2 x3 x5 = aS x0 x1 x2 4 4 := by
  simp (disch := decide) only [bodyRun.sl.v1770, bodyRun.sl.HS11_23, bodyRun.sl.HS11_22, bodyRun.sl.HS11_21, bodyRun.sl.HS11_20, ↓ View.readCov_skip, ↓ View.readCov_cons_toLoadRect, ↓ View.readCov_fill]
  simp (disch := decide) only [bodyRun.sl.r_73, load_v1545, load_v1547, load_v1548, slab_read 3 (by decide)]
  rfl

theorem load_v1822 : bodyRun.sl.v1822 (F := F) c arg2 harg2 arg3 harg3 arg5 harg5 arg7 harg7 arg16 arg21 arg22 arg26 x0 x1 x3 x5 = mS x0 x1 6 4 := by
  simp (disch := decide) only [bodyRun.sl.v1822, bodyRun.sl.HS10_29, bodyRun.sl.HS10_28, bodyRun.sl.HS10_27, bodyRun.sl.HS10_26, ↓ View.readCov_skip, ↓ View.readCov_cons_toLoadRect, ↓ View.readCov_fill]
  simp (disch := decide) only [load_v1569, load_v1571]
  rfl

theorem load_v1824 : bodyRun.sl.v1824 (F := F) c arg2 harg2 arg3 harg3 arg7 harg7 arg16 arg21 x0 x1 x5 = mxO x0 x1 6 4 := by
  simp (disch := decide) only [bodyRun.sl.v1824, bodyRun.sl.HS5_15, ↓ View.readCov_skip, ↓ View.readCov_cons_toLoadRect, ↓ View.readCov_fill]
  simp (disch := decide) only [bodyRun.sl.r_87, load_v511, rows_read 2048 4 rfl (by decide)]
  rfl

theorem load_v1826 : bodyRun.sl.v1826 (F := F) c arg2 harg2 arg3 harg3 arg7 harg7 arg16 arg17 x0 x1 x5 = sO x0 x1 6 4 := by
  simp (disch := decide) only [bodyRun.sl.v1826, bodyRun.sl.HS1_15, ↓ View.readCov_skip, ↓ View.readCov_cons_toLoadRect, ↓ View.readCov_fill]
  simp (disch := decide) only [bodyRun.sl.r_87, load_v511, rows_read 2048 4 rfl (by decide)]
  rfl

theorem load_v1846 : bodyRun.sl.v1846 (F := F) c arg2 harg2 arg3 harg3 arg5 harg5 arg7 harg7 arg16 arg18 arg20 arg21 arg22 arg26 x0 x1 x3 x5 = pO x0 x1 5 4 := by
  simp (disch := decide) only [bodyRun.sl.v1846, bodyRun.sl.HS4_14, ↓ View.readCov_skip, ↓ View.readCov_cons_toLoadRect, ↓ View.readCov_fill]
  simp (disch := decide) only [bodyRun.sl.r_85, load_v1736, load_v1738, load_v1740]
  rfl

theorem load_v1848 : bodyRun.sl.v1848 (F := F) c arg2 harg2 arg3 harg3 arg5 harg5 arg7 harg7 arg16 arg21 arg22 arg24 arg26 x0 x1 x3 x5 = alO x0 x1 5 4 := by
  simp (disch := decide) only [bodyRun.sl.v1848, bodyRun.sl.HS8_14, ↓ View.readCov_skip, ↓ View.readCov_cons_toLoadRect, ↓ View.readCov_fill]
  simp (disch := decide) only [bodyRun.sl.r_83, load_v1736, bodyRun.sl.r_84, load_v1738]
  rfl

theorem load_v1849 : bodyRun.sl.v1849 (F := F) c arg2 harg2 arg3 harg3 arg4 harg4 arg5 harg5 arg7 harg7 arg16 arg17 arg18 arg19 arg20 arg21 arg22 arg23 arg24 arg26 arg27 x0 x1 x2 x3 x5 = aS x0 x1 x2 5 4 := by
  simp (disch := decide) only [bodyRun.sl.v1849, bodyRun.sl.HS11_23, bodyRun.sl.HS11_22, bodyRun.sl.HS11_21, ↓ View.readCov_skip, ↓ View.readCov_cons_toLoadRect, ↓ View.readCov_fill]
  simp (disch := decide) only [load_v1593, load_v1595, load_v1596, slab_read 3 (by decide)]
  rfl

theorem load_v1870 : bodyRun.sl.v1870 (F := F) c arg2 harg2 arg3 harg3 arg5 harg5 arg7 harg7 arg16 arg21 arg22 arg26 x0 x1 x3 x5 = mS x0 x1 7 4 := by
  simp (disch := decide) only [bodyRun.sl.v1870, bodyRun.sl.HS10_30, bodyRun.sl.HS10_29, bodyRun.sl.HS10_28, bodyRun.sl.HS10_27, ↓ View.readCov_skip, ↓ View.readCov_cons_toLoadRect, ↓ View.readCov_fill]
  simp (disch := decide) only [load_v1617, load_v1619]
  rfl

theorem load_v1872 : bodyRun.sl.v1872 (F := F) c arg2 harg2 arg3 harg3 arg7 harg7 arg16 arg22 x0 x1 x5 = mxO x0 x1 7 4 := by
  simp (disch := decide) only [bodyRun.sl.v1872, bodyRun.sl.HS6_15, ↓ View.readCov_skip, ↓ View.readCov_cons_toLoadRect, ↓ View.readCov_fill]
  simp (disch := decide) only [load_v559, rows_read 2048 4 rfl (by decide)]
  rfl

theorem load_v1874 : bodyRun.sl.v1874 (F := F) c arg2 harg2 arg3 harg3 arg7 harg7 arg16 arg18 x0 x1 x5 = sO x0 x1 7 4 := by
  simp (disch := decide) only [bodyRun.sl.v1874, bodyRun.sl.HS2_15, ↓ View.readCov_skip, ↓ View.readCov_cons_toLoadRect, ↓ View.readCov_fill]
  simp (disch := decide) only [load_v559, rows_read 2048 4 rfl (by decide)]
  rfl

theorem load_v1894 : bodyRun.sl.v1894 (F := F) c arg2 harg2 arg3 harg3 arg5 harg5 arg7 harg7 arg16 arg17 arg19 arg21 arg22 arg26 x0 x1 x3 x5 = pO x0 x1 6 4 := by
  simp (disch := decide) only [bodyRun.sl.v1894, bodyRun.sl.HS3_15, ↓ View.readCov_skip, ↓ View.readCov_cons_toLoadRect, ↓ View.readCov_fill]
  simp (disch := decide) only [load_v1822, load_v1824, load_v1826]
  rfl

theorem load_v1896 : bodyRun.sl.v1896 (F := F) c arg2 harg2 arg3 harg3 arg5 harg5 arg7 harg7 arg16 arg21 arg22 arg23 arg26 x0 x1 x3 x5 = alO x0 x1 6 4 := by
  simp (disch := decide) only [bodyRun.sl.v1896, bodyRun.sl.HS7_15, ↓ View.readCov_skip, ↓ View.readCov_cons_toLoadRect, ↓ View.readCov_fill]
  simp (disch := decide) only [load_v1822, load_v1824]
  rfl

theorem load_v1897 : bodyRun.sl.v1897 (F := F) c arg2 harg2 arg3 harg3 arg4 harg4 arg5 harg5 arg7 harg7 arg16 arg17 arg18 arg19 arg20 arg21 arg22 arg23 arg24 arg26 arg27 x0 x1 x2 x3 x5 = aS x0 x1 x2 6 4 := by
  simp (disch := decide) only [bodyRun.sl.v1897, bodyRun.sl.HS11_24, bodyRun.sl.HS11_23, bodyRun.sl.HS11_22, ↓ View.readCov_skip, ↓ View.readCov_cons_toLoadRect, ↓ View.readCov_fill]
  simp (disch := decide) only [bodyRun.sl.r_76, load_v1641, bodyRun.sl.r_77, load_v1644, bodyRun.sl.r_78, load_v1643, slab_read 3 (by decide)]
  rfl

theorem load_v1921 : bodyRun.sl.v1921 (F := F) c arg2 harg2 arg3 harg3 arg5 harg5 arg7 harg7 arg16 arg21 arg22 arg26 x0 x1 x3 x5 = mS x0 x1 5 5 := by
  simp (disch := decide) only [bodyRun.sl.v1921, bodyRun.sl.HS10_31, bodyRun.sl.HS10_30, bodyRun.sl.HS10_29, ↓ View.readCov_skip, ↓ View.readCov_cons_toLoadRect, ↓ View.readCov_fill]
  simp (disch := decide) only [bodyRun.sl.r_84, load_v1736, load_v1738]
  rfl

theorem load_v1923 : bodyRun.sl.v1923 (F := F) c arg2 harg2 arg3 harg3 arg7 harg7 arg16 arg21 x0 x1 x5 = mxD x0 x1 x5 5 := by
  simp (disch := decide) only [bodyRun.sl.v1923, bodyRun.sl.HS5_16, ↓ View.readCov_skip, ↓ View.readCov_cons_toLoadRect, ↓ View.readCov_fill]
  simp (disch := decide) only [bodyRun.sl.r_92, load_v463, whole_read, rows_read 2560 5 rfl (by decide)]
  rfl

theorem load_v1945 : bodyRun.sl.v1945 (F := F) c arg2 harg2 arg3 harg3 arg7 harg7 arg16 arg17 x0 x1 x5 = sD x0 x1 x5 5 := by
  simp (disch := decide) only [bodyRun.sl.v1945, bodyRun.sl.HS1_16, ↓ View.readCov_skip, ↓ View.readCov_cons_toLoadRect, ↓ View.readCov_fill]
  simp (disch := decide) only [bodyRun.sl.r_92, load_v463, whole_read, rows_read 2560 5 rfl (by decide)]
  rfl

theorem load_v1965 : bodyRun.sl.v1965 (F := F) c arg2 harg2 arg3 harg3 arg5 harg5 arg7 harg7 arg16 arg18 arg20 arg21 arg22 arg26 x0 x1 x3 x5 = pO x0 x1 7 4 := by
  simp (disch := decide) only [bodyRun.sl.v1965, bodyRun.sl.HS4_15, ↓ View.readCov_skip, ↓ View.readCov_cons_toLoadRect, ↓ View.readCov_fill]
  simp (disch := decide) only [bodyRun.sl.r_91, load_v1870, load_v1872, load_v1874]
  rfl

theorem load_v1967 : bodyRun.sl.v1967 (F := F) c arg2 harg2 arg3 harg3 arg5 harg5 arg7 harg7 arg16 arg21 arg22 arg24 arg26 x0 x1 x3 x5 = alO x0 x1 7 4 := by
  simp (disch := decide) only [bodyRun.sl.v1967, bodyRun.sl.HS8_15, ↓ View.readCov_skip, ↓ View.readCov_cons_toLoadRect, ↓ View.readCov_fill]
  simp (disch := decide) only [bodyRun.sl.r_89, load_v1870, bodyRun.sl.r_90, load_v1872]
  rfl

theorem load_v1968 : bodyRun.sl.v1968 (F := F) c arg2 harg2 arg3 harg3 arg4 harg4 arg5 harg5 arg7 harg7 arg16 arg17 arg18 arg19 arg20 arg21 arg22 arg23 arg24 arg26 arg27 x0 x1 x2 x3 x5 = aS x0 x1 x2 7 4 := by
  simp (disch := decide) only [bodyRun.sl.v1968, bodyRun.sl.HS11_25, bodyRun.sl.HS11_24, bodyRun.sl.HS11_23, ↓ View.readCov_skip, ↓ View.readCov_cons_toLoadRect, ↓ View.readCov_fill]
  simp (disch := decide) only [bodyRun.sl.r_82, load_v1712, load_v1714, load_v1715, slab_read 3 (by decide)]
  rfl

theorem load_v1989 : bodyRun.sl.v1989 (F := F) c arg2 harg2 arg3 harg3 arg5 harg5 arg7 harg7 arg16 arg21 arg22 arg26 x0 x1 x3 x5 = mS x0 x1 6 5 := by
  simp (disch := decide) only [bodyRun.sl.v1989, bodyRun.sl.HS10_32, bodyRun.sl.HS10_31, bodyRun.sl.HS10_30, ↓ View.readCov_skip, ↓ View.readCov_cons_toLoadRect, ↓ View.readCov_fill]
  simp (disch := decide) only [load_v1822, load_v1824]
  rfl

theorem load_v1991 : bodyRun.sl.v1991 (F := F) c arg2 harg2 arg3 harg3 arg7 harg7 arg16 arg22 x0 x1 x5 = mxO x0 x1 6 5 := by
  simp (disch := decide) only [bodyRun.sl.v1991, bodyRun.sl.HS6_16, ↓ View.readCov_skip, ↓ View.readCov_cons_toLoadRect, ↓ View.readCov_fill]
  simp (disch := decide) only [load_v511, rows_read 2560 5 rfl (by decide)]
  rfl

theorem load_v1993 : bodyRun.sl.v1993 (F := F) c arg2 harg2 arg3 harg3 arg7 harg7 arg16 arg18 x0 x1 x5 = sO x0 x1 6 5 := by
  simp (disch := decide) only [bodyRun.sl.v1993, bodyRun.sl.HS2_16, ↓ View.readCov_skip, ↓ View.readCov_cons_toLoadRect, ↓ View.readCov_fill]
  simp (disch := decide) only [load_v511, rows_read 2560 5 rfl (by decide)]
  rfl

theorem load_v2013 : bodyRun.sl.v2013 (F := F) c arg2 harg2 arg3 harg3 arg5 harg5 arg7 harg7 arg16 arg17 arg19 arg21 arg22 arg26 x0 x1 x3 x5 = pD x0 x1 x3 x5 5 := by
  simp (disch := decide) only [bodyRun.sl.v2013, bodyRun.sl.HS3_16, ↓ View.readCov_skip, ↓ View.readCov_cons_toLoadRect, ↓ View.readCov_fill]
  simp (disch := decide) only [bodyRun.sl.r_94, load_v1921, load_v1923, load_v463, load_v1945, whole_read]
  rfl

theorem load_v2019 : bodyRun.sl.v2019 (F := F) c arg2 harg2 arg3 harg3 arg5 harg5 arg7 harg7 arg16 arg21 arg22 arg25 arg26 x0 x1 x3 x5 = pmD x0 x1 x3 x5 5 := by
  simp (disch := decide) only [bodyRun.sl.v2019, bodyRun.sl.HS9_6, ↓ View.readCov_skip, ↓ View.readCov_cons_toLoadRect, ↓ View.readCov_fill]
  simp (disch := decide) only [bodyRun.sl.r_95, load_v1921, load_v1923, load_v463, whole_read]
  rfl

theorem load_v2022 : bodyRun.sl.v2022 (F := F) c arg2 harg2 arg3 harg3 arg5 harg5 arg7 harg7 arg16 arg21 arg22 arg23 arg26 x0 x1 x3 x5 = alD x0 x1 x3 x5 5 := by
  simp (disch := decide) only [bodyRun.sl.v2022, bodyRun.sl.HS7_16, ↓ View.readCov_skip, ↓ View.readCov_cons_toLoadRect, ↓ View.readCov_fill]
  simp (disch := decide) only [bodyRun.sl.r_93, load_v1921, bodyRun.sl.r_94, load_v1923, load_v463, whole_read]
  rfl

theorem load_v2023 : bodyRun.sl.v2023 (F := F) c arg2 harg2 arg3 harg3 arg4 harg4 arg5 harg5 arg7 harg7 arg16 arg17 arg18 arg19 arg20 arg21 arg22 arg23 arg24 arg26 arg27 x0 x1 x2 x3 x5 = aS x0 x1 x2 5 5 := by
  simp (disch := decide) only [bodyRun.sl.v2023, bodyRun.sl.HS11_26, bodyRun.sl.HS11_25, bodyRun.sl.HS11_24, ↓ View.readCov_skip, ↓ View.readCov_cons_toLoadRect, ↓ View.readCov_fill]
  simp (disch := decide) only [bodyRun.sl.r_88, load_v1846, load_v1848, load_v1849, slab_read 4 (by decide)]
  rfl

theorem load_v2075 : bodyRun.sl.v2075 (F := F) c arg2 harg2 arg3 harg3 arg5 harg5 arg7 harg7 arg16 arg21 arg22 arg26 x0 x1 x3 x5 = mS x0 x1 7 5 := by
  simp (disch := decide) only [bodyRun.sl.v2075, bodyRun.sl.HS10_33, bodyRun.sl.HS10_32, bodyRun.sl.HS10_31, ↓ View.readCov_skip, ↓ View.readCov_cons_toLoadRect, ↓ View.readCov_fill]
  simp (disch := decide) only [bodyRun.sl.r_90, load_v1870, load_v1872]
  rfl

theorem load_v2077 : bodyRun.sl.v2077 (F := F) c arg2 harg2 arg3 harg3 arg7 harg7 arg16 arg21 x0 x1 x5 = mxO x0 x1 7 5 := by
  simp (disch := decide) only [bodyRun.sl.v2077, bodyRun.sl.HS5_17, ↓ View.readCov_skip, ↓ View.readCov_cons_toLoadRect, ↓ View.readCov_fill]
  simp (disch := decide) only [load_v559, rows_read 2560 5 rfl (by decide)]
  rfl

theorem load_v2079 : bodyRun.sl.v2079 (F := F) c arg2 harg2 arg3 harg3 arg7 harg7 arg16 arg17 x0 x1 x5 = sO x0 x1 7 5 := by
  simp (disch := decide) only [bodyRun.sl.v2079, bodyRun.sl.HS1_17, ↓ View.readCov_skip, ↓ View.readCov_cons_toLoadRect, ↓ View.readCov_fill]
  simp (disch := decide) only [load_v559, rows_read 2560 5 rfl (by decide)]
  rfl

theorem load_v2099 : bodyRun.sl.v2099 (F := F) c arg2 harg2 arg3 harg3 arg5 harg5 arg7 harg7 arg16 arg18 arg20 arg21 arg22 arg26 x0 x1 x3 x5 = pO x0 x1 6 5 := by
  simp (disch := decide) only [bodyRun.sl.v2099, bodyRun.sl.HS4_16, ↓ View.readCov_skip, ↓ View.readCov_cons_toLoadRect, ↓ View.readCov_fill]
  simp (disch := decide) only [load_v1989, load_v1991, load_v1993]
  rfl

theorem load_v2101 : bodyRun.sl.v2101 (F := F) c arg2 harg2 arg3 harg3 arg5 harg5 arg7 harg7 arg16 arg21 arg22 arg24 arg26 x0 x1 x3 x5 = alO x0 x1 6 5 := by
  simp (disch := decide) only [bodyRun.sl.v2101, bodyRun.sl.HS8_16, ↓ View.readCov_skip, ↓ View.readCov_cons_toLoadRect, ↓ View.readCov_fill]
  simp (disch := decide) only [bodyRun.sl.r_97, load_v1989, bodyRun.sl.r_98, load_v1991]
  rfl

theorem load_v2102 : bodyRun.sl.v2102 (F := F) c arg2 harg2 arg3 harg3 arg4 harg4 arg5 harg5 arg7 harg7 arg16 arg17 arg18 arg19 arg20 arg21 arg22 arg23 arg24 arg26 arg27 x0 x1 x2 x3 x5 = aS x0 x1 x2 6 5 := by
  simp (disch := decide) only [bodyRun.sl.v2102, bodyRun.sl.HS11_26, bodyRun.sl.HS11_25, ↓ View.readCov_skip, ↓ View.readCov_cons_toLoadRect, ↓ View.readCov_fill]
  simp (disch := decide) only [load_v1894, load_v1896, load_v1897, slab_read 4 (by decide)]
  rfl

theorem load_v2126 : bodyRun.sl.v2126 (F := F) c arg2 harg2 arg3 harg3 arg5 harg5 arg7 harg7 arg16 arg21 arg22 arg26 x0 x1 x3 x5 = mS x0 x1 6 6 := by
  simp (disch := decide) only [bodyRun.sl.v2126, bodyRun.sl.HS10_34, bodyRun.sl.HS10_33, ↓ View.readCov_skip, ↓ View.readCov_cons_toLoadRect, ↓ View.readCov_fill]
  simp (disch := decide) only [load_v1989, load_v1991]
  rfl

theorem load_v2128 : bodyRun.sl.v2128 (F := F) c arg2 harg2 arg3 harg3 arg7 harg7 arg16 arg22 x0 x1 x5 = mxD x0 x1 x5 6 := by
  simp (disch := decide) only [bodyRun.sl.v2128, bodyRun.sl.HS6_17, ↓ View.readCov_skip, ↓ View.readCov_cons_toLoadRect, ↓ View.readCov_fill]
  simp (disch := decide) only [load_v511, rows_read 3072 6 rfl (by decide), whole_read]
  rfl

theorem load_v2150 : bodyRun.sl.v2150 (F := F) c arg2 harg2 arg3 harg3 arg7 harg7 arg16 arg18 x0 x1 x5 = sD x0 x1 x5 6 := by
  simp (disch := decide) only [bodyRun.sl.v2150, bodyRun.sl.HS2_17, ↓ View.readCov_skip, ↓ View.readCov_cons_toLoadRect, ↓ View.readCov_fill]
  simp (disch := decide) only [load_v511, rows_read 3072 6 rfl (by decide), whole_read]
  rfl

theorem load_v2170 : bodyRun.sl.v2170 (F := F) c arg2 harg2 arg3 harg3 arg5 harg5 arg7 harg7 arg16 arg17 arg19 arg21 arg22 arg26 x0 x1 x3 x5 = pO x0 x1 7 5 := by
  simp (disch := decide) only [bodyRun.sl.v2170, bodyRun.sl.HS3_17, ↓ View.readCov_skip, ↓ View.readCov_cons_toLoadRect, ↓ View.readCov_fill]
  simp (disch := decide) only [load_v2075, load_v2077, load_v2079]
  rfl

theorem load_v2172 : bodyRun.sl.v2172 (F := F) c arg2 harg2 arg3 harg3 arg5 harg5 arg7 harg7 arg16 arg21 arg22 arg23 arg26 x0 x1 x3 x5 = alO x0 x1 7 5 := by
  simp (disch := decide) only [bodyRun.sl.v2172, bodyRun.sl.HS7_17, ↓ View.readCov_skip, ↓ View.readCov_cons_toLoadRect, ↓ View.readCov_fill]
  simp (disch := decide) only [load_v2075, load_v2077]
  rfl

theorem load_v2173 : bodyRun.sl.v2173 (F := F) c arg2 harg2 arg3 harg3 arg4 harg4 arg5 harg5 arg7 harg7 arg16 arg17 arg18 arg19 arg20 arg21 arg22 arg23 arg24 arg26 arg27 x0 x1 x2 x3 x5 = aS x0 x1 x2 7 5 := by
  simp (disch := decide) only [bodyRun.sl.v2173, bodyRun.sl.HS11_27, bodyRun.sl.HS11_26, ↓ View.readCov_skip, ↓ View.readCov_cons_toLoadRect, ↓ View.readCov_fill]
  simp (disch := decide) only [bodyRun.sl.r_96, load_v1965, load_v1967, load_v1968, slab_read 4 (by decide)]
  rfl

theorem load_v2194 : bodyRun.sl.v2194 (F := F) c arg2 harg2 arg3 harg3 arg5 harg5 arg7 harg7 arg16 arg21 arg22 arg26 x0 x1 x3 x5 = mS x0 x1 7 6 := by
  simp (disch := decide) only [bodyRun.sl.v2194, bodyRun.sl.HS10_35, bodyRun.sl.HS10_34, ↓ View.readCov_skip, ↓ View.readCov_cons_toLoadRect, ↓ View.readCov_fill]
  simp (disch := decide) only [load_v2075, load_v2077]
  rfl

theorem load_v2196 : bodyRun.sl.v2196 (F := F) c arg2 harg2 arg3 harg3 arg7 harg7 arg16 arg21 x0 x1 x5 = mxO x0 x1 7 6 := by
  simp (disch := decide) only [bodyRun.sl.v2196, bodyRun.sl.HS5_18, ↓ View.readCov_skip, ↓ View.readCov_cons_toLoadRect, ↓ View.readCov_fill]
  simp (disch := decide) only [load_v559, rows_read 3072 6 rfl (by decide)]
  rfl

theorem load_v2198 : bodyRun.sl.v2198 (F := F) c arg2 harg2 arg3 harg3 arg7 harg7 arg16 arg17 x0 x1 x5 = sO x0 x1 7 6 := by
  simp (disch := decide) only [bodyRun.sl.v2198, bodyRun.sl.HS1_18, ↓ View.readCov_skip, ↓ View.readCov_cons_toLoadRect, ↓ View.readCov_fill]
  simp (disch := decide) only [load_v559, rows_read 3072 6 rfl (by decide)]
  rfl

theorem load_v2218 : bodyRun.sl.v2218 (F := F) c arg2 harg2 arg3 harg3 arg5 harg5 arg7 harg7 arg16 arg18 arg20 arg21 arg22 arg26 x0 x1 x3 x5 = pD x0 x1 x3 x5 6 := by
  simp (disch := decide) only [bodyRun.sl.v2218, bodyRun.sl.HS4_17, ↓ View.readCov_skip, ↓ View.readCov_cons_toLoadRect, ↓ View.readCov_fill]
  simp (disch := decide) only [bodyRun.sl.r_103, load_v2126, load_v2128, bodyRun.sl.r_104, load_v511, load_v2150, whole_read]
  rfl

theorem load_v2224 : bodyRun.sl.v2224 (F := F) c arg2 harg2 arg3 harg3 arg5 harg5 arg7 harg7 arg16 arg21 arg22 arg25 arg26 x0 x1 x3 x5 = pmD x0 x1 x3 x5 6 := by
  simp (disch := decide) only [bodyRun.sl.v2224, bodyRun.sl.HS9_7, ↓ View.readCov_skip, ↓ View.readCov_cons_toLoadRect, ↓ View.readCov_fill]
  simp (disch := decide) only [bodyRun.sl.r_103, load_v2126, load_v2128, bodyRun.sl.r_104, load_v511, whole_read]
  rfl

theorem load_v2227 : bodyRun.sl.v2227 (F := F) c arg2 harg2 arg3 harg3 arg5 harg5 arg7 harg7 arg16 arg21 arg22 arg24 arg26 x0 x1 x3 x5 = alD x0 x1 x3 x5 6 := by
  simp (disch := decide) only [bodyRun.sl.v2227, bodyRun.sl.HS8_17, ↓ View.readCov_skip, ↓ View.readCov_cons_toLoadRect, ↓ View.readCov_fill]
  simp (disch := decide) only [bodyRun.sl.r_102, load_v2126, bodyRun.sl.r_103, load_v2128, bodyRun.sl.r_104, load_v511, whole_read]
  rfl

theorem load_v2228 : bodyRun.sl.v2228 (F := F) c arg2 harg2 arg3 harg3 arg4 harg4 arg5 harg5 arg7 harg7 arg16 arg17 arg18 arg19 arg20 arg21 arg22 arg23 arg24 arg26 arg27 x0 x1 x2 x3 x5 = aS x0 x1 x2 6 6 := by
  simp (disch := decide) only [bodyRun.sl.v2228, bodyRun.sl.HS11_28, bodyRun.sl.HS11_27, ↓ View.readCov_skip, ↓ View.readCov_cons_toLoadRect, ↓ View.readCov_fill]
  simp (disch := decide) only [bodyRun.sl.r_101, load_v2099, load_v2101, load_v2102, slab_read 5 (by decide)]
  rfl

theorem load_v2283 : bodyRun.sl.v2283 (F := F) c arg2 harg2 arg3 harg3 arg5 harg5 arg7 harg7 arg16 arg21 arg22 arg26 x0 x1 x3 x5 = mS x0 x1 7 7 := by
  simp (disch := decide) only [bodyRun.sl.v2283, bodyRun.sl.HS10_36, ↓ View.readCov_skip, ↓ View.readCov_cons_toLoadRect, ↓ View.readCov_fill]
  simp (disch := decide) only [bodyRun.sl.r_107, load_v2194, load_v2196]
  rfl

theorem load_v2285 : bodyRun.sl.v2285 (F := F) c arg2 harg2 arg3 harg3 arg7 harg7 arg16 arg22 x0 x1 x5 = mxD x0 x1 x5 7 := by
  simp (disch := decide) only [bodyRun.sl.v2285, bodyRun.sl.HS6_18, ↓ View.readCov_skip, ↓ View.readCov_cons_toLoadRect, ↓ View.readCov_fill]
  simp (disch := decide) only [bodyRun.sl.r_111, load_v559, rows_read 3584 7 rfl (by decide), whole_read]
  rfl

theorem load_v2307 : bodyRun.sl.v2307 (F := F) c arg2 harg2 arg3 harg3 arg7 harg7 arg16 arg18 x0 x1 x5 = sD x0 x1 x5 7 := by
  simp (disch := decide) only [bodyRun.sl.v2307, bodyRun.sl.HS2_18, ↓ View.readCov_skip, ↓ View.readCov_cons_toLoadRect, ↓ View.readCov_fill]
  simp (disch := decide) only [bodyRun.sl.r_111, load_v559, rows_read 3584 7 rfl (by decide), whole_read]
  rfl

theorem load_v2327 : bodyRun.sl.v2327 (F := F) c arg2 harg2 arg3 harg3 arg5 harg5 arg7 harg7 arg16 arg17 arg19 arg21 arg22 arg26 x0 x1 x3 x5 = pO x0 x1 7 6 := by
  simp (disch := decide) only [bodyRun.sl.v2327, bodyRun.sl.HS3_18, ↓ View.readCov_skip, ↓ View.readCov_cons_toLoadRect, ↓ View.readCov_fill]
  simp (disch := decide) only [bodyRun.sl.r_108, load_v2194, load_v2196, load_v2198]
  rfl

theorem load_v2329 : bodyRun.sl.v2329 (F := F) c arg2 harg2 arg3 harg3 arg5 harg5 arg7 harg7 arg16 arg21 arg22 arg23 arg26 x0 x1 x3 x5 = alO x0 x1 7 6 := by
  simp (disch := decide) only [bodyRun.sl.v2329, bodyRun.sl.HS7_18, ↓ View.readCov_skip, ↓ View.readCov_cons_toLoadRect, ↓ View.readCov_fill]
  simp (disch := decide) only [bodyRun.sl.r_106, load_v2194, bodyRun.sl.r_107, load_v2196]
  rfl

theorem load_v2330 : bodyRun.sl.v2330 (F := F) c arg2 harg2 arg3 harg3 arg4 harg4 arg5 harg5 arg7 harg7 arg16 arg17 arg18 arg19 arg20 arg21 arg22 arg23 arg24 arg26 arg27 x0 x1 x2 x3 x5 = aS x0 x1 x2 7 6 := by
  simp (disch := decide) only [bodyRun.sl.v2330, bodyRun.sl.HS11_28, ↓ View.readCov_skip, ↓ View.readCov_cons_toLoadRect, ↓ View.readCov_fill]
  simp (disch := decide) only [bodyRun.sl.r_105, load_v2170, load_v2172, load_v2173, slab_read 5 (by decide)]
  rfl

theorem load_v2342 : bodyRun.sl.v2342 (F := F) c arg2 harg2 arg3 harg3 arg5 harg5 arg7 harg7 arg16 arg18 arg20 arg21 arg22 arg26 x0 x1 x3 x5 = pD x0 x1 x3 x5 7 := by
  simp (disch := decide) only [bodyRun.sl.v2342, bodyRun.sl.HS4_18, ↓ View.readCov_skip, ↓ View.readCov_cons_toLoadRect, ↓ View.readCov_fill]
  simp (disch := decide) only [bodyRun.sl.r_114, load_v2283, load_v2285, load_v559, load_v2307, whole_read]
  rfl

theorem load_v2348 : bodyRun.sl.v2348 (F := F) c arg2 harg2 arg3 harg3 arg5 harg5 arg7 harg7 arg16 arg21 arg22 arg25 arg26 x0 x1 x3 x5 = pmD x0 x1 x3 x5 7 := by
  simp (disch := decide) only [bodyRun.sl.v2348, bodyRun.sl.HS9_8, ↓ View.readCov_skip, ↓ View.readCov_cons_toLoadRect, ↓ View.readCov_fill]
  simp (disch := decide) only [load_v2283, load_v2285, load_v559, whole_read]
  rfl

theorem load_v2351 : bodyRun.sl.v2351 (F := F) c arg2 harg2 arg3 harg3 arg5 harg5 arg7 harg7 arg16 arg21 arg22 arg24 arg26 x0 x1 x3 x5 = alD x0 x1 x3 x5 7 := by
  simp (disch := decide) only [bodyRun.sl.v2351, bodyRun.sl.HS8_18, ↓ View.readCov_skip, ↓ View.readCov_cons_toLoadRect, ↓ View.readCov_fill]
  simp (disch := decide) only [bodyRun.sl.r_112, load_v2283, bodyRun.sl.r_113, load_v2285, load_v559, whole_read]
  rfl

theorem load_v2352 : bodyRun.sl.v2352 (F := F) c arg2 harg2 arg3 harg3 arg4 harg4 arg5 harg5 arg7 harg7 arg16 arg17 arg18 arg19 arg20 arg21 arg22 arg23 arg24 arg26 arg27 x0 x1 x2 x3 x5 = aS x0 x1 x2 7 7 := by
  simp (disch := decide) only [bodyRun.sl.v2352, bodyRun.sl.HS11_29, ↓ View.readCov_skip, ↓ View.readCov_cons_toLoadRect, ↓ View.readCov_fill]
  simp (disch := decide) only [load_v2327, load_v2329, load_v2330, slab_read 6 (by decide)]
  rfl

end

end Cert.KernelIdeal.Attn

end
-- ==== Proof.AttnOut.lean ====
module

public import proofs.«01_k».proof.Proof.AttnLoads2

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
variable (arg2 : Memref sig .tc .vmem S4096x128 .bf16) (harg2 : arg2.IsWhole) (arg3 : Memref sig .tc .vmem
  S4096x128 .bf16) (harg3 : arg3.IsWhole) (arg4 : Memref sig .tc .vmem S8x128x512 .bf16) (harg4 :
  arg4.IsWhole) (arg5 : Memref sig .tc .vmem S128x128 .bf16) (harg5 : arg5.IsWhole) (arg6 : Memref sig .tc
  .vmem S128x128 .bf16) (harg6 : arg6.IsWhole) (arg7 : Memref sig .tc .vmem S512x1024 .f32) (harg7 :
  arg7.IsWhole) (arg8 : Memref sig .tc .vmem S4096x128 .bf16) (harg8 : arg8.IsWhole) (arg9 : Memref sig .tc
  .vmem S128x1 .f32) (harg9 : arg9.IsWhole) (arg10 : Memref sig .tc .vmem S1x64 .f32) (harg10 : arg10.IsWhole)
  (arg11 : Memref sig .tc .vmem S1x64 .f32) (harg11 : arg11.IsWhole) (arg12 : Memref sig .tc .vmem S1x64 .f32)
  (harg12 : arg12.IsWhole) (arg13 : Memref sig .tc .vmem S1x64 .f32) (harg13 : arg13.IsWhole) (arg14 : Memref
  sig .tc .smem S1 .i32) (harg14 : arg14.IsWhole) (arg15 : Memref sig .tc .vmem S4096x128 .bf16) (harg15 :
  arg15.IsWhole) (arg16 : Memref sig .tc .vmem S8x128x1024 .bf16) (harg16 : arg16.IsWhole) (arg17 : Memref sig
  .tc .vmem S512x1024 .f32) (harg17 : arg17.IsWhole) (arg18 : Memref sig .tc .vmem S512x1024 .f32) (harg18 :
  arg18.IsWhole) (arg19 : Memref sig .tc .vmem S512x1024 .bf16) (harg19 : arg19.IsWhole) (arg20 : Memref sig
  .tc .vmem S512x1024 .bf16) (harg20 : arg20.IsWhole) (arg21 : Memref sig .tc .vmem S1x1024 .f32) (harg21 :
  arg21.IsWhole) (arg22 : Memref sig .tc .vmem S1x1024 .f32) (harg22 : arg22.IsWhole) (arg23 : Memref sig .tc
  .vmem S1x1024 .f32) (harg23 : arg23.IsWhole) (arg24 : Memref sig .tc .vmem S1x1024 .f32) (harg24 :
  arg24.IsWhole) (arg25 : Memref sig .tc .vmem S128x1024 .bf16) (harg25 : arg25.IsWhole) (arg26 : Memref sig
  .tc .vmem S8x1x1024 .f32) (harg26 : arg26.IsWhole) (arg27 : Memref sig .tc .vmem S8x144x1024 .f32) (harg27 :
  arg27.IsWhole)
variable (x0 : Vec F S4096x128 .bf16) (x1 : Vec F S4096x128 .bf16) (x2 : Vec F S8x128x512 .bf16) (x3 : Vec F
  S128x128 .bf16) (x4 : Vec F S128x128 .bf16) (x5 : Vec F S512x1024 .f32) (x6 : Vec F S4096x128 .bf16) (x7 :
  Vec F S128x1 .f32) (x8 : Vec F S1x64 .f32) (x9 : Vec F S1x64 .f32) (x10 : Vec F S1x64 .f32) (x11 : Vec F
  S1x64 .f32) (x12 : Vec F S1 .i32)

set_option maxHeartbeats 2000000 in
/-- What the body stores into the output's buffer: each block of 512 rows at its stage's result. -/
theorem bodyRun_pieces (hg : guardOn (arg14.view.readAt (Elt F) (Rect.unit (s := S1) ![0] S1.size inb_S1_S1_0).toLoadRect (harg14.unread x12) (Shape.Idx.first (numel1_S1.symm ▸ Nat.one_pos)))) :
    (bodyRun c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26
      arg27 harg27
      x0 x1 x2 x3 x4 x5 x6 x7 x8 x9 x10 x11 x12 hg).1
      = ([⟨Rect.unit (s := S4096x128) ![3584, 0] S512x128.size inb_S4096x128_S512x128_3584_0, oS x0 x1 x3 x5 7 x2
      x4 x6 x7 x8 x9 x10 x11⟩, ⟨Rect.unit (s := S4096x128) ![3072, 0] S512x128.size
      inb_S4096x128_S512x128_3072_0, oS x0 x1 x3 x5 6 x2 x4 x6 x7 x8 x9 x10 x11⟩, ⟨Rect.unit (s := S4096x128)
      ![2560, 0] S512x128.size inb_S4096x128_S512x128_2560_0, oS x0 x1 x3 x5 5 x2 x4 x6 x7 x8 x9 x10 x11⟩,
      ⟨Rect.unit (s := S4096x128) ![2048, 0] S512x128.size inb_S4096x128_S512x128_2048_0, oS x0 x1 x3 x5 4 x2
      x4 x6 x7 x8 x9 x10 x11⟩, ⟨Rect.unit (s := S4096x128) ![1536, 0] S512x128.size
      inb_S4096x128_S512x128_1536_0, oS x0 x1 x3 x5 3 x2 x4 x6 x7 x8 x9 x10 x11⟩, ⟨Rect.unit (s := S4096x128)
      ![1024, 0] S512x128.size inb_S4096x128_S512x128_1024_0, oS x0 x1 x3 x5 2 x2 x4 x6 x7 x8 x9 x10 x11⟩,
      ⟨Rect.unit (s := S4096x128) ![512, 0] S512x128.size inb_S4096x128_S512x128_512_0, oS x0 x1 x3 x5 1 x2 x4
      x6 x7 x8 x9 x10 x11⟩, ⟨Rect.unit (s := S4096x128) ![0, 0] S512x128.size inb_S4096x128_S512x128_0_0, oS
      x0 x1 x3 x5 0 x2 x4 x6 x7 x8 x9 x10 x11⟩] : List (View.Piece (Elt F) S4096x128 .bf16)) := by
  unfold bodyRun
  dsimp only
  simp (disch := decide) only [
    bodyRun.sl.r_116, bodyRun.sl.r_115, load_v2342, load_v2348, load_v2351, load_v2352, bodyRun.sl.r_117,
    bodyRun.sl.r_109, load_v2218, load_v2224, load_v2227, load_v2228, bodyRun.sl.r_110, bodyRun.sl.r_99,
    load_v2013, load_v2019, load_v2022, load_v2023, bodyRun.sl.r_100, bodyRun.sl.r_86, load_v1760, load_v1766,
    load_v1769, load_v1770, bodyRun.sl.r_70, load_v1459, load_v1465, load_v1468, load_v1469, bodyRun.sl.r_71,
    bodyRun.sl.r_53, load_v1110, load_v1116, load_v1119, load_v1120, bodyRun.sl.r_31, bodyRun.sl.r_29,
    load_v713, bodyRun.sl.r_30, load_v719, load_v722, load_v723, bodyRun.sl.r_32, bodyRun.sl.r_10,
    bodyRun.sl.r_8, load_v268, bodyRun.sl.r_9, load_v274, load_v277, load_v278, bodyRun.sl.r_11, rows_read 0 0
    rfl (by decide), rows_read 512 1 rfl (by decide), rows_read 1024 2 rfl (by decide), rows_read 1536 3 rfl
    (by decide), rows_read 2048 4 rfl (by decide), rows_read 2560 5 rfl (by decide), rows_read 3072 6 rfl (by
    decide), rows_read 3584 7 rfl (by decide), slab_read 0 (by decide), slab_read 1 (by decide), slab_read 2
    (by decide), slab_read 3 (by decide), slab_read 4 (by decide), slab_read 5 (by decide), slab_read 6 (by
    decide), slab_read 7 (by decide), whole_read]
  rfl

end

end Cert.KernelIdeal.Attn

end
-- ==== Proof.RefTerm.lean ====
module

public import proofs.«01_k».proof.Proof.Gen.ReferenceIdeal.Run
public import proofs.«01_k».proof.Proof.RealKit

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value

variable {F : FTy → Type} [FloatOps F]

/-! ## The reference's attention, operation by operation -/

/-- All keys of a batch: the meta keys, then the prompt's. -/
def keys (k : FVec F S8x4096x8x2x64 .f32) (km : FVec F S16x8x2x64 .f32) : FVec F S8x4112x8x2x64 .f32 :=
  concatenate S8x4112x8x2x64 1 [⟨S8x16x8x2x64, broadcastInDim S8x16x8x2x64 ![1, 2, 3, 4] bcast_S16x8x2x64_S8x16x8x2x64_1_2_3_4 km⟩, ⟨S8x4096x8x2x64, k⟩] concatenates_S8x16x8x2x64_S8x4096x8x2x64_S8x4112x8x2x64_d1

/-- All values of a batch: the meta values, then the prompt's. -/
def vals (v : FVec F S8x4096x8x128 .f32) (vm : FVec F S16x8x128 .f32) : FVec F S8x4112x8x128 .f32 :=
  concatenate S8x4112x8x128 1 [⟨S8x16x8x128, broadcastInDim S8x16x8x128 ![1, 2, 3] bcast_S16x8x128_S8x16x8x128_1_2_3 vm⟩, ⟨S8x4096x8x128, v⟩] concatenates_S8x16x8x128_S8x4096x8x128_S8x4112x8x128_d1

/-- The keys' positions in the prompt. -/
def pos : IVec S4112 32 := subi (iotaInDim S4112 32 0) (broadcastInDim S4112 ![] bcast_S_S4112 (constantI S_ 32 16#32))

/-- The chunk of every key, the meta keys' being 0. -/
def chunk : IVec S4112 32 :=
  select (cmpi .slt (iotaInDim S4112 32 0) (broadcastInDim S4112 ![] bcast_S_S4112 (constantI S_ 32 16#32))) (broadcastInDim S4112 ![] bcast_S_S4112 (id (constantI S_ 32 0#32)))
    (addi (select (andi (cmpi .ne (signi pos) (broadcastInDim S4112 ![] bcast_S_S4112 (signi (id (constantI S_ 32 64#32)))))
        (cmpi .ne (Host.remsi pos (broadcastInDim S4112 ![] bcast_S_S4112 (id (constantI S_ 32 64#32)))) (broadcastInDim S4112 ![] bcast_S_S4112 (constantI S_ 32 0#32))))
        (subi (Host.divsi pos (broadcastInDim S4112 ![] bcast_S_S4112 (id (constantI S_ 32 64#32)))) (broadcastInDim S4112 ![] bcast_S_S4112 (constantI S_ 32 1#32)))
        (Host.divsi pos (broadcastInDim S4112 ![] bcast_S_S4112 (id (constantI S_ 32 64#32)))))
      (broadcastInDim S4112 ![] bcast_S_S4112 (constantI S_ 32 1#32)))

/-- The mask: key's chunk at most the query's. -/
def mask (ch : IVec S4112 32) : IVec S4096x4112 1 :=
  cmpi .sle (broadcastInDim S4096x4112 ![0, 1] bcast_S1x4112_S4096x4112_0_1 (broadcastInDim S1x4112 ![1] bcast_S4112_S1x4112_1 ch))
    (broadcastInDim S4096x4112 ![0, 1] bcast_S4096x1_S4096x4112_0_1 (broadcastInDim S4096x1 ![0] bcast_S4096_S4096x1_0 (extractStridedSlice S4096 ![16] ch slices_S4112_S4096_16)))

/-- The masked scores. -/
def scores (q : FVec F S8x4096x8x2x64 .f32) (ka : FVec F S8x4112x8x2x64 .f32) (mk : IVec S4096x4112 1) : FVec F S8x8x2x4096x4112 .f32 :=
  select (broadcastInDim S8x8x2x4096x4112 ![3, 4] bcast_S4096x4112_S8x8x2x4096x4112_3_4 mk)
    (mulf (Host.dotGeneral dot_S8x4096x8x2x64_S8x4112x8x2x64_S8x8x2x4096x4112_4_4_1_1_023_023 none q ka) (broadcastInDim S8x8x2x4096x4112 ![] bcast_S_S8x8x2x4096x4112 (constant S_ .f32 0x3E000000#32)))
    (broadcastInDim S8x8x2x4096x4112 ![] bcast_S_S8x8x2x4096x4112 (id (constant S_ .f32 0xFF800000#32)))

/-- A query's largest score. -/
def smax (s : FVec F S8x8x2x4096x4112 .f32) : FVec F S8x8x2x4096 .f32 :=
  maximumf (broadcastInDim S8x8x2x4096 ![] bcast_S_S8x8x2x4096 (constant S_ .f32 0xFF800000#32)) (Host.reduce FloatOps.maximumf s (constant S_ .f32 0xFF800000#32) reducesTo_S8x8x2x4096x4112_S8x8x2x4096_d4 h_S_)

/-- A value per query, for all its keys. -/
def spread (x : FVec F S8x8x2x4096 .f32) : FVec F S8x8x2x4096x4112 .f32 :=
  broadcastInDim S8x8x2x4096x4112 ![0, 1, 2, 3, 4] bcast_S8x8x2x4096x1_S8x8x2x4096x4112_0_1_2_3_4 (broadcastInDim S8x8x2x4096x1 ![0, 1, 2, 3] bcast_S8x8x2x4096_S8x8x2x4096x1_0_1_2_3 x)

/-- The exponentials against the largest score. -/
def exps (s : FVec F S8x8x2x4096x4112 .f32) (mx : FVec F S8x8x2x4096 .f32) : FVec F S8x8x2x4096x4112 .f32 := Host.exp (subf s (spread mx))

/-- Their sum. -/
def esum (e : FVec F S8x8x2x4096x4112 .f32) : FVec F S8x8x2x4096 .f32 :=
  Host.reduceAdd e (constant S_ .f32 0x00000000#32) reducesTo_S8x8x2x4096x4112_S8x8x2x4096_d4 h_S_

/-- The softmax. -/
def prob (e : FVec F S8x8x2x4096x4112 .f32) (l : FVec F S8x8x2x4096 .f32) : FVec F S8x8x2x4096x4112 .f32 := Host.divf e (spread l)

/-- λ. -/
def lam (x7 x8 x9 x10 : FVec F S64 .f32) : FVec F S_ .f32 :=
  addf (subf (Host.exp (Host.reduceAdd (mulf x7 x8) (constant S_ .f32 0x00000000#32) reducesTo_S64_S_d0 h_S_)) (Host.exp (Host.reduceAdd (mulf x9 x10) (constant S_ .f32 0x00000000#32) reducesTo_S64_S_d0 h_S_))) (constant S_ .f32 0x3E4CCCCD#32)

/-- The difference of the two softmaxes. -/
def diff (p : FVec F S8x8x2x4096x4112 .f32) (l : FVec F S_ .f32) : FVec F S8x8x4096x4112 .f32 :=
  subf (shapeCast _ (extractStridedSlice S8x8x1x4096x4112 ![0, 0, 0, 0, 0] p slices_S8x8x2x4096x4112_S8x8x1x4096x4112_0_0_0_0_0) shapeCasts_S8x8x1x4096x4112_S8x8x4096x4112)
    (mulf (broadcastInDim S8x8x4096x4112 ![] bcast_S_S8x8x4096x4112 l)
      (shapeCast _ (extractStridedSlice S8x8x1x4096x4112 ![0, 0, 1, 0, 0] p slices_S8x8x2x4096x4112_S8x8x1x4096x4112_0_0_1_0_0) shapeCasts_S8x8x1x4096x4112_S8x8x4096x4112))

/-- The attention's output before its normalisation. -/
def mixed (va : FVec F S8x4112x8x128 .f32) (a : FVec F S8x8x4096x4112 .f32) : FVec F S8x4096x8x128 .f32 :=
  transpose S8x4096x8x128 [0, 3, 1, 2] (Host.dotGeneral dot_S8x4112x8x128_S8x8x4096x4112_S8x8x128x4096_1_3_3_2_02_01 none va a) transposes_S8x8x128x4096_S8x4096x8x128_0_3_1_2

/-- The normalised and gated output. -/
def gated (o : FVec F S8x4096x8x128 .f32) (za : FVec F S8x4096x1024 .f32) (w : FVec F S128 .f32) : FVec F S32768x1024 .bf16 :=
  truncf .bf16 (shapeCast _ (mulf (shapeCast _ (mulf (mulf (mulf o (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf o o) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32)))))) (broadcastInDim S8x4096x8x128 ![0, 1, 2, 3] bcast_S1x1x1x128_S8x4096x8x128_0_1_2_3 (broadcastInDim S1x1x1x128 ![3] bcast_S128_S1x1x1x128_3 w))) (broadcastInDim S8x4096x8x128 ![] bcast_S_S8x4096x8x128 (constant S_ .f32 0x3F4CCCCD#32))) shapeCasts_S8x4096x8x128_S8x4096x1024) (mulf za (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf za)))))) shapeCasts_S8x4096x1024_S32768x1024) bitsLt_bf16_f32

/-- The softmax of a batch's queries over all keys. -/
def soft (q k : FVec F S8x4096x8x2x64 .f32) (km : FVec F S16x8x2x64 .f32) : FVec F S8x8x2x4096x4112 .f32 :=
  prob (exps (scores q (keys k km) (mask chunk)) (smax (scores q (keys k km) (mask chunk)))) (esum (exps (scores q (keys k km) (mask chunk)) (smax (scores q (keys k km) (mask chunk)))))

/-- The whole reference. -/
def REF (a0 a1 : FVec F S8x4096x8x2x64 .f32) (a2 : FVec F S8x4096x8x128 .f32) (a3 : FVec F S16x8x2x64 .f32) (a4 : FVec F S16x8x128 .f32) (a5 : FVec F S8x4096x1024 .f32) (a6 : FVec F S128 .f32) (a7 a8 a9 a10 : FVec F S64 .f32) : FVec F S32768x1024 .bf16 :=
  gated (mixed (vals a2 a4) (diff (soft a0 a1 a3) (lam a7 a8 a9 a10))) a5 a6

variable (m : (ℓ : Loc nD τ sig) → Buf (Elt F) ℓ)

set_option maxHeartbeats 1600000 in
/-- The reference's result is the composition of its operations. -/
theorem res_eq (c : Dev nD) : res_main_v70 m c = REF (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10)) := rfl

end Cert.ReferenceIdeal.Attn

end
-- ==== Proof.RefValue.lean ====
module

public import proofs.«01_k».proof.Proof.RefTerm
public import proofs.«01_k».proof.Proof.AttnSoft

@[expose] public section

set_option maxRecDepth 16384

noncomputable section

open Idealize.ShloMosaic Idealize.ShloMosaic.TcCoe Idealize.SL.Sem Idealize.ShloMosaic.Tactic

namespace Cert.ReferenceIdeal.Attn

open Cert.ReferenceIdeal Cert.ReferenceIdeal.Gen Cert.ReferenceIdeal.Value
open Cert.Real
open Cert.KernelIdeal.Attn (sc)

/-! ## The reference at an index -/

theorem keys_at (k : FVec Ideal S8x4096x8x2x64 .f32) (km : FVec Ideal S16x8x2x64 .f32) (b : Fin 8) (t : Fin 4112) (h : Fin 8) (g : Fin 2) (d : Fin 64) :
    keys k km (ix5 b t h g d) = if h' : t.val < 16 then km (ix4 ⟨t.val, h'⟩ h g d) else k (ix5 b ⟨t.val - 16, by omega⟩ h g d) := by
  pointwise [keys]

theorem vals_at (v : FVec Ideal S8x4096x8x128 .f32) (vm : FVec Ideal S16x8x128 .f32) (b : Fin 8) (t : Fin 4112) (h : Fin 8) (e : Fin 128) :
    vals v vm (ix4 b t h e) = if h' : t.val < 16 then vm (ix3 ⟨t.val, h'⟩ h e) else v (ix4 b ⟨t.val - 16, by omega⟩ h e) := by
  pointwise [vals]

/-- The chunk number of a key. -/
def chunkOf (t : Fin 4112) : ℕ := if t.val < 16 then 0 else (t.val - 16) / 64 + 1

theorem chunk_word : ∀ t : Fin 4112, Scalar.select (IntOp.cmpi CmpIPredicate.slt (BitVec.ofNat 32 t.val) 16#32) 0#32
      (IntOp.addi
        (Scalar.select
          (IntOp.andi
            (IntOp.cmpi CmpIPredicate.ne
              (if IntOp.subi (BitVec.ofNat 32 t.val) 16#32 = 0 then (0 : BitVec 32)
              else if (IntOp.subi (BitVec.ofNat 32 t.val) 16#32).msb = true then -1 else 1)
              (if 64#32 = 0 then 0 else if (64#32).msb = true then -1 else 1))
            (IntOp.cmpi CmpIPredicate.ne (IntOp.remsi ArithUnit.host (IntOp.subi (BitVec.ofNat 32 t.val) 16#32) 64#32) 0#32))
          (IntOp.subi (IntOp.divsi ArithUnit.host (IntOp.subi (BitVec.ofNat 32 t.val) 16#32) 64#32) 1#32)
          (IntOp.divsi ArithUnit.host (IntOp.subi (BitVec.ofNat 32 t.val) 16#32) 64#32))
        1#32) = BitVec.ofNat 32 (chunkOf t) := by decide +kernel

theorem chunk_at (t : Fin 4112) : chunk (ix1 t) = BitVec.ofNat 32 (chunkOf t) := by
  refine Eq.trans ?_ (chunk_word t)
  pointwise [chunk, pos]
  rfl

theorem sle_small : ∀ a b : Fin 66, IntOp.cmpi .sle (BitVec.ofNat 32 a.val) (BitVec.ofNat 32 b.val) = if a.val ≤ b.val then 1#1 else 0#1 := by decide +kernel

theorem mask_word (ch : IVec S4112 32) (q : Fin 4096) (t : Fin 4112) :
    mask ch (ix2 q t) = IntOp.cmpi .sle (ch (ix1 t)) (ch (ix1 ⟨16 + q.val, by omega⟩)) := by
  pointwise [mask]

/-- A key is seen by a query when it is a meta key or its chunk is not after the query's. -/
theorem mask_at (q : Fin 4096) (t : Fin 4112) :
    mask chunk (ix2 q t) = if t.val < 16 ∨ (t.val - 16) / 64 ≤ q.val / 64 then 1#1 else 0#1 := by
  have h1 : chunkOf t < 66 := by unfold chunkOf; split <;> omega
  have hq : chunkOf ⟨16 + q.val, by omega⟩ = q.val / 64 + 1 := by
    unfold chunkOf; rw [if_neg (by show ¬ 16 + q.val < 16; omega)]; show (16 + q.val - 16) / 64 + 1 = _; congr 2; omega
  rw [mask_word, chunk_at, chunk_at, hq]
  refine (sle_small ⟨chunkOf t, h1⟩ ⟨q.val / 64 + 1, by omega⟩).trans ?_
  have : (chunkOf t ≤ q.val / 64 + 1) ↔ (t.val < 16 ∨ (t.val - 16) / 64 ≤ q.val / 64) := by
    unfold chunkOf; split <;> omega
  simp only [this]

theorem scores_at (q : FVec Ideal S8x4096x8x2x64 .f32) (ka : FVec Ideal S8x4112x8x2x64 .f32) (mk : IVec S4096x4112 1) (b h : Fin 8) (g : Fin 2) (x : Fin 4096) (t : Fin 4112) :
    scores q ka mk (ix5 b h g x t) = Scalar.select (mk (ix2 x t))
      ((∑ d, q (ix5 b x h g d) * ka (ix5 b t h g d)) * Ideal.ofBits FTy.f32 1040187392#32) (Ideal.ofBits FTy.f32 4286578688#32) := by
  pointwise [scores]; rfl

/-- The maximum over the last axis of an array of any sizes. -/
theorem max_last {n0 n1 n2 n3 n4 : ℕ} (v : FVec Ideal ⟨5, ![n0, n1, n2, n3, n4]⟩ .f32) (c : FVec Ideal S_ .f32) (z : EReal) (hz : ∀ i, c i = z)
    (hr : (⟨5, ![n0, n1, n2, n3, n4]⟩ : Shape).ReducesTo [4] ⟨4, ![n0, n1, n2, n3]⟩) (hu : 0 < S_.numel) (a : Fin n0) (b : Fin n1) (d : Fin n2) (e : Fin n3) :
    Host.reduce FloatOps.maximumf v c hr hu (ix4 a b d e) = Finset.univ.fold max z fun k => v (ix5 a b d e k) := by
  simp only [pointwise, hz]

/-- A constant's elements. -/
theorem const_at (b : BitVec 32) (i : S_.Idx) : constant (F := Ideal) S_ .f32 b i = Ideal.ofBits FTy.f32 b := rfl

/-- The larger of a constant and an array of any sizes. -/
theorem max_const {n0 n1 n2 n3 : ℕ} (y : FVec Ideal ⟨4, ![n0, n1, n2, n3]⟩ .f32) (hb : S_.BroadcastsInDim ⟨4, ![n0, n1, n2, n3]⟩ ![]) (b : BitVec 32) (i) :
    maximumf (broadcastInDim ⟨4, ![n0, n1, n2, n3]⟩ ![] hb (constant S_ .f32 b)) y i = max (Ideal.ofBits FTy.f32 b) (y i) := rfl

theorem smax_at (s : FVec Ideal S8x8x2x4096x4112 .f32) (b h : Fin 8) (g : Fin 2) (x : Fin 4096) :
    smax s (ix4 b h g x) = max (Ideal.ofBits FTy.f32 4286578688#32) (Finset.fold max (Ideal.ofBits FTy.f32 4286578688#32) (fun t => s (ix5 b h g x t)) Finset.univ) :=
  (max_const _ _ _ _).trans (congrArg (max _) (max_last s _ _ (const_at _) _ _ b h g x))

theorem exps_at (s : FVec Ideal S8x8x2x4096x4112 .f32) (mx : FVec Ideal S8x8x2x4096 .f32) (b h : Fin 8) (g : Fin 2) (x : Fin 4096) (t : Fin 4112) :
    exps s mx (ix5 b h g x t) = Ideal.exp (s (ix5 b h g x t) - mx (ix4 b h g x)) := by
  pointwise [exps, spread]

theorem esum_at (s : FVec Ideal S8x8x2x4096x4112 .f32) (b h : Fin 8) (g : Fin 2) (x : Fin 4096) :
    esum s (ix4 b h g x) = ∑ t, s (ix5 b h g x t) := by
  pointwise [esum]

theorem prob_at (s : FVec Ideal S8x8x2x4096x4112 .f32) (mx : FVec Ideal S8x8x2x4096 .f32) (b h : Fin 8) (g : Fin 2) (x : Fin 4096) (t : Fin 4112) :
    prob s mx (ix5 b h g x t) = Ideal.div (s (ix5 b h g x t)) (mx (ix4 b h g x)) := by
  pointwise [prob, spread]

theorem lam_at (x7 x8 x9 x10 : FVec Ideal S64 .f32) :
    lam x7 x8 x9 x10 ix0 = Ideal.exp (∑ x, x7 (ix1 x) * x8 (ix1 x)) - Ideal.exp (∑ x, x9 (ix1 x) * x10 (ix1 x)) + Ideal.ofBits FTy.f32 1045220557#32 := by
  pointwise [lam]

theorem diff_at (p : FVec Ideal S8x8x2x4096x4112 .f32) (l : FVec Ideal S_ .f32) (b h : Fin 8) (x : Fin 4096) (t : Fin 4112) :
    diff p l (ix4 b h x t) = p (ix5 b h 0 x t) - l ix0 * p (ix5 b h 1 x t) := by
  pointwise [diff]

theorem mixed_at (va : FVec Ideal S8x4112x8x128 .f32) (a : FVec Ideal S8x8x4096x4112 .f32) (b h : Fin 8) (x : Fin 4096) (e : Fin 128) :
    mixed va a (ix4 b x h e) = ∑ t, va (ix4 b t h e) * a (ix4 b h x t) := by
  pointwise [mixed]

theorem gated_at (o : FVec Ideal S8x4096x8x128 .f32) (za : FVec Ideal S8x4096x1024 .f32) (w : FVec Ideal S128 .f32) (b h : Fin 8) (x : Fin 4096) (e : Fin 128) :
    gated o za w (ix2 ⟨4096 * b.val + x.val, by omega⟩ ⟨128 * h.val + e.val, by omega⟩) =
      o (ix4 b x h e) * Ideal.rsqrt (Ideal.div (∑ y, o (ix4 b x h y) * o (ix4 b x h y)) (Ideal.ofBits FTy.f32 1124073472#32) + Ideal.ofBits FTy.f32 897988541#32)
          * w (ix1 e) * Ideal.ofBits FTy.f32 1061997773#32
        * (za (ix3 b x ⟨128 * h.val + e.val, by omega⟩) * Ideal.div 1 (1 + Ideal.exp (-za (ix3 b x ⟨128 * h.val + e.val, by omega⟩)))) := by
  pointwise [gated]

/-! ## The softmax over real numbers -/

/-- One head's arrays, in real numbers. -/
structure Reals (a0 a1 : FVec Ideal S8x4096x8x2x64 .f32) (a2 : FVec Ideal S8x4096x8x128 .f32) (a3 : FVec Ideal S16x8x2x64 .f32) (a4 : FVec Ideal S16x8x128 .f32) (b h : Fin 8)
    (Q K : Fin 4096 → Fin 2 → Fin 64 → ℝ) (V : Fin 4096 → Fin 128 → ℝ) (KM : Fin 16 → Fin 2 → Fin 64 → ℝ) (VM : Fin 16 → Fin 128 → ℝ) : Prop where
  q : ∀ t g d, a0 (ix5 b t h g d) = (Q t g d : EReal)
  k : ∀ t g d, a1 (ix5 b t h g d) = (K t g d : EReal)
  v : ∀ t e, a2 (ix4 b t h e) = (V t e : EReal)
  km : ∀ t g d, a3 (ix4 t h g d) = (KM t g d : EReal)
  vm : ∀ t e, a4 (ix3 t h e) = (VM t e : EReal)

section
variable {a0 a1 : FVec Ideal S8x4096x8x2x64 .f32} {a2 : FVec Ideal S8x4096x8x128 .f32} {a3 : FVec Ideal S16x8x2x64 .f32} {a4 : FVec Ideal S16x8x128 .f32} {b h : Fin 8}
  {Q K : Fin 4096 → Fin 2 → Fin 64 → ℝ} {V : Fin 4096 → Fin 128 → ℝ} {KM : Fin 16 → Fin 2 → Fin 64 → ℝ} {VM : Fin 16 → Fin 128 → ℝ}
  (R : Reals a0 a1 a2 a3 a4 b h Q K V KM VM)

/-- A key's score with a query. -/
def score (Q K : Fin 4096 → Fin 2 → Fin 64 → ℝ) (KM : Fin 16 → Fin 2 → Fin 64 → ℝ) (x : Fin 4096) (g : Fin 2) (t : Fin 4112) : ℝ :=
  if h' : t.val < 16 then sc (Q x) (KM ⟨t.val, h'⟩) g else sc (Q x) (K ⟨t.val - 16, by omega⟩) g

/-- A key's weight with a query. -/
def weight (Q K : Fin 4096 → Fin 2 → Fin 64 → ℝ) (KM : Fin 16 → Fin 2 → Fin 64 → ℝ) (x : Fin 4096) (g : Fin 2) (t : Fin 4112) : ℝ :=
  if t.val < 16 ∨ (t.val - 16) / 64 ≤ x.val / 64 then Real.exp (score Q K KM x g t) else 0

/-- The sum over all keys, weighted. -/
def whole (Q K : Fin 4096 → Fin 2 → Fin 64 → ℝ) (KM : Fin 16 → Fin 2 → Fin 64 → ℝ) (x : Fin 4096) (g : Fin 2) (f : Fin 4096 → ℝ) (fm : Fin 16 → ℝ) : ℝ :=
  (∑ t, fm t * Real.exp (sc (Q x) (KM t) g)) + ∑ t : Fin 4096, f t * (if t.val / 64 ≤ x.val / 64 then Real.exp (sc (Q x) (K t) g) else 0)

theorem whole_eq (x : Fin 4096) (g : Fin 2) (f : Fin 4096 → ℝ) (fm : Fin 16 → ℝ) :
    ∑ t : Fin 4112, (if h' : t.val < 16 then fm ⟨t.val, h'⟩ else f ⟨t.val - 16, by omega⟩) * weight Q K KM x g t = whole Q K KM x g f fm := by
  refine (Fin.sum_univ_add (a := 16) (b := 4096) (fun t : Fin 4112 => (if h' : t.val < 16 then fm ⟨t.val, h'⟩ else f ⟨t.val - 16, by omega⟩) * weight Q K KM x g t)).trans ?_
  unfold whole
  refine add_eq (Finset.sum_congr rfl fun t _ => ?_) (Finset.sum_congr rfl fun t _ => ?_)
  · have ht : (Fin.castAdd 4096 t : Fin 4112).val < 16 := t.2
    unfold weight score
    rw [dif_pos ht, if_pos (Or.inl ht), dif_pos ht]
    rfl
  · have hv : (Fin.natAdd 16 t : Fin 4112).val = 16 + t.val := rfl
    have ht : ¬ (Fin.natAdd 16 t : Fin 4112).val < 16 := by rw [hv]; omega
    have e : (⟨(Fin.natAdd 16 t : Fin 4112).val - 16, by rw [hv]; omega⟩ : Fin 4096) = t := Fin.ext (by show 16 + t.val - 16 = t.val; omega)
    unfold weight score
    rw [dif_neg ht, dif_neg ht]
    simp only [e]
    have : ((Fin.natAdd 16 t : Fin 4112).val < 16 ∨ ((Fin.natAdd 16 t : Fin 4112).val - 16) / 64 ≤ x.val / 64) ↔ t.val / 64 ≤ x.val / 64 := by
      rw [hv]; constructor
      · rintro (h | h)
        · omega
        · have : 16 + t.val - 16 = t.val := by omega
          rwa [this] at h
      · intro h; right
        have : 16 + t.val - 16 = t.val := by omega
        rwa [this]
    simp only [this]

theorem whole_pos (x : Fin 4096) (g : Fin 2) : 0 < whole Q K KM x g (fun _ => 1) (fun _ => 1) := by
  unfold whole
  refine add_pos_of_pos_of_nonneg (Finset.sum_pos (fun t _ => ?_) ⟨0, Finset.mem_univ _⟩) (Finset.sum_nonneg fun t _ => ?_)
  · rw [one_mul]; exact Real.exp_pos _
  · rw [one_mul]; split
    · exact (Real.exp_pos _).le
    · exact le_rfl

include R

theorem scores_real (g : Fin 2) (x : Fin 4096) (t : Fin 4112) :
    scores a0 (keys a1 a3) (mask chunk) (ix5 b h g x t)
      = if t.val < 16 ∨ (t.val - 16) / 64 ≤ x.val / 64 then ((score Q K KM x g t : ℝ) : EReal) else ⊥ := by
  rw [scores_at, mask_at, ofBits_neg_inf]
  have hs : (∑ d, a0 (ix5 b x h g d) * keys a1 a3 (ix5 b t h g d)) * Ideal.ofBits FTy.f32 1040187392#32 = ((score Q K KM x g t : ℝ) : EReal) := by
    have h8 : Ideal.ofBits FTy.f32 1040187392#32 = (((1 : ℝ) / 8 : ℝ) : EReal) := ofBits_eighth
    have hd : ∀ d, a0 (ix5 b x h g d) * keys a1 a3 (ix5 b t h g d)
        = ((Q x g d * (if h' : t.val < 16 then KM ⟨t.val, h'⟩ g d else K ⟨t.val - 16, by omega⟩ g d) : ℝ) : EReal) := by
      intro d
      rw [keys_at, R.q]
      split
      · rw [R.km, ← EReal.coe_mul]
      · rw [R.k, ← EReal.coe_mul]
    rw [Finset.sum_congr rfl fun d _ => hd d, ← coe_sum, h8, ← EReal.coe_mul]
    refine coe_congr ?_
    unfold score sc
    split <;> rfl
  rw [hs]
  by_cases hm : t.val < 16 ∨ (t.val - 16) / 64 ≤ x.val / 64
  · rw [if_pos hm, if_pos hm]; rfl
  · rw [if_neg hm, if_neg hm]; rfl

theorem smax_real (g : Fin 2) (x : Fin 4096) : ∃ M : ℝ, smax (scores a0 (keys a1 a3) (mask chunk)) (ix4 b h g x) = (M : EReal) := by
  rw [smax_at]
  obtain ⟨r, hr⟩ := fold_max_real (fun t => scores a0 (keys a1 a3) (mask chunk) (ix5 b h g x t)) (fun t => by
    show scores a0 (keys a1 a3) (mask chunk) (ix5 b h g x t) ≠ ⊤
    rw [scores_real R]; split
    · exact EReal.coe_ne_top _
    · exact bot_ne_top) (⟨0, by omega⟩ : Fin 4112) (by
    show scores a0 (keys a1 a3) (mask chunk) (ix5 b h g x ⟨0, _⟩) ≠ ⊥
    rw [scores_real R, if_pos (Or.inl (by show 0 < 16; omega))]; exact EReal.coe_ne_bot _)
  refine ⟨r, ?_⟩
  have hn : Ideal.ofBits FTy.f32 4286578688#32 = (⊥ : EReal) := ofBits_neg_inf
  have hr' : Finset.fold max (Ideal.ofBits FTy.f32 4286578688#32) (fun t => scores a0 (keys a1 a3) (mask chunk) (ix5 b h g x t)) Finset.univ = (r : EReal) := hr
  rw [hr', hn]
  exact max_eq_right bot_le

/-- The softmax of the reference: a key's weight over the sum of all. -/
theorem soft_real (g : Fin 2) (x : Fin 4096) (t : Fin 4112) :
    soft a0 a1 a3 (ix5 b h g x t) = ((weight Q K KM x g t / whole Q K KM x g (fun _ => 1) (fun _ => 1) : ℝ) : EReal) := by
  obtain ⟨M, hM⟩ := smax_real R g x
  have he : ∀ t, exps (scores a0 (keys a1 a3) (mask chunk)) (smax (scores a0 (keys a1 a3) (mask chunk))) (ix5 b h g x t)
      = ((weight Q K KM x g t * Real.exp (-M) : ℝ) : EReal) := by
    intro t
    rw [exps_at, hM, scores_real R]
    unfold weight
    split
    · rw [exp_sub]
    · rw [exp_bot_sub, zero_mul]
  have hl : (∑ t, weight Q K KM x g t) = whole Q K KM x g (fun _ => 1) (fun _ => 1) := by
    rw [← whole_eq]
    refine Finset.sum_congr rfl fun t _ => ?_
    split <;> rw [one_mul]
  have hp := whole_pos (Q := Q) (K := K) (KM := KM) x g
  unfold soft
  rw [prob_at, esum_at, Finset.sum_congr rfl fun t _ => he t, he, ← coe_sum, ← Finset.sum_mul, hl, div_real _ _ (mul_pos hp (Real.exp_pos _)).ne']
  refine coe_congr ?_
  rw [mul_div_mul_right _ _ (Real.exp_pos _).ne']

/-- The attention's output: the first softmax's mean of the values less λ times the second's. -/
theorem mixed_real (l : FVec Ideal S_ .f32) (lr : ℝ) (hl : l ix0 = (lr : EReal)) (x : Fin 4096) (e : Fin 128) :
    mixed (vals a2 a4) (diff (soft a0 a1 a3) l) (ix4 b x h e)
      = ((whole Q K KM x 0 (fun t => V t e) (fun t => VM t e) / whole Q K KM x 0 (fun _ => 1) (fun _ => 1)
          - lr * (whole Q K KM x 1 (fun t => V t e) (fun t => VM t e) / whole Q K KM x 1 (fun _ => 1) (fun _ => 1)) : ℝ) : EReal) := by
  have ht : ∀ t, vals a2 a4 (ix4 b t h e) * diff (soft a0 a1 a3) l (ix4 b h x t)
      = (((if h' : t.val < 16 then VM ⟨t.val, h'⟩ e else V ⟨t.val - 16, by omega⟩ e)
          * (weight Q K KM x 0 t / whole Q K KM x 0 (fun _ => 1) (fun _ => 1)
            - lr * (weight Q K KM x 1 t / whole Q K KM x 1 (fun _ => 1) (fun _ => 1))) : ℝ) : EReal) := by
    intro t
    rw [vals_at, diff_at, hl, soft_real R, soft_real R, ← EReal.coe_mul, ← EReal.coe_sub]
    split
    · rw [R.vm, ← EReal.coe_mul]
    · rw [R.v, ← EReal.coe_mul]
  rw [mixed_at, Finset.sum_congr rfl fun t _ => ht t, ← coe_sum]
  refine coe_congr ?_
  rw [← whole_eq x 0 (fun t => V t e) (fun t => VM t e), ← whole_eq x 1 (fun t => V t e) (fun t => VM t e), Finset.sum_div, Finset.sum_div, Finset.mul_sum, ← Finset.sum_sub_distrib]
  refine Finset.sum_congr rfl fun t _ => ?_
  ring

end

end Cert.ReferenceIdeal.Attn

end
-- ==== Proof.AttnValue.lean ====
module

public import proofs.«01_k».proof.Proof.AttnTail
public import proofs.«01_k».proof.Proof.AttnHost
public import proofs.«01_k».proof.Proof.AttnOut
public import proofs.«01_k».proof.Proof.RefValue

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Cert.Real
open Cert.ReferenceIdeal.Attn (whole)

/-! ## One query block's result -/

section
variable {x0 x1 x6 : Vec Ideal S4096x128 .bf16} {x2 : Vec Ideal S8x128x512 .bf16} {x3 x4 : Vec Ideal S128x128 .bf16} {x5 : Vec Ideal S512x1024 .f32}
  {x7 : Vec Ideal S128x1 .f32} {x8 x9 x10 x11 : Vec Ideal S1x64 .f32}
  {Q K : Fin 4096 → Fin 2 → Fin 64 → ℝ} {W : Fin 4096 → Fin 128 → ℝ} {KM : Fin 16 → Fin 2 → Fin 64 → ℝ} {WM : Fin 16 → Fin 128 → ℝ}

/-- One component's mean at a position of the sequence. -/
def meanR (Q K : Fin 4096 → Fin 2 → Fin 64 → ℝ) (W : Fin 4096 → Fin 128 → ℝ) (KM : Fin 16 → Fin 2 → Fin 64 → ℝ) (WM : Fin 16 → Fin 128 → ℝ) (x : Fin 4096) (g : Fin 2) (e : Fin 128) : ℝ :=
  whole Q K KM x g (fun t => W t e) (fun t => WM t e) / whole Q K KM x g (fun _ => 1) (fun _ => 1)

/-- The kernel's mean at a column is the mean at the column's position and half-head. -/
theorem meanK_real (R : Reals x0 x1 x2 x3 x4 x5 Q K W KM WM) (i : ℕ) (hi : i < 8) (c : Fin 1024) (e : Fin 128) :
    meanK (slabAt x2 i) (pD x0 x1 x3 x5 i) x4 (pmD x0 x1 x3 x5 i) (alD x0 x1 x3 x5 i) (aS x0 x1 x2 i i) e c
      = ((meanR Q K W KM WM (rowIx i (colRow c)) (colHalf c) e : ℝ) : EReal) :=
  mean_real R i c hi e

/-- The kernel's difference of means. -/
theorem odK_real (R : Reals x0 x1 x2 x3 x4 x5 Q K W KM WM) (i : ℕ) (hi : i < 8) (lr : ℝ) (hl : k0_pay2 x8 x9 x10 x11 (ix2 0 0) = (lr : EReal)) (e : Fin 128) (r : Fin 512) :
    odK (k0_pay2 x8 x9 x10 x11) (slabAt x2 i) (pD x0 x1 x3 x5 i) x4 (pmD x0 x1 x3 x5 i) (alD x0 x1 x3 x5 i) (aS x0 x1 x2 i i) e r
      = ((meanR Q K W KM WM (rowIx i r) 0 e - lr * meanR Q K W KM WM (rowIx i r) 1 e : ℝ) : EReal) := by
  unfold odK
  rw [meanK_real R i hi, meanK_real R i hi, hl, ← EReal.coe_mul, ← EReal.coe_sub]
  have a0 : colRow ⟨r.val, by omega⟩ = r := Fin.ext (by show r.val % 512 = r.val; omega)
  have a1 : colRow ⟨512 + r.val, by omega⟩ = r := Fin.ext (by show (512 + r.val) % 512 = r.val; omega)
  have b0 : colHalf ⟨r.val, by omega⟩ = 0 := Fin.ext (by show r.val / 512 = 0; omega)
  have b1 : colHalf ⟨512 + r.val, by omega⟩ = 1 := Fin.ext (by show (512 + r.val) / 512 = 1; omega)
  rw [a0, a1, b0, b1]

/-- The gated, normalised row from a row of differences. -/
def gateR (O : Fin 128 → EReal) (w z : EReal) (e : Fin 128) : EReal :=
  O e * Ideal.rsqrt (Ideal.div (∑ y, O y * O y) (Ideal.ofBits .f32 1124073472#32) + Ideal.ofBits .f32 897988541#32) * w * Ideal.ofBits .f32 1061997773#32 * z

/-- What is stored of query block `i`. -/
theorem oS_real (R : Reals x0 x1 x2 x3 x4 x5 Q K W KM WM) (i : ℕ) (hi : i < 8) (lr : ℝ) (hl : k0_pay2 x8 x9 x10 x11 (ix2 0 0) = (lr : EReal)) (e : Fin 128) (r : Fin 512) :
    oS x0 x1 x3 x5 i x2 x4 x6 x7 x8 x9 x10 x11 (ix2 r e)
      = gateR (fun y => ((meanR Q K W KM WM (rowIx i r) 0 y - lr * meanR Q K W KM WM (rowIx i r) 1 y : ℝ) : EReal)) (x7 (ix2 e 0)) (x6 (ix2 (rowIx i r) e)) e := by
  unfold oS gateR
  rw [stored_at, normed_at]
  simp only [odK_real R i hi lr hl]
  rfl

end

variable (m : (ℓ : Loc nD τ sig) → Buf (Elt Ideal) ℓ)

/-- What the body leaves in the output's buffer, at a position and a feature. -/
theorem outAt_at (c : Dev nD) (t : Fin cfg0.N) (v : EReal) (x : Fin 4096) (e : Fin 128)
    (h : ∀ i < 8, ∀ r : Fin 512, x = rowIx i r → oS (iblk m c 0 t) (iblk m c 1 t) (iblk m c 3 t) (iblk m c 5 t) i (iblk m c 2 t) (iblk m c 4 t) (iblk m c 6 t) (iblk m c 7 t)
      (iblk m c 8 t) (iblk m c 9 t) (iblk m c 10 t) (iblk m c 11 t) (ix2 r e) = v) :
    outAt m c t (ix2 x e) = v := by
  have hc := cover m c t (ix2 x e)
  unfold outAt
  unfold runAt at hc ⊢
  rw [bodyRun_pieces] at hc ⊢
  refine View.canon_eq_of_allAt _ _ _ hc ?_
  have key : ∀ (i : ℕ) (hi : i < 8), View.TileAt (Val := Elt Ideal) (S := S4096x128) (e := .bf16) (ix2 x e) ![512 * i, 0] S512x128.size (oS (iblk m c 0 t) (iblk m c 1 t) (iblk m c 3 t) (iblk m c 5 t) i (iblk m c 2 t) (iblk m c 4 t) (iblk m c 6 t) (iblk m c 7 t)
      (iblk m c 8 t) (iblk m c 9 t) (iblk m c 10 t) (iblk m c 11 t)) v := by
    intro i hi y hy
    have h0 : x.val = 512 * i + (y 0).val := hy 0
    have h1 : e.val = 0 + (y 1).val := hy 1
    have hr : (y 0).val < 512 := (y 0).isLt
    have e0 : y = ix2 (⟨(y 0).val, hr⟩ : Fin 512) e := by
      funext a
      match a with
      | ⟨0, _⟩ => rfl
      | ⟨1, _⟩ => exact Fin.ext (by show (y 1).val = e.val; omega)
    rw [e0]
    exact h i hi _ (Fin.ext (by show x.val = (512 * i + (y 0).val) % 4096; omega))
  exact View.allAt_cons_unit _ _ _ _ _ (key 7 (by decide)) (View.allAt_cons_unit _ _ _ _ _ (key 6 (by decide)) (View.allAt_cons_unit _ _ _ _ _ (key 5 (by decide))
    (View.allAt_cons_unit _ _ _ _ _ (key 4 (by decide)) (View.allAt_cons_unit _ _ _ _ _ (key 3 (by decide)) (View.allAt_cons_unit _ _ _ _ _ (key 2 (by decide))
    (View.allAt_cons_unit _ _ _ _ _ (key 1 (by decide)) (View.allAt_cons_unit _ _ _ _ _ (key 0 (by decide)) (View.allAt_nil _ _))))))))

end Cert.KernelIdeal.Attn

end
-- ==== Proof.AttnFinal.lean ====
module

public import proofs.«01_k».proof.Proof.AttnValue
public import proofs.«01_k».proof.Proof.RefTerm

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Cert.Real
open Cert.ReferenceIdeal.Attn (whole REF)

/-! ## The output array -/

/-- The scaled query, in real numbers. -/
theorem scaled (a : ℝ) : Ideal.div ((a : EReal) * Ideal.ofBits .f32 0x3E000000#32) (Ideal.log (Ideal.ofBits .f32 0x40000000#32)) = ((a * (1 / 8) / Real.log 2 : ℝ) : EReal) := by
  have h2 : Real.log 2 ≠ 0 := (Real.log_pos (by norm_num)).ne'
  rw [ofBits_eighth, ofBits_two, Ideal.log_coe, if_neg (by norm_num), ← EReal.coe_mul, Ideal.div_coe h2, ← EReal.coe_mul]
  exact coe_congr (by ring)

/-- A difference of exponentials of real scalar products, plus a constant, is a real number. -/
theorem lam_real (a b c d : Fin 64 → EReal) (ha : ∀ i, ∃ r : ℝ, a i = (r : EReal)) (hb : ∀ i, ∃ r : ℝ, b i = (r : EReal)) (hc : ∀ i, ∃ r : ℝ, c i = (r : EReal)) (hd : ∀ i, ∃ r : ℝ, d i = (r : EReal)) :
    ∃ r : ℝ, Ideal.exp (∑ x, a x * b x) - Ideal.exp (∑ x, c x * d x) + Ideal.ofBits FTy.f32 1045220557#32 = (r : EReal) := by
  choose A ha using ha
  choose B hb using hb
  choose C hc using hc
  choose D hd using hd
  obtain ⟨k, hk⟩ := ofBits_fifth
  have h1 : ∑ x, a x * b x = ((∑ x, A x * B x : ℝ) : EReal) := by
    exact (Finset.sum_congr rfl fun x _ => by rw [ha, hb, ← EReal.coe_mul]).trans (coe_sum _ _).symm
  have h2 : ∑ x, c x * d x = ((∑ x, C x * D x : ℝ) : EReal) := by
    exact (Finset.sum_congr rfl fun x _ => by rw [hc, hd, ← EReal.coe_mul]).trans (coe_sum _ _).symm
  refine ⟨Real.exp (∑ x, A x * B x) - Real.exp (∑ x, C x * D x) + k, ?_⟩
  rw [h1, h2, Ideal.exp_coe, Ideal.exp_coe, hk, ← EReal.coe_sub, ← EReal.coe_add]

variable (m : (ℓ : Loc nD τ sig) → Buf (Elt Ideal) ℓ)

/-- An argument's contents. -/
abbrev A0 (c : Dev nD) : FVec Ideal S8x4096x8x2x64 .f32 := m ((c : Thread nD τ).loc main_arg0)
abbrev A1 (c : Dev nD) : FVec Ideal S8x4096x8x2x64 .f32 := m ((c : Thread nD τ).loc main_arg1)
abbrev A2 (c : Dev nD) : FVec Ideal S8x4096x8x128 .f32 := m ((c : Thread nD τ).loc main_arg2)
abbrev A3 (c : Dev nD) : FVec Ideal S16x8x2x64 .f32 := m ((c : Thread nD τ).loc main_arg3)
abbrev A4 (c : Dev nD) : FVec Ideal S16x8x128 .f32 := m ((c : Thread nD τ).loc main_arg4)
abbrev A5 (c : Dev nD) : FVec Ideal S8x4096x1024 .f32 := m ((c : Thread nD τ).loc main_arg5)
abbrev A6 (c : Dev nD) : FVec Ideal S128 .f32 := m ((c : Thread nD τ).loc main_arg6)
abbrev A7 (c : Dev nD) : FVec Ideal S64 .f32 := m ((c : Thread nD τ).loc main_arg7)
abbrev A8 (c : Dev nD) : FVec Ideal S64 .f32 := m ((c : Thread nD τ).loc main_arg8)
abbrev A9 (c : Dev nD) : FVec Ideal S64 .f32 := m ((c : Thread nD τ).loc main_arg9)
abbrev A10 (c : Dev nD) : FVec Ideal S64 .f32 := m ((c : Thread nD τ).loc main_arg10)

/-- The arguments the softmax and the mixing weight read hold real numbers. -/
structure Finite (c : Dev nD) : Prop where
  a0 : ∀ i, ∃ r : ℝ, A0 m c i = (r : EReal)
  a1 : ∀ i, ∃ r : ℝ, A1 m c i = (r : EReal)
  a2 : ∀ i, ∃ r : ℝ, A2 m c i = (r : EReal)
  a3 : ∀ i, ∃ r : ℝ, A3 m c i = (r : EReal)
  a4 : ∀ i, ∃ r : ℝ, A4 m c i = (r : EReal)
  a7 : ∀ i, ∃ r : ℝ, A7 m c i = (r : EReal)
  a8 : ∀ i, ∃ r : ℝ, A8 m c i = (r : EReal)
  a9 : ∀ i, ∃ r : ℝ, A9 m c i = (r : EReal)
  a10 : ∀ i, ∃ r : ℝ, A10 m c i = (r : EReal)

variable {m}

/-- A finite extended real is the real number it names. -/
theorem coe_back {x : EReal} (h : ∃ r : ℝ, x = (r : EReal)) : x = ((x.toReal : ℝ) : EReal) := by
  obtain ⟨r, rfl⟩ := h
  rw [EReal.toReal_coe]

/-- One head's arrays as the reference reads them. -/
theorem ref_reals {c : Dev nD} (fin : Finite m c) (b h : Fin 8) :
    Cert.ReferenceIdeal.Attn.Reals (A0 m c) (A1 m c) (A2 m c) (A3 m c) (A4 m c) b h (fun t g d => (A0 m c (ix5 b t h g d)).toReal) (fun t g d => (A1 m c (ix5 b t h g d)).toReal)
      (fun t e => (A2 m c (ix4 b t h e)).toReal) (fun t g d => (A3 m c (ix4 t h g d)).toReal) (fun t e => (A4 m c (ix3 t h e)).toReal) where
  q _ _ _ := coe_back (fin.a0 _)
  k _ _ _ := coe_back (fin.a1 _)
  v _ _ := coe_back (fin.a2 _)
  km _ _ _ := coe_back (fin.a3 _)
  vm _ _ := coe_back (fin.a4 _)

/-- The same arrays as the kernel's windows hold them at the head's grid point. -/
theorem ker_reals {c : Dev nD} (fin : Finite m c) (t : Fin cfg0.N) :
    Reals (iblk m c 0 t) (iblk m c 1 t) (iblk m c 2 t) (iblk m c 3 t) (iblk m c 4 t) (iblk m c 5 t) (fun x g d => (A0 m c (ix5 (bat t) x (hd t) g d)).toReal) (fun x g d => (A1 m c (ix5 (bat t) x (hd t) g d)).toReal)
      (fun x e => (A2 m c (ix4 (bat t) x (hd t) e)).toReal) (fun x g d => (A3 m c (ix4 x (hd t) g d)).toReal) (fun x e => (A4 m c (ix3 x (hd t) e)).toReal) where
  q y x := by
    refine (b0 m c t y x).trans ((congrFun (v23 m c) _).trans ((zcat_q (A0 m c) (A1 m c) (A2 m c) (A5 m c) (bat t) (hd t) y x).trans ?_))
    obtain ⟨r, hr⟩ := fin.a0 (ix5 (bat t) y (hd t) (half x) (lane x))
    rw [hr, scaled, EReal.toReal_coe]
  k y x := (b1 m c t y x).trans ((congrFun (v23 m c) _).trans ((zcat_k (A0 m c) (A1 m c) (A2 m c) (A5 m c) (bat t) (hd t) y x).trans (coe_back (fin.a1 _))))
  v j e k := (b2 m c t j e k).trans ((congrFun (v25 m c) _).trans ((vslab_at (A2 m c) (bat t) (hd t) j k e).trans (coe_back (fin.a2 _))))
  km y x := by
    refine (b3 m c t y x).trans ((congrFun (v28 m c) _).trans ((kpad_at (A3 m c) (hd t) y x).trans ?_))
    split
    · exact coe_back (fin.a3 _)
    · rfl
  vm e y := by
    refine (b4 m c t e y).trans ((congrFun (v32 m c) _).trans ((vpad_at (A4 m c) (hd t) y e).trans ?_))
    split
    · exact coe_back (fin.a4 _)
    · rfl
  b k q := (b5 m c t k q).trans ((congrFun (v48 m c) _).trans (bias_at k q))

variable (m)

/-- The mixing weight the kernel computes is the reference's. -/
theorem lam_eq (c : Dev nD) (t : Fin cfg0.N) :
    k0_pay2 (iblk m c 8 t : Vec Ideal S1x64 .f32) (iblk m c 9 t) (iblk m c 10 t) (iblk m c 11 t) (ix2 0 0) = Cert.ReferenceIdeal.Attn.lam (A7 m c) (A8 m c) (A9 m c) (A10 m c) ix0 := by
  have e8 : ∀ x, (iblk m c 8 t : Vec Ideal S1x64 .f32) (ix2 0 x) = A7 m c (ix1 x) := fun x => (b8 m c t x).trans ((congrFun (v34 m c) _).trans (row_at (A7 m c) x))
  have e9 : ∀ x, (iblk m c 9 t : Vec Ideal S1x64 .f32) (ix2 0 x) = A8 m c (ix1 x) := fun x => (b9 m c t x).trans ((congrFun (v35 m c) _).trans (row_at (A8 m c) x))
  have e10 : ∀ x, (iblk m c 10 t : Vec Ideal S1x64 .f32) (ix2 0 x) = A9 m c (ix1 x) := fun x => (b10 m c t x).trans ((congrFun (v36 m c) _).trans (row_at (A9 m c) x))
  have e11 : ∀ x, (iblk m c 11 t : Vec Ideal S1x64 .f32) (ix2 0 x) = A10 m c (ix1 x) := fun x => (b11 m c t x).trans ((congrFun (v37 m c) _).trans (row_at (A10 m c) x))
  refine (lamK_at _ _ _ _).trans (Eq.trans ?_ (Cert.ReferenceIdeal.Attn.lam_at _ _ _ _).symm)
  simp only [e8, e9, e10, e11]

/-- What the body leaves at a grid point is the reference at the point's rows and columns. -/
theorem point {c : Dev nD} (fin : Finite m c) (t : Fin cfg0.N) (x : Fin 4096) (e : Fin 128) :
    outAt m c t (ix2 x e) = REF (A0 m c) (A1 m c) (A2 m c) (A3 m c) (A4 m c) (A5 m c) (A6 m c) (A7 m c) (A8 m c) (A9 m c) (A10 m c)
      (ix2 ⟨4096 * (bat t).val + x.val, by omega⟩ ⟨128 * (hd t).val + e.val, by omega⟩) := by
  obtain ⟨lr, hlr⟩ := lam_real (fun x => A7 m c (ix1 x)) (fun x => A8 m c (ix1 x)) (fun x => A9 m c (ix1 x)) (fun x => A10 m c (ix1 x)) (fun _ => fin.a7 _) (fun _ => fin.a8 _) (fun _ => fin.a9 _) (fun _ => fin.a10 _)
  have hl : Cert.ReferenceIdeal.Attn.lam (A7 m c) (A8 m c) (A9 m c) (A10 m c) ix0 = (lr : EReal) := (Cert.ReferenceIdeal.Attn.lam_at _ _ _ _).trans hlr
  refine outAt_at m c t _ x e fun i hi r hx => ?_
  refine (oS_real (ker_reals fin t) i hi lr ((lam_eq m c t).trans hl) e r).trans ?_
  rw [← hx]
  refine Eq.trans ?_ (Cert.ReferenceIdeal.Attn.gated_at _ (A5 m c) (A6 m c) (bat t) (hd t) x e).symm
  have h7 : (iblk m c 7 t : Vec Ideal S128x1 .f32) (ix2 e 0) = A6 m c (ix1 e) := (b7 m c t e).trans ((congrFun (v33 m c) _).trans (col_at (A6 m c) e))
  have h6 : (iblk m c 6 t : Vec Ideal S4096x128 .bf16) (ix2 x e) = A5 m c (ix3 (bat t) x ⟨128 * (hd t).val + e.val, by omega⟩) * Ideal.div 1 (1 + Ideal.exp (-A5 m c (ix3 (bat t) x ⟨128 * (hd t).val + e.val, by omega⟩))) :=
    (b6 m c t x e).trans ((congrFun (v23 m c) _).trans (zcat_g (A0 m c) (A1 m c) (A2 m c) (A5 m c) (bat t) (hd t) x e))
  rw [h7, h6]
  unfold gateR
  simp only [Cert.ReferenceIdeal.Attn.mixed_real (ref_reals fin (bat t) (hd t)) _ lr hl]
  rfl

/-- The output array after the run is the reference. -/
theorem final {c : Dev nD} (fin : Finite m c) : (dats m 0 c).arrAt 13 cfg0.N =
    REF (A0 m c) (A1 m c) (A2 m c) (A3 m c) (A4 m c) (A5 m c) (A6 m c) (A7 m c) (A8 m c) (A9 m c) (A10 m c) := by
  refine (dats m 0 c).arrAt_eq_of_covers 13 _ (by decide +kernel) fun t _ y => ?_
  blk_simp
  rw [after13]
  idx_vars y
  have e : ((cfg0.win 13).blk t).view.emb (ix2 y0 y1) = ix2 (⟨4096 * (bat t).val + y0.val, by omega⟩ : Fin 32768) (⟨128 * (hd t).val + y1.val, by omega⟩ : Fin 1024) := by
    blk_ext [idx t]
  exact (point m fin t y0 y1).trans (congrArg (REF (A0 m c) (A1 m c) (A2 m c) (A3 m c) (A4 m c) (A5 m c) (A6 m c) (A7 m c) (A8 m c) (A9 m c) (A10 m c)) e).symm

end Cert.KernelIdeal.Attn

end
-- ==== Proof.Finite.lean ====
module

public import proofs.«01_k».proof.Pre_finite
public import Idealize.ShloMosaic.Lib.ReduceAll
public import Idealize.ShloMosaic.Lib.Pointwise

@[expose] public section

set_option maxRecDepth 16384

noncomputable section

namespace Cert.Pre_finite

open Idealize.ShloMosaic Idealize.ShloMosaic.Tactic

/-- The precondition's side conditions. -/
instance facts : Cert.Pre_finite.Facts where
  bcast_S_S8x4096x8x2x64 := by decide
  reducesTo_S8x4096x8x2x64_S_d0_1_2_3_4 := by decide
  h_S_ := by decide
  bcast_S_S8x4096x8x128 := by decide
  reducesTo_S8x4096x8x128_S_d0_1_2_3 := by decide
  bcast_S_S16x8x2x64 := by decide
  reducesTo_S16x8x2x64_S_d0_1_2_3 := by decide
  bcast_S_S16x8x128 := by decide
  reducesTo_S16x8x128_S_d0_1_2 := by decide
  bcast_S_S64 := by decide
  reducesTo_S64_S_d0 := by decide

/-- An extended real of magnitude below infinity is a real number. -/
theorem real_of_lt (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe r => exact ⟨r, rfl⟩

/-- An array whose magnitudes all compare below infinity has real entries. -/
theorem lift {s : Shape} {axes : List (Fin s.rank)} (x : FVec Ideal s .f32) (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32))) (constantI S_ 1 1#1) hr hu ix0 = 1#1) (i : s.Idx) :
    ∃ r : ℝ, x i = (r : EReal) := by
  haveI : Subsingleton S_.Idx := ⟨fun a b => funext fun k => k.elim0⟩
  have h := Host.reduce_andi_all _ _ hr hu ix0 e i
  exact real_of_lt (x i) h

/-- Both sides of a conjunction of flags. -/
theorem both (a b : IVec S_ 1) (h : andi a b ix0 = 1#1) : a ix0 = 1#1 ∧ b ix0 = 1#1 := IntOp.andi_eq_one.1 h

/-- Under the precondition the entries of every array the softmax and the mixing weight read are real numbers. -/
theorem finite_of (a0 a1 : FVec Ideal S8x4096x8x2x64 .f32) (a2 : FVec Ideal S8x4096x8x128 .f32) (a3 : FVec Ideal S16x8x2x64 .f32) (a4 : FVec Ideal S16x8x128 .f32)
    (a5 : FVec Ideal S8x4096x1024 .f32) (a6 : FVec Ideal S128 .f32) (a7 a8 a9 a10 : FVec Ideal S64 .f32) (h : fn (F := Ideal) a0 a1 a2 a3 a4 a5 a6 a7 a8 a9 a10 = fun _ => 1#1) :
    ((∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)))
    ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) := by
  have h0 := congrFun h ix0
  obtain ⟨h0, e10⟩ := both _ _ h0
  obtain ⟨h0, e9⟩ := both _ _ h0
  obtain ⟨h0, e8⟩ := both _ _ h0
  obtain ⟨h0, e7⟩ := both _ _ h0
  obtain ⟨h0, e4⟩ := both _ _ h0
  obtain ⟨h0, e3⟩ := both _ _ h0
  obtain ⟨h0, e2⟩ := both _ _ h0
  obtain ⟨e0, e1⟩ := both _ _ h0
  exact ⟨⟨lift a0 _ _ _ e0, lift a1 _ _ _ e1, lift a2 _ _ _ e2, lift a3 _ _ _ e3, lift a4 _ _ _ e4⟩, lift a7 _ _ _ e7, lift a8 _ _ _ e8, lift a9 _ _ _ e9, lift a10 _ _ _ e10⟩

end Cert.Pre_finite

end
-- ==== Proof.AttnSHost.lean ====
module

public import proofs.«01_k».proof.Proof.Gen.AttnSIdeal.Value
public import proofs.«01_k».proof.Proof.AttnHost

@[expose] public section

set_option maxRecDepth 16384

noncomputable section

namespace Cert.AttnSIdeal.Attn

open Cert.AttnSIdeal Cert.AttnSIdeal.Gen
open Idealize.ShloMosaic Idealize.ShloMosaic.TcCoe Idealize.ShloMosaic.Tactic Idealize.SL.Sem
open Cert.Real
open Cert.KernelIdeal.Attn (half lane zero_pad)

/-! ## The arrays the host prepares for the sample's attention -/

/-- The queries' columns: scaled by one eighth over log 2. -/
def qcol (a0 : FVec Ideal S16x64x8x2x64 .f32) : FVec Ideal S1024x1024 .bf16 :=
  truncf .bf16 (Host.divf (mulf (shapeCast S1024x1024 a0 shapeCasts_S16x64x8x2x64_S1024x1024) (broadcastInDim S1024x1024 ![] bcast_S_S1024x1024 (constant S_ .f32 0x3E000000#32)))
    (broadcastInDim S1024x1024 ![] bcast_S_S1024x1024 (Host.log (constant S_ .f32 0x40000000#32)))) bitsLt_bf16_f32

/-- The keys' columns. -/
def kcol (a1 : FVec Ideal S16x64x8x2x64 .f32) : FVec Ideal S1024x1024 .bf16 :=
  truncf .bf16 (shapeCast S1024x1024 a1 shapeCasts_S16x64x8x2x64_S1024x1024) bitsLt_bf16_f32

/-- The values' columns. -/
def vcol (a2 : FVec Ideal S16x64x8x128 .f32) : FVec Ideal S1024x1024 .bf16 :=
  truncf .bf16 (shapeCast S1024x1024 a2 shapeCasts_S16x64x8x128_S1024x1024) bitsLt_bf16_f32

/-- The output gate's columns. -/
def gcol (a5 : FVec Ideal S16x64x1024 .f32) : FVec Ideal S1024x1024 .bf16 :=
  truncf .bf16 (mulf (shapeCast S1024x1024 a5 shapeCasts_S16x64x1024_S1024x1024)
    (addf (mulf (broadcastInDim S1024x1024 ![] bcast_S_S1024x1024 (constant S_ .f32 0x3F000000#32)) (Host.tanh (mulf (broadcastInDim S1024x1024 ![] bcast_S_S1024x1024 (constant S_ .f32 0x3F000000#32)) (shapeCast S1024x1024 a5 shapeCasts_S16x64x1024_S1024x1024)))) (broadcastInDim S1024x1024 ![] bcast_S_S1024x1024 (constant S_ .f32 0x3F000000#32)))) bitsLt_bf16_f32

/-- The columns the attention does not read. -/
def blank : FVec Ideal S1024x2048 .bf16 := broadcastInDim S1024x2048 ![] bcast_S_S1024x2048 (constant S_ .bf16 0x0000#16)

/-- The packed array. -/
def zcat (a0 a1 : FVec Ideal S16x64x8x2x64 .f32) (a2 : FVec Ideal S16x64x8x128 .f32) (a5 : FVec Ideal S16x64x1024 .f32) : FVec Ideal S1024x8192 .bf16 :=
  concatenate S1024x8192 1 [⟨S1024x2048, blank⟩, ⟨S1024x1024, qcol a0⟩, ⟨S1024x1024, kcol a1⟩, ⟨S1024x1024, vcol a2⟩, ⟨S1024x1024, gcol a5⟩, ⟨S1024x2048, blank⟩] concatenates_S1024x2048_S1024x1024_S1024x1024_S1024x1024_S1024x1024_S1024x2048_S1024x8192_d1

/-- A query's place in the packed array. -/
theorem zcat_q (a0 a1 : FVec Ideal S16x64x8x2x64 .f32) (a2 : FVec Ideal S16x64x8x128 .f32) (a5 : FVec Ideal S16x64x1024 .f32) (b : Fin 16) (h : Fin 8) (t : Fin 64) (x : Fin 128) :
    zcat a0 a1 a2 a5 (ix2 ⟨64 * b.val + t.val, by omega⟩ ⟨2048 + (128 * h.val + x.val), by omega⟩)
      = Ideal.div (a0 (ix5 b t h (half x) (lane x)) * Ideal.ofBits .f32 0x3E000000#32) (Ideal.log (Ideal.ofBits .f32 0x40000000#32)) := by
  pointwise [zcat, blank, qcol]
  rw [dif_pos (by omega)]
  have e : (⟨(128 * h.val + x.val) / 64 % 2, by omega⟩ : Fin 2) = half x := Fin.ext (by show (128 * h.val + x.val) / 64 % 2 = x.val / 64; omega)
  have e' : (⟨(128 * h.val + x.val) % 64, by omega⟩ : Fin 64) = lane x := Fin.ext (by show (128 * h.val + x.val) % 64 = x.val % 64; omega)
  rw [e, e']

/-- A key's place in the packed array. -/
theorem zcat_k (a0 a1 : FVec Ideal S16x64x8x2x64 .f32) (a2 : FVec Ideal S16x64x8x128 .f32) (a5 : FVec Ideal S16x64x1024 .f32) (b : Fin 16) (h : Fin 8) (t : Fin 64) (x : Fin 128) :
    zcat a0 a1 a2 a5 (ix2 ⟨64 * b.val + t.val, by omega⟩ ⟨3072 + (128 * h.val + x.val), by omega⟩) = a1 (ix5 b t h (half x) (lane x)) := by
  pointwise [zcat, blank, kcol]
  rw [dif_neg (by omega), dif_neg (by omega), dif_pos (by omega)]
  have e : (⟨(3072 + (128 * h.val + x.val) - 2048 - 1024) / 128, by omega⟩ : Fin 8) = h := Fin.ext (by show (3072 + (128 * h.val + x.val) - 2048 - 1024) / 128 = h.val; omega)
  have e1 : (⟨(3072 + (128 * h.val + x.val) - 2048 - 1024) / 64 % 2, by omega⟩ : Fin 2) = half x := Fin.ext (by show (3072 + (128 * h.val + x.val) - 2048 - 1024) / 64 % 2 = x.val / 64; omega)
  have e' : (⟨(3072 + (128 * h.val + x.val) - 2048 - 1024) % 64, by omega⟩ : Fin 64) = lane x := Fin.ext (by show (3072 + (128 * h.val + x.val) - 2048 - 1024) % 64 = x.val % 64; omega)
  rw [e, e1, e']

/-- The output gate's place in the packed array. -/
theorem zcat_g (a0 a1 : FVec Ideal S16x64x8x2x64 .f32) (a2 : FVec Ideal S16x64x8x128 .f32) (a5 : FVec Ideal S16x64x1024 .f32) (b : Fin 16) (h : Fin 8) (t : Fin 64) (x : Fin 128) :
    zcat a0 a1 a2 a5 (ix2 ⟨64 * b.val + t.val, by omega⟩ ⟨5120 + (128 * h.val + x.val), by omega⟩)
      = a5 (ix3 b t ⟨128 * h.val + x.val, by omega⟩) * Ideal.div 1 (1 + Ideal.exp (-a5 (ix3 b t ⟨128 * h.val + x.val, by omega⟩))) := by
  pointwise [zcat, blank, gcol]
  rw [dif_neg (by omega), dif_neg (by omega), dif_neg (by omega), dif_neg (by omega), dif_pos (by omega)]
  have e : (⟨5120 + (128 * h.val + x.val) - 2048 - 1024 - 1024 - 1024, by omega⟩ : Fin 1024) = ⟨128 * h.val + x.val, by omega⟩ := Fin.ext (by show 5120 + (128 * h.val + x.val) - 2048 - 1024 - 1024 - 1024 = 128 * h.val + x.val; omega)
  rw [e, ← Cert.Scalar.half_tanh]

/-- The own keys, every sequence's rows padded with zero rows. -/
def kown (a1 : FVec Ideal S16x64x8x2x64 .f32) : FVec Ideal S2048x1024 .bf16 :=
  shapeCast S2048x1024 (pad S16x128x1024 ![0, 0, 0] ![0, 64, 0] ![0, 0, 0] (shapeCast S16x64x1024 (kcol a1) shapeCasts_S1024x1024_S16x64x1024) (sitofp .bf16 (constantI S_ 32 0#32)) pads_S16x64x1024_S16x128x1024_000_0640_000 h_S_) shapeCasts_S16x128x1024_S2048x1024

/-- An own key's place. -/
theorem kown_at (a1 : FVec Ideal S16x64x8x2x64 .f32) (b : Fin 16) (h : Fin 8) (t x : Fin 128) :
    kown a1 (ix2 ⟨128 * b.val + t.val, by omega⟩ ⟨128 * h.val + x.val, by omega⟩) = if ht : t.val < 64 then a1 (ix5 b ⟨t.val, ht⟩ h (half x) (lane x)) else 0 := by
  pointwise [kown, kcol]
  have e : (⟨(128 * h.val + x.val) / 64 % 2, by omega⟩ : Fin 2) = half x := Fin.ext (by show (128 * h.val + x.val) / 64 % 2 = x.val / 64; omega)
  have e' : (⟨(128 * h.val + x.val) % 64, by omega⟩ : Fin 64) = lane x := Fin.ext (by show (128 * h.val + x.val) % 64 = x.val % 64; omega)
  by_cases ht : t.val < 64
  · have f : (⟨(b.val * 64 + t.val) / 64, by omega⟩ : Fin 16) = b := Fin.ext (by show (b.val * 64 + t.val) / 64 = b.val; omega)
    have f' : (⟨(b.val * 64 + t.val) % 64, by omega⟩ : Fin 64) = ⟨t.val, ht⟩ := Fin.ext (by show (b.val * 64 + t.val) % 64 = t.val; omega)
    rw [dif_pos ⟨ht, by omega⟩, dif_pos ht, f, f', e, e']
  · rw [dif_neg (fun hh => ht hh.1), dif_neg ht, zero_pad]

/-- The own values, every sequence's rows padded with zero rows. -/
def vown (a2 : FVec Ideal S16x64x8x128 .f32) : FVec Ideal S2048x1024 .bf16 :=
  shapeCast S2048x1024 (pad S16x128x1024 ![0, 0, 0] ![0, 64, 0] ![0, 0, 0] (shapeCast S16x64x1024 (vcol a2) shapeCasts_S1024x1024_S16x64x1024) (sitofp .bf16 (constantI S_ 32 0#32)) pads_S16x64x1024_S16x128x1024_000_0640_000 h_S_) shapeCasts_S16x128x1024_S2048x1024

/-- An own value's place. -/
theorem vown_at (a2 : FVec Ideal S16x64x8x128 .f32) (b : Fin 16) (h : Fin 8) (t x : Fin 128) :
    vown a2 (ix2 ⟨128 * b.val + t.val, by omega⟩ ⟨128 * h.val + x.val, by omega⟩) = if ht : t.val < 64 then a2 (ix4 b ⟨t.val, ht⟩ h x) else 0 := by
  pointwise [vown, vcol]
  by_cases ht : t.val < 64
  · have f : (⟨(b.val * 64 + t.val) / 64, by omega⟩ : Fin 16) = b := Fin.ext (by show (b.val * 64 + t.val) / 64 = b.val; omega)
    have f' : (⟨(b.val * 64 + t.val) % 64, by omega⟩ : Fin 64) = ⟨t.val, ht⟩ := Fin.ext (by show (b.val * 64 + t.val) % 64 = t.val; omega)
    rw [dif_pos ⟨ht, by omega⟩, dif_pos ht, f, f']
  · rw [dif_neg (fun hh => ht hh.1), dif_neg ht, zero_pad]

/-- A cached key's place. -/
theorem kcache_at (a3 : FVec Ideal S4x16x2048x8x2x64 .f32) (b : Fin 16) (h : Fin 8) (t : Fin 2048) (x : Fin 128) :
    shapeCast S4x16x2048x1024 a3 shapeCasts_S4x16x2048x8x2x64_S4x16x2048x1024 (ix4 0 b t ⟨128 * h.val + x.val, by omega⟩) = a3 (ix6 0 b t h (half x) (lane x)) := by
  pointwise
  have e : (⟨(128 * h.val + x.val) / 64 % 2, by omega⟩ : Fin 2) = half x := Fin.ext (by show (128 * h.val + x.val) / 64 % 2 = x.val / 64; omega)
  have e' : (⟨(128 * h.val + x.val) % 64, by omega⟩ : Fin 64) = lane x := Fin.ext (by show (128 * h.val + x.val) % 64 = x.val % 64; omega)
  rw [e, e']

/-- A cached value's place. -/
theorem vcache_at (a4 : FVec Ideal S4x16x2048x8x128 .f32) (b : Fin 16) (h : Fin 8) (t : Fin 2048) (x : Fin 128) :
    shapeCast S4x16x2048x1024 a4 shapeCasts_S4x16x2048x8x128_S4x16x2048x1024 (ix4 0 b t ⟨128 * h.val + x.val, by omega⟩) = a4 (ix5 0 b t h x) := by
  pointwise

/-- A vector laid out as one row. -/
theorem wide_at (a : FVec Ideal S128 .f32) (e : Fin 128) : shapeCast S1x128 a shapeCasts_S128_S1x128 (ix2 0 e) = a (ix1 e) := by
  pointwise

/-- A vector laid out as one row. -/
theorem row_at (a : FVec Ideal S64 .f32) (e : Fin 64) : shapeCast S1x64 a shapeCasts_S64_S1x64 (ix2 0 e) = a (ix1 e) := by
  pointwise

/-! ## The arrays at the region -/

variable (m : (ℓ : Loc nD τ sig) → Buf (Elt Ideal) ℓ)

set_option maxHeartbeats 3200000 in
/-- The packed array at the region is the concatenation of the host's operations. -/
theorem v23 (c : Dev nD) : V m c main_v23 = zcat (m ((c : Thread nD τ).loc main_arg0)) (m ((c : Thread nD τ).loc main_arg1)) (m ((c : Thread nD τ).loc main_arg2)) (m ((c : Thread nD τ).loc main_arg5)) := by
  refine Cert.HostRead.after_family (List.flatten [hostOps0 (F := Ideal), hostOps0_1, hostOps0_2, hostOps0_3, hostOps0_4]) (hostOps0.take 29)
    (hostOps0.drop 30 ++ List.flatten [hostOps0_1, hostOps0_2, hostOps0_3, hostOps0_4]) _ ![main_v22, main_v6, main_v8, main_v10, main_v21, main_v22] main_v23 _ _ _ rfl
    (List.forall_iff_forall_mem.mp ?_) (fun k => match k with
      | ⟨0, _⟩ => blank
      | ⟨1, _⟩ => qcol (m ((c : Thread nD τ).loc main_arg0))
      | ⟨2, _⟩ => kcol (m ((c : Thread nD τ).loc main_arg1))
      | ⟨3, _⟩ => vcol (m ((c : Thread nD τ).loc main_arg2))
      | ⟨4, _⟩ => gcol (m ((c : Thread nD τ).loc main_arg5))
      | ⟨5, _⟩ => blank) (fun k => match k with
      | ⟨0, _⟩ => ?_
      | ⟨1, _⟩ => ?_
      | ⟨2, _⟩ => ?_
      | ⟨3, _⟩ => ?_
      | ⟨4, _⟩ => ?_
      | ⟨5, _⟩ => ?_)
  · simp only [hostOps0, hostOps0_1, hostOps0_2, hostOps0_3, hostOps0_4, List.flatten, List.append, List.cons_append, List.nil_append, List.drop, List.Forall, StableHlo.reshape_writes, StableHlo.unary_writes, StableHlo.binary_writes, StableHlo.nullary_writes, StableHlo.ternary_writes, StableHlo.TRef.unary, StableHlo.TRef.binary, StableHlo.TRef.ternary, Finset.mem_singleton]
    repeat' apply And.intro
    all_goals exact StableHlo.devRef_ne_of_ne (by decide)
  · show StableHlo.after _ _ (Proc.devRef .tc main_v22) = _
    simp only [hostOps0, List.take]
    after_results_simp
    rfl
  · show StableHlo.after _ _ (Proc.devRef .tc main_v6) = _
    simp only [hostOps0, List.take]
    after_results_simp
    rfl
  · show StableHlo.after _ _ (Proc.devRef .tc main_v8) = _
    simp only [hostOps0, List.take]
    after_results_simp
    rfl
  · show StableHlo.after _ _ (Proc.devRef .tc main_v10) = _
    simp only [hostOps0, List.take]
    after_results_simp
    rfl
  · show StableHlo.after _ _ (Proc.devRef .tc main_v21) = _
    simp only [hostOps0, List.take]
    after_results_simp
    rfl
  · show StableHlo.after _ _ (Proc.devRef .tc main_v22) = _
    simp only [hostOps0, List.take]
    after_results_simp
    rfl

set_option maxHeartbeats 1600000 in
/-- The cached keys at the region. -/
theorem v24 (c : Dev nD) : V m c main_v24 = shapeCast S4x16x2048x1024 (m ((c : Thread nD τ).loc main_arg3)) shapeCasts_S4x16x2048x8x2x64_S4x16x2048x1024 := by
  entry_read; rfl

set_option maxHeartbeats 1600000 in
/-- The cached values at the region. -/
theorem v25 (c : Dev nD) : V m c main_v25 = shapeCast S4x16x2048x1024 (m ((c : Thread nD τ).loc main_arg4)) shapeCasts_S4x16x2048x8x128_S4x16x2048x1024 := by
  entry_read; rfl

set_option maxHeartbeats 1600000 in
/-- The own keys at the region. -/
theorem v28 (c : Dev nD) : V m c main_v28 = kown (m ((c : Thread nD τ).loc main_arg1)) := by
  entry_read; rfl

set_option maxHeartbeats 1600000 in
/-- The own values at the region. -/
theorem v31 (c : Dev nD) : V m c main_v31 = vown (m ((c : Thread nD τ).loc main_arg2)) := by
  entry_read; rfl

set_option maxHeartbeats 1600000 in
/-- The output weights at the region. -/
theorem v32 (c : Dev nD) : V m c main_v32 = shapeCast S1x128 (m ((c : Thread nD τ).loc main_arg6)) shapeCasts_S128_S1x128 := by
  entry_read; rfl

set_option maxHeartbeats 1600000 in
/-- One vector of the mixing weight at the region. -/
theorem v33 (c : Dev nD) : V m c main_v33 = shapeCast S1x64 (m ((c : Thread nD τ).loc main_arg7)) shapeCasts_S64_S1x64 := by
  entry_read; rfl

set_option maxHeartbeats 1600000 in
/-- One vector of the mixing weight at the region. -/
theorem v34 (c : Dev nD) : V m c main_v34 = shapeCast S1x64 (m ((c : Thread nD τ).loc main_arg8)) shapeCasts_S64_S1x64 := by
  entry_read; rfl

set_option maxHeartbeats 1600000 in
/-- One vector of the mixing weight at the region. -/
theorem v35 (c : Dev nD) : V m c main_v35 = shapeCast S1x64 (m ((c : Thread nD τ).loc main_arg9)) shapeCasts_S64_S1x64 := by
  entry_read; rfl

set_option maxHeartbeats 1600000 in
/-- One vector of the mixing weight at the region. -/
theorem v36 (c : Dev nD) : V m c main_v36 = shapeCast S1x64 (m ((c : Thread nD τ).loc main_arg10)) shapeCasts_S64_S1x64 := by
  entry_read; rfl

/-! ## The windows' blocks -/

/-- The windows' block indices at every grid point. -/
theorem idx : ∀ t : Fin cfg0.N, win0_0.index t = ![t.val / 8, 16 + t.val % 8] ∧ win0_1.index t = ![0, t.val / 8, 0, t.val % 8] ∧ win0_2.index t = ![0, t.val / 8, 0, t.val % 8] ∧ win0_3.index t = ![t.val / 8, t.val % 8]
    ∧ win0_4.index t = ![t.val / 8, t.val % 8] ∧ win0_5.index t = ![t.val / 8, 40 + t.val % 8] ∧ win0_6.index t = ![0, 0] ∧ win0_7.index t = ![0, 0] ∧ win0_8.index t = ![0, 0]
    ∧ win0_9.index t = ![0, 0] ∧ win0_10.index t = ![0, 0] ∧ win0_11.index t = ![t.val / 8, t.val % 8] :=
  (by decide +kernel : ∀ t : Fin grid0.N, _)

/-- The sequence of a grid point. -/
abbrev bat (t : Fin cfg0.N) : Fin 16 := ⟨t.val / 8, by have : t.val < 128 := t.isLt; omega⟩

/-- The head of a grid point. -/
abbrev hd (t : Fin cfg0.N) : Fin 8 := ⟨t.val % 8, by omega⟩

set_option maxHeartbeats 1600000 in
/-- Window 0's block is the head's columns at the sequence's rows. -/
theorem b0 (c : Dev nD) (t : Fin cfg0.N) (y : Fin 64) (x : Fin 128) : iblk m c 0 t (ix2 y x) = V m c main_v23 (ix2 (⟨64 * (bat t).val + y.val, by omega⟩ : Fin 1024) (⟨2048 + (128 * (hd t).val + x.val), by omega⟩ : Fin 8192)) := by
  blk_ext [iblk, idx t]

set_option maxHeartbeats 1600000 in
/-- Window 5's block is the head's columns at the sequence's rows. -/
theorem b5 (c : Dev nD) (t : Fin cfg0.N) (y : Fin 64) (x : Fin 128) : iblk m c 5 t (ix2 y x) = V m c main_v23 (ix2 (⟨64 * (bat t).val + y.val, by omega⟩ : Fin 1024) (⟨5120 + (128 * (hd t).val + x.val), by omega⟩ : Fin 8192)) := by
  blk_ext [iblk, idx t]

set_option maxHeartbeats 1600000 in
/-- Window 1's block is the head's part of the sequence's cache. -/
theorem b1 (c : Dev nD) (t : Fin cfg0.N) (y : Fin 2048) (x : Fin 128) : iblk m c 1 t (ix4 0 0 y x) = V m c main_v24 (ix4 (0 : Fin 4) (bat t) y (⟨128 * (hd t).val + x.val, by omega⟩ : Fin 1024)) := by
  blk_ext [iblk, idx t]

set_option maxHeartbeats 1600000 in
/-- Window 2's block is the head's part of the sequence's cache. -/
theorem b2 (c : Dev nD) (t : Fin cfg0.N) (y : Fin 2048) (x : Fin 128) : iblk m c 2 t (ix4 0 0 y x) = V m c main_v25 (ix4 (0 : Fin 4) (bat t) y (⟨128 * (hd t).val + x.val, by omega⟩ : Fin 1024)) := by
  blk_ext [iblk, idx t]

set_option maxHeartbeats 1600000 in
/-- Window 3's block is the head's columns at the sequence's padded rows. -/
theorem b3 (c : Dev nD) (t : Fin cfg0.N) (y x : Fin 128) : iblk m c 3 t (ix2 y x) = V m c main_v28 (ix2 (⟨128 * (bat t).val + y.val, by omega⟩ : Fin 2048) (⟨128 * (hd t).val + x.val, by omega⟩ : Fin 1024)) := by
  blk_ext [iblk, idx t]

set_option maxHeartbeats 1600000 in
/-- Window 4's block is the head's columns at the sequence's padded rows. -/
theorem b4 (c : Dev nD) (t : Fin cfg0.N) (y x : Fin 128) : iblk m c 4 t (ix2 y x) = V m c main_v31 (ix2 (⟨128 * (bat t).val + y.val, by omega⟩ : Fin 2048) (⟨128 * (hd t).val + x.val, by omega⟩ : Fin 1024)) := by
  blk_ext [iblk, idx t]

set_option maxHeartbeats 1600000 in
/-- Window 6's block is its whole row. -/
theorem b6 (c : Dev nD) (t : Fin cfg0.N) (x : Fin 128) : iblk m c 6 t (ix2 0 x) = V m c main_v32 (ix2 0 x) := by
  blk_ext [iblk, idx t]

set_option maxHeartbeats 1600000 in
/-- Window 7's block is its whole row. -/
theorem b7 (c : Dev nD) (t : Fin cfg0.N) (x : Fin 64) : iblk m c 7 t (ix2 0 x) = V m c main_v33 (ix2 0 x) := by
  blk_ext [iblk, idx t]

set_option maxHeartbeats 1600000 in
/-- Window 8's block is its whole row. -/
theorem b8 (c : Dev nD) (t : Fin cfg0.N) (x : Fin 64) : iblk m c 8 t (ix2 0 x) = V m c main_v34 (ix2 0 x) := by
  blk_ext [iblk, idx t]

set_option maxHeartbeats 1600000 in
/-- Window 9's block is its whole row. -/
theorem b9 (c : Dev nD) (t : Fin cfg0.N) (x : Fin 64) : iblk m c 9 t (ix2 0 x) = V m c main_v35 (ix2 0 x) := by
  blk_ext [iblk, idx t]

set_option maxHeartbeats 1600000 in
/-- Window 10's block is its whole row. -/
theorem b10 (c : Dev nD) (t : Fin cfg0.N) (x : Fin 64) : iblk m c 10 t (ix2 0 x) = V m c main_v36 (ix2 0 x) := by
  blk_ext [iblk, idx t]

end Cert.AttnSIdeal.Attn

end
-- ==== Proof.AttnSRef.lean ====
module

public import proofs.«01_k».proof.Proof.Gen.AttnSRefIdeal.Run
public import proofs.«01_k».proof.Proof.RefValue

@[expose] public section

set_option maxRecDepth 16384

noncomputable section

open Idealize.ShloMosaic Idealize.ShloMosaic.TcCoe Idealize.SL.Sem Idealize.ShloMosaic.Tactic

namespace Cert.AttnSRefIdeal.Attn

open Cert.AttnSRefIdeal Cert.AttnSRefIdeal.Gen Cert.AttnSRefIdeal.Value
open Cert.Real
open Cert.KernelIdeal.Attn (sc)

/-! ## The sample's attention, operation by operation -/

/-- All keys of a sequence: layer 0 of the cache, then the sequence's own. -/
def keys (k : FVec Ideal S16x64x8x2x64 .f32) (kc : FVec Ideal S4x16x2048x8x2x64 .f32) : FVec Ideal S16x2112x8x2x64 .f32 :=
  concatenate S16x2112x8x2x64 1 [⟨S16x2048x8x2x64, (shapeCast _ (extractStridedSlice S1x16x2048x8x2x64 ![0, 0, 0, 0, 0, 0] kc slices_S4x16x2048x8x2x64_S1x16x2048x8x2x64_0_0_0_0_0_0) shapeCasts_S1x16x2048x8x2x64_S16x2048x8x2x64)⟩, ⟨S16x64x8x2x64, k⟩] concatenates_S16x2048x8x2x64_S16x64x8x2x64_S16x2112x8x2x64_d1

/-- All values of a sequence: layer 0 of the cache, then the sequence's own. -/
def vals (v : FVec Ideal S16x64x8x128 .f32) (vc : FVec Ideal S4x16x2048x8x128 .f32) : FVec Ideal S16x2112x8x128 .f32 :=
  concatenate S16x2112x8x128 1 [⟨S16x2048x8x128, (shapeCast _ (extractStridedSlice S1x16x2048x8x128 ![0, 0, 0, 0, 0] vc slices_S4x16x2048x8x128_S1x16x2048x8x128_0_0_0_0_0) shapeCasts_S1x16x2048x8x128_S16x2048x8x128)⟩, ⟨S16x64x8x128, v⟩] concatenates_S16x2048x8x128_S16x64x8x128_S16x2112x8x128_d1

/-- The scores. -/
def scores (q : FVec Ideal S16x64x8x2x64 .f32) (ka : FVec Ideal S16x2112x8x2x64 .f32) : FVec Ideal S16x8x2x64x2112 .f32 :=
  mulf (Host.dotGeneral dot_S16x64x8x2x64_S16x2112x8x2x64_S16x8x2x64x2112_4_4_1_1_023_023 none q ka) (broadcastInDim S16x8x2x64x2112 ![] bcast_S_S16x8x2x64x2112 (constant S_ .f32 0x3E000000#32))

/-- A query's largest score. -/
def smax (s : FVec Ideal S16x8x2x64x2112 .f32) : FVec Ideal S16x8x2x64 .f32 :=
  maximumf (broadcastInDim S16x8x2x64 ![] bcast_S_S16x8x2x64 (constant S_ .f32 0xFF800000#32)) (Host.reduce FloatOps.maximumf s (constant S_ .f32 0xFF800000#32) reducesTo_S16x8x2x64x2112_S16x8x2x64_d4 h_S_)

/-- A value per query, for all its keys. -/
def spread (x : FVec Ideal S16x8x2x64 .f32) : FVec Ideal S16x8x2x64x2112 .f32 :=
  broadcastInDim S16x8x2x64x2112 ![0, 1, 2, 3, 4] bcast_S16x8x2x64x1_S16x8x2x64x2112_0_1_2_3_4 (broadcastInDim S16x8x2x64x1 ![0, 1, 2, 3] bcast_S16x8x2x64_S16x8x2x64x1_0_1_2_3 x)

/-- The exponentials against the largest score. -/
def exps (s : FVec Ideal S16x8x2x64x2112 .f32) (mx : FVec Ideal S16x8x2x64 .f32) : FVec Ideal S16x8x2x64x2112 .f32 := Host.exp (subf s (spread mx))

/-- Their sum. -/
def esum (e : FVec Ideal S16x8x2x64x2112 .f32) : FVec Ideal S16x8x2x64 .f32 :=
  Host.reduceAdd e (constant S_ .f32 0x00000000#32) reducesTo_S16x8x2x64x2112_S16x8x2x64_d4 h_S_

/-- The softmax. -/
def prob (e : FVec Ideal S16x8x2x64x2112 .f32) (l : FVec Ideal S16x8x2x64 .f32) : FVec Ideal S16x8x2x64x2112 .f32 := Host.divf e (spread l)

/-- λ. -/
def lam (x7 x8 x9 x10 : FVec Ideal S64 .f32) : FVec Ideal S_ .f32 :=
  addf (subf (Host.exp (Host.reduceAdd (mulf x7 x8) (constant S_ .f32 0x00000000#32) reducesTo_S64_S_d0 h_S_)) (Host.exp (Host.reduceAdd (mulf x9 x10) (constant S_ .f32 0x00000000#32) reducesTo_S64_S_d0 h_S_))) (constant S_ .f32 0x3E4CCCCD#32)

/-- The difference of the two softmaxes. -/
def diff (p : FVec Ideal S16x8x2x64x2112 .f32) (l : FVec Ideal S_ .f32) : FVec Ideal S16x8x64x2112 .f32 :=
  subf (shapeCast _ (extractStridedSlice S16x8x1x64x2112 ![0, 0, 0, 0, 0] p slices_S16x8x2x64x2112_S16x8x1x64x2112_0_0_0_0_0) shapeCasts_S16x8x1x64x2112_S16x8x64x2112)
    (mulf (broadcastInDim S16x8x64x2112 ![] bcast_S_S16x8x64x2112 l)
      (shapeCast _ (extractStridedSlice S16x8x1x64x2112 ![0, 0, 1, 0, 0] p slices_S16x8x2x64x2112_S16x8x1x64x2112_0_0_1_0_0) shapeCasts_S16x8x1x64x2112_S16x8x64x2112))

/-- The attention's output before its normalisation. -/
def mixed (va : FVec Ideal S16x2112x8x128 .f32) (a : FVec Ideal S16x8x64x2112 .f32) : FVec Ideal S16x64x8x128 .f32 :=
  transpose S16x64x8x128 [0, 3, 1, 2] (Host.dotGeneral dot_S16x2112x8x128_S16x8x64x2112_S16x8x128x64_1_3_3_2_02_01 none va a) transposes_S16x8x128x64_S16x64x8x128_0_3_1_2

/-- The normalised and gated output. -/
def gated (o : FVec Ideal S16x64x8x128 .f32) (za : FVec Ideal S16x64x1024 .f32) (w : FVec Ideal S128 .f32) : FVec Ideal S1024x1024 .bf16 :=
  truncf .bf16 (shapeCast _ (mulf (shapeCast _ (mulf (mulf (mulf o (broadcastInDim S16x64x8x128 ![0, 1, 2, 3] bcast_S16x64x8x1_S16x64x8x128_0_1_2_3 (Host.rsqrt (addf (Host.divf (broadcastInDim S16x64x8x1 ![0, 1, 2] bcast_S16x64x8_S16x64x8x1_0_1_2 (Host.reduceAdd (mulf o o) (constant S_ .f32 0x00000000#32) reducesTo_S16x64x8x128_S16x64x8_d3 h_S_)) (broadcastInDim S16x64x8x1 ![] bcast_S_S16x64x8x1 (constant S_ .f32 0x43000000#32))) (broadcastInDim S16x64x8x1 ![] bcast_S_S16x64x8x1 (constant S_ .f32 0x358637BD#32)))))) (broadcastInDim S16x64x8x128 ![0, 1, 2, 3] bcast_S1x1x1x128_S16x64x8x128_0_1_2_3 (broadcastInDim S1x1x1x128 ![3] bcast_S128_S1x1x1x128_3 w))) (broadcastInDim S16x64x8x128 ![] bcast_S_S16x64x8x128 (constant S_ .f32 0x3F4CCCCD#32))) shapeCasts_S16x64x8x128_S16x64x1024) (mulf za (Host.divf (broadcastInDim S16x64x1024 ![] bcast_S_S16x64x1024 (constant S_ .f32 0x3F800000#32)) (addf (broadcastInDim S16x64x1024 ![] bcast_S_S16x64x1024 (constant S_ .f32 0x3F800000#32)) (Host.exp (Host.negf za)))))) shapeCasts_S16x64x1024_S1024x1024) bitsLt_bf16_f32

/-- The softmax of a sequence's queries over all keys. -/
def soft (s : FVec Ideal S16x8x2x64x2112 .f32) : FVec Ideal S16x8x2x64x2112 .f32 :=
  prob (exps s (smax s)) (esum (exps s (smax s)))

/-- The whole reference. -/
def REF (a0 a1 : FVec Ideal S16x64x8x2x64 .f32) (a2 : FVec Ideal S16x64x8x128 .f32) (a3 : FVec Ideal S4x16x2048x8x2x64 .f32) (a4 : FVec Ideal S4x16x2048x8x128 .f32) (a5 : FVec Ideal S16x64x1024 .f32) (a6 : FVec Ideal S128 .f32) (a7 a8 a9 a10 : FVec Ideal S64 .f32) : FVec Ideal S1024x1024 .bf16 :=
  gated (mixed (vals a2 a4) (diff (soft (scores a0 (keys a1 a3))) (lam a7 a8 a9 a10))) a5 a6

set_option maxHeartbeats 1600000 in
/-- The reference's result is the composition of its operations. -/
theorem res_eq (m : (ℓ : Loc nD τ sig) → Buf (Elt Ideal) ℓ) (c : Dev nD) : res_main_v56 m c = REF (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10)) := rfl

/-! ## At an index -/

theorem keys_at (k : FVec Ideal S16x64x8x2x64 .f32) (kc : FVec Ideal S4x16x2048x8x2x64 .f32) (b : Fin 16) (t : Fin 2112) (h : Fin 8) (g : Fin 2) (d : Fin 64) :
    keys k kc (ix5 b t h g d) = if h' : t.val < 2048 then kc (ix6 0 b ⟨t.val, h'⟩ h g d) else k (ix5 b ⟨t.val - 2048, by omega⟩ h g d) := by
  pointwise [keys]

theorem vals_at (v : FVec Ideal S16x64x8x128 .f32) (vc : FVec Ideal S4x16x2048x8x128 .f32) (b : Fin 16) (t : Fin 2112) (h : Fin 8) (e : Fin 128) :
    vals v vc (ix4 b t h e) = if h' : t.val < 2048 then vc (ix5 0 b ⟨t.val, h'⟩ h e) else v (ix4 b ⟨t.val - 2048, by omega⟩ h e) := by
  pointwise [vals]

theorem scores_at (q : FVec Ideal S16x64x8x2x64 .f32) (ka : FVec Ideal S16x2112x8x2x64 .f32) (b : Fin 16) (h : Fin 8) (g : Fin 2) (x : Fin 64) (t : Fin 2112) :
    scores q ka (ix5 b h g x t) = (∑ d, q (ix5 b x h g d) * ka (ix5 b t h g d)) * Ideal.ofBits FTy.f32 1040187392#32 := by
  pointwise [scores]

theorem smax_at (s : FVec Ideal S16x8x2x64x2112 .f32) (b : Fin 16) (h : Fin 8) (g : Fin 2) (x : Fin 64) :
    smax s (ix4 b h g x) = max (Ideal.ofBits FTy.f32 4286578688#32) (Finset.fold max (Ideal.ofBits FTy.f32 4286578688#32) (fun t => s (ix5 b h g x t)) Finset.univ) :=
  (Cert.ReferenceIdeal.Attn.max_const _ _ _ _).trans (congrArg (max _) (Cert.ReferenceIdeal.Attn.max_last s _ _ (Cert.ReferenceIdeal.Attn.const_at _) _ _ b h g x))

theorem exps_at (s : FVec Ideal S16x8x2x64x2112 .f32) (mx : FVec Ideal S16x8x2x64 .f32) (b : Fin 16) (h : Fin 8) (g : Fin 2) (x : Fin 64) (t : Fin 2112) :
    exps s mx (ix5 b h g x t) = Ideal.exp (s (ix5 b h g x t) - mx (ix4 b h g x)) := by
  pointwise [exps, spread]

theorem esum_at (s : FVec Ideal S16x8x2x64x2112 .f32) (b : Fin 16) (h : Fin 8) (g : Fin 2) (x : Fin 64) :
    esum s (ix4 b h g x) = ∑ t, s (ix5 b h g x t) := by
  pointwise [esum]

theorem prob_at (s : FVec Ideal S16x8x2x64x2112 .f32) (mx : FVec Ideal S16x8x2x64 .f32) (b : Fin 16) (h : Fin 8) (g : Fin 2) (x : Fin 64) (t : Fin 2112) :
    prob s mx (ix5 b h g x t) = Ideal.div (s (ix5 b h g x t)) (mx (ix4 b h g x)) := by
  pointwise [prob, spread]

theorem lam_at (x7 x8 x9 x10 : FVec Ideal S64 .f32) :
    lam x7 x8 x9 x10 ix0 = Ideal.exp (∑ x, x7 (ix1 x) * x8 (ix1 x)) - Ideal.exp (∑ x, x9 (ix1 x) * x10 (ix1 x)) + Ideal.ofBits FTy.f32 1045220557#32 := by
  pointwise [lam]

theorem diff_at (p : FVec Ideal S16x8x2x64x2112 .f32) (l : FVec Ideal S_ .f32) (b : Fin 16) (h : Fin 8) (x : Fin 64) (t : Fin 2112) :
    diff p l (ix4 b h x t) = p (ix5 b h 0 x t) - l ix0 * p (ix5 b h 1 x t) := by
  pointwise [diff]

theorem mixed_at (va : FVec Ideal S16x2112x8x128 .f32) (a : FVec Ideal S16x8x64x2112 .f32) (b : Fin 16) (h : Fin 8) (x : Fin 64) (e : Fin 128) :
    mixed va a (ix4 b x h e) = ∑ t, va (ix4 b t h e) * a (ix4 b h x t) := by
  pointwise [mixed]

theorem gated_at (o : FVec Ideal S16x64x8x128 .f32) (za : FVec Ideal S16x64x1024 .f32) (w : FVec Ideal S128 .f32) (b : Fin 16) (h : Fin 8) (x : Fin 64) (e : Fin 128) :
    gated o za w (ix2 ⟨64 * b.val + x.val, by omega⟩ ⟨128 * h.val + e.val, by omega⟩) =
      o (ix4 b x h e) * Ideal.rsqrt (Ideal.div (∑ y, o (ix4 b x h y) * o (ix4 b x h y)) (Ideal.ofBits FTy.f32 1124073472#32) + Ideal.ofBits FTy.f32 897988541#32)
          * w (ix1 e) * Ideal.ofBits FTy.f32 1061997773#32
        * (za (ix3 b x ⟨128 * h.val + e.val, by omega⟩) * Ideal.div 1 (1 + Ideal.exp (-za (ix3 b x ⟨128 * h.val + e.val, by omega⟩)))) := by
  pointwise [gated]

/-! ## The softmax over real numbers -/

/-- One head's arrays, in real numbers. -/
structure Reals (a0 a1 : FVec Ideal S16x64x8x2x64 .f32) (a2 : FVec Ideal S16x64x8x128 .f32) (a3 : FVec Ideal S4x16x2048x8x2x64 .f32) (a4 : FVec Ideal S4x16x2048x8x128 .f32) (b : Fin 16) (h : Fin 8)
    (Q K : Fin 64 → Fin 2 → Fin 64 → ℝ) (V : Fin 64 → Fin 128 → ℝ) (KC : Fin 2048 → Fin 2 → Fin 64 → ℝ) (VC : Fin 2048 → Fin 128 → ℝ) : Prop where
  q : ∀ t g d, a0 (ix5 b t h g d) = (Q t g d : EReal)
  k : ∀ t g d, a1 (ix5 b t h g d) = (K t g d : EReal)
  v : ∀ t e, a2 (ix4 b t h e) = (V t e : EReal)
  kc : ∀ t g d, a3 (ix6 0 b t h g d) = (KC t g d : EReal)
  vc : ∀ t e, a4 (ix5 0 b t h e) = (VC t e : EReal)

/-- The sum over all keys, weighted. -/
def whole (Q K : Fin 64 → Fin 2 → Fin 64 → ℝ) (KC : Fin 2048 → Fin 2 → Fin 64 → ℝ) (x : Fin 64) (g : Fin 2) (f : Fin 64 → ℝ) (fc : Fin 2048 → ℝ) : ℝ :=
  (∑ t, fc t * Real.exp (sc (Q x) (KC t) g)) + ∑ t, f t * Real.exp (sc (Q x) (K t) g)

theorem whole_pos (Q K : Fin 64 → Fin 2 → Fin 64 → ℝ) (KC : Fin 2048 → Fin 2 → Fin 64 → ℝ) (x : Fin 64) (g : Fin 2) : 0 < whole Q K KC x g (fun _ => 1) (fun _ => 1) := by
  unfold whole
  refine add_pos (Finset.sum_pos (fun t _ => ?_) ⟨0, Finset.mem_univ _⟩) (Finset.sum_pos (fun t _ => ?_) ⟨0, Finset.mem_univ _⟩)
  all_goals rw [one_mul]; exact Real.exp_pos _

section
variable {a0 a1 : FVec Ideal S16x64x8x2x64 .f32} {a2 : FVec Ideal S16x64x8x128 .f32} {a3 : FVec Ideal S4x16x2048x8x2x64 .f32} {a4 : FVec Ideal S4x16x2048x8x128 .f32} {b : Fin 16} {h : Fin 8}
  {Q K : Fin 64 → Fin 2 → Fin 64 → ℝ} {V : Fin 64 → Fin 128 → ℝ} {KC : Fin 2048 → Fin 2 → Fin 64 → ℝ} {VC : Fin 2048 → Fin 128 → ℝ}
  (R : Reals a0 a1 a2 a3 a4 b h Q K V KC VC)

/-- A key's score with a query. -/
def score (Q K : Fin 64 → Fin 2 → Fin 64 → ℝ) (KC : Fin 2048 → Fin 2 → Fin 64 → ℝ) (x : Fin 64) (g : Fin 2) (t : Fin 2112) : ℝ :=
  if h' : t.val < 2048 then sc (Q x) (KC ⟨t.val, h'⟩) g else sc (Q x) (K ⟨t.val - 2048, by omega⟩) g

theorem whole_eq (x : Fin 64) (g : Fin 2) (f : Fin 64 → ℝ) (fc : Fin 2048 → ℝ) :
    ∑ t : Fin 2112, (if h' : t.val < 2048 then fc ⟨t.val, h'⟩ else f ⟨t.val - 2048, by omega⟩) * Real.exp (score Q K KC x g t) = whole Q K KC x g f fc := by
  refine (Fin.sum_univ_add (a := 2048) (b := 64) (fun t : Fin 2112 => (if h' : t.val < 2048 then fc ⟨t.val, h'⟩ else f ⟨t.val - 2048, by omega⟩) * Real.exp (score Q K KC x g t))).trans ?_
  unfold whole
  refine add_eq (Finset.sum_congr rfl fun t _ => ?_) (Finset.sum_congr rfl fun t _ => ?_)
  · have ht : (Fin.castAdd 64 t : Fin 2112).val < 2048 := t.2
    unfold score
    rw [dif_pos ht, dif_pos ht]
    rfl
  · have hv : (Fin.natAdd 2048 t : Fin 2112).val = 2048 + t.val := rfl
    have ht : ¬ (Fin.natAdd 2048 t : Fin 2112).val < 2048 := by rw [hv]; omega
    have e : (⟨(Fin.natAdd 2048 t : Fin 2112).val - 2048, by rw [hv]; omega⟩ : Fin 64) = t := Fin.ext (by show 2048 + t.val - 2048 = t.val; omega)
    unfold score
    rw [dif_neg ht, dif_neg ht]
    simp only [e]

include R

theorem scores_real (g : Fin 2) (x : Fin 64) (t : Fin 2112) :
    scores a0 (keys a1 a3) (ix5 b h g x t) = ((score Q K KC x g t : ℝ) : EReal) := by
  have h8 : Ideal.ofBits FTy.f32 1040187392#32 = (((1 : ℝ) / 8 : ℝ) : EReal) := ofBits_eighth
  have hd : ∀ d, a0 (ix5 b x h g d) * keys a1 a3 (ix5 b t h g d)
      = ((Q x g d * (if h' : t.val < 2048 then KC ⟨t.val, h'⟩ g d else K ⟨t.val - 2048, by omega⟩ g d) : ℝ) : EReal) := by
    intro d
    rw [keys_at, R.q]
    split
    · rw [R.kc, ← EReal.coe_mul]
    · rw [R.k, ← EReal.coe_mul]
  rw [scores_at, Finset.sum_congr rfl fun d _ => hd d, ← coe_sum, h8, ← EReal.coe_mul]
  refine coe_congr ?_
  unfold score sc
  split <;> rfl

theorem smax_real (g : Fin 2) (x : Fin 64) : ∃ M : ℝ, smax (scores a0 (keys a1 a3)) (ix4 b h g x) = (M : EReal) := by
  rw [smax_at]
  obtain ⟨r, hr⟩ := fold_max_real (fun t => scores a0 (keys a1 a3) (ix5 b h g x t)) (fun t => by
    show scores a0 (keys a1 a3) (ix5 b h g x t) ≠ ⊤
    rw [scores_real R]; exact EReal.coe_ne_top _) (⟨0, by omega⟩ : Fin 2112) (by
    show scores a0 (keys a1 a3) (ix5 b h g x ⟨0, _⟩) ≠ ⊥
    rw [scores_real R]; exact EReal.coe_ne_bot _)
  refine ⟨r, ?_⟩
  have hn : Ideal.ofBits FTy.f32 4286578688#32 = (⊥ : EReal) := ofBits_neg_inf
  have hr' : Finset.fold max (Ideal.ofBits FTy.f32 4286578688#32) (fun t => scores a0 (keys a1 a3) (ix5 b h g x t)) Finset.univ = (r : EReal) := hr
  rw [hr', hn]
  exact max_eq_right bot_le

/-- The softmax of the reference: a key's weight over the sum of all. -/
theorem soft_real (g : Fin 2) (x : Fin 64) (t : Fin 2112) :
    soft (scores a0 (keys a1 a3)) (ix5 b h g x t) = ((Real.exp (score Q K KC x g t) / whole Q K KC x g (fun _ => 1) (fun _ => 1) : ℝ) : EReal) := by
  obtain ⟨M, hM⟩ := smax_real R g x
  have he : ∀ t, exps (scores a0 (keys a1 a3)) (smax (scores a0 (keys a1 a3))) (ix5 b h g x t)
      = ((Real.exp (score Q K KC x g t) * Real.exp (-M) : ℝ) : EReal) := by
    intro t
    rw [exps_at, hM, scores_real R, exp_sub]
  have hl : (∑ t, Real.exp (score Q K KC x g t)) = whole Q K KC x g (fun _ => 1) (fun _ => 1) := by
    rw [← whole_eq]
    refine Finset.sum_congr rfl fun t _ => ?_
    split <;> rw [one_mul]
  have hp := whole_pos Q K KC x g
  unfold soft
  rw [prob_at, esum_at, Finset.sum_congr rfl fun t _ => he t, he, ← coe_sum, ← Finset.sum_mul, hl, div_real _ _ (mul_pos hp (Real.exp_pos _)).ne']
  refine coe_congr ?_
  rw [mul_div_mul_right _ _ (Real.exp_pos _).ne']

/-- The attention's output: the first softmax's mean of the values less λ times the second's. -/
theorem mixed_real (l : FVec Ideal S_ .f32) (lr : ℝ) (hl : l ix0 = (lr : EReal)) (x : Fin 64) (e : Fin 128) :
    mixed (vals a2 a4) (diff (soft (scores a0 (keys a1 a3))) l) (ix4 b x h e)
      = ((whole Q K KC x 0 (fun t => V t e) (fun t => VC t e) / whole Q K KC x 0 (fun _ => 1) (fun _ => 1)
          - lr * (whole Q K KC x 1 (fun t => V t e) (fun t => VC t e) / whole Q K KC x 1 (fun _ => 1) (fun _ => 1)) : ℝ) : EReal) := by
  have ht : ∀ t, vals a2 a4 (ix4 b t h e) * diff (soft (scores a0 (keys a1 a3))) l (ix4 b h x t)
      = (((if h' : t.val < 2048 then VC ⟨t.val, h'⟩ e else V ⟨t.val - 2048, by omega⟩ e)
          * (Real.exp (score Q K KC x 0 t) / whole Q K KC x 0 (fun _ => 1) (fun _ => 1)
            - lr * (Real.exp (score Q K KC x 1 t) / whole Q K KC x 1 (fun _ => 1) (fun _ => 1))) : ℝ) : EReal) := by
    intro t
    rw [vals_at, diff_at, hl, soft_real R, soft_real R, ← EReal.coe_mul, ← EReal.coe_sub]
    split
    · rw [R.vc, ← EReal.coe_mul]
    · rw [R.v, ← EReal.coe_mul]
  rw [mixed_at, Finset.sum_congr rfl fun t _ => ht t, ← coe_sum]
  refine coe_congr ?_
  rw [← whole_eq x 0 (fun t => V t e) (fun t => VC t e), ← whole_eq x 1 (fun t => V t e) (fun t => VC t e), Finset.sum_div, Finset.sum_div, Finset.mul_sum, ← Finset.sum_sub_distrib]
  refine Finset.sum_congr rfl fun t _ => ?_
  ring

end

end Cert.AttnSRefIdeal.Attn

end
-- ==== Proof.AttnSValue.lean ====
module

public import proofs.«01_k».proof.Proof.AttnSHost
public import proofs.«01_k».proof.Proof.AttnSRef
public import proofs.«01_k».proof.Proof.AttnFinal

@[expose] public section

set_option maxRecDepth 16384

noncomputable section

namespace Cert.AttnSIdeal.Attn

open Cert.AttnSIdeal Cert.AttnSIdeal.Gen Cert.AttnSIdeal.Value
open Idealize.ShloMosaic Idealize.ShloMosaic.TcCoe Idealize.ShloMosaic.Tactic Idealize.SL.Sem
open Cert.Real
open Cert.KernelIdeal.Attn (half lane sc qk gateR slt_64 sge_64 scaled lam_real coe_back)
open Cert.AttnSRefIdeal.Attn (whole whole_pos REF)

/-! ## The body's values at an index -/

/-- A row's query. -/
abbrev row (r : Fin 128) : Fin 64 := ⟨r.val % 64, Nat.mod_lt _ (by decide)⟩

/-- The queries, one half-head above the other: a row keeps its own half-head and is zero on the other. -/
theorem qS_at (x0 : Vec Ideal S64x128 .bf16) (r d : Fin 128) :
    k0_pay2 x0 (ix2 r d) = if d.val / 64 = r.val / 64 then x0 (ix2 (row r) d) else 0 := by
  have h : k0_pay2 x0 (ix2 r d)
      = if h : r.val < 64 then Scalar.select (IntOp.cmpi .slt (BitVec.ofNat 32 d.val) 64#32) (x0 (ix2 ⟨r.val, h⟩ d)) 0
        else Scalar.select (IntOp.cmpi .sge (BitVec.ofNat 32 d.val) 64#32) (x0 (ix2 ⟨r.val - 64, by omega⟩ d)) 0 := by
    pointwise [k0_pay2]
  rw [h, slt_64, sge_64]
  by_cases hc : r.val < 64
  · rw [dif_pos hc]
    have e : (⟨r.val, hc⟩ : Fin 64) = row r := Fin.ext (by show r.val = r.val % 64; omega)
    by_cases hd : d.val < 64
    · rw [if_pos hd, if_pos (by omega), e]; rfl
    · rw [if_neg hd, if_neg (by omega)]; rfl
  · rw [dif_neg hc]
    have e : (⟨r.val - 64, by omega⟩ : Fin 64) = row r := Fin.ext (by show r.val - 64 = r.val % 64; omega)
    by_cases hd : d.val < 64
    · rw [if_pos hd, if_neg (by omega)]; rfl
    · rw [if_neg hd, if_pos (by omega), e]; rfl

theorem sC_at (x0 : Vec Ideal S64x128 .bf16) (x1 : Vec Ideal S1x1x2048x128 .f32) (r : Fin 128) (t : Fin 2048) :
    k0_pay6 x0 x1 (ix2 r t) = ∑ x, k0_pay2 x0 (ix2 r x) * x1 (ix4 0 0 t x) := by
  pointwise [k0_pay6]

theorem vC_at (x2 : Vec Ideal S1x1x2048x128 .f32) (t : Fin 2048) (e : Fin 128) : k0_pay7 x2 (ix2 t e) = x2 (ix4 0 0 t e) := by
  pointwise [k0_pay7]

theorem sO_at (q : FVec Ideal S128x128 .bf16) (x3 : Vec Ideal S128x128 .bf16) (r t : Fin 128) :
    k0_pay8 q x3 (ix2 r t) = if t.val < 64 then ∑ x, q (ix2 r x) * x3 (ix2 t x) else ⊥ := by
  have h : k0_pay8 q x3 (ix2 r t) = Scalar.select (IntOp.cmpi .slt (BitVec.ofNat 32 t.val) 64#32) (∑ x, q (ix2 r x) * x3 (ix2 t x)) (Ideal.ofBits .f32 0xFF800000#32) := by
    pointwise [k0_pay8]
  rw [h, slt_64, ofBits_neg_inf]
  by_cases ht : t.val < 64
  · rw [if_pos ht, if_pos ht]; rfl
  · rw [if_neg ht, if_neg ht]; rfl

section
variable (q : FVec Ideal S128x128 .bf16) (s : FVec Ideal S128x2048 .f32) (v : FVec Ideal S2048x128 .bf16) (x3 x4 : Vec Ideal S128x128 .bf16) (m0 l0 : Vec Ideal S128x1 .f32) (a0 : Vec Ideal S128x128 .f32) (r : Fin 128)

theorem mx_at : k0_pay9 q s x3 m0 (ix2 r 0) = max (max (m0 (ix2 r 0)) (Finset.fold max (Ideal.ofBits .f32 0xFF800000#32) (fun t => s (ix2 r t)) Finset.univ))
    (Finset.fold max (Ideal.ofBits .f32 0xFF800000#32) (fun t => k0_pay8 q x3 (ix2 r t)) Finset.univ) := by
  pointwise [k0_pay9]

theorem al_at : k0_pay10 q s x3 m0 (ix2 r 0) = Ideal.exp2 (m0 (ix2 r 0) - k0_pay9 q s x3 m0 (ix2 r 0)) := by
  pointwise [k0_pay10]; rfl

theorem pC_at (t : Fin 2048) : k0_pay11 q s x3 m0 (ix2 r t) = Ideal.exp2 (s (ix2 r t) - k0_pay9 q s x3 m0 (ix2 r 0)) := by
  pointwise [k0_pay11]; rfl

theorem pO_at (t : Fin 128) : k0_pay12 q s x3 m0 (ix2 r t) = Ideal.exp2 (k0_pay8 q x3 (ix2 r t) - k0_pay9 q s x3 m0 (ix2 r 0)) := by
  pointwise [k0_pay12]; rfl

theorem l_at : k0_pay13 q s x3 m0 l0 (ix2 r 0) = k0_pay10 q s x3 m0 (ix2 r 0) * l0 (ix2 r 0) + ∑ t, k0_pay11 q s x3 m0 (ix2 r t) + ∑ t, k0_pay12 q s x3 m0 (ix2 r t) := by
  pointwise [k0_pay13]

theorem acc_at (e : Fin 128) : k0_pay14 q s v x3 x4 m0 a0 (ix2 r e) = k0_pay10 q s x3 m0 (ix2 r 0) * a0 (ix2 r e) + ∑ t, k0_pay11 q s x3 m0 (ix2 r t) * v (ix2 t e) + ∑ t, k0_pay12 q s x3 m0 (ix2 r t) * x4 (ix2 t e) := by
  pointwise [k0_pay14]

end

theorem norm_at (a : Vec Ideal S128x128 .f32) (l : Vec Ideal S128x1 .f32) (r e : Fin 128) : k0_pay20 (F := Ideal) (k0_pay17 (F := Ideal) a) (k0_pay16 (F := Ideal) l) (ix2 r e) = a (ix2 r e) * Ideal.div 1 (l (ix2 r 0)) := by
  pointwise [k0_pay20, k0_pay17, k0_pay16]

theorem lamA_at (x y : Vec Ideal S1x64 .f32) : k0_pay21 x y (ix2 0 0) = Ideal.exp (∑ i, x (ix2 0 i) * y (ix2 0 i)) := by
  pointwise [k0_pay21]

theorem lamB_at (x y : Vec Ideal S1x64 .f32) : k0_pay22 x y (ix1 0) = ∑ i, x (ix2 0 i) * y (ix2 0 i) := by
  pointwise [k0_pay22]

/-- What is stored, from the rows' means. -/
theorem out_at (z : Vec Ideal S64x128 .bf16) (w : Vec Ideal S1x128 .f32) (o : FVec Ideal S128x128 .f32) (x : FVec Ideal S1x1 .f32) (y : FVec Ideal S1 .f32) (r : Fin 64) (e : Fin 128) :
    k0_pay1 (F := Ideal) (k0_pay18 z) (k0_pay19 w) o x y (ix2 r e)
      = gateR (fun e => o (ix2 ⟨r.val, by omega⟩ e) - (x (ix2 0 0) - Ideal.exp (y (ix1 0)) + Ideal.ofBits FTy.f32 1045220557#32) * o (ix2 ⟨64 + r.val, by omega⟩ e)) (w (ix2 0 e)) (z (ix2 r e)) e := by
  unfold gateR
  pointwise [k0_pay1, k0_pay18, k0_pay19]

/-! ## The softmax over real numbers -/

/-- The windows' contents at a point, in real numbers. -/
structure Reals (x0 : Vec Ideal S64x128 .bf16) (x1 x2 : Vec Ideal S1x1x2048x128 .f32) (x3 x4 : Vec Ideal S128x128 .bf16)
    (Q K : Fin 64 → Fin 2 → Fin 64 → ℝ) (V : Fin 64 → Fin 128 → ℝ) (KC : Fin 2048 → Fin 2 → Fin 64 → ℝ) (VC : Fin 2048 → Fin 128 → ℝ) : Prop where
  q : ∀ t x, x0 (ix2 t x) = ((Q t (half x) (lane x) * (1 / 8) / Real.log 2 : ℝ) : EReal)
  kc : ∀ t x, x1 (ix4 0 0 t x) = ((KC t (half x) (lane x) : ℝ) : EReal)
  vc : ∀ t e, x2 (ix4 0 0 t e) = ((VC t e : ℝ) : EReal)
  k : ∀ (t : Fin 128) x, x3 (ix2 t x) = ((if h : t.val < 64 then K ⟨t.val, h⟩ (half x) (lane x) else 0 : ℝ) : EReal)
  v : ∀ (t : Fin 128) e, x4 (ix2 t e) = ((if h : t.val < 64 then V ⟨t.val, h⟩ e else 0 : ℝ) : EReal)

/-- A sum over the padded own keys. -/
theorem own_sum (f : Fin 64 → ℝ) : ∑ t : Fin 128, (if h : t.val < 64 then f ⟨t.val, h⟩ else 0) = ∑ t, f t := by
  refine (Fin.sum_univ_add (a := 64) (b := 64) (fun t : Fin 128 => if h : t.val < 64 then f ⟨t.val, h⟩ else 0)).trans ?_
  have hz : ∑ t : Fin 64, (fun t : Fin 128 => if h : t.val < 64 then f ⟨t.val, h⟩ else 0) (Fin.natAdd 64 t) = 0 :=
    Finset.sum_eq_zero fun t _ => dif_neg (by show ¬ 64 + t.val < 64; omega)
  rw [hz, add_zero]
  exact Finset.sum_congr rfl fun t _ => dif_pos t.2

section
variable {x0 : Vec Ideal S64x128 .bf16} {x1 x2 : Vec Ideal S1x1x2048x128 .f32} {x3 x4 : Vec Ideal S128x128 .bf16}
  {Q K : Fin 64 → Fin 2 → Fin 64 → ℝ} {V : Fin 64 → Fin 128 → ℝ} {KC : Fin 2048 → Fin 2 → Fin 64 → ℝ} {VC : Fin 2048 → Fin 128 → ℝ}
  (R : Reals x0 x1 x2 x3 x4 Q K V KC VC) (r : Fin 128)

include R

theorem sC_real (t : Fin 2048) : k0_pay6 x0 x1 (ix2 r t) = ((sc (Q (row r)) (KC t) (half r) / Real.log 2 : ℝ) : EReal) := by
  rw [sC_at, ← qk]
  refine Finset.sum_congr rfl fun x _ => ?_
  rw [mul_comm, qS_at, R.kc, R.q]

theorem sO_real (t : Fin 128) : k0_pay8 (k0_pay2 x0) x3 (ix2 r t) = if h : t.val < 64 then ((sc (Q (row r)) (K ⟨t.val, h⟩) (half r) / Real.log 2 : ℝ) : EReal) else ⊥ := by
  rw [sO_at]
  by_cases h : t.val < 64
  · rw [if_pos h, dif_pos h, ← qk]
    refine Finset.sum_congr rfl fun x _ => ?_
    rw [mul_comm, qS_at, R.k, R.q, dif_pos h]
  · rw [if_neg h, dif_neg h]

theorem mx_real : ∃ M : ℝ, k0_pay9 (k0_pay2 x0) (k0_pay6 x0 x1) x3 (k0_pay3 (F := Ideal)) (ix2 r 0) = (M : EReal) := by
  obtain ⟨m, hm⟩ := ofBits_start
  have h0 : (k0_pay3 (F := Ideal)) (ix2 r 0) = (m : EReal) := hm
  obtain ⟨a, ha⟩ := fold_max_real (fun t => k0_pay6 x0 x1 (ix2 r t)) (fun t => by
    show k0_pay6 x0 x1 (ix2 r t) ≠ ⊤
    rw [sC_real R]; exact EReal.coe_ne_top _) 0 (by
    show k0_pay6 x0 x1 (ix2 r 0) ≠ ⊥
    rw [sC_real R]; exact EReal.coe_ne_bot _)
  obtain ⟨b, hb⟩ := fold_max_real (fun t => k0_pay8 (k0_pay2 x0) x3 (ix2 r t)) (fun t => by
    show k0_pay8 (k0_pay2 x0) x3 (ix2 r t) ≠ ⊤
    rw [sO_real R]; split
    · exact EReal.coe_ne_top _
    · exact bot_ne_top) 0 (by
    show k0_pay8 (k0_pay2 x0) x3 (ix2 r 0) ≠ ⊥
    rw [sO_real R, dif_pos (by show 0 < 64; omega)]; exact EReal.coe_ne_bot _)
  exact ⟨max (max m a) b, by rw [mx_at, h0, ha, hb, max_real, max_real]⟩

/-- The accumulated sums of a row, up to one common factor. -/
theorem row_real : ∃ M : ℝ,
    (∀ e, k0_pay14 (k0_pay2 x0) (k0_pay6 x0 x1) (k0_pay7 x2) x3 x4 (k0_pay3 (F := Ideal)) (k0_pay5 (F := Ideal)) (ix2 r e)
      = ((2 ^ (-M) * whole Q K KC (row r) (half r) (fun t => V t e) (fun t => VC t e) : ℝ) : EReal))
    ∧ k0_pay13 (k0_pay2 x0) (k0_pay6 x0 x1) x3 (k0_pay3 (F := Ideal)) (k0_pay4 (F := Ideal)) (ix2 r 0)
      = ((2 ^ (-M) * whole Q K KC (row r) (half r) (fun _ => 1) (fun _ => 1) : ℝ) : EReal) := by
  obtain ⟨M, hM⟩ := mx_real R r
  have z4 : (k0_pay4 (F := Ideal)) (ix2 r 0) = 0 := by
    show Ideal.ofBits .f32 0x00000000#32 = 0
    simp [Ideal.ofBits, Ideal.ieee]
  have z5 : ∀ e, (k0_pay5 (F := Ideal)) (ix2 r e) = 0 := fun e => by
    show Ideal.ofBits .f32 0x00000000#32 = 0
    simp [Ideal.ofBits, Ideal.ieee]
  have hC : ∀ t, k0_pay11 (k0_pay2 x0) (k0_pay6 x0 x1) x3 (k0_pay3 (F := Ideal)) (ix2 r t) = ((2 ^ (-M) * (1 * Real.exp (sc (Q (row r)) (KC t) (half r))) : ℝ) : EReal) := by
    intro t
    rw [pC_at, hM, sC_real R, exp2_sub, two_rpow]; exact coe_congr (by ring)
  have hO : ∀ t : Fin 128, k0_pay12 (k0_pay2 x0) (k0_pay6 x0 x1) x3 (k0_pay3 (F := Ideal)) (ix2 r t)
      = ((2 ^ (-M) * (if h : t.val < 64 then (fun t => 1 * Real.exp (sc (Q (row r)) (K t) (half r))) ⟨t.val, h⟩ else 0) : ℝ) : EReal) := by
    intro t
    rw [pO_at, hM, sO_real R]
    split
    · rw [exp2_sub, two_rpow]; exact coe_congr (by ring)
    · rw [exp2_bot_sub, mul_zero]
  refine ⟨M, fun e => ?_, ?_⟩
  · have h1 : ∀ t, k0_pay11 (k0_pay2 x0) (k0_pay6 x0 x1) x3 (k0_pay3 (F := Ideal)) (ix2 r t) * k0_pay7 x2 (ix2 t e)
        = ((2 ^ (-M) * (VC t e * Real.exp (sc (Q (row r)) (KC t) (half r))) : ℝ) : EReal) := by
      intro t; rw [hC, vC_at, R.vc, ← EReal.coe_mul]; exact coe_congr (by ring)
    have h2 : ∀ t : Fin 128, k0_pay12 (k0_pay2 x0) (k0_pay6 x0 x1) x3 (k0_pay3 (F := Ideal)) (ix2 r t) * x4 (ix2 t e)
        = ((2 ^ (-M) * (if h : t.val < 64 then (fun t => V t e * Real.exp (sc (Q (row r)) (K t) (half r))) ⟨t.val, h⟩ else 0) : ℝ) : EReal) := by
      intro t; rw [hO, R.v, ← EReal.coe_mul]; refine coe_congr ?_
      split
      · ring
      · ring
    rw [acc_at, z5, mul_zero, zero_add, Finset.sum_congr rfl fun t _ => h1 t, Finset.sum_congr rfl fun t _ => h2 t, ← coe_sum, ← coe_sum, ← EReal.coe_add]
    refine coe_congr ?_
    refine (add_eq (Finset.mul_sum _ _ _).symm ((Finset.mul_sum _ _ _).symm.trans (congrArg _ (own_sum (fun t => V t e * Real.exp (sc (Q (row r)) (K t) (half r))))))).trans ?_
    rw [← mul_add]
    rfl
  · rw [l_at, z4, mul_zero, zero_add, Finset.sum_congr rfl fun t _ => hC t, Finset.sum_congr rfl fun t _ => hO t, ← coe_sum, ← coe_sum, ← EReal.coe_add]
    refine coe_congr ?_
    refine (add_eq (Finset.mul_sum _ _ _).symm ((Finset.mul_sum _ _ _).symm.trans (congrArg _ (own_sum (fun t => 1 * Real.exp (sc (Q (row r)) (K t) (half r))))))).trans ?_
    rw [← mul_add]
    rfl

/-- A row's attention output: the weighted mean of the values. -/
theorem mean_real (e : Fin 128) :
    k0_pay20 (F := Ideal) (k0_pay17 (F := Ideal) (k0_pay14 (k0_pay2 x0) (k0_pay6 x0 x1) (k0_pay7 x2) x3 x4 (k0_pay3 (F := Ideal)) (k0_pay5 (F := Ideal)))) (k0_pay16 (F := Ideal) (k0_pay13 (k0_pay2 x0) (k0_pay6 x0 x1) x3 (k0_pay3 (F := Ideal)) (k0_pay4 (F := Ideal)))) (ix2 r e)
      = ((whole Q K KC (row r) (half r) (fun t => V t e) (fun t => VC t e) / whole Q K KC (row r) (half r) (fun _ => 1) (fun _ => 1) : ℝ) : EReal) := by
  obtain ⟨M, h1, h2⟩ := row_real R r
  have h2m : (0 : ℝ) < 2 ^ (-M) := Real.rpow_pos_of_pos (by norm_num) _
  have hp := whole_pos Q K KC (row r) (half r)
  rw [norm_at, h1, h2, ← EReal.coe_one, div_real _ _ (mul_pos h2m hp).ne', ← EReal.coe_mul]
  refine coe_congr ?_
  field_simp

/-- What is stored, over real numbers. -/
theorem out_real (z : Vec Ideal S64x128 .bf16) (w : Vec Ideal S1x128 .f32) (x : FVec Ideal S1x1 .f32) (y : FVec Ideal S1 .f32) (lr : ℝ)
    (hl : x (ix2 0 0) - Ideal.exp (y (ix1 0)) + Ideal.ofBits FTy.f32 1045220557#32 = (lr : EReal)) (t : Fin 64) (e : Fin 128) :
    k0_pay1 (F := Ideal) (k0_pay18 z) (k0_pay19 w) (k0_pay20 (F := Ideal) (k0_pay17 (F := Ideal) (k0_pay14 (k0_pay2 x0) (k0_pay6 x0 x1) (k0_pay7 x2) x3 x4 (k0_pay3 (F := Ideal)) (k0_pay5 (F := Ideal)))) (k0_pay16 (F := Ideal) (k0_pay13 (k0_pay2 x0) (k0_pay6 x0 x1) x3 (k0_pay3 (F := Ideal)) (k0_pay4 (F := Ideal))))) x y (ix2 t e)
      = gateR (fun e => ((whole Q K KC t 0 (fun t => V t e) (fun t => VC t e) / whole Q K KC t 0 (fun _ => 1) (fun _ => 1)
          - lr * (whole Q K KC t 1 (fun t => V t e) (fun t => VC t e) / whole Q K KC t 1 (fun _ => 1) (fun _ => 1)) : ℝ) : EReal)) (w (ix2 0 e)) (z (ix2 t e)) e := by
  rw [out_at, hl]
  have r0 : row ⟨t.val, by omega⟩ = t := Fin.ext (by show t.val % 64 = t.val; omega)
  have r1 : row ⟨64 + t.val, by omega⟩ = t := Fin.ext (by show (64 + t.val) % 64 = t.val; omega)
  have g0 : half ⟨t.val, by omega⟩ = 0 := Fin.ext (by show t.val / 64 = 0; omega)
  have g1 : half ⟨64 + t.val, by omega⟩ = 1 := Fin.ext (by show (64 + t.val) / 64 = 1; omega)
  have h : ∀ e, k0_pay20 (F := Ideal) (k0_pay17 (F := Ideal) (k0_pay14 (k0_pay2 x0) (k0_pay6 x0 x1) (k0_pay7 x2) x3 x4 (k0_pay3 (F := Ideal)) (k0_pay5 (F := Ideal)))) (k0_pay16 (F := Ideal) (k0_pay13 (k0_pay2 x0) (k0_pay6 x0 x1) x3 (k0_pay3 (F := Ideal)) (k0_pay4 (F := Ideal)))) (ix2 ⟨t.val, by omega⟩ e)
        - (lr : EReal) * k0_pay20 (F := Ideal) (k0_pay17 (F := Ideal) (k0_pay14 (k0_pay2 x0) (k0_pay6 x0 x1) (k0_pay7 x2) x3 x4 (k0_pay3 (F := Ideal)) (k0_pay5 (F := Ideal)))) (k0_pay16 (F := Ideal) (k0_pay13 (k0_pay2 x0) (k0_pay6 x0 x1) x3 (k0_pay3 (F := Ideal)) (k0_pay4 (F := Ideal)))) (ix2 ⟨64 + t.val, by omega⟩ e)
      = ((whole Q K KC t 0 (fun t => V t e) (fun t => VC t e) / whole Q K KC t 0 (fun _ => 1) (fun _ => 1)
          - lr * (whole Q K KC t 1 (fun t => V t e) (fun t => VC t e) / whole Q K KC t 1 (fun _ => 1) (fun _ => 1)) : ℝ) : EReal) := by
    intro e
    rw [mean_real R, mean_real R, r0, r1, g0, g1, ← EReal.coe_mul, ← EReal.coe_sub]
  simp only [h]

end

/-! ## The output array -/

variable (m : (ℓ : Loc nD τ sig) → Buf (Elt Ideal) ℓ)

/-- An argument's contents. -/
abbrev A0 (c : Dev nD) : FVec Ideal S16x64x8x2x64 .f32 := m ((c : Thread nD τ).loc main_arg0)
abbrev A1 (c : Dev nD) : FVec Ideal S16x64x8x2x64 .f32 := m ((c : Thread nD τ).loc main_arg1)
abbrev A2 (c : Dev nD) : FVec Ideal S16x64x8x128 .f32 := m ((c : Thread nD τ).loc main_arg2)
abbrev A3 (c : Dev nD) : FVec Ideal S4x16x2048x8x2x64 .f32 := m ((c : Thread nD τ).loc main_arg3)
abbrev A4 (c : Dev nD) : FVec Ideal S4x16x2048x8x128 .f32 := m ((c : Thread nD τ).loc main_arg4)
abbrev A5 (c : Dev nD) : FVec Ideal S16x64x1024 .f32 := m ((c : Thread nD τ).loc main_arg5)
abbrev A6 (c : Dev nD) : FVec Ideal S128 .f32 := m ((c : Thread nD τ).loc main_arg6)
abbrev A7 (c : Dev nD) : FVec Ideal S64 .f32 := m ((c : Thread nD τ).loc main_arg7)
abbrev A8 (c : Dev nD) : FVec Ideal S64 .f32 := m ((c : Thread nD τ).loc main_arg8)
abbrev A9 (c : Dev nD) : FVec Ideal S64 .f32 := m ((c : Thread nD τ).loc main_arg9)
abbrev A10 (c : Dev nD) : FVec Ideal S64 .f32 := m ((c : Thread nD τ).loc main_arg10)

/-- The arguments the softmax and the mixing weight read hold real numbers. -/
structure Finite (c : Dev nD) : Prop where
  a0 : ∀ i, ∃ r : ℝ, A0 m c i = (r : EReal)
  a1 : ∀ i, ∃ r : ℝ, A1 m c i = (r : EReal)
  a2 : ∀ i, ∃ r : ℝ, A2 m c i = (r : EReal)
  a3 : ∀ b t h g d, ∃ r : ℝ, A3 m c (ix6 0 b t h g d) = (r : EReal)
  a4 : ∀ b t h e, ∃ r : ℝ, A4 m c (ix5 0 b t h e) = (r : EReal)
  a7 : ∀ i, ∃ r : ℝ, A7 m c i = (r : EReal)
  a8 : ∀ i, ∃ r : ℝ, A8 m c i = (r : EReal)
  a9 : ∀ i, ∃ r : ℝ, A9 m c i = (r : EReal)
  a10 : ∀ i, ∃ r : ℝ, A10 m c i = (r : EReal)

variable {m}

/-- One head's arrays as the reference reads them. -/
theorem ref_reals {c : Dev nD} (fin : Finite m c) (b : Fin 16) (h : Fin 8) :
    Cert.AttnSRefIdeal.Attn.Reals (A0 m c) (A1 m c) (A2 m c) (A3 m c) (A4 m c) b h (fun t g d => (A0 m c (ix5 b t h g d)).toReal) (fun t g d => (A1 m c (ix5 b t h g d)).toReal)
      (fun t e => (A2 m c (ix4 b t h e)).toReal) (fun t g d => (A3 m c (ix6 0 b t h g d)).toReal) (fun t e => (A4 m c (ix5 0 b t h e)).toReal) where
  q _ _ _ := coe_back (fin.a0 _)
  k _ _ _ := coe_back (fin.a1 _)
  v _ _ := coe_back (fin.a2 _)
  kc _ _ _ := coe_back (fin.a3 _ _ _ _ _)
  vc _ _ := coe_back (fin.a4 _ _ _ _)

/-- The same arrays as the kernel's windows hold them at the head's grid point. -/
theorem ker_reals {c : Dev nD} (fin : Finite m c) (t : Fin cfg0.N) :
    Reals (iblk m c 0 t) (iblk m c 1 t) (iblk m c 2 t) (iblk m c 3 t) (iblk m c 4 t) (fun x g d => (A0 m c (ix5 (bat t) x (hd t) g d)).toReal) (fun x g d => (A1 m c (ix5 (bat t) x (hd t) g d)).toReal)
      (fun x e => (A2 m c (ix4 (bat t) x (hd t) e)).toReal) (fun x g d => (A3 m c (ix6 0 (bat t) x (hd t) g d)).toReal) (fun x e => (A4 m c (ix5 0 (bat t) x (hd t) e)).toReal) where
  q y x := by
    refine (b0 m c t y x).trans ((congrFun (v23 m c) _).trans ((zcat_q (A0 m c) (A1 m c) (A2 m c) (A5 m c) (bat t) (hd t) y x).trans ?_))
    obtain ⟨r, hr⟩ := fin.a0 (ix5 (bat t) y (hd t) (half x) (lane x))
    rw [hr, scaled, EReal.toReal_coe]
  kc y x := (b1 m c t y x).trans ((congrFun (v24 m c) _).trans ((kcache_at (A3 m c) (bat t) (hd t) y x).trans (coe_back (fin.a3 _ _ _ _ _))))
  vc y x := (b2 m c t y x).trans ((congrFun (v25 m c) _).trans ((vcache_at (A4 m c) (bat t) (hd t) y x).trans (coe_back (fin.a4 _ _ _ _))))
  k y x := by
    refine (b3 m c t y x).trans ((congrFun (v28 m c) _).trans ((kown_at (A1 m c) (bat t) (hd t) y x).trans ?_))
    split
    · exact coe_back (fin.a1 _)
    · rfl
  v y x := by
    refine (b4 m c t y x).trans ((congrFun (v31 m c) _).trans ((vown_at (A2 m c) (bat t) (hd t) y x).trans ?_))
    split
    · exact coe_back (fin.a2 _)
    · rfl

variable (m)

/-- The mixing weight the kernel computes is the reference's. -/
theorem lam_eq (c : Dev nD) (t : Fin cfg0.N) :
    k0_pay21 (iblk m c 7 t : Vec Ideal S1x64 .f32) (iblk m c 8 t) (ix2 0 0) - Ideal.exp (k0_pay22 (F := Ideal) (iblk m c 9 t : Vec Ideal S1x64 .f32) (iblk m c 10 t) (ix1 0)) + Ideal.ofBits FTy.f32 1045220557#32
      = Cert.AttnSRefIdeal.Attn.lam (A7 m c) (A8 m c) (A9 m c) (A10 m c) ix0 := by
  have e7 : ∀ x, (iblk m c 7 t : Vec Ideal S1x64 .f32) (ix2 0 x) = A7 m c (ix1 x) := fun x => (b7 m c t x).trans ((congrFun (v33 m c) _).trans (row_at (A7 m c) x))
  have e8 : ∀ x, (iblk m c 8 t : Vec Ideal S1x64 .f32) (ix2 0 x) = A8 m c (ix1 x) := fun x => (b8 m c t x).trans ((congrFun (v34 m c) _).trans (row_at (A8 m c) x))
  have e9 : ∀ x, (iblk m c 9 t : Vec Ideal S1x64 .f32) (ix2 0 x) = A9 m c (ix1 x) := fun x => (b9 m c t x).trans ((congrFun (v35 m c) _).trans (row_at (A9 m c) x))
  have e10 : ∀ x, (iblk m c 10 t : Vec Ideal S1x64 .f32) (ix2 0 x) = A10 m c (ix1 x) := fun x => (b10 m c t x).trans ((congrFun (v36 m c) _).trans (row_at (A10 m c) x))
  rw [lamA_at, lamB_at, Cert.AttnSRefIdeal.Attn.lam_at]
  simp only [e7, e8, e9, e10]

/-- What the body leaves at a grid point is the reference at the point's rows and columns. -/
theorem point {c : Dev nD} (fin : Finite m c) (t : Fin cfg0.N) (x : Fin 64) (e : Fin 128) :
    k0_pay1 (F := Ideal) (k0_pay18 (F := Ideal) (iblk m c 5 t)) (k0_pay19 (F := Ideal) (iblk m c 6 t)) (k0_pay20 (F := Ideal) (k0_pay17 (F := Ideal) (k0_pay14 (k0_pay2 (iblk m c 0 t)) (k0_pay6 (iblk m c 0 t) (iblk m c 1 t)) (k0_pay7 (iblk m c 2 t)) (iblk m c 3 t) (iblk m c 4 t) (k0_pay3 (F := Ideal)) (k0_pay5 (F := Ideal))))
        (k0_pay16 (F := Ideal) (k0_pay13 (k0_pay2 (iblk m c 0 t)) (k0_pay6 (iblk m c 0 t) (iblk m c 1 t)) (iblk m c 3 t) (k0_pay3 (F := Ideal)) (k0_pay4 (F := Ideal))))) (k0_pay21 (F := Ideal) (iblk m c 7 t) (iblk m c 8 t)) (k0_pay22 (F := Ideal) (iblk m c 9 t) (iblk m c 10 t)) (ix2 x e)
      = REF (A0 m c) (A1 m c) (A2 m c) (A3 m c) (A4 m c) (A5 m c) (A6 m c) (A7 m c) (A8 m c) (A9 m c) (A10 m c)
          (ix2 ⟨64 * (bat t).val + x.val, by omega⟩ ⟨128 * (hd t).val + e.val, by omega⟩) := by
  obtain ⟨lr, hlr⟩ := lam_real (fun x => A7 m c (ix1 x)) (fun x => A8 m c (ix1 x)) (fun x => A9 m c (ix1 x)) (fun x => A10 m c (ix1 x)) (fun _ => fin.a7 _) (fun _ => fin.a8 _) (fun _ => fin.a9 _) (fun _ => fin.a10 _)
  have hl : Cert.AttnSRefIdeal.Attn.lam (A7 m c) (A8 m c) (A9 m c) (A10 m c) ix0 = (lr : EReal) := (Cert.AttnSRefIdeal.Attn.lam_at _ _ _ _).trans hlr
  refine (out_real (ker_reals fin t) _ _ _ _ lr ((lam_eq m c t).trans hl) x e).trans ?_
  refine Eq.trans ?_ (Cert.AttnSRefIdeal.Attn.gated_at _ (A5 m c) (A6 m c) (bat t) (hd t) x e).symm
  have h6 : (iblk m c 6 t : Vec Ideal S1x128 .f32) (ix2 0 e) = A6 m c (ix1 e) := (b6 m c t e).trans ((congrFun (v32 m c) _).trans (wide_at (A6 m c) e))
  have h5 : (iblk m c 5 t : Vec Ideal S64x128 .bf16) (ix2 x e) = A5 m c (ix3 (bat t) x ⟨128 * (hd t).val + e.val, by omega⟩) * Ideal.div 1 (1 + Ideal.exp (-A5 m c (ix3 (bat t) x ⟨128 * (hd t).val + e.val, by omega⟩))) :=
    (b5 m c t x e).trans ((congrFun (v23 m c) _).trans (zcat_g (A0 m c) (A1 m c) (A2 m c) (A5 m c) (bat t) (hd t) x e))
  rw [h6, h5]
  unfold gateR
  simp only [Cert.AttnSRefIdeal.Attn.mixed_real (ref_reals fin (bat t) (hd t)) _ lr hl]

/-- The output array after the run is the reference. -/
theorem final {c : Dev nD} (fin : Finite m c) : (dats m 0 c).arrAt 11 cfg0.N =
    REF (A0 m c) (A1 m c) (A2 m c) (A3 m c) (A4 m c) (A5 m c) (A6 m c) (A7 m c) (A8 m c) (A9 m c) (A10 m c) := by
  refine (dats m 0 c).arrAt_eq_of_covers 11 _ (by decide +kernel) fun t _ y => ?_
  blk_simp
  rw [after0_11, outsAt0, out0_A_11]; frame_out
  idx_vars y
  have e : ((View.whole main_v37).slice (win0_11.rect t)).emb (ix2 y0 y1) = ix2 (⟨64 * (bat t).val + y0.val, by omega⟩ : Fin 1024) (⟨128 * (hd t).val + y1.val, by omega⟩ : Fin 1024) := by
    blk_ext [idx t]
  exact (point m fin t y0 y1).trans (congrArg (REF (A0 m c) (A1 m c) (A2 m c) (A3 m c) (A4 m c) (A5 m c) (A6 m c) (A7 m c) (A8 m c) (A9 m c) (A10 m c)) e).symm

end Cert.AttnSIdeal.Attn

end
-- ==== Proof.FiniteS.lean ====
module

public import proofs.«01_k».proof.Pre_finite_s
public import proofs.«01_k».proof.Proof.Finite

@[expose] public section

set_option maxRecDepth 16384

noncomputable section

namespace Cert.Pre_finite_s

open Idealize.ShloMosaic Idealize.ShloMosaic.Tactic
open Cert.Pre_finite (lift both)

/-- The precondition's side conditions. -/
instance facts : Cert.Pre_finite_s.Facts where
  bcast_S_S16x64x8x2x64 := by decide
  reducesTo_S16x64x8x2x64_S_d0_1_2_3_4 := by decide
  h_S_ := by decide
  slices_S4x16x2048x8x2x64_S1x16x2048x8x2x64_0_0_0_0_0_0 := by decide
  shapeCasts_S1x16x2048x8x2x64_S16x2048x8x2x64 := by decide
  slices_S4x16x2048x8x128_S1x16x2048x8x128_0_0_0_0_0 := by decide
  shapeCasts_S1x16x2048x8x128_S16x2048x8x128 := by decide
  bcast_S_S16x64x8x128 := by decide
  reducesTo_S16x64x8x128_S_d0_1_2_3 := by decide
  bcast_S_S16x2048x8x2x64 := by decide
  reducesTo_S16x2048x8x2x64_S_d0_1_2_3_4 := by decide
  bcast_S_S16x2048x8x128 := by decide
  reducesTo_S16x2048x8x128_S_d0_1_2_3 := by decide
  bcast_S_S64 := by decide
  reducesTo_S64_S_d0 := by decide

/-- Layer 0 of the cached keys, by index. -/
theorem kslice (a3 : FVec Ideal S4x16x2048x8x2x64 .f32) (b : Fin 16) (t : Fin 2048) (h : Fin 8) (g : Fin 2) (d : Fin 64) :
    shapeCast S16x2048x8x2x64 (extractStridedSlice S1x16x2048x8x2x64 ![0, 0, 0, 0, 0, 0] a3 facts.slices_S4x16x2048x8x2x64_S1x16x2048x8x2x64_0_0_0_0_0_0) facts.shapeCasts_S1x16x2048x8x2x64_S16x2048x8x2x64 (ix5 b t h g d) = a3 (ix6 0 b t h g d) := by
  pointwise

/-- Layer 0 of the cached values, by index. -/
theorem vslice (a4 : FVec Ideal S4x16x2048x8x128 .f32) (b : Fin 16) (t : Fin 2048) (h : Fin 8) (e : Fin 128) :
    shapeCast S16x2048x8x128 (extractStridedSlice S1x16x2048x8x128 ![0, 0, 0, 0, 0] a4 facts.slices_S4x16x2048x8x128_S1x16x2048x8x128_0_0_0_0_0) facts.shapeCasts_S1x16x2048x8x128_S16x2048x8x128 (ix4 b t h e) = a4 (ix5 0 b t h e) := by
  pointwise

/-- Under the precondition the entries of every array the softmax and the mixing weight read are real numbers. -/
theorem finite_of (a0 a1 : FVec Ideal S16x64x8x2x64 .f32) (a2 : FVec Ideal S16x64x8x128 .f32) (a3 : FVec Ideal S4x16x2048x8x2x64 .f32) (a4 : FVec Ideal S4x16x2048x8x128 .f32)
    (a5 : FVec Ideal S16x64x1024 .f32) (a6 : FVec Ideal S128 .f32) (a7 a8 a9 a10 : FVec Ideal S64 .f32) (h : fn (F := Ideal) a0 a1 a2 a3 a4 a5 a6 a7 a8 a9 a10 = fun _ => 1#1) :
    ((∀ i, ∃ r : ℝ, a0 i = (r : EReal)) ∧ (∀ i, ∃ r : ℝ, a1 i = (r : EReal)) ∧ (∀ i, ∃ r : ℝ, a2 i = (r : EReal)) ∧ (∀ b t h g d, ∃ r : ℝ, a3 (ix6 0 b t h g d) = (r : EReal)) ∧ (∀ b t h e, ∃ r : ℝ, a4 (ix5 0 b t h e) = (r : EReal)))
    ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) := by
  have h0 := congrFun h ix0
  obtain ⟨h0, e10⟩ := both _ _ h0
  obtain ⟨h0, e9⟩ := both _ _ h0
  obtain ⟨h0, e8⟩ := both _ _ h0
  obtain ⟨h0, e7⟩ := both _ _ h0
  obtain ⟨h0, e4⟩ := both _ _ h0
  obtain ⟨h0, e3⟩ := both _ _ h0
  obtain ⟨h0, e2⟩ := both _ _ h0
  obtain ⟨e0, e1⟩ := both _ _ h0
  refine ⟨⟨lift a0 _ _ _ e0, lift a1 _ _ _ e1, lift a2 _ _ _ e2, fun b t h g d => ?_, fun b t h e => ?_⟩, lift a7 _ _ _ e7, lift a8 _ _ _ e8, lift a9 _ _ _ e9, lift a10 _ _ _ e10⟩
  · obtain ⟨r, hr⟩ := lift _ _ _ _ e3 (ix5 b t h g d)
    exact ⟨r, (kslice a3 b t h g d).symm.trans hr⟩
  · obtain ⟨r, hr⟩ := lift _ _ _ _ e4 (ix4 b t h e)
    exact ⟨r, (vslice a4 b t h e).symm.trans hr⟩

end Cert.Pre_finite_s

end
-- ==== Proof.RglruValue.lean ====
module

public import proofs.«01_k».proof.Proof.RglruFrame
public import proofs.«01_k».proof.Proof.HostRead
public import Idealize.ShloMosaic.Lib.Pipeline.ReadBack
public import Idealize.ShloMosaic.Lib.Pipeline.ValueKit

@[expose] public section

set_option maxRecDepth 16384

noncomputable section

namespace Cert.RglruIdeal.Rec

open Cert.RglruIdeal Cert.RglruIdeal.Gen
open Idealize.ShloMosaic Idealize.ShloMosaic.TcCoe Idealize.ShloMosaic.Tactic Idealize.SL.Sem

variable (m : (ℓ : Loc nD τ sig) → Buf (Elt Ideal) ℓ)

/-! ## The packed array and the windows' blocks -/

/-- The packed array: the gate's input beside the activated gate. -/
def zcat (a0 a1 : FVec Ideal S16x64x1024 .f32) : FVec Ideal S1024x2048 .bf16 :=
  concatenate S1024x2048 1 [⟨S1024x1024, truncf .bf16 (shapeCast S1024x1024 a0 shapeCasts_S16x64x1024_S1024x1024) bitsLt_bf16_f32⟩,
    ⟨S1024x1024, truncf .bf16 (mulf (shapeCast S1024x1024 a1 shapeCasts_S16x64x1024_S1024x1024)
      (addf (mulf (broadcastInDim S1024x1024 ![] bcast_S_S1024x1024 (constant S_ .f32 0x3F000000#32))
        (Host.tanh (mulf (broadcastInDim S1024x1024 ![] bcast_S_S1024x1024 (constant S_ .f32 0x3F000000#32)) (shapeCast S1024x1024 a1 shapeCasts_S16x64x1024_S1024x1024))))
        (broadcastInDim S1024x1024 ![] bcast_S_S1024x1024 (constant S_ .f32 0x3F000000#32)))) bitsLt_bf16_f32⟩] concatenates_S1024x1024_S1024x1024_S1024x2048_d1

set_option maxHeartbeats 1600000 in
/-- The packed array at the region. -/
theorem v13 (c : Dev nD) : V m c main_v13 = zcat (m ((c : Thread nD τ).loc main_arg0)) (m ((c : Thread nD τ).loc main_arg1)) := by
  entry_read; rfl

/-- The first half of the packed array's columns is the gate's input. -/
theorem zcat_x (a0 a1 : FVec Ideal S16x64x1024 .f32) (b : Fin 16) (s : Fin 64) (x : Fin 1024) :
    zcat a0 a1 (ix2 ⟨64 * b.val + s.val, by omega⟩ ⟨x.val, by omega⟩) = a0 (ix3 b s x) := by
  pointwise [zcat]

/-- The windows' block indices at every grid point. -/
theorem idx : ∀ t : Fin cfg0.N, win0_0.index t = ![t.val, 0] ∧ win0_11.index t = ![t.val, 0, 0] :=
  (by decide +kernel : ∀ t : Fin grid0.N, _)

/-- The sequence of a grid point. -/
abbrev sq (t : Fin cfg0.N) : Fin 16 := ⟨t.val, t.isLt⟩

set_option maxHeartbeats 1600000 in
/-- Window 0's block is the sequence's rows of the gate's input. -/
theorem b0 (c : Dev nD) (t : Fin cfg0.N) (y : Fin 64) (x : Fin 1024) :
    iblk m c 0 t (ix2 y x) = V m c main_v13 (ix2 (⟨64 * (sq t).val + y.val, by omega⟩ : Fin 1024) (⟨x.val, by omega⟩ : Fin 2048)) := by
  blk_ext [iblk, idx t]

/-! ## The convolution state a point leaves -/

/-- A block of 128 columns. -/
def colsAt (x : Vec Ideal S64x1024 .bf16) (n : Fin 8) : Vec Ideal S64x128 .bf16 := fun y => x (ix2 (y 0) ⟨128 * n.val + (y 1).val, by have : (y 1).val < 128 := (y 1).isLt; omega⟩)

/-- A load of 128 columns. -/
theorem cols_read (off : ℕ) (n : Fin 8) (ho : off = 128 * n.val) {arg : Memref sig .tc .vmem S64x1024 .bf16} (harg : arg.IsWhole) (x : Vec Ideal S64x1024 .bf16) (inb) :
    View.readAt (Elt Ideal) arg.view (Rect.unit (s := S64x1024) ![0, off] (no_index S64x128.size) inb).toLoadRect (harg.unread x) = colsAt x n := by
  funext y
  rw [View.readAt_apply, harg.read_unread]
  subst ho
  refine congrArg x (funext fun a => ?_)
  match a with
  | ⟨0, _⟩ => exact Fin.ext (by show 0 + 1 * (y 0).val = (y 0).val; omega)
  | ⟨1, _⟩ => exact Fin.ext (by show 128 * n.val + 1 * (y 1).val = 128 * n.val + (y 1).val; omega)

/-- The last eight rows of a block. -/
def lastRows (x : Vec Ideal S64x1024 .bf16) : S8x1024.Idx → Elt Ideal .f32 := fun y => x (ix2 ⟨56 + (y 0).val, by have : (y 0).val < 8 := (y 0).isLt; omega⟩ (y 1))

/-! A column block's last eight rows, as each of the eight passes over the columns forms them. -/

theorem tail0 (v : Vec Ideal S64x128 .bf16) (r : Fin 8) (e : Fin 128) : k0_pay10 (F := Ideal) (k0_pay6 (F := Ideal) v) (ix2 r e) = v (ix2 ⟨56 + r.val, by omega⟩ e) := by
  pointwise [k0_pay10, k0_pay6]
theorem tail1 (v : Vec Ideal S64x128 .bf16) (r : Fin 8) (e : Fin 128) : k0_pay28 (F := Ideal) (k0_pay24 (F := Ideal) v) (ix2 r e) = v (ix2 ⟨56 + r.val, by omega⟩ e) := by
  pointwise [k0_pay28, k0_pay24]
theorem tail2 (v : Vec Ideal S64x128 .bf16) (r : Fin 8) (e : Fin 128) : k0_pay48 (F := Ideal) (k0_pay44 (F := Ideal) v) (ix2 r e) = v (ix2 ⟨56 + r.val, by omega⟩ e) := by
  pointwise [k0_pay48, k0_pay44]
theorem tail3 (v : Vec Ideal S64x128 .bf16) (r : Fin 8) (e : Fin 128) : k0_pay67 (F := Ideal) (k0_pay64 (F := Ideal) v) (ix2 r e) = v (ix2 ⟨56 + r.val, by omega⟩ e) := by
  pointwise [k0_pay67, k0_pay64]
theorem tail4 (v : Vec Ideal S64x128 .bf16) (r : Fin 8) (e : Fin 128) : k0_pay89 (F := Ideal) (k0_pay85 (F := Ideal) v) (ix2 r e) = v (ix2 ⟨56 + r.val, by omega⟩ e) := by
  pointwise [k0_pay89, k0_pay85]
theorem tail5 (v : Vec Ideal S64x128 .bf16) (r : Fin 8) (e : Fin 128) : k0_pay109 (F := Ideal) (k0_pay105 (F := Ideal) v) (ix2 r e) = v (ix2 ⟨56 + r.val, by omega⟩ e) := by
  pointwise [k0_pay109, k0_pay105]
theorem tail6 (v : Vec Ideal S64x128 .bf16) (r : Fin 8) (e : Fin 128) : k0_pay131 (F := Ideal) (k0_pay127 (F := Ideal) v) (ix2 r e) = v (ix2 ⟨56 + r.val, by omega⟩ e) := by
  pointwise [k0_pay131, k0_pay127]
theorem tail7 (v : Vec Ideal S64x128 .bf16) (r : Fin 8) (e : Fin 128) : k0_pay151 (F := Ideal) (k0_pay148 (F := Ideal) v) (ix2 r e) = v (ix2 ⟨56 + r.val, by omega⟩ e) := by
  pointwise [k0_pay151, k0_pay148]

/-- What a pass stores is its columns of the last eight rows. -/
theorem part (x0 : Vec Ideal S64x1024 .bf16) (n : Fin 8) (off : ℕ) (ho : off = 128 * n.val) (inb) (w : Vec Ideal S8x128 .f32)
    (h : ∀ (r : Fin 8) (e : Fin 128), w (ix2 r e) = colsAt x0 n (ix2 ⟨56 + r.val, by omega⟩ e)) (y : S8x128.Idx) :
    w y = lastRows x0 ((Rect.unit (s := S8x1024) ![0, off] S8x128.size inb).emb y) := by
  subst ho
  idx_vars y
  rw [h]
  unfold colsAt lastRows
  refine congrArg x0 (funext fun a => ?_)
  match a with
  | ⟨0, _⟩ => exact Fin.ext (by show 56 + y0.val = 56 + (0 + 1 * y0.val); omega)
  | ⟨1, _⟩ => exact Fin.ext (by show 128 * n.val + y1.val = 128 * n.val + 1 * y1.val; omega)

/-- The stores of the eight passes. -/
def passes (x0 : Vec Ideal S64x1024 .bf16) : List (View.Piece (Elt Ideal) S8x1024 .f32) :=
  [⟨Rect.unit (s := S8x1024) ![0, 896] S8x128.size inb_S8x1024_S8x128_0_896, k0_pay151 (F := Ideal) (k0_pay148 (F := Ideal) (colsAt x0 7))⟩,
   ⟨Rect.unit (s := S8x1024) ![0, 768] S8x128.size inb_S8x1024_S8x128_0_768, k0_pay131 (F := Ideal) (k0_pay127 (F := Ideal) (colsAt x0 6))⟩,
   ⟨Rect.unit (s := S8x1024) ![0, 640] S8x128.size inb_S8x1024_S8x128_0_640, k0_pay109 (F := Ideal) (k0_pay105 (F := Ideal) (colsAt x0 5))⟩,
   ⟨Rect.unit (s := S8x1024) ![0, 512] S8x128.size inb_S8x1024_S8x128_0_512, k0_pay89 (F := Ideal) (k0_pay85 (F := Ideal) (colsAt x0 4))⟩,
   ⟨Rect.unit (s := S8x1024) ![0, 384] S8x128.size inb_S8x1024_S8x128_0_384, k0_pay67 (F := Ideal) (k0_pay64 (F := Ideal) (colsAt x0 3))⟩,
   ⟨Rect.unit (s := S8x1024) ![0, 256] S8x128.size inb_S8x1024_S8x128_0_256, k0_pay48 (F := Ideal) (k0_pay44 (F := Ideal) (colsAt x0 2))⟩,
   ⟨Rect.unit (s := S8x1024) ![0, 128] S8x128.size inb_S8x1024_S8x128_0_128, k0_pay28 (F := Ideal) (k0_pay24 (F := Ideal) (colsAt x0 1))⟩,
   ⟨Rect.unit (s := S8x1024) ![0, 0] S8x128.size inb_S8x1024_S8x128_0_0, k0_pay10 (F := Ideal) (k0_pay6 (F := Ideal) (colsAt x0 0))⟩]

theorem passes_of (x0 : Vec Ideal S64x1024 .bf16) : View.PiecesOf (lastRows x0) (passes x0) :=
  ⟨part x0 7 896 rfl inb_S8x1024_S8x128_0_896 (k0_pay151 (F := Ideal) (k0_pay148 (F := Ideal) (colsAt x0 7))) (tail7 (colsAt x0 7)),
   part x0 6 768 rfl inb_S8x1024_S8x128_0_768 (k0_pay131 (F := Ideal) (k0_pay127 (F := Ideal) (colsAt x0 6))) (tail6 (colsAt x0 6)),
   part x0 5 640 rfl inb_S8x1024_S8x128_0_640 (k0_pay109 (F := Ideal) (k0_pay105 (F := Ideal) (colsAt x0 5))) (tail5 (colsAt x0 5)),
   part x0 4 512 rfl inb_S8x1024_S8x128_0_512 (k0_pay89 (F := Ideal) (k0_pay85 (F := Ideal) (colsAt x0 4))) (tail4 (colsAt x0 4)),
   part x0 3 384 rfl inb_S8x1024_S8x128_0_384 (k0_pay67 (F := Ideal) (k0_pay64 (F := Ideal) (colsAt x0 3))) (tail3 (colsAt x0 3)),
   part x0 2 256 rfl inb_S8x1024_S8x128_0_256 (k0_pay48 (F := Ideal) (k0_pay44 (F := Ideal) (colsAt x0 2))) (tail2 (colsAt x0 2)),
   part x0 1 128 rfl inb_S8x1024_S8x128_0_128 (k0_pay28 (F := Ideal) (k0_pay24 (F := Ideal) (colsAt x0 1))) (tail1 (colsAt x0 1)),
   part x0 0 0 rfl inb_S8x1024_S8x128_0_0 (k0_pay10 (F := Ideal) (k0_pay6 (F := Ideal) (colsAt x0 0))) (tail0 (colsAt x0 0)), trivial⟩

theorem passes_cover (x0 : Vec Ideal S64x1024 .bf16) (y : S8x1024.Idx) : ∃ p ∈ passes x0, y ∈ p.1.set :=
  View.cover_of_tiledL (passes x0) S8x128.size (by sl_kernel_rfl) y

set_option maxHeartbeats 1000000 in
/-- The buffer's contents at the end of a point are the last eight rows of the block. -/
theorem state_read (c : Dev nD) {arg2 : Memref sig .tc .vmem S64x1024 .bf16} (harg2 : arg2.IsWhole) {arg4 : Memref sig .tc .vmem S1x8x1024 .f32} (harg4 : arg4.IsWhole)
    {arg15 : Memref sig .tc .vmem S8x1024 .f32} (x0 : Vec Ideal S64x1024 .bf16) (x2 : Vec Ideal S1x8x1024 .f32) (y : S8x1024.Idx) :
    bodyRun.sl.v1230 (F := Ideal) c arg2 harg2 arg4 harg4 arg15 x0 x2 y = lastRows x0 y := by
  have h : bodyRun.sl.HS0_9 (F := Ideal) c arg2 harg2 arg4 harg4 x0 x2 = passes x0 ++ bodyRun.sl.HS0_1 (F := Ideal) c arg4 harg4 x2 := by
    simp only [bodyRun.sl.HS0_9, bodyRun.sl.HS0_8, bodyRun.sl.HS0_7, bodyRun.sl.HS0_6, bodyRun.sl.HS0_5, bodyRun.sl.HS0_4, bodyRun.sl.HS0_3, bodyRun.sl.HS0_2,
      bodyRun.sl.r_2, bodyRun.sl.r_11, bodyRun.sl.r_20, bodyRun.sl.r_30, bodyRun.sl.r_41, bodyRun.sl.r_54, bodyRun.sl.r_50, bodyRun.sl.r_62, bodyRun.sl.r_72,
      cols_read 0 0 rfl,
      cols_read 128 1 rfl,
      cols_read 256 2 rfl,
      cols_read 384 3 rfl,
      cols_read 512 4 rfl,
      cols_read 640 5 rfl,
      cols_read 768 6 rfl,
      cols_read 896 7 rfl]
    rfl
  unfold bodyRun.sl.v1230
  rw [View.readCov_eq_canon', h]
  have e : (Rect.unit (s := S8x1024) ![0, 0] ![8, 1024] inb_S8x1024_S8x1024_0_0).toLoadRect.idx y = y := by
    refine funext fun a => Fin.ext ?_
    match a with
    | ⟨0, _⟩ => show 0 + 1 * (y 0).val = (y 0).val; omega
    | ⟨1, _⟩ => show 0 + 1 * (y 1).val = (y 1).val; omega
  show View.canon _ ((Rect.unit (s := S8x1024) ![0, 0] ![8, 1024] inb_S8x1024_S8x1024_0_0).toLoadRect.idx y) = _
  rw [e]
  exact View.canon_append_of_piecesOf _ _ _ (passes_of x0) y (passes_cover x0 y)

/-- What a point leaves in the convolution state's block: the last eight rows of its block of the gate's input. -/
theorem out11_at (c : Dev nD) (t : Fin cfg0.N) (r : Fin 8) (e : Fin 1024) :
    out11 m c t (ix3 0 r e) = iblk m c 0 t (ix2 (⟨56 + r.val, by omega⟩ : Fin 64) e) := by
  have h : (runAt m c t).1.2.1 = [⟨Rect.unit (s := S1x8x1024) ![0, 0, 0] ![1, 8, 1024] inb_S1x8x1024_S1x8x1024_0_0_0,
      k0_pay2 (F := Ideal) (bodyRun.sl.v1230 c (ms0 t) (hs0 t) (ms2 t) (hs2 t) sc0 (iblk m c 0 t) (iblk m c 2 t))⟩] := by
    unfold runAt bodyRun
    rfl
  unfold out11
  rw [h, View.canon_cons_unit_lit _ _ _ (by decide)]
  have p : ∀ v : Vec Ideal S8x1024 .f32, k0_pay2 (F := Ideal) v (ix3 0 r e) = v (ix2 r e) := fun v => by pointwise [k0_pay2]
  rw [p, state_read]
  rfl

/-! ## The result -/

/-- The convolution state before the host's last slice: the last eight rows of each sequence. -/
def CST (a0 : FVec Ideal S16x64x1024 .f32) : FVec Ideal S16x8x1024 .f32 := fun i => a0 (ix3 (i 0) (⟨56 + (i 1).val, by have : (i 1).val < 8 := (i 1).isLt; omega⟩ : Fin 64) (i 2))

/-- The state's array after the launch. -/
theorem final11 (c : Dev nD) : (dats m 0 c).arrAt 11 cfg0.N = CST (m ((c : Thread nD τ).loc main_arg0)) := by
  refine (dats m 0 c).arrAt_eq_of_covers 11 _ (by decide +kernel) fun t _ y => ?_
  blk_simp
  rw [after11]
  idx_vars y
  have e : ((View.whole main_v22_1).slice (win0_11.rect t)).emb (ix3 0 y1 y2) = ix3 (sq t) y1 y2 := by
    blk_ext [idx t]
  obtain rfl : y0 = 0 := Subsingleton.elim _ _
  refine (out11_at m c t y1 y2).trans ?_
  rw [b0, v13, zcat_x]
  exact (congrArg (CST (m ((c : Thread nD τ).loc main_arg0))) e).symm

/-- The result's buffer after the host's last line. -/
theorem res (c : Dev nD) (a2 : FVec Ideal S16x3x1024 .f32) (hc) (hs) :
    Pipeline.afterTail₀ cfgs (dats m) 0 (V0 m) [hostOps1] c main_v23
      = (extractStridedSlice S16x3x1024 ![0, 64, 0] (concatenate (⟨3, ![16, 67, 1024]⟩ : Shape) 1 [⟨S16x3x1024, a2⟩, ⟨S16x64x1024, m ((c : Thread nD τ).loc main_arg0)⟩] hc) hs : FVec Ideal S16x3x1024 .f32) := by
  have h : Pipeline.afterTail₀ cfgs (dats m) 0 (V0 m) [hostOps1] c main_v23 = extractStridedSlice S16x3x1024 ![0, 5, 0] (CST (m ((c : Thread nD τ).loc main_arg0))) slices_S16x8x1024_S16x3x1024_0_5_0 := by
    unfold Pipeline.afterTail₀
    show StableHlo.after [_] _ _ = _
    after_results_simp
    rw [Pipeline.Dat.withArrays_arrAt (dats m 0 c) sharedIn0 (V0 m c) (A_eq m c) 11]
    exact congrArg (fun z => extractStridedSlice S16x3x1024 ![0, 5, 0] z slices_S16x8x1024_S16x3x1024_0_5_0) (final11 m c)
  rw [h]
  funext y
  idx_vars y
  pointwise [CST]
  rw [dif_neg (by omega)]
  exact congrArg (fun k : Fin 64 => m ((c : Thread nD τ).loc main_arg0) (ix3 y0 k y2)) (Fin.ext (by show 56 + (5 + y1.val) = 64 + y1.val - 3; omega))

end Cert.RglruIdeal.Rec

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeS
public import proofs.«01_k».proof.Proof.Gen.MergeS.Frame
public import proofs.«01_k».proof.Proof.Gen.MergeSIdeal
public import proofs.«01_k».proof.Proof.Gen.MergeSIdeal.Frame
public import proofs.«01_k».proof.Proof.Gen.MergeSIdeal.Value
public import proofs.«01_k».proof.Proof.Gen.MergeSRefIdeal
public import proofs.«01_k».proof.Proof.Gen.MergeSRefIdeal.Run
public import proofs.«01_k».proof.Proof.MergeSValue
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.InprojFrame
public import proofs.«01_k».proof.Proof.InprojFrameB
public import proofs.«01_k».proof.Proof.InprojValue
public import proofs.«01_k».proof.Proof.InprojRun
public import proofs.«01_k».proof.Proof.InprojRunB
public import proofs.«01_k».proof.Proof.Gen.InprojRefIdeal
public import proofs.«01_k».proof.Proof.Gen.InprojRefIdeal.Run
public import proofs.«01_k».proof.Proof.Gen.AttnS
public import proofs.«01_k».proof.Proof.Gen.AttnS.Frame
public import proofs.«01_k».proof.Proof.Gen.AttnSIdeal
public import proofs.«01_k».proof.Proof.Gen.AttnSIdeal.Frame
public import proofs.«01_k».proof.Proof.Gen.AttnSIdeal.Value
public import proofs.«01_k».proof.Proof.Gen.AttnSRefIdeal
public import proofs.«01_k».proof.Proof.Gen.AttnSRefIdeal.Run
public import proofs.«01_k».proof.Proof.AttnFrame
public import proofs.«01_k».proof.Proof.FrameAgain
public import proofs.«01_k».proof.Proof.MergeValue
public import proofs.«01_k».proof.Proof.AttnFinal
public import proofs.«01_k».proof.Proof.Finite
public import proofs.«01_k».proof.Proof.AttnSValue
public import proofs.«01_k».proof.Proof.FiniteS
public import proofs.«01_k».proof.Proof.Gen.Rglru
public import proofs.«01_k».proof.Proof.Gen.RglruIdeal
public import proofs.«01_k».proof.Proof.RglruValue
public import proofs.«01_k».proof.Proof.Gen.RglruRefIdeal
public import proofs.«01_k».proof.Proof.Gen.RglruRefIdeal.Run
public import Idealize.ShloMosaic.Adequacy
public import Idealize.ShloMosaic.Init

@[expose] public section

noncomputable section

namespace Cert.Proof

open Idealize.ShloMosaic Idealize.SL.Sem Cert.Kernel

/-- The attention on the reals, for finite operands: every run of the kernel ends with the output array holding the reference's result. -/
theorem attn_value : Cert.algebraic_KernelIdeal_ReferenceIdeal_pre_finite := by
  intro m g m' g' hpre hagree
  have fin : ∀ c, Cert.KernelIdeal.Attn.Finite m c := fun c => by
    obtain ⟨⟨h0, h1, h2, h3, h4⟩, h7, h8, h9, h10⟩ := Cert.Pre_finite.finite_of _ _ _ _ _ _ _ _ _ _ _ (hpre c)
    exact ⟨h0, h1, h2, h3, h4, h7, h8, h9, h10⟩
  refine ⟨fun c => Cert.ReferenceIdeal.Attn.REF (Cert.KernelIdeal.Attn.A0 m c) (Cert.KernelIdeal.Attn.A1 m c) (Cert.KernelIdeal.Attn.A2 m c) (Cert.KernelIdeal.Attn.A3 m c) (Cert.KernelIdeal.Attn.A4 m c)
    (Cert.KernelIdeal.Attn.A5 m c) (Cert.KernelIdeal.Attn.A6 m c) (Cert.KernelIdeal.Attn.A7 m c) (Cert.KernelIdeal.Attn.A8 m c) (Cert.KernelIdeal.Attn.A9 m c) (Cert.KernelIdeal.Attn.A10 m c), ?_, ?_⟩
  · refine (θ_run Cert.KernelIdeal.defs _ _).mono (fun r h c => ⟨((h.2 c).1 13).trans (Cert.KernelIdeal.Attn.final m (fin c)), h.1.1 c⟩)
      (θ_run_and (Cert.KernelIdeal.Attn.frame m g) (Cert.KernelIdeal.Attn.run_main m g))
  · refine (θ_run Cert.ReferenceIdeal.defs _ _).mono (fun r h c => ⟨(h c).1.trans ?_, (h c).2⟩) (Cert.ReferenceIdeal.Value.run m' g')
    obtain ⟨a0, a1, a2, a3, a4, a5, a6, a7, a8, a9, a10⟩ := hagree c
    refine (Cert.ReferenceIdeal.Attn.res_eq m' c).trans ?_
    rw [a0, a1, a2, a3, a4, a5, a6, a7, a8, a9, a10]

/-- The merge on the reals: every run of the kernel ends with the output array holding the reference's result. -/
theorem merge_value : Cert.algebraic_MergeIdeal_MergeRefIdeal := by
  pair_intro
  · run_from Cert.MergeIdeal.Gen.run_main m g
  · run_from Cert.MergeRefIdeal.Value.run m' g'
    exact (Cert.MergeIdeal.Value.final m c).symm

/-- The merge on the sample, on the reals: every run of the kernel ends with the output array holding the reference's result. -/
theorem merge_s_value : Cert.algebraic_MergeSIdeal_MergeSRefIdeal := by
  pair_intro
  · run_from Cert.MergeSIdeal.Gen.run_main m g
  · run_from Cert.MergeSRefIdeal.Value.run m' g'
    exact (Cert.MergeSIdeal.Value.final m c).symm

/-- The input projection on the sample, on the reals: every run of the kernel ends with its two output arrays holding the reference's results. -/
theorem inproj_value : Cert.algebraic_InprojIdeal_InprojRefIdeal := by
  intro m g m' g' hpre hagree
  refine ⟨fun c => Cert.InprojRefIdeal.Value.OUT0 (Cert.InprojIdeal.Inp.ZZ m c), fun c => Cert.InprojRefIdeal.Value.OUT1 (Cert.InprojIdeal.Inp.ZZ m c), ?_, ?_⟩
  · exact (θ_run Cert.InprojIdeal.defs _ _).mono (fun r h c => ⟨((h.2 c).1 5).trans (Cert.InprojIdeal.Inp.final5 m c), ((h.2 c).1 6).trans (Cert.InprojIdeal.Inp.final6 m c), h.1.1 c⟩)
      (θ_run_and (Cert.InprojIdeal.Inp.frame m g) (Cert.InprojIdeal.Inp.run_main m g))
  · refine (θ_run Cert.InprojRefIdeal.defs _ _).mono (fun r h c => ⟨(h c).1.trans ?_, (h c).2.1.trans ?_, (h c).2.2⟩) (Cert.InprojRefIdeal.Value.run m' g')
    all_goals obtain ⟨a0, a1, a2⟩ := hagree c
    · refine (Cert.InprojRefIdeal.Value.res0_eq m' c).trans ?_
      rw [a0, a1, a2]
      rfl
    · refine (Cert.InprojRefIdeal.Value.res1_eq m' c).trans ?_
      rw [a0, a1, a2]
      rfl

/-- The attention on the sample, on the reals, for finite operands: every run of the kernel ends with the output array holding the reference's result. -/
theorem attn_s_value : Cert.algebraic_AttnSIdeal_AttnSRefIdeal_pre_finite_s := by
  intro m g m' g' hpre hagree
  have fin : ∀ c, Cert.AttnSIdeal.Attn.Finite m c := fun c => by
    obtain ⟨⟨h0, h1, h2, h3, h4⟩, h7, h8, h9, h10⟩ := Cert.Pre_finite_s.finite_of _ _ _ _ _ _ _ _ _ _ _ (hpre c)
    exact ⟨h0, h1, h2, h3, h4, h7, h8, h9, h10⟩
  refine ⟨fun c => Cert.AttnSRefIdeal.Attn.REF (Cert.AttnSIdeal.Attn.A0 m c) (Cert.AttnSIdeal.Attn.A1 m c) (Cert.AttnSIdeal.Attn.A2 m c) (Cert.AttnSIdeal.Attn.A3 m c) (Cert.AttnSIdeal.Attn.A4 m c) (Cert.AttnSIdeal.Attn.A5 m c) (Cert.AttnSIdeal.Attn.A6 m c) (Cert.AttnSIdeal.Attn.A7 m c) (Cert.AttnSIdeal.Attn.A8 m c) (Cert.AttnSIdeal.Attn.A9 m c) (Cert.AttnSIdeal.Attn.A10 m c), ?_, ?_⟩
  · exact (θ_run Cert.AttnSIdeal.defs _ _).mono (fun r h c => ⟨(h c).1.trans (Cert.AttnSIdeal.Attn.final m (fin c)), (h c).2⟩)
      (Cert.AttnSIdeal.Value.run_blocks m g)
  · refine (θ_run Cert.AttnSRefIdeal.defs _ _).mono (fun r h c => ⟨(h c).1.trans ?_, (h c).2⟩) (Cert.AttnSRefIdeal.Value.run m' g')
    obtain ⟨a0, a1, a2, a3, a4, a5, a6, a7, a8, a9, a10⟩ := hagree c
    refine (Cert.AttnSRefIdeal.Attn.res_eq m' c).trans ?_
    rw [a0, a1, a2, a3, a4, a5, a6, a7, a8, a9, a10]

/-- The recurrence on the sample, on the reals: every run of the kernel ends with the convolution state of the reference. -/
theorem rglru_value : Cert.algebraic_RglruIdeal_RglruRefIdeal := by
  intro m g m' g' hpre hagree
  refine ⟨fun c => Pipeline.afterTail₀ Cert.RglruIdeal.cfgs (Cert.RglruIdeal.Rec.dats m) 0 (Cert.RglruIdeal.Gen.V0 m) [Cert.RglruIdeal.Gen.hostOps1] c Cert.RglruIdeal.main_v23, ?_, ?_⟩
  · exact (θ_run Cert.RglruIdeal.defs _ _).mono (fun r h c => ⟨(h.2 c).2 Cert.RglruIdeal.main_v23 (Pipeline.mem_restRefs_of Cert.RglruIdeal.main_v23 (by decide) (by decide)), h.1.1 c⟩)
      (θ_run_and (Cert.RglruIdeal.Rec.frame m g) (Cert.RglruIdeal.Rec.run_main m g))
  · refine (θ_run Cert.RglruRefIdeal.defs _ _).mono (fun r h c => ⟨(h c).1.trans ?_, (h c).2⟩) (Cert.RglruRefIdeal.Value.run m' g')
    obtain ⟨a0, a1, a2, a3, a4, a5, a6, a7, a8, a9, a10⟩ := hagree c
    rw [a0]
    exact (Cert.RglruIdeal.Rec.res m c _ _ _).symm

set_option maxHeartbeats 1600000 in
/-- Every stated claim. -/
theorem claim : Cert.Claim := ⟨Cert.Kernel.Gen.facts, Cert.KernelIdeal.Gen.facts, Cert.ReferenceIdeal.Gen.facts, Cert.Merge.Gen.facts, Cert.MergeIdeal.Gen.facts, Cert.MergeRefIdeal.Gen.facts, Cert.MergeS.Gen.facts, Cert.MergeSIdeal.Gen.facts, Cert.MergeSRefIdeal.Gen.facts, Cert.Inproj.Gen.facts, Cert.InprojIdeal.Gen.facts, Cert.InprojRefIdeal.Gen.facts, Cert.AttnS.Gen.facts, Cert.AttnSIdeal.Gen.facts, Cert.AttnSRefIdeal.Gen.facts, Cert.Rglru.Gen.facts, Cert.RglruIdeal.Gen.facts, Cert.RglruRefIdeal.Gen.facts, Cert.Pre_finite.facts, Cert.Pre_finite_s.facts,
  fun m ρ _ => Cert.Kernel.frameAgain m ρ, fun m ρ _ => Cert.KernelIdeal.Attn.frame m ρ, fun m ρ _ => Cert.KernelIdeal.Attn.frame m ρ,
  fun m ρ _ => (θ_run Cert.ReferenceIdeal.defs _ _).mono (fun r h => ⟨fun c => (h c).2, sem_eq_zero_of_no_sems (by decide) r.2⟩)
    (Cert.ReferenceIdeal.Value.run m ρ),
  fun m ρ _ => (θ_run Cert.ReferenceIdeal.defs _ _).mono (fun r h => ⟨fun c => (h c).2, sem_eq_zero_of_no_sems (by decide) r.2⟩)
    (Cert.ReferenceIdeal.Value.run m ρ),
  fun m ρ _ => Cert.Merge.Gen.frame m ρ, fun m ρ _ => Cert.MergeIdeal.Gen.frame m ρ,
  fun m ρ _ => (θ_run Cert.MergeRefIdeal.defs _ _).mono (fun r h => ⟨fun c => (h c).2, sem_eq_zero_of_no_sems (by decide) r.2⟩)
    (Cert.MergeRefIdeal.Value.run m ρ),
  fun m ρ _ => Cert.MergeS.Gen.frame m ρ, fun m ρ _ => Cert.MergeSIdeal.Gen.frame m ρ,
  fun m ρ _ => (θ_run Cert.MergeSRefIdeal.defs _ _).mono (fun r h => ⟨fun c => (h c).2, sem_eq_zero_of_no_sems (by decide) r.2⟩)
    (Cert.MergeSRefIdeal.Value.run m ρ),
  fun m ρ _ => Cert.Inproj.Inp.frame m ρ, fun m ρ _ => Cert.InprojIdeal.Inp.frame m ρ,
  fun m ρ _ => (θ_run Cert.InprojRefIdeal.defs _ _).mono (fun r h => ⟨fun c => (h c).2.2, sem_eq_zero_of_no_sems (by decide) r.2⟩)
    (Cert.InprojRefIdeal.Value.run m ρ),
  fun m ρ _ => Cert.AttnS.Gen.frame m ρ, fun m ρ _ => Cert.AttnSIdeal.Gen.frame m ρ, fun m ρ _ => Cert.AttnSIdeal.Gen.frame m ρ,
  fun m ρ _ => (θ_run Cert.AttnSRefIdeal.defs _ _).mono (fun r h => ⟨fun c => (h c).2, sem_eq_zero_of_no_sems (by decide) r.2⟩)
    (Cert.AttnSRefIdeal.Value.run m ρ),
  fun m ρ _ => (θ_run Cert.AttnSRefIdeal.defs _ _).mono (fun r h => ⟨fun c => (h c).2, sem_eq_zero_of_no_sems (by decide) r.2⟩)
    (Cert.AttnSRefIdeal.Value.run m ρ),
  fun m ρ _ => Cert.Rglru.frameAgain m ρ, fun m ρ _ => Cert.RglruIdeal.Rec.frame m ρ,
  fun m ρ _ => (θ_run Cert.RglruRefIdeal.defs _ _).mono (fun r h => ⟨fun c => (h c).2, sem_eq_zero_of_no_sems (by decide) r.2⟩)
    (Cert.RglruRefIdeal.Value.run m ρ),
  trivial, attn_value, trivial, merge_value, trivial, merge_s_value,
  IdealRules.named_const.statement Cert.InprojIdeal.κ "q_scale" .f32 0x3E38AA3B#32 (((8 * (Real.log 2))⁻¹ : ℝ) : EReal) rfl, inproj_value,
  trivial, attn_s_value,
  trivial, rglru_value⟩

end Cert.Proof

end
